-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite [hPre_finite : Cert.Pre_finite.Facts] (m : (ℓ : Loc Cert.MlaIdeal.nD Cert.MlaIdeal.τ Cert.MlaIdeal.sig) → Buf (Elt Ideal) ℓ) : Prop :=
  ∀ c : Dev Cert.MlaIdeal.nD,
    (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite [hPre_finite : Cert.Pre_finite.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_finite.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8)) (m ((c.tc : Thread Cert.Experts.nD Cert.Experts.τ).loc Cert.Experts.main_arg9))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8)) (m ((c.tc : Thread Cert.ExpertsIdeal.nD Cert.ExpertsIdeal.τ).loc Cert.ExpertsIdeal.main_arg9))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7)) (m ((c.tc : Thread Cert.ExpertsRefIdeal.nD Cert.ExpertsRefIdeal.τ).loc Cert.ExpertsRefIdeal.main_arg8)) (m ((c.tc : Thread Cert.ExpertsRefIdeal.nD Cert.ExpertsRefIdeal.τ).loc Cert.ExpertsRefIdeal.main_arg9))) = (fun _ => 1#1)

def Pre_ExpertsLast [hPre_routed_last : Cert.Pre_routed_last.Facts] (m : (ℓ : Loc Cert.ExpertsLast.nD Cert.ExpertsLast.τ Cert.ExpertsLast.sig) → Buf (Elt Bits) ℓ) : Prop :=
  ∀ c : Dev Cert.ExpertsLast.nD,
    (Cert.Pre_routed_last.fn (F := Bits) (m ((c.tc : Thread Cert.ExpertsLast.nD Cert.ExpertsLast.τ).loc Cert.ExpertsLast.main_arg0)) (m ((c.tc : Thread Cert.ExpertsLast.nD Cert.ExpertsLast.τ).loc Cert.ExpertsLast.main_arg1)) (m ((c.tc : Thread Cert.ExpertsLast.nD Cert.ExpertsLast.τ).loc Cert.ExpertsLast.main_arg2)) (m ((c.tc : Thread Cert.ExpertsLast.nD Cert.ExpertsLast.τ).loc Cert.ExpertsLast.main_arg3)) (m ((c.tc : Thread Cert.ExpertsLast.nD Cert.ExpertsLast.τ).loc Cert.ExpertsLast.main_arg4)) (m ((c.tc : Thread Cert.ExpertsLast.nD Cert.ExpertsLast.τ).loc Cert.ExpertsLast.main_arg5)) (m ((c.tc : Thread Cert.ExpertsLast.nD Cert.ExpertsLast.τ).loc Cert.ExpertsLast.main_arg6)) (m ((c.tc : Thread Cert.ExpertsLast.nD Cert.ExpertsLast.τ).loc Cert.ExpertsLast.main_arg7)) (m ((c.tc : Thread Cert.ExpertsLast.nD Cert.ExpertsLast.τ).loc Cert.ExpertsLast.main_arg8)) (m ((c.tc : Thread Cert.ExpertsLast.nD Cert.ExpertsLast.τ).loc Cert.ExpertsLast.main_arg9))) = (fun _ => 1#1)

def Pre_ExpertsLastIdeal [hPre_routed_last : Cert.Pre_routed_last.Facts] (m : (ℓ : Loc Cert.ExpertsLastIdeal.nD Cert.ExpertsLastIdeal.τ Cert.ExpertsLastIdeal.sig) → Buf (Elt Ideal) ℓ) : Prop :=
  ∀ c : Dev Cert.ExpertsLastIdeal.nD,
    (Cert.Pre_routed_last.fn (F := Ideal) (m ((c.tc : Thread Cert.ExpertsLastIdeal.nD Cert.ExpertsLastIdeal.τ).loc Cert.ExpertsLastIdeal.main_arg0)) (m ((c.tc : Thread Cert.ExpertsLastIdeal.nD Cert.ExpertsLastIdeal.τ).loc Cert.ExpertsLastIdeal.main_arg1)) (m ((c.tc : Thread Cert.ExpertsLastIdeal.nD Cert.ExpertsLastIdeal.τ).loc Cert.ExpertsLastIdeal.main_arg2)) (m ((c.tc : Thread Cert.ExpertsLastIdeal.nD Cert.ExpertsLastIdeal.τ).loc Cert.ExpertsLastIdeal.main_arg3)) (m ((c.tc : Thread Cert.ExpertsLastIdeal.nD Cert.ExpertsLastIdeal.τ).loc Cert.ExpertsLastIdeal.main_arg4)) (m ((c.tc : Thread Cert.ExpertsLastIdeal.nD Cert.ExpertsLastIdeal.τ).loc Cert.ExpertsLastIdeal.main_arg5)) (m ((c.tc : Thread Cert.ExpertsLastIdeal.nD Cert.ExpertsLastIdeal.τ).loc Cert.ExpertsLastIdeal.main_arg6)) (m ((c.tc : Thread Cert.ExpertsLastIdeal.nD Cert.ExpertsLastIdeal.τ).loc Cert.ExpertsLastIdeal.main_arg7)) (m ((c.tc : Thread Cert.ExpertsLastIdeal.nD Cert.ExpertsLastIdeal.τ).loc Cert.ExpertsLastIdeal.main_arg8)) (m ((c.tc : Thread Cert.ExpertsLastIdeal.nD Cert.ExpertsLastIdeal.τ).loc Cert.ExpertsLastIdeal.main_arg9))) = (fun _ => 1#1)

def Pre_ExpertsLastRefIdeal (m : (ℓ : Loc Cert.ExpertsLastRefIdeal.nD Cert.ExpertsLastRefIdeal.τ Cert.ExpertsLastRefIdeal.sig) → Buf (Elt Ideal) ℓ) : Prop :=
  True

def Pre_ExpertsLastRefIdeal_routed_last [hPre_routed_last : Cert.Pre_routed_last.Facts] (m : (ℓ : Loc Cert.ExpertsLastRefIdeal.nD Cert.ExpertsLastRefIdeal.τ Cert.ExpertsLastRefIdeal.sig) → Buf (Elt Ideal) ℓ) : Prop :=
  ∀ c : Dev Cert.ExpertsLastRefIdeal.nD,
    (Cert.Pre_routed_last.fn (F := Ideal) (m ((c.tc : Thread Cert.ExpertsLastRefIdeal.nD Cert.ExpertsLastRefIdeal.τ).loc Cert.ExpertsLastRefIdeal.main_arg0)) (m ((c.tc : Thread Cert.ExpertsLastRefIdeal.nD Cert.ExpertsLastRefIdeal.τ).loc Cert.ExpertsLastRefIdeal.main_arg1)) (m ((c.tc : Thread Cert.ExpertsLastRefIdeal.nD Cert.ExpertsLastRefIdeal.τ).loc Cert.ExpertsLastRefIdeal.main_arg2)) (m ((c.tc : Thread Cert.ExpertsLastRefIdeal.nD Cert.ExpertsLastRefIdeal.τ).loc Cert.ExpertsLastRefIdeal.main_arg3)) (m ((c.tc : Thread Cert.ExpertsLastRefIdeal.nD Cert.ExpertsLastRefIdeal.τ).loc Cert.ExpertsLastRefIdeal.main_arg4)) (m ((c.tc : Thread Cert.ExpertsLastRefIdeal.nD Cert.ExpertsLastRefIdeal.τ).loc Cert.ExpertsLastRefIdeal.main_arg5)) (m ((c.tc : Thread Cert.ExpertsLastRefIdeal.nD Cert.ExpertsLastRefIdeal.τ).loc Cert.ExpertsLastRefIdeal.main_arg6)) (m ((c.tc : Thread Cert.ExpertsLastRefIdeal.nD Cert.ExpertsLastRefIdeal.τ).loc Cert.ExpertsLastRefIdeal.main_arg7)) (m ((c.tc : Thread Cert.ExpertsLastRefIdeal.nD Cert.ExpertsLastRefIdeal.τ).loc Cert.ExpertsLastRefIdeal.main_arg8)) (m ((c.tc : Thread Cert.ExpertsLastRefIdeal.nD Cert.ExpertsLastRefIdeal.τ).loc Cert.ExpertsLastRefIdeal.main_arg9))) = (fun _ => 1#1)

def Pre_MlaFirst (m : (ℓ : Loc Cert.MlaFirst.nD Cert.MlaFirst.τ Cert.MlaFirst.sig) → Buf (Elt Bits) ℓ) : Prop :=
  True

def Pre_MlaFirstIdeal (m : (ℓ : Loc Cert.MlaFirstIdeal.nD Cert.MlaFirstIdeal.τ Cert.MlaFirstIdeal.sig) → Buf (Elt Ideal) ℓ) : Prop :=
  True

def Pre_MlaFirstIdeal_finite_first [hPre_finite_first : Cert.Pre_finite_first.Facts] (m : (ℓ : Loc Cert.MlaFirstIdeal.nD Cert.MlaFirstIdeal.τ Cert.MlaFirstIdeal.sig) → Buf (Elt Ideal) ℓ) : Prop :=
  ∀ c : Dev Cert.MlaFirstIdeal.nD,
    (Cert.Pre_finite_first.fn (F := Ideal) (m ((c.tc : Thread Cert.MlaFirstIdeal.nD Cert.MlaFirstIdeal.τ).loc Cert.MlaFirstIdeal.main_arg0)) (m ((c.tc : Thread Cert.MlaFirstIdeal.nD Cert.MlaFirstIdeal.τ).loc Cert.MlaFirstIdeal.main_arg1)) (m ((c.tc : Thread Cert.MlaFirstIdeal.nD Cert.MlaFirstIdeal.τ).loc Cert.MlaFirstIdeal.main_arg2))).1 = (fun _ => 1#1)
    ∧ (Cert.Pre_finite_first.fn (F := Ideal) (m ((c.tc : Thread Cert.MlaFirstIdeal.nD Cert.MlaFirstIdeal.τ).loc Cert.MlaFirstIdeal.main_arg0)) (m ((c.tc : Thread Cert.MlaFirstIdeal.nD Cert.MlaFirstIdeal.τ).loc Cert.MlaFirstIdeal.main_arg1)) (m ((c.tc : Thread Cert.MlaFirstIdeal.nD Cert.MlaFirstIdeal.τ).loc Cert.MlaFirstIdeal.main_arg2))).2 = (fun _ => 1#1)

def Pre_MlaFirstRefIdeal (m : (ℓ : Loc Cert.MlaFirstRefIdeal.nD Cert.MlaFirstRefIdeal.τ Cert.MlaFirstRefIdeal.sig) → Buf (Elt Ideal) ℓ) : Prop :=
  True

def Pre_MlaFirstRefIdeal_finite_first [hPre_finite_first : Cert.Pre_finite_first.Facts] (m : (ℓ : Loc Cert.MlaFirstRefIdeal.nD Cert.MlaFirstRefIdeal.τ Cert.MlaFirstRefIdeal.sig) → Buf (Elt Ideal) ℓ) : Prop :=
  ∀ c : Dev Cert.MlaFirstRefIdeal.nD,
    (Cert.Pre_finite_first.fn (F := Ideal) (m ((c.tc : Thread Cert.MlaFirstRefIdeal.nD Cert.MlaFirstRefIdeal.τ).loc Cert.MlaFirstRefIdeal.main_arg0)) (m ((c.tc : Thread Cert.MlaFirstRefIdeal.nD Cert.MlaFirstRefIdeal.τ).loc Cert.MlaFirstRefIdeal.main_arg1)) (m ((c.tc : Thread Cert.MlaFirstRefIdeal.nD Cert.MlaFirstRefIdeal.τ).loc Cert.MlaFirstRefIdeal.main_arg2))).1 = (fun _ => 1#1)
    ∧ (Cert.Pre_finite_first.fn (F := Ideal) (m ((c.tc : Thread Cert.MlaFirstRefIdeal.nD Cert.MlaFirstRefIdeal.τ).loc Cert.MlaFirstRefIdeal.main_arg0)) (m ((c.tc : Thread Cert.MlaFirstRefIdeal.nD Cert.MlaFirstRefIdeal.τ).loc Cert.MlaFirstRefIdeal.main_arg1)) (m ((c.tc : Thread Cert.MlaFirstRefIdeal.nD Cert.MlaFirstRefIdeal.τ).loc Cert.MlaFirstRefIdeal.main_arg2))).2 = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_near [hPre_finite_near : Cert.Pre_finite_near.Facts] (m : (ℓ : Loc Cert.SwaIdeal.nD Cert.SwaIdeal.τ Cert.SwaIdeal.sig) → Buf (Elt Ideal) ℓ) : Prop :=
  ∀ c : Dev Cert.SwaIdeal.nD,
    (Cert.Pre_finite_near.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).1 = (fun _ => 1#1)
    ∧ (Cert.Pre_finite_near.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.1 = (fun _ => 1#1)
    ∧ (Cert.Pre_finite_near.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_near [hPre_finite_near : Cert.Pre_finite_near.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_near.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_finite_near.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_finite_near.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2 = (fun _ => 1#1)

def Pre_SwaFirst (m : (ℓ : Loc Cert.SwaFirst.nD Cert.SwaFirst.τ Cert.SwaFirst.sig) → Buf (Elt Bits) ℓ) : Prop :=
  True

def Pre_SwaFirstIdeal (m : (ℓ : Loc Cert.SwaFirstIdeal.nD Cert.SwaFirstIdeal.τ Cert.SwaFirstIdeal.sig) → Buf (Elt Ideal) ℓ) : Prop :=
  True

def Pre_SwaFirstIdeal_finite_near_first [hPre_finite_near_first : Cert.Pre_finite_near_first.Facts] (m : (ℓ : Loc Cert.SwaFirstIdeal.nD Cert.SwaFirstIdeal.τ Cert.SwaFirstIdeal.sig) → Buf (Elt Ideal) ℓ) : Prop :=
  ∀ c : Dev Cert.SwaFirstIdeal.nD,
    (Cert.Pre_finite_near_first.fn (F := Ideal) (m ((c.tc : Thread Cert.SwaFirstIdeal.nD Cert.SwaFirstIdeal.τ).loc Cert.SwaFirstIdeal.main_arg0)) (m ((c.tc : Thread Cert.SwaFirstIdeal.nD Cert.SwaFirstIdeal.τ).loc Cert.SwaFirstIdeal.main_arg1)) (m ((c.tc : Thread Cert.SwaFirstIdeal.nD Cert.SwaFirstIdeal.τ).loc Cert.SwaFirstIdeal.main_arg2)) (m ((c.tc : Thread Cert.SwaFirstIdeal.nD Cert.SwaFirstIdeal.τ).loc Cert.SwaFirstIdeal.main_arg3))).1 = (fun _ => 1#1)
    ∧ (Cert.Pre_finite_near_first.fn (F := Ideal) (m ((c.tc : Thread Cert.SwaFirstIdeal.nD Cert.SwaFirstIdeal.τ).loc Cert.SwaFirstIdeal.main_arg0)) (m ((c.tc : Thread Cert.SwaFirstIdeal.nD Cert.SwaFirstIdeal.τ).loc Cert.SwaFirstIdeal.main_arg1)) (m ((c.tc : Thread Cert.SwaFirstIdeal.nD Cert.SwaFirstIdeal.τ).loc Cert.SwaFirstIdeal.main_arg2)) (m ((c.tc : Thread Cert.SwaFirstIdeal.nD Cert.SwaFirstIdeal.τ).loc Cert.SwaFirstIdeal.main_arg3))).2.1 = (fun _ => 1#1)
    ∧ (Cert.Pre_finite_near_first.fn (F := Ideal) (m ((c.tc : Thread Cert.SwaFirstIdeal.nD Cert.SwaFirstIdeal.τ).loc Cert.SwaFirstIdeal.main_arg0)) (m ((c.tc : Thread Cert.SwaFirstIdeal.nD Cert.SwaFirstIdeal.τ).loc Cert.SwaFirstIdeal.main_arg1)) (m ((c.tc : Thread Cert.SwaFirstIdeal.nD Cert.SwaFirstIdeal.τ).loc Cert.SwaFirstIdeal.main_arg2)) (m ((c.tc : Thread Cert.SwaFirstIdeal.nD Cert.SwaFirstIdeal.τ).loc Cert.SwaFirstIdeal.main_arg3))).2.2 = (fun _ => 1#1)

def Pre_SwaFirstRefIdeal (m : (ℓ : Loc Cert.SwaFirstRefIdeal.nD Cert.SwaFirstRefIdeal.τ Cert.SwaFirstRefIdeal.sig) → Buf (Elt Ideal) ℓ) : Prop :=
  True

def Pre_SwaFirstRefIdeal_finite_near_first [hPre_finite_near_first : Cert.Pre_finite_near_first.Facts] (m : (ℓ : Loc Cert.SwaFirstRefIdeal.nD Cert.SwaFirstRefIdeal.τ Cert.SwaFirstRefIdeal.sig) → Buf (Elt Ideal) ℓ) : Prop :=
  ∀ c : Dev Cert.SwaFirstRefIdeal.nD,
    (Cert.Pre_finite_near_first.fn (F := Ideal) (m ((c.tc : Thread Cert.SwaFirstRefIdeal.nD Cert.SwaFirstRefIdeal.τ).loc Cert.SwaFirstRefIdeal.main_arg0)) (m ((c.tc : Thread Cert.SwaFirstRefIdeal.nD Cert.SwaFirstRefIdeal.τ).loc Cert.SwaFirstRefIdeal.main_arg1)) (m ((c.tc : Thread Cert.SwaFirstRefIdeal.nD Cert.SwaFirstRefIdeal.τ).loc Cert.SwaFirstRefIdeal.main_arg2)) (m ((c.tc : Thread Cert.SwaFirstRefIdeal.nD Cert.SwaFirstRefIdeal.τ).loc Cert.SwaFirstRefIdeal.main_arg3))).1 = (fun _ => 1#1)
    ∧ (Cert.Pre_finite_near_first.fn (F := Ideal) (m ((c.tc : Thread Cert.SwaFirstRefIdeal.nD Cert.SwaFirstRefIdeal.τ).loc Cert.SwaFirstRefIdeal.main_arg0)) (m ((c.tc : Thread Cert.SwaFirstRefIdeal.nD Cert.SwaFirstRefIdeal.τ).loc Cert.SwaFirstRefIdeal.main_arg1)) (m ((c.tc : Thread Cert.SwaFirstRefIdeal.nD Cert.SwaFirstRefIdeal.τ).loc Cert.SwaFirstRefIdeal.main_arg2)) (m ((c.tc : Thread Cert.SwaFirstRefIdeal.nD Cert.SwaFirstRefIdeal.τ).loc Cert.SwaFirstRefIdeal.main_arg3))).2.1 = (fun _ => 1#1)
    ∧ (Cert.Pre_finite_near_first.fn (F := Ideal) (m ((c.tc : Thread Cert.SwaFirstRefIdeal.nD Cert.SwaFirstRefIdeal.τ).loc Cert.SwaFirstRefIdeal.main_arg0)) (m ((c.tc : Thread Cert.SwaFirstRefIdeal.nD Cert.SwaFirstRefIdeal.τ).loc Cert.SwaFirstRefIdeal.main_arg1)) (m ((c.tc : Thread Cert.SwaFirstRefIdeal.nD Cert.SwaFirstRefIdeal.τ).loc Cert.SwaFirstRefIdeal.main_arg2)) (m ((c.tc : Thread Cert.SwaFirstRefIdeal.nD Cert.SwaFirstRefIdeal.τ).loc Cert.SwaFirstRefIdeal.main_arg3))).2.2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaIdeal_finite_ada [hPre_finite_ada : Cert.Pre_finite_ada.Facts] (m : (ℓ : Loc Cert.AdaIdeal.nD Cert.AdaIdeal.τ Cert.AdaIdeal.sig) → Buf (Elt Ideal) ℓ) : Prop :=
  ∀ c : Dev Cert.AdaIdeal.nD,
    (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).1 = (fun _ => 1#1)
    ∧ (Cert.Pre_finite_ada.fn (F := Ideal) (m ((c.tc : Thread Cert.AdaIdeal.nD Cert.AdaIdeal.τ).loc Cert.AdaIdeal.main_arg0)) (m ((c.tc : Thread Cert.AdaIdeal.nD Cert.AdaIdeal.τ).loc Cert.AdaIdeal.main_arg1)) (m ((c.tc : Thread Cert.AdaIdeal.nD Cert.AdaIdeal.τ).loc Cert.AdaIdeal.main_arg2))).2 = (fun _ => 1#1)

def Pre_AdaRefIdeal (m : (ℓ : Loc Cert.AdaRefIdeal.nD Cert.AdaRefIdeal.τ Cert.AdaRefIdeal.sig) → Buf (Elt Ideal) ℓ) : Prop :=
  True

def Pre_AdaRefIdeal_finite_ada [hPre_finite_ada : Cert.Pre_finite_ada.Facts] (m : (ℓ : Loc Cert.AdaRefIdeal.nD Cert.AdaRefIdeal.τ Cert.AdaRefIdeal.sig) → Buf (Elt Ideal) ℓ) : Prop :=
  ∀ c : Dev Cert.AdaRefIdeal.nD,
    (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).1 = (fun _ => 1#1)
    ∧ (Cert.Pre_finite_ada.fn (F := Ideal) (m ((c.tc : Thread Cert.AdaRefIdeal.nD Cert.AdaRefIdeal.τ).loc Cert.AdaRefIdeal.main_arg0)) (m ((c.tc : Thread Cert.AdaRefIdeal.nD Cert.AdaRefIdeal.τ).loc Cert.AdaRefIdeal.main_arg1)) (m ((c.tc : Thread Cert.AdaRefIdeal.nD Cert.AdaRefIdeal.τ).loc Cert.AdaRefIdeal.main_arg2))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutFirst (m : (ℓ : Loc Cert.OutFirst.nD Cert.OutFirst.τ Cert.OutFirst.sig) → Buf (Elt Bits) ℓ) : Prop :=
  True

def Pre_OutFirstIdeal (m : (ℓ : Loc Cert.OutFirstIdeal.nD Cert.OutFirstIdeal.τ Cert.OutFirstIdeal.sig) → Buf (Elt Ideal) ℓ) : Prop :=
  True

def Pre_OutFirstRefIdeal (m : (ℓ : Loc Cert.OutFirstRefIdeal.nD Cert.OutFirstRefIdeal.τ Cert.OutFirstRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite [hMlaIdeal : Cert.MlaIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite [hMlaRefIdeal : Cert.MlaRefIdeal.Facts] [hPre_finite : Cert.Pre_finite.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8)
      ∧ r.2.mem ((c.tc : Thread Cert.Experts.nD Cert.Experts.τ).loc Cert.Experts.main_arg9) = m ((c.tc : Thread Cert.Experts.nD Cert.Experts.τ).loc Cert.Experts.main_arg9))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
      ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0)

def quiescent_ExpertsLast [hExpertsLast : Cert.ExpertsLast.Facts] [hPre_routed_last : Cert.Pre_routed_last.Facts] : Prop :=
  ∀ (m : (ℓ : Loc Cert.ExpertsLast.nD Cert.ExpertsLast.τ Cert.ExpertsLast.sig) → Buf (Elt Bits) ℓ) (g : Dev Cert.ExpertsLast.nD → PrngReg), Pre_ExpertsLast m →
    θ_run (Cert.ExpertsLast.defs (F := Bits)) (onTc (τ := Cert.ExpertsLast.τ) (Cert.ExpertsLast.main (F := Bits))) ⟨m, fun _ => 0, g⟩ (fun r => (∀ c : Dev Cert.ExpertsLast.nD,
      r.2.mem ((c.tc : Thread Cert.ExpertsLast.nD Cert.ExpertsLast.τ).loc Cert.ExpertsLast.main_arg0) = m ((c.tc : Thread Cert.ExpertsLast.nD Cert.ExpertsLast.τ).loc Cert.ExpertsLast.main_arg0)
      ∧ r.2.mem ((c.tc : Thread Cert.ExpertsLast.nD Cert.ExpertsLast.τ).loc Cert.ExpertsLast.main_arg1) = m ((c.tc : Thread Cert.ExpertsLast.nD Cert.ExpertsLast.τ).loc Cert.ExpertsLast.main_arg1)
      ∧ r.2.mem ((c.tc : Thread Cert.ExpertsLast.nD Cert.ExpertsLast.τ).loc Cert.ExpertsLast.main_arg2) = m ((c.tc : Thread Cert.ExpertsLast.nD Cert.ExpertsLast.τ).loc Cert.ExpertsLast.main_arg2)
      ∧ r.2.mem ((c.tc : Thread Cert.ExpertsLast.nD Cert.ExpertsLast.τ).loc Cert.ExpertsLast.main_arg3) = m ((c.tc : Thread Cert.ExpertsLast.nD Cert.ExpertsLast.τ).loc Cert.ExpertsLast.main_arg3)
      ∧ r.2.mem ((c.tc : Thread Cert.ExpertsLast.nD Cert.ExpertsLast.τ).loc Cert.ExpertsLast.main_arg4) = m ((c.tc : Thread Cert.ExpertsLast.nD Cert.ExpertsLast.τ).loc Cert.ExpertsLast.main_arg4)
      ∧ r.2.mem ((c.tc : Thread Cert.ExpertsLast.nD Cert.ExpertsLast.τ).loc Cert.ExpertsLast.main_arg5) = m ((c.tc : Thread Cert.ExpertsLast.nD Cert.ExpertsLast.τ).loc Cert.ExpertsLast.main_arg5)
      ∧ r.2.mem ((c.tc : Thread Cert.ExpertsLast.nD Cert.ExpertsLast.τ).loc Cert.ExpertsLast.main_arg6) = m ((c.tc : Thread Cert.ExpertsLast.nD Cert.ExpertsLast.τ).loc Cert.ExpertsLast.main_arg6)
      ∧ r.2.mem ((c.tc : Thread Cert.ExpertsLast.nD Cert.ExpertsLast.τ).loc Cert.ExpertsLast.main_arg7) = m ((c.tc : Thread Cert.ExpertsLast.nD Cert.ExpertsLast.τ).loc Cert.ExpertsLast.main_arg7)
      ∧ r.2.mem ((c.tc : Thread Cert.ExpertsLast.nD Cert.ExpertsLast.τ).loc Cert.ExpertsLast.main_arg8) = m ((c.tc : Thread Cert.ExpertsLast.nD Cert.ExpertsLast.τ).loc Cert.ExpertsLast.main_arg8)
      ∧ r.2.mem ((c.tc : Thread Cert.ExpertsLast.nD Cert.ExpertsLast.τ).loc Cert.ExpertsLast.main_arg9) = m ((c.tc : Thread Cert.ExpertsLast.nD Cert.ExpertsLast.τ).loc Cert.ExpertsLast.main_arg9))
      ∧ r.2.sem = fun _ => 0)

def quiescent_ExpertsLastIdeal [hExpertsLastIdeal : Cert.ExpertsLastIdeal.Facts] [hPre_routed_last : Cert.Pre_routed_last.Facts] : Prop :=
  ∀ (m : (ℓ : Loc Cert.ExpertsLastIdeal.nD Cert.ExpertsLastIdeal.τ Cert.ExpertsLastIdeal.sig) → Buf (Elt Ideal) ℓ) (g : Dev Cert.ExpertsLastIdeal.nD → PrngReg), Pre_ExpertsLastIdeal m →
    θ_run (Cert.ExpertsLastIdeal.defs (F := Ideal)) (onTc (τ := Cert.ExpertsLastIdeal.τ) (Cert.ExpertsLastIdeal.main (F := Ideal))) ⟨m, fun _ => 0, g⟩ (fun r => (∀ c : Dev Cert.ExpertsLastIdeal.nD,
      r.2.mem ((c.tc : Thread Cert.ExpertsLastIdeal.nD Cert.ExpertsLastIdeal.τ).loc Cert.ExpertsLastIdeal.main_arg0) = m ((c.tc : Thread Cert.ExpertsLastIdeal.nD Cert.ExpertsLastIdeal.τ).loc Cert.ExpertsLastIdeal.main_arg0)
      ∧ r.2.mem ((c.tc : Thread Cert.ExpertsLastIdeal.nD Cert.ExpertsLastIdeal.τ).loc Cert.ExpertsLastIdeal.main_arg1) = m ((c.tc : Thread Cert.ExpertsLastIdeal.nD Cert.ExpertsLastIdeal.τ).loc Cert.ExpertsLastIdeal.main_arg1)
      ∧ r.2.mem ((c.tc : Thread Cert.ExpertsLastIdeal.nD Cert.ExpertsLastIdeal.τ).loc Cert.ExpertsLastIdeal.main_arg2) = m ((c.tc : Thread Cert.ExpertsLastIdeal.nD Cert.ExpertsLastIdeal.τ).loc Cert.ExpertsLastIdeal.main_arg2)
      ∧ r.2.mem ((c.tc : Thread Cert.ExpertsLastIdeal.nD Cert.ExpertsLastIdeal.τ).loc Cert.ExpertsLastIdeal.main_arg3) = m ((c.tc : Thread Cert.ExpertsLastIdeal.nD Cert.ExpertsLastIdeal.τ).loc Cert.ExpertsLastIdeal.main_arg3)
      ∧ r.2.mem ((c.tc : Thread Cert.ExpertsLastIdeal.nD Cert.ExpertsLastIdeal.τ).loc Cert.ExpertsLastIdeal.main_arg4) = m ((c.tc : Thread Cert.ExpertsLastIdeal.nD Cert.ExpertsLastIdeal.τ).loc Cert.ExpertsLastIdeal.main_arg4)
      ∧ r.2.mem ((c.tc : Thread Cert.ExpertsLastIdeal.nD Cert.ExpertsLastIdeal.τ).loc Cert.ExpertsLastIdeal.main_arg5) = m ((c.tc : Thread Cert.ExpertsLastIdeal.nD Cert.ExpertsLastIdeal.τ).loc Cert.ExpertsLastIdeal.main_arg5)
      ∧ r.2.mem ((c.tc : Thread Cert.ExpertsLastIdeal.nD Cert.ExpertsLastIdeal.τ).loc Cert.ExpertsLastIdeal.main_arg6) = m ((c.tc : Thread Cert.ExpertsLastIdeal.nD Cert.ExpertsLastIdeal.τ).loc Cert.ExpertsLastIdeal.main_arg6)
      ∧ r.2.mem ((c.tc : Thread Cert.ExpertsLastIdeal.nD Cert.ExpertsLastIdeal.τ).loc Cert.ExpertsLastIdeal.main_arg7) = m ((c.tc : Thread Cert.ExpertsLastIdeal.nD Cert.ExpertsLastIdeal.τ).loc Cert.ExpertsLastIdeal.main_arg7)
      ∧ r.2.mem ((c.tc : Thread Cert.ExpertsLastIdeal.nD Cert.ExpertsLastIdeal.τ).loc Cert.ExpertsLastIdeal.main_arg8) = m ((c.tc : Thread Cert.ExpertsLastIdeal.nD Cert.ExpertsLastIdeal.τ).loc Cert.ExpertsLastIdeal.main_arg8)
      ∧ r.2.mem ((c.tc : Thread Cert.ExpertsLastIdeal.nD Cert.ExpertsLastIdeal.τ).loc Cert.ExpertsLastIdeal.main_arg9) = m ((c.tc : Thread Cert.ExpertsLastIdeal.nD Cert.ExpertsLastIdeal.τ).loc Cert.ExpertsLastIdeal.main_arg9))
      ∧ r.2.sem = fun _ => 0)

def quiescent_ExpertsLastRefIdeal [hExpertsLastRefIdeal : Cert.ExpertsLastRefIdeal.Facts] : Prop :=
  ∀ (m : (ℓ : Loc Cert.ExpertsLastRefIdeal.nD Cert.ExpertsLastRefIdeal.τ Cert.ExpertsLastRefIdeal.sig) → Buf (Elt Ideal) ℓ) (g : Dev Cert.ExpertsLastRefIdeal.nD → PrngReg), Pre_ExpertsLastRefIdeal m →
    θ_run (Cert.ExpertsLastRefIdeal.defs (F := Ideal)) (onTc (τ := Cert.ExpertsLastRefIdeal.τ) (Cert.ExpertsLastRefIdeal.main (F := Ideal))) ⟨m, fun _ => 0, g⟩ (fun r => (∀ c : Dev Cert.ExpertsLastRefIdeal.nD,
      r.2.mem ((c.tc : Thread Cert.ExpertsLastRefIdeal.nD Cert.ExpertsLastRefIdeal.τ).loc Cert.ExpertsLastRefIdeal.main_arg0) = m ((c.tc : Thread Cert.ExpertsLastRefIdeal.nD Cert.ExpertsLastRefIdeal.τ).loc Cert.ExpertsLastRefIdeal.main_arg0)
      ∧ r.2.mem ((c.tc : Thread Cert.ExpertsLastRefIdeal.nD Cert.ExpertsLastRefIdeal.τ).loc Cert.ExpertsLastRefIdeal.main_arg1) = m ((c.tc : Thread Cert.ExpertsLastRefIdeal.nD Cert.ExpertsLastRefIdeal.τ).loc Cert.ExpertsLastRefIdeal.main_arg1)
      ∧ r.2.mem ((c.tc : Thread Cert.ExpertsLastRefIdeal.nD Cert.ExpertsLastRefIdeal.τ).loc Cert.ExpertsLastRefIdeal.main_arg2) = m ((c.tc : Thread Cert.ExpertsLastRefIdeal.nD Cert.ExpertsLastRefIdeal.τ).loc Cert.ExpertsLastRefIdeal.main_arg2)
      ∧ r.2.mem ((c.tc : Thread Cert.ExpertsLastRefIdeal.nD Cert.ExpertsLastRefIdeal.τ).loc Cert.ExpertsLastRefIdeal.main_arg3) = m ((c.tc : Thread Cert.ExpertsLastRefIdeal.nD Cert.ExpertsLastRefIdeal.τ).loc Cert.ExpertsLastRefIdeal.main_arg3)
      ∧ r.2.mem ((c.tc : Thread Cert.ExpertsLastRefIdeal.nD Cert.ExpertsLastRefIdeal.τ).loc Cert.ExpertsLastRefIdeal.main_arg4) = m ((c.tc : Thread Cert.ExpertsLastRefIdeal.nD Cert.ExpertsLastRefIdeal.τ).loc Cert.ExpertsLastRefIdeal.main_arg4)
      ∧ r.2.mem ((c.tc : Thread Cert.ExpertsLastRefIdeal.nD Cert.ExpertsLastRefIdeal.τ).loc Cert.ExpertsLastRefIdeal.main_arg5) = m ((c.tc : Thread Cert.ExpertsLastRefIdeal.nD Cert.ExpertsLastRefIdeal.τ).loc Cert.ExpertsLastRefIdeal.main_arg5)
      ∧ r.2.mem ((c.tc : Thread Cert.ExpertsLastRefIdeal.nD Cert.ExpertsLastRefIdeal.τ).loc Cert.ExpertsLastRefIdeal.main_arg6) = m ((c.tc : Thread Cert.ExpertsLastRefIdeal.nD Cert.ExpertsLastRefIdeal.τ).loc Cert.ExpertsLastRefIdeal.main_arg6)
      ∧ r.2.mem ((c.tc : Thread Cert.ExpertsLastRefIdeal.nD Cert.ExpertsLastRefIdeal.τ).loc Cert.ExpertsLastRefIdeal.main_arg7) = m ((c.tc : Thread Cert.ExpertsLastRefIdeal.nD Cert.ExpertsLastRefIdeal.τ).loc Cert.ExpertsLastRefIdeal.main_arg7)
      ∧ r.2.mem ((c.tc : Thread Cert.ExpertsLastRefIdeal.nD Cert.ExpertsLastRefIdeal.τ).loc Cert.ExpertsLastRefIdeal.main_arg8) = m ((c.tc : Thread Cert.ExpertsLastRefIdeal.nD Cert.ExpertsLastRefIdeal.τ).loc Cert.ExpertsLastRefIdeal.main_arg8)
      ∧ r.2.mem ((c.tc : Thread Cert.ExpertsLastRefIdeal.nD Cert.ExpertsLastRefIdeal.τ).loc Cert.ExpertsLastRefIdeal.main_arg9) = m ((c.tc : Thread Cert.ExpertsLastRefIdeal.nD Cert.ExpertsLastRefIdeal.τ).loc Cert.ExpertsLastRefIdeal.main_arg9))
      ∧ r.2.sem = fun _ => 0)

def quiescent_ExpertsLastRefIdeal_pre_routed_last [hExpertsLastRefIdeal : Cert.ExpertsLastRefIdeal.Facts] [hPre_routed_last : Cert.Pre_routed_last.Facts] : Prop :=
  ∀ (m : (ℓ : Loc Cert.ExpertsLastRefIdeal.nD Cert.ExpertsLastRefIdeal.τ Cert.ExpertsLastRefIdeal.sig) → Buf (Elt Ideal) ℓ) (g : Dev Cert.ExpertsLastRefIdeal.nD → PrngReg), Pre_ExpertsLastRefIdeal_routed_last m →
    θ_run (Cert.ExpertsLastRefIdeal.defs (F := Ideal)) (onTc (τ := Cert.ExpertsLastRefIdeal.τ) (Cert.ExpertsLastRefIdeal.main (F := Ideal))) ⟨m, fun _ => 0, g⟩ (fun r => (∀ c : Dev Cert.ExpertsLastRefIdeal.nD,
      r.2.mem ((c.tc : Thread Cert.ExpertsLastRefIdeal.nD Cert.ExpertsLastRefIdeal.τ).loc Cert.ExpertsLastRefIdeal.main_arg0) = m ((c.tc : Thread Cert.ExpertsLastRefIdeal.nD Cert.ExpertsLastRefIdeal.τ).loc Cert.ExpertsLastRefIdeal.main_arg0)
      ∧ r.2.mem ((c.tc : Thread Cert.ExpertsLastRefIdeal.nD Cert.ExpertsLastRefIdeal.τ).loc Cert.ExpertsLastRefIdeal.main_arg1) = m ((c.tc : Thread Cert.ExpertsLastRefIdeal.nD Cert.ExpertsLastRefIdeal.τ).loc Cert.ExpertsLastRefIdeal.main_arg1)
      ∧ r.2.mem ((c.tc : Thread Cert.ExpertsLastRefIdeal.nD Cert.ExpertsLastRefIdeal.τ).loc Cert.ExpertsLastRefIdeal.main_arg2) = m ((c.tc : Thread Cert.ExpertsLastRefIdeal.nD Cert.ExpertsLastRefIdeal.τ).loc Cert.ExpertsLastRefIdeal.main_arg2)
      ∧ r.2.mem ((c.tc : Thread Cert.ExpertsLastRefIdeal.nD Cert.ExpertsLastRefIdeal.τ).loc Cert.ExpertsLastRefIdeal.main_arg3) = m ((c.tc : Thread Cert.ExpertsLastRefIdeal.nD Cert.ExpertsLastRefIdeal.τ).loc Cert.ExpertsLastRefIdeal.main_arg3)
      ∧ r.2.mem ((c.tc : Thread Cert.ExpertsLastRefIdeal.nD Cert.ExpertsLastRefIdeal.τ).loc Cert.ExpertsLastRefIdeal.main_arg4) = m ((c.tc : Thread Cert.ExpertsLastRefIdeal.nD Cert.ExpertsLastRefIdeal.τ).loc Cert.ExpertsLastRefIdeal.main_arg4)
      ∧ r.2.mem ((c.tc : Thread Cert.ExpertsLastRefIdeal.nD Cert.ExpertsLastRefIdeal.τ).loc Cert.ExpertsLastRefIdeal.main_arg5) = m ((c.tc : Thread Cert.ExpertsLastRefIdeal.nD Cert.ExpertsLastRefIdeal.τ).loc Cert.ExpertsLastRefIdeal.main_arg5)
      ∧ r.2.mem ((c.tc : Thread Cert.ExpertsLastRefIdeal.nD Cert.ExpertsLastRefIdeal.τ).loc Cert.ExpertsLastRefIdeal.main_arg6) = m ((c.tc : Thread Cert.ExpertsLastRefIdeal.nD Cert.ExpertsLastRefIdeal.τ).loc Cert.ExpertsLastRefIdeal.main_arg6)
      ∧ r.2.mem ((c.tc : Thread Cert.ExpertsLastRefIdeal.nD Cert.ExpertsLastRefIdeal.τ).loc Cert.ExpertsLastRefIdeal.main_arg7) = m ((c.tc : Thread Cert.ExpertsLastRefIdeal.nD Cert.ExpertsLastRefIdeal.τ).loc Cert.ExpertsLastRefIdeal.main_arg7)
      ∧ r.2.mem ((c.tc : Thread Cert.ExpertsLastRefIdeal.nD Cert.ExpertsLastRefIdeal.τ).loc Cert.ExpertsLastRefIdeal.main_arg8) = m ((c.tc : Thread Cert.ExpertsLastRefIdeal.nD Cert.ExpertsLastRefIdeal.τ).loc Cert.ExpertsLastRefIdeal.main_arg8)
      ∧ r.2.mem ((c.tc : Thread Cert.ExpertsLastRefIdeal.nD Cert.ExpertsLastRefIdeal.τ).loc Cert.ExpertsLastRefIdeal.main_arg9) = m ((c.tc : Thread Cert.ExpertsLastRefIdeal.nD Cert.ExpertsLastRefIdeal.τ).loc Cert.ExpertsLastRefIdeal.main_arg9))
      ∧ r.2.sem = fun _ => 0)

def quiescent_MlaFirst [hMlaFirst : Cert.MlaFirst.Facts] : Prop :=
  ∀ (m : (ℓ : Loc Cert.MlaFirst.nD Cert.MlaFirst.τ Cert.MlaFirst.sig) → Buf (Elt Bits) ℓ) (g : Dev Cert.MlaFirst.nD → PrngReg), Pre_MlaFirst m →
    θ_run (Cert.MlaFirst.defs (F := Bits)) (onTc (τ := Cert.MlaFirst.τ) (Cert.MlaFirst.main (F := Bits))) ⟨m, fun _ => 0, g⟩ (fun r => (∀ c : Dev Cert.MlaFirst.nD,
      r.2.mem ((c.tc : Thread Cert.MlaFirst.nD Cert.MlaFirst.τ).loc Cert.MlaFirst.main_arg0) = m ((c.tc : Thread Cert.MlaFirst.nD Cert.MlaFirst.τ).loc Cert.MlaFirst.main_arg0)
      ∧ r.2.mem ((c.tc : Thread Cert.MlaFirst.nD Cert.MlaFirst.τ).loc Cert.MlaFirst.main_arg1) = m ((c.tc : Thread Cert.MlaFirst.nD Cert.MlaFirst.τ).loc Cert.MlaFirst.main_arg1)
      ∧ r.2.mem ((c.tc : Thread Cert.MlaFirst.nD Cert.MlaFirst.τ).loc Cert.MlaFirst.main_arg2) = m ((c.tc : Thread Cert.MlaFirst.nD Cert.MlaFirst.τ).loc Cert.MlaFirst.main_arg2))
      ∧ r.2.sem = fun _ => 0)

def quiescent_MlaFirstIdeal [hMlaFirstIdeal : Cert.MlaFirstIdeal.Facts] : Prop :=
  ∀ (m : (ℓ : Loc Cert.MlaFirstIdeal.nD Cert.MlaFirstIdeal.τ Cert.MlaFirstIdeal.sig) → Buf (Elt Ideal) ℓ) (g : Dev Cert.MlaFirstIdeal.nD → PrngReg), Pre_MlaFirstIdeal m →
    θ_run (Cert.MlaFirstIdeal.defs (F := Ideal)) (onTc (τ := Cert.MlaFirstIdeal.τ) (Cert.MlaFirstIdeal.main (F := Ideal))) ⟨m, fun _ => 0, g⟩ (fun r => (∀ c : Dev Cert.MlaFirstIdeal.nD,
      r.2.mem ((c.tc : Thread Cert.MlaFirstIdeal.nD Cert.MlaFirstIdeal.τ).loc Cert.MlaFirstIdeal.main_arg0) = m ((c.tc : Thread Cert.MlaFirstIdeal.nD Cert.MlaFirstIdeal.τ).loc Cert.MlaFirstIdeal.main_arg0)
      ∧ r.2.mem ((c.tc : Thread Cert.MlaFirstIdeal.nD Cert.MlaFirstIdeal.τ).loc Cert.MlaFirstIdeal.main_arg1) = m ((c.tc : Thread Cert.MlaFirstIdeal.nD Cert.MlaFirstIdeal.τ).loc Cert.MlaFirstIdeal.main_arg1)
      ∧ r.2.mem ((c.tc : Thread Cert.MlaFirstIdeal.nD Cert.MlaFirstIdeal.τ).loc Cert.MlaFirstIdeal.main_arg2) = m ((c.tc : Thread Cert.MlaFirstIdeal.nD Cert.MlaFirstIdeal.τ).loc Cert.MlaFirstIdeal.main_arg2))
      ∧ r.2.sem = fun _ => 0)

def quiescent_MlaFirstIdeal_pre_finite_first [hMlaFirstIdeal : Cert.MlaFirstIdeal.Facts] [hPre_finite_first : Cert.Pre_finite_first.Facts] : Prop :=
  ∀ (m : (ℓ : Loc Cert.MlaFirstIdeal.nD Cert.MlaFirstIdeal.τ Cert.MlaFirstIdeal.sig) → Buf (Elt Ideal) ℓ) (g : Dev Cert.MlaFirstIdeal.nD → PrngReg), Pre_MlaFirstIdeal_finite_first m →
    θ_run (Cert.MlaFirstIdeal.defs (F := Ideal)) (onTc (τ := Cert.MlaFirstIdeal.τ) (Cert.MlaFirstIdeal.main (F := Ideal))) ⟨m, fun _ => 0, g⟩ (fun r => (∀ c : Dev Cert.MlaFirstIdeal.nD,
      r.2.mem ((c.tc : Thread Cert.MlaFirstIdeal.nD Cert.MlaFirstIdeal.τ).loc Cert.MlaFirstIdeal.main_arg0) = m ((c.tc : Thread Cert.MlaFirstIdeal.nD Cert.MlaFirstIdeal.τ).loc Cert.MlaFirstIdeal.main_arg0)
      ∧ r.2.mem ((c.tc : Thread Cert.MlaFirstIdeal.nD Cert.MlaFirstIdeal.τ).loc Cert.MlaFirstIdeal.main_arg1) = m ((c.tc : Thread Cert.MlaFirstIdeal.nD Cert.MlaFirstIdeal.τ).loc Cert.MlaFirstIdeal.main_arg1)
      ∧ r.2.mem ((c.tc : Thread Cert.MlaFirstIdeal.nD Cert.MlaFirstIdeal.τ).loc Cert.MlaFirstIdeal.main_arg2) = m ((c.tc : Thread Cert.MlaFirstIdeal.nD Cert.MlaFirstIdeal.τ).loc Cert.MlaFirstIdeal.main_arg2))
      ∧ r.2.sem = fun _ => 0)

def quiescent_MlaFirstRefIdeal [hMlaFirstRefIdeal : Cert.MlaFirstRefIdeal.Facts] : Prop :=
  ∀ (m : (ℓ : Loc Cert.MlaFirstRefIdeal.nD Cert.MlaFirstRefIdeal.τ Cert.MlaFirstRefIdeal.sig) → Buf (Elt Ideal) ℓ) (g : Dev Cert.MlaFirstRefIdeal.nD → PrngReg), Pre_MlaFirstRefIdeal m →
    θ_run (Cert.MlaFirstRefIdeal.defs (F := Ideal)) (onTc (τ := Cert.MlaFirstRefIdeal.τ) (Cert.MlaFirstRefIdeal.main (F := Ideal))) ⟨m, fun _ => 0, g⟩ (fun r => (∀ c : Dev Cert.MlaFirstRefIdeal.nD,
      r.2.mem ((c.tc : Thread Cert.MlaFirstRefIdeal.nD Cert.MlaFirstRefIdeal.τ).loc Cert.MlaFirstRefIdeal.main_arg0) = m ((c.tc : Thread Cert.MlaFirstRefIdeal.nD Cert.MlaFirstRefIdeal.τ).loc Cert.MlaFirstRefIdeal.main_arg0)
      ∧ r.2.mem ((c.tc : Thread Cert.MlaFirstRefIdeal.nD Cert.MlaFirstRefIdeal.τ).loc Cert.MlaFirstRefIdeal.main_arg1) = m ((c.tc : Thread Cert.MlaFirstRefIdeal.nD Cert.MlaFirstRefIdeal.τ).loc Cert.MlaFirstRefIdeal.main_arg1)
      ∧ r.2.mem ((c.tc : Thread Cert.MlaFirstRefIdeal.nD Cert.MlaFirstRefIdeal.τ).loc Cert.MlaFirstRefIdeal.main_arg2) = m ((c.tc : Thread Cert.MlaFirstRefIdeal.nD Cert.MlaFirstRefIdeal.τ).loc Cert.MlaFirstRefIdeal.main_arg2))
      ∧ r.2.sem = fun _ => 0)

def quiescent_MlaFirstRefIdeal_pre_finite_first [hMlaFirstRefIdeal : Cert.MlaFirstRefIdeal.Facts] [hPre_finite_first : Cert.Pre_finite_first.Facts] : Prop :=
  ∀ (m : (ℓ : Loc Cert.MlaFirstRefIdeal.nD Cert.MlaFirstRefIdeal.τ Cert.MlaFirstRefIdeal.sig) → Buf (Elt Ideal) ℓ) (g : Dev Cert.MlaFirstRefIdeal.nD → PrngReg), Pre_MlaFirstRefIdeal_finite_first m →
    θ_run (Cert.MlaFirstRefIdeal.defs (F := Ideal)) (onTc (τ := Cert.MlaFirstRefIdeal.τ) (Cert.MlaFirstRefIdeal.main (F := Ideal))) ⟨m, fun _ => 0, g⟩ (fun r => (∀ c : Dev Cert.MlaFirstRefIdeal.nD,
      r.2.mem ((c.tc : Thread Cert.MlaFirstRefIdeal.nD Cert.MlaFirstRefIdeal.τ).loc Cert.MlaFirstRefIdeal.main_arg0) = m ((c.tc : Thread Cert.MlaFirstRefIdeal.nD Cert.MlaFirstRefIdeal.τ).loc Cert.MlaFirstRefIdeal.main_arg0)
      ∧ r.2.mem ((c.tc : Thread Cert.MlaFirstRefIdeal.nD Cert.MlaFirstRefIdeal.τ).loc Cert.MlaFirstRefIdeal.main_arg1) = m ((c.tc : Thread Cert.MlaFirstRefIdeal.nD Cert.MlaFirstRefIdeal.τ).loc Cert.MlaFirstRefIdeal.main_arg1)
      ∧ r.2.mem ((c.tc : Thread Cert.MlaFirstRefIdeal.nD Cert.MlaFirstRefIdeal.τ).loc Cert.MlaFirstRefIdeal.main_arg2) = m ((c.tc : Thread Cert.MlaFirstRefIdeal.nD Cert.MlaFirstRefIdeal.τ).loc Cert.MlaFirstRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9)
      ∧ r.2.mem ((c.tc : Thread Cert.Prep.nD Cert.Prep.τ).loc Cert.Prep.main_arg10) = m ((c.tc : Thread Cert.Prep.nD Cert.Prep.τ).loc Cert.Prep.main_arg10)
      ∧ r.2.mem ((c.tc : Thread Cert.Prep.nD Cert.Prep.τ).loc Cert.Prep.main_arg11) = m ((c.tc : Thread Cert.Prep.nD Cert.Prep.τ).loc Cert.Prep.main_arg11)
      ∧ r.2.mem ((c.tc : Thread Cert.Prep.nD Cert.Prep.τ).loc Cert.Prep.main_arg12) = m ((c.tc : Thread Cert.Prep.nD Cert.Prep.τ).loc Cert.Prep.main_arg12)
      ∧ r.2.mem ((c.tc : Thread Cert.Prep.nD Cert.Prep.τ).loc Cert.Prep.main_arg13) = m ((c.tc : Thread Cert.Prep.nD Cert.Prep.τ).loc Cert.Prep.main_arg13)
      ∧ r.2.mem ((c.tc : Thread Cert.Prep.nD Cert.Prep.τ).loc Cert.Prep.main_arg14) = m ((c.tc : Thread Cert.Prep.nD Cert.Prep.τ).loc Cert.Prep.main_arg14))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
      ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
      ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
      ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
      ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
      ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9)
      ∧ r.2.mem ((c.tc : Thread Cert.PrepRefIdeal.nD Cert.PrepRefIdeal.τ).loc Cert.PrepRefIdeal.main_arg10) = m ((c.tc : Thread Cert.PrepRefIdeal.nD Cert.PrepRefIdeal.τ).loc Cert.PrepRefIdeal.main_arg10)
      ∧ r.2.mem ((c.tc : Thread Cert.PrepRefIdeal.nD Cert.PrepRefIdeal.τ).loc Cert.PrepRefIdeal.main_arg11) = m ((c.tc : Thread Cert.PrepRefIdeal.nD Cert.PrepRefIdeal.τ).loc Cert.PrepRefIdeal.main_arg11)
      ∧ r.2.mem ((c.tc : Thread Cert.PrepRefIdeal.nD Cert.PrepRefIdeal.τ).loc Cert.PrepRefIdeal.main_arg12) = m ((c.tc : Thread Cert.PrepRefIdeal.nD Cert.PrepRefIdeal.τ).loc Cert.PrepRefIdeal.main_arg12)
      ∧ r.2.mem ((c.tc : Thread Cert.PrepRefIdeal.nD Cert.PrepRefIdeal.τ).loc Cert.PrepRefIdeal.main_arg13) = m ((c.tc : Thread Cert.PrepRefIdeal.nD Cert.PrepRefIdeal.τ).loc Cert.PrepRefIdeal.main_arg13)
      ∧ r.2.mem ((c.tc : Thread Cert.PrepRefIdeal.nD Cert.PrepRefIdeal.τ).loc Cert.PrepRefIdeal.main_arg14) = m ((c.tc : Thread Cert.PrepRefIdeal.nD Cert.PrepRefIdeal.τ).loc Cert.PrepRefIdeal.main_arg14))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_near [hSwaIdeal : Cert.SwaIdeal.Facts] [hPre_finite_near : Cert.Pre_finite_near.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_near m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_near [hSwaRefIdeal : Cert.SwaRefIdeal.Facts] [hPre_finite_near : Cert.Pre_finite_near.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_near m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaFirst [hSwaFirst : Cert.SwaFirst.Facts] : Prop :=
  ∀ (m : (ℓ : Loc Cert.SwaFirst.nD Cert.SwaFirst.τ Cert.SwaFirst.sig) → Buf (Elt Bits) ℓ) (g : Dev Cert.SwaFirst.nD → PrngReg), Pre_SwaFirst m →
    θ_run (Cert.SwaFirst.defs (F := Bits)) (onTc (τ := Cert.SwaFirst.τ) (Cert.SwaFirst.main (F := Bits))) ⟨m, fun _ => 0, g⟩ (fun r => (∀ c : Dev Cert.SwaFirst.nD,
      r.2.mem ((c.tc : Thread Cert.SwaFirst.nD Cert.SwaFirst.τ).loc Cert.SwaFirst.main_arg0) = m ((c.tc : Thread Cert.SwaFirst.nD Cert.SwaFirst.τ).loc Cert.SwaFirst.main_arg0)
      ∧ r.2.mem ((c.tc : Thread Cert.SwaFirst.nD Cert.SwaFirst.τ).loc Cert.SwaFirst.main_arg1) = m ((c.tc : Thread Cert.SwaFirst.nD Cert.SwaFirst.τ).loc Cert.SwaFirst.main_arg1)
      ∧ r.2.mem ((c.tc : Thread Cert.SwaFirst.nD Cert.SwaFirst.τ).loc Cert.SwaFirst.main_arg2) = m ((c.tc : Thread Cert.SwaFirst.nD Cert.SwaFirst.τ).loc Cert.SwaFirst.main_arg2)
      ∧ r.2.mem ((c.tc : Thread Cert.SwaFirst.nD Cert.SwaFirst.τ).loc Cert.SwaFirst.main_arg3) = m ((c.tc : Thread Cert.SwaFirst.nD Cert.SwaFirst.τ).loc Cert.SwaFirst.main_arg3))
      ∧ r.2.sem = fun _ => 0)

def quiescent_SwaFirstIdeal [hSwaFirstIdeal : Cert.SwaFirstIdeal.Facts] : Prop :=
  ∀ (m : (ℓ : Loc Cert.SwaFirstIdeal.nD Cert.SwaFirstIdeal.τ Cert.SwaFirstIdeal.sig) → Buf (Elt Ideal) ℓ) (g : Dev Cert.SwaFirstIdeal.nD → PrngReg), Pre_SwaFirstIdeal m →
    θ_run (Cert.SwaFirstIdeal.defs (F := Ideal)) (onTc (τ := Cert.SwaFirstIdeal.τ) (Cert.SwaFirstIdeal.main (F := Ideal))) ⟨m, fun _ => 0, g⟩ (fun r => (∀ c : Dev Cert.SwaFirstIdeal.nD,
      r.2.mem ((c.tc : Thread Cert.SwaFirstIdeal.nD Cert.SwaFirstIdeal.τ).loc Cert.SwaFirstIdeal.main_arg0) = m ((c.tc : Thread Cert.SwaFirstIdeal.nD Cert.SwaFirstIdeal.τ).loc Cert.SwaFirstIdeal.main_arg0)
      ∧ r.2.mem ((c.tc : Thread Cert.SwaFirstIdeal.nD Cert.SwaFirstIdeal.τ).loc Cert.SwaFirstIdeal.main_arg1) = m ((c.tc : Thread Cert.SwaFirstIdeal.nD Cert.SwaFirstIdeal.τ).loc Cert.SwaFirstIdeal.main_arg1)
      ∧ r.2.mem ((c.tc : Thread Cert.SwaFirstIdeal.nD Cert.SwaFirstIdeal.τ).loc Cert.SwaFirstIdeal.main_arg2) = m ((c.tc : Thread Cert.SwaFirstIdeal.nD Cert.SwaFirstIdeal.τ).loc Cert.SwaFirstIdeal.main_arg2)
      ∧ r.2.mem ((c.tc : Thread Cert.SwaFirstIdeal.nD Cert.SwaFirstIdeal.τ).loc Cert.SwaFirstIdeal.main_arg3) = m ((c.tc : Thread Cert.SwaFirstIdeal.nD Cert.SwaFirstIdeal.τ).loc Cert.SwaFirstIdeal.main_arg3))
      ∧ r.2.sem = fun _ => 0)

def quiescent_SwaFirstIdeal_pre_finite_near_first [hSwaFirstIdeal : Cert.SwaFirstIdeal.Facts] [hPre_finite_near_first : Cert.Pre_finite_near_first.Facts] : Prop :=
  ∀ (m : (ℓ : Loc Cert.SwaFirstIdeal.nD Cert.SwaFirstIdeal.τ Cert.SwaFirstIdeal.sig) → Buf (Elt Ideal) ℓ) (g : Dev Cert.SwaFirstIdeal.nD → PrngReg), Pre_SwaFirstIdeal_finite_near_first m →
    θ_run (Cert.SwaFirstIdeal.defs (F := Ideal)) (onTc (τ := Cert.SwaFirstIdeal.τ) (Cert.SwaFirstIdeal.main (F := Ideal))) ⟨m, fun _ => 0, g⟩ (fun r => (∀ c : Dev Cert.SwaFirstIdeal.nD,
      r.2.mem ((c.tc : Thread Cert.SwaFirstIdeal.nD Cert.SwaFirstIdeal.τ).loc Cert.SwaFirstIdeal.main_arg0) = m ((c.tc : Thread Cert.SwaFirstIdeal.nD Cert.SwaFirstIdeal.τ).loc Cert.SwaFirstIdeal.main_arg0)
      ∧ r.2.mem ((c.tc : Thread Cert.SwaFirstIdeal.nD Cert.SwaFirstIdeal.τ).loc Cert.SwaFirstIdeal.main_arg1) = m ((c.tc : Thread Cert.SwaFirstIdeal.nD Cert.SwaFirstIdeal.τ).loc Cert.SwaFirstIdeal.main_arg1)
      ∧ r.2.mem ((c.tc : Thread Cert.SwaFirstIdeal.nD Cert.SwaFirstIdeal.τ).loc Cert.SwaFirstIdeal.main_arg2) = m ((c.tc : Thread Cert.SwaFirstIdeal.nD Cert.SwaFirstIdeal.τ).loc Cert.SwaFirstIdeal.main_arg2)
      ∧ r.2.mem ((c.tc : Thread Cert.SwaFirstIdeal.nD Cert.SwaFirstIdeal.τ).loc Cert.SwaFirstIdeal.main_arg3) = m ((c.tc : Thread Cert.SwaFirstIdeal.nD Cert.SwaFirstIdeal.τ).loc Cert.SwaFirstIdeal.main_arg3))
      ∧ r.2.sem = fun _ => 0)

def quiescent_SwaFirstRefIdeal [hSwaFirstRefIdeal : Cert.SwaFirstRefIdeal.Facts] : Prop :=
  ∀ (m : (ℓ : Loc Cert.SwaFirstRefIdeal.nD Cert.SwaFirstRefIdeal.τ Cert.SwaFirstRefIdeal.sig) → Buf (Elt Ideal) ℓ) (g : Dev Cert.SwaFirstRefIdeal.nD → PrngReg), Pre_SwaFirstRefIdeal m →
    θ_run (Cert.SwaFirstRefIdeal.defs (F := Ideal)) (onTc (τ := Cert.SwaFirstRefIdeal.τ) (Cert.SwaFirstRefIdeal.main (F := Ideal))) ⟨m, fun _ => 0, g⟩ (fun r => (∀ c : Dev Cert.SwaFirstRefIdeal.nD,
      r.2.mem ((c.tc : Thread Cert.SwaFirstRefIdeal.nD Cert.SwaFirstRefIdeal.τ).loc Cert.SwaFirstRefIdeal.main_arg0) = m ((c.tc : Thread Cert.SwaFirstRefIdeal.nD Cert.SwaFirstRefIdeal.τ).loc Cert.SwaFirstRefIdeal.main_arg0)
      ∧ r.2.mem ((c.tc : Thread Cert.SwaFirstRefIdeal.nD Cert.SwaFirstRefIdeal.τ).loc Cert.SwaFirstRefIdeal.main_arg1) = m ((c.tc : Thread Cert.SwaFirstRefIdeal.nD Cert.SwaFirstRefIdeal.τ).loc Cert.SwaFirstRefIdeal.main_arg1)
      ∧ r.2.mem ((c.tc : Thread Cert.SwaFirstRefIdeal.nD Cert.SwaFirstRefIdeal.τ).loc Cert.SwaFirstRefIdeal.main_arg2) = m ((c.tc : Thread Cert.SwaFirstRefIdeal.nD Cert.SwaFirstRefIdeal.τ).loc Cert.SwaFirstRefIdeal.main_arg2)
      ∧ r.2.mem ((c.tc : Thread Cert.SwaFirstRefIdeal.nD Cert.SwaFirstRefIdeal.τ).loc Cert.SwaFirstRefIdeal.main_arg3) = m ((c.tc : Thread Cert.SwaFirstRefIdeal.nD Cert.SwaFirstRefIdeal.τ).loc Cert.SwaFirstRefIdeal.main_arg3))
      ∧ r.2.sem = fun _ => 0)

def quiescent_SwaFirstRefIdeal_pre_finite_near_first [hSwaFirstRefIdeal : Cert.SwaFirstRefIdeal.Facts] [hPre_finite_near_first : Cert.Pre_finite_near_first.Facts] : Prop :=
  ∀ (m : (ℓ : Loc Cert.SwaFirstRefIdeal.nD Cert.SwaFirstRefIdeal.τ Cert.SwaFirstRefIdeal.sig) → Buf (Elt Ideal) ℓ) (g : Dev Cert.SwaFirstRefIdeal.nD → PrngReg), Pre_SwaFirstRefIdeal_finite_near_first m →
    θ_run (Cert.SwaFirstRefIdeal.defs (F := Ideal)) (onTc (τ := Cert.SwaFirstRefIdeal.τ) (Cert.SwaFirstRefIdeal.main (F := Ideal))) ⟨m, fun _ => 0, g⟩ (fun r => (∀ c : Dev Cert.SwaFirstRefIdeal.nD,
      r.2.mem ((c.tc : Thread Cert.SwaFirstRefIdeal.nD Cert.SwaFirstRefIdeal.τ).loc Cert.SwaFirstRefIdeal.main_arg0) = m ((c.tc : Thread Cert.SwaFirstRefIdeal.nD Cert.SwaFirstRefIdeal.τ).loc Cert.SwaFirstRefIdeal.main_arg0)
      ∧ r.2.mem ((c.tc : Thread Cert.SwaFirstRefIdeal.nD Cert.SwaFirstRefIdeal.τ).loc Cert.SwaFirstRefIdeal.main_arg1) = m ((c.tc : Thread Cert.SwaFirstRefIdeal.nD Cert.SwaFirstRefIdeal.τ).loc Cert.SwaFirstRefIdeal.main_arg1)
      ∧ r.2.mem ((c.tc : Thread Cert.SwaFirstRefIdeal.nD Cert.SwaFirstRefIdeal.τ).loc Cert.SwaFirstRefIdeal.main_arg2) = m ((c.tc : Thread Cert.SwaFirstRefIdeal.nD Cert.SwaFirstRefIdeal.τ).loc Cert.SwaFirstRefIdeal.main_arg2)
      ∧ r.2.mem ((c.tc : Thread Cert.SwaFirstRefIdeal.nD Cert.SwaFirstRefIdeal.τ).loc Cert.SwaFirstRefIdeal.main_arg3) = m ((c.tc : Thread Cert.SwaFirstRefIdeal.nD Cert.SwaFirstRefIdeal.τ).loc Cert.SwaFirstRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaIdeal_pre_finite_ada [hAdaIdeal : Cert.AdaIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal_finite_ada m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_AdaRefIdeal_pre_finite_ada [hAdaRefIdeal : Cert.AdaRefIdeal.Facts] [hPre_finite_ada : Cert.Pre_finite_ada.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal_finite_ada m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12))
      ∧ r.2.sem = fun _ => 0)

def quiescent_OutFirst [hOutFirst : Cert.OutFirst.Facts] : Prop :=
  ∀ (m : (ℓ : Loc Cert.OutFirst.nD Cert.OutFirst.τ Cert.OutFirst.sig) → Buf (Elt Bits) ℓ) (g : Dev Cert.OutFirst.nD → PrngReg), Pre_OutFirst m →
    θ_run (Cert.OutFirst.defs (F := Bits)) (onTc (τ := Cert.OutFirst.τ) (Cert.OutFirst.main (F := Bits))) ⟨m, fun _ => 0, g⟩ (fun r => (∀ c : Dev Cert.OutFirst.nD,
      r.2.mem ((c.tc : Thread Cert.OutFirst.nD Cert.OutFirst.τ).loc Cert.OutFirst.main_arg0) = m ((c.tc : Thread Cert.OutFirst.nD Cert.OutFirst.τ).loc Cert.OutFirst.main_arg0)
      ∧ r.2.mem ((c.tc : Thread Cert.OutFirst.nD Cert.OutFirst.τ).loc Cert.OutFirst.main_arg1) = m ((c.tc : Thread Cert.OutFirst.nD Cert.OutFirst.τ).loc Cert.OutFirst.main_arg1)
      ∧ r.2.mem ((c.tc : Thread Cert.OutFirst.nD Cert.OutFirst.τ).loc Cert.OutFirst.main_arg2) = m ((c.tc : Thread Cert.OutFirst.nD Cert.OutFirst.τ).loc Cert.OutFirst.main_arg2)
      ∧ r.2.mem ((c.tc : Thread Cert.OutFirst.nD Cert.OutFirst.τ).loc Cert.OutFirst.main_arg3) = m ((c.tc : Thread Cert.OutFirst.nD Cert.OutFirst.τ).loc Cert.OutFirst.main_arg3)
      ∧ r.2.mem ((c.tc : Thread Cert.OutFirst.nD Cert.OutFirst.τ).loc Cert.OutFirst.main_arg4) = m ((c.tc : Thread Cert.OutFirst.nD Cert.OutFirst.τ).loc Cert.OutFirst.main_arg4)
      ∧ r.2.mem ((c.tc : Thread Cert.OutFirst.nD Cert.OutFirst.τ).loc Cert.OutFirst.main_arg5) = m ((c.tc : Thread Cert.OutFirst.nD Cert.OutFirst.τ).loc Cert.OutFirst.main_arg5)
      ∧ r.2.mem ((c.tc : Thread Cert.OutFirst.nD Cert.OutFirst.τ).loc Cert.OutFirst.main_arg6) = m ((c.tc : Thread Cert.OutFirst.nD Cert.OutFirst.τ).loc Cert.OutFirst.main_arg6)
      ∧ r.2.mem ((c.tc : Thread Cert.OutFirst.nD Cert.OutFirst.τ).loc Cert.OutFirst.main_arg7) = m ((c.tc : Thread Cert.OutFirst.nD Cert.OutFirst.τ).loc Cert.OutFirst.main_arg7)
      ∧ r.2.mem ((c.tc : Thread Cert.OutFirst.nD Cert.OutFirst.τ).loc Cert.OutFirst.main_arg8) = m ((c.tc : Thread Cert.OutFirst.nD Cert.OutFirst.τ).loc Cert.OutFirst.main_arg8)
      ∧ r.2.mem ((c.tc : Thread Cert.OutFirst.nD Cert.OutFirst.τ).loc Cert.OutFirst.main_arg9) = m ((c.tc : Thread Cert.OutFirst.nD Cert.OutFirst.τ).loc Cert.OutFirst.main_arg9)
      ∧ r.2.mem ((c.tc : Thread Cert.OutFirst.nD Cert.OutFirst.τ).loc Cert.OutFirst.main_arg10) = m ((c.tc : Thread Cert.OutFirst.nD Cert.OutFirst.τ).loc Cert.OutFirst.main_arg10)
      ∧ r.2.mem ((c.tc : Thread Cert.OutFirst.nD Cert.OutFirst.τ).loc Cert.OutFirst.main_arg11) = m ((c.tc : Thread Cert.OutFirst.nD Cert.OutFirst.τ).loc Cert.OutFirst.main_arg11)
      ∧ r.2.mem ((c.tc : Thread Cert.OutFirst.nD Cert.OutFirst.τ).loc Cert.OutFirst.main_arg12) = m ((c.tc : Thread Cert.OutFirst.nD Cert.OutFirst.τ).loc Cert.OutFirst.main_arg12))
      ∧ r.2.sem = fun _ => 0)

def quiescent_OutFirstIdeal [hOutFirstIdeal : Cert.OutFirstIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg), Pre_OutFirstIdeal m →
    θ_run (Cert.OutFirstIdeal.defs (F := Ideal)) (onTc (τ := Cert.OutFirstIdeal.τ) (Cert.OutFirstIdeal.main (F := Ideal))) ⟨m, fun _ => 0, g⟩ (fun r => (∀ c : Dev Cert.OutFirstIdeal.nD,
      r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
      ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
      ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
      ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
      ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
      ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
      ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6)
      ∧ r.2.mem ((c.tc : Thread Cert.OutFirstIdeal.nD Cert.OutFirstIdeal.τ).loc Cert.OutFirstIdeal.main_arg7) = m ((c.tc : Thread Cert.OutFirstIdeal.nD Cert.OutFirstIdeal.τ).loc Cert.OutFirstIdeal.main_arg7)
      ∧ r.2.mem ((c.tc : Thread Cert.OutFirstIdeal.nD Cert.OutFirstIdeal.τ).loc Cert.OutFirstIdeal.main_arg8) = m ((c.tc : Thread Cert.OutFirstIdeal.nD Cert.OutFirstIdeal.τ).loc Cert.OutFirstIdeal.main_arg8)
      ∧ r.2.mem ((c.tc : Thread Cert.OutFirstIdeal.nD Cert.OutFirstIdeal.τ).loc Cert.OutFirstIdeal.main_arg9) = m ((c.tc : Thread Cert.OutFirstIdeal.nD Cert.OutFirstIdeal.τ).loc Cert.OutFirstIdeal.main_arg9)
      ∧ r.2.mem ((c.tc : Thread Cert.OutFirstIdeal.nD Cert.OutFirstIdeal.τ).loc Cert.OutFirstIdeal.main_arg10) = m ((c.tc : Thread Cert.OutFirstIdeal.nD Cert.OutFirstIdeal.τ).loc Cert.OutFirstIdeal.main_arg10)
      ∧ r.2.mem ((c.tc : Thread Cert.OutFirstIdeal.nD Cert.OutFirstIdeal.τ).loc Cert.OutFirstIdeal.main_arg11) = m ((c.tc : Thread Cert.OutFirstIdeal.nD Cert.OutFirstIdeal.τ).loc Cert.OutFirstIdeal.main_arg11)
      ∧ r.2.mem ((c.tc : Thread Cert.OutFirstIdeal.nD Cert.OutFirstIdeal.τ).loc Cert.OutFirstIdeal.main_arg12) = m ((c.tc : Thread Cert.OutFirstIdeal.nD Cert.OutFirstIdeal.τ).loc Cert.OutFirstIdeal.main_arg12))
      ∧ r.2.sem = fun _ => 0)

def quiescent_OutFirstRefIdeal [hOutFirstRefIdeal : Cert.OutFirstRefIdeal.Facts] : Prop :=
  ∀ (m : (ℓ : Loc Cert.OutFirstRefIdeal.nD Cert.OutFirstRefIdeal.τ Cert.OutFirstRefIdeal.sig) → Buf (Elt Ideal) ℓ) (g : Dev Cert.OutFirstRefIdeal.nD → PrngReg), Pre_OutFirstRefIdeal m →
    θ_run (Cert.OutFirstRefIdeal.defs (F := Ideal)) (onTc (τ := Cert.OutFirstRefIdeal.τ) (Cert.OutFirstRefIdeal.main (F := Ideal))) ⟨m, fun _ => 0, g⟩ (fun r => (∀ c : Dev Cert.OutFirstRefIdeal.nD,
      r.2.mem ((c.tc : Thread Cert.OutFirstRefIdeal.nD Cert.OutFirstRefIdeal.τ).loc Cert.OutFirstRefIdeal.main_arg0) = m ((c.tc : Thread Cert.OutFirstRefIdeal.nD Cert.OutFirstRefIdeal.τ).loc Cert.OutFirstRefIdeal.main_arg0)
      ∧ r.2.mem ((c.tc : Thread Cert.OutFirstRefIdeal.nD Cert.OutFirstRefIdeal.τ).loc Cert.OutFirstRefIdeal.main_arg1) = m ((c.tc : Thread Cert.OutFirstRefIdeal.nD Cert.OutFirstRefIdeal.τ).loc Cert.OutFirstRefIdeal.main_arg1)
      ∧ r.2.mem ((c.tc : Thread Cert.OutFirstRefIdeal.nD Cert.OutFirstRefIdeal.τ).loc Cert.OutFirstRefIdeal.main_arg2) = m ((c.tc : Thread Cert.OutFirstRefIdeal.nD Cert.OutFirstRefIdeal.τ).loc Cert.OutFirstRefIdeal.main_arg2)
      ∧ r.2.mem ((c.tc : Thread Cert.OutFirstRefIdeal.nD Cert.OutFirstRefIdeal.τ).loc Cert.OutFirstRefIdeal.main_arg3) = m ((c.tc : Thread Cert.OutFirstRefIdeal.nD Cert.OutFirstRefIdeal.τ).loc Cert.OutFirstRefIdeal.main_arg3)
      ∧ r.2.mem ((c.tc : Thread Cert.OutFirstRefIdeal.nD Cert.OutFirstRefIdeal.τ).loc Cert.OutFirstRefIdeal.main_arg4) = m ((c.tc : Thread Cert.OutFirstRefIdeal.nD Cert.OutFirstRefIdeal.τ).loc Cert.OutFirstRefIdeal.main_arg4)
      ∧ r.2.mem ((c.tc : Thread Cert.OutFirstRefIdeal.nD Cert.OutFirstRefIdeal.τ).loc Cert.OutFirstRefIdeal.main_arg5) = m ((c.tc : Thread Cert.OutFirstRefIdeal.nD Cert.OutFirstRefIdeal.τ).loc Cert.OutFirstRefIdeal.main_arg5)
      ∧ r.2.mem ((c.tc : Thread Cert.OutFirstRefIdeal.nD Cert.OutFirstRefIdeal.τ).loc Cert.OutFirstRefIdeal.main_arg6) = m ((c.tc : Thread Cert.OutFirstRefIdeal.nD Cert.OutFirstRefIdeal.τ).loc Cert.OutFirstRefIdeal.main_arg6)
      ∧ r.2.mem ((c.tc : Thread Cert.OutFirstRefIdeal.nD Cert.OutFirstRefIdeal.τ).loc Cert.OutFirstRefIdeal.main_arg7) = m ((c.tc : Thread Cert.OutFirstRefIdeal.nD Cert.OutFirstRefIdeal.τ).loc Cert.OutFirstRefIdeal.main_arg7)
      ∧ r.2.mem ((c.tc : Thread Cert.OutFirstRefIdeal.nD Cert.OutFirstRefIdeal.τ).loc Cert.OutFirstRefIdeal.main_arg8) = m ((c.tc : Thread Cert.OutFirstRefIdeal.nD Cert.OutFirstRefIdeal.τ).loc Cert.OutFirstRefIdeal.main_arg8)
      ∧ r.2.mem ((c.tc : Thread Cert.OutFirstRefIdeal.nD Cert.OutFirstRefIdeal.τ).loc Cert.OutFirstRefIdeal.main_arg9) = m ((c.tc : Thread Cert.OutFirstRefIdeal.nD Cert.OutFirstRefIdeal.τ).loc Cert.OutFirstRefIdeal.main_arg9)
      ∧ r.2.mem ((c.tc : Thread Cert.OutFirstRefIdeal.nD Cert.OutFirstRefIdeal.τ).loc Cert.OutFirstRefIdeal.main_arg10) = m ((c.tc : Thread Cert.OutFirstRefIdeal.nD Cert.OutFirstRefIdeal.τ).loc Cert.OutFirstRefIdeal.main_arg10)
      ∧ r.2.mem ((c.tc : Thread Cert.OutFirstRefIdeal.nD Cert.OutFirstRefIdeal.τ).loc Cert.OutFirstRefIdeal.main_arg11) = m ((c.tc : Thread Cert.OutFirstRefIdeal.nD Cert.OutFirstRefIdeal.τ).loc Cert.OutFirstRefIdeal.main_arg11)
      ∧ r.2.mem ((c.tc : Thread Cert.OutFirstRefIdeal.nD Cert.OutFirstRefIdeal.τ).loc Cert.OutFirstRefIdeal.main_arg12) = m ((c.tc : Thread Cert.OutFirstRefIdeal.nD Cert.OutFirstRefIdeal.τ).loc Cert.OutFirstRefIdeal.main_arg12))
      ∧ r.2.sem = fun _ => 0)

def preserves_Mla_MlaIdeal : Prop :=
  True

def algebraic_MlaIdeal_MlaRefIdeal_pre_finite [hMlaIdeal : Cert.MlaIdeal.Facts] [hMlaRefIdeal : Cert.MlaRefIdeal.Facts] [hPre_finite : Cert.Pre_finite.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v19) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)
      ∧ m' ((c.tc : Thread Cert.ExpertsRefIdeal.nD Cert.ExpertsRefIdeal.τ).loc Cert.ExpertsRefIdeal.main_arg8) = m ((c.tc : Thread Cert.ExpertsIdeal.nD Cert.ExpertsIdeal.τ).loc Cert.ExpertsIdeal.main_arg8)
      ∧ m' ((c.tc : Thread Cert.ExpertsRefIdeal.nD Cert.ExpertsRefIdeal.τ).loc Cert.ExpertsRefIdeal.main_arg9) = m ((c.tc : Thread Cert.ExpertsIdeal.nD Cert.ExpertsIdeal.τ).loc Cert.ExpertsIdeal.main_arg9)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8)
          ∧ r.2.mem ((c.tc : Thread Cert.ExpertsIdeal.nD Cert.ExpertsIdeal.τ).loc Cert.ExpertsIdeal.main_arg9) = m ((c.tc : Thread Cert.ExpertsIdeal.nD Cert.ExpertsIdeal.τ).loc Cert.ExpertsIdeal.main_arg9))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v39) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7)
          ∧ r.2.mem ((c.tc : Thread Cert.ExpertsRefIdeal.nD Cert.ExpertsRefIdeal.τ).loc Cert.ExpertsRefIdeal.main_arg8) = m' ((c.tc : Thread Cert.ExpertsRefIdeal.nD Cert.ExpertsRefIdeal.τ).loc Cert.ExpertsRefIdeal.main_arg8)
          ∧ r.2.mem ((c.tc : Thread Cert.ExpertsRefIdeal.nD Cert.ExpertsRefIdeal.τ).loc Cert.ExpertsRefIdeal.main_arg9) = m' ((c.tc : Thread Cert.ExpertsRefIdeal.nD Cert.ExpertsRefIdeal.τ).loc Cert.ExpertsRefIdeal.main_arg9))

def preserves_ExpertsLast_ExpertsLastIdeal : Prop :=
  True

def algebraic_ExpertsLastIdeal_ExpertsLastRefIdeal [hExpertsLastIdeal : Cert.ExpertsLastIdeal.Facts] [hExpertsLastRefIdeal : Cert.ExpertsLastRefIdeal.Facts] [hPre_routed_last : Cert.Pre_routed_last.Facts] : Prop :=
  ∀ (m : (ℓ : Loc Cert.ExpertsLastIdeal.nD Cert.ExpertsLastIdeal.τ Cert.ExpertsLastIdeal.sig) → Buf (Elt Ideal) ℓ) (g : Dev Cert.ExpertsLastIdeal.nD → PrngReg)
    (m' : (ℓ : Loc Cert.ExpertsLastRefIdeal.nD Cert.ExpertsLastRefIdeal.τ Cert.ExpertsLastRefIdeal.sig) → Buf (Elt Ideal) ℓ) (g' : Dev Cert.ExpertsLastRefIdeal.nD → PrngReg), Pre_ExpertsLastIdeal m →
    (∀ c : Dev Cert.ExpertsLastIdeal.nD,
      m' ((c.tc : Thread Cert.ExpertsLastRefIdeal.nD Cert.ExpertsLastRefIdeal.τ).loc Cert.ExpertsLastRefIdeal.main_arg0) = m ((c.tc : Thread Cert.ExpertsLastIdeal.nD Cert.ExpertsLastIdeal.τ).loc Cert.ExpertsLastIdeal.main_arg0)
      ∧ m' ((c.tc : Thread Cert.ExpertsLastRefIdeal.nD Cert.ExpertsLastRefIdeal.τ).loc Cert.ExpertsLastRefIdeal.main_arg1) = m ((c.tc : Thread Cert.ExpertsLastIdeal.nD Cert.ExpertsLastIdeal.τ).loc Cert.ExpertsLastIdeal.main_arg1)
      ∧ m' ((c.tc : Thread Cert.ExpertsLastRefIdeal.nD Cert.ExpertsLastRefIdeal.τ).loc Cert.ExpertsLastRefIdeal.main_arg2) = m ((c.tc : Thread Cert.ExpertsLastIdeal.nD Cert.ExpertsLastIdeal.τ).loc Cert.ExpertsLastIdeal.main_arg2)
      ∧ m' ((c.tc : Thread Cert.ExpertsLastRefIdeal.nD Cert.ExpertsLastRefIdeal.τ).loc Cert.ExpertsLastRefIdeal.main_arg3) = m ((c.tc : Thread Cert.ExpertsLastIdeal.nD Cert.ExpertsLastIdeal.τ).loc Cert.ExpertsLastIdeal.main_arg3)
      ∧ m' ((c.tc : Thread Cert.ExpertsLastRefIdeal.nD Cert.ExpertsLastRefIdeal.τ).loc Cert.ExpertsLastRefIdeal.main_arg4) = m ((c.tc : Thread Cert.ExpertsLastIdeal.nD Cert.ExpertsLastIdeal.τ).loc Cert.ExpertsLastIdeal.main_arg4)
      ∧ m' ((c.tc : Thread Cert.ExpertsLastRefIdeal.nD Cert.ExpertsLastRefIdeal.τ).loc Cert.ExpertsLastRefIdeal.main_arg5) = m ((c.tc : Thread Cert.ExpertsLastIdeal.nD Cert.ExpertsLastIdeal.τ).loc Cert.ExpertsLastIdeal.main_arg5)
      ∧ m' ((c.tc : Thread Cert.ExpertsLastRefIdeal.nD Cert.ExpertsLastRefIdeal.τ).loc Cert.ExpertsLastRefIdeal.main_arg6) = m ((c.tc : Thread Cert.ExpertsLastIdeal.nD Cert.ExpertsLastIdeal.τ).loc Cert.ExpertsLastIdeal.main_arg6)
      ∧ m' ((c.tc : Thread Cert.ExpertsLastRefIdeal.nD Cert.ExpertsLastRefIdeal.τ).loc Cert.ExpertsLastRefIdeal.main_arg7) = m ((c.tc : Thread Cert.ExpertsLastIdeal.nD Cert.ExpertsLastIdeal.τ).loc Cert.ExpertsLastIdeal.main_arg7)
      ∧ m' ((c.tc : Thread Cert.ExpertsLastRefIdeal.nD Cert.ExpertsLastRefIdeal.τ).loc Cert.ExpertsLastRefIdeal.main_arg8) = m ((c.tc : Thread Cert.ExpertsLastIdeal.nD Cert.ExpertsLastIdeal.τ).loc Cert.ExpertsLastIdeal.main_arg8)
      ∧ m' ((c.tc : Thread Cert.ExpertsLastRefIdeal.nD Cert.ExpertsLastRefIdeal.τ).loc Cert.ExpertsLastRefIdeal.main_arg9) = m ((c.tc : Thread Cert.ExpertsLastIdeal.nD Cert.ExpertsLastIdeal.τ).loc Cert.ExpertsLastIdeal.main_arg9)) →
    ∃ (v0 : (c : Dev Cert.ExpertsLastIdeal.nD) → Buf (Elt Ideal) ((c.tc : Thread Cert.ExpertsLastIdeal.nD Cert.ExpertsLastIdeal.τ).loc Cert.ExpertsLastIdeal.main_v0)),
      θ_run (Cert.ExpertsLastIdeal.defs (F := Ideal)) (onTc (τ := Cert.ExpertsLastIdeal.τ) (Cert.ExpertsLastIdeal.main (F := Ideal))) ⟨m, fun _ => 0, g⟩ (fun r => ∀ c : Dev Cert.ExpertsLastIdeal.nD,
          r.2.mem ((c.tc : Thread Cert.ExpertsLastIdeal.nD Cert.ExpertsLastIdeal.τ).loc Cert.ExpertsLastIdeal.main_v0) = v0 c
          ∧ r.2.mem ((c.tc : Thread Cert.ExpertsLastIdeal.nD Cert.ExpertsLastIdeal.τ).loc Cert.ExpertsLastIdeal.main_arg0) = m ((c.tc : Thread Cert.ExpertsLastIdeal.nD Cert.ExpertsLastIdeal.τ).loc Cert.ExpertsLastIdeal.main_arg0)
          ∧ r.2.mem ((c.tc : Thread Cert.ExpertsLastIdeal.nD Cert.ExpertsLastIdeal.τ).loc Cert.ExpertsLastIdeal.main_arg1) = m ((c.tc : Thread Cert.ExpertsLastIdeal.nD Cert.ExpertsLastIdeal.τ).loc Cert.ExpertsLastIdeal.main_arg1)
          ∧ r.2.mem ((c.tc : Thread Cert.ExpertsLastIdeal.nD Cert.ExpertsLastIdeal.τ).loc Cert.ExpertsLastIdeal.main_arg2) = m ((c.tc : Thread Cert.ExpertsLastIdeal.nD Cert.ExpertsLastIdeal.τ).loc Cert.ExpertsLastIdeal.main_arg2)
          ∧ r.2.mem ((c.tc : Thread Cert.ExpertsLastIdeal.nD Cert.ExpertsLastIdeal.τ).loc Cert.ExpertsLastIdeal.main_arg3) = m ((c.tc : Thread Cert.ExpertsLastIdeal.nD Cert.ExpertsLastIdeal.τ).loc Cert.ExpertsLastIdeal.main_arg3)
          ∧ r.2.mem ((c.tc : Thread Cert.ExpertsLastIdeal.nD Cert.ExpertsLastIdeal.τ).loc Cert.ExpertsLastIdeal.main_arg4) = m ((c.tc : Thread Cert.ExpertsLastIdeal.nD Cert.ExpertsLastIdeal.τ).loc Cert.ExpertsLastIdeal.main_arg4)
          ∧ r.2.mem ((c.tc : Thread Cert.ExpertsLastIdeal.nD Cert.ExpertsLastIdeal.τ).loc Cert.ExpertsLastIdeal.main_arg5) = m ((c.tc : Thread Cert.ExpertsLastIdeal.nD Cert.ExpertsLastIdeal.τ).loc Cert.ExpertsLastIdeal.main_arg5)
          ∧ r.2.mem ((c.tc : Thread Cert.ExpertsLastIdeal.nD Cert.ExpertsLastIdeal.τ).loc Cert.ExpertsLastIdeal.main_arg6) = m ((c.tc : Thread Cert.ExpertsLastIdeal.nD Cert.ExpertsLastIdeal.τ).loc Cert.ExpertsLastIdeal.main_arg6)
          ∧ r.2.mem ((c.tc : Thread Cert.ExpertsLastIdeal.nD Cert.ExpertsLastIdeal.τ).loc Cert.ExpertsLastIdeal.main_arg7) = m ((c.tc : Thread Cert.ExpertsLastIdeal.nD Cert.ExpertsLastIdeal.τ).loc Cert.ExpertsLastIdeal.main_arg7)
          ∧ r.2.mem ((c.tc : Thread Cert.ExpertsLastIdeal.nD Cert.ExpertsLastIdeal.τ).loc Cert.ExpertsLastIdeal.main_arg8) = m ((c.tc : Thread Cert.ExpertsLastIdeal.nD Cert.ExpertsLastIdeal.τ).loc Cert.ExpertsLastIdeal.main_arg8)
          ∧ r.2.mem ((c.tc : Thread Cert.ExpertsLastIdeal.nD Cert.ExpertsLastIdeal.τ).loc Cert.ExpertsLastIdeal.main_arg9) = m ((c.tc : Thread Cert.ExpertsLastIdeal.nD Cert.ExpertsLastIdeal.τ).loc Cert.ExpertsLastIdeal.main_arg9))
      ∧ θ_run (Cert.ExpertsLastRefIdeal.defs (F := Ideal)) (onTc (τ := Cert.ExpertsLastRefIdeal.τ) (Cert.ExpertsLastRefIdeal.main (F := Ideal))) ⟨m', fun _ => 0, g'⟩ (fun r => ∀ c : Dev Cert.ExpertsLastRefIdeal.nD,
          r.2.mem ((c.tc : Thread Cert.ExpertsLastRefIdeal.nD Cert.ExpertsLastRefIdeal.τ).loc Cert.ExpertsLastRefIdeal.main_v39) = v0 c
          ∧ r.2.mem ((c.tc : Thread Cert.ExpertsLastRefIdeal.nD Cert.ExpertsLastRefIdeal.τ).loc Cert.ExpertsLastRefIdeal.main_arg0) = m' ((c.tc : Thread Cert.ExpertsLastRefIdeal.nD Cert.ExpertsLastRefIdeal.τ).loc Cert.ExpertsLastRefIdeal.main_arg0)
          ∧ r.2.mem ((c.tc : Thread Cert.ExpertsLastRefIdeal.nD Cert.ExpertsLastRefIdeal.τ).loc Cert.ExpertsLastRefIdeal.main_arg1) = m' ((c.tc : Thread Cert.ExpertsLastRefIdeal.nD Cert.ExpertsLastRefIdeal.τ).loc Cert.ExpertsLastRefIdeal.main_arg1)
          ∧ r.2.mem ((c.tc : Thread Cert.ExpertsLastRefIdeal.nD Cert.ExpertsLastRefIdeal.τ).loc Cert.ExpertsLastRefIdeal.main_arg2) = m' ((c.tc : Thread Cert.ExpertsLastRefIdeal.nD Cert.ExpertsLastRefIdeal.τ).loc Cert.ExpertsLastRefIdeal.main_arg2)
          ∧ r.2.mem ((c.tc : Thread Cert.ExpertsLastRefIdeal.nD Cert.ExpertsLastRefIdeal.τ).loc Cert.ExpertsLastRefIdeal.main_arg3) = m' ((c.tc : Thread Cert.ExpertsLastRefIdeal.nD Cert.ExpertsLastRefIdeal.τ).loc Cert.ExpertsLastRefIdeal.main_arg3)
          ∧ r.2.mem ((c.tc : Thread Cert.ExpertsLastRefIdeal.nD Cert.ExpertsLastRefIdeal.τ).loc Cert.ExpertsLastRefIdeal.main_arg4) = m' ((c.tc : Thread Cert.ExpertsLastRefIdeal.nD Cert.ExpertsLastRefIdeal.τ).loc Cert.ExpertsLastRefIdeal.main_arg4)
          ∧ r.2.mem ((c.tc : Thread Cert.ExpertsLastRefIdeal.nD Cert.ExpertsLastRefIdeal.τ).loc Cert.ExpertsLastRefIdeal.main_arg5) = m' ((c.tc : Thread Cert.ExpertsLastRefIdeal.nD Cert.ExpertsLastRefIdeal.τ).loc Cert.ExpertsLastRefIdeal.main_arg5)
          ∧ r.2.mem ((c.tc : Thread Cert.ExpertsLastRefIdeal.nD Cert.ExpertsLastRefIdeal.τ).loc Cert.ExpertsLastRefIdeal.main_arg6) = m' ((c.tc : Thread Cert.ExpertsLastRefIdeal.nD Cert.ExpertsLastRefIdeal.τ).loc Cert.ExpertsLastRefIdeal.main_arg6)
          ∧ r.2.mem ((c.tc : Thread Cert.ExpertsLastRefIdeal.nD Cert.ExpertsLastRefIdeal.τ).loc Cert.ExpertsLastRefIdeal.main_arg7) = m' ((c.tc : Thread Cert.ExpertsLastRefIdeal.nD Cert.ExpertsLastRefIdeal.τ).loc Cert.ExpertsLastRefIdeal.main_arg7)
          ∧ r.2.mem ((c.tc : Thread Cert.ExpertsLastRefIdeal.nD Cert.ExpertsLastRefIdeal.τ).loc Cert.ExpertsLastRefIdeal.main_arg8) = m' ((c.tc : Thread Cert.ExpertsLastRefIdeal.nD Cert.ExpertsLastRefIdeal.τ).loc Cert.ExpertsLastRefIdeal.main_arg8)
          ∧ r.2.mem ((c.tc : Thread Cert.ExpertsLastRefIdeal.nD Cert.ExpertsLastRefIdeal.τ).loc Cert.ExpertsLastRefIdeal.main_arg9) = m' ((c.tc : Thread Cert.ExpertsLastRefIdeal.nD Cert.ExpertsLastRefIdeal.τ).loc Cert.ExpertsLastRefIdeal.main_arg9))

def preserves_MlaFirst_MlaFirstIdeal : Prop :=
  True

def algebraic_MlaFirstIdeal_MlaFirstRefIdeal_pre_finite_first [hMlaFirstIdeal : Cert.MlaFirstIdeal.Facts] [hMlaFirstRefIdeal : Cert.MlaFirstRefIdeal.Facts] [hPre_finite_first : Cert.Pre_finite_first.Facts] : Prop :=
  ∀ (m : (ℓ : Loc Cert.MlaFirstIdeal.nD Cert.MlaFirstIdeal.τ Cert.MlaFirstIdeal.sig) → Buf (Elt Ideal) ℓ) (g : Dev Cert.MlaFirstIdeal.nD → PrngReg)
    (m' : (ℓ : Loc Cert.MlaFirstRefIdeal.nD Cert.MlaFirstRefIdeal.τ Cert.MlaFirstRefIdeal.sig) → Buf (Elt Ideal) ℓ) (g' : Dev Cert.MlaFirstRefIdeal.nD → PrngReg), Pre_MlaFirstIdeal_finite_first m →
    (∀ c : Dev Cert.MlaFirstIdeal.nD,
      m' ((c.tc : Thread Cert.MlaFirstRefIdeal.nD Cert.MlaFirstRefIdeal.τ).loc Cert.MlaFirstRefIdeal.main_arg0) = m ((c.tc : Thread Cert.MlaFirstIdeal.nD Cert.MlaFirstIdeal.τ).loc Cert.MlaFirstIdeal.main_arg0)
      ∧ m' ((c.tc : Thread Cert.MlaFirstRefIdeal.nD Cert.MlaFirstRefIdeal.τ).loc Cert.MlaFirstRefIdeal.main_arg1) = m ((c.tc : Thread Cert.MlaFirstIdeal.nD Cert.MlaFirstIdeal.τ).loc Cert.MlaFirstIdeal.main_arg1)
      ∧ m' ((c.tc : Thread Cert.MlaFirstRefIdeal.nD Cert.MlaFirstRefIdeal.τ).loc Cert.MlaFirstRefIdeal.main_arg2) = m ((c.tc : Thread Cert.MlaFirstIdeal.nD Cert.MlaFirstIdeal.τ).loc Cert.MlaFirstIdeal.main_arg2)) →
    ∃ (v0 : (c : Dev Cert.MlaFirstIdeal.nD) → Buf (Elt Ideal) ((c.tc : Thread Cert.MlaFirstIdeal.nD Cert.MlaFirstIdeal.τ).loc Cert.MlaFirstIdeal.main_v0)),
      θ_run (Cert.MlaFirstIdeal.defs (F := Ideal)) (onTc (τ := Cert.MlaFirstIdeal.τ) (Cert.MlaFirstIdeal.main (F := Ideal))) ⟨m, fun _ => 0, g⟩ (fun r => ∀ c : Dev Cert.MlaFirstIdeal.nD,
          r.2.mem ((c.tc : Thread Cert.MlaFirstIdeal.nD Cert.MlaFirstIdeal.τ).loc Cert.MlaFirstIdeal.main_v0) = v0 c
          ∧ r.2.mem ((c.tc : Thread Cert.MlaFirstIdeal.nD Cert.MlaFirstIdeal.τ).loc Cert.MlaFirstIdeal.main_arg0) = m ((c.tc : Thread Cert.MlaFirstIdeal.nD Cert.MlaFirstIdeal.τ).loc Cert.MlaFirstIdeal.main_arg0)
          ∧ r.2.mem ((c.tc : Thread Cert.MlaFirstIdeal.nD Cert.MlaFirstIdeal.τ).loc Cert.MlaFirstIdeal.main_arg1) = m ((c.tc : Thread Cert.MlaFirstIdeal.nD Cert.MlaFirstIdeal.τ).loc Cert.MlaFirstIdeal.main_arg1)
          ∧ r.2.mem ((c.tc : Thread Cert.MlaFirstIdeal.nD Cert.MlaFirstIdeal.τ).loc Cert.MlaFirstIdeal.main_arg2) = m ((c.tc : Thread Cert.MlaFirstIdeal.nD Cert.MlaFirstIdeal.τ).loc Cert.MlaFirstIdeal.main_arg2))
      ∧ θ_run (Cert.MlaFirstRefIdeal.defs (F := Ideal)) (onTc (τ := Cert.MlaFirstRefIdeal.τ) (Cert.MlaFirstRefIdeal.main (F := Ideal))) ⟨m', fun _ => 0, g'⟩ (fun r => ∀ c : Dev Cert.MlaFirstRefIdeal.nD,
          r.2.mem ((c.tc : Thread Cert.MlaFirstRefIdeal.nD Cert.MlaFirstRefIdeal.τ).loc Cert.MlaFirstRefIdeal.main_v38) = v0 c
          ∧ r.2.mem ((c.tc : Thread Cert.MlaFirstRefIdeal.nD Cert.MlaFirstRefIdeal.τ).loc Cert.MlaFirstRefIdeal.main_arg0) = m' ((c.tc : Thread Cert.MlaFirstRefIdeal.nD Cert.MlaFirstRefIdeal.τ).loc Cert.MlaFirstRefIdeal.main_arg0)
          ∧ r.2.mem ((c.tc : Thread Cert.MlaFirstRefIdeal.nD Cert.MlaFirstRefIdeal.τ).loc Cert.MlaFirstRefIdeal.main_arg1) = m' ((c.tc : Thread Cert.MlaFirstRefIdeal.nD Cert.MlaFirstRefIdeal.τ).loc Cert.MlaFirstRefIdeal.main_arg1)
          ∧ r.2.mem ((c.tc : Thread Cert.MlaFirstRefIdeal.nD Cert.MlaFirstRefIdeal.τ).loc Cert.MlaFirstRefIdeal.main_arg2) = m' ((c.tc : Thread Cert.MlaFirstRefIdeal.nD Cert.MlaFirstRefIdeal.τ).loc Cert.MlaFirstRefIdeal.main_arg2))

def preserves_Prep_PrepIdeal : Prop :=
  IdealRules.named_const.Statement Cert.PrepIdeal.κ "inv_qk" .f32 0x3BAAAAAB#32 ((1 / 192 : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)
      ∧ m' ((c.tc : Thread Cert.PrepRefIdeal.nD Cert.PrepRefIdeal.τ).loc Cert.PrepRefIdeal.main_arg10) = m ((c.tc : Thread Cert.PrepIdeal.nD Cert.PrepIdeal.τ).loc Cert.PrepIdeal.main_arg10)
      ∧ m' ((c.tc : Thread Cert.PrepRefIdeal.nD Cert.PrepRefIdeal.τ).loc Cert.PrepRefIdeal.main_arg11) = m ((c.tc : Thread Cert.PrepIdeal.nD Cert.PrepIdeal.τ).loc Cert.PrepIdeal.main_arg11)
      ∧ m' ((c.tc : Thread Cert.PrepRefIdeal.nD Cert.PrepRefIdeal.τ).loc Cert.PrepRefIdeal.main_arg12) = m ((c.tc : Thread Cert.PrepIdeal.nD Cert.PrepIdeal.τ).loc Cert.PrepIdeal.main_arg12)
      ∧ m' ((c.tc : Thread Cert.PrepRefIdeal.nD Cert.PrepRefIdeal.τ).loc Cert.PrepRefIdeal.main_arg13) = m ((c.tc : Thread Cert.PrepIdeal.nD Cert.PrepIdeal.τ).loc Cert.PrepIdeal.main_arg13)
      ∧ m' ((c.tc : Thread Cert.PrepRefIdeal.nD Cert.PrepRefIdeal.τ).loc Cert.PrepRefIdeal.main_arg14) = m ((c.tc : Thread Cert.PrepIdeal.nD Cert.PrepIdeal.τ).loc Cert.PrepIdeal.main_arg14)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)) (v6 : (c : Dev Cert.PrepIdeal.nD) → Buf (Elt Ideal) ((c.tc : Thread Cert.PrepIdeal.nD Cert.PrepIdeal.τ).loc Cert.PrepIdeal.main_v0_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_v0_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9)
          ∧ r.2.mem ((c.tc : Thread Cert.PrepIdeal.nD Cert.PrepIdeal.τ).loc Cert.PrepIdeal.main_arg10) = m ((c.tc : Thread Cert.PrepIdeal.nD Cert.PrepIdeal.τ).loc Cert.PrepIdeal.main_arg10)
          ∧ r.2.mem ((c.tc : Thread Cert.PrepIdeal.nD Cert.PrepIdeal.τ).loc Cert.PrepIdeal.main_arg11) = m ((c.tc : Thread Cert.PrepIdeal.nD Cert.PrepIdeal.τ).loc Cert.PrepIdeal.main_arg11)
          ∧ r.2.mem ((c.tc : Thread Cert.PrepIdeal.nD Cert.PrepIdeal.τ).loc Cert.PrepIdeal.main_arg12) = m ((c.tc : Thread Cert.PrepIdeal.nD Cert.PrepIdeal.τ).loc Cert.PrepIdeal.main_arg12)
          ∧ r.2.mem ((c.tc : Thread Cert.PrepIdeal.nD Cert.PrepIdeal.τ).loc Cert.PrepIdeal.main_arg13) = m ((c.tc : Thread Cert.PrepIdeal.nD Cert.PrepIdeal.τ).loc Cert.PrepIdeal.main_arg13)
          ∧ r.2.mem ((c.tc : Thread Cert.PrepIdeal.nD Cert.PrepIdeal.τ).loc Cert.PrepIdeal.main_arg14) = m ((c.tc : Thread Cert.PrepIdeal.nD Cert.PrepIdeal.τ).loc Cert.PrepIdeal.main_arg14))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v201) = v0 c
          ∧ r.2.mem ((c.tc : Thread Cert.PrepRefIdeal.nD Cert.PrepRefIdeal.τ).loc Cert.PrepRefIdeal.main_v203) = v1 c
          ∧ r.2.mem ((c.tc : Thread Cert.PrepRefIdeal.nD Cert.PrepRefIdeal.τ).loc Cert.PrepRefIdeal.main_v205) = v2 c
          ∧ r.2.mem ((c.tc : Thread Cert.PrepRefIdeal.nD Cert.PrepRefIdeal.τ).loc Cert.PrepRefIdeal.main_v207) = v3 c
          ∧ r.2.mem ((c.tc : Thread Cert.PrepRefIdeal.nD Cert.PrepRefIdeal.τ).loc Cert.PrepRefIdeal.main_v209) = v4 c
          ∧ r.2.mem ((c.tc : Thread Cert.PrepRefIdeal.nD Cert.PrepRefIdeal.τ).loc Cert.PrepRefIdeal.main_v211) = v5 c
          ∧ r.2.mem ((c.tc : Thread Cert.PrepRefIdeal.nD Cert.PrepRefIdeal.τ).loc Cert.PrepRefIdeal.main_v199) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9)
          ∧ r.2.mem ((c.tc : Thread Cert.PrepRefIdeal.nD Cert.PrepRefIdeal.τ).loc Cert.PrepRefIdeal.main_arg10) = m' ((c.tc : Thread Cert.PrepRefIdeal.nD Cert.PrepRefIdeal.τ).loc Cert.PrepRefIdeal.main_arg10)
          ∧ r.2.mem ((c.tc : Thread Cert.PrepRefIdeal.nD Cert.PrepRefIdeal.τ).loc Cert.PrepRefIdeal.main_arg11) = m' ((c.tc : Thread Cert.PrepRefIdeal.nD Cert.PrepRefIdeal.τ).loc Cert.PrepRefIdeal.main_arg11)
          ∧ r.2.mem ((c.tc : Thread Cert.PrepRefIdeal.nD Cert.PrepRefIdeal.τ).loc Cert.PrepRefIdeal.main_arg12) = m' ((c.tc : Thread Cert.PrepRefIdeal.nD Cert.PrepRefIdeal.τ).loc Cert.PrepRefIdeal.main_arg12)
          ∧ r.2.mem ((c.tc : Thread Cert.PrepRefIdeal.nD Cert.PrepRefIdeal.τ).loc Cert.PrepRefIdeal.main_arg13) = m' ((c.tc : Thread Cert.PrepRefIdeal.nD Cert.PrepRefIdeal.τ).loc Cert.PrepRefIdeal.main_arg13)
          ∧ r.2.mem ((c.tc : Thread Cert.PrepRefIdeal.nD Cert.PrepRefIdeal.τ).loc Cert.PrepRefIdeal.main_arg14) = m' ((c.tc : Thread Cert.PrepRefIdeal.nD Cert.PrepRefIdeal.τ).loc Cert.PrepRefIdeal.main_arg14))

def preserves_Swa_SwaIdeal : Prop :=
  IdealRules.named_const.Statement Cert.SwaIdeal.κ "neg_inf" .f32 0xF149F2CA#32 ⊥

def algebraic_SwaIdeal_SwaRefIdeal_pre_finite_near [hSwaIdeal : Cert.SwaIdeal.Facts] [hSwaRefIdeal : Cert.SwaRefIdeal.Facts] [hPre_finite_near : Cert.Pre_finite_near.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_near m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v43) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_SwaFirst_SwaFirstIdeal : Prop :=
  IdealRules.named_const.Statement Cert.SwaFirstIdeal.κ "neg_inf" .f32 0xF149F2CA#32 ⊥

def algebraic_SwaFirstIdeal_SwaFirstRefIdeal_pre_finite_near_first [hSwaFirstIdeal : Cert.SwaFirstIdeal.Facts] [hSwaFirstRefIdeal : Cert.SwaFirstRefIdeal.Facts] [hPre_finite_near_first : Cert.Pre_finite_near_first.Facts] : Prop :=
  ∀ (m : (ℓ : Loc Cert.SwaFirstIdeal.nD Cert.SwaFirstIdeal.τ Cert.SwaFirstIdeal.sig) → Buf (Elt Ideal) ℓ) (g : Dev Cert.SwaFirstIdeal.nD → PrngReg)
    (m' : (ℓ : Loc Cert.SwaFirstRefIdeal.nD Cert.SwaFirstRefIdeal.τ Cert.SwaFirstRefIdeal.sig) → Buf (Elt Ideal) ℓ) (g' : Dev Cert.SwaFirstRefIdeal.nD → PrngReg), Pre_SwaFirstIdeal_finite_near_first m →
    (∀ c : Dev Cert.SwaFirstIdeal.nD,
      m' ((c.tc : Thread Cert.SwaFirstRefIdeal.nD Cert.SwaFirstRefIdeal.τ).loc Cert.SwaFirstRefIdeal.main_arg0) = m ((c.tc : Thread Cert.SwaFirstIdeal.nD Cert.SwaFirstIdeal.τ).loc Cert.SwaFirstIdeal.main_arg0)
      ∧ m' ((c.tc : Thread Cert.SwaFirstRefIdeal.nD Cert.SwaFirstRefIdeal.τ).loc Cert.SwaFirstRefIdeal.main_arg1) = m ((c.tc : Thread Cert.SwaFirstIdeal.nD Cert.SwaFirstIdeal.τ).loc Cert.SwaFirstIdeal.main_arg1)
      ∧ m' ((c.tc : Thread Cert.SwaFirstRefIdeal.nD Cert.SwaFirstRefIdeal.τ).loc Cert.SwaFirstRefIdeal.main_arg2) = m ((c.tc : Thread Cert.SwaFirstIdeal.nD Cert.SwaFirstIdeal.τ).loc Cert.SwaFirstIdeal.main_arg2)
      ∧ m' ((c.tc : Thread Cert.SwaFirstRefIdeal.nD Cert.SwaFirstRefIdeal.τ).loc Cert.SwaFirstRefIdeal.main_arg3) = m ((c.tc : Thread Cert.SwaFirstIdeal.nD Cert.SwaFirstIdeal.τ).loc Cert.SwaFirstIdeal.main_arg3)) →
    ∃ (v0 : (c : Dev Cert.SwaFirstIdeal.nD) → Buf (Elt Ideal) ((c.tc : Thread Cert.SwaFirstIdeal.nD Cert.SwaFirstIdeal.τ).loc Cert.SwaFirstIdeal.main_v0)),
      θ_run (Cert.SwaFirstIdeal.defs (F := Ideal)) (onTc (τ := Cert.SwaFirstIdeal.τ) (Cert.SwaFirstIdeal.main (F := Ideal))) ⟨m, fun _ => 0, g⟩ (fun r => ∀ c : Dev Cert.SwaFirstIdeal.nD,
          r.2.mem ((c.tc : Thread Cert.SwaFirstIdeal.nD Cert.SwaFirstIdeal.τ).loc Cert.SwaFirstIdeal.main_v0) = v0 c
          ∧ r.2.mem ((c.tc : Thread Cert.SwaFirstIdeal.nD Cert.SwaFirstIdeal.τ).loc Cert.SwaFirstIdeal.main_arg0) = m ((c.tc : Thread Cert.SwaFirstIdeal.nD Cert.SwaFirstIdeal.τ).loc Cert.SwaFirstIdeal.main_arg0)
          ∧ r.2.mem ((c.tc : Thread Cert.SwaFirstIdeal.nD Cert.SwaFirstIdeal.τ).loc Cert.SwaFirstIdeal.main_arg1) = m ((c.tc : Thread Cert.SwaFirstIdeal.nD Cert.SwaFirstIdeal.τ).loc Cert.SwaFirstIdeal.main_arg1)
          ∧ r.2.mem ((c.tc : Thread Cert.SwaFirstIdeal.nD Cert.SwaFirstIdeal.τ).loc Cert.SwaFirstIdeal.main_arg2) = m ((c.tc : Thread Cert.SwaFirstIdeal.nD Cert.SwaFirstIdeal.τ).loc Cert.SwaFirstIdeal.main_arg2)
          ∧ r.2.mem ((c.tc : Thread Cert.SwaFirstIdeal.nD Cert.SwaFirstIdeal.τ).loc Cert.SwaFirstIdeal.main_arg3) = m ((c.tc : Thread Cert.SwaFirstIdeal.nD Cert.SwaFirstIdeal.τ).loc Cert.SwaFirstIdeal.main_arg3))
      ∧ θ_run (Cert.SwaFirstRefIdeal.defs (F := Ideal)) (onTc (τ := Cert.SwaFirstRefIdeal.τ) (Cert.SwaFirstRefIdeal.main (F := Ideal))) ⟨m', fun _ => 0, g'⟩ (fun r => ∀ c : Dev Cert.SwaFirstRefIdeal.nD,
          r.2.mem ((c.tc : Thread Cert.SwaFirstRefIdeal.nD Cert.SwaFirstRefIdeal.τ).loc Cert.SwaFirstRefIdeal.main_v44) = v0 c
          ∧ r.2.mem ((c.tc : Thread Cert.SwaFirstRefIdeal.nD Cert.SwaFirstRefIdeal.τ).loc Cert.SwaFirstRefIdeal.main_arg0) = m' ((c.tc : Thread Cert.SwaFirstRefIdeal.nD Cert.SwaFirstRefIdeal.τ).loc Cert.SwaFirstRefIdeal.main_arg0)
          ∧ r.2.mem ((c.tc : Thread Cert.SwaFirstRefIdeal.nD Cert.SwaFirstRefIdeal.τ).loc Cert.SwaFirstRefIdeal.main_arg1) = m' ((c.tc : Thread Cert.SwaFirstRefIdeal.nD Cert.SwaFirstRefIdeal.τ).loc Cert.SwaFirstRefIdeal.main_arg1)
          ∧ r.2.mem ((c.tc : Thread Cert.SwaFirstRefIdeal.nD Cert.SwaFirstRefIdeal.τ).loc Cert.SwaFirstRefIdeal.main_arg2) = m' ((c.tc : Thread Cert.SwaFirstRefIdeal.nD Cert.SwaFirstRefIdeal.τ).loc Cert.SwaFirstRefIdeal.main_arg2)
          ∧ r.2.mem ((c.tc : Thread Cert.SwaFirstRefIdeal.nD Cert.SwaFirstRefIdeal.τ).loc Cert.SwaFirstRefIdeal.main_arg3) = m' ((c.tc : Thread Cert.SwaFirstRefIdeal.nD Cert.SwaFirstRefIdeal.τ).loc Cert.SwaFirstRefIdeal.main_arg3))

def preserves_Ada_AdaIdeal : Prop :=
  True

def algebraic_AdaIdeal_AdaRefIdeal_pre_finite_ada [hAdaIdeal : Cert.AdaIdeal.Facts] [hAdaRefIdeal : Cert.AdaRefIdeal.Facts] [hPre_finite_ada : Cert.Pre_finite_ada.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal_finite_ada m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v14) = v0 c
          ∧ r.2.mem ((c.tc : Thread Cert.OutRefIdeal.nD Cert.OutRefIdeal.τ).loc Cert.OutRefIdeal.main_v33) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12))

def preserves_OutFirst_OutFirstIdeal : Prop :=
  True

def algebraic_OutFirstIdeal_OutFirstRefIdeal [hOutFirstIdeal : Cert.OutFirstIdeal.Facts] [hOutFirstRefIdeal : Cert.OutFirstRefIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg)
    (m' : (ℓ : Loc Cert.OutFirstRefIdeal.nD Cert.OutFirstRefIdeal.τ Cert.OutFirstRefIdeal.sig) → Buf (Elt Ideal) ℓ) (g' : Dev Cert.OutFirstRefIdeal.nD → PrngReg), Pre_OutFirstIdeal m →
    (∀ c : Dev Cert.OutFirstIdeal.nD,
      m' ((c.tc : Thread Cert.OutFirstRefIdeal.nD Cert.OutFirstRefIdeal.τ).loc Cert.OutFirstRefIdeal.main_arg0) = m ((c.tc : Thread Cert.OutFirstIdeal.nD Cert.OutFirstIdeal.τ).loc Cert.OutFirstIdeal.main_arg0)
      ∧ m' ((c.tc : Thread Cert.OutFirstRefIdeal.nD Cert.OutFirstRefIdeal.τ).loc Cert.OutFirstRefIdeal.main_arg1) = m ((c.tc : Thread Cert.OutFirstIdeal.nD Cert.OutFirstIdeal.τ).loc Cert.OutFirstIdeal.main_arg1)
      ∧ m' ((c.tc : Thread Cert.OutFirstRefIdeal.nD Cert.OutFirstRefIdeal.τ).loc Cert.OutFirstRefIdeal.main_arg2) = m ((c.tc : Thread Cert.OutFirstIdeal.nD Cert.OutFirstIdeal.τ).loc Cert.OutFirstIdeal.main_arg2)
      ∧ m' ((c.tc : Thread Cert.OutFirstRefIdeal.nD Cert.OutFirstRefIdeal.τ).loc Cert.OutFirstRefIdeal.main_arg3) = m ((c.tc : Thread Cert.OutFirstIdeal.nD Cert.OutFirstIdeal.τ).loc Cert.OutFirstIdeal.main_arg3)
      ∧ m' ((c.tc : Thread Cert.OutFirstRefIdeal.nD Cert.OutFirstRefIdeal.τ).loc Cert.OutFirstRefIdeal.main_arg4) = m ((c.tc : Thread Cert.OutFirstIdeal.nD Cert.OutFirstIdeal.τ).loc Cert.OutFirstIdeal.main_arg4)
      ∧ m' ((c.tc : Thread Cert.OutFirstRefIdeal.nD Cert.OutFirstRefIdeal.τ).loc Cert.OutFirstRefIdeal.main_arg5) = m ((c.tc : Thread Cert.OutFirstIdeal.nD Cert.OutFirstIdeal.τ).loc Cert.OutFirstIdeal.main_arg5)
      ∧ m' ((c.tc : Thread Cert.OutFirstRefIdeal.nD Cert.OutFirstRefIdeal.τ).loc Cert.OutFirstRefIdeal.main_arg6) = m ((c.tc : Thread Cert.OutFirstIdeal.nD Cert.OutFirstIdeal.τ).loc Cert.OutFirstIdeal.main_arg6)
      ∧ m' ((c.tc : Thread Cert.OutFirstRefIdeal.nD Cert.OutFirstRefIdeal.τ).loc Cert.OutFirstRefIdeal.main_arg7) = m ((c.tc : Thread Cert.OutFirstIdeal.nD Cert.OutFirstIdeal.τ).loc Cert.OutFirstIdeal.main_arg7)
      ∧ m' ((c.tc : Thread Cert.OutFirstRefIdeal.nD Cert.OutFirstRefIdeal.τ).loc Cert.OutFirstRefIdeal.main_arg8) = m ((c.tc : Thread Cert.OutFirstIdeal.nD Cert.OutFirstIdeal.τ).loc Cert.OutFirstIdeal.main_arg8)
      ∧ m' ((c.tc : Thread Cert.OutFirstRefIdeal.nD Cert.OutFirstRefIdeal.τ).loc Cert.OutFirstRefIdeal.main_arg9) = m ((c.tc : Thread Cert.OutFirstIdeal.nD Cert.OutFirstIdeal.τ).loc Cert.OutFirstIdeal.main_arg9)
      ∧ m' ((c.tc : Thread Cert.OutFirstRefIdeal.nD Cert.OutFirstRefIdeal.τ).loc Cert.OutFirstRefIdeal.main_arg10) = m ((c.tc : Thread Cert.OutFirstIdeal.nD Cert.OutFirstIdeal.τ).loc Cert.OutFirstIdeal.main_arg10)
      ∧ m' ((c.tc : Thread Cert.OutFirstRefIdeal.nD Cert.OutFirstRefIdeal.τ).loc Cert.OutFirstRefIdeal.main_arg11) = m ((c.tc : Thread Cert.OutFirstIdeal.nD Cert.OutFirstIdeal.τ).loc Cert.OutFirstIdeal.main_arg11)
      ∧ m' ((c.tc : Thread Cert.OutFirstRefIdeal.nD Cert.OutFirstRefIdeal.τ).loc Cert.OutFirstRefIdeal.main_arg12) = m ((c.tc : Thread Cert.OutFirstIdeal.nD Cert.OutFirstIdeal.τ).loc Cert.OutFirstIdeal.main_arg12)) →
    ∃ (v0 : (c : Dev Cert.OutFirstIdeal.nD) → Buf (Elt Ideal) ((c.tc : Thread Cert.OutFirstIdeal.nD Cert.OutFirstIdeal.τ).loc Cert.OutFirstIdeal.main_v0_0)) (v1 : (c : Dev Cert.OutFirstIdeal.nD) → Buf (Elt Ideal) ((c.tc : Thread Cert.OutFirstIdeal.nD Cert.OutFirstIdeal.τ).loc Cert.OutFirstIdeal.main_v0_1)),
      θ_run (Cert.OutFirstIdeal.defs (F := Ideal)) (onTc (τ := Cert.OutFirstIdeal.τ) (Cert.OutFirstIdeal.main (F := Ideal))) ⟨m, fun _ => 0, g⟩ (fun r => ∀ c : Dev Cert.OutFirstIdeal.nD,
          r.2.mem ((c.tc : Thread Cert.OutFirstIdeal.nD Cert.OutFirstIdeal.τ).loc Cert.OutFirstIdeal.main_v0_0) = v0 c
          ∧ r.2.mem ((c.tc : Thread Cert.OutFirstIdeal.nD Cert.OutFirstIdeal.τ).loc Cert.OutFirstIdeal.main_v0_1) = v1 c
          ∧ r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
          ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
          ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
          ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
          ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
          ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
          ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6)
          ∧ r.2.mem ((c.tc : Thread Cert.OutFirstIdeal.nD Cert.OutFirstIdeal.τ).loc Cert.OutFirstIdeal.main_arg7) = m ((c.tc : Thread Cert.OutFirstIdeal.nD Cert.OutFirstIdeal.τ).loc Cert.OutFirstIdeal.main_arg7)
          ∧ r.2.mem ((c.tc : Thread Cert.OutFirstIdeal.nD Cert.OutFirstIdeal.τ).loc Cert.OutFirstIdeal.main_arg8) = m ((c.tc : Thread Cert.OutFirstIdeal.nD Cert.OutFirstIdeal.τ).loc Cert.OutFirstIdeal.main_arg8)
          ∧ r.2.mem ((c.tc : Thread Cert.OutFirstIdeal.nD Cert.OutFirstIdeal.τ).loc Cert.OutFirstIdeal.main_arg9) = m ((c.tc : Thread Cert.OutFirstIdeal.nD Cert.OutFirstIdeal.τ).loc Cert.OutFirstIdeal.main_arg9)
          ∧ r.2.mem ((c.tc : Thread Cert.OutFirstIdeal.nD Cert.OutFirstIdeal.τ).loc Cert.OutFirstIdeal.main_arg10) = m ((c.tc : Thread Cert.OutFirstIdeal.nD Cert.OutFirstIdeal.τ).loc Cert.OutFirstIdeal.main_arg10)
          ∧ r.2.mem ((c.tc : Thread Cert.OutFirstIdeal.nD Cert.OutFirstIdeal.τ).loc Cert.OutFirstIdeal.main_arg11) = m ((c.tc : Thread Cert.OutFirstIdeal.nD Cert.OutFirstIdeal.τ).loc Cert.OutFirstIdeal.main_arg11)
          ∧ r.2.mem ((c.tc : Thread Cert.OutFirstIdeal.nD Cert.OutFirstIdeal.τ).loc Cert.OutFirstIdeal.main_arg12) = m ((c.tc : Thread Cert.OutFirstIdeal.nD Cert.OutFirstIdeal.τ).loc Cert.OutFirstIdeal.main_arg12))
      ∧ θ_run (Cert.OutFirstRefIdeal.defs (F := Ideal)) (onTc (τ := Cert.OutFirstRefIdeal.τ) (Cert.OutFirstRefIdeal.main (F := Ideal))) ⟨m', fun _ => 0, g'⟩ (fun r => ∀ c : Dev Cert.OutFirstRefIdeal.nD,
          r.2.mem ((c.tc : Thread Cert.OutFirstRefIdeal.nD Cert.OutFirstRefIdeal.τ).loc Cert.OutFirstRefIdeal.main_v25) = v0 c
          ∧ r.2.mem ((c.tc : Thread Cert.OutFirstRefIdeal.nD Cert.OutFirstRefIdeal.τ).loc Cert.OutFirstRefIdeal.main_v42) = v1 c
          ∧ r.2.mem ((c.tc : Thread Cert.OutFirstRefIdeal.nD Cert.OutFirstRefIdeal.τ).loc Cert.OutFirstRefIdeal.main_arg0) = m' ((c.tc : Thread Cert.OutFirstRefIdeal.nD Cert.OutFirstRefIdeal.τ).loc Cert.OutFirstRefIdeal.main_arg0)
          ∧ r.2.mem ((c.tc : Thread Cert.OutFirstRefIdeal.nD Cert.OutFirstRefIdeal.τ).loc Cert.OutFirstRefIdeal.main_arg1) = m' ((c.tc : Thread Cert.OutFirstRefIdeal.nD Cert.OutFirstRefIdeal.τ).loc Cert.OutFirstRefIdeal.main_arg1)
          ∧ r.2.mem ((c.tc : Thread Cert.OutFirstRefIdeal.nD Cert.OutFirstRefIdeal.τ).loc Cert.OutFirstRefIdeal.main_arg2) = m' ((c.tc : Thread Cert.OutFirstRefIdeal.nD Cert.OutFirstRefIdeal.τ).loc Cert.OutFirstRefIdeal.main_arg2)
          ∧ r.2.mem ((c.tc : Thread Cert.OutFirstRefIdeal.nD Cert.OutFirstRefIdeal.τ).loc Cert.OutFirstRefIdeal.main_arg3) = m' ((c.tc : Thread Cert.OutFirstRefIdeal.nD Cert.OutFirstRefIdeal.τ).loc Cert.OutFirstRefIdeal.main_arg3)
          ∧ r.2.mem ((c.tc : Thread Cert.OutFirstRefIdeal.nD Cert.OutFirstRefIdeal.τ).loc Cert.OutFirstRefIdeal.main_arg4) = m' ((c.tc : Thread Cert.OutFirstRefIdeal.nD Cert.OutFirstRefIdeal.τ).loc Cert.OutFirstRefIdeal.main_arg4)
          ∧ r.2.mem ((c.tc : Thread Cert.OutFirstRefIdeal.nD Cert.OutFirstRefIdeal.τ).loc Cert.OutFirstRefIdeal.main_arg5) = m' ((c.tc : Thread Cert.OutFirstRefIdeal.nD Cert.OutFirstRefIdeal.τ).loc Cert.OutFirstRefIdeal.main_arg5)
          ∧ r.2.mem ((c.tc : Thread Cert.OutFirstRefIdeal.nD Cert.OutFirstRefIdeal.τ).loc Cert.OutFirstRefIdeal.main_arg6) = m' ((c.tc : Thread Cert.OutFirstRefIdeal.nD Cert.OutFirstRefIdeal.τ).loc Cert.OutFirstRefIdeal.main_arg6)
          ∧ r.2.mem ((c.tc : Thread Cert.OutFirstRefIdeal.nD Cert.OutFirstRefIdeal.τ).loc Cert.OutFirstRefIdeal.main_arg7) = m' ((c.tc : Thread Cert.OutFirstRefIdeal.nD Cert.OutFirstRefIdeal.τ).loc Cert.OutFirstRefIdeal.main_arg7)
          ∧ r.2.mem ((c.tc : Thread Cert.OutFirstRefIdeal.nD Cert.OutFirstRefIdeal.τ).loc Cert.OutFirstRefIdeal.main_arg8) = m' ((c.tc : Thread Cert.OutFirstRefIdeal.nD Cert.OutFirstRefIdeal.τ).loc Cert.OutFirstRefIdeal.main_arg8)
          ∧ r.2.mem ((c.tc : Thread Cert.OutFirstRefIdeal.nD Cert.OutFirstRefIdeal.τ).loc Cert.OutFirstRefIdeal.main_arg9) = m' ((c.tc : Thread Cert.OutFirstRefIdeal.nD Cert.OutFirstRefIdeal.τ).loc Cert.OutFirstRefIdeal.main_arg9)
          ∧ r.2.mem ((c.tc : Thread Cert.OutFirstRefIdeal.nD Cert.OutFirstRefIdeal.τ).loc Cert.OutFirstRefIdeal.main_arg10) = m' ((c.tc : Thread Cert.OutFirstRefIdeal.nD Cert.OutFirstRefIdeal.τ).loc Cert.OutFirstRefIdeal.main_arg10)
          ∧ r.2.mem ((c.tc : Thread Cert.OutFirstRefIdeal.nD Cert.OutFirstRefIdeal.τ).loc Cert.OutFirstRefIdeal.main_arg11) = m' ((c.tc : Thread Cert.OutFirstRefIdeal.nD Cert.OutFirstRefIdeal.τ).loc Cert.OutFirstRefIdeal.main_arg11)
          ∧ r.2.mem ((c.tc : Thread Cert.OutFirstRefIdeal.nD Cert.OutFirstRefIdeal.τ).loc Cert.OutFirstRefIdeal.main_arg12) = m' ((c.tc : Thread Cert.OutFirstRefIdeal.nD Cert.OutFirstRefIdeal.τ).loc Cert.OutFirstRefIdeal.main_arg12))

def Claim : Prop :=
  ∃ (hMla : Cert.Mla.Facts) (hMlaIdeal : Cert.MlaIdeal.Facts) (hMlaRefIdeal : Cert.MlaRefIdeal.Facts) (hExperts : Cert.Experts.Facts) (hExpertsIdeal : Cert.ExpertsIdeal.Facts) (hExpertsRefIdeal : Cert.ExpertsRefIdeal.Facts) (hExpertsLast : Cert.ExpertsLast.Facts) (hExpertsLastIdeal : Cert.ExpertsLastIdeal.Facts) (hExpertsLastRefIdeal : Cert.ExpertsLastRefIdeal.Facts) (hMlaFirst : Cert.MlaFirst.Facts) (hMlaFirstIdeal : Cert.MlaFirstIdeal.Facts) (hMlaFirstRefIdeal : Cert.MlaFirstRefIdeal.Facts) (hPrep : Cert.Prep.Facts) (hPrepIdeal : Cert.PrepIdeal.Facts) (hPrepRefIdeal : Cert.PrepRefIdeal.Facts) (hSwa : Cert.Swa.Facts) (hSwaIdeal : Cert.SwaIdeal.Facts) (hSwaRefIdeal : Cert.SwaRefIdeal.Facts) (hSwaFirst : Cert.SwaFirst.Facts) (hSwaFirstIdeal : Cert.SwaFirstIdeal.Facts) (hSwaFirstRefIdeal : Cert.SwaFirstRefIdeal.Facts) (hAda : Cert.Ada.Facts) (hAdaIdeal : Cert.AdaIdeal.Facts) (hAdaRefIdeal : Cert.AdaRefIdeal.Facts) (hOut : Cert.Out.Facts) (hOutIdeal : Cert.OutIdeal.Facts) (hOutRefIdeal : Cert.OutRefIdeal.Facts) (hOutFirst : Cert.OutFirst.Facts) (hOutFirstIdeal : Cert.OutFirstIdeal.Facts) (hOutFirstRefIdeal : Cert.OutFirstRefIdeal.Facts) (hPre_finite : Cert.Pre_finite.Facts) (hPre_routed : Cert.Pre_routed.Facts) (hPre_routed_last : Cert.Pre_routed_last.Facts) (hPre_finite_first : Cert.Pre_finite_first.Facts) (hPre_finite_near : Cert.Pre_finite_near.Facts) (hPre_finite_near_first : Cert.Pre_finite_near_first.Facts) (hPre_finite_ada : Cert.Pre_finite_ada.Facts),
    quiescent_Mla (hMla := hMla)
    ∧ quiescent_MlaIdeal (hMlaIdeal := hMlaIdeal)
    ∧ quiescent_MlaIdeal_pre_finite (hMlaIdeal := hMlaIdeal) (hPre_finite := hPre_finite)
    ∧ quiescent_MlaRefIdeal (hMlaRefIdeal := hMlaRefIdeal)
    ∧ quiescent_MlaRefIdeal_pre_finite (hMlaRefIdeal := hMlaRefIdeal) (hPre_finite := hPre_finite)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_ExpertsLast (hExpertsLast := hExpertsLast) (hPre_routed_last := hPre_routed_last)
    ∧ quiescent_ExpertsLastIdeal (hExpertsLastIdeal := hExpertsLastIdeal) (hPre_routed_last := hPre_routed_last)
    ∧ quiescent_ExpertsLastRefIdeal (hExpertsLastRefIdeal := hExpertsLastRefIdeal)
    ∧ quiescent_ExpertsLastRefIdeal_pre_routed_last (hExpertsLastRefIdeal := hExpertsLastRefIdeal) (hPre_routed_last := hPre_routed_last)
    ∧ quiescent_MlaFirst (hMlaFirst := hMlaFirst)
    ∧ quiescent_MlaFirstIdeal (hMlaFirstIdeal := hMlaFirstIdeal)
    ∧ quiescent_MlaFirstIdeal_pre_finite_first (hMlaFirstIdeal := hMlaFirstIdeal) (hPre_finite_first := hPre_finite_first)
    ∧ quiescent_MlaFirstRefIdeal (hMlaFirstRefIdeal := hMlaFirstRefIdeal)
    ∧ quiescent_MlaFirstRefIdeal_pre_finite_first (hMlaFirstRefIdeal := hMlaFirstRefIdeal) (hPre_finite_first := hPre_finite_first)
    ∧ quiescent_Prep (hPrep := hPrep)
    ∧ quiescent_PrepIdeal (hPrepIdeal := hPrepIdeal)
    ∧ quiescent_PrepRefIdeal (hPrepRefIdeal := hPrepRefIdeal)
    ∧ quiescent_Swa (hSwa := hSwa)
    ∧ quiescent_SwaIdeal (hSwaIdeal := hSwaIdeal)
    ∧ quiescent_SwaIdeal_pre_finite_near (hSwaIdeal := hSwaIdeal) (hPre_finite_near := hPre_finite_near)
    ∧ quiescent_SwaRefIdeal (hSwaRefIdeal := hSwaRefIdeal)
    ∧ quiescent_SwaRefIdeal_pre_finite_near (hSwaRefIdeal := hSwaRefIdeal) (hPre_finite_near := hPre_finite_near)
    ∧ quiescent_SwaFirst (hSwaFirst := hSwaFirst)
    ∧ quiescent_SwaFirstIdeal (hSwaFirstIdeal := hSwaFirstIdeal)
    ∧ quiescent_SwaFirstIdeal_pre_finite_near_first (hSwaFirstIdeal := hSwaFirstIdeal) (hPre_finite_near_first := hPre_finite_near_first)
    ∧ quiescent_SwaFirstRefIdeal (hSwaFirstRefIdeal := hSwaFirstRefIdeal)
    ∧ quiescent_SwaFirstRefIdeal_pre_finite_near_first (hSwaFirstRefIdeal := hSwaFirstRefIdeal) (hPre_finite_near_first := hPre_finite_near_first)
    ∧ quiescent_Ada (hAda := hAda)
    ∧ quiescent_AdaIdeal (hAdaIdeal := hAdaIdeal)
    ∧ quiescent_AdaIdeal_pre_finite_ada (hAdaIdeal := hAdaIdeal) (hPre_finite_ada := hPre_finite_ada)
    ∧ quiescent_AdaRefIdeal (hAdaRefIdeal := hAdaRefIdeal)
    ∧ quiescent_AdaRefIdeal_pre_finite_ada (hAdaRefIdeal := hAdaRefIdeal) (hPre_finite_ada := hPre_finite_ada)
    ∧ quiescent_Out (hOut := hOut)
    ∧ quiescent_OutIdeal (hOutIdeal := hOutIdeal)
    ∧ quiescent_OutRefIdeal (hOutRefIdeal := hOutRefIdeal)
    ∧ quiescent_OutFirst (hOutFirst := hOutFirst)
    ∧ quiescent_OutFirstIdeal (hOutFirstIdeal := hOutFirstIdeal)
    ∧ quiescent_OutFirstRefIdeal (hOutFirstRefIdeal := hOutFirstRefIdeal)
    ∧ preserves_Mla_MlaIdeal
    ∧ algebraic_MlaIdeal_MlaRefIdeal_pre_finite (hMlaIdeal := hMlaIdeal) (hMlaRefIdeal := hMlaRefIdeal) (hPre_finite := hPre_finite)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_ExpertsLast_ExpertsLastIdeal
    ∧ algebraic_ExpertsLastIdeal_ExpertsLastRefIdeal (hExpertsLastIdeal := hExpertsLastIdeal) (hExpertsLastRefIdeal := hExpertsLastRefIdeal) (hPre_routed_last := hPre_routed_last)
    ∧ preserves_MlaFirst_MlaFirstIdeal
    ∧ algebraic_MlaFirstIdeal_MlaFirstRefIdeal_pre_finite_first (hMlaFirstIdeal := hMlaFirstIdeal) (hMlaFirstRefIdeal := hMlaFirstRefIdeal) (hPre_finite_first := hPre_finite_first)
    ∧ preserves_Prep_PrepIdeal
    ∧ algebraic_PrepIdeal_PrepRefIdeal (hPrepIdeal := hPrepIdeal) (hPrepRefIdeal := hPrepRefIdeal)
    ∧ preserves_Swa_SwaIdeal
    ∧ algebraic_SwaIdeal_SwaRefIdeal_pre_finite_near (hSwaIdeal := hSwaIdeal) (hSwaRefIdeal := hSwaRefIdeal) (hPre_finite_near := hPre_finite_near)
    ∧ preserves_SwaFirst_SwaFirstIdeal
    ∧ algebraic_SwaFirstIdeal_SwaFirstRefIdeal_pre_finite_near_first (hSwaFirstIdeal := hSwaFirstIdeal) (hSwaFirstRefIdeal := hSwaFirstRefIdeal) (hPre_finite_near_first := hPre_finite_near_first)
    ∧ preserves_Ada_AdaIdeal
    ∧ algebraic_AdaIdeal_AdaRefIdeal_pre_finite_ada (hAdaIdeal := hAdaIdeal) (hAdaRefIdeal := hAdaRefIdeal) (hPre_finite_ada := hPre_finite_ada)
    ∧ preserves_Out_OutIdeal
    ∧ algebraic_OutIdeal_OutRefIdeal (hOutIdeal := hOutIdeal) (hOutRefIdeal := hOutRefIdeal)
    ∧ preserves_OutFirst_OutFirstIdeal
    ∧ algebraic_OutFirstIdeal_OutFirstRefIdeal (hOutFirstIdeal := hOutFirstIdeal) (hOutFirstRefIdeal := hOutFirstRefIdeal)
-- ==== Pre_finite.lean ====
abbrev S8x4x2304x256 : Shape := ⟨4, ![8, 4, 2304, 256]⟩
abbrev S8x4x2304x128 : Shape := ⟨4, ![8, 4, 2304, 128]⟩
abbrev S_ : Shape := ⟨0, ![]⟩

class Facts : Prop where
  bcast_S_S8x4x2304x256 : S_.BroadcastsInDim S8x4x2304x256 (![] : Fin 0 → Fin S8x4x2304x256.rank)

variable [Facts]

def fn {F : FTy → Type} [FloatOps F] (main_arg0 : FVec F S8x4x2304x256 .bf16) (main_arg1 : FVec F S8x4x2304x256 .bf16) (main_arg2 : FVec F S8x4x2304x128 .bf16) : IVec S8x4x2304x256 1 × IVec S8x4x2304x256 1 :=
  let main_cst : FVec F S_ .bf16 := constant S_ .bf16 0xFF80#16
  let main_v0 : FVec F S8x4x2304x256 .bf16 := broadcastInDim S8x4x2304x256 ![] bcast_S_S8x4x2304x256 main_cst
  let main_v1 : IVec S8x4x2304x256 1 := cmpf .ogt main_arg0 main_v0
  let main_cst_0 : FVec F S_ .bf16 := constant S_ .bf16 0x7F80#16
  let main_v2 : FVec F S8x4x2304x256 .bf16 := broadcastInDim S8x4x2304x256 ![] bcast_S_S8x4x2304x256 main_cst_0
  let main_v3 : IVec S8x4x2304x256 1 := cmpf .olt main_arg0 main_v2
  let main_v4 : IVec S8x4x2304x256 1 := andi main_v1 main_v3
  let main_cst_1 : FVec F S_ .bf16 := constant S_ .bf16 0xFF80#16
  let main_v5 : FVec F S8x4x2304x256 .bf16 := broadcastInDim S8x4x2304x256 ![] bcast_S_S8x4x2304x256 main_cst_1
  let main_v6 : IVec S8x4x2304x256 1 := cmpf .ogt main_arg1 main_v5
  let main_cst_2 : FVec F S_ .bf16 := constant S_ .bf16 0x7F80#16
  let main_v7 : FVec F S8x4x2304x256 .bf16 := broadcastInDim S8x4x2304x256 ![] bcast_S_S8x4x2304x256 main_cst_2
  let main_v8 : IVec S8x4x2304x256 1 := cmpf .olt main_arg1 main_v7
  let main_v9 : IVec S8x4x2304x256 1 := andi main_v6 main_v8
  (main_v4, main_v9)
-- ==== Pre_finite_ada.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩

class Facts : Prop where
  bcast_S_S16x1024 : S_.BroadcastsInDim S16x1024 (![] : Fin 0 → Fin S16x1024.rank)
  bcast_S_S2x1024x6144 : S_.BroadcastsInDim S2x1024x6144 (![] : Fin 0 → Fin S2x1024x6144.rank)

variable [Facts]

def fn {F : FTy → Type} [FloatOps F] (main_arg0 : FVec F S16x1024 .f32) (main_arg1 : FVec F S2x1024x6144 .f32) (main_arg2 : FVec F S2x6144 .f32) : IVec S16x1024 1 × IVec S2x1024x6144 1 :=
  let main_cst : FVec F S_ .f32 := constant S_ .f32 0x7F800000#32
  let main_v0 : FVec F S16x1024 .f32 := broadcastInDim S16x1024 ![] bcast_S_S16x1024 main_cst
  let main_v1 : IVec S16x1024 1 := cmpf .olt main_arg0 main_v0
  let main_v2 : FVec F S2x1024x6144 .f32 := Host.absf main_arg1
  let main_cst_0 : FVec F S_ .f32 := constant S_ .f32 0x7F800000#32
  let main_v3 : FVec F S2x1024x6144 .f32 := broadcastInDim S2x1024x6144 ![] bcast_S_S2x1024x6144 main_cst_0
  let main_v4 : IVec S2x1024x6144 1 := cmpf .olt main_v2 main_v3
  (main_v1, main_v4)
-- ==== Pre_finite_first.lean ====
abbrev S8x4x2304x256 : Shape := ⟨4, ![8, 4, 2304, 256]⟩
abbrev S8x4x2304x128 : Shape := ⟨4, ![8, 4, 2304, 128]⟩
abbrev S_ : Shape := ⟨0, ![]⟩

class Facts : Prop where
  bcast_S_S8x4x2304x256 : S_.BroadcastsInDim S8x4x2304x256 (![] : Fin 0 → Fin S8x4x2304x256.rank)

variable [Facts]

def fn {F : FTy → Type} [FloatOps F] (main_arg0 : FVec F S8x4x2304x256 .bf16) (main_arg1 : FVec F S8x4x2304x256 .bf16) (main_arg2 : FVec F S8x4x2304x128 .bf16) : IVec S8x4x2304x256 1 × IVec S8x4x2304x256 1 :=
  let main_cst : FVec F S_ .bf16 := constant S_ .bf16 0xFF80#16
  let main_v0 : FVec F S8x4x2304x256 .bf16 := broadcastInDim S8x4x2304x256 ![] bcast_S_S8x4x2304x256 main_cst
  let main_v1 : IVec S8x4x2304x256 1 := cmpf .ogt main_arg0 main_v0
  let main_cst_0 : FVec F S_ .bf16 := constant S_ .bf16 0x7F80#16
  let main_v2 : FVec F S8x4x2304x256 .bf16 := broadcastInDim S8x4x2304x256 ![] bcast_S_S8x4x2304x256 main_cst_0
  let main_v3 : IVec S8x4x2304x256 1 := cmpf .olt main_arg0 main_v2
  let main_v4 : IVec S8x4x2304x256 1 := andi main_v1 main_v3
  let main_cst_1 : FVec F S_ .bf16 := constant S_ .bf16 0xFF80#16
  let main_v5 : FVec F S8x4x2304x256 .bf16 := broadcastInDim S8x4x2304x256 ![] bcast_S_S8x4x2304x256 main_cst_1
  let main_v6 : IVec S8x4x2304x256 1 := cmpf .ogt main_arg1 main_v5
  let main_cst_2 : FVec F S_ .bf16 := constant S_ .bf16 0x7F80#16
  let main_v7 : FVec F S8x4x2304x256 .bf16 := broadcastInDim S8x4x2304x256 ![] bcast_S_S8x4x2304x256 main_cst_2
  let main_v8 : IVec S8x4x2304x256 1 := cmpf .olt main_arg1 main_v7
  let main_v9 : IVec S8x4x2304x256 1 := andi main_v6 main_v8
  (main_v4, main_v9)
-- ==== Pre_finite_near.lean ====
abbrev S4 : Shape := ⟨1, ![4]⟩
abbrev S8x4x2304x128 : Shape := ⟨4, ![8, 4, 2304, 128]⟩
abbrev S8x2x2304x128 : Shape := ⟨4, ![8, 2, 2304, 128]⟩
abbrev S_ : Shape := ⟨0, ![]⟩

class Facts : Prop where
  bcast_S_S4 : S_.BroadcastsInDim S4 (![] : Fin 0 → Fin S4.rank)
  bcast_S_S8x4x2304x128 : S_.BroadcastsInDim S8x4x2304x128 (![] : Fin 0 → Fin S8x4x2304x128.rank)
  bcast_S_S8x2x2304x128 : S_.BroadcastsInDim S8x2x2304x128 (![] : Fin 0 → Fin S8x2x2304x128.rank)

variable [Facts]

def fn {F : FTy → Type} [FloatOps F] (main_arg0 : FVec F S4 .f32) (main_arg1 : FVec F S8x4x2304x128 .bf16) (main_arg2 : FVec F S8x2x2304x128 .bf16) (main_arg3 : FVec F S8x2x2304x128 .bf16) : IVec S4 1 × IVec S8x4x2304x128 1 × IVec S8x2x2304x128 1 :=
  let main_cst : FVec F S_ .f32 := constant S_ .f32 0x7F800000#32
  let main_v0 : FVec F S4 .f32 := broadcastInDim S4 ![] bcast_S_S4 main_cst
  let main_v1 : IVec S4 1 := cmpf .olt main_arg0 main_v0
  let main_cst_0 : FVec F S_ .bf16 := constant S_ .bf16 0xFF80#16
  let main_v2 : FVec F S8x4x2304x128 .bf16 := broadcastInDim S8x4x2304x128 ![] bcast_S_S8x4x2304x128 main_cst_0
  let main_v3 : IVec S8x4x2304x128 1 := cmpf .ogt main_arg1 main_v2
  let main_cst_1 : FVec F S_ .bf16 := constant S_ .bf16 0x7F80#16
  let main_v4 : FVec F S8x4x2304x128 .bf16 := broadcastInDim S8x4x2304x128 ![] bcast_S_S8x4x2304x128 main_cst_1
  let main_v5 : IVec S8x4x2304x128 1 := cmpf .olt main_arg1 main_v4
  let main_v6 : IVec S8x4x2304x128 1 := andi main_v3 main_v5
  let main_cst_2 : FVec F S_ .bf16 := constant S_ .bf16 0xFF80#16
  let main_v7 : FVec F S8x2x2304x128 .bf16 := broadcastInDim S8x2x2304x128 ![] bcast_S_S8x2x2304x128 main_cst_2
  let main_v8 : IVec S8x2x2304x128 1 := cmpf .ogt main_arg2 main_v7
  let main_cst_3 : FVec F S_ .bf16 := constant S_ .bf16 0x7F80#16
  let main_v9 : FVec F S8x2x2304x128 .bf16 := broadcastInDim S8x2x2304x128 ![] bcast_S_S8x2x2304x128 main_cst_3
  let main_v10 : IVec S8x2x2304x128 1 := cmpf .olt main_arg2 main_v9
  let main_v11 : IVec S8x2x2304x128 1 := andi main_v8 main_v10
  (main_v1, main_v6, main_v11)
-- ==== Pre_finite_near_first.lean ====
abbrev S4 : Shape := ⟨1, ![4]⟩
abbrev S8x4x2304x128 : Shape := ⟨4, ![8, 4, 2304, 128]⟩
abbrev S8x2x2304x128 : Shape := ⟨4, ![8, 2, 2304, 128]⟩
abbrev S_ : Shape := ⟨0, ![]⟩

class Facts : Prop where
  bcast_S_S4 : S_.BroadcastsInDim S4 (![] : Fin 0 → Fin S4.rank)
  bcast_S_S8x4x2304x128 : S_.BroadcastsInDim S8x4x2304x128 (![] : Fin 0 → Fin S8x4x2304x128.rank)
  bcast_S_S8x2x2304x128 : S_.BroadcastsInDim S8x2x2304x128 (![] : Fin 0 → Fin S8x2x2304x128.rank)

variable [Facts]

def fn {F : FTy → Type} [FloatOps F] (main_arg0 : FVec F S4 .f32) (main_arg1 : FVec F S8x4x2304x128 .bf16) (main_arg2 : FVec F S8x2x2304x128 .bf16) (main_arg3 : FVec F S8x2x2304x128 .bf16) : IVec S4 1 × IVec S8x4x2304x128 1 × IVec S8x2x2304x128 1 :=
  let main_cst : FVec F S_ .f32 := constant S_ .f32 0x7F800000#32
  let main_v0 : FVec F S4 .f32 := broadcastInDim S4 ![] bcast_S_S4 main_cst
  let main_v1 : IVec S4 1 := cmpf .olt main_arg0 main_v0
  let main_cst_0 : FVec F S_ .bf16 := constant S_ .bf16 0xFF80#16
  let main_v2 : FVec F S8x4x2304x128 .bf16 := broadcastInDim S8x4x2304x128 ![] bcast_S_S8x4x2304x128 main_cst_0
  let main_v3 : IVec S8x4x2304x128 1 := cmpf .ogt main_arg1 main_v2
  let main_cst_1 : FVec F S_ .bf16 := constant S_ .bf16 0x7F80#16
  let main_v4 : FVec F S8x4x2304x128 .bf16 := broadcastInDim S8x4x2304x128 ![] bcast_S_S8x4x2304x128 main_cst_1
  let main_v5 : IVec S8x4x2304x128 1 := cmpf .olt main_arg1 main_v4
  let main_v6 : IVec S8x4x2304x128 1 := andi main_v3 main_v5
  let main_cst_2 : FVec F S_ .bf16 := constant S_ .bf16 0xFF80#16
  let main_v7 : FVec F S8x2x2304x128 .bf16 := broadcastInDim S8x2x2304x128 ![] bcast_S_S8x2x2304x128 main_cst_2
  let main_v8 : IVec S8x2x2304x128 1 := cmpf .ogt main_arg2 main_v7
  let main_cst_3 : FVec F S_ .bf16 := constant S_ .bf16 0x7F80#16
  let main_v9 : FVec F S8x2x2304x128 .bf16 := broadcastInDim S8x2x2304x128 ![] bcast_S_S8x2x2304x128 main_cst_3
  let main_v10 : IVec S8x2x2304x128 1 := cmpf .olt main_arg2 main_v9
  let main_v11 : IVec S8x2x2304x128 1 := andi main_v8 main_v10
  (main_v1, main_v6, main_v11)
-- ==== Pre_routed.lean ====
abbrev S320 : Shape := ⟨1, ![320]⟩
abbrev S1 : Shape := ⟨1, ![1]⟩
abbrev S81920x1024 : Shape := ⟨2, ![81920, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S1_S320_0 : S1.BroadcastsInDim S320 (![0] : Fin 1 → Fin S320.rank)
  bcast_S_S320 : S_.BroadcastsInDim S320 (![] : Fin 0 → Fin S320.rank)

variable [Facts]

def fn {F : FTy → Type} [FloatOps F] (main_arg0 : IVec S320 32) (main_arg1 : IVec S320 32) (main_arg2 : IVec S1 32) (main_arg3 : FVec F S81920x1024 .f32) (main_arg4 : FVec F S32x1024x1024 .bf16) (main_arg5 : FVec F S32x1024x1024 .bf16) (main_arg6 : FVec F S32x1x1024 .f32) (main_arg7 : FVec F S32x1x1024 .f32) (main_arg8 : FVec F S32x1024x1024 .bf16) (main_arg9 : FVec F S32x1x1024 .f32) : IVec S320 1 :=
  let main_v0 : IVec S320 32 := iotaInDim S320 32 0
  let main_v1 : IVec S320 32 := broadcastInDim S320 ![0] bcast_S1_S320_0 main_arg2
  let main_c : IVec S_ 32 := constantI S_ 32 0#32
  let main_v2 : IVec S320 32 := broadcastInDim S320 ![] bcast_S_S320 main_c
  let main_v3 : IVec S320 1 := cmpi .sge main_arg0 main_v2
  let main_c_0 : IVec S_ 32 := constantI S_ 32 32#32
  let main_v4 : IVec S320 32 := broadcastInDim S320 ![] bcast_S_S320 main_c_0
  let main_v5 : IVec S320 1 := cmpi .slt main_arg0 main_v4
  let main_v6 : IVec S320 1 := andi main_v3 main_v5
  let main_c_1 : IVec S_ 32 := constantI S_ 32 0#32
  let main_v7 : IVec S320 32 := broadcastInDim S320 ![] bcast_S_S320 main_c_1
  let main_v8 : IVec S320 1 := cmpi .sge main_arg1 main_v7
  let main_v9 : IVec S320 1 := andi main_v6 main_v8
  let main_c_2 : IVec S_ 32 := constantI S_ 32 320#32
  let main_v10 : IVec S320 32 := broadcastInDim S320 ![] bcast_S_S320 main_c_2
  let main_v11 : IVec S320 1 := cmpi .slt main_arg1 main_v10
  let main_v12 : IVec S320 1 := andi main_v9 main_v11
  let main_v13 : IVec S320 1 := cmpi .eq main_arg1 main_v0
  let main_v14 : IVec S320 1 := cmpi .sge main_v0 main_v1
  let main_v15 : IVec S320 1 := ori main_v13 main_v14
  let main_v16 : IVec S320 1 := andi main_v12 main_v15
  main_v16
-- ==== Pre_routed_last.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S1_S288_0 : S1.BroadcastsInDim S288 (![0] : Fin 1 → Fin S288.rank)
  bcast_S_S288 : S_.BroadcastsInDim S288 (![] : Fin 0 → Fin S288.rank)

variable [Facts]

def fn {F : FTy → Type} [FloatOps F] (main_arg0 : IVec S288 32) (main_arg1 : IVec S288 32) (main_arg2 : IVec S1 32) (main_arg3 : FVec F S73728x1024 .f32) (main_arg4 : FVec F S32x1024x1024 .bf16) (main_arg5 : FVec F S32x1024x1024 .bf16) (main_arg6 : FVec F S32x1x1024 .f32) (main_arg7 : FVec F S32x1x1024 .f32) (main_arg8 : FVec F S32x1024x1024 .bf16) (main_arg9 : FVec F S32x1x1024 .f32) : IVec S288 1 :=
  let main_v0 : IVec S288 32 := iotaInDim S288 32 0
  let main_v1 : IVec S288 32 := broadcastInDim S288 ![0] bcast_S1_S288_0 main_arg2
  let main_c : IVec S_ 32 := constantI S_ 32 0#32
  let main_v2 : IVec S288 32 := broadcastInDim S288 ![] bcast_S_S288 main_c
  let main_v3 : IVec S288 1 := cmpi .sge main_arg0 main_v2
  let main_c_0 : IVec S_ 32 := constantI S_ 32 32#32
  let main_v4 : IVec S288 32 := broadcastInDim S288 ![] bcast_S_S288 main_c_0
  let main_v5 : IVec S288 1 := cmpi .slt main_arg0 main_v4
  let main_v6 : IVec S288 1 := andi main_v3 main_v5
  let main_c_1 : IVec S_ 32 := constantI S_ 32 0#32
  let main_v7 : IVec S288 32 := broadcastInDim S288 ![] bcast_S_S288 main_c_1
  let main_v8 : IVec S288 1 := cmpi .sge main_arg1 main_v7
  let main_v9 : IVec S288 1 := andi main_v6 main_v8
  let main_c_2 : IVec S_ 32 := constantI S_ 32 288#32
  let main_v10 : IVec S288 32 := broadcastInDim S288 ![] bcast_S_S288 main_c_2
  let main_v11 : IVec S288 1 := cmpi .slt main_arg1 main_v10
  let main_v12 : IVec S288 1 := andi main_v9 main_v11
  let main_v13 : IVec S288 1 := cmpi .eq main_arg1 main_v0
  let main_v14 : IVec S288 1 := cmpi .sge main_v0 main_v1
  let main_v15 : IVec S288 1 := ori main_v13 main_v14
  let main_v16 : IVec S288 1 := andi main_v12 main_v15
  main_v16
-- ==== Mla.lean ====
abbrev S8x4x2304x256 : Shape := ⟨4, ![8, 4, 2304, 256]⟩
abbrev S8x4x2304x128 : Shape := ⟨4, ![8, 4, 2304, 128]⟩
abbrev S8x2048x512 : Shape := ⟨3, ![8, 2048, 512]⟩
abbrev S1x4x256x256 : Shape := ⟨4, ![1, 4, 256, 256]⟩
abbrev S1x4x2304x256 : Shape := ⟨4, ![1, 4, 2304, 256]⟩
abbrev S1x4x2304x128 : Shape := ⟨4, ![1, 4, 2304, 128]⟩
abbrev S1x256x512 : Shape := ⟨3, ![1, 256, 512]⟩
abbrev S1x1x256x256 : Shape := ⟨4, ![1, 1, 256, 256]⟩
abbrev S256x256 : Shape := ⟨2, ![256, 256]⟩
abbrev S1x1x2304x256 : Shape := ⟨4, ![1, 1, 2304, 256]⟩
abbrev S2304x256 : Shape := ⟨2, ![2304, 256]⟩
abbrev S1x1x2304x128 : Shape := ⟨4, ![1, 1, 2304, 128]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x4x2304x256, .bf16⟩
  | .hbm, ⟨1, _⟩ => ⟨S8x4x2304x256, .bf16⟩
  | .hbm, ⟨2, _⟩ => ⟨S8x4x2304x128, .bf16⟩
  | .hbm, ⟨3, _⟩ => ⟨S8x2048x512, .bf16⟩
  | .local _ .vmem, ⟨0, _⟩ => ⟨S1x4x256x256, .bf16⟩
  | .local _ .vmem, ⟨1, _⟩ => ⟨S1x4x256x256, .bf16⟩
  | .local _ .vmem, ⟨2, _⟩ => ⟨S1x4x2304x256, .bf16⟩
  | .local _ .vmem, ⟨3, _⟩ => ⟨S1x4x2304x256, .bf16⟩
  | .local _ .vmem, ⟨4, _⟩ => ⟨S1x4x2304x128, .bf16⟩
  | .local _ .vmem, ⟨5, _⟩ => ⟨S1x4x2304x128, .bf16⟩
  | .local _ .vmem, ⟨6, _⟩ => ⟨S1x256x512, .bf16⟩
  | .local _ .vmem, ⟨7, _⟩ => ⟨S1x256x512, .bf16⟩
  | _, _ => ⟨S8x4x2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaRefIdeal.lean ====
abbrev S8x4x2304x256 : Shape := ⟨4, ![8, 4, 2304, 256]⟩
abbrev S8x4x2304x128 : Shape := ⟨4, ![8, 4, 2304, 128]⟩
abbrev S8x4x2048x256 : Shape := ⟨4, ![8, 4, 2048, 256]⟩
abbrev S8x4x2048x2304 : Shape := ⟨4, ![8, 4, 2048, 2304]⟩
abbrev S_ : Shape := ⟨0, ![]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩
abbrev S8x2048x512 : Shape := ⟨3, ![8, 2048, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x4x2304x256, .bf16⟩
  | .hbm, ⟨1, _⟩ => ⟨S8x4x2304x256, .bf16⟩
  | .hbm, ⟨2, _⟩ => ⟨S8x4x2304x128, .bf16⟩
  | .hbm, ⟨3, _⟩ => ⟨S8x4x2048x256, .bf16⟩
  | .hbm, ⟨4, _⟩ => ⟨S8x4x2048x256, .f32⟩
  | .hbm, ⟨5, _⟩ => ⟨S8x4x2304x256, .f32⟩
  | .hbm, ⟨6, _⟩ => ⟨S8x4x2304x128, .f32⟩
  | .hbm, ⟨7, _⟩ => ⟨S8x4x2048x2304, .f32⟩
  | .hbm, ⟨8, _⟩ => ⟨S_, .f32⟩
  | .hbm, ⟨9, _⟩ => ⟨S8x4x2048, .f32⟩
  | .hbm, ⟨10, _⟩ => ⟨S_, .f32⟩
  | .hbm, ⟨11, _⟩ => ⟨S8x4x2048, .f32⟩
  | .hbm, ⟨12, _⟩ => ⟨S8x4x2048, .f32⟩
  | .hbm, ⟨13, _⟩ => ⟨S8x4x2048x1, .f32⟩
  | .hbm, ⟨14, _⟩ => ⟨S8x4x2048x2304, .f32⟩
  | .hbm, ⟨15, _⟩ => ⟨S8x4x2048x2304, .f32⟩
  | .hbm, ⟨16, _⟩ => ⟨S8x4x2048x2304, .f32⟩
  | .hbm, ⟨17, _⟩ => ⟨S_, .f32⟩
  | .hbm, ⟨18, _⟩ => ⟨S8x4x2048, .f32⟩
  | .hbm, ⟨19, _⟩ => ⟨S8x4x2048x1, .f32⟩
  | .hbm, ⟨20, _⟩ => ⟨S8x4x2048x2304, .f32⟩
  | .hbm, ⟨21, _⟩ => ⟨S8x4x2048x2304, .f32⟩
  | .hbm, ⟨22, _⟩ => ⟨S8x4x128x2048, .f32⟩
  | .hbm, ⟨23, _⟩ => ⟨S8x2048x4x128, .f32⟩
  | .hbm, ⟨24, _⟩ => ⟨S8x2048x512, .f32⟩
  | .hbm, ⟨25, _⟩ => ⟨S8x2048x512, .bf16⟩
  | _, _ => ⟨S8x4x2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Experts.lean ====
abbrev S320 : Shape := ⟨1, ![320]⟩
abbrev S1 : Shape := ⟨1, ![1]⟩
abbrev S81920x1024 : Shape := ⟨2, ![81920, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 3
  | _ => 0

abbrev bufTy : (tb : Table) → Fin (tcTables nBuf tb) → BufTy
  | .hbm, ⟨0, _⟩ => ⟨S81920x1024, .f32⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S81920x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S320, .i32⟩
  | .local _ .smem, ⟨1, _⟩ => ⟨S320, .i32⟩
  | .local _ .smem, ⟨2, _⟩ => ⟨S1, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![320], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S320.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S320) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S320.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S320) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S320 : Shape := ⟨1, ![320]⟩
abbrev S1 : Shape := ⟨1, ![1]⟩
abbrev S81920x1024 : Shape := ⟨2, ![81920, 1024]⟩
abbrev S32x1024x1024 : Shape := ⟨3, ![32, 1024, 1024]⟩
abbrev S32x1x1024 : Shape := ⟨3, ![32, 1, 1024]⟩
abbrev S320x256x1024 : Shape := ⟨3, ![320, 256, 1024]⟩
abbrev S320x1 : Shape := ⟨2, ![320, 1]⟩
abbrev S320x1024x1024 : Shape := ⟨3, ![320, 1024, 1024]⟩
abbrev S320x1x1024 : Shape := ⟨3, ![320, 1, 1024]⟩
abbrev S_ : Shape := ⟨0, ![]⟩
abbrev S320x1x1 : Shape := ⟨3, ![320, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S320, .i32⟩
  | .hbm, ⟨1, _⟩ => ⟨S320, .i32⟩
  | .hbm, ⟨2, _⟩ => ⟨S1, .i32⟩
  | .hbm, ⟨3, _⟩ => ⟨S81920x1024, .f32⟩
  | .hbm, ⟨4, _⟩ => ⟨S32x1024x1024, .bf16⟩
  | .hbm, ⟨5, _⟩ => ⟨S32x1024x1024, .bf16⟩
  | .hbm, ⟨6, _⟩ => ⟨S32x1x1024, .f32⟩
  | .hbm, ⟨7, _⟩ => ⟨S32x1x1024, .f32⟩
  | .hbm, ⟨8, _⟩ => ⟨S32x1024x1024, .bf16⟩
  | .hbm, ⟨9, _⟩ => ⟨S32x1x1024, .f32⟩
  | .hbm, ⟨10, _⟩ => ⟨S320x256x1024, .f32⟩
  | .hbm, ⟨11, _⟩ => ⟨S320x1, .i32⟩
  | .hbm, ⟨12, _⟩ => ⟨S320x1024x1024, .bf16⟩
  | .hbm, ⟨13, _⟩ => ⟨S320x1024x1024, .f32⟩
  | .hbm, ⟨14, _⟩ => ⟨S320x1, .i32⟩
  | .hbm, ⟨15, _⟩ => ⟨S320x1024x1024, .bf16⟩
  | .hbm, ⟨16, _⟩ => ⟨S320x1024x1024, .f32⟩
  | .hbm, ⟨17, _⟩ => ⟨S320x1, .i32⟩
  | .hbm, ⟨18, _⟩ => ⟨S320x1024x1024, .bf16⟩
  | .hbm, ⟨19, _⟩ => ⟨S320x1024x1024, .f32⟩
  | .hbm, ⟨20, _⟩ => ⟨S320x256x1024, .f32⟩
  | .hbm, ⟨21, _⟩ => ⟨S320x1, .i32⟩
  | .hbm, ⟨22, _⟩ => ⟨S320x1x1024, .f32⟩
  | .hbm, ⟨23, _⟩ => ⟨S320x256x1024, .f32⟩
  | .hbm, ⟨24, _⟩ => ⟨S320x256x1024, .f32⟩
  | .hbm, ⟨25, _⟩ => ⟨S_, .f32⟩
  | .hbm, ⟨26, _⟩ => ⟨S320x256x1024, .f32⟩
  | .hbm, ⟨27, _⟩ => ⟨S320x256x1024, .f32⟩
  | .hbm, ⟨28, _⟩ => ⟨S320x256x1024, .f32⟩
  | .hbm, ⟨29, _⟩ => ⟨S320x1, .i32⟩
  | .hbm, ⟨30, _⟩ => ⟨S320x1x1024, .f32⟩
  | .hbm, ⟨31, _⟩ => ⟨S320x256x1024, .f32⟩
  | .hbm, ⟨32, _⟩ => ⟨S320x256x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S320x256x1024, .f32⟩
  | .hbm, ⟨37, _⟩ => ⟨S320x256x1024, .f32⟩
  | .hbm, ⟨38, _⟩ => ⟨S_, .f32⟩
  | .hbm, ⟨39, _⟩ => ⟨S320x256x1024, .f32⟩
  | .hbm, ⟨40, _⟩ => ⟨S320x256x1024, .f32⟩
  | .hbm, ⟨41, _⟩ => ⟨S_, .f32⟩
  | .hbm, ⟨42, _⟩ => ⟨S320x256x1024, .f32⟩
  | .hbm, ⟨43, _⟩ => ⟨S320x256x1024, .f32⟩
  | .hbm, ⟨44, _⟩ => ⟨S320x256x1024, .f32⟩
  | .hbm, ⟨45, _⟩ => ⟨S320x256x1024, .f32⟩
  | .hbm, ⟨46, _⟩ => ⟨S_, .f32⟩
  | .hbm, ⟨47, _⟩ => ⟨S320x256x1024, .f32⟩
  | .hbm, ⟨48, _⟩ => ⟨S320x256x1024, .f32⟩
  | .hbm, ⟨49, _⟩ => ⟨S_, .f32⟩
  | .hbm, ⟨50, _⟩ => ⟨S320x256x1024, .f32⟩
  | .hbm, ⟨51, _⟩ => ⟨S320x256x1024, .f32⟩
  | .hbm, ⟨52, _⟩ => ⟨S320x256x1024, .f32⟩
  | .hbm, ⟨53, _⟩ => ⟨S_, .f32⟩
  | .hbm, ⟨54, _⟩ => ⟨S320x256x1024, .f32⟩
  | .hbm, ⟨55, _⟩ => ⟨S320x256x1024, .f32⟩
  | .hbm, ⟨56, _⟩ => ⟨S320x256x1024, .f32⟩
  | .hbm, ⟨57, _⟩ => ⟨S320x256x1024, .f32⟩
  | .hbm, ⟨58, _⟩ => ⟨S320x1, .i32⟩
  | .hbm, ⟨59, _⟩ => ⟨S320x1x1024, .f32⟩
  | .hbm, ⟨60, _⟩ => ⟨S320x256x1024, .f32⟩
  | .hbm, ⟨61, _⟩ => ⟨S320x256x1024, .f32⟩
  | .hbm, ⟨62, _⟩ => ⟨S320, .i32⟩
  | .hbm, ⟨63, _⟩ => ⟨S320, .i32⟩
  | .hbm, ⟨64, _⟩ => ⟨S320, .i1⟩
  | .hbm, ⟨65, _⟩ => ⟨S320x1x1, .i1⟩
  | .hbm, ⟨66, _⟩ => ⟨S_, .f32⟩
  | .hbm, ⟨67, _⟩ => ⟨S_, .f32⟩
  | .hbm, ⟨68, _⟩ => ⟨S320x256x1024, .i1⟩
  | .hbm, ⟨69, _⟩ => ⟨S320x256x1024, .f32⟩
  | .hbm, ⟨70, _⟩ => ⟨S320x256x1024, .f32⟩
  | .hbm, ⟨71, _⟩ => ⟨S81920x1024, .f32⟩
  | _, _ => ⟨S320, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call4_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_cst_1 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call6_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== ExpertsLast.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 16
  | .smem => 3
  | _ => 0

abbrev bufTy : (tb : Table) → Fin (tcTables nBuf tb) → BufTy
  | .hbm, ⟨0, _⟩ => ⟨S73728x1024, .f32⟩
  | .hbm, ⟨1, _⟩ => ⟨S32x1024x1024, .bf16⟩
  | .hbm, ⟨2, _⟩ => ⟨S32x1024x1024, .bf16⟩
  | .hbm, ⟨3, _⟩ => ⟨S32x1x1024, .f32⟩
  | .hbm, ⟨4, _⟩ => ⟨S32x1x1024, .f32⟩
  | .hbm, ⟨5, _⟩ => ⟨S32x1024x1024, .bf16⟩
  | .hbm, ⟨6, _⟩ => ⟨S32x1x1024, .f32⟩
  | .hbm, ⟨7, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .smem, ⟨0, _⟩ => ⟨S288, .i32⟩
  | .local _ .smem, ⟨1, _⟩ => ⟨S288, .i32⟩
  | .local _ .smem, ⟨2, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_arg9 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![288], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S288.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S288) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsLastRefIdeal.lean ====
abbrev S288 : Shape := ⟨1, ![288]⟩
abbrev S1 : Shape := ⟨1, ![1]⟩
abbrev S73728x1024 : Shape := ⟨2, ![73728, 1024]⟩
abbrev S32x1024x1024 : Shape := ⟨3, ![32, 1024, 1024]⟩
abbrev S32x1x1024 : Shape := ⟨3, ![32, 1, 1024]⟩
abbrev S288x256x1024 : Shape := ⟨3, ![288, 256, 1024]⟩
abbrev S288x1 : Shape := ⟨2, ![288, 1]⟩
abbrev S288x1024x1024 : Shape := ⟨3, ![288, 1024, 1024]⟩
abbrev S288x1x1024 : Shape := ⟨3, ![288, 1, 1024]⟩
abbrev S_ : Shape := ⟨0, ![]⟩
abbrev S288x1x1 : Shape := ⟨3, ![288, 1, 1]⟩

abbrev nBuf : Space → Nat
  | .hbm => 72
  | .vmem => 0
  | .smem => 0
  | _ => 0

abbrev bufTy : (tb : Table) → Fin (tcTables nBuf tb) → BufTy
  | .hbm, ⟨0, _⟩ => ⟨S288, .i32⟩
  | .hbm, ⟨1, _⟩ => ⟨S288, .i32⟩
  | .hbm, ⟨2, _⟩ => ⟨S1, .i32⟩
  | .hbm, ⟨3, _⟩ => ⟨S73728x1024, .f32⟩
  | .hbm, ⟨4, _⟩ => ⟨S32x1024x1024, .bf16⟩
  | .hbm, ⟨5, _⟩ => ⟨S32x1024x1024, .bf16⟩
  | .hbm, ⟨6, _⟩ => ⟨S32x1x1024, .f32⟩
  | .hbm, ⟨7, _⟩ => ⟨S32x1x1024, .f32⟩
  | .hbm, ⟨8, _⟩ => ⟨S32x1024x1024, .bf16⟩
  | .hbm, ⟨9, _⟩ => ⟨S32x1x1024, .f32⟩
  | .hbm, ⟨10, _⟩ => ⟨S288x256x1024, .f32⟩
  | .hbm, ⟨11, _⟩ => ⟨S288x1, .i32⟩
  | .hbm, ⟨12, _⟩ => ⟨S288x1024x1024, .bf16⟩
  | .hbm, ⟨13, _⟩ => ⟨S288x1024x1024, .f32⟩
  | .hbm, ⟨14, _⟩ => ⟨S288x1, .i32⟩
  | .hbm, ⟨15, _⟩ => ⟨S288x1024x1024, .bf16⟩
  | .hbm, ⟨16, _⟩ => ⟨S288x1024x1024, .f32⟩
  | .hbm, ⟨17, _⟩ => ⟨S288x1, .i32⟩
  | .hbm, ⟨18, _⟩ => ⟨S288x1024x1024, .bf16⟩
  | .hbm, ⟨19, _⟩ => ⟨S288x1024x1024, .f32⟩
  | .hbm, ⟨20, _⟩ => ⟨S288x256x1024, .f32⟩
  | .hbm, ⟨21, _⟩ => ⟨S288x1, .i32⟩
  | .hbm, ⟨22, _⟩ => ⟨S288x1x1024, .f32⟩
  | .hbm, ⟨23, _⟩ => ⟨S288x256x1024, .f32⟩
  | .hbm, ⟨24, _⟩ => ⟨S288x256x1024, .f32⟩
  | .hbm, ⟨25, _⟩ => ⟨S_, .f32⟩
  | .hbm, ⟨26, _⟩ => ⟨S288x256x1024, .f32⟩
  | .hbm, ⟨27, _⟩ => ⟨S288x256x1024, .f32⟩
  | .hbm, ⟨28, _⟩ => ⟨S288x256x1024, .f32⟩
  | .hbm, ⟨29, _⟩ => ⟨S288x1, .i32⟩
  | .hbm, ⟨30, _⟩ => ⟨S288x1x1024, .f32⟩
  | .hbm, ⟨31, _⟩ => ⟨S288x256x1024, .f32⟩
  | .hbm, ⟨32, _⟩ => ⟨S288x256x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S288x256x1024, .f32⟩
  | .hbm, ⟨37, _⟩ => ⟨S288x256x1024, .f32⟩
  | .hbm, ⟨38, _⟩ => ⟨S_, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S288x256x1024, .f32⟩
  | .hbm, ⟨45, _⟩ => ⟨S288x256x1024, .f32⟩
  | .hbm, ⟨46, _⟩ => ⟨S_, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S288x256x1024, .f32⟩
  | .hbm, ⟨53, _⟩ => ⟨S_, .f32⟩
  | .hbm, ⟨54, _⟩ => ⟨S288x256x1024, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S288x1, .i32⟩
  | .hbm, ⟨59, _⟩ => ⟨S288x1x1024, .f32⟩
  | .hbm, ⟨60, _⟩ => ⟨S288x256x1024, .f32⟩
  | .hbm, ⟨61, _⟩ => ⟨S288x256x1024, .f32⟩
  | .hbm, ⟨62, _⟩ => ⟨S288, .i32⟩
  | .hbm, ⟨63, _⟩ => ⟨S288, .i32⟩
  | .hbm, ⟨64, _⟩ => ⟨S288, .i1⟩
  | .hbm, ⟨65, _⟩ => ⟨S288x1x1, .i1⟩
  | .hbm, ⟨66, _⟩ => ⟨S_, .f32⟩
  | .hbm, ⟨67, _⟩ => ⟨S_, .f32⟩
  | .hbm, ⟨68, _⟩ => ⟨S288x256x1024, .i1⟩
  | .hbm, ⟨69, _⟩ => ⟨S288x256x1024, .f32⟩
  | .hbm, ⟨70, _⟩ => ⟨S288x256x1024, .f32⟩
  | .hbm, ⟨71, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call4_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_cst_1 : Ref sig .tc := ⟨.hbm, 34, rfl⟩
abbrev main_call5_v0 : Ref sig .tc := ⟨.hbm, 35, rfl⟩
abbrev main_call5_v1 : Ref sig .tc := ⟨.hbm, 36, rfl⟩
abbrev main_call5_v2 : Ref sig .tc := ⟨.hbm, 37, rfl⟩
abbrev main_call5_v3 : Ref sig .tc := ⟨.hbm, 38, rfl⟩
abbrev main_call5_v4 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call6_v0 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_call7_v0 : Ref sig .tc := ⟨.hbm, 67, rfl⟩
abbrev main_call7_v1 : Ref sig .tc := ⟨.hbm, 68, rfl⟩
abbrev main_call7_v2 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]
-- ==== MlaFirst.lean ====
abbrev S8x4x2304x256 : Shape := ⟨4, ![8, 4, 2304, 256]⟩
abbrev S8x4x2304x128 : Shape := ⟨4, ![8, 4, 2304, 128]⟩
abbrev S8x2304x512 : Shape := ⟨3, ![8, 2304, 512]⟩
abbrev S1x4x256x256 : Shape := ⟨4, ![1, 4, 256, 256]⟩
abbrev S1x4x2304x256 : Shape := ⟨4, ![1, 4, 2304, 256]⟩
abbrev S1x4x2304x128 : Shape := ⟨4, ![1, 4, 2304, 128]⟩
abbrev S1x256x512 : Shape := ⟨3, ![1, 256, 512]⟩
abbrev S1x1x256x256 : Shape := ⟨4, ![1, 1, 256, 256]⟩
abbrev S256x256 : Shape := ⟨2, ![256, 256]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S1x1x2304x256 : Shape := ⟨4, ![1, 1, 2304, 256]⟩
abbrev S2304x256 : Shape := ⟨2, ![2304, 256]⟩
abbrev S1x1x2304x128 : Shape := ⟨4, ![1, 1, 2304, 128]⟩
abbrev S2304x128 : Shape := ⟨2, ![2304, 128]⟩
abbrev S256x2304 : Shape := ⟨2, ![256, 2304]⟩

abbrev nBuf : Space → Nat
  | .hbm => 4
  | .vmem => 8
  | .smem => 0
  | _ => 0

abbrev bufTy : (tb : Table) → Fin (tcTables nBuf tb) → BufTy
  | .hbm, ⟨0, _⟩ => ⟨S8x4x2304x256, .bf16⟩
  | .hbm, ⟨1, _⟩ => ⟨S8x4x2304x256, .bf16⟩
  | .hbm, ⟨2, _⟩ => ⟨S8x4x2304x128, .bf16⟩
  | .hbm, ⟨3, _⟩ => ⟨S8x2304x512, .bf16⟩
  | .local _ .vmem, ⟨0, _⟩ => ⟨S1x4x256x256, .bf16⟩
  | .local _ .vmem, ⟨1, _⟩ => ⟨S1x4x256x256, .bf16⟩
  | .local _ .vmem, ⟨2, _⟩ => ⟨S1x4x2304x256, .bf16⟩
  | .local _ .vmem, ⟨3, _⟩ => ⟨S1x4x2304x256, .bf16⟩
  | .local _ .vmem, ⟨4, _⟩ => ⟨S1x4x2304x128, .bf16⟩
  | .local _ .vmem, ⟨5, _⟩ => ⟨S1x4x2304x128, .bf16⟩
  | .local _ .vmem, ⟨6, _⟩ => ⟨S1x256x512, .bf16⟩
  | .local _ .vmem, ⟨7, _⟩ => ⟨S1x256x512, .bf16⟩
  | _, _ => ⟨S8x4x2304x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_cond2 (i : grid0.Coords) : BitVec 1 :=
  let arg1 : BitVec 32 := BitVec.ofNat 32 (i 1).val
  let c0_i32 : BitVec 32 := 0#32
  let v0 : BitVec 32 := Scalar.addi arg1 c0_i32
  let c0_i32_2 : BitVec 32 := 0#32
  let v4 : BitVec 1 := Scalar.cmpi .sgt v0 c0_i32_2
  let v5 : BitVec 32 := Scalar.extui v4
  let c0_i32_3 : BitVec 32 := 0#32
  let v6 : BitVec 1 := Scalar.cmpi .ne v5 c0_i32_3
  v6

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x2304x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaFirstRefIdeal.lean ====
abbrev S8x4x2304x256 : Shape := ⟨4, ![8, 4, 2304, 256]⟩
abbrev S8x4x2304x128 : Shape := ⟨4, ![8, 4, 2304, 128]⟩
abbrev S8x4x256x256 : Shape := ⟨4, ![8, 4, 256, 256]⟩
abbrev S_ : Shape := ⟨0, ![]⟩
abbrev S8x4x256 : Shape := ⟨3, ![8, 4, 256]⟩
abbrev S8x4x256x1 : Shape := ⟨4, ![8, 4, 256, 1]⟩
abbrev S8x4x256x128 : Shape := ⟨4, ![8, 4, 256, 128]⟩
abbrev S8x4x128x256 : Shape := ⟨4, ![8, 4, 128, 256]⟩
abbrev S8x256x4x128 : Shape := ⟨4, ![8, 256, 4, 128]⟩
abbrev S8x4x2048x256 : Shape := ⟨4, ![8, 4, 2048, 256]⟩
abbrev S8x4x2048x2304 : Shape := ⟨4, ![8, 4, 2048, 2304]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4x128 : Shape := ⟨4, ![8, 2048, 4, 128]⟩
abbrev S8x256x512 : Shape := ⟨3, ![8, 256, 512]⟩
abbrev S8x2048x512 : Shape := ⟨3, ![8, 2048, 512]⟩
abbrev S8x2304x512 : Shape := ⟨3, ![8, 2304, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x4x2304x256, .bf16⟩
  | .hbm, ⟨1, _⟩ => ⟨S8x4x2304x256, .bf16⟩
  | .hbm, ⟨2, _⟩ => ⟨S8x4x2304x128, .bf16⟩
  | .hbm, ⟨3, _⟩ => ⟨S8x4x2304x256, .f32⟩
  | .hbm, ⟨4, _⟩ => ⟨S8x4x2304x256, .f32⟩
  | .hbm, ⟨5, _⟩ => ⟨S8x4x2304x128, .f32⟩
  | .hbm, ⟨6, _⟩ => ⟨S8x4x256x256, .f32⟩
  | .hbm, ⟨7, _⟩ => ⟨S8x4x256x256, .f32⟩
  | .hbm, ⟨8, _⟩ => ⟨S8x4x256x256, .f32⟩
  | .hbm, ⟨9, _⟩ => ⟨S_, .f32⟩
  | .hbm, ⟨10, _⟩ => ⟨S8x4x256, .f32⟩
  | .hbm, ⟨11, _⟩ => ⟨S_, .f32⟩
  | .hbm, ⟨12, _⟩ => ⟨S8x4x256, .f32⟩
  | .hbm, ⟨13, _⟩ => ⟨S8x4x256, .f32⟩
  | .hbm, ⟨14, _⟩ => ⟨S8x4x256x1, .f32⟩
  | .hbm, ⟨15, _⟩ => ⟨S8x4x256x256, .f32⟩
  | .hbm, ⟨16, _⟩ => ⟨S8x4x256x256, .f32⟩
  | .hbm, ⟨17, _⟩ => ⟨S8x4x256x256, .f32⟩
  | .hbm, ⟨18, _⟩ => ⟨S_, .f32⟩
  | .hbm, ⟨19, _⟩ => ⟨S8x4x256, .f32⟩
  | .hbm, ⟨20, _⟩ => ⟨S8x4x256x1, .f32⟩
  | .hbm, ⟨21, _⟩ => ⟨S8x4x256x256, .f32⟩
  | .hbm, ⟨22, _⟩ => ⟨S8x4x256x256, .f32⟩
  | .hbm, ⟨23, _⟩ => ⟨S8x4x256x128, .f32⟩
  | .hbm, ⟨24, _⟩ => ⟨S8x4x128x256, .f32⟩
  | .hbm, ⟨25, _⟩ => ⟨S8x256x4x128, .f32⟩
  | .hbm, ⟨26, _⟩ => ⟨S8x4x2048x256, .f32⟩
  | .hbm, ⟨27, _⟩ => ⟨S8x4x2048x2304, .f32⟩
  | .hbm, ⟨28, _⟩ => ⟨S_, .f32⟩
  | .hbm, ⟨29, _⟩ => ⟨S8x4x2048, .f32⟩
  | .hbm, ⟨30, _⟩ => ⟨S_, .f32⟩
  | .hbm, ⟨31, _⟩ => ⟨S8x4x2048, .f32⟩
  | .hbm, ⟨32, _⟩ => ⟨S8x4x2048, .f32⟩
  | .hbm, ⟨33, _⟩ => ⟨S8x4x2048x1, .f32⟩
  | .hbm, ⟨34, _⟩ => ⟨S8x4x2048x2304, .f32⟩
  | .hbm, ⟨35, _⟩ => ⟨S8x4x2048x2304, .f32⟩
  | .hbm, ⟨36, _⟩ => ⟨S8x4x2048x2304, .f32⟩
  | .hbm, ⟨37, _⟩ => ⟨S_, .f32⟩
  | .hbm, ⟨38, _⟩ => ⟨S8x4x2048, .f32⟩
  | .hbm, ⟨39, _⟩ => ⟨S8x4x2048x1, .f32⟩
  | .hbm, ⟨40, _⟩ => ⟨S8x4x2048x2304, .f32⟩
  | .hbm, ⟨41, _⟩ => ⟨S8x4x2048x2304, .f32⟩
  | .hbm, ⟨42, _⟩ => ⟨S8x4x128x2048, .f32⟩
  | .hbm, ⟨43, _⟩ => ⟨S8x2048x4x128, .f32⟩
  | .hbm, ⟨44, _⟩ => ⟨S8x256x512, .f32⟩
  | .hbm, ⟨45, _⟩ => ⟨S8x2048x512, .f32⟩
  | .hbm, ⟨46, _⟩ => ⟨S8x2304x512, .f32⟩
  | .hbm, ⟨47, _⟩ => ⟨S8x2304x512, .bf16⟩
  | _, _ => ⟨S8x4x2304x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Prep.lean ====
abbrev S8x2304x1024 : Shape := ⟨3, ![8, 2304, 1024]⟩
abbrev S8x2x6x1024 : Shape := ⟨4, ![8, 2, 6, 1024]⟩
abbrev S1x1024 : Shape := ⟨2, ![1, 1024]⟩
abbrev S1024x2304 : Shape := ⟨2, ![1024, 2304]⟩
abbrev S1x256 : Shape := ⟨2, ![1, 256]⟩
abbrev S256x1024 : Shape := ⟨2, ![256, 1024]⟩
abbrev S1x384 : Shape := ⟨2, ![1, 384]⟩
abbrev S384x1024 : Shape := ⟨2, ![384, 1024]⟩
abbrev S1x128 : Shape := ⟨2, ![1, 128]⟩
abbrev S2304x128 : Shape := ⟨2, ![2304, 128]⟩
abbrev S8x4x2304x256 : Shape := ⟨4, ![8, 4, 2304, 256]⟩
abbrev S8x4x2304x128 : Shape := ⟨4, ![8, 4, 2304, 128]⟩
abbrev S8x2x2304x128 : Shape := ⟨4, ![8, 2, 2304, 128]⟩
abbrev S8x2304x256 : Shape := ⟨3, ![8, 2304, 256]⟩
abbrev S1x256x1024 : Shape := ⟨3, ![1, 256, 1024]⟩
abbrev S1x1x6x1024 : Shape := ⟨4, ![1, 1, 6, 1024]⟩
abbrev S256x128 : Shape := ⟨2, ![256, 128]⟩
abbrev S1x4x256x256 : Shape := ⟨4, ![1, 4, 256, 256]⟩
abbrev S1x4x256x128 : Shape := ⟨4, ![1, 4, 256, 128]⟩
abbrev S1x2x256x128 : Shape := ⟨4, ![1, 2, 256, 128]⟩
abbrev S1x256x256 : Shape := ⟨3, ![1, 256, 256]⟩
abbrev S6x1024 : Shape := ⟨2, ![6, 1024]⟩
abbrev S256 : Shape := ⟨1, ![256]⟩
abbrev S256x1 : Shape := ⟨2, ![256, 1]⟩
abbrev S256x2304 : Shape := ⟨2, ![256, 2304]⟩
abbrev S256x256 : Shape := ⟨2, ![256, 256]⟩
abbrev S1x1x256x128 : Shape := ⟨4, ![1, 1, 256, 128]⟩
abbrev S256x384 : Shape := ⟨2, ![256, 384]⟩

abbrev nBuf : Space → Nat
  | .hbm => 22
  | .vmem => 33
  | .smem => 0
  | _ => 0

abbrev bufTy : (tb : Table) → Fin (tcTables nBuf tb) → BufTy
  | .hbm, ⟨0, _⟩ => ⟨S8x2304x1024, .f32⟩
  | .hbm, ⟨1, _⟩ => ⟨S8x2x6x1024, .f32⟩
  | .hbm, ⟨2, _⟩ => ⟨S1x1024, .f32⟩
  | .hbm, ⟨3, _⟩ => ⟨S1024x2304, .bf16⟩
  | .hbm, ⟨4, _⟩ => ⟨S1x256, .f32⟩
  | .hbm, ⟨5, _⟩ => ⟨S256x1024, .bf16⟩
  | .hbm, ⟨6, _⟩ => ⟨S1x384, .f32⟩
  | .hbm, ⟨7, _⟩ => ⟨S384x1024, .bf16⟩
  | .hbm, ⟨8, _⟩ => ⟨S1x256, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S2304x128, .f32⟩
  | .hbm, ⟨14, _⟩ => ⟨S2304x128, .f32⟩
  | .hbm, ⟨15, _⟩ => ⟨S8x4x2304x256, .bf16⟩
  | .hbm, ⟨16, _⟩ => ⟨S8x4x2304x256, .bf16⟩
  | .hbm, ⟨17, _⟩ => ⟨S8x4x2304x128, .bf16⟩
  | .hbm, ⟨18, _⟩ => ⟨S8x4x2304x128, .bf16⟩
  | .hbm, ⟨19, _⟩ => ⟨S8x2x2304x128, .bf16⟩
  | .hbm, ⟨20, _⟩ => ⟨S8x2x2304x128, .bf16⟩
  | .hbm, ⟨21, _⟩ => ⟨S8x2304x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2304, .bf16⟩
  | .local _ .vmem, ⟨6, _⟩ => ⟨S1x256, .f32⟩
  | .local _ .vmem, ⟨7, _⟩ => ⟨S256x1024, .bf16⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S1x4x256x256, .bf16⟩
  | .local _ .vmem, ⟨20, _⟩ => ⟨S1x4x256x256, .bf16⟩
  | .local _ .vmem, ⟨21, _⟩ => ⟨S1x4x256x256, .bf16⟩
  | .local _ .vmem, ⟨22, _⟩ => ⟨S1x4x256x256, .bf16⟩
  | .local _ .vmem, ⟨23, _⟩ => ⟨S1x4x256x128, .bf16⟩
  | .local _ .vmem, ⟨24, _⟩ => ⟨S1x4x256x128, .bf16⟩
  | .local _ .vmem, ⟨25, _⟩ => ⟨S1x4x256x128, .bf16⟩
  | .local _ .vmem, ⟨26, _⟩ => ⟨S1x4x256x128, .bf16⟩
  | .local _ .vmem, ⟨27, _⟩ => ⟨S1x2x256x128, .bf16⟩
  | .local _ .vmem, ⟨28, _⟩ => ⟨S1x2x256x128, .bf16⟩
  | .local _ .vmem, ⟨29, _⟩ => ⟨S1x2x256x128, .bf16⟩
  | .local _ .vmem, ⟨30, _⟩ => ⟨S1x2x256x128, .bf16⟩
  | .local _ .vmem, ⟨31, _⟩ => ⟨S1x256x256, .f32⟩
  | .local _ .vmem, ⟨32, _⟩ => ⟨S1x256x256, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S1x4x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x256x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x2x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== PrepIdeal.lean ====
variable {F : FTy → Type} [FloatOps F] [Named F]
def κ : String → Option EReal := fun
  | "inv_qk" => some ((1 / 192 : ℝ) : EReal)
  | _ => none
-- ==== PrepRefIdeal.lean ====
abbrev S8x2304x1024 : Shape := ⟨3, ![8, 2304, 1024]⟩
abbrev S8x2x6x1024 : Shape := ⟨4, ![8, 2, 6, 1024]⟩
abbrev S1x1024 : Shape := ⟨2, ![1, 1024]⟩
abbrev S1024x2304 : Shape := ⟨2, ![1024, 2304]⟩
abbrev S1x256 : Shape := ⟨2, ![1, 256]⟩
abbrev S256x1024 : Shape := ⟨2, ![256, 1024]⟩
abbrev S1x384 : Shape := ⟨2, ![1, 384]⟩
abbrev S384x1024 : Shape := ⟨2, ![384, 1024]⟩
abbrev S1x128 : Shape := ⟨2, ![1, 128]⟩
abbrev S2304x128 : Shape := ⟨2, ![2304, 128]⟩
abbrev S2304 : Shape := ⟨1, ![2304]⟩
abbrev S_ : Shape := ⟨0, ![]⟩
abbrev S1x2304x1 : Shape := ⟨3, ![1, 2304, 1]⟩
abbrev S8x1x1x1024 : Shape := ⟨4, ![8, 1, 1, 1024]⟩
abbrev S8x1x1024 : Shape := ⟨3, ![8, 1, 1024]⟩
abbrev S8x2304 : Shape := ⟨2, ![8, 2304]⟩
abbrev S8x2304x1 : Shape := ⟨3, ![8, 2304, 1]⟩
abbrev S1x1x1024 : Shape := ⟨3, ![1, 1, 1024]⟩
abbrev S8x2304x2304 : Shape := ⟨3, ![8, 2304, 2304]⟩
abbrev S8x2304x256 : Shape := ⟨3, ![8, 2304, 256]⟩
abbrev S1x1x256 : Shape := ⟨3, ![1, 1, 256]⟩
abbrev S8x2304x128 : Shape := ⟨3, ![8, 2304, 128]⟩
abbrev S8x2304x1x128 : Shape := ⟨4, ![8, 2304, 1, 128]⟩
abbrev S8x2304x4x128 : Shape := ⟨4, ![8, 2304, 4, 128]⟩
abbrev S8x2304x512 : Shape := ⟨3, ![8, 2304, 512]⟩
abbrev S8x2304x4x256 : Shape := ⟨4, ![8, 2304, 4, 256]⟩
abbrev S8x2304x4x192 : Shape := ⟨4, ![8, 2304, 4, 192]⟩
abbrev S8x2304x4 : Shape := ⟨3, ![8, 2304, 4]⟩
abbrev S8x2304x4x1 : Shape := ⟨4, ![8, 2304, 4, 1]⟩
abbrev S1x1x1x256 : Shape := ⟨4, ![1, 1, 1, 256]⟩
abbrev S2304x1x128 : Shape := ⟨3, ![2304, 1, 128]⟩
abbrev S1x2304x1x128 : Shape := ⟨4, ![1, 2304, 1, 128]⟩
abbrev S8x2304x4x64 : Shape := ⟨4, ![8, 2304, 4, 64]⟩
abbrev S8x2304x384 : Shape := ⟨3, ![8, 2304, 384]⟩
abbrev S1x1x384 : Shape := ⟨3, ![1, 1, 384]⟩
abbrev S8x2304x2x128 : Shape := ⟨4, ![8, 2304, 2, 128]⟩
abbrev S8x2304x2x64 : Shape := ⟨4, ![8, 2304, 2, 64]⟩
abbrev S8x2304x2 : Shape := ⟨3, ![8, 2304, 2]⟩
abbrev S8x2304x2x1 : Shape := ⟨4, ![8, 2304, 2, 1]⟩
abbrev S1x1x1x128 : Shape := ⟨4, ![1, 1, 1, 128]⟩
abbrev S8x4x2304x256 : Shape := ⟨4, ![8, 4, 2304, 256]⟩
abbrev S8x4x2304x128 : Shape := ⟨4, ![8, 4, 2304, 128]⟩
abbrev S8x2x2304x128 : Shape := ⟨4, ![8, 2, 2304, 128]⟩

abbrev nBuf : Space → Nat
  | .hbm => 258
  | .vmem => 0
  | .smem => 0
  | _ => 0

abbrev hbmTy0_0 (i : Nat) : BufTy := match i % 128 with
  | 0 => ⟨S8x2304x1024, .f32⟩
  | 1 => ⟨S8x2x6x1024, .f32⟩
  | 2 => ⟨S1x1024, .f32⟩
  | 3 => ⟨S1024x2304, .bf16⟩
  | 4 => ⟨S1x256, .f32⟩
  | 5 => ⟨S256x1024, .bf16⟩
  | 6 => ⟨S1x384, .f32⟩
  | 7 => ⟨S384x1024, .bf16⟩
  | 8 => ⟨S1x256, .f32⟩
  | 9 => ⟨S1x128, .f32⟩
  | 10 => ⟨S1x128, .f32⟩
  | 11 => ⟨S1x128, .f32⟩
  | 12 => ⟨S1x128, .f32⟩
  | 13 => ⟨S2304x128, .f32⟩
  | 14 => ⟨S2304x128, .f32⟩
  | 15 => ⟨S2304, .i32⟩
  | 16 => ⟨S_, .i32⟩
  | 17 => ⟨S2304, .i32⟩
  | 18 => ⟨S2304, .i1⟩
  | 19 => ⟨S1x2304x1, .i1⟩
  | 20 => ⟨S8x1x1x1024, .f32⟩
  | 21 => ⟨S8x1x1024, .f32⟩
  | 22 => ⟨S8x1x1x1024, .f32⟩
  | 23 => ⟨S8x1x1024, .f32⟩
  | 24 => ⟨S8x2304x1024, .i1⟩
  | 25 => ⟨S8x2304x1024, .f32⟩
  | 26 => ⟨S8x2304x1024, .f32⟩
  | 27 => ⟨S8x2304x1024, .f32⟩
  | 28 => ⟨S8x1x1x1024, .f32⟩
  | 29 => ⟨S8x1x1024, .f32⟩
  | 30 => ⟨S8x1x1x1024, .f32⟩
  | 31 => ⟨S8x1x1024, .f32⟩
  | 32 => ⟨S8x2304x1024, .i1⟩
  | 33 => ⟨S8x2304x1024, .f32⟩
  | 34 => ⟨S8x2304x1024, .f32⟩
  | 35 => ⟨S8x2304x1024, .f32⟩
  | 36 => ⟨S8x2304x1024, .f32⟩
  | 37 => ⟨S_, .f32⟩
  | 38 => ⟨S8x2304, .f32⟩
  | 39 => ⟨S8x2304x1, .f32⟩
  | 40 => ⟨S_, .f32⟩
  | 41 => ⟨S8x2304x1, .f32⟩
  | 42 => ⟨S8x2304x1, .f32⟩
  | 43 => ⟨S_, .f32⟩
  | 44 => ⟨S8x2304x1, .f32⟩
  | 45 => ⟨S8x2304x1, .f32⟩
  | 46 => ⟨S8x2304x1, .f32⟩
  | 47 => ⟨S8x2304x1024, .f32⟩
  | 48 => ⟨S8x2304x1024, .f32⟩
  | 49 => ⟨S1x1x1024, .f32⟩
  | 50 => ⟨S8x2304x1024, .f32⟩
  | 51 => ⟨S8x2304x1024, .f32⟩
  | 52 => ⟨S_, .f32⟩
  | 53 => ⟨S8x2304x1024, .f32⟩
  | 54 => ⟨S8x2304x1024, .f32⟩
  | 55 => ⟨S8x2304x1024, .f32⟩
  | 56 => ⟨S8x2304x1024, .f32⟩
  | 57 => ⟨S1024x2304, .f32⟩
  | 58 => ⟨S8x2304x2304, .f32⟩
  | 59 => ⟨S8x2304x256, .f32⟩
  | 60 => ⟨S8x2304x256, .f32⟩
  | 61 => ⟨S_, .f32⟩
  | 62 => ⟨S8x2304, .f32⟩
  | 63 => ⟨S8x2304x1, .f32⟩
  | 64 => ⟨S_, .f32⟩
  | 65 => ⟨S8x2304x1, .f32⟩
  | 66 => ⟨S8x2304x1, .f32⟩
  | 67 => ⟨S_, .f32⟩
  | 68 => ⟨S8x2304x1, .f32⟩
  | 69 => ⟨S8x2304x1, .f32⟩
  | 70 => ⟨S8x2304x1, .f32⟩
  | 71 => ⟨S8x2304x256, .f32⟩
  | 72 => ⟨S8x2304x256, .f32⟩
  | 73 => ⟨S1x1x256, .f32⟩
  | 74 => ⟨S8x2304x256, .f32⟩
  | 75 => ⟨S8x2304x256, .f32⟩
  | 76 => ⟨S256x1024, .f32⟩
  | 77 => ⟨S8x2304x1024, .f32⟩
  | 78 => ⟨S8x2304x128, .f32⟩
  | 79 => ⟨S8x2304x1x128, .f32⟩
  | 80 => ⟨S8x2304x4x128, .f32⟩
  | 81 => ⟨S8x2304x512, .f32⟩
  | 82 => ⟨S8x2304x4x128, .f32⟩
  | 83 => ⟨S8x2304x4x256, .f32⟩
  | 84 => ⟨S1x256, .f32⟩
  | 85 => ⟨S8x2304x4x192, .f32⟩
  | 86 => ⟨S8x2304x4x192, .f32⟩
  | 87 => ⟨S_, .f32⟩
  | 88 => ⟨S8x2304x4, .f32⟩
  | 89 => ⟨S8x2304x4x1, .f32⟩
  | 90 => ⟨S_, .f32⟩
  | 91 => ⟨S8x2304x4x1, .f32⟩
  | 92 => ⟨S8x2304x4x1, .f32⟩
  | 93 => ⟨S_, .f32⟩
  | 94 => ⟨S8x2304x4x1, .f32⟩
  | 95 => ⟨S8x2304x4x1, .f32⟩
  | 96 => ⟨S8x2304x4x1, .f32⟩
  | 97 => ⟨S8x2304x4x256, .f32⟩
  | 98 => ⟨S8x2304x4x256, .f32⟩
  | 99 => ⟨S1x1x1x256, .f32⟩
  | 100 => ⟨S8x2304x4x256, .f32⟩
  | 101 => ⟨S8x2304x4x256, .f32⟩
  | 102 => ⟨S8x2304x4x128, .f32⟩
  | 103 => ⟨S8x2304x4x128, .f32⟩
  | 104 => ⟨S2304x1x128, .f32⟩
  | 105 => ⟨S1x2304x1x128, .f32⟩
  | 106 => ⟨S8x2304x4x128, .f32⟩
  | 107 => ⟨S8x2304x4x128, .f32⟩
  | 108 => ⟨S8x2304x4x64, .f32⟩
  | 109 => ⟨S8x2304x4x64, .f32⟩
  | 110 => ⟨S8x2304x4x128, .f32⟩
  | 111 => ⟨S2304x1x128, .f32⟩
  | 112 => ⟨S1x2304x1x128, .f32⟩
  | 113 => ⟨S8x2304x4x128, .f32⟩
  | 114 => ⟨S8x2304x4x128, .f32⟩
  | 115 => ⟨S8x2304x4x128, .f32⟩
  | 116 => ⟨S8x2304x4x256, .f32⟩
  | 117 => ⟨S8x2304x512, .f32⟩
  | 118 => ⟨S8x2304x4x128, .f32⟩
  | 119 => ⟨S8x2304x384, .f32⟩
  | 120 => ⟨S8x2304x384, .f32⟩
  | 121 => ⟨S_, .f32⟩
  | 122 => ⟨S8x2304, .f32⟩
  | 123 => ⟨S8x2304x1, .f32⟩
  | 124 => ⟨S_, .f32⟩
  | 125 => ⟨S8x2304x1, .f32⟩
  | 126 => ⟨S8x2304x1, .f32⟩
  | 127 => ⟨S_, .f32⟩
  | _ => ⟨S8x2304x1024, .f32⟩

abbrev hbmTy0_1 (i : Nat) : BufTy := match i % 128 with
  | 0 => ⟨S8x2304x1, .f32⟩
  | 1 => ⟨S8x2304x1, .f32⟩
  | 2 => ⟨S8x2304x1, .f32⟩
  | 3 => ⟨S8x2304x384, .f32⟩
  | 4 => ⟨S8x2304x384, .f32⟩
  | 5 => ⟨S1x1x384, .f32⟩
  | 6 => ⟨S8x2304x384, .f32⟩
  | 7 => ⟨S8x2304x384, .f32⟩
  | 8 => ⟨S384x1024, .f32⟩
  | 9 => ⟨S8x2304x1024, .f32⟩
  | 10 => ⟨S8x2304x4x256, .f32⟩
  | 11 => ⟨S8x2304x4x192, .f32⟩
  | 12 => ⟨S8x2304x4x192, .f32⟩
  | 13 => ⟨S_, .f32⟩
  | 14 => ⟨S8x2304x4, .f32⟩
  | 15 => ⟨S8x2304x4x1, .f32⟩
  | 16 => ⟨S_, .f32⟩
  | 17 => ⟨S8x2304x4x1, .f32⟩
  | 18 => ⟨S8x2304x4x1, .f32⟩
  | 19 => ⟨S_, .f32⟩
  | 20 => ⟨S8x2304x4x1, .f32⟩
  | 21 => ⟨S8x2304x4x1, .f32⟩
  | 22 => ⟨S8x2304x4x1, .f32⟩
  | 23 => ⟨S8x2304x4x256, .f32⟩
  | 24 => ⟨S8x2304x4x256, .f32⟩
  | 25 => ⟨S1x1x1x256, .f32⟩
  | 26 => ⟨S8x2304x4x256, .f32⟩
  | 27 => ⟨S8x2304x4x256, .f32⟩
  | 28 => ⟨S8x2304x4x128, .f32⟩
  | 29 => ⟨S8x2304x4x128, .f32⟩
  | 30 => ⟨S2304x1x128, .f32⟩
  | 31 => ⟨S1x2304x1x128, .f32⟩
  | 32 => ⟨S8x2304x4x128, .f32⟩
  | 33 => ⟨S8x2304x4x128, .f32⟩
  | 34 => ⟨S8x2304x4x64, .f32⟩
  | 35 => ⟨S8x2304x4x64, .f32⟩
  | 36 => ⟨S8x2304x4x128, .f32⟩
  | 37 => ⟨S2304x1x128, .f32⟩
  | 38 => ⟨S1x2304x1x128, .f32⟩
  | 39 => ⟨S8x2304x4x128, .f32⟩
  | 40 => ⟨S8x2304x4x128, .f32⟩
  | 41 => ⟨S8x2304x4x128, .f32⟩
  | 42 => ⟨S8x2304x4x256, .f32⟩
  | 43 => ⟨S8x2304x256, .f32⟩
  | 44 => ⟨S8x2304x2x128, .f32⟩
  | 45 => ⟨S8x2304x2x64, .f32⟩
  | 46 => ⟨S8x2304x2x64, .f32⟩
  | 47 => ⟨S_, .f32⟩
  | 48 => ⟨S8x2304x2, .f32⟩
  | 49 => ⟨S8x2304x2x1, .f32⟩
  | 50 => ⟨S_, .f32⟩
  | 51 => ⟨S8x2304x2x1, .f32⟩
  | 52 => ⟨S8x2304x2x1, .f32⟩
  | 53 => ⟨S_, .f32⟩
  | 54 => ⟨S8x2304x2x1, .f32⟩
  | 55 => ⟨S8x2304x2x1, .f32⟩
  | 56 => ⟨S8x2304x2x1, .f32⟩
  | 57 => ⟨S8x2304x2x128, .f32⟩
  | 58 => ⟨S8x2304x2x128, .f32⟩
  | 59 => ⟨S1x1x1x128, .f32⟩
  | 60 => ⟨S8x2304x2x128, .f32⟩
  | 61 => ⟨S8x2304x2x128, .f32⟩
  | 62 => ⟨S2304x1x128, .f32⟩
  | 63 => ⟨S1x2304x1x128, .f32⟩
  | 64 => ⟨S8x2304x2x128, .f32⟩
  | 65 => ⟨S8x2304x2x128, .f32⟩
  | 66 => ⟨S8x2304x2x64, .f32⟩
  | 67 => ⟨S8x2304x2x64, .f32⟩
  | 68 => ⟨S8x2304x2x128, .f32⟩
  | 69 => ⟨S2304x1x128, .f32⟩
  | 70 => ⟨S1x2304x1x128, .f32⟩
  | 71 => ⟨S8x2304x2x128, .f32⟩
  | 72 => ⟨S8x2304x2x128, .f32⟩
  | 73 => ⟨S8x2304x2x128, .f32⟩
  | 74 => ⟨S8x2304x256, .f32⟩
  | 75 => ⟨S8x2304x2x128, .f32⟩
  | 76 => ⟨S8x2304x512, .f32⟩
  | 77 => ⟨S8x2304x4x128, .f32⟩
  | 78 => ⟨S8x2304x4x64, .f32⟩
  | 79 => ⟨S8x2304x4x64, .f32⟩
  | 80 => ⟨S_, .f32⟩
  | 81 => ⟨S8x2304x4, .f32⟩
  | 82 => ⟨S8x2304x4x1, .f32⟩
  | 83 => ⟨S_, .f32⟩
  | 84 => ⟨S8x2304x4x1, .f32⟩
  | 85 => ⟨S8x2304x4x1, .f32⟩
  | 86 => ⟨S_, .f32⟩
  | 87 => ⟨S8x2304x4x1, .f32⟩
  | 88 => ⟨S8x2304x4x1, .f32⟩
  | 89 => ⟨S8x2304x4x1, .f32⟩
  | 90 => ⟨S8x2304x4x128, .f32⟩
  | 91 => ⟨S8x2304x4x128, .f32⟩
  | 92 => ⟨S1x1x1x128, .f32⟩
  | 93 => ⟨S8x2304x4x128, .f32⟩
  | 94 => ⟨S8x2304x4x128, .f32⟩
  | 95 => ⟨S2304x1x128, .f32⟩
  | 96 => ⟨S1x2304x1x128, .f32⟩
  | 97 => ⟨S8x2304x4x128, .f32⟩
  | 98 => ⟨S8x2304x4x128, .f32⟩
  | 99 => ⟨S8x2304x4x64, .f32⟩
  | 100 => ⟨S8x2304x4x64, .f32⟩
  | 101 => ⟨S8x2304x4x128, .f32⟩
  | 102 => ⟨S2304x1x128, .f32⟩
  | 103 => ⟨S1x2304x1x128, .f32⟩
  | 104 => ⟨S8x2304x4x128, .f32⟩
  | 105 => ⟨S8x2304x4x128, .f32⟩
  | 106 => ⟨S8x2304x4x128, .f32⟩
  | 107 => ⟨S8x2304x256, .f32⟩
  | 108 => ⟨S8x2304x256, .f32⟩
  | 109 => ⟨S8x2304x256, .f32⟩
  | 110 => ⟨S8x2304x256, .f32⟩
  | 111 => ⟨S_, .f32⟩
  | 112 => ⟨S8x2304x256, .f32⟩
  | 113 => ⟨S8x2304x256, .f32⟩
  | 114 => ⟨S_, .f32⟩
  | 115 => ⟨S8x2304x256, .f32⟩
  | 116 => ⟨S8x2304x256, .f32⟩
  | 117 => ⟨S8x2304x256, .f32⟩
  | 118 => ⟨S8x4x2304x256, .f32⟩
  | 119 => ⟨S8x4x2304x256, .bf16⟩
  | 120 => ⟨S8x4x2304x256, .f32⟩
  | 121 => ⟨S8x4x2304x256, .bf16⟩
  | 122 => ⟨S8x4x2304x128, .f32⟩
  | 123 => ⟨S8x4x2304x128, .bf16⟩
  | 124 => ⟨S8x4x2304x128, .f32⟩
  | 125 => ⟨S8x4x2304x128, .bf16⟩
  | 126 => ⟨S8x2x2304x128, .f32⟩
  | 127 => ⟨S8x2x2304x128, .bf16⟩
  | _ => ⟨S8x2304x1024, .f32⟩

abbrev hbmTy0_2 (i : Nat) : BufTy := match i % 128 with
  | 0 => ⟨S8x2x2304x128, .f32⟩
  | 1 => ⟨S8x2x2304x128, .bf16⟩
  | _ => ⟨S8x2304x1024, .f32⟩

abbrev hbmTy (i : Nat) : BufTy := match i / 128 with
  | 0 => hbmTy0_0 i
  | 1 => hbmTy0_1 i
  | 2 => hbmTy0_2 i
  | _ => ⟨S8x2304x1024, .f32⟩

abbrev bufTy : (tb : Table) → Fin (tcTables nBuf tb) → BufTy
  | .hbm, ⟨i, _⟩ => hbmTy i
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v13 : Ref sig .tc := ⟨.hbm, 35, rfl⟩
abbrev main_v14 : Ref sig .tc := ⟨.hbm, 36, rfl⟩
abbrev main_cst : Ref sig .tc := ⟨.hbm, 37, rfl⟩
abbrev main_v15 : Ref sig .tc := ⟨.hbm, 38, rfl⟩
abbrev main_v16 : Ref sig .tc := ⟨.hbm, 39, rfl⟩
abbrev main_cst_0 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_cst_8 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_9 : Ref sig .tc := ⟨.hbm, 121, rfl⟩
abbrev main_v89 : Ref sig .tc := ⟨.hbm, 122, rfl⟩
abbrev main_v90 : Ref sig .tc := ⟨.hbm, 123, rfl⟩
abbrev main_cst_10 : Ref sig .tc := ⟨.hbm, 124, rfl⟩
abbrev main_v91 : Ref sig .tc := ⟨.hbm, 125, rfl⟩
abbrev main_v92 : Ref sig .tc := ⟨.hbm, 126, rfl⟩
abbrev main_cst_11 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_12 : Ref sig .tc := ⟨.hbm, 141, rfl⟩
abbrev main_v106 : Ref sig .tc := ⟨.hbm, 142, rfl⟩
abbrev main_v107 : Ref sig .tc := ⟨.hbm, 143, rfl⟩
abbrev main_cst_13 : Ref sig .tc := ⟨.hbm, 144, rfl⟩
abbrev main_v108 : Ref sig .tc := ⟨.hbm, 145, rfl⟩
abbrev main_v109 : Ref sig .tc := ⟨.hbm, 146, rfl⟩
abbrev main_cst_14 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_cst_15 : Ref sig .tc := ⟨.hbm, 175, rfl⟩
abbrev main_v137 : Ref sig .tc := ⟨.hbm, 176, rfl⟩
abbrev main_v138 : Ref sig .tc := ⟨.hbm, 177, rfl⟩
abbrev main_cst_16 : Ref sig .tc := ⟨.hbm, 178, rfl⟩
abbrev main_v139 : Ref sig .tc := ⟨.hbm, 179, rfl⟩
abbrev main_v140 : Ref sig .tc := ⟨.hbm, 180, rfl⟩
abbrev main_cst_17 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_18 : Ref sig .tc := ⟨.hbm, 208, rfl⟩
abbrev main_v167 : Ref sig .tc := ⟨.hbm, 209, rfl⟩
abbrev main_v168 : Ref sig .tc := ⟨.hbm, 210, rfl⟩
abbrev main_cst_19 : Ref sig .tc := ⟨.hbm, 211, rfl⟩
abbrev main_v169 : Ref sig .tc := ⟨.hbm, 212, rfl⟩
abbrev main_v170 : Ref sig .tc := ⟨.hbm, 213, rfl⟩
abbrev main_cst_20 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_21 : Ref sig .tc := ⟨.hbm, 239, rfl⟩
abbrev main_v195 : Ref sig .tc := ⟨.hbm, 240, rfl⟩
abbrev main_v196 : Ref sig .tc := ⟨.hbm, 241, rfl⟩
abbrev main_cst_22 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_v206 : Ref sig .tc := ⟨.hbm, 252, rfl⟩
abbrev main_v207 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩

abbrev nD : Nat := 1
abbrev τ : Topo := Topo.v7x

variable {F : FTy → Type} [FloatOps F]
-- ==== Swa.lean ====
abbrev S4 : Shape := ⟨1, ![4]⟩
abbrev S8x4x2304x128 : Shape := ⟨4, ![8, 4, 2304, 128]⟩
abbrev S8x2x2304x128 : Shape := ⟨4, ![8, 2, 2304, 128]⟩
abbrev S8x2048x512 : Shape := ⟨3, ![8, 2048, 512]⟩
abbrev S1x4x256x128 : Shape := ⟨4, ![1, 4, 256, 128]⟩
abbrev S1x2x2304x128 : Shape := ⟨4, ![1, 2, 2304, 128]⟩
abbrev S1x256x512 : Shape := ⟨3, ![1, 256, 512]⟩
abbrev S256x512 : Shape := ⟨2, ![256, 512]⟩
abbrev S1x1x256x128 : Shape := ⟨4, ![1, 1, 256, 128]⟩
abbrev S256x128 : Shape := ⟨2, ![256, 128]⟩
abbrev S1x1x512x128 : Shape := ⟨4, ![1, 1, 512, 128]⟩
abbrev S512x128 : Shape := ⟨2, ![512, 128]⟩
abbrev S256x256 : Shape := ⟨2, ![256, 256]⟩
abbrev S1 : Shape := ⟨1, ![1]⟩
abbrev S256 : Shape := ⟨1, ![256]⟩
abbrev S256x1 : Shape := ⟨2, ![256, 1]⟩
abbrev S1x256x128 : Shape := ⟨3, ![1, 256, 128]⟩

abbrev nBuf : Space → Nat
  | .hbm => 5
  | .vmem => 8
  | .smem => 1
  | _ => 0

abbrev bufTy : (tb : Table) → Fin (tcTables nBuf tb) → BufTy
  | .hbm, ⟨0, _⟩ => ⟨S4, .f32⟩
  | .hbm, ⟨1, _⟩ => ⟨S8x4x2304x128, .bf16⟩
  | .hbm, ⟨2, _⟩ => ⟨S8x2x2304x128, .bf16⟩
  | .hbm, ⟨3, _⟩ => ⟨S8x2x2304x128, .bf16⟩
  | .hbm, ⟨4, _⟩ => ⟨S8x2048x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x2x2304x128, .bf16⟩
  | .local _ .vmem, ⟨3, _⟩ => ⟨S1x2x2304x128, .bf16⟩
  | .local _ .vmem, ⟨4, _⟩ => ⟨S1x2x2304x128, .bf16⟩
  | .local _ .vmem, ⟨5, _⟩ => ⟨S1x2x2304x128, .bf16⟩
  | .local _ .vmem, ⟨6, _⟩ => ⟨S1x256x512, .bf16⟩
  | .local _ .vmem, ⟨7, _⟩ => ⟨S1x256x512, .bf16⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c1792_i32 : BitVec 32 := 1792#32
  let c0_i32 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c1792_i32 v3
  v4
def k0_off1 (i : grid0.Coords) : Fin 4 → Nat :=
  let c0_6 : Index := 0#32
  let c0_7 : Index := 0#32
  let c1792_i32 : BitVec 32 := 1792#32
  let c0_i32 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c1792_i32 v3
  let v5 : BitVec 32 := v4
  let v22 : Index := Scalar.indexCast v5
  let c0_8 : Index := 0#32
  ![0, 0, v22.toNat, 0]
def k0_off2 (i : grid0.Coords) : Fin 4 → Nat :=
  let c0_64 : Index := 0#32
  let c1_65 : Index := 1#32
  let c1792_i32 : BitVec 32 := 1792#32
  let c0_i32 : BitVec 32 := 0#32
  let arg1 : BitVec 32 := BitVec.ofNat 32 (i 1).val
  let c1_i32 : BitVec 32 := 1#32
  let v0 : BitVec 32 := Scalar.addi arg1 c1_i32
  let c256_i32 : BitVec 32 := 256#32
  let v1 : BitVec 32 := Scalar.muli v0 c256_i32
  let c128_i32 : BitVec 32 := 128#32
  let v2 : BitVec 32 := Scalar.subi v1 c128_i32
  let v3 : BitVec 32 := Scalar.maxsi c0_i32 v2
  let v4 : BitVec 32 := Scalar.minsi c1792_i32 v3
  let v5 : BitVec 32 := v4
  let v122 : Index := Scalar.indexCast v5
  let c0_66 : Index := 0#32
  ![0, 1, v122.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, c0_i32.toNat, v0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwaIdeal.lean ====
variable {F : FTy → Type} [FloatOps F] [Named F]
def κ : String → Option EReal := fun
  | "neg_inf" => some ⊥
  | _ => none
-- ==== SwaRefIdeal.lean ====
abbrev S4 : Shape := ⟨1, ![4]⟩
abbrev S8x4x2304x128 : Shape := ⟨4, ![8, 4, 2304, 128]⟩
abbrev S8x2x2304x128 : Shape := ⟨4, ![8, 2, 2304, 128]⟩
abbrev S8x4x2048x128 : Shape := ⟨4, ![8, 4, 2048, 128]⟩
abbrev S8x2x2x2048x128 : Shape := ⟨5, ![8, 2, 2, 2048, 128]⟩
abbrev S8x2x2x2048x2304 : Shape := ⟨5, ![8, 2, 2, 2048, 2304]⟩
abbrev S2048 : Shape := ⟨1, ![2048]⟩
abbrev S2048x1 : Shape := ⟨2, ![2048, 1]⟩
abbrev S_ : Shape := ⟨0, ![]⟩
abbrev S2304 : Shape := ⟨1, ![2304]⟩
abbrev S1x2304 : Shape := ⟨2, ![1, 2304]⟩
abbrev S2048x2304 : Shape := ⟨2, ![2048, 2304]⟩
abbrev S1x1x1x2048x2304 : Shape := ⟨5, ![1, 1, 1, 2048, 2304]⟩
abbrev S2x2 : Shape := ⟨2, ![2, 2]⟩
abbrev S1x2x2x1x1 : Shape := ⟨5, ![1, 2, 2, 1, 1]⟩
abbrev S8x2x2x2048x1 : Shape := ⟨5, ![8, 2, 2, 2048, 1]⟩
abbrev S8x2x2x2048x2305 : Shape := ⟨5, ![8, 2, 2, 2048, 2305]⟩
abbrev S8x2x2x2048 : Shape := ⟨4, ![8, 2, 2, 2048]⟩
abbrev S8x2x128x2x2048 : Shape := ⟨5, ![8, 2, 128, 2, 2048]⟩
abbrev S8x2048x2x2x128 : Shape := ⟨5, ![8, 2048, 2, 2, 128]⟩
abbrev S8x2048x512 : Shape := ⟨3, ![8, 2048, 512]⟩

abbrev nBuf : Space → Nat
  | .hbm => 58
  | .vmem => 0
  | .smem => 0
  | _ => 0

abbrev bufTy : (tb : Table) → Fin (tcTables nBuf tb) → BufTy
  | .hbm, ⟨0, _⟩ => ⟨S4, .f32⟩
  | .hbm, ⟨1, _⟩ => ⟨S8x4x2304x128, .bf16⟩
  | .hbm, ⟨2, _⟩ => ⟨S8x2x2304x128, .bf16⟩
  | .hbm, ⟨3, _⟩ => ⟨S8x2x2304x128, .bf16⟩
  | .hbm, ⟨4, _⟩ => ⟨S8x4x2048x128, .bf16⟩
  | .hbm, ⟨5, _⟩ => ⟨S8x4x2048x128, .f32⟩
  | .hbm, ⟨6, _⟩ => ⟨S8x2x2x2048x128, .f32⟩
  | .hbm, ⟨7, _⟩ => ⟨S8x2x2304x128, .f32⟩
  | .hbm, ⟨8, _⟩ => ⟨S8x2x2x2048x2304, .f32⟩
  | .hbm, ⟨9, _⟩ => ⟨S2048, .i32⟩
  | .hbm, ⟨10, _⟩ => ⟨S2048x1, .i32⟩
  | .hbm, ⟨11, _⟩ => ⟨S_, .i32⟩
  | .hbm, ⟨12, _⟩ => ⟨S2048x1, .i32⟩
  | .hbm, ⟨13, _⟩ => ⟨S2048x1, .i32⟩
  | .hbm, ⟨14, _⟩ => ⟨S2304, .i32⟩
  | .hbm, ⟨15, _⟩ => ⟨S1x2304, .i32⟩
  | .hbm, ⟨16, _⟩ => ⟨S_, .i32⟩
  | .hbm, ⟨17, _⟩ => ⟨S1x2304, .i32⟩
  | .hbm, ⟨18, _⟩ => ⟨S1x2304, .i1⟩
  | .hbm, ⟨19, _⟩ => ⟨S2048x2304, .i32⟩
  | .hbm, ⟨20, _⟩ => ⟨S2048x2304, .i32⟩
  | .hbm, ⟨21, _⟩ => ⟨S2048x2304, .i32⟩
  | .hbm, ⟨22, _⟩ => ⟨S2048x2304, .i32⟩
  | .hbm, ⟨23, _⟩ => ⟨S_, .i32⟩
  | .hbm, ⟨24, _⟩ => ⟨S2048x2304, .i32⟩
  | .hbm, ⟨25, _⟩ => ⟨S2048x2304, .i1⟩
  | .hbm, ⟨26, _⟩ => ⟨S2048x2304, .i1⟩
  | .hbm, ⟨27, _⟩ => ⟨S2048x2304, .i1⟩
  | .hbm, ⟨28, _⟩ => ⟨S1x1x1x2048x2304, .i1⟩
  | .hbm, ⟨29, _⟩ => ⟨S_, .f32⟩
  | .hbm, ⟨30, _⟩ => ⟨S_, .f32⟩
  | .hbm, ⟨31, _⟩ => ⟨S8x2x2x2048x2304, .i1⟩
  | .hbm, ⟨32, _⟩ => ⟨S8x2x2x2048x2304, .f32⟩
  | .hbm, ⟨33, _⟩ => ⟨S8x2x2x2048x2304, .f32⟩
  | .hbm, ⟨34, _⟩ => ⟨S2x2, .f32⟩
  | .hbm, ⟨35, _⟩ => ⟨S1x2x2x1x1, .f32⟩
  | .hbm, ⟨36, _⟩ => ⟨S8x2x2x2048x1, .f32⟩
  | .hbm, ⟨37, _⟩ => ⟨S8x2x2x2048x2305, .f32⟩
  | .hbm, ⟨38, _⟩ => ⟨S_, .f32⟩
  | .hbm, ⟨39, _⟩ => ⟨S8x2x2x2048, .f32⟩
  | .hbm, ⟨40, _⟩ => ⟨S_, .f32⟩
  | .hbm, ⟨41, _⟩ => ⟨S8x2x2x2048, .f32⟩
  | .hbm, ⟨42, _⟩ => ⟨S8x2x2x2048, .f32⟩
  | .hbm, ⟨43, _⟩ => ⟨S8x2x2x2048x1, .f32⟩
  | .hbm, ⟨44, _⟩ => ⟨S8x2x2x2048x2305, .f32⟩
  | .hbm, ⟨45, _⟩ => ⟨S8x2x2x2048x2305, .f32⟩
  | .hbm, ⟨46, _⟩ => ⟨S8x2x2x2048x2305, .f32⟩
  | .hbm, ⟨47, _⟩ => ⟨S_, .f32⟩
  | .hbm, ⟨48, _⟩ => ⟨S8x2x2x2048, .f32⟩
  | .hbm, ⟨49, _⟩ => ⟨S8x2x2x2048x1, .f32⟩
  | .hbm, ⟨50, _⟩ => ⟨S8x2x2x2048x2305, .f32⟩
  | .hbm, ⟨51, _⟩ => ⟨S8x2x2x2048x2305, .f32⟩
  | .hbm, ⟨52, _⟩ => ⟨S8x2x2x2048x2304, .f32⟩
  | .hbm, ⟨53, _⟩ => ⟨S8x2x2304x128, .f32⟩
  | .hbm, ⟨54, _⟩ => ⟨S8x2x128x2x2048, .f32⟩
  | .hbm, ⟨55, _⟩ => ⟨S8x2048x2x2x128, .f32⟩
  | .hbm, ⟨56, _⟩ => ⟨S8x2048x512, .f32⟩
  | .hbm, ⟨57, _⟩ => ⟨S8x2048x512, .bf16⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== SwaFirst.lean ====
abbrev S4 : Shape := ⟨1, ![4]⟩
abbrev S8x4x2304x128 : Shape := ⟨4, ![8, 4, 2304, 128]⟩
abbrev S8x2x2304x128 : Shape := ⟨4, ![8, 2, 2304, 128]⟩
abbrev S8x2304x512 : Shape := ⟨3, ![8, 2304, 512]⟩
abbrev S1x4x256x128 : Shape := ⟨4, ![1, 4, 256, 128]⟩
abbrev S1x2x2304x128 : Shape := ⟨4, ![1, 2, 2304, 128]⟩
abbrev S1x256x512 : Shape := ⟨3, ![1, 256, 512]⟩
abbrev S1x1x256x128 : Shape := ⟨4, ![1, 1, 256, 128]⟩
abbrev S256x128 : Shape := ⟨2, ![256, 128]⟩
abbrev S256x256 : Shape := ⟨2, ![256, 256]⟩
abbrev S1 : Shape := ⟨1, ![1]⟩
abbrev S256 : Shape := ⟨1, ![256]⟩
abbrev S256x1 : Shape := ⟨2, ![256, 1]⟩
abbrev S1x256x128 : Shape := ⟨3, ![1, 256, 128]⟩
abbrev S256x512 : Shape := ⟨2, ![256, 512]⟩
abbrev S1x1x512x128 : Shape := ⟨4, ![1, 1, 512, 128]⟩
abbrev S512x128 : Shape := ⟨2, ![512, 128]⟩

abbrev nBuf : Space → Nat
  | .hbm => 5
  | .vmem => 8
  | .smem => 1
  | _ => 0

abbrev bufTy : (tb : Table) → Fin (tcTables nBuf tb) → BufTy
  | .hbm, ⟨0, _⟩ => ⟨S4, .f32⟩
  | .hbm, ⟨1, _⟩ => ⟨S8x4x2304x128, .bf16⟩
  | .hbm, ⟨2, _⟩ => ⟨S8x2x2304x128, .bf16⟩
  | .hbm, ⟨3, _⟩ => ⟨S8x2x2304x128, .bf16⟩
  | .hbm, ⟨4, _⟩ => ⟨S8x2304x512, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x2x2304x128, .bf16⟩
  | .local _ .vmem, ⟨3, _⟩ => ⟨S1x2x2304x128, .bf16⟩
  | .local _ .vmem, ⟨4, _⟩ => ⟨S1x2x2304x128, .bf16⟩
  | .local _ .vmem, ⟨5, _⟩ => ⟨S1x2x2304x128, .bf16⟩
  | .local _ .vmem, ⟨6, _⟩ => ⟨S1x256x512, .bf16⟩
  | .local _ .vmem, ⟨7, _⟩ => ⟨S1x256x512, .bf16⟩
  | .local _ .smem, ⟨0, _⟩ => ⟨S4, .f32⟩
  | _, _ => ⟨S4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c0_i32 : BitVec 32 := 0#32
  let v0 : BitVec 32 := Scalar.addi arg1 c0_i32
  let c0_i32_2 : BitVec 32 := 0#32
  let v4 : BitVec 1 := Scalar.cmpi .sgt v0 c0_i32_2
  let v5 : BitVec 32 := Scalar.extui v4
  let c0_i32_3 : BitVec 32 := 0#32
  let v6 : BitVec 1 := Scalar.cmpi .ne v5 c0_i32_3
  v6

def k0_mult1 (i : grid0.Coords) : BitVec 32 :=
  let c1792_i32 : BitVec 32 := 1792#32
  let c0_i32_4 : BitVec 32 := 0#32
  let arg1 : BitVec 32 := BitVec.ofNat 32 (i 1).val
  let c0_i32 : BitVec 32 := 0#32
  let v0 : BitVec 32 := Scalar.addi arg1 c0_i32
  let c256_i32 : BitVec 32 := 256#32
  let v7 : BitVec 32 := Scalar.muli v0 c256_i32
  let c128_i32 : BitVec 32 := 128#32
  let v8 : BitVec 32 := Scalar.subi v7 c128_i32
  let v9 : BitVec 32 := Scalar.maxsi c0_i32_4 v8
  let v10 : BitVec 32 := Scalar.minsi c1792_i32 v9
  v10
def k0_off1 (i : grid0.Coords) : Fin 4 → Nat :=
  let c0_11 : Index := 0#32
  let c0_12 : Index := 0#32
  let c1792_i32 : BitVec 32 := 1792#32
  let c0_i32_4 : BitVec 32 := 0#32
  let arg1 : BitVec 32 := BitVec.ofNat 32 (i 1).val
  let c0_i32 : BitVec 32 := 0#32
  let v0 : BitVec 32 := Scalar.addi arg1 c0_i32
  let c256_i32 : BitVec 32 := 256#32
  let v7 : BitVec 32 := Scalar.muli v0 c256_i32
  let c128_i32 : BitVec 32 := 128#32
  let v8 : BitVec 32 := Scalar.subi v7 c128_i32
  let v9 : BitVec 32 := Scalar.maxsi c0_i32_4 v8
  let v10 : BitVec 32 := Scalar.minsi c1792_i32 v9
  let v11 : BitVec 32 := v10
  let v28 : Index := Scalar.indexCast v11
  let c0_13 : Index := 0#32
  ![0, 0, v28.toNat, 0]
def k0_off2 (i : grid0.Coords) : Fin 4 → Nat :=
  let c0_69 : Index := 0#32
  let c1_70 : Index := 1#32
  let c1792_i32 : BitVec 32 := 1792#32
  let c0_i32_4 : BitVec 32 := 0#32
  let arg1 : BitVec 32 := BitVec.ofNat 32 (i 1).val
  let c0_i32 : BitVec 32 := 0#32
  let v0 : BitVec 32 := Scalar.addi arg1 c0_i32
  let c256_i32 : BitVec 32 := 256#32
  let v7 : BitVec 32 := Scalar.muli v0 c256_i32
  let c128_i32 : BitVec 32 := 128#32
  let v8 : BitVec 32 := Scalar.subi v7 c128_i32
  let v9 : BitVec 32 := Scalar.maxsi c0_i32_4 v8
  let v10 : BitVec 32 := Scalar.minsi c1792_i32 v9
  let v11 : BitVec 32 := v10
  let v128 : Index := Scalar.indexCast v11
  let c0_71 : Index := 0#32
  ![0, 1, v128.toNat, 0]
def k0_cond1 (i : grid0.Coords) : BitVec 1 :=
  let arg1 : BitVec 32 := BitVec.ofNat 32 (i 1).val
  let c0_i32 : BitVec 32 := 0#32
  let v0 : BitVec 32 := Scalar.addi arg1 c0_i32
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, c0_i32_0.toNat, v0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x2304x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwaFirstIdeal.lean ====
variable {F : FTy → Type} [FloatOps F] [Named F]
def κ : String → Option EReal := fun
  | "neg_inf" => some ⊥
  | _ => none
-- ==== SwaFirstRefIdeal.lean ====
abbrev S4 : Shape := ⟨1, ![4]⟩
abbrev S8x4x2304x128 : Shape := ⟨4, ![8, 4, 2304, 128]⟩
abbrev S8x2x2304x128 : Shape := ⟨4, ![8, 2, 2304, 128]⟩
abbrev S8x2x2x2304x128 : Shape := ⟨5, ![8, 2, 2, 2304, 128]⟩
abbrev S8x2x2x2304x2304 : Shape := ⟨5, ![8, 2, 2, 2304, 2304]⟩
abbrev S2304 : Shape := ⟨1, ![2304]⟩
abbrev S2304x1 : Shape := ⟨2, ![2304, 1]⟩
abbrev S1x2304 : Shape := ⟨2, ![1, 2304]⟩
abbrev S_ : Shape := ⟨0, ![]⟩
abbrev S2304x2304 : Shape := ⟨2, ![2304, 2304]⟩
abbrev S1x1x1x2304x2304 : Shape := ⟨5, ![1, 1, 1, 2304, 2304]⟩
abbrev S2x2 : Shape := ⟨2, ![2, 2]⟩
abbrev S1x2x2x1x1 : Shape := ⟨5, ![1, 2, 2, 1, 1]⟩
abbrev S8x2x2x2304x1 : Shape := ⟨5, ![8, 2, 2, 2304, 1]⟩
abbrev S8x2x2x2304x2305 : Shape := ⟨5, ![8, 2, 2, 2304, 2305]⟩
abbrev S8x2x2x2304 : Shape := ⟨4, ![8, 2, 2, 2304]⟩
abbrev S8x2x128x2x2304 : Shape := ⟨5, ![8, 2, 128, 2, 2304]⟩
abbrev S8x2304x2x2x128 : Shape := ⟨5, ![8, 2304, 2, 2, 128]⟩
abbrev S8x2304x512 : Shape := ⟨3, ![8, 2304, 512]⟩

abbrev nBuf : Space → Nat
  | .hbm => 59
  | .vmem => 0
  | .smem => 0
  | _ => 0

abbrev bufTy : (tb : Table) → Fin (tcTables nBuf tb) → BufTy
  | .hbm, ⟨0, _⟩ => ⟨S4, .f32⟩
  | .hbm, ⟨1, _⟩ => ⟨S8x4x2304x128, .bf16⟩
  | .hbm, ⟨2, _⟩ => ⟨S8x2x2304x128, .bf16⟩
  | .hbm, ⟨3, _⟩ => ⟨S8x2x2304x128, .bf16⟩
  | .hbm, ⟨4, _⟩ => ⟨S8x4x2304x128, .f32⟩
  | .hbm, ⟨5, _⟩ => ⟨S8x2x2x2304x128, .f32⟩
  | .hbm, ⟨6, _⟩ => ⟨S8x2x2304x128, .f32⟩
  | .hbm, ⟨7, _⟩ => ⟨S8x2x2x2304x2304, .f32⟩
  | .hbm, ⟨8, _⟩ => ⟨S2304, .i32⟩
  | .hbm, ⟨9, _⟩ => ⟨S2304x1, .i32⟩
  | .hbm, ⟨10, _⟩ => ⟨S2304, .i32⟩
  | .hbm, ⟨11, _⟩ => ⟨S1x2304, .i32⟩
  | .hbm, ⟨12, _⟩ => ⟨S_, .i32⟩
  | .hbm, ⟨13, _⟩ => ⟨S1x2304, .i32⟩
  | .hbm, ⟨14, _⟩ => ⟨S1x2304, .i1⟩
  | .hbm, ⟨15, _⟩ => ⟨S_, .i32⟩
  | .hbm, ⟨16, _⟩ => ⟨S2304x1, .i32⟩
  | .hbm, ⟨17, _⟩ => ⟨S2304x1, .i1⟩
  | .hbm, ⟨18, _⟩ => ⟨S2304x2304, .i32⟩
  | .hbm, ⟨19, _⟩ => ⟨S2304x2304, .i32⟩
  | .hbm, ⟨20, _⟩ => ⟨S2304x2304, .i32⟩
  | .hbm, ⟨21, _⟩ => ⟨S2304x2304, .i32⟩
  | .hbm, ⟨22, _⟩ => ⟨S_, .i32⟩
  | .hbm, ⟨23, _⟩ => ⟨S2304x2304, .i32⟩
  | .hbm, ⟨24, _⟩ => ⟨S2304x2304, .i1⟩
  | .hbm, ⟨25, _⟩ => ⟨S2304x2304, .i1⟩
  | .hbm, ⟨26, _⟩ => ⟨S2304x2304, .i1⟩
  | .hbm, ⟨27, _⟩ => ⟨S2304x2304, .i1⟩
  | .hbm, ⟨28, _⟩ => ⟨S2304x2304, .i1⟩
  | .hbm, ⟨29, _⟩ => ⟨S1x1x1x2304x2304, .i1⟩
  | .hbm, ⟨30, _⟩ => ⟨S_, .f32⟩
  | .hbm, ⟨31, _⟩ => ⟨S_, .f32⟩
  | .hbm, ⟨32, _⟩ => ⟨S8x2x2x2304x2304, .i1⟩
  | .hbm, ⟨33, _⟩ => ⟨S8x2x2x2304x2304, .f32⟩
  | .hbm, ⟨34, _⟩ => ⟨S8x2x2x2304x2304, .f32⟩
  | .hbm, ⟨35, _⟩ => ⟨S2x2, .f32⟩
  | .hbm, ⟨36, _⟩ => ⟨S1x2x2x1x1, .f32⟩
  | .hbm, ⟨37, _⟩ => ⟨S8x2x2x2304x1, .f32⟩
  | .hbm, ⟨38, _⟩ => ⟨S8x2x2x2304x2305, .f32⟩
  | .hbm, ⟨39, _⟩ => ⟨S_, .f32⟩
  | .hbm, ⟨40, _⟩ => ⟨S8x2x2x2304, .f32⟩
  | .hbm, ⟨41, _⟩ => ⟨S_, .f32⟩
  | .hbm, ⟨42, _⟩ => ⟨S8x2x2x2304, .f32⟩
  | .hbm, ⟨43, _⟩ => ⟨S8x2x2x2304, .f32⟩
  | .hbm, ⟨44, _⟩ => ⟨S8x2x2x2304x1, .f32⟩
  | .hbm, ⟨45, _⟩ => ⟨S8x2x2x2304x2305, .f32⟩
  | .hbm, ⟨46, _⟩ => ⟨S8x2x2x2304x2305, .f32⟩
  | .hbm, ⟨47, _⟩ => ⟨S8x2x2x2304x2305, .f32⟩
  | .hbm, ⟨48, _⟩ => ⟨S_, .f32⟩
  | .hbm, ⟨49, _⟩ => ⟨S8x2x2x2304, .f32⟩
  | .hbm, ⟨50, _⟩ => ⟨S8x2x2x2304x1, .f32⟩
  | .hbm, ⟨51, _⟩ => ⟨S8x2x2x2304x2305, .f32⟩
  | .hbm, ⟨52, _⟩ => ⟨S8x2x2x2304x2305, .f32⟩
  | .hbm, ⟨53, _⟩ => ⟨S8x2x2x2304x2304, .f32⟩
  | .hbm, ⟨54, _⟩ => ⟨S8x2x2304x128, .f32⟩
  | .hbm, ⟨55, _⟩ => ⟨S8x2x128x2x2304, .f32⟩
  | .hbm, ⟨56, _⟩ => ⟨S8x2304x2x2x128, .f32⟩
  | .hbm, ⟨57, _⟩ => ⟨S8x2304x512, .f32⟩
  | .hbm, ⟨58, _⟩ => ⟨S8x2304x512, .bf16⟩
  | _, _ => ⟨S4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Ada.lean ====
abbrev S16x1024 : Shape := ⟨2, ![16, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S2x1024x6144 : Shape := ⟨3, ![2, 1024, 6144]⟩
abbrev S2x6144 : Shape := ⟨2, ![2, 6144]⟩
abbrev S_ : Shape := ⟨0, ![]⟩
abbrev S2x6144x16 : Shape := ⟨3, ![2, 6144, 16]⟩
abbrev S2x16x6144 : Shape := ⟨3, ![2, 16, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x6144, .f32⟩
  | .hbm, ⟨2, _⟩ => ⟨S2x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S2x6144x16, .f32⟩
  | .hbm, ⟨13, _⟩ => ⟨S2x16x6144, .f32⟩
  | .hbm, ⟨14, _⟩ => ⟨S2x1x6144, .f32⟩
  | .hbm, ⟨15, _⟩ => ⟨S2x16x6144, .f32⟩
  | .hbm, ⟨16, _⟩ => ⟨S2x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Out.lean ====
abbrev S8x2048x512 : Shape := ⟨3, ![8, 2048, 512]⟩
abbrev S8x2048x256 : Shape := ⟨3, ![8, 2048, 256]⟩
abbrev S8x2304x1024 : Shape := ⟨3, ![8, 2304, 1024]⟩
abbrev S8x2x6x1024 : Shape := ⟨4, ![8, 2, 6, 1024]⟩
abbrev S512x1024 : Shape := ⟨2, ![512, 1024]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S256x256 : Shape := ⟨2, ![256, 256]⟩
abbrev S8x2048x1024 : Shape := ⟨3, ![8, 2048, 1024]⟩
abbrev S8x2048x128 : Shape := ⟨3, ![8, 2048, 128]⟩
abbrev S8x128 : Shape := ⟨2, ![8, 128]⟩
abbrev S1x256x512 : Shape := ⟨3, ![1, 256, 512]⟩
abbrev S1x256x256 : Shape := ⟨3, ![1, 256, 256]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S256x512 : Shape := ⟨2, ![256, 512]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩
abbrev S128 : Shape := ⟨1, ![128]⟩

abbrev nBuf : Space → Nat
  | .hbm => 19
  | .vmem => 30
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x512, .bf16⟩
  | .hbm, ⟨3, _⟩ => ⟨S8x2304x1024, .f32⟩
  | .hbm, ⟨4, _⟩ => ⟨S8x2x6x1024, .f32⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1x1024, .f32⟩
  | .hbm, ⟨9, _⟩ => ⟨S1024x128, .bf16⟩
  | .hbm, ⟨10, _⟩ => ⟨S1024x128, .bf16⟩
  | .hbm, ⟨11, _⟩ => ⟨S1x128, .f32⟩
  | .hbm, ⟨12, _⟩ => ⟨S256x256, .bf16⟩
  | .hbm, ⟨13, _⟩ => ⟨S8x2048x1024, .f32⟩
  | .hbm, ⟨14, _⟩ => ⟨S8x2048x1024, .f32⟩
  | .hbm, ⟨15, _⟩ => ⟨S8x2048x128, .i32⟩
  | .hbm, ⟨16, _⟩ => ⟨S8x2048x128, .i32⟩
  | .hbm, ⟨17, _⟩ => ⟨S8x2048x128, .f32⟩
  | .hbm, ⟨18, _⟩ => ⟨S8x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S256x256, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x128, .i32⟩
  | .local _ .vmem, ⟨23, _⟩ => ⟨S1x256x128, .i32⟩
  | .local _ .vmem, ⟨24, _⟩ => ⟨S1x256x128, .i32⟩
  | .local _ .vmem, ⟨25, _⟩ => ⟨S1x256x128, .i32⟩
  | .local _ .vmem, ⟨26, _⟩ => ⟨S1x256x128, .f32⟩
  | .local _ .vmem, ⟨27, _⟩ => ⟨S1x256x128, .f32⟩
  | .local _ .vmem, ⟨28, _⟩ => ⟨S8x128, .f32⟩
  | .local _ .vmem, ⟨29, _⟩ => ⟨S8x128, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let v1 : BitVec 32 := Scalar.minsi v0 c1_i32_0
  let c0_i32 : BitVec 32 := 0#32
  let c0_i32_1 : BitVec 32 := 0#32
  let c0_i32_2 : BitVec 32 := 0#32
  ![arg0.toNat, v1.toNat, c0_i32.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== OutRefIdeal.lean ====
abbrev S8x2048x512 : Shape := ⟨3, ![8, 2048, 512]⟩
abbrev S8x2048x256 : Shape := ⟨3, ![8, 2048, 256]⟩
abbrev S8x2304x1024 : Shape := ⟨3, ![8, 2304, 1024]⟩
abbrev S8x2x6x1024 : Shape := ⟨4, ![8, 2, 6, 1024]⟩
abbrev S512x1024 : Shape := ⟨2, ![512, 1024]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S256x256 : Shape := ⟨2, ![256, 256]⟩
abbrev S8x1x1x1024 : Shape := ⟨4, ![8, 1, 1, 1024]⟩
abbrev S8x1x1024 : Shape := ⟨3, ![8, 1, 1024]⟩
abbrev S8x2048x1024 : Shape := ⟨3, ![8, 2048, 1024]⟩
abbrev S8x2048x1280 : Shape := ⟨3, ![8, 2048, 1280]⟩
abbrev S1280x1024 : Shape := ⟨2, ![1280, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x256, .bf16⟩
  | .hbm, ⟨2, _⟩ => ⟨S8x2048x512, .bf16⟩
  | .hbm, ⟨3, _⟩ => ⟨S8x2304x1024, .f32⟩
  | .hbm, ⟨4, _⟩ => ⟨S8x2x6x1024, .f32⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1x1024, .f32⟩
  | .hbm, ⟨9, _⟩ => ⟨S1024x128, .bf16⟩
  | .hbm, ⟨10, _⟩ => ⟨S1024x128, .bf16⟩
  | .hbm, ⟨11, _⟩ => ⟨S1x128, .f32⟩
  | .hbm, ⟨12, _⟩ => ⟨S256x256, .bf16⟩
  | .hbm, ⟨13, _⟩ => ⟨S8x1x1x1024, .f32⟩
  | .hbm, ⟨14, _⟩ => ⟨S8x1x1024, .f32⟩
  | .hbm, ⟨15, _⟩ => ⟨S8x1x1x1024, .f32⟩
  | .hbm, ⟨16, _⟩ => ⟨S8x1x1024, .f32⟩
  | .hbm, ⟨17, _⟩ => ⟨S8x1x1x1024, .f32⟩
  | .hbm, ⟨18, _⟩ => ⟨S8x1x1024, .f32⟩
  | .hbm, ⟨19, _⟩ => ⟨S8x2048x1024, .f32⟩
  | .hbm, ⟨20, _⟩ => ⟨S8x2048x1280, .bf16⟩
  | .hbm, ⟨21, _⟩ => ⟨S8x2048x1280, .f32⟩
  | .hbm, ⟨22, _⟩ => ⟨S1280x1024, .bf16⟩
  | .hbm, ⟨23, _⟩ => ⟨S1280x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1, .f32⟩
  | .hbm, ⟨39, _⟩ => ⟨S8x2048x1024, .f32⟩
  | .hbm, ⟨40, _⟩ => ⟨S8x2048x1024, .f32⟩
  | .hbm, ⟨41, _⟩ => ⟨S1x1x1024, .f32⟩
  | .hbm, ⟨42, _⟩ => ⟨S8x2048x1024, .f32⟩
  | .hbm, ⟨43, _⟩ => ⟨S8x2048x1024, .f32⟩
  | .hbm, ⟨44, _⟩ => ⟨S_, .f32⟩
  | .hbm, ⟨45, _⟩ => ⟨S8x1x1024, .f32⟩
  | .hbm, ⟨46, _⟩ => ⟨S8x1x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== OutFirst.lean ====
abbrev S8x2304x512 : Shape := ⟨3, ![8, 2304, 512]⟩
abbrev S8x2304x256 : Shape := ⟨3, ![8, 2304, 256]⟩
abbrev S8x2304x1024 : Shape := ⟨3, ![8, 2304, 1024]⟩
abbrev S8x2x6x1024 : Shape := ⟨4, ![8, 2, 6, 1024]⟩
abbrev S512x1024 : Shape := ⟨2, ![512, 1024]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S256x256 : Shape := ⟨2, ![256, 256]⟩
abbrev S8x2304x128 : Shape := ⟨3, ![8, 2304, 128]⟩
abbrev S8x128 : Shape := ⟨2, ![8, 128]⟩
abbrev S1x256x512 : Shape := ⟨3, ![1, 256, 512]⟩
abbrev S1x256x256 : Shape := ⟨3, ![1, 256, 256]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S256x512 : Shape := ⟨2, ![256, 512]⟩
abbrev S6x1024 : Shape := ⟨2, ![6, 1024]⟩
abbrev S256 : Shape := ⟨1, ![256]⟩
abbrev S256x1 : Shape := ⟨2, ![256, 1]⟩
abbrev S256x128 : Shape := ⟨2, ![256, 128]⟩
abbrev S128 : Shape := ⟨1, ![128]⟩

abbrev nBuf : Space → Nat
  | .hbm => 19
  | .vmem => 30
  | .smem => 0
  | _ => 0

abbrev bufTy : (tb : Table) → Fin (tcTables nBuf tb) → BufTy
  | .hbm, ⟨0, _⟩ => ⟨S8x2304x512, .bf16⟩
  | .hbm, ⟨1, _⟩ => ⟨S8x2304x256, .bf16⟩
  | .hbm, ⟨2, _⟩ => ⟨S8x2304x512, .bf16⟩
  | .hbm, ⟨3, _⟩ => ⟨S8x2304x1024, .f32⟩
  | .hbm, ⟨4, _⟩ => ⟨S8x2x6x1024, .f32⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1x1024, .f32⟩
  | .hbm, ⟨9, _⟩ => ⟨S1024x128, .bf16⟩
  | .hbm, ⟨10, _⟩ => ⟨S1024x128, .bf16⟩
  | .hbm, ⟨11, _⟩ => ⟨S1x128, .f32⟩
  | .hbm, ⟨12, _⟩ => ⟨S256x256, .bf16⟩
  | .hbm, ⟨13, _⟩ => ⟨S8x2304x1024, .f32⟩
  | .hbm, ⟨14, _⟩ => ⟨S8x2304x1024, .f32⟩
  | .hbm, ⟨15, _⟩ => ⟨S8x2304x128, .i32⟩
  | .hbm, ⟨16, _⟩ => ⟨S8x2304x128, .i32⟩
  | .hbm, ⟨17, _⟩ => ⟨S8x2304x128, .f32⟩
  | .hbm, ⟨18, _⟩ => ⟨S8x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S512x1024, .bf16⟩
  | .local _ .vmem, ⟨11, _⟩ => ⟨S256x1024, .bf16⟩
  | .local _ .vmem, ⟨12, _⟩ => ⟨S512x1024, .bf16⟩
  | .local _ .vmem, ⟨13, _⟩ => ⟨S1x1024, .f32⟩
  | .local _ .vmem, ⟨14, _⟩ => ⟨S1024x128, .bf16⟩
  | .local _ .vmem, ⟨15, _⟩ => ⟨S1024x128, .bf16⟩
  | .local _ .vmem, ⟨16, _⟩ => ⟨S1x128, .f32⟩
  | .local _ .vmem, ⟨17, _⟩ => ⟨S256x256, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x128, .i32⟩
  | .local _ .vmem, ⟨23, _⟩ => ⟨S1x256x128, .i32⟩
  | .local _ .vmem, ⟨24, _⟩ => ⟨S1x256x128, .i32⟩
  | .local _ .vmem, ⟨25, _⟩ => ⟨S1x256x128, .i32⟩
  | .local _ .vmem, ⟨26, _⟩ => ⟨S1x256x128, .f32⟩
  | .local _ .vmem, ⟨27, _⟩ => ⟨S1x256x128, .f32⟩
  | .local _ .vmem, ⟨28, _⟩ => ⟨S8x128, .f32⟩
  | .local _ .vmem, ⟨29, _⟩ => ⟨S8x128, .f32⟩
  | _, _ => ⟨S8x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== OutFirstRefIdeal.lean ====
abbrev S8x2304x512 : Shape := ⟨3, ![8, 2304, 512]⟩
abbrev S8x2304x256 : Shape := ⟨3, ![8, 2304, 256]⟩
abbrev S8x2304x1024 : Shape := ⟨3, ![8, 2304, 1024]⟩
abbrev S8x2x6x1024 : Shape := ⟨4, ![8, 2, 6, 1024]⟩
abbrev S512x1024 : Shape := ⟨2, ![512, 1024]⟩
abbrev S256x1024 : Shape := ⟨2, ![256, 1024]⟩
abbrev S1x1024 : Shape := ⟨2, ![1, 1024]⟩
abbrev S1024x128 : Shape := ⟨2, ![1024, 128]⟩
abbrev S1x128 : Shape := ⟨2, ![1, 128]⟩
abbrev S256x256 : Shape := ⟨2, ![256, 256]⟩
abbrev S2304 : Shape := ⟨1, ![2304]⟩
abbrev S_ : Shape := ⟨0, ![]⟩
abbrev S1x2304x1 : Shape := ⟨3, ![1, 2304, 1]⟩
abbrev S8x1x1x1024 : Shape := ⟨4, ![8, 1, 1, 1024]⟩
abbrev S8x1x1024 : Shape := ⟨3, ![8, 1, 1024]⟩
abbrev S8x2304x1280 : Shape := ⟨3, ![8, 2304, 1280]⟩
abbrev S1280x1024 : Shape := ⟨2, ![1280, 1024]⟩
abbrev S8x2304 : Shape := ⟨2, ![8, 2304]⟩
abbrev S8x2304x1 : Shape := ⟨3, ![8, 2304, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8x2304x512, .bf16⟩
  | .hbm, ⟨1, _⟩ => ⟨S8x2304x256, .bf16⟩
  | .hbm, ⟨2, _⟩ => ⟨S8x2304x512, .bf16⟩
  | .hbm, ⟨3, _⟩ => ⟨S8x2304x1024, .f32⟩
  | .hbm, ⟨4, _⟩ => ⟨S8x2x6x1024, .f32⟩
  | .hbm, ⟨5, _⟩ => ⟨S512x1024, .bf16⟩
  | .hbm, ⟨6, _⟩ => ⟨S256x1024, .bf16⟩
  | .hbm, ⟨7, _⟩ => ⟨S512x1024, .bf16⟩
  | .hbm, ⟨8, _⟩ => ⟨S1x1024, .f32⟩
  | .hbm, ⟨9, _⟩ => ⟨S1024x128, .bf16⟩
  | .hbm, ⟨10, _⟩ => ⟨S1024x128, .bf16⟩
  | .hbm, ⟨11, _⟩ => ⟨S1x128, .f32⟩
  | .hbm, ⟨12, _⟩ => ⟨S256x256, .bf16⟩
  | .hbm, ⟨13, _⟩ => ⟨S2304, .i32⟩
  | .hbm, ⟨14, _⟩ => ⟨S_, .i32⟩
  | .hbm, ⟨15, _⟩ => ⟨S2304, .i32⟩
  | .hbm, ⟨16, _⟩ => ⟨S2304, .i1⟩
  | .hbm, ⟨17, _⟩ => ⟨S1x2304x1, .i1⟩
  | .hbm, ⟨18, _⟩ => ⟨S8x1x1x1024, .f32⟩
  | .hbm, ⟨19, _⟩ => ⟨S8x1x1024, .f32⟩
  | .hbm, ⟨20, _⟩ => ⟨S8x1x1x1024, .f32⟩
  | .hbm, ⟨21, _⟩ => ⟨S8x1x1024, .f32⟩
  | .hbm, ⟨22, _⟩ => ⟨S8x2304x1024, .i1⟩
  | .hbm, ⟨23, _⟩ => ⟨S8x2304x1024, .f32⟩
  | .hbm, ⟨24, _⟩ => ⟨S8x2304x1024, .f32⟩
  | .hbm, ⟨25, _⟩ => ⟨S8x2304x1024, .f32⟩
  | .hbm, ⟨26, _⟩ => ⟨S8x1x1x1024, .f32⟩
  | .hbm, ⟨27, _⟩ => ⟨S8x1x1024, .f32⟩
  | .hbm, ⟨28, _⟩ => ⟨S8x1x1x1024, .f32⟩
  | .hbm, ⟨29, _⟩ => ⟨S8x1x1024, .f32⟩
  | .hbm, ⟨30, _⟩ => ⟨S8x2304x1024, .i1⟩
  | .hbm, ⟨31, _⟩ => ⟨S8x2304x1024, .f32⟩
  | .hbm, ⟨32, _⟩ => ⟨S8x2304x1024, .f32⟩
  | .hbm, ⟨33, _⟩ => ⟨S8x2304x1024, .f32⟩
  | .hbm, ⟨34, _⟩ => ⟨S8x1x1x1024, .f32⟩
  | .hbm, ⟨35, _⟩ => ⟨S8x1x1024, .f32⟩
  | .hbm, ⟨36, _⟩ => ⟨S8x1x1x1024, .f32⟩
  | .hbm, ⟨37, _⟩ => ⟨S8x1x1024, .f32⟩
  | .hbm, ⟨38, _⟩ => ⟨S8x2304x1024, .i1⟩
  | .hbm, ⟨39, _⟩ => ⟨S8x2304x1024, .f32⟩
  | .hbm, ⟨40, _⟩ => ⟨S8x2304x1024, .f32⟩
  | .hbm, ⟨41, _⟩ => ⟨S8x2304x1024, .f32⟩
  | .hbm, ⟨42, _⟩ => ⟨S8x2304x1280, .bf16⟩
  | .hbm, ⟨43, _⟩ => ⟨S8x2304x1280, .f32⟩
  | .hbm, ⟨44, _⟩ => ⟨S1280x1024, .bf16⟩
  | .hbm, ⟨45, _⟩ => ⟨S1280x1024, .f32⟩
  | .hbm, ⟨46, _⟩ => ⟨S8x2304x1024, .f32⟩
  | .hbm, ⟨47, _⟩ => ⟨S8x2304x1024, .f32⟩
  | .hbm, ⟨48, _⟩ => ⟨S8x2304x1024, .f32⟩
  | .hbm, ⟨49, _⟩ => ⟨S8x2304x1024, .f32⟩
  | .hbm, ⟨50, _⟩ => ⟨S_, .f32⟩
  | .hbm, ⟨51, _⟩ => ⟨S8x2304, .f32⟩
  | .hbm, ⟨52, _⟩ => ⟨S8x2304x1, .f32⟩
  | .hbm, ⟨53, _⟩ => ⟨S_, .f32⟩
  | .hbm, ⟨54, _⟩ => ⟨S8x2304x1, .f32⟩
  | .hbm, ⟨55, _⟩ => ⟨S8x2304x1, .f32⟩
  | .hbm, ⟨56, _⟩ => ⟨S_, .f32⟩
  | .hbm, ⟨57, _⟩ => ⟨S8x2304x1, .f32⟩
  | .hbm, ⟨58, _⟩ => ⟨S8x2304x1, .f32⟩
  | .hbm, ⟨59, _⟩ => ⟨S8x2304x1, .f32⟩
  | .hbm, ⟨60, _⟩ => ⟨S8x2304x1024, .f32⟩
  | .hbm, ⟨61, _⟩ => ⟨S8x2304x1024, .f32⟩
  | .hbm, ⟨62, _⟩ => ⟨S1x1x1024, .f32⟩
  | .hbm, ⟨63, _⟩ => ⟨S8x2304x1024, .f32⟩
  | .hbm, ⟨64, _⟩ => ⟨S8x2304x1024, .f32⟩
  | .hbm, ⟨65, _⟩ => ⟨S_, .f32⟩
  | .hbm, ⟨66, _⟩ => ⟨S8x2304x1024, .f32⟩
  | .hbm, ⟨67, _⟩ => ⟨S8x2304x1024, .f32⟩
  | .hbm, ⟨68, _⟩ => ⟨S8x2304x1024, .f32⟩
  | .hbm, ⟨69, _⟩ => ⟨S8x2304x1024, .f32⟩
  | _, _ => ⟨S8x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Proof.Softmax.lean ====
/-
  One row of attention over the extended reals: the scores of a query against its keys, the weights they give and the
  weighted sum of the values, in the two orders in which it can be divided by the weights' total.
-/
module

public import Idealize.ShloMosaic.PureOps.Ideal.Laws

@[expose] public section

noncomputable section

namespace Cert.Row

open Idealize.ShloMosaic

/-- An extended real that is a real number. -/
def Finite (x : EReal) : Prop := x ≠ ⊤ ∧ x ≠ ⊥

theorem Finite.exists_coe {x : EReal} (h : Finite x) : ∃ r : ℝ, x = (r : EReal) :=
  ⟨x.toReal, (EReal.coe_toReal h.1 h.2).symm⟩

theorem finite_coe (r : ℝ) : Finite (r : EReal) := ⟨EReal.coe_ne_top r, EReal.coe_ne_bot r⟩

theorem Finite.mul {x y : EReal} (hx : Finite x) (hy : Finite y) : Finite (x * y) := by
  obtain ⟨a, rfl⟩ := hx.exists_coe
  obtain ⟨b, rfl⟩ := hy.exists_coe
  rw [← EReal.coe_mul]
  exact finite_coe _

theorem Finite.add {x y : EReal} (hx : Finite x) (hy : Finite y) : Finite (x + y) := by
  obtain ⟨a, rfl⟩ := hx.exists_coe
  obtain ⟨b, rfl⟩ := hy.exists_coe
  rw [← EReal.coe_add]
  exact finite_coe _

theorem finite_sum {ι : Type*} (s : Finset ι) (f : ι → EReal) (h : ∀ i ∈ s, Finite (f i)) : Finite (∑ i ∈ s, f i) := by
  classical
  induction s using Finset.induction_on with
  | empty => rw [Finset.sum_empty]; exact finite_coe 0
  | insert a s ha ih =>
    rw [Finset.sum_insert ha]
    exact (h a (Finset.mem_insert_self a s)).add (ih fun i hi => h i (Finset.mem_insert_of_mem hi))

/-- A sum of finitely many real numbers is the sum taken among the reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Multiplication by a nonnegative real number goes through a sum of extended reals, infinite ones included. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- The greatest of a row's scores. -/
def top {n : ℕ} (s : Fin n → EReal) : EReal := (Finset.univ : Finset (Fin n)).fold max ⊥ s

theorem top_ge {n : ℕ} (s : Fin n → EReal) (k : Fin n) : s k ≤ top s :=
  (Finset.le_fold_max (s k)).mpr (Or.inr ⟨k, Finset.mem_univ k, le_rfl⟩)

theorem top_finite {n : ℕ} (hn : 0 < n) (s : Fin n → EReal) (h : ∀ k, Finite (s k)) : Finite (top s) := by
  refine ⟨ne_of_lt ((Finset.fold_max_lt ⊤).mpr ⟨bot_lt_top, fun k _ => lt_top_iff_ne_top.mpr (h k).1⟩), ?_⟩
  exact ne_of_gt (lt_of_lt_of_le (bot_lt_iff_ne_bot.mpr (h ⟨0, hn⟩).2) (top_ge s ⟨0, hn⟩))

/-- A key's weight before the division: the exponential of its score below the row's greatest. -/
def weight {n : ℕ} (s : Fin n → EReal) (k : Fin n) : EReal := Ideal.exp (s k - top s)

/-- The weights' total. -/
def total {n : ℕ} (s : Fin n → EReal) : EReal := ∑ k, weight s k

/-- The weighted sum of the values, divided by the weights' total once it is summed. -/
def attend {n : ℕ} (s v : Fin n → EReal) : EReal := Ideal.div (∑ k, weight s k * v k) (total s)

/-- The sum of the values under the softmax of the scores: every weight divided by the total first. -/
def soft {n : ℕ} (s v : Fin n → EReal) : EReal := ∑ k, v k * Ideal.div (weight s k) (total s)

/-- The weights of real scores are positive real numbers. -/
theorem weight_real {n : ℕ} (hn : 0 < n) (s : Fin n → EReal) (h : ∀ k, Finite (s k)) (k : Fin n) :
    ∃ r : ℝ, 0 < r ∧ weight s k = (r : EReal) := by
  obtain ⟨a, ha⟩ := (h k).exists_coe
  obtain ⟨b, hb⟩ := (top_finite hn s h).exists_coe
  refine ⟨Real.exp (a - b), Real.exp_pos _, ?_⟩
  unfold weight
  rw [ha, hb, ← EReal.coe_sub]
  rfl

/-- So is their total. -/
theorem total_real {n : ℕ} (hn : 0 < n) (s : Fin n → EReal) (h : ∀ k, Finite (s k)) :
    ∃ r : ℝ, 0 < r ∧ total s = (r : EReal) := by
  choose f hf0 hf using weight_real hn s h
  refine ⟨∑ k, f k, Finset.sum_pos (fun k _ => hf0 k) ⟨⟨0, hn⟩, Finset.mem_univ _⟩, ?_⟩
  unfold total
  rw [← coe_sum]
  exact Finset.sum_congr rfl fun k _ => hf k

theorem div_coe (x : EReal) {r : ℝ} (hr : 0 < r) : Ideal.div x (r : EReal) = x * ((r⁻¹ : ℝ) : EReal) := by
  unfold Ideal.div
  rw [if_neg (by exact_mod_cast hr.ne'), EReal.coe_inv]

/-- Over real scores the two orders agree, whatever the values. -/
theorem attend_eq_soft {n : ℕ} (hn : 0 < n) (s v : Fin n → EReal) (h : ∀ k, Finite (s k)) : attend s v = soft s v := by
  obtain ⟨l, hl, he⟩ := total_real hn s h
  unfold attend soft
  rw [he, div_coe _ hl, sum_mul_coe _ _ (inv_nonneg.mpr hl.le)]
  refine Finset.sum_congr rfl fun k _ => ?_
  rw [div_coe _ hl, mul_comm (weight s k) (v k), mul_assoc]

/-- The score of a query against a key. -/
def dot {d : ℕ} (q k : Fin d → EReal) : EReal := ∑ x, q x * k x

theorem dot_finite {d : ℕ} (q k : Fin d → EReal) (hq : ∀ x, Finite (q x)) (hk : ∀ x, Finite (k x)) : Finite (dot q k) :=
  finite_sum _ _ fun x _ => (hq x).mul (hk x)

end Cert.Row

end
-- ==== Proof.Head.lean ====
/-
  One head of the attention kernel read at an index: the printed chain of matrix products, row maximum, exponential,
  row sum and division, at any number of rows and keys, is `Row.attend` of that row's scores and that column's values.
-/
module

public import proofs.«01_k».proof.Proof.Softmax
public import Idealize.ShloMosaic.Lib.MatmulPlain
public import Idealize.ShloMosaic.Lib.ValueIdx
public import Idealize.ShloMosaic.Lib.Pipeline.Value

@[expose] public section

noncomputable section

namespace Cert.Row

open Idealize.ShloMosaic Idealize.ShloMosaic.ValueIdx

/-- The pattern of −∞ is the least extended real. -/
theorem ofBits_bot : FloatOps.ofBits (F := Ideal) .f32 0xFF800000#32 = (⊥ : EReal) := by
  show Ideal.ofBits .f32 0xFF800000#32 = ⊥
  simp [Ideal.ofBits, Ideal.ieee]

section
variable {M N E D : ℕ}

/-- The scores: the product of the queries with the keys' transpose, from a zero accumulator. -/
theorem scores_apply {φ₁ φ₂ : FTy} (d : DotDims ⟨2, ![M, E]⟩ ⟨2, ![N, E]⟩ ⟨2, ![M, N]⟩) (hd : d = DotDims.transposedRhs M E N)
    (q : FVec Ideal ⟨2, ![M, E]⟩ φ₁) (k : FVec Ideal ⟨2, ![N, E]⟩ φ₂) (r : Fin M) (c : Fin N) :
    matmul d none q k (constant ⟨2, ![M, N]⟩ .f32 0x00000000#32) (ix2 r c)
      = dot (fun x => q (ix2 r x)) (fun x => k (ix2 c x)) := by
  subst hd
  refine (Ideal.matmul_transposedRhs_apply none q k _ r c).trans ?_
  rw [constant_apply, Ideal.ofBits_zero_f32, zero_add]
  rfl

/-- The weighted sums: the product of the weights with the values, from a zero accumulator. -/
theorem mixed_apply {φ₁ φ₂ : FTy} (d : DotDims ⟨2, ![M, N]⟩ ⟨2, ![N, D]⟩ ⟨2, ![M, D]⟩) (hd : d = DotDims.plain M N D)
    (p : FVec Ideal ⟨2, ![M, N]⟩ φ₁) (v : FVec Ideal ⟨2, ![N, D]⟩ φ₂) (r : Fin M) (c : Fin D) :
    matmul d none p v (constant ⟨2, ![M, D]⟩ .f32 0x00000000#32) (ix2 r c) = ∑ k : Fin N, p (ix2 r k) * v (ix2 k c) := by
  subst hd
  refine (Ideal.matmul_plain_apply none p v _ r c).trans ?_
  rw [constant_apply, Ideal.ofBits_zero_f32, zero_add]

theorem lift_row (h : (⟨2, ![M, N]⟩ : Shape).Reduces [1] ⟨1, ![M]⟩) (r : Fin M) (k : Fin N) :
    h.lift (ix1 r) k = ix2 r k := by
  funext a
  match a with
  | ⟨0, _⟩ => rfl
  | ⟨1, _⟩ => rfl

/-- A row's maximum, from −∞. -/
theorem rowMax_apply (h : (⟨2, ![M, N]⟩ : Shape).Reduces [1] ⟨1, ![M]⟩) (hφ : FKind.Formats .f32)
    (hacc : (0xFF800000#32 : BitVec 32) = FKind.maximumf.neutral .f32 hφ) (x : FVec Ideal ⟨2, ![M, N]⟩ .f32) (r : Fin M) :
    multiReduction .maximumf [1] ⟨1, ![M]⟩ x 0xFF800000#32 h hφ hacc (ix1 r) = top (fun k => x (ix2 r k)) := by
  refine (Ideal.multiReduction_maximumf_single x _ h hφ hacc (ix1 r)).trans ?_
  rw [ofBits_bot]
  unfold top
  exact congrArg (fun f => (Finset.univ : Finset (Fin N)).fold max (⊥ : EReal) f)
    (funext fun k => congrArg x (lift_row h r k))

/-- A row's sum. -/
theorem rowSum_apply (h : (⟨2, ![M, N]⟩ : Shape).Reduces [1] ⟨1, ![M]⟩) (hφ : FKind.Formats .f32)
    (hacc : (0x00000000#32 : BitVec 32) = FKind.add.neutral .f32 hφ) (x : FVec Ideal ⟨2, ![M, N]⟩ .f32) (r : Fin M) :
    multiReduction .add [1] ⟨1, ![M]⟩ x 0x00000000#32 h hφ hacc (ix1 r) = ∑ k : Fin N, x (ix2 r k) := by
  refine (Ideal.multiReduction_add_single x _ h hφ hacc (ix1 r)).trans ?_
  exact Finset.sum_congr rfl fun k _ => congrArg x (lift_row h r k)

/-- A value per row, laid along the row. -/
theorem alongRow_apply {α : Type} (hM : M ≠ 1) (x : (⟨1, ![M]⟩ : Shape).Idx → α) (h : (⟨1, ![M]⟩ : Shape).ShapeCasts ⟨2, ![M, 1]⟩)
    (hb : (⟨2, ![M, 1]⟩ : Shape).Broadcasts ⟨2, ![M, N]⟩) (r : Fin M) (c : Fin N) :
    broadcastTo ⟨2, ![M, N]⟩ (shapeCast ⟨2, ![M, 1]⟩ x h) hb (ix2 r c) = x (ix1 r) := by
  rw [broadcastTo_apply (shapeCast ⟨2, ![M, 1]⟩ x h) hb (ix2 r c) (ix2 r (0 : Fin 1)) (fun a => by
    match a with
    | ⟨0, _⟩ => show r.val = if M = 1 then 0 else r.val; rw [if_neg hM]
    | ⟨1, _⟩ => rfl)]
  exact shapeCast_apply x h (ix2 r (0 : Fin 1)) (ix1 r) (by
    rw [Shape.rowMajor_val_one, Shape.rowMajor_val_two]
    show r.val = r.val * 1 + 0
    omega)

variable (d₁ : DotDims ⟨2, ![M, E]⟩ ⟨2, ![N, E]⟩ ⟨2, ![M, N]⟩) (d₂ : DotDims ⟨2, ![M, N]⟩ ⟨2, ![N, D]⟩ ⟨2, ![M, D]⟩)
  (hr : (⟨2, ![M, N]⟩ : Shape).Reduces [1] ⟨1, ![M]⟩) (hs : (⟨1, ![M]⟩ : Shape).ShapeCasts ⟨2, ![M, 1]⟩)
  (hb₁ : (⟨2, ![M, 1]⟩ : Shape).Broadcasts ⟨2, ![M, N]⟩) (hb₂ : (⟨2, ![M, 1]⟩ : Shape).Broadcasts ⟨2, ![M, D]⟩)
  (hφ : FKind.Formats .f32) (hm : (0xFF800000#32 : BitVec 32) = FKind.maximumf.neutral .f32 hφ)
  (ha : (0x00000000#32 : BitVec 32) = FKind.add.neutral .f32 hφ) (ht : FTy.bits .bf16 < FTy.bits .f32)
  (q : FVec Ideal ⟨2, ![M, E]⟩ .bf16) (k : FVec Ideal ⟨2, ![N, E]⟩ .bf16) (v : FVec Ideal ⟨2, ![N, D]⟩ .bf16)

/-- The weights of every row before the division. -/
def weights : FVec Ideal ⟨2, ![M, N]⟩ .f32 :=
  exp (subf (matmul d₁ none q k (constant ⟨2, ![M, N]⟩ .f32 0x00000000#32))
    (broadcastTo ⟨2, ![M, N]⟩ (shapeCast ⟨2, ![M, 1]⟩ (multiReduction .maximumf [1] ⟨1, ![M]⟩
      (matmul d₁ none q k (constant ⟨2, ![M, N]⟩ .f32 0x00000000#32)) 0xFF800000#32 hr hφ hm) hs) hb₁))

/-- A head: the weighted sums of the values divided by the weights' totals. -/
def head : FVec Ideal ⟨2, ![M, D]⟩ .f32 :=
  divf (matmul d₂ none (truncf .bf16 (weights d₁ hr hs hb₁ hφ hm q k) ht) v (constant ⟨2, ![M, D]⟩ .f32 0x00000000#32))
    (broadcastTo ⟨2, ![M, D]⟩ (shapeCast ⟨2, ![M, 1]⟩
      (multiReduction .add [1] ⟨1, ![M]⟩ (weights d₁ hr hs hb₁ hφ hm q k) 0x00000000#32 hr hφ ha) hs) hb₂)

theorem weights_apply (hM : M ≠ 1) (hd₁ : d₁ = DotDims.transposedRhs M E N) (r : Fin M) (c : Fin N) :
    weights d₁ hr hs hb₁ hφ hm q k (ix2 r c) = weight (fun c => dot (fun x => q (ix2 r x)) (fun x => k (ix2 c x))) c := by
  unfold weights
  show Ideal.exp (_ - _) = _
  rw [alongRow_apply hM, rowMax_apply, scores_apply d₁ hd₁]
  unfold weight
  congr 3
  funext c
  exact scores_apply d₁ hd₁ q k r c

theorem head_apply (hM : M ≠ 1) (hd₁ : d₁ = DotDims.transposedRhs M E N) (hd₂ : d₂ = DotDims.plain M N D) (r : Fin M) (c : Fin D) :
    head d₁ d₂ hr hs hb₁ hb₂ hφ hm ha ht q k v (ix2 r c)
      = attend (fun c => dot (fun x => q (ix2 r x)) (fun x => k (ix2 c x))) (fun kk => v (ix2 kk c)) := by
  unfold head
  rw [divf_apply, alongRow_apply hM, rowSum_apply, mixed_apply d₂ hd₂]
  simp only [truncf_apply, weights_apply d₁ hr hs hb₁ hφ hm q k hM hd₁]
  rfl

end

end Cert.Row

end
-- ==== Proof.Mla.Block.lean ====
/-
  The attention kernel's output block read at an index: its four stores, one per head and 128 columns each, are one
  function of the blocks of queries, keys and values.
-/
module

public import proofs.«01_k».proof.Proof.Head
public import proofs.«01_k».proof.Proof.Gen.MlaIdeal.Value
public import Idealize.ShloMosaic.Lib.Pipeline.ValueKit.Tiles

@[expose] public section

set_option maxRecDepth 16384

noncomputable section

namespace Cert.Row

open Idealize.ShloMosaic Idealize.ShloMosaic.ValueIdx Idealize.ShloMosaic.Pipeline

/-- The head a column of the output belongs to. -/
def headOf (c : Fin 512) : Fin 4 := ⟨c.val / 128, by omega⟩

/-- The column within its head. -/
def colOf (c : Fin 512) : Fin 128 := ⟨c.val % 128, by omega⟩

/-- The first `n` rows of head `h` of a block of `T` rows, loaded and laid out as a matrix. -/
theorem load_apply {T n d : ℕ} (hn : n ≤ T) (X : (⟨4, ![1, 4, T, d]⟩ : Shape).Idx → Elt Ideal .bf16) (h : Fin 4)
    (inb) (hc) (r : Fin n) (x : Fin d) :
    shapeCast ⟨2, ![n, d]⟩
        (View.ld (Val := Elt Ideal) (e' := .bf16) X (Rect.unit (s := ⟨4, ![1, 4, T, d]⟩) ![0, h.val, 0, 0] (⟨4, ![1, 1, n, d]⟩ : Shape).size inb) :
          (⟨4, ![1, 1, n, d]⟩ : Shape).Idx → Elt Ideal .bf16) hc (ix2 r x)
      = X (ix4 (0 : Fin 1) h ⟨r.val, r.isLt.trans_le hn⟩ x) := by
  rw [shapeCast_apply _ hc (ix2 r x) (ix4 (0 : Fin 1) (0 : Fin 1) r x) (by
    rw [Shape.rowMajor_val_two, Shape.rowMajor_val_four]
    show ((0 * 1 + 0) * n + r.val) * d + x.val = r.val * d + x.val
    simp)]
  refine View.ld_unit_apply_of X _ _ inb (ix4 (0 : Fin 1) (0 : Fin 1) r x) _ fun a => ?_
  match a with
  | ⟨0, _⟩ => rfl
  | ⟨1, _⟩ => show h.val = h.val + 0; omega
  | ⟨2, _⟩ => show r.val = 0 + r.val; omega
  | ⟨3, _⟩ => show x.val = 0 + x.val; omega

/-- The first `n` rows of a head lie in the block. -/
theorem inb {T n d : ℕ} (hn : n ≤ T) (h : Fin 4) :
    ∀ a, (![0, h.val, 0, 0] : Fin 4 → ℕ) a + (⟨4, ![1, 1, n, d]⟩ : Shape).size a ≤ (⟨4, ![1, 4, T, d]⟩ : Shape).size a := fun a => by
  match a with
  | ⟨0, _⟩ => exact le_refl 1
  | ⟨1, _⟩ => show h.val + 1 ≤ 4; omega
  | ⟨2, _⟩ => show 0 + n ≤ T; omega
  | ⟨3, _⟩ => show 0 + d ≤ d; omega

/-- The output block from the blocks of queries, keys and values: `n` keys of the `T` staged are attended. -/
def block {T : ℕ} (n : ℕ) (hn : n ≤ T) (q : (⟨4, ![1, 4, 256, 256]⟩ : Shape).Idx → EReal) (k : (⟨4, ![1, 4, T, 256]⟩ : Shape).Idx → EReal)
    (v : (⟨4, ![1, 4, T, 128]⟩ : Shape).Idx → EReal) (r : Fin 256) (c : Fin 512) : EReal :=
  attend (fun kk : Fin n => dot (fun x : Fin 256 => q (ix4 (0 : Fin 1) (headOf c) r x))
      (fun x : Fin 256 => k (ix4 (0 : Fin 1) (headOf c) ⟨kk.val, kk.isLt.trans_le hn⟩ x)))
    (fun kk : Fin n => v (ix4 (0 : Fin 1) (headOf c) ⟨kk.val, kk.isLt.trans_le hn⟩ (colOf c)))

/-- One head's store, read at an index of the block. -/
theorem store_apply {T n : ℕ} (hn : n ≤ T) (d₁ : DotDims ⟨2, ![256, 256]⟩ ⟨2, ![n, 256]⟩ ⟨2, ![256, n]⟩)
    (d₂ : DotDims ⟨2, ![256, n]⟩ ⟨2, ![n, 128]⟩ ⟨2, ![256, 128]⟩) (hr hs hb₁ hb₂ hφ hm ha ht)
    (hd₁ : d₁ = DotDims.transposedRhs 256 256 n) (hd₂ : d₂ = DotDims.plain 256 n 128)
    (q : (⟨4, ![1, 4, 256, 256]⟩ : Shape).Idx → Elt Ideal .bf16) (k : (⟨4, ![1, 4, T, 256]⟩ : Shape).Idx → Elt Ideal .bf16)
    (v : (⟨4, ![1, 4, T, 128]⟩ : Shape).Idx → Elt Ideal .bf16) (h : Fin 4) (iq ik iv hq hk hv ho)
    (x : (⟨3, ![1, 256, 128]⟩ : Shape).Idx) (y : (⟨3, ![1, 256, 512]⟩ : Shape).Idx)
    (hy₁ : (y 1).val = (x 1).val) (hy₂ : (y 2).val = h.val * 128 + (x 2).val) :
    shapeCast ⟨3, ![1, 256, 128]⟩ (truncf .bf16 (head d₁ d₂ hr hs hb₁ hb₂ hφ hm ha ht
        (shapeCast ⟨2, ![256, 256]⟩ (View.ld (Val := Elt Ideal) (e' := .bf16) q (Rect.unit (s := ⟨4, ![1, 4, 256, 256]⟩) ![0, h.val, 0, 0] (⟨4, ![1, 1, 256, 256]⟩ : Shape).size iq)) hq)
        (shapeCast ⟨2, ![n, 256]⟩ (View.ld (Val := Elt Ideal) (e' := .bf16) k (Rect.unit (s := ⟨4, ![1, 4, T, 256]⟩) ![0, h.val, 0, 0] (⟨4, ![1, 1, n, 256]⟩ : Shape).size ik)) hk)
        (shapeCast ⟨2, ![n, 128]⟩ (View.ld (Val := Elt Ideal) (e' := .bf16) v (Rect.unit (s := ⟨4, ![1, 4, T, 128]⟩) ![0, h.val, 0, 0] (⟨4, ![1, 1, n, 128]⟩ : Shape).size iv)) hv)) ht) ho x
      = block n hn q k v (y 1) (y 2) := by
  have h2 : (x 2).val < 128 := (x 2).isLt
  have eh : headOf (y 2) = h := Fin.ext (by show (y 2).val / 128 = h.val; omega)
  have ec : colOf (y 2) = x 2 := Fin.ext (by show (y 2).val % 128 = (x 2).val; omega)
  have er : y 1 = x 1 := Fin.ext hy₁
  rw [shapeCast_apply _ ho x (ix2 (x 1) (x 2)) (by
    have h0 : (x 0).val < 1 := (x 0).isLt
    rw [Shape.rowMajor_val_two, Shape.rowMajor_val_three]
    show (x 1).val * 128 + (x 2).val = ((x 0).val * 256 + (x 1).val) * 128 + (x 2).val
    omega)]
  refine (head_apply d₁ d₂ hr hs hb₁ hb₂ hφ hm ha ht _ _ _ (by omega) hd₁ hd₂ (x 1) (x 2)).trans ?_
  unfold block
  rw [eh, ec, er]
  congr 1
  · funext kk
    congr 1
    · exact funext fun xx => load_apply le_rfl q h iq hq (x 1) xx
    · exact funext fun xx => load_apply hn k h ik hk kk xx
  · exact funext fun kk => load_apply hn v h iv hv kk (x 2)

end Cert.Row

namespace Cert.MlaIdeal.Block

open Cert.MlaIdeal Cert.MlaIdeal.Gen Cert.Row Idealize.ShloMosaic Idealize.ShloMosaic.ValueIdx

variable (q : Vec Ideal S1x4x256x256 .bf16) (k : Vec Ideal S1x4x2304x256 .bf16) (v : Vec Ideal S1x4x2304x128 .bf16)

/-- The columns of a head. -/
def cols (h : Fin 4) : Rect S1x256x512 := Rect.unit (s := S1x256x512) ![0, 0, h.val * 128] S1x256x128.size (by revert h; decide +kernel)

/-- A head's store. -/
def store (h : Fin 4) : FVec Ideal S1x256x128 .bf16 :=
  shapeCast S1x256x128 (truncf .bf16 (head dot_S256x256_S2304x256_S256x2304_1_1_0_0_n_n dot_S256x2304_S2304x128_S256x128_1_0_0_1_n_n
      reduces_S256x2304_S256 shapeCasts_S256_S256x1 broadcasts_S256x1_S256x2304 broadcasts_S256x1_S256x128 (.inl rfl) rfl rfl bitsLt_bf16_f32
      (shapeCast S256x256 (View.ld (Val := Elt Ideal) (e' := .bf16) q (Rect.unit (s := S1x4x256x256) ![0, h.val, 0, 0] S1x1x256x256.size (inb le_rfl h))) shapeCasts_S1x1x256x256_S256x256)
      (shapeCast S2304x256 (View.ld (Val := Elt Ideal) (e' := .bf16) k (Rect.unit (s := S1x4x2304x256) ![0, h.val, 0, 0] S1x1x2304x256.size (inb le_rfl h))) shapeCasts_S1x1x2304x256_S2304x256)
      (shapeCast S2304x128 (View.ld (Val := Elt Ideal) (e' := .bf16) v (Rect.unit (s := S1x4x2304x128) ![0, h.val, 0, 0] S1x1x2304x128.size (inb le_rfl h))) shapeCasts_S1x1x2304x128_S2304x128))
    bitsLt_bf16_f32) shapeCasts_S256x128_S1x256x128

/-- It, read at an index. -/
theorem store_eq (h : Fin 4) (x : S1x256x128.Idx) : store q k v h x = block 2304 le_rfl q k v ((cols h).emb x 1) ((cols h).emb x 2) :=
  store_apply le_rfl _ _ _ _ _ _ _ _ _ _ rfl rfl q k v h _ _ _ _ _ _ _ x ((cols h).emb x)
    (by show 0 + 1 * (x 1).val = (x 1).val; omega) (by show h.val * 128 + 1 * (x 2).val = h.val * 128 + (x 2).val; omega)

/-- The block a grid point leaves, read at an index. -/
theorem out_apply (y : S1x256x512.Idx) : out0_3 q k v y = block 2304 le_rfl q k v (y 1) (y 2) := by
  have e : out0_3 q k v = View.canon [⟨cols 3, store q k v 3⟩, ⟨cols 2, store q k v 2⟩, ⟨cols 1, store q k v 1⟩, ⟨cols 0, store q k v 0⟩] := rfl
  rw [e]
  refine View.canon_apply_of_pieces (Val := Elt Ideal) (e := .bf16) (fun y : S1x256x512.Idx => block 2304 le_rfl q k v (y 1) (y 2)) _ ?_ y (cover0_3 _ _ _ _ y)
  intro p hp
  rcases List.mem_cons.mp hp with rfl | hp
  · exact store_eq q k v 3
  rcases List.mem_cons.mp hp with rfl | hp
  · exact store_eq q k v 2
  rcases List.mem_cons.mp hp with rfl | hp
  · exact store_eq q k v 1
  rcases List.mem_cons.mp hp with rfl | hp
  · exact store_eq q k v 0
  · exact absurd hp List.not_mem_nil

end Cert.MlaIdeal.Block

end
-- ==== Proof.Mla.Array.lean ====
/-
  The attention kernel's result array, as one function of the arrays of queries, keys and values: each grid point's block
  is the attention of its 256 rows over the whole staged keys, and the blocks cover the array.
-/
module

public import proofs.«01_k».proof.Proof.Mla.Block

@[expose] public section

noncomputable section

namespace Cert.Row

open Idealize.ShloMosaic Idealize.ShloMosaic.ValueIdx

/-- The attention at batch `b`, query row `t`, output column `c`, over the first `n` keys. -/
def cell (n : ℕ) (hn : n ≤ 2304) (q k : (⟨4, ![8, 4, 2304, 256]⟩ : Shape).Idx → EReal) (v : (⟨4, ![8, 4, 2304, 128]⟩ : Shape).Idx → EReal)
    (b : Fin 8) (t : Fin 2304) (c : Fin 512) : EReal :=
  attend (fun kk : Fin n => dot (fun x : Fin 256 => q (ix4 b (headOf c) t x))
      (fun x : Fin 256 => k (ix4 b (headOf c) ⟨kk.val, kk.isLt.trans_le hn⟩ x)))
    (fun kk : Fin n => v (ix4 b (headOf c) ⟨kk.val, kk.isLt.trans_le hn⟩ (colOf c)))

/-- The attention of the 2048 rows after the first 256. -/
def lastRows (q k : (⟨4, ![8, 4, 2304, 256]⟩ : Shape).Idx → EReal) (v : (⟨4, ![8, 4, 2304, 128]⟩ : Shape).Idx → EReal)
    (i : (⟨3, ![8, 2048, 512]⟩ : Shape).Idx) : EReal :=
  cell 2304 le_rfl q k v (i 0) ⟨256 + (i 1).val, by have : (i 1).val < 2048 := (i 1).isLt; omega⟩ (i 2)

end Cert.Row

namespace Cert.MlaIdeal.Array

open Cert.MlaIdeal Cert.MlaIdeal.Gen Cert.Row Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The queries' block at a point, as the array index it is read from. -/
theorem index0 : ∀ t : Fin cfg0.N, win0_0.index t 0 = t.val / 8 ∧ win0_0.index t 1 = 0 ∧ win0_0.index t 2 = t.val % 8 + 1 ∧ win0_0.index t 3 = 0 :=
  (by decide +kernel : ∀ t : Fin grid0.N, win0_0.index t 0 = t.val / 8 ∧ win0_0.index t 1 = 0 ∧ win0_0.index t 2 = t.val % 8 + 1 ∧ win0_0.index t 3 = 0)

theorem index1 : ∀ t : Fin cfg0.N, win0_1.index t 0 = t.val / 8 ∧ win0_1.index t 1 = 0 ∧ win0_1.index t 2 = 0 ∧ win0_1.index t 3 = 0 :=
  (by decide +kernel : ∀ t : Fin grid0.N, win0_1.index t 0 = t.val / 8 ∧ win0_1.index t 1 = 0 ∧ win0_1.index t 2 = 0 ∧ win0_1.index t 3 = 0)

theorem index2 : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)

theorem index3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)

/-- The batch a point works on. -/
def batch (t : Fin cfg0.N) : Fin 8 := ⟨t.val / 8, by have : t.val < 64 := t.isLt; omega⟩

/-- The query row of the array behind a row of a point's block. -/
def row (t : Fin cfg0.N) (r : Fin 256) : Fin 2304 := ⟨(t.val % 8 + 1) * 256 + r.val, by omega⟩

/-- A point's block of queries, read at an index. -/
theorem queries (t : Fin cfg0.N) (h : Fin 4) (r x : Fin 256) :
    (iblk m c 0 t : Vec Ideal S1x4x256x256 .bf16) (ix4 (0 : Fin 1) h r x) = m ((c : Thread nD τ).loc main_arg0) (ix4 (batch t) h (row t r) x) := by
  obtain ⟨e0, e1, e2, e3⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8; rw [e0]; omega
  | ⟨1, _⟩ => show win0_0.index t 1 * 4 + 1 * h.val = h.val; rw [e1]; omega
  | ⟨2, _⟩ => show win0_0.index t 2 * 256 + 1 * r.val = (t.val % 8 + 1) * 256 + r.val; rw [e2]; omega
  | ⟨3, _⟩ => show win0_0.index t 3 * 256 + 1 * x.val = x.val; rw [e3]; omega

/-- A point's block of keys, read at an index. -/
theorem keys (t : Fin cfg0.N) (h : Fin 4) (k : Fin 2304) (x : Fin 256) :
    (iblk m c 1 t : Vec Ideal S1x4x2304x256 .bf16) (ix4 (0 : Fin 1) h k x) = m ((c : Thread nD τ).loc main_arg1) (ix4 (batch t) h k x) := by
  obtain ⟨e0, e1, e2, e3⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8; rw [e0]; omega
  | ⟨1, _⟩ => show win0_1.index t 1 * 4 + 1 * h.val = h.val; rw [e1]; omega
  | ⟨2, _⟩ => show win0_1.index t 2 * 2304 + 1 * k.val = k.val; rw [e2]; omega
  | ⟨3, _⟩ => show win0_1.index t 3 * 256 + 1 * x.val = x.val; rw [e3]; omega

/-- A point's block of values, read at an index. -/
theorem values (t : Fin cfg0.N) (h : Fin 4) (k : Fin 2304) (x : Fin 128) :
    (iblk m c 2 t : Vec Ideal S1x4x2304x128 .bf16) (ix4 (0 : Fin 1) h k x) = m ((c : Thread nD τ).loc main_arg2) (ix4 (batch t) h k x) := by
  obtain ⟨e0, e1, e2, e3⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 8; rw [e0]; omega
  | ⟨1, _⟩ => show win0_2.index t 1 * 4 + 1 * h.val = h.val; rw [e1]; omega
  | ⟨2, _⟩ => show win0_2.index t 2 * 2304 + 1 * k.val = k.val; rw [e2]; omega
  | ⟨3, _⟩ => show win0_2.index t 3 * 128 + 1 * x.val = x.val; rw [e3]; omega

/-- A point's block of the result, from the arrays. -/
theorem block_eq (t : Fin cfg0.N) (r : Fin 256) (col : Fin 512) :
    block 2304 le_rfl (iblk m c 0 t : Vec Ideal S1x4x256x256 .bf16) (iblk m c 1 t : Vec Ideal S1x4x2304x256 .bf16) (iblk m c 2 t : Vec Ideal S1x4x2304x128 .bf16) r col
      = cell 2304 le_rfl (m ((c : Thread nD τ).loc main_arg0)) (m ((c : Thread nD τ).loc main_arg1)) (m ((c : Thread nD τ).loc main_arg2)) (batch t) (row t r) col := by
  unfold block cell
  congr 1
  · funext kk
    congr 1
    · exact funext fun x => queries m c t (headOf col) r x
    · exact funext fun x => keys m c t (headOf col) kk x
  · exact funext fun kk => values m c t (headOf col) kk (colOf col)

/-- The result array's function of the launched memory. -/
def result : S8x2048x512.Idx → EReal :=
  lastRows (m ((c : Thread nD τ).loc main_arg0)) (m ((c : Thread nD τ).loc main_arg1)) (m ((c : Thread nD τ).loc main_arg2))

/-- What a point writes back is its block of the result. -/
theorem flushed_eq (t : Fin cfg0.N) : (dats m 0 c).flushed 3 t = ((cfg0.win 3).blk t).view.read (Elt Ideal) (result m c) := by
  obtain ⟨e0, e1, e2⟩ := index3 t
  rw [Value.flushed3]
  funext j
  rw [View.read_apply]
  refine (Block.out_apply _ _ _ j).trans ((block_eq m c t _ _).trans ?_)
  show _ = result m c (((cfg0.win 3).blk t).view.emb j)
  unfold result lastRows
  have h0 : (j 0).val < 1 := (j 0).isLt
  congr 1
  · apply Fin.ext
    show t.val / 8 = win0_3.index t 0 * 1 + 1 * (j 0).val
    rw [e0]; omega
  · apply Fin.ext
    show (t.val % 8 + 1) * 256 + (j 1).val = 256 + (win0_3.index t 1 * 256 + 1 * (j 1).val)
    rw [e1]; omega
  · apply Fin.ext
    show (j 2).val = win0_3.index t 2 * 512 + 1 * (j 2).val
    rw [e2]; omega

/-- Every index of the result lies in the block of a point. -/
theorem cover (i : S8x2048x512.Idx) : ∃ t : Fin cfg0.N, (cfg0.win 3).flush t = true ∧ i ∈ ((cfg0.win 3).blk t).view.set := by
  have h0 : (i 0 : Nat) < 8 := (i 0).isLt
  have h1 : (i 1 : Nat) < 2048 := (i 1).isLt
  have h2 : (i 2 : Nat) < 512 := (i 2).isLt
  have hlt : (i 0 : Nat) * 8 + (i 1 : Nat) / 256 < 64 := by omega
  obtain ⟨t, ht⟩ : ∃ t : Fin cfg0.N, t.val = (i 0 : Nat) * 8 + (i 1 : Nat) / 256 := ⟨⟨_, hlt⟩, rfl⟩
  obtain ⟨e0, e1, e2⟩ := index3 t
  refine ⟨t, flush0_3 _, ?_⟩
  show i ∈ ((View.whole main_v0).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [e0]; omega
  | ⟨1, _⟩ =>
    show win0_3.index t 1 * 256 ≤ (i 1 : Nat) ∧ (i 1 : Nat) < win0_3.index t 1 * 256 + 256
    rw [e1]; omega
  | ⟨2, _⟩ =>
    show win0_3.index t 2 * 512 ≤ (i 2 : Nat) ∧ (i 2 : Nat) < win0_3.index t 2 * 512 + 512
    rw [e2]; omega

/-- The array the run leaves. -/
theorem final : (dats m 0 c).arrAt 3 cfg0.N = result m c :=
  (dats m 0 c).arrAt_eq_of_cover 3 (result m c) (fun t _ => flushed_eq m c t) cover

end Cert.MlaIdeal.Array

end
-- ==== Proof.Mla.Ref.lean ====
/-
  The reference attention read at an index: `jnp.einsum`, `jax.nn.softmax`, `jnp.einsum` of the rows after the first 256,
  as the values summed under the divided weights.
-/
module

public import proofs.«01_k».proof.Proof.Mla.Array
public import proofs.«01_k».proof.Proof.Gen.MlaRefIdeal.Run
public import proofs.«01_k».proof.Proof.Gen.MlaRefIdeal.Read

@[expose] public section

noncomputable section

namespace Cert.MlaRefIdeal.Array

open Cert.MlaRefIdeal Cert.MlaRefIdeal.Gen Cert.MlaRefIdeal.Read Cert.Row Idealize.ShloMosaic Idealize.ShloMosaic.TcCoe Idealize.ShloMosaic.ValueIdx

variable (q k : (⟨S8x4x2304x256, .bf16⟩ : BufTy).Contents (Elt Ideal)) (v : (⟨S8x4x2304x128, .bf16⟩ : BufTy).Contents (Elt Ideal))

/-- The query row behind a row of the result. -/
def late (t : Fin 2048) : Fin 2304 := ⟨256 + t.val, by omega⟩

/-- The scores of one query row. -/
def scores (b : Fin 8) (h : Fin 4) (t : Fin 2048) (kk : Fin 2304) : EReal :=
  dot (fun x : Fin 256 => q (ix4 b h (late t) x)) (fun x : Fin 256 => k (ix4 b h kk x))

theorem v4_eq (b : Fin 8) (h : Fin 4) (t : Fin 2048) (kk : Fin 2304) : val_main_v4 (F := Ideal) q k (ix4 b h t kk) = scores q k b h t kk := by
  rw [val_main_v4_apply]
  unfold scores dot
  refine Finset.sum_congr rfl fun x _ => ?_
  rw [val_main_v1_apply, val_main_v0_apply, val_main_v2_apply]
  congr 1
  · show q _ = q _
    congr 1
    funext a
    apply Fin.ext
    match a with
    | ⟨0, _⟩ => rfl
    | ⟨1, _⟩ => rfl
    | ⟨2, _⟩ => rfl
    | ⟨3, _⟩ => rfl
  · show k _ = k _
    congr 1
    funext a
    match a with
    | ⟨0, _⟩ => rfl
    | ⟨1, _⟩ => rfl
    | ⟨2, _⟩ => rfl
    | ⟨3, _⟩ => rfl

theorem v5_eq (b : Fin 8) (h : Fin 4) (t : Fin 2048) : val_main_v5 (F := Ideal) q k (ix3 b h t) = top (scores q k b h t) := by
  have hr : S8x4x2048x2304.Reduces [3] S8x4x2048 := by decide
  unfold val_main_v5
  refine (Host.reduce_eq_fold_single (α := EReal) max _ _ reducesTo_S8x4x2048x2304_S8x4x2048_d3 hr h_S_ (ix3 b h t)).trans ?_
  have e0 : (val_main_cst (F := Ideal)) (Shape.Idx.first h_S_) = (⊥ : EReal) := (val_main_cst_apply _).trans ofBits_bot
  have e1 : (val_main_v4 (F := Ideal) q k ∘ hr.lift (ix3 b h t)) = scores q k b h t := funext fun kk => by
    refine Eq.trans (congrArg (val_main_v4 (F := Ideal) q k) (funext fun a => Fin.ext ?_)) (v4_eq q k b h t kk)
    match a with
    | ⟨0, _⟩ => rfl
    | ⟨1, _⟩ => rfl
    | ⟨2, _⟩ => rfl
    | ⟨3, _⟩ => rfl
  rw [e0, e1]
  rfl

theorem v11_eq (b : Fin 8) (h : Fin 4) (t : Fin 2048) (kk : Fin 2304) :
    val_main_v11 (F := Ideal) q k (ix4 b h t kk) = weight (scores q k b h t) kk := by
  have e : idx_main_v8 (idx_main_v9 (ix4 b h t kk)) = ix3 b h t := funext fun a => by
    match a with
    | ⟨0, _⟩ => rfl
    | ⟨1, _⟩ => rfl
    | ⟨2, _⟩ => rfl
  rw [val_main_v11_apply, val_main_v10_apply, v4_eq, val_main_v9_apply, val_main_v8_apply, e, val_main_v7_apply, v5_eq,
    val_main_v6_apply, val_main_cst_0_apply]
  show Ideal.exp (scores q k b h t kk - max (FloatOps.ofBits (F := Ideal) .f32 0xFF800000#32 : EReal) (top (scores q k b h t))) = _
  rw [show (FloatOps.ofBits (F := Ideal) .f32 0xFF800000#32 : EReal) = ⊥ from ofBits_bot, max_eq_right bot_le]
  rfl

theorem v12_eq (b : Fin 8) (h : Fin 4) (t : Fin 2048) : val_main_v12 (F := Ideal) q k (ix3 b h t) = total (scores q k b h t) := by
  rw [val_main_v12_apply, val_main_cst_1_apply]
  have e0 : (FloatOps.ofBits (F := Ideal) .f32 0x00000000#32 : EReal) = 0 := Idealize.ShloMosaic.Ideal.ofBits_zero_f32
  refine (congrArg (· + _) e0).trans ((zero_add _).trans ?_)
  unfold total
  refine Finset.sum_congr rfl fun kk _ => ?_
  refine Eq.trans (congrArg (val_main_v11 (F := Ideal) q k) (funext fun a => ?_)) (v11_eq q k b h t kk)
  match a with
  | ⟨0, _⟩ => rfl
  | ⟨1, _⟩ => rfl
  | ⟨2, _⟩ => rfl
  | ⟨3, _⟩ => rfl

theorem v15_eq (b : Fin 8) (h : Fin 4) (t : Fin 2048) (kk : Fin 2304) :
    val_main_v15 (F := Ideal) q k (ix4 b h t kk) = Ideal.div (weight (scores q k b h t) kk) (total (scores q k b h t)) := by
  have e : idx_main_v13 (idx_main_v14 (ix4 b h t kk)) = ix3 b h t := funext fun a => by
    match a with
    | ⟨0, _⟩ => rfl
    | ⟨1, _⟩ => rfl
    | ⟨2, _⟩ => rfl
  rw [val_main_v15_apply, v11_eq, val_main_v14_apply, val_main_v13_apply, e, v12_eq]
  rfl

theorem v16_eq (b : Fin 8) (h : Fin 4) (d : Fin 128) (t : Fin 2048) :
    val_main_v16 (F := Ideal) q k v (ix4 b h d t) = soft (scores q k b h t) (fun kk => v (ix4 b h kk d)) := by
  rw [val_main_v16_apply]
  unfold soft
  refine Finset.sum_congr rfl fun kk _ => ?_
  congr 1
  · rw [val_main_v3_apply]
    show v _ = v _
    congr 1
    funext a
    match a with
    | ⟨0, _⟩ => rfl
    | ⟨1, _⟩ => rfl
    | ⟨2, _⟩ => rfl
    | ⟨3, _⟩ => rfl
  · refine Eq.trans (congrArg (val_main_v15 (F := Ideal) q k) (funext fun a => ?_)) (v15_eq q k b h t kk)
    match a with
    | ⟨0, _⟩ => rfl
    | ⟨1, _⟩ => rfl
    | ⟨2, _⟩ => rfl
    | ⟨3, _⟩ => rfl

/-- The reference's result at an index. -/
theorem v19_eq (b : Fin 8) (t : Fin 2048) (c : Fin 512) :
    val_main_v19 (F := Ideal) q k v (ix3 b t c) = soft (scores q k b (headOf c) t) (fun kk => v (ix4 b (headOf c) kk (colOf c))) := by
  rw [val_main_v19_apply]
  show val_main_v18 (F := Ideal) q k v (ix3 b t c) = _
  rw [val_main_v18_apply, val_main_v17_apply]
  refine Eq.trans (congrArg (val_main_v16 (F := Ideal) q k v) (funext fun a => Fin.ext ?_)) (v16_eq q k v b (headOf c) (colOf c) t)
  match a with
  | ⟨0, _⟩ => show ((b.val * 2048 + t.val) * 512 + c.val) / 1048576 = b.val; omega
  | ⟨1, _⟩ => show ((b.val * 2048 + t.val) * 512 + c.val) / 128 % 4 = c.val / 128; omega
  | ⟨2, _⟩ => show ((b.val * 2048 + t.val) * 512 + c.val) % 128 = c.val % 128; omega
  | ⟨3, _⟩ => show ((b.val * 2048 + t.val) * 512 + c.val) / 512 % 2048 = t.val; omega

/-- On real queries and keys the reference's result is the kernel's. -/
theorem eq_lastRows (hq : ∀ i, Finite (q i)) (hk : ∀ i, Finite (k i)) : val_main_v19 (F := Ideal) q k v = lastRows q k v := by
  funext i
  obtain ⟨b, t, c, rfl⟩ : ∃ (b : Fin 8) (t : Fin 2048) (c : Fin 512), i = ix3 b t c := ⟨i 0, i 1, i 2, funext fun a => by
    match a with
    | ⟨0, _⟩ => rfl
    | ⟨1, _⟩ => rfl
    | ⟨2, _⟩ => rfl⟩
  rw [v19_eq]
  exact (attend_eq_soft (by omega) _ _ fun kk => dot_finite _ _ (fun _ => hq _) (fun _ => hk _)).symm

end Cert.MlaRefIdeal.Array

end
-- ==== Proof.Mla.Pre.lean ====
/-
  The precondition read at the extended reals: every query and every key is a real number.
-/
module

public import proofs.«01_k».proof.Proof.Softmax
public import proofs.«01_k».proof.Proof.Gen.Pre_finite
public import Idealize.ShloMosaic.Lib.WordCmp
public import Idealize.ShloMosaic.Lib.ValueIdxCore

@[expose] public section

noncomputable section

namespace Cert.Row

open Idealize.ShloMosaic Idealize.ShloMosaic.ValueIdx Idealize.ShloMosaic.WordCmp

theorem bf16_bot : FloatOps.ofBits (F := Ideal) .bf16 0xFF80#16 = (⊥ : EReal) := by
  show Ideal.ofBits .bf16 0xFF80#16 = ⊥
  simp [Ideal.ofBits, Ideal.ieee]

theorem bf16_top : FloatOps.ofBits (F := Ideal) .bf16 0x7F80#16 = (⊤ : EReal) := by
  show Ideal.ofBits .bf16 0x7F80#16 = ⊤
  simp [Ideal.ofBits, Ideal.ieee]

/-- An array strictly between −∞ and +∞ everywhere is an array of reals. -/
theorem finite_of_between {s : Shape} (hb) (x : FVec Ideal s .bf16)
    (h : andi (cmpf .ogt x (broadcastInDim s ![] hb (constant (F := Ideal) ⟨0, ![]⟩ .bf16 0xFF80#16)))
        (cmpf .olt x (broadcastInDim s ![] hb (constant (F := Ideal) ⟨0, ![]⟩ .bf16 0x7F80#16))) = fun _ => 1#1) (i : s.Idx) :
    Finite (x i) := by
  have hi := congrFun h i
  have e : IntOp.andi (FloatOps.cmpf (F := Ideal) .ogt (x i) (FloatOps.ofBits (F := Ideal) .bf16 0xFF80#16))
      (FloatOps.cmpf (F := Ideal) .olt (x i) (FloatOps.ofBits (F := Ideal) .bf16 0x7F80#16)) = 1#1 := hi
  rw [bf16_bot, bf16_top] at e
  have e' : IntOp.andi (BitVec.ofBool (decide ((⊥ : EReal) < x i))) (BitVec.ofBool (decide (x i < (⊤ : EReal)))) = 1#1 := e
  rw [andi_ofBool, ofBool_eq_one_iff, Bool.and_eq_true, decide_eq_true_eq, decide_eq_true_eq] at e'
  exact ⟨e'.2.ne, e'.1.ne'⟩

end Cert.Row

end
-- ==== Proof.Mla.Claims.lean ====
/-
  The claims about the attention of the rows after the first 256: both programs run, leave their arguments alone and end
  with every counter at zero; on real queries and keys they leave the same result.
-/
module

public import proofs.«01_k».proof.Defs
public import proofs.«01_k».proof.Proof.Mla.Ref
public import proofs.«01_k».proof.Proof.Mla.Pre
public import proofs.«01_k».proof.Proof.Gen.Mla.Frame
public import Idealize.ShloMosaic.Lib.Quiescent

@[expose] public section

noncomputable section

namespace Cert.Proof.Mla

open Idealize.ShloMosaic Idealize.SL.Sem

attribute [local instance] Cert.Mla.Gen.facts Cert.MlaIdeal.Gen.facts Cert.MlaRefIdeal.Gen.facts Cert.Pre_finite.Gen.facts

theorem quiescent_kernel : Cert.quiescent_Mla := fun m g _ => Cert.Mla.Gen.frame m g

theorem quiescent_ideal : Cert.quiescent_MlaIdeal := fun m g _ => Cert.MlaIdeal.Gen.frame m g

theorem quiescent_ideal_finite : Cert.quiescent_MlaIdeal_pre_finite := fun m g _ => Cert.MlaIdeal.Gen.frame m g

/-- The reference runs, keeps its arguments and ends with every counter at zero. -/
theorem quiescent_reference : Cert.quiescent_MlaRefIdeal := fun m g _ =>
  (θ_run _ _ _).mono (fun r h => ⟨fun c => (h c).2, sem_eq_zero_of_no_sems (by decide) r.2⟩) (Cert.MlaRefIdeal.Value.run m g)

theorem quiescent_reference_finite : Cert.quiescent_MlaRefIdeal_pre_finite := fun m g _ => quiescent_reference m g trivial

theorem preserves : Cert.preserves_Mla_MlaIdeal := trivial

theorem algebraic : Cert.algebraic_MlaIdeal_MlaRefIdeal_pre_finite := by
  intro m g m' g' hpre hargs
  refine ⟨fun c => Cert.MlaIdeal.Array.result m c, ?_, ?_⟩
  · exact (θ_run _ _ _).mono (fun r h c => ⟨(h c).1.trans (Cert.MlaIdeal.Array.final m c), (h c).2⟩) (Cert.MlaIdeal.Value.run_blocks m g)
  · refine (θ_run _ _ _).mono (fun r h c => ⟨(h c).1.trans ?_, (h c).2⟩) (Cert.MlaRefIdeal.Value.run m' g')
    obtain ⟨a0, a1, a2⟩ := hargs c
    rw [a0, a1, a2]
    exact (Cert.MlaRefIdeal.Read.val_main_v19_eq _ _ _).trans (Cert.MlaRefIdeal.Array.eq_lastRows _ _ _ (Cert.Row.finite_of_between _ _ (hpre c).1) (Cert.Row.finite_of_between _ _ (hpre c).2))

end Cert.Proof.Mla

end
-- ==== Proof.MlaFirst.Block.lean ====
/-
  The first layer's attention kernel's output block read at an index. A point of the first 256 rows attends 256 keys, every
  other point all 2304; each leaves four stores, one per head, which are one function of the staged blocks.
-/
module

public import proofs.«01_k».proof.Proof.Mla.Block
public import proofs.«01_k».proof.Proof.Gen.MlaFirstIdeal.Value
public import Idealize.ShloMosaic.Lib.WholeRead

@[expose] public section

set_option maxRecDepth 16384

noncomputable section

namespace Cert.MlaFirstIdeal.Block

open Cert.MlaIdeal.Block (cols store store_eq)
open Cert.MlaFirstIdeal Cert.MlaFirstIdeal.Gen Cert.Row Idealize.ShloMosaic Idealize.ShloMosaic.ValueIdx

/-- A load of a whole staging buffer through a rectangle. -/
theorem ld_of_whole {sp : Space} {s : Shape} {e : EltTy} {a : Memref sig .tc sp s e} (h : a.IsWhole) (X : s.Idx → Elt Ideal e) (r : Rect s) :
    View.readAt (Elt Ideal) a.view r.toLoadRect (h.unread X) = View.ld (Val := Elt Ideal) (e' := e) X r :=
  funext fun x => h.readAt_unread X _ x

section
variable (q : Vec Ideal S1x4x256x256 .bf16) (k : Vec Ideal S1x4x2304x256 .bf16) (v : Vec Ideal S1x4x2304x128 .bf16)
  (c : Dev nD) (i : grid0.Coords) (arg2 : Memref sig .tc .vmem S1x4x256x256 .bf16) (harg2 : arg2.IsWhole) (arg3 : Memref sig .tc .vmem S1x4x2304x256 .bf16) (harg3 : arg3.IsWhole)
  (arg4 : Memref sig .tc .vmem S1x4x2304x128 .bf16) (harg4 : arg4.IsWhole) (arg5 : Memref sig .tc .vmem S1x256x512 .bf16) (harg5 : arg5.IsWhole)

/-- A head's store over 256 keys. -/
def storeA (h : Fin 4) : FVec Ideal S1x256x128 .bf16 :=
  shapeCast S1x256x128 (truncf .bf16 (head dot_S256x256_S256x256_S256x256_1_1_0_0_n_n dot_S256x256_S256x128_S256x128_1_0_0_1_n_n
      reduces_S256x256_S256 shapeCasts_S256_S256x1 broadcasts_S256x1_S256x256 broadcasts_S256x1_S256x128 (.inl rfl) rfl rfl bitsLt_bf16_f32
      (shapeCast S256x256 (View.ld (Val := Elt Ideal) (e' := .bf16) q (Rect.unit (s := S1x4x256x256) ![0, h.val, 0, 0] S1x1x256x256.size (inb le_rfl h))) shapeCasts_S1x1x256x256_S256x256)
      (shapeCast S256x256 (View.ld (Val := Elt Ideal) (e' := .bf16) k (Rect.unit (s := S1x4x2304x256) ![0, h.val, 0, 0] S1x1x256x256.size (inb (by omega) h))) shapeCasts_S1x1x256x256_S256x256)
      (shapeCast S256x128 (View.ld (Val := Elt Ideal) (e' := .bf16) v (Rect.unit (s := S1x4x2304x128) ![0, h.val, 0, 0] S1x1x256x128.size (inb (by omega) h))) shapeCasts_S1x1x256x128_S256x128))
    bitsLt_bf16_f32) shapeCasts_S256x128_S1x256x128

/-- It, read at an index. -/
theorem storeA_eq (h : Fin 4) (x : S1x256x128.Idx) :
    storeA q k v h x = block 256 (by omega : 256 ≤ 2304) q k v ((cols h).emb x 1) ((cols h).emb x 2) :=
  store_apply (by omega : 256 ≤ 2304) _ _ _ _ _ _ _ _ _ _ rfl rfl q k v h _ _ _ _ _ _ _ x ((cols h).emb x)
    (by show 0 + 1 * (x 1).val = (x 1).val; omega) (by show h.val * 128 + 1 * (x 2).val = h.val * 128 + (x 2).val; omega)

/-- The four stores of a point over 256 keys. -/
theorem piecesA (hc0 : cond0_0 i) (hc1 : ¬cond0_1 i) :
    (kernelRun0_A c i arg2 harg2 arg3 harg3 arg4 harg4 arg5 harg5 hc0 hc1 q k v).1 = [⟨cols 3, storeA q k v 3⟩, ⟨cols 2, storeA q k v 2⟩, ⟨cols 1, storeA q k v 1⟩, ⟨cols 0, storeA q k v 0⟩] := by
  unfold kernelRun0_A
  dsimp only
  simp only [kernelRun0_A.sl.v73, kernelRun0_A.sl.v75, kernelRun0_A.sl.v77, kernelRun0_A.sl.r, kernelRun0_A.sl.r_1, kernelRun0_A.sl.r_2, kernelRun0_A.sl.r_3, ld_of_whole]
  rfl

/-- The block a point over 256 keys leaves, read at an index. -/
theorem outA_apply (hc0 : cond0_0 i) (hc1 : ¬cond0_1 i) (y : S1x256x512.Idx) :
    out0_A_3 c i arg2 harg2 arg3 harg3 arg4 harg4 arg5 harg5 hc0 hc1 q k v y = block 256 (by omega : 256 ≤ 2304) q k v (y 1) (y 2) := by
  have hcov := cover0_A_3 c i arg2 harg2 arg3 harg3 arg4 harg4 arg5 harg5 hc0 hc1 q k v
  unfold out0_A_3
  rw [View.read_writes_eq_canon _ _ _ hcov]
  refine View.canon_apply_of_pieces (Val := Elt Ideal) (e := .bf16) (fun y : S1x256x512.Idx => block 256 (by omega : 256 ≤ 2304) q k v (y 1) (y 2)) _ ?_ y (hcov y)
  rw [piecesA]
  intro p hp
  rcases List.mem_cons.mp hp with rfl | hp
  · exact storeA_eq q k v 3
  rcases List.mem_cons.mp hp with rfl | hp
  · exact storeA_eq q k v 2
  rcases List.mem_cons.mp hp with rfl | hp
  · exact storeA_eq q k v 1
  rcases List.mem_cons.mp hp with rfl | hp
  · exact storeA_eq q k v 0
  · exact absurd hp List.not_mem_nil

/-- The four stores of a point over 2304 keys. -/
theorem piecesB (hc0 : ¬cond0_0 i) (hc1 : cond0_1 i) :
    (kernelRun0_B c i arg2 harg2 arg3 harg3 arg4 harg4 arg5 harg5 hc0 hc1 q k v).1 = [⟨cols 3, store q k v 3⟩, ⟨cols 2, store q k v 2⟩, ⟨cols 1, store q k v 1⟩, ⟨cols 0, store q k v 0⟩] := by
  unfold kernelRun0_B
  dsimp only
  simp only [kernelRun0_B.sl.v73, kernelRun0_B.sl.v75, kernelRun0_B.sl.v77, kernelRun0_B.sl.r, kernelRun0_B.sl.r_1, kernelRun0_B.sl.r_2, kernelRun0_B.sl.r_3, ld_of_whole]
  rfl

/-- The block a point over 2304 keys leaves, read at an index. -/
theorem outB_apply (hc0 : ¬cond0_0 i) (hc1 : cond0_1 i) (y : S1x256x512.Idx) :
    out0_B_3 c i arg2 harg2 arg3 harg3 arg4 harg4 arg5 harg5 hc0 hc1 q k v y = block 2304 (le_refl 2304) q k v (y 1) (y 2) := by
  have hcov := cover0_B_3 c i arg2 harg2 arg3 harg3 arg4 harg4 arg5 harg5 hc0 hc1 q k v
  unfold out0_B_3
  rw [View.read_writes_eq_canon _ _ _ hcov]
  refine View.canon_apply_of_pieces (Val := Elt Ideal) (e := .bf16) (fun y : S1x256x512.Idx => block 2304 (le_refl 2304) q k v (y 1) (y 2)) _ ?_ y (hcov y)
  rw [piecesB]
  intro p hp
  rcases List.mem_cons.mp hp with rfl | hp
  · exact store_eq q k v 3
  rcases List.mem_cons.mp hp with rfl | hp
  · exact store_eq q k v 2
  rcases List.mem_cons.mp hp with rfl | hp
  · exact store_eq q k v 1
  rcases List.mem_cons.mp hp with rfl | hp
  · exact store_eq q k v 0
  · exact absurd hp List.not_mem_nil

end

end Cert.MlaFirstIdeal.Block

end
-- ==== Proof.MlaFirst.Array.lean ====
/-
  The first layer's attention kernel's result array, as one function of the arrays of queries, keys and values: the first
  256 rows attend the first 256 keys, the other rows all of them, and the grid points' blocks cover the array.
-/
module

public import proofs.«01_k».proof.Proof.Mla.Array
public import proofs.«01_k».proof.Proof.MlaFirst.Block

@[expose] public section

noncomputable section

namespace Cert.Row

open Idealize.ShloMosaic Idealize.ShloMosaic.ValueIdx

variable (q k : (⟨4, ![8, 4, 2304, 256]⟩ : Shape).Idx → EReal) (v : (⟨4, ![8, 4, 2304, 128]⟩ : Shape).Idx → EReal)

/-- The attention of all 2304 rows: a row before the 256th attends the first 256 keys, any other row every key. -/
def allRows (i : (⟨3, ![8, 2304, 512]⟩ : Shape).Idx) : EReal :=
  if (i 1).val < 256 then cell 256 (by omega) q k v (i 0) (i 1) (i 2) else cell 2304 (le_refl 2304) q k v (i 0) (i 1) (i 2)

theorem allRows_first (b : Fin 8) (t : Fin 2304) (c : Fin 512) (h : t.val < 256) :
    allRows q k v (ix3 b t c) = cell 256 (by omega) q k v b t c := if_pos h

theorem allRows_rest (b : Fin 8) (t : Fin 2304) (c : Fin 512) (h : ¬t.val < 256) :
    allRows q k v (ix3 b t c) = cell 2304 (le_refl 2304) q k v b t c := if_neg h

end Cert.Row

namespace Cert.MlaFirstIdeal.Array

open Cert.MlaFirstIdeal Cert.MlaFirstIdeal.Gen Cert.Row Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The queries' block at a point, as the array index it is read from. -/
theorem index0 : ∀ t : Fin cfg0.N, win0_0.index t 0 = t.val / 9 ∧ win0_0.index t 1 = 0 ∧ win0_0.index t 2 = t.val % 9 ∧ win0_0.index t 3 = 0 :=
  (by decide +kernel : ∀ t : Fin grid0.N, win0_0.index t 0 = t.val / 9 ∧ win0_0.index t 1 = 0 ∧ win0_0.index t 2 = t.val % 9 ∧ win0_0.index t 3 = 0)

theorem index1 : ∀ t : Fin cfg0.N, win0_1.index t 0 = t.val / 9 ∧ win0_1.index t 1 = 0 ∧ win0_1.index t 2 = 0 ∧ win0_1.index t 3 = 0 :=
  (by decide +kernel : ∀ t : Fin grid0.N, win0_1.index t 0 = t.val / 9 ∧ win0_1.index t 1 = 0 ∧ win0_1.index t 2 = 0 ∧ win0_1.index t 3 = 0)

theorem index2 : ∀ t : Fin cfg0.N, win0_2.index t 0 = t.val / 9 ∧ win0_2.index t 1 = 0 ∧ win0_2.index t 2 = 0 ∧ win0_2.index t 3 = 0 :=
  (by decide +kernel : ∀ t : Fin grid0.N, win0_2.index t 0 = t.val / 9 ∧ win0_2.index t 1 = 0 ∧ win0_2.index t 2 = 0 ∧ win0_2.index t 3 = 0)

theorem index3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

/-- The batch a point works on. -/
def batch (t : Fin cfg0.N) : Fin 8 := ⟨t.val / 9, by have : t.val < 72 := t.isLt; omega⟩

/-- The query row of the array behind a row of a point's block. -/
def row (t : Fin cfg0.N) (r : Fin 256) : Fin 2304 := ⟨(t.val % 9) * 256 + r.val, by omega⟩

/-- A point's block of queries, read at an index. -/
theorem queries (t : Fin cfg0.N) (h : Fin 4) (r x : Fin 256) :
    (iblk m c 0 t : Vec Ideal S1x4x256x256 .bf16) (ix4 (0 : Fin 1) h r x) = m ((c : Thread nD τ).loc main_arg0) (ix4 (batch t) h (row t r) x) := by
  obtain ⟨e0, e1, e2, e3⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 9; rw [e0]; omega
  | ⟨1, _⟩ => show win0_0.index t 1 * 4 + 1 * h.val = h.val; rw [e1]; omega
  | ⟨2, _⟩ => show win0_0.index t 2 * 256 + 1 * r.val = (t.val % 9) * 256 + r.val; rw [e2]; omega
  | ⟨3, _⟩ => show win0_0.index t 3 * 256 + 1 * x.val = x.val; rw [e3]; omega

/-- A point's block of keys, read at an index. -/
theorem keys (t : Fin cfg0.N) (h : Fin 4) (k : Fin 2304) (x : Fin 256) :
    (iblk m c 1 t : Vec Ideal S1x4x2304x256 .bf16) (ix4 (0 : Fin 1) h k x) = m ((c : Thread nD τ).loc main_arg1) (ix4 (batch t) h k x) := by
  obtain ⟨e0, e1, e2, e3⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 9; rw [e0]; omega
  | ⟨1, _⟩ => show win0_1.index t 1 * 4 + 1 * h.val = h.val; rw [e1]; omega
  | ⟨2, _⟩ => show win0_1.index t 2 * 2304 + 1 * k.val = k.val; rw [e2]; omega
  | ⟨3, _⟩ => show win0_1.index t 3 * 256 + 1 * x.val = x.val; rw [e3]; omega

/-- A point's block of values, read at an index. -/
theorem values (t : Fin cfg0.N) (h : Fin 4) (k : Fin 2304) (x : Fin 128) :
    (iblk m c 2 t : Vec Ideal S1x4x2304x128 .bf16) (ix4 (0 : Fin 1) h k x) = m ((c : Thread nD τ).loc main_arg2) (ix4 (batch t) h k x) := by
  obtain ⟨e0, e1, e2, e3⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 9; rw [e0]; omega
  | ⟨1, _⟩ => show win0_2.index t 1 * 4 + 1 * h.val = h.val; rw [e1]; omega
  | ⟨2, _⟩ => show win0_2.index t 2 * 2304 + 1 * k.val = k.val; rw [e2]; omega
  | ⟨3, _⟩ => show win0_2.index t 3 * 128 + 1 * x.val = x.val; rw [e3]; omega

/-- A point's block of the result over the first `n` keys, from the arrays. -/
theorem block_eq (n : ℕ) (hn : n ≤ 2304) (t : Fin cfg0.N) (r : Fin 256) (col : Fin 512) :
    block n hn (iblk m c 0 t : Vec Ideal S1x4x256x256 .bf16) (iblk m c 1 t : Vec Ideal S1x4x2304x256 .bf16) (iblk m c 2 t : Vec Ideal S1x4x2304x128 .bf16) r col
      = cell n hn (m ((c : Thread nD τ).loc main_arg0)) (m ((c : Thread nD τ).loc main_arg1)) (m ((c : Thread nD τ).loc main_arg2)) (batch t) (row t r) col := by
  unfold block cell
  congr 1
  · funext kk
    congr 1
    · exact funext fun x => queries m c t (headOf col) r x
    · exact funext fun x => keys m c t (headOf col) ⟨kk.val, kk.isLt.trans_le hn⟩ x
  · exact funext fun kk => values m c t (headOf col) ⟨kk.val, kk.isLt.trans_le hn⟩ (colOf col)

/-- The result array's function of the launched memory. -/
def result : S8x2304x512.Idx → EReal :=
  allRows (m ((c : Thread nD τ).loc main_arg0)) (m ((c : Thread nD τ).loc main_arg1)) (m ((c : Thread nD τ).loc main_arg2))

/-- Where an index of a point's block lies in the array. -/
theorem emb_eq (t : Fin cfg0.N) (j : S1x256x512.Idx) :
    ((cfg0.win 3).blk t).view.emb j = ix3 (batch t) (row t (j 1)) (j 2) := by
  obtain ⟨e0, e1, e2⟩ := index3 t
  have h0 : (j 0).val < 1 := (j 0).isLt
  funext a
  apply Fin.ext
  match a with
  | ⟨0, _⟩ => show win0_3.index t 0 * 1 + 1 * (j 0).val = t.val / 9; rw [e0]; omega
  | ⟨1, _⟩ => show win0_3.index t 1 * 256 + 1 * (j 1).val = (t.val % 9) * 256 + (j 1).val; rw [e1]; omega
  | ⟨2, _⟩ => show win0_3.index t 2 * 512 + 1 * (j 2).val = (j 2).val; rw [e2]; omega

/-- What a point writes back is its block of the result. -/
theorem flushed_eq (t : Fin cfg0.N) : (dats m 0 c).flushed 3 t = ((cfg0.win 3).blk t).view.read (Elt Ideal) (result m c) := by
  by_cases h0 : t.val % 9 = 0
  · rw [Value.flushed3_A m c t h0 (by omega)]
    funext j
    rw [View.read_apply]
    refine (Block.outA_apply _ _ _ _ _ _ _ _ _ _ _ _ _ _ _ j).trans ((block_eq m c 256 (by omega) t _ _).trans ?_)
    refine Eq.trans ?_ (congrArg (result m c) (emb_eq t j)).symm
    exact (allRows_first _ _ _ _ _ _ (by show (t.val % 9) * 256 + (j 1).val < 256; have : (j 1).val < 256 := (j 1).isLt; omega)).symm
  · rw [Value.flushed3_B m c t h0 (by omega)]
    funext j
    rw [View.read_apply]
    refine (Block.outB_apply _ _ _ _ _ _ _ _ _ _ _ _ _ _ _ j).trans ((block_eq m c 2304 (le_refl 2304) t _ _).trans ?_)
    refine Eq.trans ?_ (congrArg (result m c) (emb_eq t j)).symm
    exact (allRows_rest _ _ _ _ _ _ (by show ¬ (t.val % 9) * 256 + (j 1).val < 256; omega)).symm

/-- Every index of the result lies in the block of a point. -/
theorem cover (i : S8x2304x512.Idx) : ∃ t : Fin cfg0.N, (cfg0.win 3).flush t = true ∧ i ∈ ((cfg0.win 3).blk t).view.set := by
  have h0 : (i 0 : Nat) < 8 := (i 0).isLt
  have h1 : (i 1 : Nat) < 2304 := (i 1).isLt
  have h2 : (i 2 : Nat) < 512 := (i 2).isLt
  have hlt : (i 0 : Nat) * 9 + (i 1 : Nat) / 256 < 72 := by omega
  obtain ⟨t, ht⟩ : ∃ t : Fin cfg0.N, t.val = (i 0 : Nat) * 9 + (i 1 : Nat) / 256 := ⟨⟨_, hlt⟩, rfl⟩
  obtain ⟨e0, e1, e2⟩ := index3 t
  refine ⟨t, flush0_3 _, ?_⟩
  show i ∈ ((View.whole main_v0).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [e0]; omega
  | ⟨1, _⟩ =>
    show win0_3.index t 1 * 256 ≤ (i 1 : Nat) ∧ (i 1 : Nat) < win0_3.index t 1 * 256 + 256
    rw [e1]; omega
  | ⟨2, _⟩ =>
    show win0_3.index t 2 * 512 ≤ (i 2 : Nat) ∧ (i 2 : Nat) < win0_3.index t 2 * 512 + 512
    rw [e2]; omega

/-- The array the run leaves. -/
theorem final : (dats m 0 c).arrAt 3 cfg0.N = result m c :=
  (dats m 0 c).arrAt_eq_of_cover 3 (result m c) (fun t _ => flushed_eq m c t) cover

end Cert.MlaFirstIdeal.Array

end
-- ==== Proof.MlaFirst.Ref.lean ====
/-
  The first layer's reference attention read at an index: the softmax of the first 256 rows over the first 256 keys, that of
  the other rows over every key, and the two joined along the rows.
-/
module

public import proofs.«01_k».proof.Proof.MlaFirst.Array
public import proofs.«01_k».proof.Proof.Gen.MlaFirstRefIdeal.Run
public import proofs.«01_k».proof.Proof.Gen.MlaFirstRefIdeal.Read

@[expose] public section

noncomputable section

namespace Cert.MlaFirstRefIdeal.Array

open Cert.MlaFirstRefIdeal Cert.MlaFirstRefIdeal.Gen Cert.MlaFirstRefIdeal.Read Cert.Row Idealize.ShloMosaic Idealize.ShloMosaic.TcCoe Idealize.ShloMosaic.ValueIdx

variable (q k : (⟨S8x4x2304x256, .bf16⟩ : BufTy).Contents (Elt Ideal)) (v : (⟨S8x4x2304x128, .bf16⟩ : BufTy).Contents (Elt Ideal))

/-- A row or key among the first 256. -/
def early (t : Fin 256) : Fin 2304 := ⟨t.val, by omega⟩

/-- A row after the first 256. -/
def late (t : Fin 2048) : Fin 2304 := ⟨256 + t.val, by omega⟩

/-- The scores of one of the first 256 rows. -/
def first (b : Fin 8) (h : Fin 4) (t : Fin 256) (kk : Fin 256) : EReal :=
  dot (fun x : Fin 256 => q (ix4 b h (early t) x)) (fun x : Fin 256 => k (ix4 b h (early kk) x))

theorem v5_eq (b : Fin 8) (h : Fin 4) (t : Fin 256) (kk : Fin 256) : val_main_v5 (F := Ideal) q k (ix4 b h t kk) = first q k b h t kk := by
  rw [val_main_v5_apply]
  unfold first dot
  refine Finset.sum_congr rfl fun x _ => ?_
  rw [val_main_v3_apply, val_main_v0_apply, val_main_v4_apply, val_main_v1_apply]
  congr 1
  · show q _ = q _
    congr 1
    funext a
    apply Fin.ext
    match a with
    | ⟨0, _⟩ => rfl
    | ⟨1, _⟩ => rfl
    | ⟨2, _⟩ => rfl
    | ⟨3, _⟩ => rfl
  · show k _ = k _
    congr 1
    funext a
    match a with
    | ⟨0, _⟩ => rfl
    | ⟨1, _⟩ => rfl
    | ⟨2, _⟩ => rfl
    | ⟨3, _⟩ => rfl

theorem v6_eq (b : Fin 8) (h : Fin 4) (t : Fin 256) : val_main_v6 (F := Ideal) q k (ix3 b h t) = top (first q k b h t) := by
  have hr : S8x4x256x256.Reduces [3] S8x4x256 := by decide
  unfold val_main_v6
  refine (Host.reduce_eq_fold_single (α := EReal) max _ _ reducesTo_S8x4x256x256_S8x4x256_d3 hr h_S_ (ix3 b h t)).trans ?_
  have e0 : (val_main_cst (F := Ideal)) (Shape.Idx.first h_S_) = (⊥ : EReal) := (val_main_cst_apply _).trans ofBits_bot
  have e1 : (val_main_v5 (F := Ideal) q k ∘ hr.lift (ix3 b h t)) = first q k b h t := funext fun kk => by
    refine Eq.trans (congrArg (val_main_v5 (F := Ideal) q k) (funext fun a => Fin.ext ?_)) (v5_eq q k b h t kk)
    match a with
    | ⟨0, _⟩ => rfl
    | ⟨1, _⟩ => rfl
    | ⟨2, _⟩ => rfl
    | ⟨3, _⟩ => rfl
  rw [e0, e1]
  rfl

theorem v12_eq (b : Fin 8) (h : Fin 4) (t : Fin 256) (kk : Fin 256) :
    val_main_v12 (F := Ideal) q k (ix4 b h t kk) = weight (first q k b h t) kk := by
  have e : idx_main_v9 (idx_main_v10 (ix4 b h t kk)) = ix3 b h t := funext fun a => by
    match a with
    | ⟨0, _⟩ => rfl
    | ⟨1, _⟩ => rfl
    | ⟨2, _⟩ => rfl
  rw [val_main_v12_apply, val_main_v11_apply, v5_eq, val_main_v10_apply, val_main_v9_apply, e, val_main_v8_apply, v6_eq,
    val_main_v7_apply, val_main_cst_0_apply]
  show Ideal.exp (first q k b h t kk - max (FloatOps.ofBits (F := Ideal) .f32 0xFF800000#32 : EReal) (top (first q k b h t))) = _
  rw [show (FloatOps.ofBits (F := Ideal) .f32 0xFF800000#32 : EReal) = ⊥ from ofBits_bot, max_eq_right bot_le]
  rfl

theorem v13_eq (b : Fin 8) (h : Fin 4) (t : Fin 256) : val_main_v13 (F := Ideal) q k (ix3 b h t) = total (first q k b h t) := by
  rw [val_main_v13_apply, val_main_cst_1_apply]
  have e0 : (FloatOps.ofBits (F := Ideal) .f32 0x00000000#32 : EReal) = 0 := Idealize.ShloMosaic.Ideal.ofBits_zero_f32
  refine (congrArg (· + _) e0).trans ((zero_add _).trans ?_)
  unfold total
  refine Finset.sum_congr rfl fun kk _ => ?_
  refine Eq.trans (congrArg (val_main_v12 (F := Ideal) q k) (funext fun a => ?_)) (v12_eq q k b h t kk)
  match a with
  | ⟨0, _⟩ => rfl
  | ⟨1, _⟩ => rfl
  | ⟨2, _⟩ => rfl
  | ⟨3, _⟩ => rfl

theorem v16_eq (b : Fin 8) (h : Fin 4) (t : Fin 256) (kk : Fin 256) :
    val_main_v16 (F := Ideal) q k (ix4 b h t kk) = Ideal.div (weight (first q k b h t) kk) (total (first q k b h t)) := by
  have e : idx_main_v14 (idx_main_v15 (ix4 b h t kk)) = ix3 b h t := funext fun a => by
    match a with
    | ⟨0, _⟩ => rfl
    | ⟨1, _⟩ => rfl
    | ⟨2, _⟩ => rfl
  rw [val_main_v16_apply, v12_eq, val_main_v15_apply, val_main_v14_apply, e, v13_eq]
  rfl

theorem v18_eq (b : Fin 8) (h : Fin 4) (d : Fin 128) (t : Fin 256) :
    val_main_v18 (F := Ideal) q k v (ix4 b h d t) = soft (first q k b h t) (fun kk => v (ix4 b h (early kk) d)) := by
  rw [val_main_v18_apply]
  unfold soft
  refine Finset.sum_congr rfl fun kk _ => ?_
  congr 1
  · rw [val_main_v17_apply, val_main_v2_apply]
    show v _ = v _
    congr 1
    funext a
    match a with
    | ⟨0, _⟩ => rfl
    | ⟨1, _⟩ => rfl
    | ⟨2, _⟩ => rfl
    | ⟨3, _⟩ => rfl
  · refine Eq.trans (congrArg (val_main_v16 (F := Ideal) q k) (funext fun a => ?_)) (v16_eq q k b h t kk)
    match a with
    | ⟨0, _⟩ => rfl
    | ⟨1, _⟩ => rfl
    | ⟨2, _⟩ => rfl
    | ⟨3, _⟩ => rfl

/-- The scores of one of the rows after the first 256. -/
def rest (b : Fin 8) (h : Fin 4) (t : Fin 2048) (kk : Fin 2304) : EReal :=
  dot (fun x : Fin 256 => q (ix4 b h (late t) x)) (fun x : Fin 256 => k (ix4 b h kk x))

theorem v21_eq (b : Fin 8) (h : Fin 4) (t : Fin 2048) (kk : Fin 2304) : val_main_v21 (F := Ideal) q k (ix4 b h t kk) = rest q k b h t kk := by
  rw [val_main_v21_apply]
  unfold rest dot
  refine Finset.sum_congr rfl fun x _ => ?_
  rw [val_main_v20_apply, val_main_v0_apply, val_main_v1_apply]
  congr 1
  · show q _ = q _
    congr 1
    funext a
    apply Fin.ext
    match a with
    | ⟨0, _⟩ => rfl
    | ⟨1, _⟩ => rfl
    | ⟨2, _⟩ => rfl
    | ⟨3, _⟩ => rfl
  · show k _ = k _
    congr 1
    funext a
    match a with
    | ⟨0, _⟩ => rfl
    | ⟨1, _⟩ => rfl
    | ⟨2, _⟩ => rfl
    | ⟨3, _⟩ => rfl

theorem v22_eq (b : Fin 8) (h : Fin 4) (t : Fin 2048) : val_main_v22 (F := Ideal) q k (ix3 b h t) = top (rest q k b h t) := by
  have hr : S8x4x2048x2304.Reduces [3] S8x4x2048 := by decide
  unfold val_main_v22
  refine (Host.reduce_eq_fold_single (α := EReal) max _ _ reducesTo_S8x4x2048x2304_S8x4x2048_d3 hr h_S_ (ix3 b h t)).trans ?_
  have e0 : (val_main_cst_2 (F := Ideal)) (Shape.Idx.first h_S_) = (⊥ : EReal) := (val_main_cst_2_apply _).trans ofBits_bot
  have e1 : (val_main_v21 (F := Ideal) q k ∘ hr.lift (ix3 b h t)) = rest q k b h t := funext fun kk => by
    refine Eq.trans (congrArg (val_main_v21 (F := Ideal) q k) (funext fun a => Fin.ext ?_)) (v21_eq q k b h t kk)
    match a with
    | ⟨0, _⟩ => rfl
    | ⟨1, _⟩ => rfl
    | ⟨2, _⟩ => rfl
    | ⟨3, _⟩ => rfl
  rw [e0, e1]
  rfl

theorem v28_eq (b : Fin 8) (h : Fin 4) (t : Fin 2048) (kk : Fin 2304) :
    val_main_v28 (F := Ideal) q k (ix4 b h t kk) = weight (rest q k b h t) kk := by
  have e : idx_main_v25 (idx_main_v26 (ix4 b h t kk)) = ix3 b h t := funext fun a => by
    match a with
    | ⟨0, _⟩ => rfl
    | ⟨1, _⟩ => rfl
    | ⟨2, _⟩ => rfl
  rw [val_main_v28_apply, val_main_v27_apply, v21_eq, val_main_v26_apply, val_main_v25_apply, e, val_main_v24_apply, v22_eq,
    val_main_v23_apply, val_main_cst_3_apply]
  show Ideal.exp (rest q k b h t kk - max (FloatOps.ofBits (F := Ideal) .f32 0xFF800000#32 : EReal) (top (rest q k b h t))) = _
  rw [show (FloatOps.ofBits (F := Ideal) .f32 0xFF800000#32 : EReal) = ⊥ from ofBits_bot, max_eq_right bot_le]
  rfl

theorem v29_eq (b : Fin 8) (h : Fin 4) (t : Fin 2048) : val_main_v29 (F := Ideal) q k (ix3 b h t) = total (rest q k b h t) := by
  rw [val_main_v29_apply, val_main_cst_4_apply]
  have e0 : (FloatOps.ofBits (F := Ideal) .f32 0x00000000#32 : EReal) = 0 := Idealize.ShloMosaic.Ideal.ofBits_zero_f32
  refine (congrArg (· + _) e0).trans ((zero_add _).trans ?_)
  unfold total
  refine Finset.sum_congr rfl fun kk _ => ?_
  refine Eq.trans (congrArg (val_main_v28 (F := Ideal) q k) (funext fun a => ?_)) (v28_eq q k b h t kk)
  match a with
  | ⟨0, _⟩ => rfl
  | ⟨1, _⟩ => rfl
  | ⟨2, _⟩ => rfl
  | ⟨3, _⟩ => rfl

theorem v32_eq (b : Fin 8) (h : Fin 4) (t : Fin 2048) (kk : Fin 2304) :
    val_main_v32 (F := Ideal) q k (ix4 b h t kk) = Ideal.div (weight (rest q k b h t) kk) (total (rest q k b h t)) := by
  have e : idx_main_v30 (idx_main_v31 (ix4 b h t kk)) = ix3 b h t := funext fun a => by
    match a with
    | ⟨0, _⟩ => rfl
    | ⟨1, _⟩ => rfl
    | ⟨2, _⟩ => rfl
  rw [val_main_v32_apply, v28_eq, val_main_v31_apply, val_main_v30_apply, e, v29_eq]
  rfl

theorem v33_eq (b : Fin 8) (h : Fin 4) (d : Fin 128) (t : Fin 2048) :
    val_main_v33 (F := Ideal) q k v (ix4 b h d t) = soft (rest q k b h t) (fun kk => v (ix4 b h kk d)) := by
  rw [val_main_v33_apply]
  unfold soft
  refine Finset.sum_congr rfl fun kk _ => ?_
  congr 1
  · rw [val_main_v2_apply]
    show v _ = v _
    congr 1
    funext a
    match a with
    | ⟨0, _⟩ => rfl
    | ⟨1, _⟩ => rfl
    | ⟨2, _⟩ => rfl
    | ⟨3, _⟩ => rfl
  · refine Eq.trans (congrArg (val_main_v32 (F := Ideal) q k) (funext fun a => ?_)) (v32_eq q k b h t kk)
    match a with
    | ⟨0, _⟩ => rfl
    | ⟨1, _⟩ => rfl
    | ⟨2, _⟩ => rfl
    | ⟨3, _⟩ => rfl

/-- The first 256 rows' sums, heads side by side. -/
theorem v35_eq (b : Fin 8) (t : Fin 256) (c : Fin 512) :
    val_main_v35 (F := Ideal) q k v (ix3 b t c) = soft (first q k b (headOf c) t) (fun kk => v (ix4 b (headOf c) (early kk) (colOf c))) := by
  rw [val_main_v35_apply, val_main_v19_apply]
  refine Eq.trans (congrArg (val_main_v18 (F := Ideal) q k v) (funext fun a => Fin.ext ?_)) (v18_eq q k v b (headOf c) (colOf c) t)
  match a with
  | ⟨0, _⟩ => show ((b.val * 256 + t.val) * 512 + c.val) / 131072 = b.val; omega
  | ⟨1, _⟩ => show ((b.val * 256 + t.val) * 512 + c.val) / 128 % 4 = c.val / 128; omega
  | ⟨2, _⟩ => show ((b.val * 256 + t.val) * 512 + c.val) % 128 = c.val % 128; omega
  | ⟨3, _⟩ => show ((b.val * 256 + t.val) * 512 + c.val) / 512 % 256 = t.val; omega

/-- The other rows' sums, heads side by side. -/
theorem v36_eq (b : Fin 8) (t : Fin 2048) (c : Fin 512) :
    val_main_v36 (F := Ideal) q k v (ix3 b t c) = soft (rest q k b (headOf c) t) (fun kk => v (ix4 b (headOf c) kk (colOf c))) := by
  rw [val_main_v36_apply, val_main_v34_apply]
  refine Eq.trans (congrArg (val_main_v33 (F := Ideal) q k v) (funext fun a => Fin.ext ?_)) (v33_eq q k v b (headOf c) (colOf c) t)
  match a with
  | ⟨0, _⟩ => show ((b.val * 2048 + t.val) * 512 + c.val) / 1048576 = b.val; omega
  | ⟨1, _⟩ => show ((b.val * 2048 + t.val) * 512 + c.val) / 128 % 4 = c.val / 128; omega
  | ⟨2, _⟩ => show ((b.val * 2048 + t.val) * 512 + c.val) % 128 = c.val % 128; omega
  | ⟨3, _⟩ => show ((b.val * 2048 + t.val) * 512 + c.val) / 512 % 2048 = t.val; omega

/-- On real queries and keys the reference's result is the kernel's. -/
theorem eq_allRows (hq : ∀ i, Finite (q i)) (hk : ∀ i, Finite (k i)) : val_main_v38 (F := Ideal) q k v = allRows q k v := by
  funext i
  obtain ⟨b, t, c, rfl⟩ : ∃ (b : Fin 8) (t : Fin 2304) (c : Fin 512), i = ix3 b t c := ⟨i 0, i 1, i 2, funext fun a => by
    match a with
    | ⟨0, _⟩ => rfl
    | ⟨1, _⟩ => rfl
    | ⟨2, _⟩ => rfl⟩
  rw [val_main_v38_apply]
  show val_main_v37 (F := Ideal) q k v (ix3 b t c) = _
  unfold val_main_v37
  by_cases h : t.val < 256
  · rw [allRows_first q k v b t c h]
    refine (concatenate_pair_apply_left (s₁ := S8x256x512) (s₂ := S8x2048x512) 1 _ _ concatenates_S8x256x512_S8x2048x512_S8x2304x512_d1 (ix3 b t c) rfl (ix3 b (⟨t.val, h⟩ : Fin 256) c) (fun a => by
      match a with
      | ⟨0, _⟩ => rfl
      | ⟨1, _⟩ => rfl
      | ⟨2, _⟩ => rfl)).trans ?_
    refine (v35_eq q k v b ⟨t.val, h⟩ c).trans ?_
    exact (attend_eq_soft (by omega) _ _ fun kk => dot_finite _ _ (fun _ => hq _) (fun _ => hk _)).symm
  · rw [allRows_rest q k v b t c h]
    refine (concatenate_pair_apply_right (s₁ := S8x256x512) (s₂ := S8x2048x512) 1 _ _ concatenates_S8x256x512_S8x2048x512_S8x2304x512_d1 (ix3 b t c) rfl rfl (ix3 b (⟨t.val - 256, by omega⟩ : Fin 2048) c) (fun a ha => by
      match a with
      | ⟨0, _⟩ => rfl
      | ⟨1, _⟩ => exact absurd rfl ha
      | ⟨2, _⟩ => rfl) (by show t.val - 256 + 256 = t.val; omega)).trans ?_
    refine (v36_eq q k v b ⟨t.val - 256, by omega⟩ c).trans ?_
    have e : late ⟨t.val - 256, by omega⟩ = t := Fin.ext (by show 256 + (t.val - 256) = t.val; omega)
    unfold rest
    rw [e]
    exact (attend_eq_soft (by omega) _ _ fun kk => dot_finite _ _ (fun _ => hq _) (fun _ => hk _)).symm

end Cert.MlaFirstRefIdeal.Array

end
-- ==== Proof.MlaFirst.Claims.lean ====
/-
  The claims about the first layer's attention: both programs run, leave their arguments alone and end
  with every counter at zero; on real queries and keys they leave the same result.
-/
module

public import proofs.«01_k».proof.Defs
public import proofs.«01_k».proof.Proof.MlaFirst.Ref
public import proofs.«01_k».proof.Proof.Mla.Pre
public import proofs.«01_k».proof.Proof.Gen.MlaFirst.Frame
public import proofs.«01_k».proof.Proof.Gen.Pre_finite_first
public import Idealize.ShloMosaic.Lib.Quiescent

@[expose] public section

noncomputable section

namespace Cert.Proof.MlaFirst

open Idealize.ShloMosaic Idealize.SL.Sem

attribute [local instance] Cert.MlaFirst.Gen.facts Cert.MlaFirstIdeal.Gen.facts Cert.MlaFirstRefIdeal.Gen.facts Cert.Pre_finite_first.Gen.facts

theorem quiescent_kernel : Cert.quiescent_MlaFirst := fun m g _ => Cert.MlaFirst.Gen.frame m g

theorem quiescent_ideal : Cert.quiescent_MlaFirstIdeal := fun m g _ => Cert.MlaFirstIdeal.Gen.frame m g

theorem quiescent_ideal_finite : Cert.quiescent_MlaFirstIdeal_pre_finite_first := fun m g _ => Cert.MlaFirstIdeal.Gen.frame m g

/-- The reference runs, keeps its arguments and ends with every counter at zero. -/
theorem quiescent_reference : Cert.quiescent_MlaFirstRefIdeal := fun m g _ =>
  (θ_run _ _ _).mono (fun r h => ⟨fun c => (h c).2, sem_eq_zero_of_no_sems (by decide) r.2⟩) (Cert.MlaFirstRefIdeal.Value.run m g)

theorem quiescent_reference_finite : Cert.quiescent_MlaFirstRefIdeal_pre_finite_first := fun m g _ => quiescent_reference m g trivial

theorem preserves : Cert.preserves_MlaFirst_MlaFirstIdeal := trivial

theorem algebraic : Cert.algebraic_MlaFirstIdeal_MlaFirstRefIdeal_pre_finite_first := by
  intro m g m' g' hpre hargs
  refine ⟨fun c => Cert.MlaFirstIdeal.Array.result m c, ?_, ?_⟩
  · exact (θ_run _ _ _).mono (fun r h c => ⟨(h c).1.trans (Cert.MlaFirstIdeal.Array.final m c), (h c).2⟩) (Cert.MlaFirstIdeal.Value.run_blocks m g)
  · refine (θ_run _ _ _).mono (fun r h c => ⟨(h c).1.trans ?_, (h c).2⟩) (Cert.MlaFirstRefIdeal.Value.run m' g')
    obtain ⟨a0, a1, a2⟩ := hargs c
    refine (Cert.MlaFirstRefIdeal.Read.val_main_v38_eq m' c).trans ?_
    rw [a0, a1, a2]
    exact Cert.MlaFirstRefIdeal.Array.eq_allRows _ _ _ (Cert.Row.finite_of_between _ _ (hpre c).1) (Cert.Row.finite_of_between _ _ (hpre c).2)

end Cert.Proof.MlaFirst

end
-- ==== Proof.Prep.Spec.lean ====
/-
  One row of the projections before the attention, over the extended reals: the modulated norm, the three products, the
  norms of the heads and the rotation of their last 128 lanes. Both programs compute these functions.
-/
module

public import Idealize.ShloMosaic.Lib.ValueIdx
public import Idealize.ShloMosaic.Lib.Pipeline.Value

@[expose] public section

noncomputable section

namespace Cert.PrepRow

open Idealize.ShloMosaic Idealize.ShloMosaic.ValueIdx

/-- What the norms add before the root. -/
def eps : EReal := Ideal.ofBits .f32 0x358637BD#32

/-- One over the root of a sum of squares divided by a number, moved by `eps`. -/
def root (s w : EReal) : EReal := Ideal.rsqrt (Ideal.div s w + eps)

/-- A row's sum of squares. -/
def sumSq {n : ℕ} (x : Fin n → EReal) : EReal := ∑ k : Fin n, x k * x k

/-- A row divided by its root mean square, times a gain. -/
def normed {n : ℕ} (w : EReal) (x g : Fin n → EReal) (j : Fin n) : EReal := x j * root (sumSq x) w * g j

/-- A row times a matrix. -/
def project {n c : ℕ} (h : Fin n → EReal) (W : Fin n → Fin c → EReal) (j : Fin c) : EReal := ∑ k : Fin n, h k * W k j

/-- The normed row, scaled and shifted. -/
def modulated (x g sc sh : Fin 1024 → EReal) (j : Fin 1024) : EReal :=
  normed (Ideal.ofBits .f32 0x44800000#32) x g j * (1 + sc j) + sh j

/-- `m` lanes of a row from lane `o` on. -/
def part {n : ℕ} (m o : ℕ) (ho : o + m ≤ n) (x : Fin n → EReal) (j : Fin m) : EReal := x ⟨o + j.val, by omega⟩

/-- The sum of squares of the first 64 lanes. -/
def low (x : Fin 128 → EReal) : EReal := sumSq (part 64 0 (by omega) x)

/-- The lane half a turn away. -/
def turn (j : Fin 128) : Fin 128 := ⟨(j.val + 64) % 128, by omega⟩

/-- The rotation of a row by tables of cosines and sines. -/
def rope (x cs sn : Fin 128 → EReal) (j : Fin 128) : EReal := x j * cs j + x (turn j) * sn j

/-- The root of a head of 192 lanes: 128 of them in `a`, the others the first 64 of `b`. -/
def headRoot (a b : Fin 128 → EReal) : EReal := root (sumSq a + low b) (Ideal.ofBits .f32 0x43400000#32)

/-- A head's lanes without rotation. -/
def headNope (a b g : Fin 128 → EReal) (j : Fin 128) : EReal := a j * headRoot a b * g j

/-- A head's rotated lanes. -/
def headRope (a b g cs sn : Fin 128 → EReal) (j : Fin 128) : EReal := rope (fun k => b k * headRoot a b * g k) cs sn j

/-- A rotated head of 64 lanes, each there twice. -/
def near (x g cs sn : Fin 128 → EReal) (j : Fin 128) : EReal :=
  rope (fun k => x k * root (low x) (Ideal.ofBits .f32 0x42800000#32) * g k) cs sn j

/-- The row of the compressed keys and values, times the matrix that widens it. -/
def widened (p : Fin 2304 → EReal) (g : Fin 256 → EReal) (W : Fin 256 → Fin 1024 → EReal) : Fin 1024 → EReal :=
  project (normed (Ideal.ofBits .f32 0x43800000#32) (part 256 0 (by omega) p) g) W

/-- The row of the compressed queries, times the matrix that widens it. -/
def asked (p : Fin 2304 → EReal) (g : Fin 384 → EReal) (W : Fin 384 → Fin 1024 → EReal) : Fin 1024 → EReal :=
  project (normed (Ideal.ofBits .f32 0x43C00000#32) (part 384 896 (by omega) p) g) W

/-- A lane of a head of keys. -/
def keyAt (kv : Fin 1024 → EReal) (pe gn gp cs sn : Fin 128 → EReal) (h : Fin 4) (j : Fin 256) : EReal :=
  if hj : j.val < 128 then headNope (part 128 (h.val * 128) (by omega) kv) pe gn ⟨j.val, hj⟩
  else headRope (part 128 (h.val * 128) (by omega) kv) pe gp cs sn ⟨j.val - 128, by omega⟩

/-- A lane of a head of queries. -/
def queryAt (q : Fin 1024 → EReal) (g : Fin 256 → EReal) (cs sn : Fin 128 → EReal) (h : Fin 4) (j : Fin 256) : EReal :=
  if hj : j.val < 128 then
    headNope (part 128 (h.val * 256) (by omega) q) (part 128 (h.val * 256 + 128) (by omega) q) (part 128 0 (by omega) g) ⟨j.val, hj⟩
  else headRope (part 128 (h.val * 256) (by omega) q) (part 128 (h.val * 256 + 128) (by omega) q) (part 128 128 (by omega) g) cs sn
    ⟨j.val - 128, by omega⟩

/-- A lane of a head of values. -/
def valueAt (kv : Fin 1024 → EReal) (h : Fin 4) (j : Fin 128) : EReal := part 128 (512 + h.val * 128) (by omega) kv j

/-- A lane of a head of the near attention's queries. -/
def nearQuery (p : Fin 2304 → EReal) (g cs sn : Fin 128 → EReal) (h : Fin 4) (j : Fin 128) : EReal :=
  near (part 128 (1280 + h.val * 128) (by omega) p) g cs sn j

/-- A lane of a head of the near attention's keys. -/
def nearKey (p : Fin 2304 → EReal) (g cs sn : Fin 128 → EReal) (h : Fin 2) (j : Fin 128) : EReal :=
  near (part 128 (384 + h.val * 128) (by omega) p) g cs sn j

/-- A lane of a head of the near attention's values. -/
def nearValue (p : Fin 2304 → EReal) (h : Fin 2) (j : Fin 128) : EReal := part 128 (640 + h.val * 128) (by omega) p j

/-- A lane of the gated row. -/
def gated (p : Fin 2304 → EReal) (j : Fin 256) : EReal :=
  part 256 1792 (by omega) p j * Ideal.logistic (part 256 2048 (by omega) p j)

/-! The numbers. -/

theorem ofBits_192 : Ideal.ofBits .f32 0x43400000#32 = ((192 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_one : Ideal.ofBits .f32 0x3F800000#32 = 1 := by
  simp [Ideal.ofBits, Ideal.ieee, -EReal.coe_mul]; norm_num

theorem eps_pos : 0 < eps := by
  unfold eps
  simp [Ideal.ofBits, Ideal.ieee, -EReal.coe_mul]

theorem div_192 (x : EReal) : x * ((1 / 192 : ℝ) : EReal) = Ideal.div x (Ideal.ofBits .f32 0x43400000#32) := by
  rw [ofBits_192, Ideal.div_coe (by norm_num : (192 : ℝ) ≠ 0)]

theorem div_64 (x : EReal) : x * Ideal.ofBits .f32 0x3C800000#32 = Ideal.div x (Ideal.ofBits .f32 0x42800000#32) := by
  rw [ofBits_64, ofBits_64th, Ideal.div_coe (by norm_num : (64 : ℝ) ≠ 0)]

/-! A root of a sum of squares is a number. -/

theorem mul_self_nonneg (x : EReal) : 0 ≤ x * x := by
  rcases le_total 0 x with h | h
  · exact EReal.mul_nonneg h h
  · rw [← neg_mul_neg]
    have h' : 0 ≤ -x := EReal.neg_nonneg.mpr h
    exact EReal.mul_nonneg h' h'

theorem sumSq_nonneg {n : ℕ} (x : Fin n → EReal) : 0 ≤ sumSq x := Finset.sum_nonneg fun k _ => mul_self_nonneg (x k)

theorem headRoot_spec (a b : Fin 128 → EReal) : 0 ≤ headRoot a b ∧ headRoot a b ≠ ⊤ := by
  unfold headRoot root
  rw [← div_192]
  have hs : 0 ≤ (sumSq a + low b) * ((1 / 192 : ℝ) : EReal) :=
    EReal.mul_nonneg (add_nonneg (sumSq_nonneg a) (sumSq_nonneg _)) (by exact_mod_cast (by norm_num : (0 : ℝ) ≤ 1 / 192))
  have hy : 0 < (sumSq a + low b) * ((1 / 192 : ℝ) : EReal) + eps := lt_of_lt_of_le eps_pos (le_add_of_nonneg_left hs)
  generalize (sumSq a + low b) * ((1 / 192 : ℝ) : EReal) + eps = y at hy
  induction y using EReal.rec with
  | bot => exact absurd hy (by simp)
  | top => simp
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A rotation of a scaled row is the scaled rotation. -/
theorem rope_scaled (b g cs sn : Fin 128 → EReal) (r : EReal) (h0 : 0 ≤ r) (h1 : r ≠ ⊤) (j : Fin 128) :
    rope (fun k => b k * g k) cs sn j * r = rope (fun k => b k * r * g k) cs sn j := by
  unfold rope
  rw [EReal.right_distrib_of_nonneg_of_ne_top h0 h1]
  congr 1
  · show b j * g j * cs j * r = b j * r * g j * cs j
    ac_rfl
  · show b (turn j) * g (turn j) * sn j * r = b (turn j) * r * g (turn j) * sn j
    ac_rfl

/-- The first 64 lanes' sum, as a sum over all 128 that counts the others as zero. -/
theorem low_eq (x : Fin 128 → EReal) : (∑ k : Fin 128, if k.val < 64 then x k * x k else 0) = low x := by
  unfold low sumSq part
  refine (Fin.sum_univ_add (M := EReal) (a := 64) (b := 64) (fun k : Fin 128 => if k.val < 64 then x k * x k else 0)).trans ?_
  have h2 : (∑ i : Fin 64, (fun k : Fin 128 => if k.val < 64 then x k * x k else 0) (Fin.natAdd 64 i)) = 0 :=
    Finset.sum_eq_zero fun i _ => if_neg (by show ¬ 64 + i.val < 64; omega)
  rw [h2, add_zero]
  refine Finset.sum_congr rfl fun i _ => ?_
  refine (if_pos (by show i.val < 64; omega)).trans ?_
  have e : (Fin.castAdd 64 i : Fin 128) = ⟨0 + i.val, by omega⟩ := Fin.ext (by show i.val = 0 + i.val; omega)
  rw [e]

/-- The sum over 192 lanes is the one over the first 128 and the one over the last 64. -/
theorem head_sum (y : Fin 192 → EReal) (a b : Fin 128 → EReal) (ha : ∀ k : Fin 128, y ⟨k.val, by omega⟩ = a k)
    (hb : ∀ k : Fin 64, y ⟨128 + k.val, by omega⟩ = b ⟨0 + k.val, by omega⟩) : sumSq y = sumSq a + low b := by
  unfold sumSq low
  refine (Fin.sum_univ_add (M := EReal) (a := 128) (b := 64) (fun k : Fin 192 => y k * y k)).trans ?_
  congr 1
  · exact Finset.sum_congr rfl fun k _ => by rw [← ha k]; rfl
  · exact Finset.sum_congr rfl fun k _ => by unfold part; rw [← hb k]; rfl

end Cert.PrepRow

end
-- ==== Proof.Prep.Read.lean ====
/-
  The projections kernel's operations on blocks of rows, read at an index: slices, columns and gains laid along the rows, the
  normed rows, the roots of the heads, the rotation, and the stores' shape.
-/
module

public import proofs.«01_k».proof.Proof.Head
public import proofs.«01_k».proof.Proof.Prep.Spec
public import proofs.«01_k».proof.Proof.Gen.PrepIdeal.Value
public import Idealize.ShloMosaic.Lib.KernelVsHost

@[expose] public section

set_option maxRecDepth 16384

noncomputable section

namespace Cert.PrepIdeal.Read

open Cert.PrepIdeal Cert.PrepIdeal.Gen Cert.PrepRow Idealize.ShloMosaic Idealize.ShloMosaic.ValueIdx

section
variable {M N K : ℕ} {α : Type}

/-- A column laid along the rows. -/
theorem along_apply (hM : M ≠ 1) (x : (⟨2, ![M, 1]⟩ : Shape).Idx → α) (hb : (⟨2, ![M, 1]⟩ : Shape).Broadcasts ⟨2, ![M, N]⟩) (r : Fin M) (c : Fin N) :
    broadcastTo ⟨2, ![M, N]⟩ x hb (ix2 r c) = x (ix2 r (0 : Fin 1)) :=
  broadcastTo_apply x hb (ix2 r c) (ix2 r (0 : Fin 1)) (fun a => by
    match a with
    | ⟨0, _⟩ => show r.val = if M = 1 then 0 else r.val; rw [if_neg hM]
    | ⟨1, _⟩ => rfl)

/-- A row laid under every row. -/
theorem under_apply (hN : N ≠ 1) (x : (⟨2, ![1, N]⟩ : Shape).Idx → α) (hb : (⟨2, ![1, N]⟩ : Shape).Broadcasts ⟨2, ![M, N]⟩) (r : Fin M) (c : Fin N) :
    broadcastTo ⟨2, ![M, N]⟩ x hb (ix2 r c) = x (ix2 (0 : Fin 1) c) :=
  broadcastTo_apply x hb (ix2 r c) (ix2 (0 : Fin 1) c) (fun a => by
    match a with
    | ⟨0, _⟩ => rfl
    | ⟨1, _⟩ => show c.val = if N = 1 then 0 else c.val; rw [if_neg hN])

/-- A vector as a column. -/
theorem column_apply (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- Some lanes of every row. -/
theorem lanes_apply (o : ℕ) (x : (⟨2, ![M, N]⟩ : Shape).Idx → α) (h : (⟨2, ![M, N]⟩ : Shape).Slices ![0, o] ⟨2, ![M, K]⟩) (ho : o + K ≤ N) (r : Fin M) (c : Fin K) :
    extractStridedSlice ⟨2, ![M, K]⟩ ![0, o] x h (ix2 r c) = x (ix2 r (⟨o + c.val, by omega⟩ : Fin N)) :=
  extractStridedSlice_apply _ x h (ix2 r c) _ (fun a => by
    match a with
    | ⟨0, _⟩ => show r.val = 0 + r.val; omega
    | ⟨1, _⟩ => rfl)

/-- One of the first rows. -/
theorem oneRow_apply (o : ℕ) (x : (⟨2, ![M, N]⟩ : Shape).Idx → α) (h : (⟨2, ![M, N]⟩ : Shape).Slices ![o, 0] ⟨2, ![1, N]⟩) (ho : o < M) (c : Fin N) :
    extractStridedSlice ⟨2, ![1, N]⟩ ![o, 0] x h (ix2 (0 : Fin 1) c) = x (ix2 (⟨o, ho⟩ : Fin M) c) :=
  extractStridedSlice_apply _ x h (ix2 (0 : Fin 1) c) _ (fun a => by
    match a with
    | ⟨0, _⟩ => rfl
    | ⟨1, _⟩ => show c.val = 0 + c.val; omega)

/-- A block's rows divided by their root mean squares, times a gain. -/
theorem normed_apply (hM : M ≠ 1) (hN : N ≠ 1) (w : BitVec 32) (v : FVec Ideal ⟨2, ![M, N]⟩ .f32) (g : FVec Ideal ⟨2, ![1, N]⟩ .f32)
    (s : FVec Ideal ⟨1, ![M]⟩ .f32) (hs : ∀ r, s (ix1 r) = sumSq fun k => v (ix2 r k))
    (h : (⟨1, ![M]⟩ : Shape).ShapeCasts ⟨2, ![M, 1]⟩) (hb : (⟨2, ![M, 1]⟩ : Shape).Broadcasts ⟨2, ![M, N]⟩)
    (hg : (⟨2, ![1, N]⟩ : Shape).Broadcasts ⟨2, ![M, N]⟩) (r : Fin M) (c : Fin N) :
    mulf (mulf v (broadcastTo ⟨2, ![M, N]⟩ (rsqrt (addf (divf (shapeCast ⟨2, ![M, 1]⟩ s h) (broadcast ⟨2, ![M, 1]⟩ (Scalar.ofBits (F := Ideal) .f32 w)))
      (broadcast ⟨2, ![M, 1]⟩ (Scalar.ofBits (F := Ideal) .f32 0x358637BD#32)))) hb)) (broadcastTo ⟨2, ![M, N]⟩ g hg) (ix2 r c)
      = normed (Ideal.ofBits .f32 w) (fun k => v (ix2 r k)) (fun k => g (ix2 (0 : Fin 1) k)) c := by
  show (v (ix2 r c) * broadcastTo _ _ hb (ix2 r c)) * broadcastTo _ g hg (ix2 r c) = _
  rw [along_apply hM, under_apply hN]
  show (v (ix2 r c) * Ideal.rsqrt (Ideal.div (shapeCast _ s h (ix2 r (0 : Fin 1))) (Ideal.ofBits .f32 w) + Ideal.ofBits .f32 0x358637BD#32)) * _ = _
  rw [column_apply, hs]
  rfl

theorem sumSq_apply (h : (⟨2, ![M, N]⟩ : Shape).Reduces [1] ⟨1, ![M]⟩) (hφ : FKind.Formats .f32)
    (hacc : (0x00000000#32 : BitVec 32) = FKind.add.neutral .f32 hφ) (v : FVec Ideal ⟨2, ![M, N]⟩ .f32) (r : Fin M) :
    multiReduction .add [1] ⟨1, ![M]⟩ (mulf v v) 0x00000000#32 h hφ hacc (ix1 r) = sumSq fun k => v (ix2 r k) :=
  Cert.Row.rowSum_apply h hφ hacc (mulf v v) r

end

/-! The kernel's columns, gains, rotations and stores, at its own shapes. -/

/-- The column of a block's row sums. -/
def col (x : FVec Ideal S256x128 .f32) : FVec Ideal S256x1 .f32 :=
  shapeCast S256x1 (multiReduction .add [1] S256 x 0x00000000#32 reduces_S256x128_S256 (.inl rfl) rfl) shapeCasts_S256_S256x1

theorem col_apply (x : FVec Ideal S256x128 .f32) (r : Fin 256) : col x (ix2 r (0 : Fin 1)) = ∑ k : Fin 128, x (ix2 r k) :=
  (column_apply _ _ r).trans (Cert.Row.rowSum_apply _ _ _ x r)

/-- The column of the sums of squares of the first 64 lanes. -/
def lowCol (x : FVec Ideal S256x128 .f32) : FVec Ideal S256x1 .f32 :=
  col (select k0_pay3 (mulf x x) (broadcast S256x128 (Scalar.ofBits (F := Ideal) .f32 0x00000000#32)))

/-- The lane's test against 64. -/
theorem mask_lanes : ∀ k : Fin 128, IntOp.cmpi .slt (BitVec.ofNat 32 (0 * 128 + k.val)) 64#32 = if k.val < 64 then 1#1 else 0#1 := by
  decide +kernel

theorem mask_apply (r : Fin 256) (k : Fin 128) : k0_pay3 (ix2 r k) = if k.val < 64 then 1#1 else 0#1 := mask_lanes k

theorem lowCol_apply (x : FVec Ideal S256x128 .f32) (r : Fin 256) : lowCol x (ix2 r (0 : Fin 1)) = low fun k => x (ix2 r k) := by
  unfold lowCol
  rw [col_apply, ← low_eq]
  refine Finset.sum_congr rfl fun k _ => ?_
  rw [select_apply, mask_apply]
  by_cases h : k.val < 64
  · rw [if_pos h, if_pos h]; rfl
  · rw [if_neg h, if_neg h]; exact Ideal.ofBits_zero_f32

/-- The column of the roots of the heads whose first 128 lanes are `a` and whose other lanes' squares add to `l`. -/
def headCol (a : FVec Ideal S256x128 .f32) (l : FVec Ideal S256x1 .f32) : FVec Ideal S256x1 .f32 :=
  rsqrt (addf (mulf (addf (col (mulf a a)) l) (broadcast S256x1 (Named.named (F := Ideal) κ "inv_qk" (φ := .f32) 0x3BAAAAAB#32)))
    (broadcast S256x1 (Scalar.ofBits (F := Ideal) .f32 0x358637BD#32)))

/-- The named reciprocal is a 192nd. -/
theorem inv_qk : Named.named (F := Ideal) κ "inv_qk" (φ := .f32) 0x3BAAAAAB#32 = ((1 / 192 : ℝ) : EReal) :=
  IdealRules.named_const.ideal_named_scalar _ _ _ _ rfl

theorem headCol_apply (a b : FVec Ideal S256x128 .f32) (r : Fin 256) :
    headCol a (lowCol b) (ix2 r (0 : Fin 1)) = headRoot (fun k => a (ix2 r k)) (fun k => b (ix2 r k)) := by
  unfold headCol headRoot root
  show Ideal.rsqrt ((col (mulf a a) (ix2 r (0 : Fin 1)) + lowCol b (ix2 r (0 : Fin 1))) * Named.named (F := Ideal) κ "inv_qk" (φ := .f32) 0x3BAAAAAB#32 + eps) = _
  rw [inv_qk, div_192, lowCol_apply, col_apply]
  rfl

/-- The column of the roots of the heads of 64 lanes. -/
def nearCol (x : FVec Ideal S256x128 .f32) : FVec Ideal S256x1 .f32 :=
  rsqrt (addf (mulf (lowCol x) (broadcast S256x1 (Scalar.ofBits (F := Ideal) .f32 0x3C800000#32)))
    (broadcast S256x1 (Scalar.ofBits (F := Ideal) .f32 0x358637BD#32)))

theorem nearCol_apply (x : FVec Ideal S256x128 .f32) (r : Fin 256) :
    nearCol x (ix2 r (0 : Fin 1)) = root (low fun k => x (ix2 r k)) (Ideal.ofBits .f32 0x42800000#32) := by
  unfold nearCol root
  show Ideal.rsqrt (lowCol x (ix2 r (0 : Fin 1)) * Ideal.ofBits .f32 0x3C800000#32 + eps) = _
  rw [div_64, lowCol_apply]

/-- A column laid along 128 lanes. -/
def spread (x : FVec Ideal S256x1 .f32) : FVec Ideal S256x128 .f32 := broadcastTo S256x128 x broadcasts_S256x1_S256x128

theorem spread_apply (x : FVec Ideal S256x1 .f32) (r : Fin 256) (j : Fin 128) : spread x (ix2 r j) = x (ix2 r (0 : Fin 1)) :=
  along_apply (by decide) x _ r j

/-- A row laid under 256 rows. -/
def gain (g : FVec Ideal S1x128 .f32) : FVec Ideal S256x128 .f32 := broadcastTo S256x128 g broadcasts_S1x128_S256x128

theorem gain_apply (g : FVec Ideal S1x128 .f32) (r : Fin 256) (j : Fin 128) : gain g (ix2 r j) = g (ix2 (0 : Fin 1) j) :=
  under_apply (by decide) g _ r j

/-- The rotation. -/
def rot (v c s : FVec Ideal S256x128 .f32) : FVec Ideal S256x128 .f32 :=
  addf (mulf v c) (mulf (dynamicRotate 1 64#32 none v rotates_S256x128_d1) s)

theorem rot_apply (v c s : FVec Ideal S256x128 .f32) (r : Fin 256) (j : Fin 128) :
    rot v c s (ix2 r j) = rope (fun k => v (ix2 r k)) (fun k => c (ix2 r k)) (fun k => s (ix2 r k)) j := by
  unfold rot rope
  show v (ix2 r j) * c (ix2 r j) + dynamicRotate 1 64#32 none v rotates_S256x128_d1 (ix2 r j) * s (ix2 r j) = _
  rw [dynamicRotate_apply 1 64#32 v rotates_S256x128_d1 (ix2 r j) (ix2 r (turn j)) (fun a => by
    match a with
    | ⟨0, _⟩ => rfl
    | ⟨1, _⟩ =>
      show (j.val + 64) % 128 = (j.val + 128 - 64 % 128) % 128
      omega)]

/-- A store of 256 rows of 128 lanes. -/
def store (v : FVec Ideal S256x128 .f32) : FVec Ideal S1x1x256x128 .bf16 :=
  shapeCast S1x1x256x128 (truncf .bf16 v bitsLt_bf16_f32) shapeCasts_S256x128_S1x1x256x128

theorem store_apply (v : FVec Ideal S256x128 .f32) (x : S1x1x256x128.Idx) : store v x = v (ix2 (x 2) (x 3)) := by
  have h0 : (x 0).val < 1 := (x 0).isLt
  have h1 : (x 1).val < 1 := (x 1).isLt
  exact shapeCast_apply (truncf (F := Ideal) .bf16 v bitsLt_bf16_f32) shapeCasts_S256x128_S1x1x256x128 x (ix2 (x 2) (x 3)) (by
    rw [Shape.rowMajor_val_two, Shape.rowMajor_val_four]
    show (x 2).val * 128 + (x 3).val = (((x 0).val * 1 + (x 1).val) * 256 + (x 2).val) * 128 + (x 3).val
    omega)

theorem store_at (v : FVec Ideal S256x128 .f32) (x : S1x1x256x128.Idx) (r : Fin 256) (j : Fin 128) (hr : r.val = (x 2).val)
    (hj : j.val = (x 3).val) : store v x = v (ix2 r j) := by
  rw [store_apply]
  exact congrArg v (congrArg₂ ix2 (Fin.ext hr.symm) (Fin.ext hj.symm))

/-- The lanes without rotation. -/
def nope (a : FVec Ideal S256x128 .f32) (l : FVec Ideal S256x1 .f32) (g : FVec Ideal S1x128 .f32) : FVec Ideal S256x128 .f32 :=
  mulf (mulf a (spread (headCol a l))) (gain g)

theorem nope_apply (a b : FVec Ideal S256x128 .f32) (g : FVec Ideal S1x128 .f32) (r : Fin 256) (j : Fin 128) :
    nope a (lowCol b) g (ix2 r j) = headNope (fun k => a (ix2 r k)) (fun k => b (ix2 r k)) (fun k => g (ix2 (0 : Fin 1) k)) j := by
  show (a (ix2 r j) * spread (headCol a (lowCol b)) (ix2 r j)) * gain g (ix2 r j) = _
  rw [spread_apply, gain_apply, headCol_apply]
  rfl

/-- The queries' rotated lanes: scaled, then rotated. -/
def ropeQ (a b : FVec Ideal S256x128 .f32) (g : FVec Ideal S1x128 .f32) (c s : FVec Ideal S256x128 .f32) : FVec Ideal S256x128 .f32 :=
  rot (mulf (mulf b (spread (headCol a (lowCol b)))) (gain g)) c s

theorem ropeQ_apply (a b : FVec Ideal S256x128 .f32) (g : FVec Ideal S1x128 .f32) (c s : FVec Ideal S256x128 .f32) (r : Fin 256) (j : Fin 128) :
    ropeQ a b g c s (ix2 r j) = headRope (fun k => a (ix2 r k)) (fun k => b (ix2 r k)) (fun k => g (ix2 (0 : Fin 1) k))
      (fun k => c (ix2 r k)) (fun k => s (ix2 r k)) j := by
  unfold ropeQ headRope
  rw [rot_apply]
  congr 1
  funext k
  show (b (ix2 r k) * spread (headCol a (lowCol b)) (ix2 r k)) * gain g (ix2 r k) = _
  rw [spread_apply, gain_apply, headCol_apply]

/-- The keys' rotated lanes: rotated, then scaled. -/
def ropeK (a b : FVec Ideal S256x128 .f32) (g : FVec Ideal S1x128 .f32) (c s : FVec Ideal S256x128 .f32) : FVec Ideal S256x128 .f32 :=
  mulf (rot (mulf b (gain g)) c s) (spread (headCol a (lowCol b)))

theorem ropeK_apply (a b : FVec Ideal S256x128 .f32) (g : FVec Ideal S1x128 .f32) (c s : FVec Ideal S256x128 .f32) (r : Fin 256) (j : Fin 128) :
    ropeK a b g c s (ix2 r j) = headRope (fun k => a (ix2 r k)) (fun k => b (ix2 r k)) (fun k => g (ix2 (0 : Fin 1) k))
      (fun k => c (ix2 r k)) (fun k => s (ix2 r k)) j := by
  show rot (mulf b (gain g)) c s (ix2 r j) * spread (headCol a (lowCol b)) (ix2 r j) = _
  rw [spread_apply, headCol_apply, rot_apply]
  have hg : (fun k => mulf b (gain g) (ix2 r k)) = fun k => b (ix2 r k) * g (ix2 (0 : Fin 1) k) :=
    funext fun k => congrArg (b (ix2 r k) * ·) (gain_apply g r k)
  rw [hg]
  obtain ⟨h0, h1⟩ := headRoot_spec (fun k => a (ix2 r k)) (fun k => b (ix2 r k))
  exact rope_scaled (fun k => b (ix2 r k)) (fun k => g (ix2 (0 : Fin 1) k)) _ _ _ h0 h1 j

/-- The near attention's heads. -/
def nearRot (x : FVec Ideal S256x128 .f32) (g : FVec Ideal S1x128 .f32) (c s : FVec Ideal S256x128 .f32) : FVec Ideal S256x128 .f32 :=
  rot (mulf (mulf x (spread (nearCol x))) (gain g)) c s

theorem nearRot_apply (x : FVec Ideal S256x128 .f32) (g : FVec Ideal S1x128 .f32) (c s : FVec Ideal S256x128 .f32) (r : Fin 256) (j : Fin 128) :
    nearRot x g c s (ix2 r j) = near (fun k => x (ix2 r k)) (fun k => g (ix2 (0 : Fin 1) k)) (fun k => c (ix2 r k)) (fun k => s (ix2 r k)) j := by
  unfold nearRot near
  rw [rot_apply]
  congr 1
  funext k
  show (x (ix2 r k) * spread (nearCol x) (ix2 r k)) * gain g (ix2 r k) = _
  rw [spread_apply, gain_apply, nearCol_apply]

end Cert.PrepIdeal.Read

end
-- ==== Proof.Prep.Rows.lean ====
/-
  The rows of a block of the projections kernel after each of its three products.
-/
module

public import proofs.«01_k».proof.Proof.Prep.Read

@[expose] public section

set_option maxRecDepth 16384

noncomputable section

namespace Cert.PrepIdeal.Block

open Cert.PrepIdeal Cert.PrepIdeal.Gen Cert.PrepIdeal.Read Cert.PrepRow Idealize.ShloMosaic Idealize.ShloMosaic.ValueIdx

/-! The rows of a block. -/

section
variable (X0 : FVec Ideal S1x256x1024 .f32) (X1 : FVec Ideal S1x1x6x1024 .f32) (X2 : FVec Ideal S1x1024 .f32) (X3 : FVec Ideal S1024x2304 .bf16)

/-- A row of a block, projected. -/
def projected (r : Fin 256) : Fin 2304 → EReal :=
  project (modulated (fun k => X0 (ix3 (0 : Fin 1) r k)) (fun k => X2 (ix2 (0 : Fin 1) k)) (fun k => X1 (ix4 (0 : Fin 1) (0 : Fin 1) (1 : Fin 6) k))
    (fun k => X1 (ix4 (0 : Fin 1) (0 : Fin 1) (0 : Fin 6) k))) (fun k c => X3 (ix2 k c))

theorem rows_apply (r : Fin 256) (k : Fin 1024) :
    shapeCast S256x1024 X0 shapeCasts_S1x256x1024_S256x1024 (ix2 r k) = X0 (ix3 (0 : Fin 1) r k) :=
  shapeCast_apply X0 _ (ix2 r k) (ix3 (0 : Fin 1) r k) (by
    rw [Shape.rowMajor_val_two, Shape.rowMajor_val_three]
    show (0 * 256 + r.val) * 1024 + k.val = r.val * 1024 + k.val
    omega)

theorem mods_apply (i : Fin 6) (k : Fin 1024) :
    shapeCast S6x1024 X1 shapeCasts_S1x1x6x1024_S6x1024 (ix2 i k) = X1 (ix4 (0 : Fin 1) (0 : Fin 1) i k) :=
  shapeCast_apply X1 _ (ix2 i k) (ix4 (0 : Fin 1) (0 : Fin 1) i k) (by
    rw [Shape.rowMajor_val_two, Shape.rowMajor_val_four]
    show ((0 * 1 + 0) * 6 + i.val) * 1024 + k.val = i.val * 1024 + k.val
    omega)

theorem projected_apply (r : Fin 256) (c : Fin 2304) : k0_pay2 (F := Ideal) X0 X1 X2 X3 (ix2 r c) = projected X0 X1 X2 X3 r c := by
  unfold k0_pay2
  refine (Cert.Row.mixed_apply (φ₁ := .bf16) (φ₂ := .bf16) dot_S256x1024_S1024x2304_S256x2304_1_0_0_1_n_n rfl _ _ r c).trans ?_
  unfold projected project
  refine Finset.sum_congr rfl fun k _ => congrArg (· * X3 (ix2 k c)) ?_
  unfold modulated
  rw [truncf_apply]
  dsimp only
  rw [addf_apply, mulf_apply, under_apply (by decide), under_apply (by decide)]
  refine congrArg₂ (· + ·) (congrArg₂ (· * ·) ?_ ?_) ?_
  · refine (normed_apply (by decide) (by decide) 0x44800000#32 _ _ _ (fun r => sumSq_apply _ _ _ _ r) _ _ _ r k).trans ?_
    simp only [rows_apply]
  · rw [addf_apply, oneRow_apply 1 _ _ (by decide), mods_apply]
    show Ideal.ofBits .f32 0x3F800000#32 + _ = _
    rw [ofBits_one]
    rfl
  · rw [oneRow_apply 0 _ _ (by decide), mods_apply]
    rfl

end

/-- The widening of a block's compressed keys and values. -/
theorem widened_apply (v : FVec Ideal S256x256 .f32) (g : FVec Ideal S1x256 .f32) (W : FVec Ideal S256x1024 .bf16) (r : Fin 256) (c : Fin 1024) :
    k0_pay6 (F := Ideal) v (multiReduction .add [1] S256 (mulf v v) 0x00000000#32 reduces_S256x256_S256 (.inl rfl) rfl) g W (ix2 r c)
      = project (normed (Ideal.ofBits .f32 0x43800000#32) (fun k => v (ix2 r k)) (fun k => g (ix2 (0 : Fin 1) k))) (fun k c => W (ix2 k c)) c := by
  unfold k0_pay6
  refine (Cert.Row.mixed_apply (φ₁ := .bf16) (φ₂ := .bf16) dot_S256x256_S256x1024_S256x1024_1_0_0_1_n_n rfl _ _ r c).trans ?_
  unfold project
  refine Finset.sum_congr rfl fun k _ => congrArg (· * W (ix2 k c)) ?_
  rw [truncf_apply]
  exact normed_apply (by decide) (by decide) 0x43800000#32 _ _ _ (fun r => sumSq_apply _ _ _ _ r) _ _ _ r k

/-- The widening of a block's compressed queries. -/
theorem asked_apply (v : FVec Ideal S256x384 .f32) (g : FVec Ideal S1x384 .f32) (W : FVec Ideal S384x1024 .bf16) (r : Fin 256) (c : Fin 1024) :
    k0_pay34 (F := Ideal) v g W (ix2 r c)
      = project (normed (Ideal.ofBits .f32 0x43C00000#32) (fun k => v (ix2 r k)) (fun k => g (ix2 (0 : Fin 1) k))) (fun k c => W (ix2 k c)) c := by
  unfold k0_pay34
  refine (Cert.Row.mixed_apply (φ₁ := .bf16) (φ₂ := .bf16) dot_S256x384_S384x1024_S256x1024_1_0_0_1_n_n rfl _ _ r c).trans ?_
  unfold project
  refine Finset.sum_congr rfl fun k _ => congrArg (· * W (ix2 k c)) ?_
  rw [truncf_apply]
  exact normed_apply (by decide) (by decide) 0x43C00000#32 _ _ _ (fun r => sumSq_apply _ _ _ _ r) _ _ _ r k

section
variable (x0 : Vec Ideal S1x256x1024 .f32) (x1 : Vec Ideal S1x1x6x1024 .f32) (x2 : Vec Ideal S1x1024 .f32) (x3 : Vec Ideal S1024x2304 .bf16) (x4 : Vec Ideal S1x256 .f32) (x5 : Vec Ideal S256x1024 .bf16) (x6 : Vec Ideal S1x384 .f32) (x7 : Vec Ideal S384x1024 .bf16) (x8 : Vec Ideal S1x256 .f32) (x9 : Vec Ideal S1x128 .f32) (x10 : Vec Ideal S1x128 .f32) (x11 : Vec Ideal S1x128 .f32) (x12 : Vec Ideal S1x128 .f32) (x13 : Vec Ideal S256x128 .f32) (x14 : Vec Ideal S256x128 .f32)

theorem ld0 : (View.ld (Val := Elt Ideal) (e' := .f32) x0 r0_0) = x0 := View.ld_unit_zero (by decide) _ x0
theorem ld1 : (View.ld (Val := Elt Ideal) (e' := .f32) x1 r0_1) = x1 := View.ld_unit_zero (by decide) _ x1
theorem ld2 : (View.ld (Val := Elt Ideal) (e' := .f32) x2 r0_2) = x2 := View.ld_unit_zero (by decide) _ x2
theorem ld3 : (View.ld (Val := Elt Ideal) (e' := .bf16) x3 r0_3) = x3 := View.ld_unit_zero (by decide) _ x3
theorem ld4 : (View.ld (Val := Elt Ideal) (e' := .f32) x4 r0_5) = x4 := View.ld_unit_zero (by decide) _ x4
theorem ld5 : (View.ld (Val := Elt Ideal) (e' := .bf16) x5 r0_6) = x5 := View.ld_unit_zero (by decide) _ x5
theorem ld6 : (View.ld (Val := Elt Ideal) (e' := .f32) x6 r0_20) = x6 := View.ld_unit_zero (by decide) _ x6
theorem ld7 : (View.ld (Val := Elt Ideal) (e' := .bf16) x7 r0_21) = x7 := View.ld_unit_zero (by decide) _ x7
theorem ld9 : (View.ld (Val := Elt Ideal) (e' := .f32) x9 r0_7) = x9 := View.ld_unit_zero (by decide) _ x9
theorem ld8 : (View.ld (Val := Elt Ideal) (e' := .f32) x8 r0_5) = x8 := View.ld_unit_zero (by decide) _ x8
theorem ld13 : (View.ld (Val := Elt Ideal) (e' := .f32) x13 r0_4) = x13 := View.ld_unit_zero (by decide) _ x13

/-- A row of the block's products. -/
theorem row_p (r : Fin 256) : (fun c => (k0_pay77 x0 x1 x2 x3 x4 x5 x6 x7 x8 x9 x10 x11 x12 x13 x14) (ix2 r c)) = projected x0 x1 x2 x3 r := by
  funext c
  show k0_pay2 (View.ld (Val := Elt Ideal) (e' := .f32) x0 r0_0) (View.ld (Val := Elt Ideal) (e' := .f32) x1 r0_1) (View.ld (Val := Elt Ideal) (e' := .f32) x2 r0_2) (View.ld (Val := Elt Ideal) (e' := .bf16) x3 r0_3) (ix2 r c) = _
  rw [ld0, ld1, ld2, ld3, projected_apply]

/-- A row of the block's widened keys and values. -/
theorem row_kv (r : Fin 256) : (fun c => (k0_pay81 x0 x1 x2 x3 x4 x5 x6 x7 x8 x9 x10 x11 x12 x13 x14) (ix2 r c))
    = widened (projected x0 x1 x2 x3 r) (fun k => x4 (ix2 (0 : Fin 1) k)) (fun k c => x5 (ix2 k c)) := by
  funext c
  show k0_pay6 (extractStridedSlice S256x256 ![0, 0] (k0_pay77 x0 x1 x2 x3 x4 x5 x6 x7 x8 x9 x10 x11 x12 x13 x14) slices_S256x2304_o0_0_S256x256)
    (multiReduction .add [1] S256 (mulf (extractStridedSlice S256x256 ![0, 0] (k0_pay77 x0 x1 x2 x3 x4 x5 x6 x7 x8 x9 x10 x11 x12 x13 x14) slices_S256x2304_o0_0_S256x256) (extractStridedSlice S256x256 ![0, 0] (k0_pay77 x0 x1 x2 x3 x4 x5 x6 x7 x8 x9 x10 x11 x12 x13 x14) slices_S256x2304_o0_0_S256x256)) 0x00000000#32 reduces_S256x256_S256 (.inl rfl) rfl)
    (View.ld (Val := Elt Ideal) (e' := .f32) x4 r0_5) (View.ld (Val := Elt Ideal) (e' := .bf16) x5 r0_6) (ix2 r c) = _
  have h := row_p x0 x1 x2 x3 x4 x5 x6 x7 x8 x9 x10 x11 x12 x13 x14 r
  generalize (k0_pay77 x0 x1 x2 x3 x4 x5 x6 x7 x8 x9 x10 x11 x12 x13 x14) = p at h ⊢
  rw [ld4, ld5, widened_apply, ← h]
  unfold widened
  congr 2
  funext k
  exact lanes_apply 0 p _ (by decide) r k

/-- A row of the block's widened queries. -/
theorem row_q (r : Fin 256) : (fun c => (k0_pay85 x0 x1 x2 x3 x4 x5 x6 x7 x8 x9 x10 x11 x12 x13 x14) (ix2 r c))
    = asked (projected x0 x1 x2 x3 r) (fun k => x6 (ix2 (0 : Fin 1) k)) (fun k c => x7 (ix2 k c)) := by
  funext c
  show k0_pay34 (extractStridedSlice S256x384 ![0, 896] (k0_pay77 x0 x1 x2 x3 x4 x5 x6 x7 x8 x9 x10 x11 x12 x13 x14) slices_S256x2304_o0_896_S256x384) (View.ld (Val := Elt Ideal) (e' := .f32) x6 r0_20) (View.ld (Val := Elt Ideal) (e' := .bf16) x7 r0_21) (ix2 r c) = _
  have h := row_p x0 x1 x2 x3 x4 x5 x6 x7 x8 x9 x10 x11 x12 x13 x14 r
  generalize (k0_pay77 x0 x1 x2 x3 x4 x5 x6 x7 x8 x9 x10 x11 x12 x13 x14) = p at h ⊢
  rw [ld6, ld7, asked_apply, ← h]
  unfold asked
  congr 2
  funext k
  exact lanes_apply 896 p _ (by decide) r k

end

end Cert.PrepIdeal.Block

end
-- ==== Proof.Prep.Block.lean ====
/-
  The projections kernel's seven output blocks read at an index: each store is a head's (or the gate's) lanes of the rows, so
  a block is one function of the rows the three products leave.
-/
module

public import proofs.«01_k».proof.Proof.Prep.Rows

@[expose] public section

set_option maxRecDepth 16384

noncomputable section

namespace Cert.PrepIdeal.Block

open Cert.PrepIdeal Cert.PrepIdeal.Gen Cert.PrepIdeal.Read Cert.PrepRow Idealize.ShloMosaic Idealize.ShloMosaic.ValueIdx

/-! The stores, from the rows of a block. -/

section
variable (p : FVec Ideal S256x2304 .f32) (kv : FVec Ideal S256x1024 .f32) (g gn gp : FVec Ideal S1x128 .f32) (gq : FVec Ideal S1x256 .f32)
  (cs sn pe : FVec Ideal S256x128 .f32) (x : S1x1x256x128.Idx)

/-- A head's lanes of a row, out of 1024. -/
theorem part_kv (o : ℕ) (hs : S256x1024.Slices ![0, o] S256x128) (ho : o + 128 ≤ 1024) (r : Fin 256) :
    (fun k => extractStridedSlice S256x128 ![0, o] kv hs (ix2 r k)) = part 128 o ho (fun c => kv (ix2 r c)) :=
  funext fun k => lanes_apply o kv hs ho r k

/-- A head's lanes of a row, out of 2304. -/
theorem part_p (o : ℕ) (hs : S256x2304.Slices ![0, o] S256x128) (ho : o + 128 ≤ 2304) (r : Fin 256) :
    (fun k => extractStridedSlice S256x128 ![0, o] p hs (ix2 r k)) = part 128 o ho (fun c => p (ix2 r c)) :=
  funext fun k => lanes_apply o p hs ho r k

/-- Half of a row of gains. -/
theorem part_g (o : ℕ) (hs : S1x256.Slices ![0, o] S1x128) (ho : o + 128 ≤ 256) :
    (fun k => extractStridedSlice S1x128 ![0, o] gq hs (ix2 (0 : Fin 1) k)) = part 128 o ho (fun c => gq (ix2 (0 : Fin 1) c)) :=
  funext fun k => lanes_apply o gq hs ho (0 : Fin 1) k

/-- The keys, from the rows. -/
def keys (h : Fin 4) (r j : Fin 256) : EReal :=
  keyAt (fun c => kv (ix2 r c)) (fun k => pe (ix2 r k)) (fun k => gn (ix2 (0 : Fin 1) k)) (fun k => gp (ix2 (0 : Fin 1) k))
    (fun k => cs (ix2 r k)) (fun k => sn (ix2 r k)) h j

theorem key_nope (h : Fin 4) (o : ℕ) (hs : S256x1024.Slices ![0, o] S256x128) (ho : o = h.val * 128) (h' : Fin 4) (r : Fin 256) (j : Fin 256)
    (e1 : h'.val = h.val) (e2 : r.val = (x 2).val) (e3 : j.val = (x 3).val) :
    store (nope (extractStridedSlice S256x128 ![0, o] kv hs) (lowCol pe) gn) x = keys kv gn gp cs sn pe h' r j := by
  obtain rfl : h' = h := Fin.ext e1
  subst ho
  have hj : j.val < 128 := by rw [e3]; exact (x 3).isLt
  unfold keys keyAt
  rw [store_at _ x r ⟨j.val, hj⟩ e2 e3, nope_apply, dif_pos hj, part_kv kv _ hs (by omega)]

theorem key_rope (h : Fin 4) (o : ℕ) (hs : S256x1024.Slices ![0, o] S256x128) (ho : o = h.val * 128) (h' : Fin 4) (r : Fin 256) (j : Fin 256)
    (e1 : h'.val = h.val) (e2 : r.val = (x 2).val) (e3 : j.val = 128 + (x 3).val) :
    store (ropeK (extractStridedSlice S256x128 ![0, o] kv hs) pe gp cs sn) x = keys kv gn gp cs sn pe h' r j := by
  obtain rfl : h' = h := Fin.ext e1
  subst ho
  have hj : ¬j.val < 128 := by omega
  unfold keys keyAt
  rw [store_at _ x r ⟨j.val - 128, by omega⟩ e2 (by show j.val - 128 = (x 3).val; omega), ropeK_apply, dif_neg hj, part_kv kv _ hs (by omega)]

/-- The queries, from the rows. -/
def queries (h : Fin 4) (r j : Fin 256) : EReal :=
  queryAt (fun c => kv (ix2 r c)) (fun k => gq (ix2 (0 : Fin 1) k)) (fun k => cs (ix2 r k)) (fun k => sn (ix2 r k)) h j

theorem query_nope (h : Fin 4) (o o' : ℕ) (hs : S256x1024.Slices ![0, o] S256x128) (hs' : S256x1024.Slices ![0, o'] S256x128)
    (hg : S1x256.Slices ![0, 0] S1x128) (ho : o = h.val * 256) (ho' : o' = h.val * 256 + 128) (h' : Fin 4) (r : Fin 256) (j : Fin 256)
    (e1 : h'.val = h.val) (e2 : r.val = (x 2).val) (e3 : j.val = (x 3).val) :
    store (nope (extractStridedSlice S256x128 ![0, o] kv hs) (lowCol (extractStridedSlice S256x128 ![0, o'] kv hs')) (extractStridedSlice S1x128 ![0, 0] gq hg)) x
      = queries kv gq cs sn h' r j := by
  obtain rfl : h' = h := Fin.ext e1
  subst ho ho'
  have hj : j.val < 128 := by rw [e3]; exact (x 3).isLt
  unfold queries queryAt
  rw [store_at _ x r ⟨j.val, hj⟩ e2 e3, nope_apply, dif_pos hj, part_kv kv _ hs (by omega), part_kv kv _ hs' (by omega), part_g gq _ hg (by omega)]

theorem query_rope (h : Fin 4) (o o' : ℕ) (hs : S256x1024.Slices ![0, o] S256x128) (hs' : S256x1024.Slices ![0, o'] S256x128)
    (hg : S1x256.Slices ![0, 128] S1x128) (ho : o = h.val * 256) (ho' : o' = h.val * 256 + 128) (h' : Fin 4) (r : Fin 256) (j : Fin 256)
    (e1 : h'.val = h.val) (e2 : r.val = (x 2).val) (e3 : j.val = 128 + (x 3).val) :
    store (ropeQ (extractStridedSlice S256x128 ![0, o] kv hs) (extractStridedSlice S256x128 ![0, o'] kv hs') (extractStridedSlice S1x128 ![0, 128] gq hg) cs sn) x
      = queries kv gq cs sn h' r j := by
  obtain rfl : h' = h := Fin.ext e1
  subst ho ho'
  have hj : ¬j.val < 128 := by omega
  unfold queries queryAt
  rw [store_at _ x r ⟨j.val - 128, by omega⟩ e2 (by show j.val - 128 = (x 3).val; omega), ropeQ_apply, dif_neg hj, part_kv kv _ hs (by omega), part_kv kv _ hs' (by omega), part_g gq _ hg (by omega)]

theorem value_store (h : Fin 4) (o : ℕ) (hs : S256x1024.Slices ![0, o] S256x128) (ho : o = 512 + h.val * 128) (h' : Fin 4) (r : Fin 256) (j : Fin 128)
    (e1 : h'.val = h.val) (e2 : r.val = (x 2).val) (e3 : j.val = (x 3).val) :
    store (extractStridedSlice S256x128 ![0, o] kv hs) x = valueAt (fun c => kv (ix2 r c)) h' j := by
  obtain rfl : h' = h := Fin.ext e1
  subst ho
  rw [store_at _ x r j e2 e3]
  exact lanes_apply _ kv hs (by omega) _ _

theorem nearQuery_store (h : Fin 4) (o : ℕ) (hs : S256x2304.Slices ![0, o] S256x128) (ho : o = 1280 + h.val * 128) (h' : Fin 4) (r : Fin 256) (j : Fin 128)
    (e1 : h'.val = h.val) (e2 : r.val = (x 2).val) (e3 : j.val = (x 3).val) :
    store (nearRot (extractStridedSlice S256x128 ![0, o] p hs) g cs sn) x
      = nearQuery (fun c => p (ix2 r c)) (fun k => g (ix2 (0 : Fin 1) k)) (fun k => cs (ix2 r k)) (fun k => sn (ix2 r k)) h' j := by
  obtain rfl : h' = h := Fin.ext e1
  subst ho
  rw [store_at _ x r j e2 e3, nearRot_apply, part_p p _ hs (by omega)]
  rfl

theorem nearKey_store (h : Fin 2) (o : ℕ) (hs : S256x2304.Slices ![0, o] S256x128) (ho : o = 384 + h.val * 128) (h' : Fin 2) (r : Fin 256) (j : Fin 128)
    (e1 : h'.val = h.val) (e2 : r.val = (x 2).val) (e3 : j.val = (x 3).val) :
    store (nearRot (extractStridedSlice S256x128 ![0, o] p hs) g cs sn) x
      = nearKey (fun c => p (ix2 r c)) (fun k => g (ix2 (0 : Fin 1) k)) (fun k => cs (ix2 r k)) (fun k => sn (ix2 r k)) h' j := by
  obtain rfl : h' = h := Fin.ext e1
  subst ho
  rw [store_at _ x r j e2 e3, nearRot_apply, part_p p _ hs (by omega)]
  rfl

theorem nearValue_store (h : Fin 2) (o : ℕ) (hs : S256x2304.Slices ![0, o] S256x128) (ho : o = 640 + h.val * 128) (h' : Fin 2) (r : Fin 256) (j : Fin 128)
    (e1 : h'.val = h.val) (e2 : r.val = (x 2).val) (e3 : j.val = (x 3).val) :
    store (extractStridedSlice S256x128 ![0, o] p hs) x = nearValue (fun c => p (ix2 r c)) h' j := by
  obtain rfl : h' = h := Fin.ext e1
  subst ho
  rw [store_at _ x r j e2 e3]
  exact lanes_apply _ p hs (by omega) _ _

theorem gate_store (z : S1x256x256.Idx) (r j : Fin 256) (e1 : r.val = (z 1).val) (e2 : j.val = (z 2).val) :
    k0_pay1 (F := Ideal) p (k0_pay76 p) z = gated (fun c => p (ix2 r c)) j := by
  obtain rfl : r = z 1 := Fin.ext e1
  obtain rfl : j = z 2 := Fin.ext e2
  have h0 : (z 0).val < 1 := (z 0).isLt
  unfold k0_pay1 k0_pay76
  refine (shapeCast_apply _ shapeCasts_S256x256_S1x256x256 z (ix2 (z 1) (z 2)) (by
    rw [Shape.rowMajor_val_two, Shape.rowMajor_val_three]
    show (z 1).val * 256 + (z 2).val = ((z 0).val * 256 + (z 1).val) * 256 + (z 2).val
    omega)).trans ?_
  exact congrArg₂ (fun a b => a * Ideal.logistic b) (lanes_apply 1792 p _ (by omega) _ _) (lanes_apply 2048 p _ (by omega) _ _)

end

/-! The blocks. -/

section
variable (x0 : Vec Ideal S1x256x1024 .f32) (x1 : Vec Ideal S1x1x6x1024 .f32) (x2 : Vec Ideal S1x1024 .f32) (x3 : Vec Ideal S1024x2304 .bf16) (x4 : Vec Ideal S1x256 .f32) (x5 : Vec Ideal S256x1024 .bf16) (x6 : Vec Ideal S1x384 .f32) (x7 : Vec Ideal S384x1024 .bf16) (x8 : Vec Ideal S1x256 .f32) (x9 : Vec Ideal S1x128 .f32) (x10 : Vec Ideal S1x128 .f32) (x11 : Vec Ideal S1x128 .f32) (x12 : Vec Ideal S1x128 .f32) (x13 : Vec Ideal S256x128 .f32) (x14 : Vec Ideal S256x128 .f32)

/-- The queries' block. -/
theorem out15 (y : S1x4x256x256.Idx) : out0_15 x0 x1 x2 x3 x4 x5 x6 x7 x8 x9 x10 x11 x12 x13 x14 y = queryAt (asked (projected x0 x1 x2 x3 (y 2)) (fun k => x6 (ix2 (0 : Fin 1) k)) (fun k c => x7 (ix2 k c))) (fun k => x8 (ix2 (0 : Fin 1) k)) (fun k => x13 (ix2 (y 2) k)) (fun k => x14 (ix2 (y 2) k)) (y 1) (y 3) := by
  unfold out0_15
  refine (View.canon_apply_of_pieces (Val := Elt Ideal) (fun y : S1x4x256x256.Idx => queries (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) (y 1) (y 2) (y 3)) _ ?_ y (cover0_15 _ _ _ _ _ _ _ _ y)).trans ?_
  · intro p hp
    rcases List.mem_cons.mp hp with rfl | hp
    · exact fun x => query_rope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 3 768 896 slices_S256x1024_o0_768_S256x128 slices_S256x1024_o0_896_S256x128 slices_S1x256_o0_128_S1x128 (by decide) (by decide) (r0_18.emb x 1) (r0_18.emb x 2) (r0_18.emb x 3) (by have : (x 1).val < 1 := (x 1).isLt; show 3 + 1 * (x 1).val = 3; omega) (by show 0 + 1 * (x 2).val = (x 2).val; omega) (by show 128 + 1 * (x 3).val = 128 + (x 3).val; omega)
    rcases List.mem_cons.mp hp with rfl | hp
    · exact fun x => query_nope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 3 768 896 slices_S256x1024_o0_768_S256x128 slices_S256x1024_o0_896_S256x128 slices_S1x256_o0_0_S1x128 (by decide) (by decide) (r0_17.emb x 1) (r0_17.emb x 2) (r0_17.emb x 3) (by have : (x 1).val < 1 := (x 1).isLt; show 3 + 1 * (x 1).val = 3; omega) (by show 0 + 1 * (x 2).val = (x 2).val; omega) (by show 0 + 1 * (x 3).val = (x 3).val; omega)
    rcases List.mem_cons.mp hp with rfl | hp
    · exact fun x => query_rope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 2 512 640 slices_S256x1024_o0_512_S256x128 slices_S256x1024_o0_640_S256x128 slices_S1x256_o0_128_S1x128 (by decide) (by decide) (r0_15.emb x 1) (r0_15.emb x 2) (r0_15.emb x 3) (by have : (x 1).val < 1 := (x 1).isLt; show 2 + 1 * (x 1).val = 2; omega) (by show 0 + 1 * (x 2).val = (x 2).val; omega) (by show 128 + 1 * (x 3).val = 128 + (x 3).val; omega)
    rcases List.mem_cons.mp hp with rfl | hp
    · exact fun x => query_nope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 2 512 640 slices_S256x1024_o0_512_S256x128 slices_S256x1024_o0_640_S256x128 slices_S1x256_o0_0_S1x128 (by decide) (by decide) (r0_14.emb x 1) (r0_14.emb x 2) (r0_14.emb x 3) (by have : (x 1).val < 1 := (x 1).isLt; show 2 + 1 * (x 1).val = 2; omega) (by show 0 + 1 * (x 2).val = (x 2).val; omega) (by show 0 + 1 * (x 3).val = (x 3).val; omega)
    rcases List.mem_cons.mp hp with rfl | hp
    · exact fun x => query_rope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 1 256 384 slices_S256x1024_o0_256_S256x128 slices_S256x1024_o0_384_S256x128 slices_S1x256_o0_128_S1x128 (by decide) (by decide) (r0_12.emb x 1) (r0_12.emb x 2) (r0_12.emb x 3) (by have : (x 1).val < 1 := (x 1).isLt; show 1 + 1 * (x 1).val = 1; omega) (by show 0 + 1 * (x 2).val = (x 2).val; omega) (by show 128 + 1 * (x 3).val = 128 + (x 3).val; omega)
    rcases List.mem_cons.mp hp with rfl | hp
    · exact fun x => query_nope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 1 256 384 slices_S256x1024_o0_256_S256x128 slices_S256x1024_o0_384_S256x128 slices_S1x256_o0_0_S1x128 (by decide) (by decide) (r0_11.emb x 1) (r0_11.emb x 2) (r0_11.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => query_rope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 0 0 128 slices_S256x1024_o0_0_S256x128 slices_S256x1024_o0_128_S256x128 slices_S1x256_o0_128_S1x128 (by decide) (by decide) (r0_9.emb x 1) (r0_9.emb x 2) (r0_9.emb x 3) (by have : (x 1).val < 1 := (x 1).isLt; show 0 + 1 * (x 1).val = 0; omega) (by show 0 + 1 * (x 2).val = (x 2).val; omega) (by show 128 + 1 * (x 3).val = 128 + (x 3).val; omega)
    rcases List.mem_cons.mp hp with rfl | hp
    · exact fun x => query_nope (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) x 0 0 128 slices_S256x1024_o0_0_S256x128 slices_S256x1024_o0_128_S256x128 slices_S1x256_o0_0_S1x128 (by decide) (by decide) (r0_8.emb x 1) (r0_8.emb x 2) (r0_8.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show queries (k0_pay85 x0 x1 x2 x3 x4 x5 x6 x7 x8 x9 x10 x11 x12 x13 x14) (View.ld (Val := Elt Ideal) (e' := .f32) x8 r0_5) (View.ld (Val := Elt Ideal) (e' := .f32) x13 r0_4) (View.ld (Val := Elt Ideal) (e' := .f32) x14 r0_4) (y 1) (y 2) (y 3) = _
    unfold queries
    rw [ld8, ld13, ld13]
    exact congrArg (fun P : Fin 1024 → EReal => queryAt P _ _ _ (y 1) (y 3)) (row_q x0 x1 x2 x3 x4 x5 x6 x7 x8 x9 x10 x11 x12 x13 x14 (y 2))

/-- The keys' block. -/
theorem out16 (y : S1x4x256x256.Idx) : out0_16 x0 x1 x2 x3 x4 x5 x6 x7 x8 x9 x10 x11 x12 x13 x14 y = keyAt (widened (projected x0 x1 x2 x3 (y 2)) (fun k => x4 (ix2 (0 : Fin 1) k)) (fun k c => x5 (ix2 k c))) (part 128 256 (by omega) (projected x0 x1 x2 x3 (y 2))) (fun k => x9 (ix2 (0 : Fin 1) k)) (fun k => x10 (ix2 (0 : Fin 1) k)) (fun k => x13 (ix2 (y 2) k)) (fun k => x14 (ix2 (y 2) k)) (y 1) (y 3) := by
  unfold out0_16
  refine (View.canon_apply_of_pieces (Val := Elt Ideal) (fun y : S1x4x256x256.Idx => keys (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) (y 1) (y 2) (y 3)) _ ?_ y (cover0_16 _ _ _ _ _ _ _ _ y)).trans ?_
  · intro p hp
    rcases List.mem_cons.mp hp with rfl | hp
    · exact fun x => key_rope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 3 384 slices_S256x1024_o0_384_S256x128 (by decide) (r0_18.emb x 1) (r0_18.emb x 2) (r0_18.emb x 3) (by have : (x 1).val < 1 := (x 1).isLt; show 3 + 1 * (x 1).val = 3; omega) (by show 0 + 1 * (x 2).val = (x 2).val; omega) (by show 128 + 1 * (x 3).val = 128 + (x 3).val; omega)
    rcases List.mem_cons.mp hp with rfl | hp
    · exact fun x => key_nope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 3 384 slices_S256x1024_o0_384_S256x128 (by decide) (r0_17.emb x 1) (r0_17.emb x 2) (r0_17.emb x 3) (by have : (x 1).val < 1 := (x 1).isLt; show 3 + 1 * (x 1).val = 3; omega) (by show 0 + 1 * (x 2).val = (x 2).val; omega) (by show 0 + 1 * (x 3).val = (x 3).val; omega)
    rcases List.mem_cons.mp hp with rfl | hp
    · exact fun x => key_rope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 2 256 slices_S256x1024_o0_256_S256x128 (by decide) (r0_15.emb x 1) (r0_15.emb x 2) (r0_15.emb x 3) (by have : (x 1).val < 1 := (x 1).isLt; show 2 + 1 * (x 1).val = 2; omega) (by show 0 + 1 * (x 2).val = (x 2).val; omega) (by show 128 + 1 * (x 3).val = 128 + (x 3).val; omega)
    rcases List.mem_cons.mp hp with rfl | hp
    · exact fun x => key_nope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 2 256 slices_S256x1024_o0_256_S256x128 (by decide) (r0_14.emb x 1) (r0_14.emb x 2) (r0_14.emb x 3) (by have : (x 1).val < 1 := (x 1).isLt; show 2 + 1 * (x 1).val = 2; omega) (by show 0 + 1 * (x 2).val = (x 2).val; omega) (by show 0 + 1 * (x 3).val = (x 3).val; omega)
    rcases List.mem_cons.mp hp with rfl | hp
    · exact fun x => key_rope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 1 128 slices_S256x1024_o0_128_S256x128 (by decide) (r0_12.emb x 1) (r0_12.emb x 2) (r0_12.emb x 3) (by have : (x 1).val < 1 := (x 1).isLt; show 1 + 1 * (x 1).val = 1; omega) (by show 0 + 1 * (x 2).val = (x 2).val; omega) (by show 128 + 1 * (x 3).val = 128 + (x 3).val; omega)
    rcases List.mem_cons.mp hp with rfl | hp
    · exact fun x => key_nope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 1 128 slices_S256x1024_o0_128_S256x128 (by decide) (r0_11.emb x 1) (r0_11.emb x 2) (r0_11.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => key_rope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 0 0 slices_S256x1024_o0_0_S256x128 (by decide) (r0_9.emb x 1) (r0_9.emb x 2) (r0_9.emb x 3) (by have : (x 1).val < 1 := (x 1).isLt; show 0 + 1 * (x 1).val = 0; omega) (by show 0 + 1 * (x 2).val = (x 2).val; omega) (by show 128 + 1 * (x 3).val = 128 + (x 3).val; omega)
    rcases List.mem_cons.mp hp with rfl | hp
    · exact fun x => key_nope (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) x 0 0 slices_S256x1024_o0_0_S256x128 (by decide) (r0_8.emb x 1) (r0_8.emb x 2) (r0_8.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show keys (k0_pay81 x0 x1 x2 x3 x4 x5 x6 x7 x8 x9 x10 x11 x12 x13 x14) (View.ld (Val := Elt Ideal) (e' := .f32) x9 r0_7) (View.ld (Val := Elt Ideal) (e' := .f32) x10 r0_7) (View.ld (Val := Elt Ideal) (e' := .f32) x13 r0_4) (View.ld (Val := Elt Ideal) (e' := .f32) x14 r0_4) (k0_pay7 (k0_pay77 x0 x1 x2 x3 x4 x5 x6 x7 x8 x9 x10 x11 x12 x13 x14)) (y 1) (y 2) (y 3) = _
    unfold keys
    rw [ld9, ld9, ld13, ld13]
    exact congrArg₂ (fun (P : Fin 1024 → EReal) (Q : Fin 128 → EReal) => keyAt P Q _ _ _ _ (y 1) (y 3)) (row_kv x0 x1 x2 x3 x4 x5 x6 x7 x8 x9 x10 x11 x12 x13 x14 (y 2))
      ((part_p (k0_pay77 x0 x1 x2 x3 x4 x5 x6 x7 x8 x9 x10 x11 x12 x13 x14) 256 slices_S256x2304_o0_256_S256x128 (by omega) (y 2)).trans (congrArg (part 128 256 (by omega)) (row_p x0 x1 x2 x3 x4 x5 x6 x7 x8 x9 x10 x11 x12 x13 x14 (y 2))))

/-- The values' block. -/
theorem out17 (y : S1x4x256x128.Idx) : out0_17 x0 x1 x2 x3 x4 x5 x6 x7 x8 x9 x10 x11 x12 x13 x14 y = valueAt (widened (projected x0 x1 x2 x3 (y 2)) (fun k => x4 (ix2 (0 : Fin 1) k)) (fun k c => x5 (ix2 k c))) (y 1) (y 3) := by
  unfold out0_17
  refine (View.canon_apply_of_pieces (Val := Elt Ideal) (fun y : S1x4x256x128.Idx => valueAt (fun c => (k0_pay81 x0 x1 x2 x3 x4 x5 x6 x7 x8 x9 x10 x11 x12 x13 x14) (ix2 (y 2) c)) (y 1) (y 3)) _ ?_ y (cover0_17 _ _ _ _ y)).trans ?_
  · intro p hp
    rcases List.mem_cons.mp hp with rfl | hp
    · exact fun x => value_store (k0_pay81 x0 x1 x2 x3 x4 x5 x6 x7 x8 x9 x10 x11 x12 x13 x14) x 3 896 slices_S256x1024_o0_896_S256x128 (by decide) (r0_19.emb x 1) (r0_19.emb x 2) (r0_19.emb x 3) (by have : (x 1).val < 1 := (x 1).isLt; show 3 + 1 * (x 1).val = 3; omega) (by show 0 + 1 * (x 2).val = (x 2).val; omega) (by show 0 + 1 * (x 3).val = (x 3).val; omega)
    rcases List.mem_cons.mp hp with rfl | hp
    · exact fun x => value_store (k0_pay81 x0 x1 x2 x3 x4 x5 x6 x7 x8 x9 x10 x11 x12 x13 x14) x 2 768 slices_S256x1024_o0_768_S256x128 (by decide) (r0_16.emb x 1) (r0_16.emb x 2) (r0_16.emb x 3) (by have : (x 1).val < 1 := (x 1).isLt; show 2 + 1 * (x 1).val = 2; omega) (by show 0 + 1 * (x 2).val = (x 2).val; omega) (by show 0 + 1 * (x 3).val = (x 3).val; omega)
    rcases List.mem_cons.mp hp with rfl | hp
    · exact fun x => value_store (k0_pay81 x0 x1 x2 x3 x4 x5 x6 x7 x8 x9 x10 x11 x12 x13 x14) x 1 640 slices_S256x1024_o0_640_S256x128 (by decide) (r0_13.emb x 1) (r0_13.emb x 2) (r0_13.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => value_store (k0_pay81 x0 x1 x2 x3 x4 x5 x6 x7 x8 x9 x10 x11 x12 x13 x14) x 0 512 slices_S256x1024_o0_512_S256x128 (by decide) (r0_10.emb x 1) (r0_10.emb x 2) (r0_10.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show valueAt (fun c => (k0_pay81 x0 x1 x2 x3 x4 x5 x6 x7 x8 x9 x10 x11 x12 x13 x14) (ix2 (y 2) c)) (y 1) (y 3) = _
    exact congrArg (fun P : Fin 1024 → EReal => valueAt P (y 1) (y 3)) (row_kv x0 x1 x2 x3 x4 x5 x6 x7 x8 x9 x10 x11 x12 x13 x14 (y 2))

/-- The near queries' block. -/
theorem out18 (y : S1x4x256x128.Idx) : out0_18 x0 x1 x2 x3 x4 x5 x6 x7 x8 x9 x10 x11 x12 x13 x14 y = nearQuery (projected x0 x1 x2 x3 (y 2)) (fun k => x11 (ix2 (0 : Fin 1) k)) (fun k => x13 (ix2 (y 2) k)) (fun k => x14 (ix2 (y 2) k)) (y 1) (y 3) := by
  unfold out0_18
  refine (View.canon_apply_of_pieces (Val := Elt Ideal) (fun y : S1x4x256x128.Idx => nearQuery (fun c => (k0_pay77 x0 x1 x2 x3 x4 x5 x6 x7 x8 x9 x10 x11 x12 x13 x14) (ix2 (y 2) c)) (fun k => (View.ld (Val := Elt Ideal) (e' := .f32) x11 r0_7) (ix2 (0 : Fin 1) k)) (fun k => (View.ld (Val := Elt Ideal) (e' := .f32) x13 r0_4) (ix2 (y 2) k)) (fun k => (View.ld (Val := Elt Ideal) (e' := .f32) x14 r0_4) (ix2 (y 2) k)) (y 1) (y 3)) _ ?_ y (cover0_18 _ _ _ _ y)).trans ?_
  · intro p hp
    rcases List.mem_cons.mp hp with rfl | hp
    · exact fun x => nearQuery_store (k0_pay77 x0 x1 x2 x3 x4 x5 x6 x7 x8 x9 x10 x11 x12 x13 x14) (View.ld (Val := Elt Ideal) (e' := .f32) x11 r0_7) (View.ld (Val := Elt Ideal) (e' := .f32) x13 r0_4) (View.ld (Val := Elt Ideal) (e' := .f32) x14 r0_4) x 3 1664 slices_S256x2304_o0_1664_S256x128 (by decide) (r0_19.emb x 1) (r0_19.emb x 2) (r0_19.emb x 3) (by have : (x 1).val < 1 := (x 1).isLt; show 3 + 1 * (x 1).val = 3; omega) (by show 0 + 1 * (x 2).val = (x 2).val; omega) (by show 0 + 1 * (x 3).val = (x 3).val; omega)
    rcases List.mem_cons.mp hp with rfl | hp
    · exact fun x => nearQuery_store (k0_pay77 x0 x1 x2 x3 x4 x5 x6 x7 x8 x9 x10 x11 x12 x13 x14) (View.ld (Val := Elt Ideal) (e' := .f32) x11 r0_7) (View.ld (Val := Elt Ideal) (e' := .f32) x13 r0_4) (View.ld (Val := Elt Ideal) (e' := .f32) x14 r0_4) x 2 1536 slices_S256x2304_o0_1536_S256x128 (by decide) (r0_16.emb x 1) (r0_16.emb x 2) (r0_16.emb x 3) (by have : (x 1).val < 1 := (x 1).isLt; show 2 + 1 * (x 1).val = 2; omega) (by show 0 + 1 * (x 2).val = (x 2).val; omega) (by show 0 + 1 * (x 3).val = (x 3).val; omega)
    rcases List.mem_cons.mp hp with rfl | hp
    · exact fun x => nearQuery_store (k0_pay77 x0 x1 x2 x3 x4 x5 x6 x7 x8 x9 x10 x11 x12 x13 x14) (View.ld (Val := Elt Ideal) (e' := .f32) x11 r0_7) (View.ld (Val := Elt Ideal) (e' := .f32) x13 r0_4) (View.ld (Val := Elt Ideal) (e' := .f32) x14 r0_4) x 1 1408 slices_S256x2304_o0_1408_S256x128 (by decide) (r0_13.emb x 1) (r0_13.emb x 2) (r0_13.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => nearQuery_store (k0_pay77 x0 x1 x2 x3 x4 x5 x6 x7 x8 x9 x10 x11 x12 x13 x14) (View.ld (Val := Elt Ideal) (e' := .f32) x11 r0_7) (View.ld (Val := Elt Ideal) (e' := .f32) x13 r0_4) (View.ld (Val := Elt Ideal) (e' := .f32) x14 r0_4) x 0 1280 slices_S256x2304_o0_1280_S256x128 (by decide) (r0_10.emb x 1) (r0_10.emb x 2) (r0_10.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show nearQuery (fun c => (k0_pay77 x0 x1 x2 x3 x4 x5 x6 x7 x8 x9 x10 x11 x12 x13 x14) (ix2 (y 2) c)) (fun k => (View.ld (Val := Elt Ideal) (e' := .f32) x11 r0_7) (ix2 (0 : Fin 1) k)) (fun k => (View.ld (Val := Elt Ideal) (e' := .f32) x13 r0_4) (ix2 (y 2) k)) (fun k => (View.ld (Val := Elt Ideal) (e' := .f32) x14 r0_4) (ix2 (y 2) k)) (y 1) (y 3) = _
    rw [ld9, ld13, ld13]
    exact congrArg (fun P : Fin 2304 → EReal => nearQuery P _ _ _ (y 1) (y 3)) (row_p x0 x1 x2 x3 x4 x5 x6 x7 x8 x9 x10 x11 x12 x13 x14 (y 2))

/-- The near keys' block. -/
theorem out19 (y : S1x2x256x128.Idx) : out0_19 x0 x1 x2 x3 x4 x5 x6 x7 x8 x9 x10 x11 x12 x13 x14 y = nearKey (projected x0 x1 x2 x3 (y 2)) (fun k => x12 (ix2 (0 : Fin 1) k)) (fun k => x13 (ix2 (y 2) k)) (fun k => x14 (ix2 (y 2) k)) (y 1) (y 3) := by
  unfold out0_19
  refine (View.canon_apply_of_pieces (Val := Elt Ideal) (fun y : S1x2x256x128.Idx => nearKey (fun c => (k0_pay77 x0 x1 x2 x3 x4 x5 x6 x7 x8 x9 x10 x11 x12 x13 x14) (ix2 (y 2) c)) (fun k => (View.ld (Val := Elt Ideal) (e' := .f32) x12 r0_7) (ix2 (0 : Fin 1) k)) (fun k => (View.ld (Val := Elt Ideal) (e' := .f32) x13 r0_4) (ix2 (y 2) k)) (fun k => (View.ld (Val := Elt Ideal) (e' := .f32) x14 r0_4) (ix2 (y 2) k)) (y 1) (y 3)) _ ?_ y (cover0_19 _ _ y)).trans ?_
  · intro p hp
    rcases List.mem_cons.mp hp with rfl | hp
    · exact fun x => nearKey_store (k0_pay77 x0 x1 x2 x3 x4 x5 x6 x7 x8 x9 x10 x11 x12 x13 x14) (View.ld (Val := Elt Ideal) (e' := .f32) x12 r0_7) (View.ld (Val := Elt Ideal) (e' := .f32) x13 r0_4) (View.ld (Val := Elt Ideal) (e' := .f32) x14 r0_4) x 1 512 slices_S256x2304_o0_512_S256x128 (by decide) (r0_23.emb x 1) (r0_23.emb x 2) (r0_23.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => nearKey_store (k0_pay77 x0 x1 x2 x3 x4 x5 x6 x7 x8 x9 x10 x11 x12 x13 x14) (View.ld (Val := Elt Ideal) (e' := .f32) x12 r0_7) (View.ld (Val := Elt Ideal) (e' := .f32) x13 r0_4) (View.ld (Val := Elt Ideal) (e' := .f32) x14 r0_4) x 0 384 slices_S256x2304_o0_384_S256x128 (by decide) (r0_22.emb x 1) (r0_22.emb x 2) (r0_22.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show nearKey (fun c => (k0_pay77 x0 x1 x2 x3 x4 x5 x6 x7 x8 x9 x10 x11 x12 x13 x14) (ix2 (y 2) c)) (fun k => (View.ld (Val := Elt Ideal) (e' := .f32) x12 r0_7) (ix2 (0 : Fin 1) k)) (fun k => (View.ld (Val := Elt Ideal) (e' := .f32) x13 r0_4) (ix2 (y 2) k)) (fun k => (View.ld (Val := Elt Ideal) (e' := .f32) x14 r0_4) (ix2 (y 2) k)) (y 1) (y 3) = _
    rw [ld9, ld13, ld13]
    exact congrArg (fun P : Fin 2304 → EReal => nearKey P _ _ _ (y 1) (y 3)) (row_p x0 x1 x2 x3 x4 x5 x6 x7 x8 x9 x10 x11 x12 x13 x14 (y 2))

/-- The near values' block. -/
theorem out20 (y : S1x2x256x128.Idx) : out0_20 x0 x1 x2 x3 x4 x5 x6 x7 x8 x9 x10 x11 x12 x13 x14 y = nearValue (projected x0 x1 x2 x3 (y 2)) (y 1) (y 3) := by
  unfold out0_20
  refine (View.canon_apply_of_pieces (Val := Elt Ideal) (fun y : S1x2x256x128.Idx => nearValue (fun c => (k0_pay77 x0 x1 x2 x3 x4 x5 x6 x7 x8 x9 x10 x11 x12 x13 x14) (ix2 (y 2) c)) (y 1) (y 3)) _ ?_ y (cover0_20 _ _ y)).trans ?_
  · intro p hp
    rcases List.mem_cons.mp hp with rfl | hp
    · exact fun x => nearValue_store (k0_pay77 x0 x1 x2 x3 x4 x5 x6 x7 x8 x9 x10 x11 x12 x13 x14) x 1 768 slices_S256x2304_o0_768_S256x128 (by decide) (r0_23.emb x 1) (r0_23.emb x 2) (r0_23.emb x 3) (by have : (x 1).val < 1 := (x 1).isLt; show 1 + 1 * (x 1).val = 1; omega) (by show 0 + 1 * (x 2).val = (x 2).val; omega) (by show 0 + 1 * (x 3).val = (x 3).val; omega)
    rcases List.mem_cons.mp hp with rfl | hp
    · exact fun x => nearValue_store (k0_pay77 x0 x1 x2 x3 x4 x5 x6 x7 x8 x9 x10 x11 x12 x13 x14) x 0 640 slices_S256x2304_o0_640_S256x128 (by decide) (r0_22.emb x 1) (r0_22.emb x 2) (r0_22.emb x 3) (by have : (x 1).val < 1 := (x 1).isLt; show 0 + 1 * (x 1).val = 0; omega) (by show 0 + 1 * (x 2).val = (x 2).val; omega) (by show 0 + 1 * (x 3).val = (x 3).val; omega)
    exact absurd hp List.not_mem_nil
  · show nearValue (fun c => (k0_pay77 x0 x1 x2 x3 x4 x5 x6 x7 x8 x9 x10 x11 x12 x13 x14) (ix2 (y 2) c)) (y 1) (y 3) = _
    exact congrArg (fun P : Fin 2304 → EReal => nearValue P (y 1) (y 3)) (row_p x0 x1 x2 x3 x4 x5 x6 x7 x8 x9 x10 x11 x12 x13 x14 (y 2))

/-- The gate's block. -/
theorem out21 (y : S1x256x256.Idx) : out0_21 x0 x1 x2 x3 x4 x5 x6 x7 x8 x9 x10 x11 x12 x13 x14 y = gated (projected x0 x1 x2 x3 (y 1)) (y 2) := by
  unfold out0_21
  refine (View.canon_apply_of_pieces (Val := Elt Ideal) (fun y : S1x256x256.Idx => gated (fun c => (k0_pay77 x0 x1 x2 x3 x4 x5 x6 x7 x8 x9 x10 x11 x12 x13 x14) (ix2 (y 1) c)) (y 2)) _ ?_ y (cover0_21 _ y)).trans ?_
  · intro p hp
    rcases List.mem_cons.mp hp with rfl | hp
    · exact fun x => gate_store (k0_pay77 x0 x1 x2 x3 x4 x5 x6 x7 x8 x9 x10 x11 x12 x13 x14) x (r0_24.emb x 1) (r0_24.emb x 2) (by show 0 + 1 * (x 1).val = (x 1).val; omega) (by show 0 + 1 * (x 2).val = (x 2).val; omega)
    exact absurd hp List.not_mem_nil
  · show gated (fun c => (k0_pay77 x0 x1 x2 x3 x4 x5 x6 x7 x8 x9 x10 x11 x12 x13 x14) (ix2 (y 1) c)) (y 2) = _
    exact congrArg (fun P : Fin 2304 → EReal => gated P (y 2)) (row_p x0 x1 x2 x3 x4 x5 x6 x7 x8 x9 x10 x11 x12 x13 x14 (y 1))

end

end Cert.PrepIdeal.Block

end
-- ==== Proof.Prep.Target.lean ====
/-
  The seven results of the projections, as functions of the whole arrays: rows before the 256th are modulated by the first
  of a batch's two sets of shifts and scales, the others by the second.
-/
module

public import proofs.«01_k».proof.Proof.Prep.Spec

@[expose] public section

noncomputable section

namespace Cert.PrepRow

open Idealize.ShloMosaic Idealize.ShloMosaic.ValueIdx

variable (x0 : (⟨3, ![8, 2304, 1024]⟩ : Shape).Idx → EReal) (x1 : (⟨4, ![8, 2, 6, 1024]⟩ : Shape).Idx → EReal) (x2 : (⟨2, ![1, 1024]⟩ : Shape).Idx → EReal) (x3 : (⟨2, ![1024, 2304]⟩ : Shape).Idx → EReal) (x4 : (⟨2, ![1, 256]⟩ : Shape).Idx → EReal) (x5 : (⟨2, ![256, 1024]⟩ : Shape).Idx → EReal) (x6 : (⟨2, ![1, 384]⟩ : Shape).Idx → EReal) (x7 : (⟨2, ![384, 1024]⟩ : Shape).Idx → EReal) (x8 : (⟨2, ![1, 256]⟩ : Shape).Idx → EReal) (x9 : (⟨2, ![1, 128]⟩ : Shape).Idx → EReal) (x10 : (⟨2, ![1, 128]⟩ : Shape).Idx → EReal) (x11 : (⟨2, ![1, 128]⟩ : Shape).Idx → EReal) (x12 : (⟨2, ![1, 128]⟩ : Shape).Idx → EReal) (x13 : (⟨2, ![2304, 128]⟩ : Shape).Idx → EReal) (x14 : (⟨2, ![2304, 128]⟩ : Shape).Idx → EReal)

/-- Which set of shifts and scales a row is modulated by. -/
def side (t : Fin 2304) : Fin 2 := if t.val < 256 then 0 else 1

/-- A row of a batch, normed, modulated and projected. -/
def rowAt (b : Fin 8) (t : Fin 2304) : Fin 2304 → EReal :=
  project (modulated (fun k => x0 (ix3 b t k)) (fun k => x2 (ix2 (0 : Fin 1) k)) (fun k => x1 (ix4 b (side t) (1 : Fin 6) k))
    (fun k => x1 (ix4 b (side t) (0 : Fin 6) k))) (fun k c => x3 (ix2 k c))

/-- The queries, over the whole array. -/
def allQueries (i : (⟨4, ![8, 4, 2304, 256]⟩ : Shape).Idx) : EReal :=
  queryAt (asked (rowAt x0 x1 x2 x3 (i 0) (i 2)) (fun k => x6 (ix2 (0 : Fin 1) k)) (fun k c => x7 (ix2 k c))) (fun k => x8 (ix2 (0 : Fin 1) k)) (fun k => x13 (ix2 (i 2) k)) (fun k => x14 (ix2 (i 2) k)) (i 1) (i 3)

/-- The keys. -/
def allKeys (i : (⟨4, ![8, 4, 2304, 256]⟩ : Shape).Idx) : EReal :=
  keyAt (widened (rowAt x0 x1 x2 x3 (i 0) (i 2)) (fun k => x4 (ix2 (0 : Fin 1) k)) (fun k c => x5 (ix2 k c))) (part 128 256 (by omega) (rowAt x0 x1 x2 x3 (i 0) (i 2))) (fun k => x9 (ix2 (0 : Fin 1) k)) (fun k => x10 (ix2 (0 : Fin 1) k)) (fun k => x13 (ix2 (i 2) k)) (fun k => x14 (ix2 (i 2) k)) (i 1) (i 3)

/-- The values. -/
def allValues (i : (⟨4, ![8, 4, 2304, 128]⟩ : Shape).Idx) : EReal :=
  valueAt (widened (rowAt x0 x1 x2 x3 (i 0) (i 2)) (fun k => x4 (ix2 (0 : Fin 1) k)) (fun k c => x5 (ix2 k c))) (i 1) (i 3)

/-- The near attention's queries. -/
def allNearQueries (i : (⟨4, ![8, 4, 2304, 128]⟩ : Shape).Idx) : EReal :=
  nearQuery (rowAt x0 x1 x2 x3 (i 0) (i 2)) (fun k => x11 (ix2 (0 : Fin 1) k)) (fun k => x13 (ix2 (i 2) k)) (fun k => x14 (ix2 (i 2) k)) (i 1) (i 3)

/-- The near attention's keys. -/
def allNearKeys (i : (⟨4, ![8, 2, 2304, 128]⟩ : Shape).Idx) : EReal :=
  nearKey (rowAt x0 x1 x2 x3 (i 0) (i 2)) (fun k => x12 (ix2 (0 : Fin 1) k)) (fun k => x13 (ix2 (i 2) k)) (fun k => x14 (ix2 (i 2) k)) (i 1) (i 3)

/-- The near attention's values. -/
def allNearValues (i : (⟨4, ![8, 2, 2304, 128]⟩ : Shape).Idx) : EReal :=
  nearValue (rowAt x0 x1 x2 x3 (i 0) (i 2)) (i 1) (i 3)

/-- The gated rows. -/
def allGates (i : (⟨3, ![8, 2304, 256]⟩ : Shape).Idx) : EReal :=
  gated (rowAt x0 x1 x2 x3 (i 0) (i 1)) (i 2)

end Cert.PrepRow

end
-- ==== Proof.Prep.Array.lean ====
/-
  The arrays the projections kernel leaves: a grid point takes 256 rows of a batch, so its blocks of the arguments read the
  whole arrays at those rows, and the points' blocks cover the seven results.
-/
module

public import proofs.«01_k».proof.Proof.Prep.Block
public import proofs.«01_k».proof.Proof.Prep.Target
public import proofs.«01_k».proof.Proof.Gen.PrepIdeal.Value

@[expose] public section

set_option maxRecDepth 16384

noncomputable section

namespace Cert.PrepIdeal.Array

open Cert.PrepIdeal Cert.PrepIdeal.Gen Cert.PrepRow Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The batch a point works on. -/
def batch (t : Fin cfg0.N) : Fin 8 := ⟨t.val / 9, by have : t.val < 72 := t.isLt; omega⟩

/-- The array's row behind a row of a point's block. -/
def row (t : Fin cfg0.N) (r : Fin 256) : Fin 2304 := ⟨(t.val % 9) * 256 + r.val, by omega⟩

theorem side_row (t : Fin cfg0.N) (r : Fin 256) : (side (row t r)).val = min (t.val % 9) 1 := by
  unfold side
  by_cases h : t.val % 9 = 0
  · rw [if_pos (by show (t.val % 9) * 256 + r.val < 256; omega)]
    show 0 = _
    omega
  · rw [if_neg (by show ¬ (t.val % 9) * 256 + r.val < 256; omega)]
    show 1 = _
    omega

/-! Where the blocks lie. -/

theorem index0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)

theorem index1 : ∀ t : Fin cfg0.N, win0_1.index t 0 = t.val / 9 ∧ win0_1.index t 1 = min (t.val % 9) 1 ∧ win0_1.index t 2 = 0 ∧ win0_1.index t 3 = 0 :=
  (by decide +kernel : ∀ t : Fin grid0.N, win0_1.index t 0 = t.val / 9 ∧ win0_1.index t 1 = min (t.val % 9) 1 ∧ win0_1.index t 2 = 0 ∧ win0_1.index t 3 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = 0 :=
  (by decide +kernel : ∀ t : Fin grid0.N, win0_3.index t 0 = 0 ∧ win0_3.index t 1 = 0)

theorem index4 : ∀ t : Fin cfg0.N, win0_4.index t 0 = 0 ∧ win0_4.index t 1 = 0 :=
  (by decide +kernel : ∀ t : Fin grid0.N, win0_4.index t 0 = 0 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index9 : ∀ t : Fin cfg0.N, win0_9.index t 0 = 0 ∧ win0_9.index t 1 = 0 :=
  (by decide +kernel : ∀ t : Fin grid0.N, win0_9.index t 0 = 0 ∧ win0_9.index t 1 = 0)

theorem index10 : ∀ t : Fin cfg0.N, win0_10.index t 0 = 0 ∧ win0_10.index t 1 = 0 :=
  (by decide +kernel : ∀ t : Fin grid0.N, win0_10.index t 0 = 0 ∧ win0_10.index t 1 = 0)

theorem index11 : ∀ t : Fin cfg0.N, win0_11.index t 0 = 0 ∧ win0_11.index t 1 = 0 :=
  (by decide +kernel : ∀ t : Fin grid0.N, win0_11.index t 0 = 0 ∧ win0_11.index t 1 = 0)

theorem index12 : ∀ t : Fin cfg0.N, win0_12.index t 0 = 0 ∧ win0_12.index t 1 = 0 :=
  (by decide +kernel : ∀ t : Fin grid0.N, win0_12.index t 0 = 0 ∧ win0_12.index t 1 = 0)

theorem index13 : ∀ t : Fin cfg0.N, win0_13.index t 0 = t.val % 9 ∧ win0_13.index t 1 = 0 :=
  (by decide +kernel : ∀ t : Fin grid0.N, win0_13.index t 0 = t.val % 9 ∧ win0_13.index t 1 = 0)

theorem index14 : ∀ t : Fin cfg0.N, win0_14.index t 0 = t.val % 9 ∧ win0_14.index t 1 = 0 :=
  (by decide +kernel : ∀ t : Fin grid0.N, win0_14.index t 0 = t.val % 9 ∧ win0_14.index t 1 = 0)

theorem index15 : ∀ t : Fin cfg0.N, win0_15.index t 0 = t.val / 9 ∧ win0_15.index t 1 = 0 ∧ win0_15.index t 2 = t.val % 9 ∧ win0_15.index t 3 = 0 :=
  (by decide +kernel : ∀ t : Fin grid0.N, win0_15.index t 0 = t.val / 9 ∧ win0_15.index t 1 = 0 ∧ win0_15.index t 2 = t.val % 9 ∧ win0_15.index t 3 = 0)

theorem index16 : ∀ t : Fin cfg0.N, win0_16.index t 0 = t.val / 9 ∧ win0_16.index t 1 = 0 ∧ win0_16.index t 2 = t.val % 9 ∧ win0_16.index t 3 = 0 :=
  (by decide +kernel : ∀ t : Fin grid0.N, win0_16.index t 0 = t.val / 9 ∧ win0_16.index t 1 = 0 ∧ win0_16.index t 2 = t.val % 9 ∧ win0_16.index t 3 = 0)

theorem index17 : ∀ t : Fin cfg0.N, win0_17.index t 0 = t.val / 9 ∧ win0_17.index t 1 = 0 ∧ win0_17.index t 2 = t.val % 9 ∧ win0_17.index t 3 = 0 :=
  (by decide +kernel : ∀ t : Fin grid0.N, win0_17.index t 0 = t.val / 9 ∧ win0_17.index t 1 = 0 ∧ win0_17.index t 2 = t.val % 9 ∧ win0_17.index t 3 = 0)

theorem index18 : ∀ t : Fin cfg0.N, win0_18.index t 0 = t.val / 9 ∧ win0_18.index t 1 = 0 ∧ win0_18.index t 2 = t.val % 9 ∧ win0_18.index t 3 = 0 :=
  (by decide +kernel : ∀ t : Fin grid0.N, win0_18.index t 0 = t.val / 9 ∧ win0_18.index t 1 = 0 ∧ win0_18.index t 2 = t.val % 9 ∧ win0_18.index t 3 = 0)

theorem index19 : ∀ t : Fin cfg0.N, win0_19.index t 0 = t.val / 9 ∧ win0_19.index t 1 = 0 ∧ win0_19.index t 2 = t.val % 9 ∧ win0_19.index t 3 = 0 :=
  (by decide +kernel : ∀ t : Fin grid0.N, win0_19.index t 0 = t.val / 9 ∧ win0_19.index t 1 = 0 ∧ win0_19.index t 2 = t.val % 9 ∧ win0_19.index t 3 = 0)

theorem index20 : ∀ t : Fin cfg0.N, win0_20.index t 0 = t.val / 9 ∧ win0_20.index t 1 = 0 ∧ win0_20.index t 2 = t.val % 9 ∧ win0_20.index t 3 = 0 :=
  (by decide +kernel : ∀ t : Fin grid0.N, win0_20.index t 0 = t.val / 9 ∧ win0_20.index t 1 = 0 ∧ win0_20.index t 2 = t.val % 9 ∧ win0_20.index t 3 = 0)

theorem index21 : ∀ t : Fin cfg0.N, win0_21.index t 0 = t.val / 9 ∧ win0_21.index t 1 = t.val % 9 ∧ win0_21.index t 2 = 0 :=
  (by decide +kernel : ∀ t : Fin grid0.N, win0_21.index t 0 = t.val / 9 ∧ win0_21.index t 1 = t.val % 9 ∧ win0_21.index t 2 = 0)

/-! A point's blocks of the arguments, read at an index. -/

theorem read0 (t : Fin cfg0.N) (r : Fin 256) (k : Fin 1024) :
    (iblk m c 0 t : Vec Ideal S1x256x1024 .f32) (ix3 (0 : Fin 1) r k) = m ((c : Thread nD τ).loc main_arg0) (ix3 (batch t) (row t r) k) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 9; rw [e0]; omega
  | ⟨1, _⟩ => show win0_0.index t 1 * 256 + 1 * r.val = (t.val % 9) * 256 + r.val; rw [e1]; omega
  | ⟨2, _⟩ => show win0_0.index t 2 * 1024 + 1 * k.val = k.val; rw [e2]; omega

theorem read1 (t : Fin cfg0.N) (r : Fin 256) (s : Fin 6) (k : Fin 1024) :
    (iblk m c 1 t : Vec Ideal S1x1x6x1024 .f32) (ix4 (0 : Fin 1) (0 : Fin 1) s k) = m ((c : Thread nD τ).loc main_arg1) (ix4 (batch t) (side (row t r)) s k) := by
  obtain ⟨e0, e1, e2, e3⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 9; rw [e0]; omega
  | ⟨1, _⟩ => show win0_1.index t 1 * 1 + 1 * 0 = (side (row t r)).val; rw [e1, side_row]; omega
  | ⟨2, _⟩ => show win0_1.index t 2 * 6 + 1 * s.val = s.val; rw [e2]; omega
  | ⟨3, _⟩ => show win0_1.index t 3 * 1024 + 1 * k.val = k.val; rw [e3]; omega

theorem read2 (t : Fin cfg0.N) (k : Fin 1024) :
    (iblk m c 2 t : Vec Ideal S1x1024 .f32) (ix2 (0 : Fin 1) k) = m ((c : Thread nD τ).loc main_arg2) (ix2 (0 : Fin 1) k) := by
  obtain ⟨e0, e1⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = 0; rw [e0]
  | ⟨1, _⟩ => show win0_2.index t 1 * 1024 + 1 * k.val = k.val; rw [e1]; omega

theorem read3 (t : Fin cfg0.N) (k : Fin 1024) (d : Fin 2304) :
    (iblk m c 3 t : Vec Ideal S1024x2304 .bf16) (ix2 k d) = m ((c : Thread nD τ).loc main_arg3) (ix2 k d) := by
  obtain ⟨e0, e1⟩ := index3 t
  unfold iblk
  rw [View.read_apply]
  show V m c main_arg3 _ = m (c.tc.loc main_arg3) _
  unfold V
  congr 1
  funext a
  apply Fin.ext
  match a with
  | ⟨0, _⟩ => show win0_3.index t 0 * 1024 + 1 * k.val = k.val; rw [e0]; omega
  | ⟨1, _⟩ => show win0_3.index t 1 * 2304 + 1 * d.val = d.val; rw [e1]; omega

theorem read4 (t : Fin cfg0.N) (k : Fin 256) :
    (iblk m c 4 t : Vec Ideal S1x256 .f32) (ix2 (0 : Fin 1) k) = m ((c : Thread nD τ).loc main_arg4) (ix2 (0 : Fin 1) k) := by
  obtain ⟨e0, e1⟩ := index4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = 0; rw [e0]
  | ⟨1, _⟩ => show win0_4.index t 1 * 256 + 1 * k.val = k.val; rw [e1]; omega

theorem read5 (t : Fin cfg0.N) (k : Fin 256) (d : Fin 1024) :
    (iblk m c 5 t : Vec Ideal S256x1024 .bf16) (ix2 k d) = m ((c : Thread nD τ).loc main_arg5) (ix2 k d) := by
  obtain ⟨e0, e1⟩ := index5 t
  unfold iblk
  rw [View.read_apply]
  show V m c main_arg5 _ = m (c.tc.loc main_arg5) _
  unfold V
  congr 1
  funext a
  apply Fin.ext
  match a with
  | ⟨0, _⟩ => show win0_5.index t 0 * 256 + 1 * k.val = k.val; rw [e0]; omega
  | ⟨1, _⟩ => show win0_5.index t 1 * 1024 + 1 * d.val = d.val; rw [e1]; omega

theorem read6 (t : Fin cfg0.N) (k : Fin 384) :
    (iblk m c 6 t : Vec Ideal S1x384 .f32) (ix2 (0 : Fin 1) k) = m ((c : Thread nD τ).loc main_arg6) (ix2 (0 : Fin 1) k) := by
  obtain ⟨e0, e1⟩ := index6 t
  unfold iblk
  rw [View.read_apply]
  show V m c main_arg6 _ = m (c.tc.loc main_arg6) _
  unfold V
  congr 1
  funext a
  apply Fin.ext
  match a with
  | ⟨0, _⟩ => show win0_6.index t 0 * 1 + 1 * 0 = 0; rw [e0]
  | ⟨1, _⟩ => show win0_6.index t 1 * 384 + 1 * k.val = k.val; rw [e1]; omega

theorem read7 (t : Fin cfg0.N) (k : Fin 384) (d : Fin 1024) :
    (iblk m c 7 t : Vec Ideal S384x1024 .bf16) (ix2 k d) = m ((c : Thread nD τ).loc main_arg7) (ix2 k d) := by
  obtain ⟨e0, e1⟩ := index7 t
  unfold iblk
  rw [View.read_apply]
  show V m c main_arg7 _ = m (c.tc.loc main_arg7) _
  unfold V
  congr 1
  funext a
  apply Fin.ext
  match a with
  | ⟨0, _⟩ => show win0_7.index t 0 * 384 + 1 * k.val = k.val; rw [e0]; omega
  | ⟨1, _⟩ => show win0_7.index t 1 * 1024 + 1 * d.val = d.val; rw [e1]; omega

theorem read8 (t : Fin cfg0.N) (k : Fin 256) :
    (iblk m c 8 t : Vec Ideal S1x256 .f32) (ix2 (0 : Fin 1) k) = m ((c : Thread nD τ).loc main_arg8) (ix2 (0 : Fin 1) k) := by
  obtain ⟨e0, e1⟩ := index8 t
  unfold iblk
  rw [View.read_apply]
  show V m c main_arg8 _ = m (c.tc.loc main_arg8) _
  unfold V
  congr 1
  funext a
  apply Fin.ext
  match a with
  | ⟨0, _⟩ => show win0_8.index t 0 * 1 + 1 * 0 = 0; rw [e0]
  | ⟨1, _⟩ => show win0_8.index t 1 * 256 + 1 * k.val = k.val; rw [e1]; omega

theorem read9 (t : Fin cfg0.N) (k : Fin 128) :
    (iblk m c 9 t : Vec Ideal S1x128 .f32) (ix2 (0 : Fin 1) k) = m ((c : Thread nD τ).loc main_arg9) (ix2 (0 : Fin 1) k) := by
  obtain ⟨e0, e1⟩ := index9 t
  unfold iblk
  rw [View.read_apply]
  show V m c main_arg9 _ = m (c.tc.loc main_arg9) _
  unfold V
  congr 1
  funext a
  apply Fin.ext
  match a with
  | ⟨0, _⟩ => show win0_9.index t 0 * 1 + 1 * 0 = 0; rw [e0]
  | ⟨1, _⟩ => show win0_9.index t 1 * 128 + 1 * k.val = k.val; rw [e1]; omega

theorem read10 (t : Fin cfg0.N) (k : Fin 128) :
    (iblk m c 10 t : Vec Ideal S1x128 .f32) (ix2 (0 : Fin 1) k) = m ((c : Thread nD τ).loc main_arg10) (ix2 (0 : Fin 1) k) := by
  obtain ⟨e0, e1⟩ := index10 t
  unfold iblk
  rw [View.read_apply]
  show V m c main_arg10 _ = m (c.tc.loc main_arg10) _
  unfold V
  congr 1
  funext a
  apply Fin.ext
  match a with
  | ⟨0, _⟩ => show win0_10.index t 0 * 1 + 1 * 0 = 0; rw [e0]
  | ⟨1, _⟩ => show win0_10.index t 1 * 128 + 1 * k.val = k.val; rw [e1]; omega

theorem read11 (t : Fin cfg0.N) (k : Fin 128) :
    (iblk m c 11 t : Vec Ideal S1x128 .f32) (ix2 (0 : Fin 1) k) = m ((c : Thread nD τ).loc main_arg11) (ix2 (0 : Fin 1) k) := by
  obtain ⟨e0, e1⟩ := index11 t
  unfold iblk
  rw [View.read_apply]
  show V m c main_arg11 _ = m (c.tc.loc main_arg11) _
  unfold V
  congr 1
  funext a
  apply Fin.ext
  match a with
  | ⟨0, _⟩ => show win0_11.index t 0 * 1 + 1 * 0 = 0; rw [e0]
  | ⟨1, _⟩ => show win0_11.index t 1 * 128 + 1 * k.val = k.val; rw [e1]; omega

theorem read12 (t : Fin cfg0.N) (k : Fin 128) :
    (iblk m c 12 t : Vec Ideal S1x128 .f32) (ix2 (0 : Fin 1) k) = m ((c : Thread nD τ).loc main_arg12) (ix2 (0 : Fin 1) k) := by
  obtain ⟨e0, e1⟩ := index12 t
  unfold iblk
  rw [View.read_apply]
  show V m c main_arg12 _ = m (c.tc.loc main_arg12) _
  unfold V
  congr 1
  funext a
  apply Fin.ext
  match a with
  | ⟨0, _⟩ => show win0_12.index t 0 * 1 + 1 * 0 = 0; rw [e0]
  | ⟨1, _⟩ => show win0_12.index t 1 * 128 + 1 * k.val = k.val; rw [e1]; omega

theorem read13 (t : Fin cfg0.N) (r : Fin 256) (k : Fin 128) :
    (iblk m c 13 t : Vec Ideal S256x128 .f32) (ix2 r k) = m ((c : Thread nD τ).loc main_arg13) (ix2 (row t r) k) := by
  obtain ⟨e0, e1⟩ := index13 t
  unfold iblk
  rw [View.read_apply]
  show V m c main_arg13 _ = m (c.tc.loc main_arg13) _
  unfold V
  congr 1
  funext a
  apply Fin.ext
  match a with
  | ⟨0, _⟩ => show win0_13.index t 0 * 256 + 1 * r.val = (t.val % 9) * 256 + r.val; rw [e0]; omega
  | ⟨1, _⟩ => show win0_13.index t 1 * 128 + 1 * k.val = k.val; rw [e1]; omega

theorem read14 (t : Fin cfg0.N) (r : Fin 256) (k : Fin 128) :
    (iblk m c 14 t : Vec Ideal S256x128 .f32) (ix2 r k) = m ((c : Thread nD τ).loc main_arg14) (ix2 (row t r) k) := by
  obtain ⟨e0, e1⟩ := index14 t
  unfold iblk
  rw [View.read_apply]
  show V m c main_arg14 _ = m (c.tc.loc main_arg14) _
  unfold V
  congr 1
  funext a
  apply Fin.ext
  match a with
  | ⟨0, _⟩ => show win0_14.index t 0 * 256 + 1 * r.val = (t.val % 9) * 256 + r.val; rw [e0]; omega
  | ⟨1, _⟩ => show win0_14.index t 1 * 128 + 1 * k.val = k.val; rw [e1]; omega

/-- A row of a point's block, projected, is a row of the array, projected. -/
theorem projected_eq (t : Fin cfg0.N) (r : Fin 256) :
    Block.projected (iblk m c 0 t : Vec Ideal S1x256x1024 .f32) (iblk m c 1 t : Vec Ideal S1x1x6x1024 .f32) (iblk m c 2 t : Vec Ideal S1x1024 .f32) (iblk m c 3 t : Vec Ideal S1024x2304 .bf16) r
      = rowAt (m ((c : Thread nD τ).loc main_arg0)) (m ((c : Thread nD τ).loc main_arg1)) (m ((c : Thread nD τ).loc main_arg2)) (m ((c : Thread nD τ).loc main_arg3)) (batch t) (row t r) := by
  unfold Block.projected rowAt
  exact congrArg₂ project
    (congr (congr (congrArg₂ modulated (funext fun k => read0 m c t r k) (funext fun k => read2 m c t k)) (funext fun k => read1 m c t r 1 k))
      (funext fun k => read1 m c t r 0 k))
    (funext fun k => funext fun d => read3 m c t k d)

/-- Equal arguments, equal values. -/
theorem congr_six {A B C D E G Z : Type} (f : A → B → C → D → E → G → Z) {a a' : A} {b b' : B} {d d' : C} {e e' : D} {g g' : E} {h h' : G}
    (ha : a = a') (hb : b = b') (hd : d = d') (he : e = e') (hg : g = g') (hh : h = h') : f a b d e g h = f a' b' d' e' g' h' := by
  subst ha; subst hb; subst hd; subst he; subst hg; subst hh; rfl

/-- The queries, over the whole array. From the launched memory. -/
def result15 : S8x4x2304x256.Idx → EReal :=
  allQueries (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg13)) (m ((c : Thread nD τ).loc main_arg14))

theorem emb15 (t : Fin cfg0.N) (j : S1x4x256x256.Idx) : ((cfg0.win 15).blk t).view.emb j = ix4 (batch t) (j 1) (row t (j 2)) (j 3) := by
  obtain ⟨e0, e1, e2, e3⟩ := index15 t
  have h0 : (j 0).val < 1 := (j 0).isLt
  funext a
  apply Fin.ext
  match a with
  | ⟨0, _⟩ => show win0_15.index t 0 * 1 + 1 * (j 0).val = t.val / 9; rw [e0]; omega
  | ⟨1, _⟩ => show win0_15.index t 1 * 4 + 1 * (j 1).val = (j 1).val; rw [e1]; omega
  | ⟨2, _⟩ => show win0_15.index t 2 * 256 + 1 * (j 2).val = (t.val % 9) * 256 + (j 2).val; rw [e2]; omega
  | ⟨3, _⟩ => show win0_15.index t 3 * 256 + 1 * (j 3).val = (j 3).val; rw [e3]; omega

theorem flushed15_eq (t : Fin cfg0.N) : (dats m 0 c).flushed 15 t = ((cfg0.win 15).blk t).view.read (Elt Ideal) (result15 m c) := by
  rw [Value.flushed15 m c t]
  funext j
  rw [View.read_apply]
  refine (Block.out15 _ _ _ _ _ _ _ _ _ _ _ _ _ _ _ j).trans ?_
  refine Eq.trans ?_ (congrArg (result15 m c) (emb15 t j)).symm
  exact congr_six (fun P u W g cs sn => queryAt (asked P u W) g cs sn (j 1) (j 3)) (projected_eq m c t (j 2)) (funext fun k => read6 m c t k) (funext fun k => funext fun d => read7 m c t k d) (funext fun k => read8 m c t k) (funext fun k => read13 m c t (j 2) k) (funext fun k => read14 m c t (j 2) k)

theorem cover15 (i : S8x4x2304x256.Idx) : ∃ t : Fin cfg0.N, (cfg0.win 15).flush t = true ∧ i ∈ ((cfg0.win 15).blk t).view.set := by
  have h0 : (i 0 : Nat) < 8 := (i 0).isLt
  have h1 : (i 1 : Nat) < 4 := (i 1).isLt
  have h2 : (i 2 : Nat) < 2304 := (i 2).isLt
  have h3 : (i 3 : Nat) < 256 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index15 t
  refine ⟨t, flush0_15 _, ?_⟩
  show i ∈ ((View.whole main_v0_0).slice (win0_15.rect t)).set
  rw [View.set_slice_whole, Rect.mem_set_unit]
  intro a
  match a with
  | ⟨0, _⟩ =>
    show win0_15.index t 0 * 1 ≤ (i 0 : Nat) ∧ (i 0 : Nat) < win0_15.index t 0 * 1 + 1
    rw [e0]; omega
  | ⟨1, _⟩ =>
    show win0_15.index t 1 * 4 ≤ (i 1 : Nat) ∧ (i 1 : Nat) < win0_15.index t 1 * 4 + 4
    rw [e1]; omega
  | ⟨2, _⟩ =>
    show win0_15.index t 2 * 256 ≤ (i 2 : Nat) ∧ (i 2 : Nat) < win0_15.index t 2 * 256 + 256
    rw [e2]; omega
  | ⟨3, _⟩ =>
    show win0_15.index t 3 * 256 ≤ (i 3 : Nat) ∧ (i 3 : Nat) < win0_15.index t 3 * 256 + 256
    rw [e3]; omega

theorem final15 : (dats m 0 c).arrAt 15 cfg0.N = result15 m c :=
  (dats m 0 c).arrAt_eq_of_cover 15 (result15 m c) (fun t _ => flushed15_eq m c t) cover15

/-- The keys. From the launched memory. -/
def result16 : S8x4x2304x256.Idx → EReal :=
  allKeys (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg13)) (m ((c : Thread nD τ).loc main_arg14))

theorem emb16 (t : Fin cfg0.N) (j : S1x4x256x256.Idx) : ((cfg0.win 16).blk t).view.emb j = ix4 (batch t) (j 1) (row t (j 2)) (j 3) := by
  obtain ⟨e0, e1, e2, e3⟩ := index16 t
  have h0 : (j 0).val < 1 := (j 0).isLt
  funext a
  apply Fin.ext
  match a with
  | ⟨0, _⟩ => show win0_16.index t 0 * 1 + 1 * (j 0).val = t.val / 9; rw [e0]; omega
  | ⟨1, _⟩ => show win0_16.index t 1 * 4 + 1 * (j 1).val = (j 1).val; rw [e1]; omega
  | ⟨2, _⟩ => show win0_16.index t 2 * 256 + 1 * (j 2).val = (t.val % 9) * 256 + (j 2).val; rw [e2]; omega
  | ⟨3, _⟩ => show win0_16.index t 3 * 256 + 1 * (j 3).val = (j 3).val; rw [e3]; omega

theorem flushed16_eq (t : Fin cfg0.N) : (dats m 0 c).flushed 16 t = ((cfg0.win 16).blk t).view.read (Elt Ideal) (result16 m c) := by
  rw [Value.flushed16 m c t]
  funext j
  rw [View.read_apply]
  refine (Block.out16 _ _ _ _ _ _ _ _ _ _ _ _ _ _ _ j).trans ?_
  refine Eq.trans ?_ (congrArg (result16 m c) (emb16 t j)).symm
  exact (congr_six (fun P u W g cs sn => keyAt (widened P u W) (part 128 256 (by omega) P) g _ cs sn (j 1) (j 3)) (projected_eq m c t (j 2)) (funext fun k => read4 m c t k) (funext fun k => funext fun d => read5 m c t k d) (funext fun k => read9 m c t k) (funext fun k => read13 m c t (j 2) k) (funext fun k => read14 m c t (j 2) k)).trans
    (congrArg (fun g => keyAt _ _ _ g _ _ (j 1) (j 3)) (funext fun k => read10 m c t k))

theorem cover16 (i : S8x4x2304x256.Idx) : ∃ t : Fin cfg0.N, (cfg0.win 16).flush t = true ∧ i ∈ ((cfg0.win 16).blk t).view.set := by
  have h0 : (i 0 : Nat) < 8 := (i 0).isLt
  have h1 : (i 1 : Nat) < 4 := (i 1).isLt
  have h2 : (i 2 : Nat) < 2304 := (i 2).isLt
  have h3 : (i 3 : Nat) < 256 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index16 t
  refine ⟨t, flush0_16 _, ?_⟩
  show i ∈ ((View.whole main_v0_1).slice (win0_16.rect t)).set
  rw [View.set_slice_whole, Rect.mem_set_unit]
  intro a
  match a with
  | ⟨0, _⟩ =>
    show win0_16.index t 0 * 1 ≤ (i 0 : Nat) ∧ (i 0 : Nat) < win0_16.index t 0 * 1 + 1
    rw [e0]; omega
  | ⟨1, _⟩ =>
    show win0_16.index t 1 * 4 ≤ (i 1 : Nat) ∧ (i 1 : Nat) < win0_16.index t 1 * 4 + 4
    rw [e1]; omega
  | ⟨2, _⟩ =>
    show win0_16.index t 2 * 256 ≤ (i 2 : Nat) ∧ (i 2 : Nat) < win0_16.index t 2 * 256 + 256
    rw [e2]; omega
  | ⟨3, _⟩ =>
    show win0_16.index t 3 * 256 ≤ (i 3 : Nat) ∧ (i 3 : Nat) < win0_16.index t 3 * 256 + 256
    rw [e3]; omega

theorem final16 : (dats m 0 c).arrAt 16 cfg0.N = result16 m c :=
  (dats m 0 c).arrAt_eq_of_cover 16 (result16 m c) (fun t _ => flushed16_eq m c t) cover16

/-- The values. From the launched memory. -/
def result17 : S8x4x2304x128.Idx → EReal :=
  allValues (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem emb17 (t : Fin cfg0.N) (j : S1x4x256x128.Idx) : ((cfg0.win 17).blk t).view.emb j = ix4 (batch t) (j 1) (row t (j 2)) (j 3) := by
  obtain ⟨e0, e1, e2, e3⟩ := index17 t
  have h0 : (j 0).val < 1 := (j 0).isLt
  funext a
  apply Fin.ext
  match a with
  | ⟨0, _⟩ => show win0_17.index t 0 * 1 + 1 * (j 0).val = t.val / 9; rw [e0]; omega
  | ⟨1, _⟩ => show win0_17.index t 1 * 4 + 1 * (j 1).val = (j 1).val; rw [e1]; omega
  | ⟨2, _⟩ => show win0_17.index t 2 * 256 + 1 * (j 2).val = (t.val % 9) * 256 + (j 2).val; rw [e2]; omega
  | ⟨3, _⟩ => show win0_17.index t 3 * 128 + 1 * (j 3).val = (j 3).val; rw [e3]; omega

theorem flushed17_eq (t : Fin cfg0.N) : (dats m 0 c).flushed 17 t = ((cfg0.win 17).blk t).view.read (Elt Ideal) (result17 m c) := by
  rw [Value.flushed17 m c t]
  funext j
  rw [View.read_apply]
  refine (Block.out17 _ _ _ _ _ _ _ _ _ _ _ _ _ _ _ j).trans ?_
  refine Eq.trans ?_ (congrArg (result17 m c) (emb17 t j)).symm
  exact congr_six (fun P u W (_ _ _ : Unit) => valueAt (widened P u W) (j 1) (j 3)) (projected_eq m c t (j 2)) (funext fun k => read4 m c t k) (funext fun k => funext fun d => read5 m c t k d) (rfl : () = ()) (rfl : () = ()) (rfl : () = ())

theorem cover17 (i : S8x4x2304x128.Idx) : ∃ t : Fin cfg0.N, (cfg0.win 17).flush t = true ∧ i ∈ ((cfg0.win 17).blk t).view.set := by
  have h0 : (i 0 : Nat) < 8 := (i 0).isLt
  have h1 : (i 1 : Nat) < 4 := (i 1).isLt
  have h2 : (i 2 : Nat) < 2304 := (i 2).isLt
  have h3 : (i 3 : Nat) < 128 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index17 t
  refine ⟨t, flush0_17 _, ?_⟩
  show i ∈ ((View.whole main_v0_2).slice (win0_17.rect t)).set
  rw [View.set_slice_whole, Rect.mem_set_unit]
  intro a
  match a with
  | ⟨0, _⟩ =>
    show win0_17.index t 0 * 1 ≤ (i 0 : Nat) ∧ (i 0 : Nat) < win0_17.index t 0 * 1 + 1
    rw [e0]; omega
  | ⟨1, _⟩ =>
    show win0_17.index t 1 * 4 ≤ (i 1 : Nat) ∧ (i 1 : Nat) < win0_17.index t 1 * 4 + 4
    rw [e1]; omega
  | ⟨2, _⟩ =>
    show win0_17.index t 2 * 256 ≤ (i 2 : Nat) ∧ (i 2 : Nat) < win0_17.index t 2 * 256 + 256
    rw [e2]; omega
  | ⟨3, _⟩ =>
    show win0_17.index t 3 * 128 ≤ (i 3 : Nat) ∧ (i 3 : Nat) < win0_17.index t 3 * 128 + 128
    rw [e3]; omega

theorem final17 : (dats m 0 c).arrAt 17 cfg0.N = result17 m c :=
  (dats m 0 c).arrAt_eq_of_cover 17 (result17 m c) (fun t _ => flushed17_eq m c t) cover17

/-- The near attention's queries. From the launched memory. -/
def result18 : S8x4x2304x128.Idx → EReal :=
  allNearQueries (m ((c : Thread nD τ).loc main_arg0)) (m ((c : Thread nD τ).loc main_arg1)) (m ((c : Thread nD τ).loc main_arg2)) (m ((c : Thread nD τ).loc main_arg3)) (m ((c : Thread nD τ).loc main_arg11)) (m ((c : Thread nD τ).loc main_arg13)) (m ((c : Thread nD τ).loc main_arg14))

theorem emb18 (t : Fin cfg0.N) (j : S1x4x256x128.Idx) : ((cfg0.win 18).blk t).view.emb j = ix4 (batch t) (j 1) (row t (j 2)) (j 3) := by
  obtain ⟨e0, e1, e2, e3⟩ := index18 t
  have h0 : (j 0).val < 1 := (j 0).isLt
  funext a
  apply Fin.ext
  match a with
  | ⟨0, _⟩ => show win0_18.index t 0 * 1 + 1 * (j 0).val = t.val / 9; rw [e0]; omega
  | ⟨1, _⟩ => show win0_18.index t 1 * 4 + 1 * (j 1).val = (j 1).val; rw [e1]; omega
  | ⟨2, _⟩ => show win0_18.index t 2 * 256 + 1 * (j 2).val = (t.val % 9) * 256 + (j 2).val; rw [e2]; omega
  | ⟨3, _⟩ => show win0_18.index t 3 * 128 + 1 * (j 3).val = (j 3).val; rw [e3]; omega

theorem flushed18_eq (t : Fin cfg0.N) : (dats m 0 c).flushed 18 t = ((cfg0.win 18).blk t).view.read (Elt Ideal) (result18 m c) := by
  rw [Value.flushed18 m c t]
  funext j
  rw [View.read_apply]
  refine (Block.out18 _ _ _ _ _ _ _ _ _ _ _ _ _ _ _ j).trans ?_
  refine Eq.trans ?_ (congrArg (result18 m c) (emb18 t j)).symm
  exact congr_six (fun P g cs sn (_ _ : Unit) => nearQuery P g cs sn (j 1) (j 3)) (projected_eq m c t (j 2)) (funext fun k => read11 m c t k) (funext fun k => read13 m c t (j 2) k) (funext fun k => read14 m c t (j 2) k) (rfl : () = ()) (rfl : () = ())

theorem cover18 (i : S8x4x2304x128.Idx) : ∃ t : Fin cfg0.N, (cfg0.win 18).flush t = true ∧ i ∈ ((cfg0.win 18).blk t).view.set := by
  have h0 : (i 0 : Nat) < 8 := (i 0).isLt
  have h1 : (i 1 : Nat) < 4 := (i 1).isLt
  have h2 : (i 2 : Nat) < 2304 := (i 2).isLt
  have h3 : (i 3 : Nat) < 128 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index18 t
  refine ⟨t, flush0_18 _, ?_⟩
  show i ∈ ((View.whole main_v0_3).slice (win0_18.rect t)).set
  rw [View.set_slice_whole, Rect.mem_set_unit]
  intro a
  match a with
  | ⟨0, _⟩ =>
    show win0_18.index t 0 * 1 ≤ (i 0 : Nat) ∧ (i 0 : Nat) < win0_18.index t 0 * 1 + 1
    rw [e0]; omega
  | ⟨1, _⟩ =>
    show win0_18.index t 1 * 4 ≤ (i 1 : Nat) ∧ (i 1 : Nat) < win0_18.index t 1 * 4 + 4
    rw [e1]; omega
  | ⟨2, _⟩ =>
    show win0_18.index t 2 * 256 ≤ (i 2 : Nat) ∧ (i 2 : Nat) < win0_18.index t 2 * 256 + 256
    rw [e2]; omega
  | ⟨3, _⟩ =>
    show win0_18.index t 3 * 128 ≤ (i 3 : Nat) ∧ (i 3 : Nat) < win0_18.index t 3 * 128 + 128
    rw [e3]; omega

theorem final18 : (dats m 0 c).arrAt 18 cfg0.N = result18 m c :=
  (dats m 0 c).arrAt_eq_of_cover 18 (result18 m c) (fun t _ => flushed18_eq m c t) cover18

/-- The near attention's keys. From the launched memory. -/
def result19 : S8x2x2304x128.Idx → EReal :=
  allNearKeys (m ((c : Thread nD τ).loc main_arg0)) (m ((c : Thread nD τ).loc main_arg1)) (m ((c : Thread nD τ).loc main_arg2)) (m ((c : Thread nD τ).loc main_arg3)) (m ((c : Thread nD τ).loc main_arg12)) (m ((c : Thread nD τ).loc main_arg13)) (m ((c : Thread nD τ).loc main_arg14))

theorem emb19 (t : Fin cfg0.N) (j : S1x2x256x128.Idx) : ((cfg0.win 19).blk t).view.emb j = ix4 (batch t) (j 1) (row t (j 2)) (j 3) := by
  obtain ⟨e0, e1, e2, e3⟩ := index19 t
  have h0 : (j 0).val < 1 := (j 0).isLt
  funext a
  apply Fin.ext
  match a with
  | ⟨0, _⟩ => show win0_19.index t 0 * 1 + 1 * (j 0).val = t.val / 9; rw [e0]; omega
  | ⟨1, _⟩ => show win0_19.index t 1 * 2 + 1 * (j 1).val = (j 1).val; rw [e1]; omega
  | ⟨2, _⟩ => show win0_19.index t 2 * 256 + 1 * (j 2).val = (t.val % 9) * 256 + (j 2).val; rw [e2]; omega
  | ⟨3, _⟩ => show win0_19.index t 3 * 128 + 1 * (j 3).val = (j 3).val; rw [e3]; omega

theorem flushed19_eq (t : Fin cfg0.N) : (dats m 0 c).flushed 19 t = ((cfg0.win 19).blk t).view.read (Elt Ideal) (result19 m c) := by
  rw [Value.flushed19 m c t]
  funext j
  rw [View.read_apply]
  refine (Block.out19 _ _ _ _ _ _ _ _ _ _ _ _ _ _ _ j).trans ?_
  refine Eq.trans ?_ (congrArg (result19 m c) (emb19 t j)).symm
  exact congr_six (fun P g cs sn (_ _ : Unit) => nearKey P g cs sn (j 1) (j 3)) (projected_eq m c t (j 2)) (funext fun k => read12 m c t k) (funext fun k => read13 m c t (j 2) k) (funext fun k => read14 m c t (j 2) k) (rfl : () = ()) (rfl : () = ())

theorem cover19 (i : S8x2x2304x128.Idx) : ∃ t : Fin cfg0.N, (cfg0.win 19).flush t = true ∧ i ∈ ((cfg0.win 19).blk t).view.set := by
  have h0 : (i 0 : Nat) < 8 := (i 0).isLt
  have h1 : (i 1 : Nat) < 2 := (i 1).isLt
  have h2 : (i 2 : Nat) < 2304 := (i 2).isLt
  have h3 : (i 3 : Nat) < 128 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index19 t
  refine ⟨t, flush0_19 _, ?_⟩
  show i ∈ ((View.whole main_v0_4).slice (win0_19.rect t)).set
  rw [View.set_slice_whole, Rect.mem_set_unit]
  intro a
  match a with
  | ⟨0, _⟩ =>
    show win0_19.index t 0 * 1 ≤ (i 0 : Nat) ∧ (i 0 : Nat) < win0_19.index t 0 * 1 + 1
    rw [e0]; omega
  | ⟨1, _⟩ =>
    show win0_19.index t 1 * 2 ≤ (i 1 : Nat) ∧ (i 1 : Nat) < win0_19.index t 1 * 2 + 2
    rw [e1]; omega
  | ⟨2, _⟩ =>
    show win0_19.index t 2 * 256 ≤ (i 2 : Nat) ∧ (i 2 : Nat) < win0_19.index t 2 * 256 + 256
    rw [e2]; omega
  | ⟨3, _⟩ =>
    show win0_19.index t 3 * 128 ≤ (i 3 : Nat) ∧ (i 3 : Nat) < win0_19.index t 3 * 128 + 128
    rw [e3]; omega

theorem final19 : (dats m 0 c).arrAt 19 cfg0.N = result19 m c :=
  (dats m 0 c).arrAt_eq_of_cover 19 (result19 m c) (fun t _ => flushed19_eq m c t) cover19

/-- The near attention's values. From the launched memory. -/
def result20 : S8x2x2304x128.Idx → EReal :=
  allNearValues (m ((c : Thread nD τ).loc main_arg0)) (m ((c : Thread nD τ).loc main_arg1)) (m ((c : Thread nD τ).loc main_arg2)) (m ((c : Thread nD τ).loc main_arg3))

theorem emb20 (t : Fin cfg0.N) (j : S1x2x256x128.Idx) : ((cfg0.win 20).blk t).view.emb j = ix4 (batch t) (j 1) (row t (j 2)) (j 3) := by
  obtain ⟨e0, e1, e2, e3⟩ := index20 t
  have h0 : (j 0).val < 1 := (j 0).isLt
  funext a
  apply Fin.ext
  match a with
  | ⟨0, _⟩ => show win0_20.index t 0 * 1 + 1 * (j 0).val = t.val / 9; rw [e0]; omega
  | ⟨1, _⟩ => show win0_20.index t 1 * 2 + 1 * (j 1).val = (j 1).val; rw [e1]; omega
  | ⟨2, _⟩ => show win0_20.index t 2 * 256 + 1 * (j 2).val = (t.val % 9) * 256 + (j 2).val; rw [e2]; omega
  | ⟨3, _⟩ => show win0_20.index t 3 * 128 + 1 * (j 3).val = (j 3).val; rw [e3]; omega

theorem flushed20_eq (t : Fin cfg0.N) : (dats m 0 c).flushed 20 t = ((cfg0.win 20).blk t).view.read (Elt Ideal) (result20 m c) := by
  rw [Value.flushed20 m c t]
  funext j
  rw [View.read_apply]
  refine (Block.out20 _ _ _ _ _ _ _ _ _ _ _ _ _ _ _ j).trans ?_
  refine Eq.trans ?_ (congrArg (result20 m c) (emb20 t j)).symm
  exact congrArg (fun P => nearValue P (j 1) (j 3)) (projected_eq m c t (j 2))

theorem cover20 (i : S8x2x2304x128.Idx) : ∃ t : Fin cfg0.N, (cfg0.win 20).flush t = true ∧ i ∈ ((cfg0.win 20).blk t).view.set := by
  have h0 : (i 0 : Nat) < 8 := (i 0).isLt
  have h1 : (i 1 : Nat) < 2 := (i 1).isLt
  have h2 : (i 2 : Nat) < 2304 := (i 2).isLt
  have h3 : (i 3 : Nat) < 128 := (i 3).isLt
  have hlt : (i 0 : Nat) * 9 + (i 2 : Nat) / 256 < 72 := by omega
  obtain ⟨t, ht⟩ : ∃ t : Fin cfg0.N, t.val = (i 0 : Nat) * 9 + (i 2 : Nat) / 256 := ⟨⟨_, hlt⟩, rfl⟩
  obtain ⟨e0, e1, e2, e3⟩ := index20 t
  refine ⟨t, flush0_20 _, ?_⟩
  show i ∈ ((View.whole main_v0_5).slice (win0_20.rect t)).set
  rw [View.set_slice_whole, Rect.mem_set_unit]
  intro a
  match a with
  | ⟨0, _⟩ =>
    show win0_20.index t 0 * 1 ≤ (i 0 : Nat) ∧ (i 0 : Nat) < win0_20.index t 0 * 1 + 1
    rw [e0]; omega
  | ⟨1, _⟩ =>
    show win0_20.index t 1 * 2 ≤ (i 1 : Nat) ∧ (i 1 : Nat) < win0_20.index t 1 * 2 + 2
    rw [e1]; omega
  | ⟨2, _⟩ =>
    show win0_20.index t 2 * 256 ≤ (i 2 : Nat) ∧ (i 2 : Nat) < win0_20.index t 2 * 256 + 256
    rw [e2]; omega
  | ⟨3, _⟩ =>
    show win0_20.index t 3 * 128 ≤ (i 3 : Nat) ∧ (i 3 : Nat) < win0_20.index t 3 * 128 + 128
    rw [e3]; omega

theorem final20 : (dats m 0 c).arrAt 20 cfg0.N = result20 m c :=
  (dats m 0 c).arrAt_eq_of_cover 20 (result20 m c) (fun t _ => flushed20_eq m c t) cover20

/-- The gated rows. From the launched memory. -/
def result21 : S8x2304x256.Idx → EReal :=
  allGates (m ((c : Thread nD τ).loc main_arg0)) (m ((c : Thread nD τ).loc main_arg1)) (m ((c : Thread nD τ).loc main_arg2)) (m ((c : Thread nD τ).loc main_arg3))

theorem emb21 (t : Fin cfg0.N) (j : S1x256x256.Idx) : ((cfg0.win 21).blk t).view.emb j = ix3 (batch t) (row t (j 1)) (j 2) := by
  obtain ⟨e0, e1, e2⟩ := index21 t
  have h0 : (j 0).val < 1 := (j 0).isLt
  funext a
  apply Fin.ext
  match a with
  | ⟨0, _⟩ => show win0_21.index t 0 * 1 + 1 * (j 0).val = t.val / 9; rw [e0]; omega
  | ⟨1, _⟩ => show win0_21.index t 1 * 256 + 1 * (j 1).val = (t.val % 9) * 256 + (j 1).val; rw [e1]; omega
  | ⟨2, _⟩ => show win0_21.index t 2 * 256 + 1 * (j 2).val = (j 2).val; rw [e2]; omega

theorem flushed21_eq (t : Fin cfg0.N) : (dats m 0 c).flushed 21 t = ((cfg0.win 21).blk t).view.read (Elt Ideal) (result21 m c) := by
  rw [Value.flushed21 m c t]
  funext j
  rw [View.read_apply]
  refine (Block.out21 _ _ _ _ _ _ _ _ _ _ _ _ _ _ _ j).trans ?_
  refine Eq.trans ?_ (congrArg (result21 m c) (emb21 t j)).symm
  exact congrArg (fun P => gated P (j 2)) (projected_eq m c t (j 1))

theorem cover21 (i : S8x2304x256.Idx) : ∃ t : Fin cfg0.N, (cfg0.win 21).flush t = true ∧ i ∈ ((cfg0.win 21).blk t).view.set := by
  have h0 : (i 0 : Nat) < 8 := (i 0).isLt
  have h1 : (i 1 : Nat) < 2304 := (i 1).isLt
  have h2 : (i 2 : Nat) < 256 := (i 2).isLt
  have hlt : (i 0 : Nat) * 9 + (i 1 : Nat) / 256 < 72 := by omega
  obtain ⟨t, ht⟩ : ∃ t : Fin cfg0.N, t.val = (i 0 : Nat) * 9 + (i 1 : Nat) / 256 := ⟨⟨_, hlt⟩, rfl⟩
  obtain ⟨e0, e1, e2⟩ := index21 t
  refine ⟨t, flush0_21 _, ?_⟩
  show i ∈ ((View.whole main_v0_6).slice (win0_21.rect t)).set
  rw [View.set_slice_whole, Rect.mem_set_unit]
  intro a
  match a with
  | ⟨0, _⟩ =>
    show win0_21.index t 0 * 1 ≤ (i 0 : Nat) ∧ (i 0 : Nat) < win0_21.index t 0 * 1 + 1
    rw [e0]; omega
  | ⟨1, _⟩ =>
    show win0_21.index t 1 * 256 ≤ (i 1 : Nat) ∧ (i 1 : Nat) < win0_21.index t 1 * 256 + 256
    rw [e1]; omega
  | ⟨2, _⟩ =>
    show win0_21.index t 2 * 256 ≤ (i 2 : Nat) ∧ (i 2 : Nat) < win0_21.index t 2 * 256 + 256
    rw [e2]; omega

theorem final21 : (dats m 0 c).arrAt 21 cfg0.N = result21 m c :=
  (dats m 0 c).arrAt_eq_of_cover 21 (result21 m c) (fun t _ => flushed21_eq m c t) cover21

end Cert.PrepIdeal.Array

end
-- ==== Proof.Prep.Join.lean ====
/-
  Arrays of heads joined lane after lane, read at an index.
-/
module

public import Idealize.ShloMosaic.Lib.Pipeline.Value
public import Idealize.ShloMosaic.Lib.ValueIdx
public import proofs.«01_k».proof.Proof.Prep.Spec

@[expose] public section

noncomputable section

namespace Cert.PrepRow

open Idealize.ShloMosaic Idealize.ShloMosaic.ValueIdx

/-- Two rows of lanes, one after the other. -/
def joined (x y : Fin 128 → EReal) (j : Fin 256) : EReal :=
  if hj : j.val < 128 then x ⟨j.val, hj⟩ else y ⟨j.val - 128, by omega⟩

section
variable {n p m : ℕ} (x y : (⟨4, ![8, 2304, n, p]⟩ : Shape).Idx → EReal)
  (hc : Shape.Concatenates [⟨4, ![8, 2304, n, p]⟩, ⟨4, ![8, 2304, n, p]⟩] ⟨4, ![8, 2304, n, m]⟩ 3) (b : Fin 8) (t : Fin 2304) (h : Fin n) (j : Fin m)

theorem join_left (hj : j.val < p) : concatenate ⟨4, ![8, 2304, n, m]⟩ 3 [⟨_, x⟩, ⟨_, y⟩] hc (ix4 b t h j) = x (ix4 b t h ⟨j.val, hj⟩) :=
  concatenate_pair_apply_left 3 x y hc _ rfl _ (fun a => match a with
    | ⟨0, _⟩ => rfl
    | ⟨1, _⟩ => rfl
    | ⟨2, _⟩ => rfl
    | ⟨3, _⟩ => rfl)

theorem join_right (hj : ¬ j.val < p) (hp : j.val - p < p) : concatenate ⟨4, ![8, 2304, n, m]⟩ 3 [⟨_, x⟩, ⟨_, y⟩] hc (ix4 b t h j) = y (ix4 b t h ⟨j.val - p, hp⟩) :=
  concatenate_pair_apply_right 3 x y hc _ rfl rfl _ (fun a ha => match a, ha with
    | ⟨0, _⟩, _ => rfl
    | ⟨1, _⟩, _ => rfl
    | ⟨2, _⟩, _ => rfl
    | ⟨3, _⟩, ha => absurd rfl ha) (by show j.val - p + p = j.val; omega)
end

/-- Two gains, one after the other. -/
theorem gain_left (x y : (⟨2, ![1, 128]⟩ : Shape).Idx → EReal) (hc : Shape.Concatenates [⟨2, ![1, 128]⟩, ⟨2, ![1, 128]⟩] ⟨2, ![1, 256]⟩ 1) (j : Fin 256)
    (hj : j.val < 128) : concatenate ⟨2, ![1, 256]⟩ 1 [⟨_, x⟩, ⟨_, y⟩] hc (ix2 (0 : Fin 1) j) = x (ix2 (0 : Fin 1) ⟨j.val, hj⟩) :=
  concatenate_pair_apply_left 1 x y hc _ rfl _ (fun a => match a with
    | ⟨0, _⟩ => rfl
    | ⟨1, _⟩ => rfl)

theorem gain_right (x y : (⟨2, ![1, 128]⟩ : Shape).Idx → EReal) (hc : Shape.Concatenates [⟨2, ![1, 128]⟩, ⟨2, ![1, 128]⟩] ⟨2, ![1, 256]⟩ 1) (j : Fin 256)
    (hj : ¬ j.val < 128) (hp : j.val - 128 < 128) :
    concatenate ⟨2, ![1, 256]⟩ 1 [⟨_, x⟩, ⟨_, y⟩] hc (ix2 (0 : Fin 1) j) = y (ix2 (0 : Fin 1) ⟨j.val - 128, hp⟩) :=
  concatenate_pair_apply_right 1 x y hc _ rfl rfl _ (fun a ha => match a, ha with
    | ⟨0, _⟩, _ => rfl
    | ⟨1, _⟩, ha => absurd rfl ha) (by show j.val - 128 + 128 = j.val; omega)

end Cert.PrepRow

end
-- ==== Proof.Prep.RefRows.lean ====
/-
  The reference's rows read at an index: normed, modulated and projected, and the two rows widened from them.
-/
module

public import proofs.«01_k».proof.Proof.Prep.Target
public import proofs.«01_k».proof.Proof.Gen.PrepRefIdeal.Run
public import proofs.«01_k».proof.Proof.Gen.PrepRefIdeal.Read
public import proofs.«01_k».proof.Proof.Prep.Join

@[expose] public section

set_option maxRecDepth 16384

noncomputable section

namespace Cert.PrepRefIdeal.Array

open Cert.PrepRefIdeal Cert.PrepRefIdeal.Gen Cert.PrepRefIdeal.Read Cert.PrepRow Idealize.ShloMosaic Idealize.ShloMosaic.TcCoe Idealize.ShloMosaic.ValueIdx

variable (x0 : (⟨S8x2304x1024, .f32⟩ : BufTy).Contents (Elt Ideal)) (x1 : (⟨S8x2x6x1024, .f32⟩ : BufTy).Contents (Elt Ideal)) (x2 : (⟨S1x1024, .f32⟩ : BufTy).Contents (Elt Ideal)) (x3 : (⟨S1024x2304, .bf16⟩ : BufTy).Contents (Elt Ideal)) (x4 : (⟨S1x256, .f32⟩ : BufTy).Contents (Elt Ideal)) (x5 : (⟨S256x1024, .bf16⟩ : BufTy).Contents (Elt Ideal)) (x6 : (⟨S1x384, .f32⟩ : BufTy).Contents (Elt Ideal)) (x7 : (⟨S384x1024, .bf16⟩ : BufTy).Contents (Elt Ideal)) (x8 : (⟨S1x256, .f32⟩ : BufTy).Contents (Elt Ideal)) (x9 : (⟨S1x128, .f32⟩ : BufTy).Contents (Elt Ideal)) (x10 : (⟨S1x128, .f32⟩ : BufTy).Contents (Elt Ideal)) (x11 : (⟨S1x128, .f32⟩ : BufTy).Contents (Elt Ideal)) (x12 : (⟨S1x128, .f32⟩ : BufTy).Contents (Elt Ideal)) (x13 : (⟨S2304x128, .f32⟩ : BufTy).Contents (Elt Ideal)) (x14 : (⟨S2304x128, .f32⟩ : BufTy).Contents (Elt Ideal))

/-- A row of a batch, projected. -/
abbrev proj (b : Fin 8) (t : Fin 2304) : Fin 2304 → EReal := rowAt x0 x1 x2 x3 b t

/-- A row of keys and values. -/
abbrev kvAt (b : Fin 8) (t : Fin 2304) : Fin 1024 → EReal :=
  widened (rowAt x0 x1 x2 x3 b t) (fun k => x4 (ix2 (0 : Fin 1) k)) (fun k c => x5 (ix2 k c))

/-- A row of queries. -/
abbrev qAt (b : Fin 8) (t : Fin 2304) : Fin 1024 → EReal :=
  asked (rowAt x0 x1 x2 x3 b t) (fun k => x6 (ix2 (0 : Fin 1) k)) (fun k c => x7 (ix2 k c))

theorem early : ∀ t : Fin 2304, IntOp.cmpi .slt (BitVec.ofNat 32 t.val) 256#32 = if t.val < 256 then 1#1 else 0#1 := by decide +kernel

theorem mask_eq (t : Fin 2304) : val_main_v3 (F := Ideal) (ix3 (0 : Fin 1) t (0 : Fin 1)) = if t.val < 256 then 1#1 else 0#1 := by
  rw [val_main_v3_apply, val_main_v2_apply, val_main_v0_apply, val_main_v1_apply, val_main_c_apply]
  exact early t

theorem shift_eq (b : Fin 8) (t : Fin 2304) (k : Fin 1024) : val_main_v8 (F := Ideal) x1 (ix3 b t k) = x1 (ix4 b (side t) (0 : Fin 6) k) := by
  have e0 : idx_main_call0_v0 (ix3 b t k) = ix3 (0 : Fin 1) t (0 : Fin 1) := funext fun a => by
    match a with
    | ⟨0, _⟩ => rfl
    | ⟨1, _⟩ => rfl
    | ⟨2, _⟩ => rfl

  have e1 : idx_main_v4 (idx_main_v5 (idx_main_call0_v1 (ix3 b t k))) = ix4 b (0 : Fin 2) (0 : Fin 6) k := funext fun a => by
    match a with
    | ⟨0, _⟩ => exact Fin.ext (by show ((b.val * 1 + 0) * 1024 + k.val) / 1024 = b.val; omega)
    | ⟨1, _⟩ => rfl
    | ⟨2, _⟩ => rfl
    | ⟨3, _⟩ => exact Fin.ext (by show ((b.val * 1 + 0) * 1024 + k.val) % 1024 = k.val; omega)

  have e2 : idx_main_v6 (idx_main_v7 (idx_main_call0_v2 (ix3 b t k))) = ix4 b (1 : Fin 2) (0 : Fin 6) k := funext fun a => by
    match a with
    | ⟨0, _⟩ => exact Fin.ext (by show ((b.val * 1 + 0) * 1024 + k.val) / 1024 = b.val; omega)
    | ⟨1, _⟩ => rfl
    | ⟨2, _⟩ => rfl
    | ⟨3, _⟩ => exact Fin.ext (by show ((b.val * 1 + 0) * 1024 + k.val) % 1024 = k.val; omega)

  rw [val_main_v8_apply, val_main_call0_v0_apply, e0, mask_eq, val_main_call0_v1_apply, val_main_v5_apply, val_main_v4_apply, e1,
    val_main_call0_v2_apply, val_main_v7_apply, val_main_v6_apply, e2]
  unfold side
  by_cases h : t.val < 256
  · rw [if_pos h, if_pos h]; rfl
  · rw [if_neg h, if_neg h]; rfl

theorem scale_eq (b : Fin 8) (t : Fin 2304) (k : Fin 1024) : val_main_v13 (F := Ideal) x1 (ix3 b t k) = x1 (ix4 b (side t) (1 : Fin 6) k) := by
  have e0 : idx_main_call1_v0 (ix3 b t k) = ix3 (0 : Fin 1) t (0 : Fin 1) := funext fun a => by
    match a with
    | ⟨0, _⟩ => rfl
    | ⟨1, _⟩ => rfl
    | ⟨2, _⟩ => rfl

  have e1 : idx_main_v9 (idx_main_v10 (idx_main_call1_v1 (ix3 b t k))) = ix4 b (0 : Fin 2) (1 : Fin 6) k := funext fun a => by
    match a with
    | ⟨0, _⟩ => exact Fin.ext (by show ((b.val * 1 + 0) * 1024 + k.val) / 1024 = b.val; omega)
    | ⟨1, _⟩ => rfl
    | ⟨2, _⟩ => rfl
    | ⟨3, _⟩ => exact Fin.ext (by show ((b.val * 1 + 0) * 1024 + k.val) % 1024 = k.val; omega)

  have e2 : idx_main_v11 (idx_main_v12 (idx_main_call1_v2 (ix3 b t k))) = ix4 b (1 : Fin 2) (1 : Fin 6) k := funext fun a => by
    match a with
    | ⟨0, _⟩ => exact Fin.ext (by show ((b.val * 1 + 0) * 1024 + k.val) / 1024 = b.val; omega)
    | ⟨1, _⟩ => rfl
    | ⟨2, _⟩ => rfl
    | ⟨3, _⟩ => exact Fin.ext (by show ((b.val * 1 + 0) * 1024 + k.val) % 1024 = k.val; omega)

  rw [val_main_v13_apply, val_main_call1_v0_apply, e0, mask_eq, val_main_call1_v1_apply, val_main_v10_apply, val_main_v9_apply, e1,
    val_main_call1_v2_apply, val_main_v12_apply, val_main_v11_apply, e2]
  unfold side
  by_cases h : t.val < 256
  · rw [if_pos h, if_pos h]; rfl
  · rw [if_neg h, if_neg h]; rfl

theorem row_sum (b : Fin 8) (t : Fin 2304) : val_main_v15 (F := Ideal) x0 (ix2 b t) = sumSq (fun k => x0 (ix3 b t k)) := by
  rw [val_main_v15_apply, val_main_cst_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v15 (ix2 b t) k = ix3 b t k := funext fun a => by
    match a with
    | ⟨0, _⟩ => rfl
    | ⟨1, _⟩ => rfl
    | ⟨2, _⟩ => rfl

  rw [e, val_main_v14_apply]
  rfl

theorem row_root (b : Fin 8) (t : Fin 2304) : val_main_v21 (F := Ideal) x0 (ix3 b t (0 : Fin 1)) = root (sumSq (fun k => x0 (ix3 b t k))) (Ideal.ofBits .f32 0x44800000#32) := by
  have e : idx_main_v16 (ix3 b t (0 : Fin 1)) = ix2 b t := funext fun a => by
    match a with
    | ⟨0, _⟩ => rfl
    | ⟨1, _⟩ => rfl

  rw [val_main_v21_apply, val_main_v20_apply, val_main_v18_apply, val_main_v16_apply, e, row_sum, val_main_v17_apply,
    val_main_cst_0_apply, val_main_v19_apply, val_main_cst_1_apply]
  rfl

theorem row_normed (b : Fin 8) (t : Fin 2304) (j : Fin 1024) :
    val_main_v26 (F := Ideal) x0 x2 (ix3 b t j) = normed (Ideal.ofBits .f32 0x44800000#32) (fun k => x0 (ix3 b t k)) (fun k => x2 (ix2 (0 : Fin 1) k)) j := by
  have e : idx_main_v22 (ix3 b t j) = ix3 b t (0 : Fin 1) := funext fun a => by
    match a with
    | ⟨0, _⟩ => rfl
    | ⟨1, _⟩ => rfl
    | ⟨2, _⟩ => rfl

  have e' : idx_main_v24 (idx_main_v25 (ix3 b t j)) = ix2 (0 : Fin 1) j := funext fun a => by
    match a with
    | ⟨0, _⟩ => rfl
    | ⟨1, _⟩ => rfl

  rw [val_main_v26_apply, val_main_v23_apply, val_main_v22_apply, e, row_root, val_main_v25_apply, val_main_v24_apply, e']
  rfl

theorem modulated_eq (b : Fin 8) (t : Fin 2304) (j : Fin 1024) :
    val_main_v30 (F := Ideal) x0 x1 x2 (ix3 b t j) = modulated (fun k => x0 (ix3 b t k)) (fun k => x2 (ix2 (0 : Fin 1) k)) (fun k => x1 (ix4 b (side t) (1 : Fin 6) k))
      (fun k => x1 (ix4 b (side t) (0 : Fin 6) k)) j := by
  rw [val_main_v30_apply, val_main_v29_apply, row_normed, val_main_v28_apply, val_main_v27_apply, val_main_cst_2_apply, scale_eq, shift_eq]
  have e1 : (FloatOps.ofBits (F := Ideal) .f32 0x3F800000#32 : EReal) = 1 := ofBits_one
  rw [e1]
  rfl

/-- The projected rows. -/
theorem proj_eq (b : Fin 8) (t : Fin 2304) (j : Fin 2304) : val_main_v32 (F := Ideal) x0 x1 x2 x3 (ix3 b t j) = proj x0 x1 x2 x3 b t j := by
  rw [val_main_v32_apply]
  unfold proj rowAt project
  refine Finset.sum_congr rfl fun k _ => ?_
  have e : lidx_main_v32 (ix3 b t j) k = ix3 b t k := funext fun a => by
    match a with
    | ⟨0, _⟩ => rfl
    | ⟨1, _⟩ => rfl
    | ⟨2, _⟩ => rfl

  have e' : ridx_main_v32 (ix3 b t j) k = ix2 k j := funext fun a => by
    match a with
    | ⟨0, _⟩ => rfl
    | ⟨1, _⟩ => rfl

  rw [e, e', modulated_eq, val_main_v31_apply]
  rfl

theorem part33_eq (b : Fin 8) (t : Fin 2304) (k : Fin 256) : val_main_v33 (F := Ideal) x0 x1 x2 x3 (ix3 b t k) = part 256 0 (by omega) (proj x0 x1 x2 x3 b t) k := by
  have e : idx_main_v33 (ix3 b t k) = ix3 b t (⟨0 + k.val, by omega⟩ : Fin 2304) := funext fun a => by
    match a with
    | ⟨0, _⟩ => rfl
    | ⟨1, _⟩ => rfl
    | ⟨2, _⟩ => exact Fin.ext (by show k.val = 0 + k.val; omega)

  rw [val_main_v33_apply, e, proj_eq]
  rfl

theorem part49_eq (b : Fin 8) (t : Fin 2304) (k : Fin 128) : val_main_v49 (F := Ideal) x0 x1 x2 x3 (ix3 b t k) = part 128 256 (by omega) (proj x0 x1 x2 x3 b t) k := by
  have e : idx_main_v49 (ix3 b t k) = ix3 b t (⟨256 + k.val, by omega⟩ : Fin 2304) := funext fun a => by
    match a with
    | ⟨0, _⟩ => rfl
    | ⟨1, _⟩ => rfl
    | ⟨2, _⟩ => exact Fin.ext (by show 256 + k.val = 256 + k.val; omega)

  rw [val_main_v49_apply, e, proj_eq]
  rfl

theorem part87_eq (b : Fin 8) (t : Fin 2304) (k : Fin 384) : val_main_v87 (F := Ideal) x0 x1 x2 x3 (ix3 b t k) = part 384 896 (by omega) (proj x0 x1 x2 x3 b t) k := by
  have e : idx_main_v87 (ix3 b t k) = ix3 b t (⟨896 + k.val, by omega⟩ : Fin 2304) := funext fun a => by
    match a with
    | ⟨0, _⟩ => rfl
    | ⟨1, _⟩ => rfl
    | ⟨2, _⟩ => exact Fin.ext (by show 896 + k.val = 896 + k.val; omega)

  rw [val_main_v87_apply, e, proj_eq]
  rfl

theorem part133_eq (b : Fin 8) (t : Fin 2304) (k : Fin 256) : val_main_v133 (F := Ideal) x0 x1 x2 x3 (ix3 b t k) = part 256 384 (by omega) (proj x0 x1 x2 x3 b t) k := by
  have e : idx_main_v133 (ix3 b t k) = ix3 b t (⟨384 + k.val, by omega⟩ : Fin 2304) := funext fun a => by
    match a with
    | ⟨0, _⟩ => rfl
    | ⟨1, _⟩ => rfl
    | ⟨2, _⟩ => exact Fin.ext (by show 384 + k.val = 384 + k.val; omega)

  rw [val_main_v133_apply, e, proj_eq]
  rfl

theorem part161_eq (b : Fin 8) (t : Fin 2304) (k : Fin 256) : val_main_v161 (F := Ideal) x0 x1 x2 x3 (ix3 b t k) = part 256 640 (by omega) (proj x0 x1 x2 x3 b t) k := by
  have e : idx_main_v161 (ix3 b t k) = ix3 b t (⟨640 + k.val, by omega⟩ : Fin 2304) := funext fun a => by
    match a with
    | ⟨0, _⟩ => rfl
    | ⟨1, _⟩ => rfl
    | ⟨2, _⟩ => exact Fin.ext (by show 640 + k.val = 640 + k.val; omega)

  rw [val_main_v161_apply, e, proj_eq]
  rfl

theorem part163_eq (b : Fin 8) (t : Fin 2304) (k : Fin 512) : val_main_v163 (F := Ideal) x0 x1 x2 x3 (ix3 b t k) = part 512 1280 (by omega) (proj x0 x1 x2 x3 b t) k := by
  have e : idx_main_v163 (ix3 b t k) = ix3 b t (⟨1280 + k.val, by omega⟩ : Fin 2304) := funext fun a => by
    match a with
    | ⟨0, _⟩ => rfl
    | ⟨1, _⟩ => rfl
    | ⟨2, _⟩ => exact Fin.ext (by show 1280 + k.val = 1280 + k.val; omega)

  rw [val_main_v163_apply, e, proj_eq]
  rfl

theorem part191_eq (b : Fin 8) (t : Fin 2304) (k : Fin 256) : val_main_v191 (F := Ideal) x0 x1 x2 x3 (ix3 b t k) = part 256 1792 (by omega) (proj x0 x1 x2 x3 b t) k := by
  have e : idx_main_v191 (ix3 b t k) = ix3 b t (⟨1792 + k.val, by omega⟩ : Fin 2304) := funext fun a => by
    match a with
    | ⟨0, _⟩ => rfl
    | ⟨1, _⟩ => rfl
    | ⟨2, _⟩ => exact Fin.ext (by show 1792 + k.val = 1792 + k.val; omega)

  rw [val_main_v191_apply, e, proj_eq]
  rfl

theorem part192_eq (b : Fin 8) (t : Fin 2304) (k : Fin 256) : val_main_v192 (F := Ideal) x0 x1 x2 x3 (ix3 b t k) = part 256 2048 (by omega) (proj x0 x1 x2 x3 b t) k := by
  have e : idx_main_v192 (ix3 b t k) = ix3 b t (⟨2048 + k.val, by omega⟩ : Fin 2304) := funext fun a => by
    match a with
    | ⟨0, _⟩ => rfl
    | ⟨1, _⟩ => rfl
    | ⟨2, _⟩ => exact Fin.ext (by show 2048 + k.val = 2048 + k.val; omega)

  rw [val_main_v192_apply, e, proj_eq]
  rfl

theorem ckv_sum (b : Fin 8) (t : Fin 2304) : val_main_v35 (F := Ideal) x0 x1 x2 x3 (ix2 b t) = sumSq (part 256 0 (by omega) (proj x0 x1 x2 x3 b t)) := by
  rw [val_main_v35_apply, val_main_cst_3_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v35 (ix2 b t) k = ix3 b t k := funext fun a => by
    match a with
    | ⟨0, _⟩ => rfl
    | ⟨1, _⟩ => rfl
    | ⟨2, _⟩ => rfl

  rw [e, val_main_v34_apply, part33_eq]
  rfl

theorem ckv_root (b : Fin 8) (t : Fin 2304) : val_main_v41 (F := Ideal) x0 x1 x2 x3 (ix3 b t (0 : Fin 1)) = root (sumSq (part 256 0 (by omega) (proj x0 x1 x2 x3 b t))) (Ideal.ofBits .f32 0x43800000#32) := by
  have e : idx_main_v36 (ix3 b t (0 : Fin 1)) = ix2 b t := funext fun a => by
    match a with
    | ⟨0, _⟩ => rfl
    | ⟨1, _⟩ => rfl

  rw [val_main_v41_apply, val_main_v40_apply, val_main_v38_apply, val_main_v36_apply, e, ckv_sum, val_main_v37_apply,
    val_main_cst_4_apply, val_main_v39_apply, val_main_cst_5_apply]
  rfl

theorem ckv_normed (b : Fin 8) (t : Fin 2304) (j : Fin 256) :
    val_main_v46 (F := Ideal) x0 x1 x2 x3 x4 (ix3 b t j) = normed (Ideal.ofBits .f32 0x43800000#32) (part 256 0 (by omega) (proj x0 x1 x2 x3 b t)) (fun k => x4 (ix2 (0 : Fin 1) k)) j := by
  have e : idx_main_v42 (ix3 b t j) = ix3 b t (0 : Fin 1) := funext fun a => by
    match a with
    | ⟨0, _⟩ => rfl
    | ⟨1, _⟩ => rfl
    | ⟨2, _⟩ => rfl

  have e' : idx_main_v44 (idx_main_v45 (ix3 b t j)) = ix2 (0 : Fin 1) j := funext fun a => by
    match a with
    | ⟨0, _⟩ => rfl
    | ⟨1, _⟩ => rfl

  rw [val_main_v46_apply, val_main_v43_apply, part33_eq, val_main_v42_apply, e, ckv_root, val_main_v45_apply, val_main_v44_apply, e']
  rfl

theorem cq_sum (b : Fin 8) (t : Fin 2304) : val_main_v89 (F := Ideal) x0 x1 x2 x3 (ix2 b t) = sumSq (part 384 896 (by omega) (proj x0 x1 x2 x3 b t)) := by
  rw [val_main_v89_apply, val_main_cst_9_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v89 (ix2 b t) k = ix3 b t k := funext fun a => by
    match a with
    | ⟨0, _⟩ => rfl
    | ⟨1, _⟩ => rfl
    | ⟨2, _⟩ => rfl

  rw [e, val_main_v88_apply, part87_eq]
  rfl

theorem cq_root (b : Fin 8) (t : Fin 2304) : val_main_v95 (F := Ideal) x0 x1 x2 x3 (ix3 b t (0 : Fin 1)) = root (sumSq (part 384 896 (by omega) (proj x0 x1 x2 x3 b t))) (Ideal.ofBits .f32 0x43C00000#32) := by
  have e : idx_main_v90 (ix3 b t (0 : Fin 1)) = ix2 b t := funext fun a => by
    match a with
    | ⟨0, _⟩ => rfl
    | ⟨1, _⟩ => rfl

  rw [val_main_v95_apply, val_main_v94_apply, val_main_v92_apply, val_main_v90_apply, e, cq_sum, val_main_v91_apply,
    val_main_cst_10_apply, val_main_v93_apply, val_main_cst_11_apply]
  rfl

theorem cq_normed (b : Fin 8) (t : Fin 2304) (j : Fin 384) :
    val_main_v100 (F := Ideal) x0 x1 x2 x3 x6 (ix3 b t j) = normed (Ideal.ofBits .f32 0x43C00000#32) (part 384 896 (by omega) (proj x0 x1 x2 x3 b t)) (fun k => x6 (ix2 (0 : Fin 1) k)) j := by
  have e : idx_main_v96 (ix3 b t j) = ix3 b t (0 : Fin 1) := funext fun a => by
    match a with
    | ⟨0, _⟩ => rfl
    | ⟨1, _⟩ => rfl
    | ⟨2, _⟩ => rfl

  have e' : idx_main_v98 (idx_main_v99 (ix3 b t j)) = ix2 (0 : Fin 1) j := funext fun a => by
    match a with
    | ⟨0, _⟩ => rfl
    | ⟨1, _⟩ => rfl

  rw [val_main_v100_apply, val_main_v97_apply, part87_eq, val_main_v96_apply, e, cq_root, val_main_v99_apply, val_main_v98_apply, e']
  rfl

/-- The rows of keys and values. -/
theorem kv_eq (b : Fin 8) (t : Fin 2304) (j : Fin 1024) : val_main_v48 (F := Ideal) x0 x1 x2 x3 x4 x5 (ix3 b t j) = kvAt x0 x1 x2 x3 x4 x5 b t j := by
  rw [val_main_v48_apply]
  unfold kvAt widened project
  refine Finset.sum_congr rfl fun k _ => ?_
  have e : lidx_main_v48 (ix3 b t j) k = ix3 b t k := funext fun a => by
    match a with
    | ⟨0, _⟩ => rfl
    | ⟨1, _⟩ => rfl
    | ⟨2, _⟩ => rfl

  have e' : ridx_main_v48 (ix3 b t j) k = ix2 k j := funext fun a => by
    match a with
    | ⟨0, _⟩ => rfl
    | ⟨1, _⟩ => rfl

  rw [e, e', ckv_normed, val_main_v47_apply]
  rfl

/-- The rows of queries. -/
theorem q_eq (b : Fin 8) (t : Fin 2304) (j : Fin 1024) : val_main_v102 (F := Ideal) x0 x1 x2 x3 x6 x7 (ix3 b t j) = qAt x0 x1 x2 x3 x6 x7 b t j := by
  rw [val_main_v102_apply]
  unfold qAt asked project
  refine Finset.sum_congr rfl fun k _ => ?_
  have e : lidx_main_v102 (ix3 b t j) k = ix3 b t k := funext fun a => by
    match a with
    | ⟨0, _⟩ => rfl
    | ⟨1, _⟩ => rfl
    | ⟨2, _⟩ => rfl

  have e' : ridx_main_v102 (ix3 b t j) k = ix2 k j := funext fun a => by
    match a with
    | ⟨0, _⟩ => rfl
    | ⟨1, _⟩ => rfl

  rw [e, e', cq_normed, val_main_v101_apply]
  rfl

/-- The gated rows. -/
theorem gated_eq (b : Fin 8) (t : Fin 2304) (j : Fin 256) : val_main_v199 (F := Ideal) x0 x1 x2 x3 (ix3 b t j) = gated (proj x0 x1 x2 x3 b t) j := by
  rw [val_main_v199_apply, part191_eq, val_main_v198_apply, val_main_v197_apply, val_main_cst_22_apply, val_main_v196_apply, val_main_v195_apply, val_main_cst_21_apply,
    val_main_v194_apply, val_main_v193_apply, part192_eq]
  have e1 : (FloatOps.ofBits (F := Ideal) .f32 0x3F800000#32 : EReal) = 1 := ofBits_one
  rw [e1]
  unfold gated Ideal.logistic
  rfl

/-- A head of keys, without the shared lanes. -/
theorem head53_eq (b : Fin 8) (t : Fin 2304) (h : Fin 4) (j : Fin 128) :
    val_main_v53 (F := Ideal) x0 x1 x2 x3 x4 x5 (ix4 b t h j) = part 128 (h.val * 128) (by omega) (kvAt x0 x1 x2 x3 x4 x5 b t) j := by
  have e : idx_main_v53 (ix4 b t h j) = ix3 b t (⟨h.val * 128 + j.val, by omega⟩ : Fin 512) := funext fun a => by
    match a with
    | ⟨0, _⟩ => exact Fin.ext (by show (((b.val * 2304 + t.val) * 4 + h.val) * 128 + j.val) / 1179648 = b.val; omega)
    | ⟨1, _⟩ => exact Fin.ext (by show (((b.val * 2304 + t.val) * 4 + h.val) * 128 + j.val) / 512 % 2304 = t.val; omega)
    | ⟨2, _⟩ => exact Fin.ext (by show (((b.val * 2304 + t.val) * 4 + h.val) * 128 + j.val) % 512 = h.val * 128 + j.val; omega)

  have e' : idx_main_v52 (ix3 b t (⟨h.val * 128 + j.val, by omega⟩ : Fin 512)) = ix3 b t (⟨h.val * 128 + j.val, by omega⟩ : Fin 1024) := funext fun a => by
    match a with
    | ⟨0, _⟩ => rfl
    | ⟨1, _⟩ => rfl
    | ⟨2, _⟩ => exact Fin.ext (by show h.val * 128 + j.val = h.val * 128 + j.val; omega)

  rw [val_main_v53_apply, e, val_main_v52_apply, e', kv_eq]
  rfl

/-- A head of values. -/
theorem head86_eq (b : Fin 8) (t : Fin 2304) (h : Fin 4) (j : Fin 128) :
    val_main_v86 (F := Ideal) x0 x1 x2 x3 x4 x5 (ix4 b t h j) = part 128 (512 + h.val * 128) (by omega) (kvAt x0 x1 x2 x3 x4 x5 b t) j := by
  have e : idx_main_v86 (ix4 b t h j) = ix3 b t (⟨h.val * 128 + j.val, by omega⟩ : Fin 512) := funext fun a => by
    match a with
    | ⟨0, _⟩ => exact Fin.ext (by show (((b.val * 2304 + t.val) * 4 + h.val) * 128 + j.val) / 1179648 = b.val; omega)
    | ⟨1, _⟩ => exact Fin.ext (by show (((b.val * 2304 + t.val) * 4 + h.val) * 128 + j.val) / 512 % 2304 = t.val; omega)
    | ⟨2, _⟩ => exact Fin.ext (by show (((b.val * 2304 + t.val) * 4 + h.val) * 128 + j.val) % 512 = h.val * 128 + j.val; omega)

  have e' : idx_main_v85 (ix3 b t (⟨h.val * 128 + j.val, by omega⟩ : Fin 512)) = ix3 b t (⟨512 + h.val * 128 + j.val, by omega⟩ : Fin 1024) := funext fun a => by
    match a with
    | ⟨0, _⟩ => rfl
    | ⟨1, _⟩ => rfl
    | ⟨2, _⟩ => exact Fin.ext (by show 512 + (h.val * 128 + j.val) = 512 + h.val * 128 + j.val; omega)

  rw [val_main_v86_apply, e, val_main_v85_apply, e', kv_eq]
  rfl

/-- A head of queries. -/
theorem head103_eq (b : Fin 8) (t : Fin 2304) (h : Fin 4) (j : Fin 256) :
    val_main_v103 (F := Ideal) x0 x1 x2 x3 x6 x7 (ix4 b t h j) = part 256 (h.val * 256) (by omega) (qAt x0 x1 x2 x3 x6 x7 b t) j := by
  have e : idx_main_v103 (ix4 b t h j) = ix3 b t (⟨h.val * 256 + j.val, by omega⟩ : Fin 1024) := funext fun a => by
    match a with
    | ⟨0, _⟩ => exact Fin.ext (by show (((b.val * 2304 + t.val) * 4 + h.val) * 256 + j.val) / 2359296 = b.val; omega)
    | ⟨1, _⟩ => exact Fin.ext (by show (((b.val * 2304 + t.val) * 4 + h.val) * 256 + j.val) / 1024 % 2304 = t.val; omega)
    | ⟨2, _⟩ => exact Fin.ext (by show (((b.val * 2304 + t.val) * 4 + h.val) * 256 + j.val) % 1024 = h.val * 256 + j.val; omega)

  rw [val_main_v103_apply, e, q_eq]
  rfl

/-- A head of the near keys. -/
theorem head134_eq (b : Fin 8) (t : Fin 2304) (h : Fin 2) (j : Fin 128) :
    val_main_v134 (F := Ideal) x0 x1 x2 x3 (ix4 b t h j) = part 128 (384 + h.val * 128) (by omega) (proj x0 x1 x2 x3 b t) j := by
  have e : idx_main_v134 (ix4 b t h j) = ix3 b t (⟨h.val * 128 + j.val, by omega⟩ : Fin 256) := funext fun a => by
    match a with
    | ⟨0, _⟩ => exact Fin.ext (by show (((b.val * 2304 + t.val) * 2 + h.val) * 128 + j.val) / 589824 = b.val; omega)
    | ⟨1, _⟩ => exact Fin.ext (by show (((b.val * 2304 + t.val) * 2 + h.val) * 128 + j.val) / 256 % 2304 = t.val; omega)
    | ⟨2, _⟩ => exact Fin.ext (by show (((b.val * 2304 + t.val) * 2 + h.val) * 128 + j.val) % 256 = h.val * 128 + j.val; omega)

  rw [val_main_v134_apply, e, part133_eq]
  exact congrArg (proj x0 x1 x2 x3 b t) (Fin.ext (by show 384 + (h.val * 128 + j.val) = 384 + h.val * 128 + j.val; omega))

/-- A head of the near values. -/
theorem head162_eq (b : Fin 8) (t : Fin 2304) (h : Fin 2) (j : Fin 128) :
    val_main_v162 (F := Ideal) x0 x1 x2 x3 (ix4 b t h j) = part 128 (640 + h.val * 128) (by omega) (proj x0 x1 x2 x3 b t) j := by
  have e : idx_main_v162 (ix4 b t h j) = ix3 b t (⟨h.val * 128 + j.val, by omega⟩ : Fin 256) := funext fun a => by
    match a with
    | ⟨0, _⟩ => exact Fin.ext (by show (((b.val * 2304 + t.val) * 2 + h.val) * 128 + j.val) / 589824 = b.val; omega)
    | ⟨1, _⟩ => exact Fin.ext (by show (((b.val * 2304 + t.val) * 2 + h.val) * 128 + j.val) / 256 % 2304 = t.val; omega)
    | ⟨2, _⟩ => exact Fin.ext (by show (((b.val * 2304 + t.val) * 2 + h.val) * 128 + j.val) % 256 = h.val * 128 + j.val; omega)

  rw [val_main_v162_apply, e, part161_eq]
  exact congrArg (proj x0 x1 x2 x3 b t) (Fin.ext (by show 640 + (h.val * 128 + j.val) = 640 + h.val * 128 + j.val; omega))

/-- A head of the near queries. -/
theorem head164_eq (b : Fin 8) (t : Fin 2304) (h : Fin 4) (j : Fin 128) :
    val_main_v164 (F := Ideal) x0 x1 x2 x3 (ix4 b t h j) = part 128 (1280 + h.val * 128) (by omega) (proj x0 x1 x2 x3 b t) j := by
  have e : idx_main_v164 (ix4 b t h j) = ix3 b t (⟨h.val * 128 + j.val, by omega⟩ : Fin 512) := funext fun a => by
    match a with
    | ⟨0, _⟩ => exact Fin.ext (by show (((b.val * 2304 + t.val) * 4 + h.val) * 128 + j.val) / 1179648 = b.val; omega)
    | ⟨1, _⟩ => exact Fin.ext (by show (((b.val * 2304 + t.val) * 4 + h.val) * 128 + j.val) / 512 % 2304 = t.val; omega)
    | ⟨2, _⟩ => exact Fin.ext (by show (((b.val * 2304 + t.val) * 4 + h.val) * 128 + j.val) % 512 = h.val * 128 + j.val; omega)

  rw [val_main_v164_apply, e, part163_eq]
  exact congrArg (proj x0 x1 x2 x3 b t) (Fin.ext (by show 1280 + (h.val * 128 + j.val) = 1280 + h.val * 128 + j.val; omega))

/-- The lanes every head of keys shares. -/
theorem shared_eq (b : Fin 8) (t : Fin 2304) (h : Fin 4) (j : Fin 128) : val_main_v51 (F := Ideal) x0 x1 x2 x3 (ix4 b t h j) = part 128 256 (by omega) (proj x0 x1 x2 x3 b t) j := by
  have e : idx_main_v50 (idx_main_v51 (ix4 b t h j)) = ix3 b t j := funext fun a => by
    match a with
    | ⟨0, _⟩ => rfl
    | ⟨1, _⟩ => rfl
    | ⟨2, _⟩ => rfl

  rw [val_main_v51_apply, val_main_v50_apply, e, part49_eq]

end Cert.PrepRefIdeal.Array

end
-- ==== Proof.Prep.Ref.lean ====
/-
  The reference's seven results: heads normed by their own roots, rotated, and joined again.
-/
module

public import proofs.«01_k».proof.Proof.Prep.RefRows

@[expose] public section

set_option maxRecDepth 16384

noncomputable section

namespace Cert.PrepRefIdeal.Array

open Cert.PrepRefIdeal Cert.PrepRefIdeal.Gen Cert.PrepRefIdeal.Read Cert.PrepRow Idealize.ShloMosaic Idealize.ShloMosaic.TcCoe Idealize.ShloMosaic.ValueIdx

variable (x0 : (⟨S8x2304x1024, .f32⟩ : BufTy).Contents (Elt Ideal)) (x1 : (⟨S8x2x6x1024, .f32⟩ : BufTy).Contents (Elt Ideal)) (x2 : (⟨S1x1024, .f32⟩ : BufTy).Contents (Elt Ideal)) (x3 : (⟨S1024x2304, .bf16⟩ : BufTy).Contents (Elt Ideal)) (x4 : (⟨S1x256, .f32⟩ : BufTy).Contents (Elt Ideal)) (x5 : (⟨S256x1024, .bf16⟩ : BufTy).Contents (Elt Ideal)) (x6 : (⟨S1x384, .f32⟩ : BufTy).Contents (Elt Ideal)) (x7 : (⟨S384x1024, .bf16⟩ : BufTy).Contents (Elt Ideal)) (x8 : (⟨S1x256, .f32⟩ : BufTy).Contents (Elt Ideal)) (x9 : (⟨S1x128, .f32⟩ : BufTy).Contents (Elt Ideal)) (x10 : (⟨S1x128, .f32⟩ : BufTy).Contents (Elt Ideal)) (x11 : (⟨S1x128, .f32⟩ : BufTy).Contents (Elt Ideal)) (x12 : (⟨S1x128, .f32⟩ : BufTy).Contents (Elt Ideal)) (x13 : (⟨S2304x128, .f32⟩ : BufTy).Contents (Elt Ideal)) (x14 : (⟨S2304x128, .f32⟩ : BufTy).Contents (Elt Ideal))

theorem head54_eq (b : Fin 8) (t : Fin 2304) (h : Fin 4) (j : Fin 256) : val_main_v54 (F := Ideal) x0 x1 x2 x3 x4 x5 (ix4 b t h j) = joined (part 128 (h.val * 128) (by omega) (kvAt x0 x1 x2 x3 x4 x5 b t)) (part 128 256 (by omega) (proj x0 x1 x2 x3 b t)) j := by
  unfold val_main_v54 joined
  by_cases hj : j.val < 128
  · rw [dif_pos hj]
    exact (join_left _ _ _ b t h j hj).trans (head53_eq x0 x1 x2 x3 x4 x5 b t h _)
  · rw [dif_neg hj]
    exact (join_right _ _ _ b t h j hj (by omega)).trans (shared_eq x0 x1 x2 x3 b t h _)

theorem key_heads (a p : Fin 128 → EReal) : sumSq (fun k : Fin 192 => joined a p ⟨k.val, by omega⟩) = sumSq a + low p :=
  head_sum _ a p (fun k => dif_pos k.isLt) (fun k => (dif_neg (by show ¬ 128 + k.val < 128; omega)).trans
    (congrArg p (Fin.ext (by show 128 + k.val - 128 = 0 + k.val; omega))))

theorem key_sum (b : Fin 8) (t : Fin 2304) (h : Fin 4) : val_main_v58 (F := Ideal) x0 x1 x2 x3 x4 x5 (ix3 b t h) = sumSq (fun k : Fin 192 => joined (part 128 (h.val * 128) (by omega) (kvAt x0 x1 x2 x3 x4 x5 b t)) (part 128 256 (by omega) (proj x0 x1 x2 x3 b t)) ⟨k.val, by omega⟩) := by
  rw [val_main_v58_apply, val_main_cst_6_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v56 (idx_main_v58 (ix3 b t h) k) = ix4 b t h (⟨k.val, by omega⟩ : Fin 256) := funext fun a => by
    match a with
    | ⟨0, _⟩ => rfl
    | ⟨1, _⟩ => rfl
    | ⟨2, _⟩ => rfl
    | ⟨3, _⟩ => rfl

  rw [val_main_v57_apply, val_main_v56_apply, e, head54_eq]
  rfl

theorem key_root (b : Fin 8) (t : Fin 2304) (h : Fin 4) : val_main_v64 (F := Ideal) x0 x1 x2 x3 x4 x5 (ix4 b t h (0 : Fin 1)) = root (sumSq (fun k : Fin 192 => joined (part 128 (h.val * 128) (by omega) (kvAt x0 x1 x2 x3 x4 x5 b t)) (part 128 256 (by omega) (proj x0 x1 x2 x3 b t)) ⟨k.val, by omega⟩)) (Ideal.ofBits .f32 0x43400000#32) := by
  have e : idx_main_v59 (ix4 b t h (0 : Fin 1)) = ix3 b t h := funext fun a => by
    match a with
    | ⟨0, _⟩ => rfl
    | ⟨1, _⟩ => rfl
    | ⟨2, _⟩ => rfl

  rw [val_main_v64_apply, val_main_v63_apply, val_main_v61_apply, val_main_v59_apply, e, key_sum, val_main_v60_apply,
    val_main_cst_7_apply, val_main_v62_apply, val_main_cst_8_apply]
  rfl

theorem key_normed (b : Fin 8) (t : Fin 2304) (h : Fin 4) (j : Fin 256) :
    val_main_v69 (F := Ideal) x0 x1 x2 x3 x4 x5 x9 x10 (ix4 b t h j) = joined (part 128 (h.val * 128) (by omega) (kvAt x0 x1 x2 x3 x4 x5 b t)) (part 128 256 (by omega) (proj x0 x1 x2 x3 b t)) j * root (sumSq (fun k : Fin 192 => joined (part 128 (h.val * 128) (by omega) (kvAt x0 x1 x2 x3 x4 x5 b t)) (part 128 256 (by omega) (proj x0 x1 x2 x3 b t)) ⟨k.val, by omega⟩)) (Ideal.ofBits .f32 0x43400000#32) * val_main_v55 (F := Ideal) x9 x10 (ix2 (0 : Fin 1) j) := by
  have e : idx_main_v65 (ix4 b t h j) = ix4 b t h (0 : Fin 1) := funext fun a => by
    match a with
    | ⟨0, _⟩ => rfl
    | ⟨1, _⟩ => rfl
    | ⟨2, _⟩ => rfl
    | ⟨3, _⟩ => rfl

  have e' : idx_main_v67 (idx_main_v68 (ix4 b t h j)) = ix2 (0 : Fin 1) j := funext fun a => by
    match a with
    | ⟨0, _⟩ => rfl
    | ⟨1, _⟩ => rfl

  rw [val_main_v69_apply, val_main_v66_apply, head54_eq, val_main_v65_apply, e, key_root, val_main_v68_apply, val_main_v67_apply, e']
  rfl

/-- The rotation by the tables. -/
theorem key_rope (b : Fin 8) (t : Fin 2304) (h : Fin 4) (j : Fin 128) :
    val_main_v83 (F := Ideal) x0 x1 x2 x3 x4 x5 x9 x10 x13 x14 (ix4 b t h j) = rope (fun k => val_main_v71 (F := Ideal) x0 x1 x2 x3 x4 x5 x9 x10 (ix4 b t h k)) (fun k => x13 (ix2 t k)) (fun k => x14 (ix2 t k)) j := by
  have ec : idx_main_v72 (idx_main_v73 (idx_main_v74 (ix4 b t h j))) = ix2 t j := funext fun a => by
    match a with
    | ⟨0, _⟩ => rfl
    | ⟨1, _⟩ => rfl

  have es : idx_main_v79 (idx_main_v80 (idx_main_v81 (ix4 b t h j))) = ix2 t j := funext fun a => by
    match a with
    | ⟨0, _⟩ => rfl
    | ⟨1, _⟩ => rfl

  have et : val_main_v78 (F := Ideal) x0 x1 x2 x3 x4 x5 x9 x10 (ix4 b t h j) = val_main_v71 (F := Ideal) x0 x1 x2 x3 x4 x5 x9 x10 (ix4 b t h (turn j)) := by
    unfold val_main_v78
    by_cases hj : j.val < 64
    · refine (join_left _ _ _ b t h j hj).trans ((val_main_v76_apply _ _ _ _ _ _ _ _ _).trans (congrArg _ ?_))
      funext a
      match a with
      | ⟨0, _⟩ => rfl
      | ⟨1, _⟩ => rfl
      | ⟨2, _⟩ => rfl
      | ⟨3, _⟩ => exact Fin.ext (by show 64 + j.val = (j.val + 64) % 128; omega)
    · refine (join_right _ _ _ b t h j hj (by omega)).trans ((val_main_v77_apply _ _ _ _ _ _ _ _ _).trans (congrArg _ ?_))
      funext a
      match a with
      | ⟨0, _⟩ => rfl
      | ⟨1, _⟩ => rfl
      | ⟨2, _⟩ => rfl
      | ⟨3, _⟩ => exact Fin.ext (by show j.val - 64 = (j.val + 64) % 128; omega)
  rw [val_main_v83_apply, val_main_v75_apply, val_main_v74_apply, val_main_v73_apply, val_main_v72_apply, ec, val_main_v82_apply, et,
    val_main_v81_apply, val_main_v80_apply, val_main_v79_apply, es]
  rfl

theorem lanes70_eq (b : Fin 8) (t : Fin 2304) (h : Fin 4) (k : Fin 128) : val_main_v70 (F := Ideal) x0 x1 x2 x3 x4 x5 x9 x10 (ix4 b t h k) = val_main_v69 (F := Ideal) x0 x1 x2 x3 x4 x5 x9 x10 (ix4 b t h (⟨k.val, by omega⟩ : Fin 256)) :=
  (val_main_v70_apply _ _ _ _ _ _ _ _ _).trans (congrArg _ (funext fun a => by
    match a with
    | ⟨0, _⟩ => rfl
    | ⟨1, _⟩ => rfl
    | ⟨2, _⟩ => rfl
    | ⟨3, _⟩ => rfl))

theorem lanes71_eq (b : Fin 8) (t : Fin 2304) (h : Fin 4) (k : Fin 128) : val_main_v71 (F := Ideal) x0 x1 x2 x3 x4 x5 x9 x10 (ix4 b t h k) = val_main_v69 (F := Ideal) x0 x1 x2 x3 x4 x5 x9 x10 (ix4 b t h (⟨128 + k.val, by omega⟩ : Fin 256)) :=
  (val_main_v71_apply _ _ _ _ _ _ _ _ _).trans (congrArg _ (funext fun a => by
    match a with
    | ⟨0, _⟩ => rfl
    | ⟨1, _⟩ => rfl
    | ⟨2, _⟩ => rfl
    | ⟨3, _⟩ => rfl))

theorem lanes118_eq (b : Fin 8) (t : Fin 2304) (h : Fin 4) (k : Fin 128) : val_main_v118 (F := Ideal) x0 x1 x2 x3 x6 x7 x8 (ix4 b t h k) = val_main_v117 (F := Ideal) x0 x1 x2 x3 x6 x7 x8 (ix4 b t h (⟨k.val, by omega⟩ : Fin 256)) :=
  (val_main_v118_apply _ _ _ _ _ _ _ _).trans (congrArg _ (funext fun a => by
    match a with
    | ⟨0, _⟩ => rfl
    | ⟨1, _⟩ => rfl
    | ⟨2, _⟩ => rfl
    | ⟨3, _⟩ => rfl))

theorem lanes119_eq (b : Fin 8) (t : Fin 2304) (h : Fin 4) (k : Fin 128) : val_main_v119 (F := Ideal) x0 x1 x2 x3 x6 x7 x8 (ix4 b t h k) = val_main_v117 (F := Ideal) x0 x1 x2 x3 x6 x7 x8 (ix4 b t h (⟨128 + k.val, by omega⟩ : Fin 256)) :=
  (val_main_v119_apply _ _ _ _ _ _ _ _).trans (congrArg _ (funext fun a => by
    match a with
    | ⟨0, _⟩ => rfl
    | ⟨1, _⟩ => rfl
    | ⟨2, _⟩ => rfl
    | ⟨3, _⟩ => rfl))

/-- The keys. -/
theorem keys_eq (b : Fin 8) (t : Fin 2304) (h : Fin 4) (j : Fin 256) :
    val_main_v84 (F := Ideal) x0 x1 x2 x3 x4 x5 x9 x10 x13 x14 (ix4 b t h j) = keyAt (kvAt x0 x1 x2 x3 x4 x5 b t) (part 128 256 (by omega) (proj x0 x1 x2 x3 b t)) (fun k => x9 (ix2 (0 : Fin 1) k)) (fun k => x10 (ix2 (0 : Fin 1) k)) (fun k => x13 (ix2 t k)) (fun k => x14 (ix2 t k)) h j := by
  unfold val_main_v84 keyAt
  by_cases hj : j.val < 128
  · rw [dif_pos hj]
    refine (join_left _ _ _ b t h j hj).trans ?_
    rw [lanes70_eq, key_normed, key_heads]
    exact congrArg₂ (fun u v => u * _ * v) (dif_pos hj) (gain_left x9 x10 _ j hj)
  · rw [dif_neg hj]
    refine (join_right _ _ _ b t h j hj (by omega)).trans ((key_rope x0 x1 x2 x3 x4 x5 x9 x10 x13 x14 b t h _).trans ?_)
    refine congrArg (fun u => rope u _ _ _) (funext fun k => ?_)
    have hk : ¬ 128 + k.val < 128 := by omega
    have hs : 128 + k.val - 128 = k.val := by omega
    rw [lanes71_eq, key_normed, key_heads]
    refine congrArg₂ (fun u v => u * _ * v) ((dif_neg hk).trans (congrArg _ (Fin.ext hs))) ((gain_right x9 x10 _ _ hk (by show 128 + k.val - 128 < 128; omega)).trans ?_)
    exact congrArg (fun r : Fin 128 => x10 (ix2 (0 : Fin 1) r)) (Fin.ext hs)

theorem query_heads (b : Fin 8) (t : Fin 2304) (h : Fin 4) : sumSq (fun k : Fin 192 => part 256 (h.val * 256) (by omega) (qAt x0 x1 x2 x3 x6 x7 b t) ⟨k.val, by omega⟩) = sumSq (part 128 (h.val * 256) (by omega) (qAt x0 x1 x2 x3 x6 x7 b t)) + low (part 128 (h.val * 256 + 128) (by omega) (qAt x0 x1 x2 x3 x6 x7 b t)) :=
  head_sum _ _ _ (fun k => rfl) (fun k => congrArg (qAt x0 x1 x2 x3 x6 x7 b t) (Fin.ext (by show h.val * 256 + (128 + k.val) = h.val * 256 + 128 + (0 + k.val); omega)))

theorem query_sum (b : Fin 8) (t : Fin 2304) (h : Fin 4) : val_main_v106 (F := Ideal) x0 x1 x2 x3 x6 x7 (ix3 b t h) = sumSq (fun k : Fin 192 => part 256 (h.val * 256) (by omega) (qAt x0 x1 x2 x3 x6 x7 b t) ⟨k.val, by omega⟩) := by
  rw [val_main_v106_apply, val_main_cst_12_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v104 (idx_main_v106 (ix3 b t h) k) = ix4 b t h (⟨k.val, by omega⟩ : Fin 256) := funext fun a => by
    match a with
    | ⟨0, _⟩ => rfl
    | ⟨1, _⟩ => rfl
    | ⟨2, _⟩ => rfl
    | ⟨3, _⟩ => rfl

  rw [val_main_v105_apply, val_main_v104_apply, e, head103_eq]
  rfl

theorem query_root (b : Fin 8) (t : Fin 2304) (h : Fin 4) : val_main_v112 (F := Ideal) x0 x1 x2 x3 x6 x7 (ix4 b t h (0 : Fin 1)) = root (sumSq (fun k : Fin 192 => part 256 (h.val * 256) (by omega) (qAt x0 x1 x2 x3 x6 x7 b t) ⟨k.val, by omega⟩)) (Ideal.ofBits .f32 0x43400000#32) := by
  have e : idx_main_v107 (ix4 b t h (0 : Fin 1)) = ix3 b t h := funext fun a => by
    match a with
    | ⟨0, _⟩ => rfl
    | ⟨1, _⟩ => rfl
    | ⟨2, _⟩ => rfl

  rw [val_main_v112_apply, val_main_v111_apply, val_main_v109_apply, val_main_v107_apply, e, query_sum, val_main_v108_apply,
    val_main_cst_13_apply, val_main_v110_apply, val_main_cst_14_apply]
  rfl

theorem query_normed (b : Fin 8) (t : Fin 2304) (h : Fin 4) (j : Fin 256) :
    val_main_v117 (F := Ideal) x0 x1 x2 x3 x6 x7 x8 (ix4 b t h j) = part 256 (h.val * 256) (by omega) (qAt x0 x1 x2 x3 x6 x7 b t) j * root (sumSq (fun k : Fin 192 => part 256 (h.val * 256) (by omega) (qAt x0 x1 x2 x3 x6 x7 b t) ⟨k.val, by omega⟩)) (Ideal.ofBits .f32 0x43400000#32) * x8 (ix2 (0 : Fin 1) j) := by
  have e : idx_main_v113 (ix4 b t h j) = ix4 b t h (0 : Fin 1) := funext fun a => by
    match a with
    | ⟨0, _⟩ => rfl
    | ⟨1, _⟩ => rfl
    | ⟨2, _⟩ => rfl
    | ⟨3, _⟩ => rfl

  have e' : idx_main_v115 (idx_main_v116 (ix4 b t h j)) = ix2 (0 : Fin 1) j := funext fun a => by
    match a with
    | ⟨0, _⟩ => rfl
    | ⟨1, _⟩ => rfl

  rw [val_main_v117_apply, val_main_v114_apply, head103_eq, val_main_v113_apply, e, query_root, val_main_v116_apply, val_main_v115_apply, e']
  rfl

/-- The rotation by the tables. -/
theorem query_rope (b : Fin 8) (t : Fin 2304) (h : Fin 4) (j : Fin 128) :
    val_main_v131 (F := Ideal) x0 x1 x2 x3 x6 x7 x8 x13 x14 (ix4 b t h j) = rope (fun k => val_main_v119 (F := Ideal) x0 x1 x2 x3 x6 x7 x8 (ix4 b t h k)) (fun k => x13 (ix2 t k)) (fun k => x14 (ix2 t k)) j := by
  have ec : idx_main_v120 (idx_main_v121 (idx_main_v122 (ix4 b t h j))) = ix2 t j := funext fun a => by
    match a with
    | ⟨0, _⟩ => rfl
    | ⟨1, _⟩ => rfl

  have es : idx_main_v127 (idx_main_v128 (idx_main_v129 (ix4 b t h j))) = ix2 t j := funext fun a => by
    match a with
    | ⟨0, _⟩ => rfl
    | ⟨1, _⟩ => rfl

  have et : val_main_v126 (F := Ideal) x0 x1 x2 x3 x6 x7 x8 (ix4 b t h j) = val_main_v119 (F := Ideal) x0 x1 x2 x3 x6 x7 x8 (ix4 b t h (turn j)) := by
    unfold val_main_v126
    by_cases hj : j.val < 64
    · refine (join_left _ _ _ b t h j hj).trans ((val_main_v124_apply _ _ _ _ _ _ _ _).trans (congrArg _ ?_))
      funext a
      match a with
      | ⟨0, _⟩ => rfl
      | ⟨1, _⟩ => rfl
      | ⟨2, _⟩ => rfl
      | ⟨3, _⟩ => exact Fin.ext (by show 64 + j.val = (j.val + 64) % 128; omega)
    · refine (join_right _ _ _ b t h j hj (by omega)).trans ((val_main_v125_apply _ _ _ _ _ _ _ _).trans (congrArg _ ?_))
      funext a
      match a with
      | ⟨0, _⟩ => rfl
      | ⟨1, _⟩ => rfl
      | ⟨2, _⟩ => rfl
      | ⟨3, _⟩ => exact Fin.ext (by show j.val - 64 = (j.val + 64) % 128; omega)
  rw [val_main_v131_apply, val_main_v123_apply, val_main_v122_apply, val_main_v121_apply, val_main_v120_apply, ec, val_main_v130_apply, et,
    val_main_v129_apply, val_main_v128_apply, val_main_v127_apply, es]
  rfl

/-- The queries. -/
theorem queries_eq (b : Fin 8) (t : Fin 2304) (h : Fin 4) (j : Fin 256) :
    val_main_v132 (F := Ideal) x0 x1 x2 x3 x6 x7 x8 x13 x14 (ix4 b t h j) = queryAt (qAt x0 x1 x2 x3 x6 x7 b t) (fun k => x8 (ix2 (0 : Fin 1) k)) (fun k => x13 (ix2 t k)) (fun k => x14 (ix2 t k)) h j := by
  unfold val_main_v132 queryAt
  by_cases hj : j.val < 128
  · rw [dif_pos hj]
    refine (join_left _ _ _ b t h j hj).trans ?_
    rw [lanes118_eq, query_normed, query_heads]
    have e : j = (⟨0 + j.val, by omega⟩ : Fin 256) := Fin.ext (by show j.val = 0 + j.val; omega)
    exact congrArg (fun r : Fin 256 => part 256 (h.val * 256) (by omega) (qAt x0 x1 x2 x3 x6 x7 b t) j * headRoot (part 128 (h.val * 256) (by omega) (qAt x0 x1 x2 x3 x6 x7 b t)) (part 128 (h.val * 256 + 128) (by omega) (qAt x0 x1 x2 x3 x6 x7 b t)) * x8 (ix2 (0 : Fin 1) r)) e
  · rw [dif_neg hj]
    refine (join_right _ _ _ b t h j hj (by omega)).trans ((query_rope x0 x1 x2 x3 x6 x7 x8 x13 x14 b t h _).trans ?_)
    refine congrArg (fun u => rope u _ _ _) (funext fun k => ?_)
    rw [lanes119_eq, query_normed, query_heads]
    exact congrArg (fun u => u * _ * _) (congrArg (qAt x0 x1 x2 x3 x6 x7 b t) (Fin.ext (by show h.val * 256 + (128 + k.val) = h.val * 256 + 128 + k.val; omega)))

theorem low_sum (x : Fin 128 → EReal) : sumSq (fun k : Fin 64 => x ⟨k.val, by omega⟩) = low x :=
  congrArg sumSq (funext fun k => congrArg x (Fin.ext (by show k.val = 0 + k.val; omega)))

theorem nearKey_sum (b : Fin 8) (t : Fin 2304) (h : Fin 2) : val_main_v137 (F := Ideal) x0 x1 x2 x3 (ix3 b t h) = sumSq (fun k : Fin 64 => part 128 (384 + h.val * 128) (by omega) (proj x0 x1 x2 x3 b t) ⟨k.val, by omega⟩) := by
  rw [val_main_v137_apply, val_main_cst_15_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v135 (idx_main_v137 (ix3 b t h) k) = ix4 b t h (⟨k.val, by omega⟩ : Fin 128) := funext fun a => by
    match a with
    | ⟨0, _⟩ => rfl
    | ⟨1, _⟩ => rfl
    | ⟨2, _⟩ => rfl
    | ⟨3, _⟩ => rfl

  rw [val_main_v136_apply, val_main_v135_apply, e, head134_eq]
  rfl

theorem nearKey_root (b : Fin 8) (t : Fin 2304) (h : Fin 2) : val_main_v143 (F := Ideal) x0 x1 x2 x3 (ix4 b t h (0 : Fin 1)) = root (sumSq (fun k : Fin 64 => part 128 (384 + h.val * 128) (by omega) (proj x0 x1 x2 x3 b t) ⟨k.val, by omega⟩)) (Ideal.ofBits .f32 0x42800000#32) := by
  have e : idx_main_v138 (ix4 b t h (0 : Fin 1)) = ix3 b t h := funext fun a => by
    match a with
    | ⟨0, _⟩ => rfl
    | ⟨1, _⟩ => rfl
    | ⟨2, _⟩ => rfl

  rw [val_main_v143_apply, val_main_v142_apply, val_main_v140_apply, val_main_v138_apply, e, nearKey_sum, val_main_v139_apply,
    val_main_cst_16_apply, val_main_v141_apply, val_main_cst_17_apply]
  rfl

theorem nearKey_normed (b : Fin 8) (t : Fin 2304) (h : Fin 2) (j : Fin 128) :
    val_main_v148 (F := Ideal) x0 x1 x2 x3 x12 (ix4 b t h j) = part 128 (384 + h.val * 128) (by omega) (proj x0 x1 x2 x3 b t) j * root (sumSq (fun k : Fin 64 => part 128 (384 + h.val * 128) (by omega) (proj x0 x1 x2 x3 b t) ⟨k.val, by omega⟩)) (Ideal.ofBits .f32 0x42800000#32) * x12 (ix2 (0 : Fin 1) j) := by
  have e : idx_main_v144 (ix4 b t h j) = ix4 b t h (0 : Fin 1) := funext fun a => by
    match a with
    | ⟨0, _⟩ => rfl
    | ⟨1, _⟩ => rfl
    | ⟨2, _⟩ => rfl
    | ⟨3, _⟩ => rfl

  have e' : idx_main_v146 (idx_main_v147 (ix4 b t h j)) = ix2 (0 : Fin 1) j := funext fun a => by
    match a with
    | ⟨0, _⟩ => rfl
    | ⟨1, _⟩ => rfl

  rw [val_main_v148_apply, val_main_v145_apply, head134_eq, val_main_v144_apply, e, nearKey_root, val_main_v147_apply, val_main_v146_apply, e']
  rfl

/-- The rotation by the tables. -/
theorem nearKey_rope (b : Fin 8) (t : Fin 2304) (h : Fin 2) (j : Fin 128) :
    val_main_v160 (F := Ideal) x0 x1 x2 x3 x12 x13 x14 (ix4 b t h j) = rope (fun k => val_main_v148 (F := Ideal) x0 x1 x2 x3 x12 (ix4 b t h k)) (fun k => x13 (ix2 t k)) (fun k => x14 (ix2 t k)) j := by
  have ec : idx_main_v149 (idx_main_v150 (idx_main_v151 (ix4 b t h j))) = ix2 t j := funext fun a => by
    match a with
    | ⟨0, _⟩ => rfl
    | ⟨1, _⟩ => rfl

  have es : idx_main_v156 (idx_main_v157 (idx_main_v158 (ix4 b t h j))) = ix2 t j := funext fun a => by
    match a with
    | ⟨0, _⟩ => rfl
    | ⟨1, _⟩ => rfl

  have et : val_main_v155 (F := Ideal) x0 x1 x2 x3 x12 (ix4 b t h j) = val_main_v148 (F := Ideal) x0 x1 x2 x3 x12 (ix4 b t h (turn j)) := by
    unfold val_main_v155
    by_cases hj : j.val < 64
    · refine (join_left _ _ _ b t h j hj).trans ((val_main_v153_apply _ _ _ _ _ _).trans (congrArg _ ?_))
      funext a
      match a with
      | ⟨0, _⟩ => rfl
      | ⟨1, _⟩ => rfl
      | ⟨2, _⟩ => rfl
      | ⟨3, _⟩ => exact Fin.ext (by show 64 + j.val = (j.val + 64) % 128; omega)
    · refine (join_right _ _ _ b t h j hj (by omega)).trans ((val_main_v154_apply _ _ _ _ _ _).trans (congrArg _ ?_))
      funext a
      match a with
      | ⟨0, _⟩ => rfl
      | ⟨1, _⟩ => rfl
      | ⟨2, _⟩ => rfl
      | ⟨3, _⟩ => exact Fin.ext (by show j.val - 64 = (j.val + 64) % 128; omega)
  rw [val_main_v160_apply, val_main_v152_apply, val_main_v151_apply, val_main_v150_apply, val_main_v149_apply, ec, val_main_v159_apply, et,
    val_main_v158_apply, val_main_v157_apply, val_main_v156_apply, es]
  rfl

/-- The near keys. -/
theorem nearKey_eq (b : Fin 8) (t : Fin 2304) (h : Fin 2) (j : Fin 128) :
    val_main_v160 (F := Ideal) x0 x1 x2 x3 x12 x13 x14 (ix4 b t h j) = nearKey (proj x0 x1 x2 x3 b t) (fun k => x12 (ix2 (0 : Fin 1) k)) (fun k => x13 (ix2 t k)) (fun k => x14 (ix2 t k)) h j := by
  refine (nearKey_rope x0 x1 x2 x3 x12 x13 x14 b t h j).trans ?_
  unfold nearKey near
  refine congrArg (fun u : Fin 128 → EReal => rope u (fun k => x13 (ix2 t k)) (fun k => x14 (ix2 t k)) j) (funext fun k => ?_)
  rw [nearKey_normed]
  exact congrArg (fun s => _ * root s _ * _) (low_sum (part 128 (384 + h.val * 128) (by omega) (proj x0 x1 x2 x3 b t)))

theorem nearQuery_sum (b : Fin 8) (t : Fin 2304) (h : Fin 4) : val_main_v167 (F := Ideal) x0 x1 x2 x3 (ix3 b t h) = sumSq (fun k : Fin 64 => part 128 (1280 + h.val * 128) (by omega) (proj x0 x1 x2 x3 b t) ⟨k.val, by omega⟩) := by
  rw [val_main_v167_apply, val_main_cst_18_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v165 (idx_main_v167 (ix3 b t h) k) = ix4 b t h (⟨k.val, by omega⟩ : Fin 128) := funext fun a => by
    match a with
    | ⟨0, _⟩ => rfl
    | ⟨1, _⟩ => rfl
    | ⟨2, _⟩ => rfl
    | ⟨3, _⟩ => rfl

  rw [val_main_v166_apply, val_main_v165_apply, e, head164_eq]
  rfl

theorem nearQuery_root (b : Fin 8) (t : Fin 2304) (h : Fin 4) : val_main_v173 (F := Ideal) x0 x1 x2 x3 (ix4 b t h (0 : Fin 1)) = root (sumSq (fun k : Fin 64 => part 128 (1280 + h.val * 128) (by omega) (proj x0 x1 x2 x3 b t) ⟨k.val, by omega⟩)) (Ideal.ofBits .f32 0x42800000#32) := by
  have e : idx_main_v168 (ix4 b t h (0 : Fin 1)) = ix3 b t h := funext fun a => by
    match a with
    | ⟨0, _⟩ => rfl
    | ⟨1, _⟩ => rfl
    | ⟨2, _⟩ => rfl

  rw [val_main_v173_apply, val_main_v172_apply, val_main_v170_apply, val_main_v168_apply, e, nearQuery_sum, val_main_v169_apply,
    val_main_cst_19_apply, val_main_v171_apply, val_main_cst_20_apply]
  rfl

theorem nearQuery_normed (b : Fin 8) (t : Fin 2304) (h : Fin 4) (j : Fin 128) :
    val_main_v178 (F := Ideal) x0 x1 x2 x3 x11 (ix4 b t h j) = part 128 (1280 + h.val * 128) (by omega) (proj x0 x1 x2 x3 b t) j * root (sumSq (fun k : Fin 64 => part 128 (1280 + h.val * 128) (by omega) (proj x0 x1 x2 x3 b t) ⟨k.val, by omega⟩)) (Ideal.ofBits .f32 0x42800000#32) * x11 (ix2 (0 : Fin 1) j) := by
  have e : idx_main_v174 (ix4 b t h j) = ix4 b t h (0 : Fin 1) := funext fun a => by
    match a with
    | ⟨0, _⟩ => rfl
    | ⟨1, _⟩ => rfl
    | ⟨2, _⟩ => rfl
    | ⟨3, _⟩ => rfl

  have e' : idx_main_v176 (idx_main_v177 (ix4 b t h j)) = ix2 (0 : Fin 1) j := funext fun a => by
    match a with
    | ⟨0, _⟩ => rfl
    | ⟨1, _⟩ => rfl

  rw [val_main_v178_apply, val_main_v175_apply, head164_eq, val_main_v174_apply, e, nearQuery_root, val_main_v177_apply, val_main_v176_apply, e']
  rfl

/-- The rotation by the tables. -/
theorem nearQuery_rope (b : Fin 8) (t : Fin 2304) (h : Fin 4) (j : Fin 128) :
    val_main_v190 (F := Ideal) x0 x1 x2 x3 x11 x13 x14 (ix4 b t h j) = rope (fun k => val_main_v178 (F := Ideal) x0 x1 x2 x3 x11 (ix4 b t h k)) (fun k => x13 (ix2 t k)) (fun k => x14 (ix2 t k)) j := by
  have ec : idx_main_v179 (idx_main_v180 (idx_main_v181 (ix4 b t h j))) = ix2 t j := funext fun a => by
    match a with
    | ⟨0, _⟩ => rfl
    | ⟨1, _⟩ => rfl

  have es : idx_main_v186 (idx_main_v187 (idx_main_v188 (ix4 b t h j))) = ix2 t j := funext fun a => by
    match a with
    | ⟨0, _⟩ => rfl
    | ⟨1, _⟩ => rfl

  have et : val_main_v185 (F := Ideal) x0 x1 x2 x3 x11 (ix4 b t h j) = val_main_v178 (F := Ideal) x0 x1 x2 x3 x11 (ix4 b t h (turn j)) := by
    unfold val_main_v185
    by_cases hj : j.val < 64
    · refine (join_left _ _ _ b t h j hj).trans ((val_main_v183_apply _ _ _ _ _ _).trans (congrArg _ ?_))
      funext a
      match a with
      | ⟨0, _⟩ => rfl
      | ⟨1, _⟩ => rfl
      | ⟨2, _⟩ => rfl
      | ⟨3, _⟩ => exact Fin.ext (by show 64 + j.val = (j.val + 64) % 128; omega)
    · refine (join_right _ _ _ b t h j hj (by omega)).trans ((val_main_v184_apply _ _ _ _ _ _).trans (congrArg _ ?_))
      funext a
      match a with
      | ⟨0, _⟩ => rfl
      | ⟨1, _⟩ => rfl
      | ⟨2, _⟩ => rfl
      | ⟨3, _⟩ => exact Fin.ext (by show j.val - 64 = (j.val + 64) % 128; omega)
  rw [val_main_v190_apply, val_main_v182_apply, val_main_v181_apply, val_main_v180_apply, val_main_v179_apply, ec, val_main_v189_apply, et,
    val_main_v188_apply, val_main_v187_apply, val_main_v186_apply, es]
  rfl

/-- The near queries. -/
theorem nearQuery_eq (b : Fin 8) (t : Fin 2304) (h : Fin 4) (j : Fin 128) :
    val_main_v190 (F := Ideal) x0 x1 x2 x3 x11 x13 x14 (ix4 b t h j) = nearQuery (proj x0 x1 x2 x3 b t) (fun k => x11 (ix2 (0 : Fin 1) k)) (fun k => x13 (ix2 t k)) (fun k => x14 (ix2 t k)) h j := by
  refine (nearQuery_rope x0 x1 x2 x3 x11 x13 x14 b t h j).trans ?_
  unfold nearQuery near
  refine congrArg (fun u : Fin 128 → EReal => rope u (fun k => x13 (ix2 t k)) (fun k => x14 (ix2 t k)) j) (funext fun k => ?_)
  rw [nearQuery_normed]
  exact congrArg (fun s => _ * root s _ * _) (low_sum (part 128 (1280 + h.val * 128) (by omega) (proj x0 x1 x2 x3 b t)))

/-! The results, as whole arrays. -/

theorem result201 : val_main_v201 (F := Ideal) x0 x1 x2 x3 x6 x7 x8 x13 x14 = allQueries x0 x1 x2 x3 x6 x7 x8 x13 x14 := by
  funext i
  have e : idx_main_v200 i = ix4 (i 0) (i 2) (i 1) (i 3) := funext fun a => by
    match a with
    | ⟨0, _⟩ => rfl
    | ⟨1, _⟩ => rfl
    | ⟨2, _⟩ => rfl
    | ⟨3, _⟩ => rfl

  refine (val_main_v201_apply _ _ _ _ _ _ _ _ _ i).trans ?_
  refine (val_main_v200_apply _ _ _ _ _ _ _ _ _ i).trans ?_
  exact (congrArg _ e).trans (queries_eq x0 x1 x2 x3 x6 x7 x8 x13 x14 (i 0) (i 2) (i 1) (i 3))

theorem result203 : val_main_v203 (F := Ideal) x0 x1 x2 x3 x4 x5 x9 x10 x13 x14 = allKeys x0 x1 x2 x3 x4 x5 x9 x10 x13 x14 := by
  funext i
  have e : idx_main_v202 i = ix4 (i 0) (i 2) (i 1) (i 3) := funext fun a => by
    match a with
    | ⟨0, _⟩ => rfl
    | ⟨1, _⟩ => rfl
    | ⟨2, _⟩ => rfl
    | ⟨3, _⟩ => rfl

  refine (val_main_v203_apply _ _ _ _ _ _ _ _ _ _ i).trans ?_
  refine (val_main_v202_apply _ _ _ _ _ _ _ _ _ _ i).trans ?_
  exact (congrArg _ e).trans (keys_eq x0 x1 x2 x3 x4 x5 x9 x10 x13 x14 (i 0) (i 2) (i 1) (i 3))

theorem result205 : val_main_v205 (F := Ideal) x0 x1 x2 x3 x4 x5 = allValues x0 x1 x2 x3 x4 x5 := by
  funext i
  have e : idx_main_v204 i = ix4 (i 0) (i 2) (i 1) (i 3) := funext fun a => by
    match a with
    | ⟨0, _⟩ => rfl
    | ⟨1, _⟩ => rfl
    | ⟨2, _⟩ => rfl
    | ⟨3, _⟩ => rfl

  refine (val_main_v205_apply _ _ _ _ _ _ i).trans ?_
  refine (val_main_v204_apply _ _ _ _ _ _ i).trans ?_
  exact (congrArg _ e).trans (head86_eq x0 x1 x2 x3 x4 x5 (i 0) (i 2) (i 1) (i 3))

theorem result207 : val_main_v207 (F := Ideal) x0 x1 x2 x3 x11 x13 x14 = allNearQueries x0 x1 x2 x3 x11 x13 x14 := by
  funext i
  have e : idx_main_v206 i = ix4 (i 0) (i 2) (i 1) (i 3) := funext fun a => by
    match a with
    | ⟨0, _⟩ => rfl
    | ⟨1, _⟩ => rfl
    | ⟨2, _⟩ => rfl
    | ⟨3, _⟩ => rfl

  refine (val_main_v207_apply _ _ _ _ _ _ _ i).trans ?_
  refine (val_main_v206_apply _ _ _ _ _ _ _ i).trans ?_
  exact (congrArg _ e).trans (nearQuery_eq x0 x1 x2 x3 x11 x13 x14 (i 0) (i 2) (i 1) (i 3))

theorem result209 : val_main_v209 (F := Ideal) x0 x1 x2 x3 x12 x13 x14 = allNearKeys x0 x1 x2 x3 x12 x13 x14 := by
  funext i
  have e : idx_main_v208 i = ix4 (i 0) (i 2) (i 1) (i 3) := funext fun a => by
    match a with
    | ⟨0, _⟩ => rfl
    | ⟨1, _⟩ => rfl
    | ⟨2, _⟩ => rfl
    | ⟨3, _⟩ => rfl

  refine (val_main_v209_apply _ _ _ _ _ _ _ i).trans ?_
  refine (val_main_v208_apply _ _ _ _ _ _ _ i).trans ?_
  exact (congrArg _ e).trans (nearKey_eq x0 x1 x2 x3 x12 x13 x14 (i 0) (i 2) (i 1) (i 3))

theorem result211 : val_main_v211 (F := Ideal) x0 x1 x2 x3 = allNearValues x0 x1 x2 x3 := by
  funext i
  have e : idx_main_v210 i = ix4 (i 0) (i 2) (i 1) (i 3) := funext fun a => by
    match a with
    | ⟨0, _⟩ => rfl
    | ⟨1, _⟩ => rfl
    | ⟨2, _⟩ => rfl
    | ⟨3, _⟩ => rfl

  refine (val_main_v211_apply _ _ _ _ i).trans ?_
  refine (val_main_v210_apply _ _ _ _ i).trans ?_
  exact (congrArg _ e).trans (head162_eq x0 x1 x2 x3 (i 0) (i 2) (i 1) (i 3))

theorem result199 : val_main_v199 (F := Ideal) x0 x1 x2 x3 = allGates x0 x1 x2 x3 := by
  funext i
  have e : i = ix3 (i 0) (i 1) (i 2) := funext fun a => by
    match a with
    | ⟨0, _⟩ => rfl
    | ⟨1, _⟩ => rfl
    | ⟨2, _⟩ => rfl

  exact (congrArg _ e).trans (gated_eq x0 x1 x2 x3 (i 0) (i 1) (i 2))

end Cert.PrepRefIdeal.Array

end
-- ==== Proof.Prep.Claims.lean ====
/-
  The claims about the projections: both programs run, leave their arguments alone and end with every counter at zero; they
  leave the same seven results, whatever the arguments.
-/
module

public import proofs.«01_k».proof.Defs
public import proofs.«01_k».proof.Proof.Prep.Array
public import proofs.«01_k».proof.Proof.Prep.Ref
public import proofs.«01_k».proof.Proof.Gen.Prep.Frame
public import Idealize.ShloMosaic.Lib.Quiescent

@[expose] public section

noncomputable section

namespace Cert.Proof.Prep

open Idealize.ShloMosaic Idealize.SL.Sem Cert.PrepRow

attribute [local instance] Cert.Prep.Gen.facts Cert.PrepIdeal.Gen.facts Cert.PrepRefIdeal.Gen.facts

theorem quiescent_kernel : Cert.quiescent_Prep := fun m g _ => Cert.Prep.Gen.frame m g

theorem quiescent_ideal : Cert.quiescent_PrepIdeal := fun m g _ => Cert.PrepIdeal.Gen.frame m g

theorem quiescent_reference : Cert.quiescent_PrepRefIdeal := fun m g _ =>
  (θ_run _ _ _).mono (fun r h => ⟨fun c => (h c).2.2.2.2.2.2.2, sem_eq_zero_of_no_sems (by decide) r.2⟩) (Cert.PrepRefIdeal.Value.run m g)

/-- The reciprocal of 192, named. -/
theorem preserves : Cert.preserves_Prep_PrepIdeal :=
  IdealRules.named_const.statement Cert.PrepIdeal.κ "inv_qk" .f32 0x3BAAAAAB#32 ((1 / 192 : ℝ) : EReal) rfl

theorem algebraic : Cert.algebraic_PrepIdeal_PrepRefIdeal := by
  intro m g m' g' _ hargs
  refine ⟨fun c => Cert.PrepIdeal.Array.result15 m c, fun c => Cert.PrepIdeal.Array.result16 m c, fun c => Cert.PrepIdeal.Array.result17 m c, fun c => Cert.PrepIdeal.Array.result18 m c, fun c => Cert.PrepIdeal.Array.result19 m c, fun c => Cert.PrepIdeal.Array.result20 m c, fun c => Cert.PrepIdeal.Array.result21 m c, ?_, ?_⟩
  · refine (θ_run _ _ _).mono (fun r h c => ?_) (Cert.PrepIdeal.Value.run_blocks m g)
    obtain ⟨h15, h16, h17, h18, h19, h20, h21, rest⟩ := h c
    exact ⟨h15.trans (Cert.PrepIdeal.Array.final15 m c), h16.trans (Cert.PrepIdeal.Array.final16 m c), h17.trans (Cert.PrepIdeal.Array.final17 m c), h18.trans (Cert.PrepIdeal.Array.final18 m c), h19.trans (Cert.PrepIdeal.Array.final19 m c), h20.trans (Cert.PrepIdeal.Array.final20 m c), h21.trans (Cert.PrepIdeal.Array.final21 m c), rest⟩
  · refine (θ_run _ _ _).mono (fun r h c => ?_) (Cert.PrepRefIdeal.Value.run m' g')
    obtain ⟨a0, a1, a2, a3, a4, a5, a6, a7, a8, a9, a10, a11, a12, a13, a14⟩ := hargs c
    obtain ⟨h15, h16, h17, h18, h19, h20, h21, rest⟩ := h c
    exact ⟨h15.trans ((Cert.PrepRefIdeal.Read.val_main_v201_eq (StableHlo.launchContents m' c)).trans ((Cert.PrepRefIdeal.Array.result201 _ _ _ _ _ _ _ _ _).trans (congr (congr (congr (congr (congr (congr (congr (congr (congrArg allQueries a0) a1) a2) a3) a6) a7) a8) a13) a14 :))),
      h16.trans ((Cert.PrepRefIdeal.Read.val_main_v203_eq (StableHlo.launchContents m' c)).trans ((Cert.PrepRefIdeal.Array.result203 _ _ _ _ _ _ _ _ _ _).trans (congr (congr (congr (congr (congr (congr (congr (congr (congr (congrArg allKeys a0) a1) a2) a3) a4) a5) a9) a10) a13) a14 :))),
      h17.trans ((Cert.PrepRefIdeal.Read.val_main_v205_eq (StableHlo.launchContents m' c)).trans ((Cert.PrepRefIdeal.Array.result205 _ _ _ _ _ _).trans (congr (congr (congr (congr (congr (congrArg allValues a0) a1) a2) a3) a4) a5 :))),
      h18.trans ((Cert.PrepRefIdeal.Read.val_main_v207_eq (StableHlo.launchContents m' c)).trans ((Cert.PrepRefIdeal.Array.result207 _ _ _ _ _ _ _).trans (congr (congr (congr (congr (congr (congr (congrArg allNearQueries a0) a1) a2) a3) a11) a13) a14 :))),
      h19.trans ((Cert.PrepRefIdeal.Read.val_main_v209_eq (StableHlo.launchContents m' c)).trans ((Cert.PrepRefIdeal.Array.result209 _ _ _ _ _ _ _).trans (congr (congr (congr (congr (congr (congr (congrArg allNearKeys a0) a1) a2) a3) a12) a13) a14 :))),
      h20.trans ((Cert.PrepRefIdeal.Read.val_main_v211_eq (StableHlo.launchContents m' c)).trans ((Cert.PrepRefIdeal.Array.result211 _ _ _ _).trans (congr (congr (congr (congrArg allNearValues a0) a1) a2) a3 :))),
      h21.trans ((Cert.PrepRefIdeal.Read.val_main_v199_eq (StableHlo.launchContents m' c)).trans ((Cert.PrepRefIdeal.Array.result199 _ _ _ _).trans (congr (congr (congr (congrArg allGates a0) a1) a2) a3 :))), rest⟩

end Cert.Proof.Prep

end
-- ==== Proof.ExpertsIdeal.Body.lean ====
/-
  One grid point of the expert kernel (`ExpertsIdeal`, floats in any format), for arbitrary contents of the three tables: the body runs,
  gives the staged blocks and the tables back as they were, and leaves in the output's buffer the expert's block if the
  point is in use, zeros if it is not.
-/
module

public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsIdeal.Tables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables, as the kernel is handed them. -/
abbrev tab0 : Memref sig .tc .smem S320 .i32 := Memref.whole main_arg0
abbrev tab1 : Memref sig .tc .smem S320 .i32 := Memref.whole main_arg1
abbrev tab2 : Memref sig .tc .smem S1 .i32 := Memref.whole main_arg2

/-- The number of blocks in use, read from the third table. -/
abbrev inUse (T : IVec S1 32) : BitVec 32 := T (Shape.Idx.first (by decide))

/-- The word the body loads is that number. -/
theorem word_eq (T : S1.Idx → Elt F .i32) :
    View.readAt (Elt F) tab2.view (Rect.unit (s := S1) ![0] S1.size inb_S1_S1_0).toLoadRect T (Shape.Idx.first (numel1_S1.symm ▸ Nat.one_pos)) = inUse T := by
  show T _ = T _
  congr 1
  funext a
  apply Fin.ext
  have h : ∀ x : Fin 1, x.val = 0 := fun x => by omega
  match a with
  | ⟨0, _⟩ => exact (h _).trans (h _).symm

/-- One of the body's two conditions holds and the other does not. -/
theorem cond_or (i : grid0.Coords) (w : BitVec 32) : k0_cond2 i w = 1#1 ↔ ¬ k0_cond1 i w = 1#1 := by
  have key : ∀ p : Bool, (Scalar.cmpi .ne (Scalar.extui (BitVec.ofBool p) : BitVec 32) 0#32 = 1#1) ↔ p = true := by decide
  show (Scalar.cmpi .ne (Scalar.extui (BitVec.ofBool (w.sle (BitVec.ofNat 32 (i 0).val))) : BitVec 32) 0#32 = 1#1)
    ↔ ¬ (Scalar.cmpi .ne (Scalar.extui (BitVec.ofBool ((BitVec.ofNat 32 (i 0).val).slt w)) : BitVec 32) 0#32 = 1#1)
  rw [key, key]
  simp only [BitVec.sle, BitVec.slt, decide_eq_true_eq]
  omega

/-- What a point leaves in the output's buffer. -/
def left (i : grid0.Coords) (w : BitVec 32) (x0 : Vec F S256x1024 .f32) (x1 x2 : Vec F S1x1024x1024 .bf16) (x3 x4 : Vec F S1x1x1024 .f32)
    (x5 : Vec F S1x1024x1024 .bf16) (x6 : Vec F S1x1x1024 .f32) : Vec F S256x1024 .f32 :=
  if k0_cond1 i w = 1#1 then k0_pay1 (k0_pay3 x0 x1 x3 x2 x4 x5) x6 else k0_pay2 (F := F)

/-- A block written whole reads back. -/
theorem read_store (v : View sig .tc .vmem S256x1024 .f32) (f : v.ty.Contents (Elt F)) (inb) (x : S256x1024.Idx → Elt F .f32) :
    v.read (Elt F) (v.writes (Elt F) f [⟨Rect.unit (s := S256x1024) ![0, 0] S256x1024.size inb, x⟩]) = x := by
  funext y
  have h := View.read_writes_cons_emb v f (Rect.unit (s := S256x1024) ![0, 0] S256x1024.size inb) x [] y
  have e : (Rect.unit (s := S256x1024) ![0, 0] S256x1024.size inb).emb y = y := funext fun a => Fin.ext (by
    match a with
    | ⟨0, _⟩ => show 0 + 1 * (y 0).val = (y 0).val; omega
    | ⟨1, _⟩ => show 0 + 1 * (y 1).val = (y 1).val; omega)
  rwa [e] at h

set_option maxHeartbeats 8000000 in
/-- The body at a point in use. -/
theorem body_used (c : Dev nD) (i : grid0.Coords)
    (arg4 : Memref sig .tc .vmem S256x1024 .f32) (harg4 : arg4.IsWhole) (arg5 : Memref sig .tc .vmem S1x1024x1024 .bf16) (harg5 : arg5.IsWhole)
    (arg6 : Memref sig .tc .vmem S1x1024x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024x1024 .bf16) (harg9 : arg9.IsWhole)
    (arg10 : Memref sig .tc .vmem S1x1x1024 .f32) (harg10 : arg10.IsWhole) (arg11 : Memref sig .tc .vmem S256x1024 .f32) (harg11 : arg11.IsWhole)
    (T0 T1 : S320.Idx → Elt F .i32) (T2 : S1.Idx → Elt F .i32)
    (x0 : Vec F S256x1024 .f32) (x1 x2 : Vec F S1x1024x1024 .bf16) (x3 x4 : Vec F S1x1x1024 .f32)
    (x5 : Vec F S1x1024x1024 .bf16) (x6 : Vec F S1x1x1024 .f32)
    (h1 : k0_cond1 i (View.readAt (Elt F) tab2.view (Rect.unit (s := S1) ![0] S1.size inb_S1_S1_0).toLoadRect T2 (Shape.Idx.first (numel1_S1.symm ▸ Nat.one_pos))) = 1#1) (h2 : ¬(k0_cond2 i (View.readAt (Elt F) tab2.view (Rect.unit (s := S1) ![0] S1.size inb_S1_S1_0).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
        ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
        ∗ (arg10.view.loc (c : Thread nD τ) ↦[arg10.view.set]{fullShare} arg10.view.rep x6)
        ∗ (tab0.view.loc (c : Thread nD τ) ↦{fullShare.right} T0)
        ∗ (tab1.view.loc (c : Thread nD τ) ↦{fullShare.right} T1)
        ∗ (tab2.view.loc (c : Thread nD τ) ↦{fullShare.right} T2)
        ∗ (∃ d, owns (c : Thread nD τ) arg11 fullShare d)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
            ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
            ∗ (arg10.view.loc (c : Thread nD τ) ↦[arg10.view.set]{fullShare} arg10.view.rep x6)
            ∗ (tab0.view.loc (c : Thread nD τ) ↦{fullShare.right} T0)
            ∗ (tab1.view.loc (c : Thread nD τ) ↦{fullShare.right} T1)
            ∗ (tab2.view.loc (c : Thread nD τ) ↦{fullShare.right} T2)
            ∗ owns (c : Thread nD τ) arg11 fullShare (k0_pay1 (k0_pay3 x0 x1 x3 x2 x4 x5) x6)) -∗ K ⟨⟩))
      ⊢ wp frame (wpE (defs₀ (F := F)) Variants.none c none) Set.univ (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11) K := by
  unfold owns
  rw [cc0_experts_eq_skeleton]; unfold cc0_experts_skel
  iintro ⟨H0, H1, H2, H3, H4, H5, H6, HT0, HT1, HT2, ⟨%d7, %f7, -, HO7⟩, Hk⟩
  have hT0 : tab0.IsWhole := Memref.isWhole_whole _
  have hT1 : tab1.IsWhole := Memref.isWhole_whole _
  have hT2 : tab2.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iexists _; isplitr; swap
  · iexact HO7
  · ipureintro
    refine (read_store arg11.view _ _ _).trans ?_
    show k0_pay1 (k0_pay3 (View.readAt (Elt F) arg4.view (Rect.unit (s := S256x1024) ![0, 0] S256x1024.size inb_S256x1024_S256x1024_0_0).toLoadRect (arg4.view.rep x0))
      (View.readAt (Elt F) arg5.view (Rect.unit (s := S1x1024x1024) ![0, 0, 0] S1x1024x1024.size inb_S1x1024x1024_S1x1024x1024_0_0_0).toLoadRect (arg5.view.rep x1))
      (View.readAt (Elt F) arg7.view (Rect.unit (s := S1x1x1024) ![0, 0, 0] S1x1x1024.size inb_S1x1x1024_S1x1x1024_0_0_0).toLoadRect (arg7.view.rep x3))
      (View.readAt (Elt F) arg6.view (Rect.unit (s := S1x1024x1024) ![0, 0, 0] S1x1024x1024.size inb_S1x1024x1024_S1x1024x1024_0_0_0).toLoadRect (arg6.view.rep x2))
      (View.readAt (Elt F) arg8.view (Rect.unit (s := S1x1x1024) ![0, 0, 0] S1x1x1024.size inb_S1x1x1024_S1x1x1024_0_0_0).toLoadRect (arg8.view.rep x4))
      (View.readAt (Elt F) arg9.view (Rect.unit (s := S1x1024x1024) ![0, 0, 0] S1x1024x1024.size inb_S1x1024x1024_S1x1024x1024_0_0_0).toLoadRect (arg9.view.rep x5)))
      (View.readAt (Elt F) arg10.view (Rect.unit (s := S1x1x1024) ![0, 0, 0] S1x1x1024.size inb_S1x1x1024_S1x1x1024_0_0_0).toLoadRect (arg10.view.rep x6)) = _
    rw [View.readAt_rep_full, View.readAt_rep_full, View.readAt_rep_full, View.readAt_rep_full, View.readAt_rep_full, View.readAt_rep_full, View.readAt_rep_full]

set_option maxHeartbeats 8000000 in
/-- The body at a point not in use. -/
theorem body_idle (c : Dev nD) (i : grid0.Coords)
    (arg4 : Memref sig .tc .vmem S256x1024 .f32) (harg4 : arg4.IsWhole) (arg5 : Memref sig .tc .vmem S1x1024x1024 .bf16) (harg5 : arg5.IsWhole)
    (arg6 : Memref sig .tc .vmem S1x1024x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024x1024 .bf16) (harg9 : arg9.IsWhole)
    (arg10 : Memref sig .tc .vmem S1x1x1024 .f32) (harg10 : arg10.IsWhole) (arg11 : Memref sig .tc .vmem S256x1024 .f32) (harg11 : arg11.IsWhole)
    (T0 T1 : S320.Idx → Elt F .i32) (T2 : S1.Idx → Elt F .i32)
    (x0 : Vec F S256x1024 .f32) (x1 x2 : Vec F S1x1024x1024 .bf16) (x3 x4 : Vec F S1x1x1024 .f32)
    (x5 : Vec F S1x1024x1024 .bf16) (x6 : Vec F S1x1x1024 .f32)
    (h1 : ¬(k0_cond1 i (View.readAt (Elt F) tab2.view (Rect.unit (s := S1) ![0] S1.size inb_S1_S1_0).toLoadRect T2 (Shape.Idx.first (numel1_S1.symm ▸ Nat.one_pos))) = 1#1)) (h2 : k0_cond2 i (View.readAt (Elt F) tab2.view (Rect.unit (s := S1) ![0] S1.size inb_S1_S1_0).toLoadRect T2 (Shape.Idx.first (numel1_S1.symm ▸ Nat.one_pos))) = 1#1) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
        ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
        ∗ (arg10.view.loc (c : Thread nD τ) ↦[arg10.view.set]{fullShare} arg10.view.rep x6)
        ∗ (tab0.view.loc (c : Thread nD τ) ↦{fullShare.right} T0)
        ∗ (tab1.view.loc (c : Thread nD τ) ↦{fullShare.right} T1)
        ∗ (tab2.view.loc (c : Thread nD τ) ↦{fullShare.right} T2)
        ∗ (∃ d, owns (c : Thread nD τ) arg11 fullShare d)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
            ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
            ∗ (arg10.view.loc (c : Thread nD τ) ↦[arg10.view.set]{fullShare} arg10.view.rep x6)
            ∗ (tab0.view.loc (c : Thread nD τ) ↦{fullShare.right} T0)
            ∗ (tab1.view.loc (c : Thread nD τ) ↦{fullShare.right} T1)
            ∗ (tab2.view.loc (c : Thread nD τ) ↦{fullShare.right} T2)
            ∗ owns (c : Thread nD τ) arg11 fullShare (k0_pay2 (F := F))) -∗ K ⟨⟩))
      ⊢ wp frame (wpE (defs₀ (F := F)) Variants.none c none) Set.univ (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11) K := by
  unfold owns
  rw [cc0_experts_eq_skeleton]; unfold cc0_experts_skel
  iintro ⟨H0, H1, H2, H3, H4, H5, H6, HT0, HT1, HT2, ⟨%d7, %f7, -, HO7⟩, Hk⟩
  have hT0 : tab0.IsWhole := Memref.isWhole_whole _
  have hT1 : tab1.IsWhole := Memref.isWhole_whole _
  have hT2 : tab2.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iexists _; isplitr; swap
  · iexact HO7
  · ipureintro
    exact read_store arg11.view _ _ _

end Cert.ExpertsIdeal.Tables

end
-- ==== Proof.ExpertsIdeal.Launch.lean ====
/-
  The expert kernel (`ExpertsIdeal`, floats in any format) from any memory whose tables hold admissible contents `a`: the run of the
  whole grid, with every array's final contents.
-/
module

public import proofs.«01_k».proof.Proof.ExpertsIdeal.Body

@[expose] public section

set_option maxRecDepth 16384
set_option Elab.async false

noncomputable section

namespace Cert.ExpertsIdeal.Tables

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells, embedded whole. -/
abbrev emb : Emb (UR sig nD τ) 𝕄 := emb₁

variable (a : (pcfg0 (F := F)).Adm)

/-- The pipeline at the tables' contents `a`. -/
abbrev cfg : Pipeline.Cfg sig Λ₀ := cfg0 (F := F) a
abbrev cfgs : Fin 1 → Pipeline.Cfg sig Λ₀ := Pipeline.pin (pcfgs (F := F)) fun _ => a

/-- A point's coordinates. -/
abbrev at_ (t : Fin (cfg a).N) : (cfg a).grid.Coords := (cfg a).grid.coords t

variable (m : (ℓ : Loc nD τ sig) → Buf (Elt F) ℓ) (ρ : Dev nD → PrngReg)

/-- The output's window is written at every point: one of the two conditions holds. -/
theorem idle_out (t : Fin (cfg a).N) : (cfg a).idle (7 : Fin 8) (at_ a t) = false := by
  show (!(k0_cond1 (at_ a t) _ == 1#1) && !(k0_cond2 (at_ a t) _ == 1#1)) = false
  by_cases h : k0_cond1 (at_ a t) (a.1.atD 2 ![0]) = 1#1
  · simp [h]
  · simp [(cond_or (at_ a t) _).mpr h]

/-- Each window's current staging buffer at a point, and its wholeness. -/
abbrev st0 (t : Fin (cfg a).N) : Memref sig .tc .vmem S256x1024 .f32 := spec0_0.stage ((cfg a).slots t (0 : Fin 8))
abbrev hst0 (t : Fin (cfg a).N) : (st0 a t).IsWhole := hstage0_0 (((cfg a).slots t (0 : Fin 8)).cast nbuf0_0)
abbrev st1 (t : Fin (cfg a).N) : Memref sig .tc .vmem S1x1024x1024 .bf16 := spec0_1.stage ((cfg a).slots t (1 : Fin 8))
abbrev hst1 (t : Fin (cfg a).N) : (st1 a t).IsWhole := hstage0_1 (((cfg a).slots t (1 : Fin 8)).cast nbuf0_1)
abbrev st2 (t : Fin (cfg a).N) : Memref sig .tc .vmem S1x1024x1024 .bf16 := spec0_2.stage ((cfg a).slots t (2 : Fin 8))
abbrev hst2 (t : Fin (cfg a).N) : (st2 a t).IsWhole := hstage0_2 (((cfg a).slots t (2 : Fin 8)).cast nbuf0_2)
abbrev st3 (t : Fin (cfg a).N) : Memref sig .tc .vmem S1x1x1024 .f32 := spec0_3.stage ((cfg a).slots t (3 : Fin 8))
abbrev hst3 (t : Fin (cfg a).N) : (st3 a t).IsWhole := hstage0_3 (((cfg a).slots t (3 : Fin 8)).cast nbuf0_3)
abbrev st4 (t : Fin (cfg a).N) : Memref sig .tc .vmem S1x1x1024 .f32 := spec0_4.stage ((cfg a).slots t (4 : Fin 8))
abbrev hst4 (t : Fin (cfg a).N) : (st4 a t).IsWhole := hstage0_4 (((cfg a).slots t (4 : Fin 8)).cast nbuf0_4)
abbrev st5 (t : Fin (cfg a).N) : Memref sig .tc .vmem S1x1024x1024 .bf16 := spec0_5.stage ((cfg a).slots t (5 : Fin 8))
abbrev hst5 (t : Fin (cfg a).N) : (st5 a t).IsWhole := hstage0_5 (((cfg a).slots t (5 : Fin 8)).cast nbuf0_5)
abbrev st6 (t : Fin (cfg a).N) : Memref sig .tc .vmem S1x1x1024 .f32 := spec0_6.stage ((cfg a).slots t (6 : Fin 8))
abbrev hst6 (t : Fin (cfg a).N) : (st6 a t).IsWhole := hstage0_6 (((cfg a).slots t (6 : Fin 8)).cast nbuf0_6)
abbrev st7 (t : Fin (cfg a).N) : Memref sig .tc .vmem S256x1024 .f32 := spec0_7.stage ((cfg a).slots t (7 : Fin 8))
abbrev hst7 (t : Fin (cfg a).N) : (st7 a t).IsWhole := hstage0_7 (((cfg a).slots t (7 : Fin 8)).cast nbuf0_7)

/-- A window's block at a point, read off its array at the launch. -/
def blk (c : Dev nD) (w : Fin (cfg a).W) (t : Fin (cfg a).N) : (((cfg a).win w).xblock (at_ a t)).Idx → Elt F ((cfg a).win w).elt :=
  (((cfg a).win w).blk t).view.read (Elt F) ((s₀ m ρ).mem (((cfg a).win w).arr.view.loc (c : Thread nD τ)))

/-- What a point leaves in the output's buffer, from its blocks. -/
def made (c : Dev nD) (t : Fin (cfg a).N) : Vec F S256x1024 .f32 :=
  left (at_ a t) (inUse (a.1 2)) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t)

/-- The body's halves of the tables. -/
def held (c : Dev nD) : sProp 𝕄 :=
  iprop((tab0.view.loc (c : Thread nD τ) ↦{fullShare.right} a.1 0) ∗ (tab1.view.loc (c : Thread nD τ) ↦{fullShare.right} a.1 1) ∗ (tab2.view.loc (c : Thread nD τ) ↦{fullShare.right} a.1 2))

/-- The pipeline's proof data on core `c`. -/
def dats (_ : Fin 1) (c : Dev nD) : Dat τ (Elt F) Unit ℕ (UR sig nD τ) ℕ (cfg a) c where
  A w := (s₀ m ρ).mem (((cfg a).win w).arr.view.loc (c : Thread nD τ))
  after w t := match w with
    | ⟨0, _⟩ => blk a m ρ c (0 : Fin 8) t
    | ⟨1, _⟩ => blk a m ρ c (1 : Fin 8) t
    | ⟨2, _⟩ => blk a m ρ c (2 : Fin 8) t
    | ⟨3, _⟩ => blk a m ρ c (3 : Fin 8) t
    | ⟨4, _⟩ => blk a m ρ c (4 : Fin 8) t
    | ⟨5, _⟩ => blk a m ρ c (5 : Fin 8) t
    | ⟨6, _⟩ => blk a m ρ c (6 : Fin 8) t
    | ⟨7, _⟩ => made a m ρ c t
  Φ _ := held a c
  q _ := fullShare
  owed _ := 0

theorem after0 (c : Dev nD) (t : Fin (cfg a).N) : (dats a m ρ 0 c).after (0 : Fin 8) t = blk a m ρ c (0 : Fin 8) t := rfl
theorem after1 (c : Dev nD) (t : Fin (cfg a).N) : (dats a m ρ 0 c).after (1 : Fin 8) t = blk a m ρ c (1 : Fin 8) t := rfl
theorem after2 (c : Dev nD) (t : Fin (cfg a).N) : (dats a m ρ 0 c).after (2 : Fin 8) t = blk a m ρ c (2 : Fin 8) t := rfl
theorem after3 (c : Dev nD) (t : Fin (cfg a).N) : (dats a m ρ 0 c).after (3 : Fin 8) t = blk a m ρ c (3 : Fin 8) t := rfl
theorem after4 (c : Dev nD) (t : Fin (cfg a).N) : (dats a m ρ 0 c).after (4 : Fin 8) t = blk a m ρ c (4 : Fin 8) t := rfl
theorem after5 (c : Dev nD) (t : Fin (cfg a).N) : (dats a m ρ 0 c).after (5 : Fin 8) t = blk a m ρ c (5 : Fin 8) t := rfl
theorem after6 (c : Dev nD) (t : Fin (cfg a).N) : (dats a m ρ 0 c).after (6 : Fin 8) t = blk a m ρ c (6 : Fin 8) t := rfl
theorem after7 (c : Dev nD) (t : Fin (cfg a).N) : (dats a m ρ 0 c).after (7 : Fin 8) t = made a m ρ c t := rfl

/-! An input's buffer holds its block when the body runs, fetched at that point or not. -/

theorem before0 (c : Dev nD) (t : Fin (cfg a).N) (d) : (dats a m ρ 0 c).before (0 : Fin 8) t d = blk a m ρ c (0 : Fin 8) t :=
  ((dats a m ρ 0 c).before_in_eq_fetched (0 : Fin 8) rfl (fun _ => rfl) (fun _ _ _ => rfl) (fun t => by rw [after0]; unfold Dat.blockOf blk; rfl) t d).trans
    (by unfold Dat.fetched Dat.blockOf blk; rfl)
theorem before1 (c : Dev nD) (t : Fin (cfg a).N) (d) : (dats a m ρ 0 c).before (1 : Fin 8) t d = blk a m ρ c (1 : Fin 8) t :=
  ((dats a m ρ 0 c).before_in_eq_fetched (1 : Fin 8) rfl (fun _ => rfl) (fun _ _ _ => rfl) (fun t => by rw [after1]; unfold Dat.blockOf blk; rfl) t d).trans
    (by unfold Dat.fetched Dat.blockOf blk; rfl)
theorem before2 (c : Dev nD) (t : Fin (cfg a).N) (d) : (dats a m ρ 0 c).before (2 : Fin 8) t d = blk a m ρ c (2 : Fin 8) t :=
  ((dats a m ρ 0 c).before_in_eq_fetched (2 : Fin 8) rfl (fun _ => rfl) (fun _ _ _ => rfl) (fun t => by rw [after2]; unfold Dat.blockOf blk; rfl) t d).trans
    (by unfold Dat.fetched Dat.blockOf blk; rfl)
theorem before3 (c : Dev nD) (t : Fin (cfg a).N) (d) : (dats a m ρ 0 c).before (3 : Fin 8) t d = blk a m ρ c (3 : Fin 8) t :=
  ((dats a m ρ 0 c).before_in_eq_fetched (3 : Fin 8) rfl (fun _ => rfl) (fun _ _ _ => rfl) (fun t => by rw [after3]; unfold Dat.blockOf blk; rfl) t d).trans
    (by unfold Dat.fetched Dat.blockOf blk; rfl)
theorem before4 (c : Dev nD) (t : Fin (cfg a).N) (d) : (dats a m ρ 0 c).before (4 : Fin 8) t d = blk a m ρ c (4 : Fin 8) t :=
  ((dats a m ρ 0 c).before_in_eq_fetched (4 : Fin 8) rfl (fun _ => rfl) (fun _ _ _ => rfl) (fun t => by rw [after4]; unfold Dat.blockOf blk; rfl) t d).trans
    (by unfold Dat.fetched Dat.blockOf blk; rfl)
theorem before5 (c : Dev nD) (t : Fin (cfg a).N) (d) : (dats a m ρ 0 c).before (5 : Fin 8) t d = blk a m ρ c (5 : Fin 8) t :=
  ((dats a m ρ 0 c).before_in_eq_fetched (5 : Fin 8) rfl (fun _ => rfl) (fun _ _ _ => rfl) (fun t => by rw [after5]; unfold Dat.blockOf blk; rfl) t d).trans
    (by unfold Dat.fetched Dat.blockOf blk; rfl)
theorem before6 (c : Dev nD) (t : Fin (cfg a).N) (d) : (dats a m ρ 0 c).before (6 : Fin 8) t d = blk a m ρ c (6 : Fin 8) t :=
  ((dats a m ρ 0 c).before_in_eq_fetched (6 : Fin 8) rfl (fun _ => rfl) (fun _ _ _ => rfl) (fun t => by rw [after6]; unfold Dat.blockOf blk; rfl) t d).trans
    (by unfold Dat.fetched Dat.blockOf blk; rfl)

/-- The body at a point, as the pipeline calls it. -/
abbrev bodyAt (t : Fin (cfg a).N) : Prog (TpuEff nD τ sig (Elt F) Λ₀ .tc) PUnit :=
  cc0_experts (at_ a t) (Memref.whole main_arg0) (Memref.isWhole_whole _) (Memref.whole main_arg1) (Memref.isWhole_whole _) (Memref.whole main_arg2) (Memref.isWhole_whole _) (st0 a t) (hst0 a t) (st1 a t) (hst1 a t) (st2 a t) (hst2 a t) (st3 a t) (hst3 a t) (st4 a t) (hst4 a t) (st5 a t) (hst5 a t) (st6 a t) (hst6 a t) (st7 a t) (hst7 a t)

set_option maxHeartbeats 4000000 in
/-- The body's obligation at a point, by whether the point is in use. -/
theorem sound (c : Dev nD) (t : Fin (cfg a).N) :
    iprop((dats a m ρ 0 c).Φ t.castSucc ∗ (dats a m ρ 0 c).owesAt () t.castSucc
        ∗ (∃ d, owns (c : Thread nD τ) (st0 a t) fullShare ((dats a m ρ 0 c).before (0 : Fin 8) t d))
        ∗ (∃ d, owns (c : Thread nD τ) (st1 a t) fullShare ((dats a m ρ 0 c).before (1 : Fin 8) t d))
        ∗ (∃ d, owns (c : Thread nD τ) (st2 a t) fullShare ((dats a m ρ 0 c).before (2 : Fin 8) t d))
        ∗ (∃ d, owns (c : Thread nD τ) (st3 a t) fullShare ((dats a m ρ 0 c).before (3 : Fin 8) t d))
        ∗ (∃ d, owns (c : Thread nD τ) (st4 a t) fullShare ((dats a m ρ 0 c).before (4 : Fin 8) t d))
        ∗ (∃ d, owns (c : Thread nD τ) (st5 a t) fullShare ((dats a m ρ 0 c).before (5 : Fin 8) t d))
        ∗ (∃ d, owns (c : Thread nD τ) (st6 a t) fullShare ((dats a m ρ 0 c).before (6 : Fin 8) t d))
        ∗ (∃ d, owns (c : Thread nD τ) (st7 a t) fullShare ((dats a m ρ 0 c).before (7 : Fin 8) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  rewrite [idle_out a t]
  simp only [before0, before1, before2, before3, before4, before5, before6, after0, after1, after2, after3, after4, after5, after6, after7]
  rewrite [show (dats a m ρ 0 c).Φ t.succ = held a c from rfl, show (dats a m ρ 0 c).Φ t.castSucc = held a c from rfl,
    show (dats a m ρ 0 c).owesAt () t.succ = (dats a m ρ 0 c).owesAt () t.castSucc from rfl]
  unfold held made left
  by_cases hc : k0_cond1 (at_ a t) (inUse (a.1 2)) = 1#1
  · simp only [if_pos hc]
    have h1 := hc
    have h2 : (¬ k0_cond2 (at_ a t) (inUse (a.1 2)) = 1#1) := fun h => (cond_or _ _).mp h hc
    have hw := word_eq (a.1 2)
    iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_used c (at_ a t) (st0 a t) (hst0 a t) (st1 a t) (hst1 a t) (st2 a t) (hst2 a t) (st3 a t) (hst3 a t) (st4 a t) (hst4 a t) (st5 a t) (hst5 a t) (st6 a t) (hst6 a t) (st7 a t) (hst7 a t) (a.1 0) (a.1 1) (a.1 2) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t) ((congrArg (k0_cond1 (at_ a t)) hw).trans h1) (fun h => h2 ((congrArg (k0_cond2 (at_ a t)) hw).symm.trans h)) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, H7⟩
    isplitl [HT0 HT1 HT2]
    · isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7
  · simp only [if_neg hc]
    have h1 := hc
    have h2 : k0_cond2 (at_ a t) (inUse (a.1 2)) = 1#1 := (cond_or _ _).mpr hc
    have hw := word_eq (a.1 2)
    iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_idle c (at_ a t) (st0 a t) (hst0 a t) (st1 a t) (hst1 a t) (st2 a t) (hst2 a t) (st3 a t) (hst3 a t) (st4 a t) (hst4 a t) (st5 a t) (hst5 a t) (st6 a t) (hst6 a t) (st7 a t) (hst7 a t) (a.1 0) (a.1 1) (a.1 2) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t) (fun h => h1 ((congrArg (k0_cond1 (at_ a t)) hw).symm.trans h)) ((congrArg (k0_cond2 (at_ a t)) hw).trans h2) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, H7⟩
    isplitl [HT0 HT1 HT2]
    · isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7

/-- The library's body obligation, at every point. -/
theorem obligation (c : Dev nD) : BodyObligation (dats a m ρ 0 c) (defs₀ (F := F)) Variants.none () Set.univ := fun t => by
  rw [bigSep_W0]
  exact sound a m ρ c t

/-- The element the staging cells' rounds start from. -/
def start : UR sig nD τ :=
  initOf (Pipeline.cells (cfgs a) ((launch0 (F := F)).cellOf_inj fun _ => a))
    (Pipeline.launchToks (cfgs a) ((launch0 (F := F)).cellOf_inj fun _ => a))

theorem share_full (c : Dev nD) (w : Fin (cfg a).W) : (dats a m ρ 0 c).share w = fullShare := by unfold Dat.share; split <;> rfl

/-- The three tables, as the launch hands them over. -/
theorem tables_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = held a c from rfl]
  unfold held
  iintro ⟨-, ⟨HT0, HT1, HT2⟩, -⟩
  isplitl [HT0]; · iexact HT0
  isplitl [HT1]; · iexact HT1
  iexact HT2

theorem leave (c : Dev nD) : (dats a m ρ 0 c).Φ (Fin.last (cfg a).N) ⊢ iprop(BI.emp ∗ Pipeline.scopedRest spec0 c) := by
  rw [scopedRest0_eq, show (dats a m ρ 0 c).Φ (Fin.last (cfg a).N) = held a c from rfl]
  unfold held
  iintro ⟨-, -, -⟩
  isplitr; · iempintro
  iempintro

/-- The final memory: each array at what the pipeline computes, each table as it was. -/
def Done : PUnit × MemSt nD τ sig (Elt F) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

/-- The launch memory's tables hold `a`. -/
def Holds : Prop := ∀ (c : Dev nD) (j : Fin 3), m ((c : Thread nD τ).loc (pre0.ref j)) = a.1 j

set_option backward.isDefEq.respectTransparency.types false in
set_option maxHeartbeats 4000000 in
/-- From a memory whose tables hold `a`, every execution ends with the arrays as computed and every counter at zero. -/
theorem run (hp : Holds a m) : θ_run (defs (F := F)) (onTc (τ := τ) (main (F := F))) (s₀ m ρ) (fun r => Done a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre emb defs₀ Variants.none m ρ main
    (hbody := fun c => (obligation a m ρ c).loose) (hne := (launch0 (F := F)).block_pos)
    (harr := (launch0 (F := F)).arr_whole) (hstage := (launch0 (F := F)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs a) (dats a m ρ) 0 (launch0 (F := F)).win.arr_inj c (launch0 (F := F)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a final memory says of the argument arrays: they are as they were. -/
theorem kept (hp : Holds a m) {r : PUnit × MemSt nD τ sig (Elt F)} (h : Done a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 0).trans (hp c 0).symm, ((h c).2 1).trans (hp c 1).symm, ((h c).2 2).trans (hp c 2).symm,
    ((h c).1 (0 : Fin 8)).trans ((dats a m ρ 0 c).arrAt_in (0 : Fin 8) rfl _),
    ((h c).1 (1 : Fin 8)).trans ((dats a m ρ 0 c).arrAt_in (1 : Fin 8) rfl _),
    ((h c).1 (2 : Fin 8)).trans ((dats a m ρ 0 c).arrAt_in (2 : Fin 8) rfl _),
    ((h c).1 (3 : Fin 8)).trans ((dats a m ρ 0 c).arrAt_in (3 : Fin 8) rfl _),
    ((h c).1 (4 : Fin 8)).trans ((dats a m ρ 0 c).arrAt_in (4 : Fin 8) rfl _),
    ((h c).1 (5 : Fin 8)).trans ((dats a m ρ 0 c).arrAt_in (5 : Fin 8) rfl _),
    ((h c).1 (6 : Fin 8)).trans ((dats a m ρ 0 c).arrAt_in (6 : Fin 8) rfl _)⟩

end Cert.ExpertsIdeal.Tables

end
-- ==== Proof.ExpertsIdeal.Pre.lean ====
/-
  The precondition `routed`, read: every block's expert is one of the 32 and every block's rows are rows of the buffer
  (so the tables are admissible, `adm`), and a block in use reads its own rows. With it, `ExpertsIdeal` runs and keeps its arguments.
-/
module

public import proofs.«01_k».proof.Proof.ExpertsIdeal.Launch
public import proofs.«01_k».proof.Proof.Gen.Pre_routed
public import proofs.«01_k».proof.Defs
public import Idealize.ShloMosaic.Lib.WordCmp

@[expose] public section

set_option maxRecDepth 16384
set_option Elab.async false

noncomputable section

namespace Cert.ExpertsIdeal.Tables

open Cert.ExpertsIdeal Cert.ExpertsIdeal.Gen
open Idealize.ShloMosaic Idealize.ShloMosaic.WordCmp
open Idealize.SL.Sem

variable {F : FTy → Type} [FloatOps F]

attribute [local instance] Cert.Pre_routed.Gen.facts

/-- What `routed` says of the tables: the experts `e`, the row blocks `x` and the number `n` of blocks in use. -/
def Routed (e x : IVec S320 32) (n : IVec S1 32) : Prop :=
  ∀ j : S320.Idx, (e j).toNat < 32 ∧ (x j).toNat < 320 ∧ ((((j 0).val : ℕ) : Int) < (inUse n).toInt → (x j).toNat = (j 0).val)

/-- A word between `0` and a small bound, as signed numbers, is below the bound as a natural number. -/
theorem below {x : BitVec 32} {k : ℕ} (hk : k < 2 ^ 31) (h0 : (0#32).toInt ≤ x.toInt) (h1 : x.toInt < (BitVec.ofNat 32 k).toInt) : x.toNat < k := by
  have hx : x.toNat < 2 ^ 31 := (toInt_nonneg_iff_lt_half x).1 (by simpa using h0)
  rw [toInt_eq_toNat_of_lt_half hx, toInt_ofNat_of_lt hk] at h1
  omega

theorem routed_of {e x : IVec S320 32} {n : IVec S1 32} (x3) (x4) (x5) (x6) (x7) (x8) (x9)
    (h : Cert.Pre_routed.fn (F := F) e x n x3 x4 x5 x6 x7 x8 x9 = fun _ => 1#1) : Routed e x n := by
  intro j
  have hj : IntOp.andi (IntOp.andi (IntOp.andi (IntOp.andi (IntOp.cmpi .sge (e j) 0#32) (IntOp.cmpi .slt (e j) (BitVec.ofNat 32 32)))
      (IntOp.cmpi .sge (x j) 0#32)) (IntOp.cmpi .slt (x j) (BitVec.ofNat 32 320)))
      (IntOp.ori (IntOp.cmpi .eq (x j) (BitVec.ofNat 32 (j 0).val)) (IntOp.cmpi .sge (BitVec.ofNat 32 (j 0).val) (inUse n))) = 1#1 := by
    have hn : (broadcastInDim S320 ![0] Cert.Pre_routed.Facts.bcast_S1_S320_0 n : IVec S320 32) j = inUse n := congrArg n (by
      funext a; exact Fin.ext (by have := a.isLt; match a with | ⟨0, _⟩ => rfl))
    rw [← hn]
    exact congrFun h j
  have lj : (j 0).val < 320 := (j 0).isLt
  rw [cmpi_sge_eq, cmpi_slt_eq, cmpi_sge_eq, cmpi_slt_eq, cmpi_eq_eq, cmpi_sge_eq, ori_ofBool, andi_ofBool, andi_ofBool, andi_ofBool, andi_ofBool,
    ofBool_eq_one_iff] at hj
  simp only [Bool.and_eq_true, Bool.or_eq_true, decide_eq_true_eq] at hj
  obtain ⟨⟨⟨⟨h1, h2⟩, h3⟩, h4⟩, h5⟩ := hj
  refine ⟨below (by decide) h1 h2, below (by decide) h3 h4, fun hn => ?_⟩
  rcases h5 with h5 | h5
  · rw [h5]; exact toNat_ofNat_of_lt (by omega)
  · rw [toInt_ofNat_of_lt (show (j 0).val < 2 ^ (32 - 1) by omega)] at h5
    omega

/-- The three tables, held together. -/
def tables (e x : IVec S320 32) (n : IVec S1 32) : pre0.Contents (Elt F) := fun
  | ⟨0, _⟩ => e
  | ⟨1, _⟩ => x
  | ⟨2, _⟩ => n
  | ⟨_ + 3, h⟩ => absurd h (by simp)

theorem ok_of {e x : IVec S320 32} {n : IVec S1 32} (h : Routed e x n) : ok0 (F := F) (tables e x n) := by
  have hx : ∀ i : grid0.Coords, ∀ a : Fin 2, (cc0_transform_0 k0_off1_inb numel1_S1 (tables (F := F) e x n) i a + 1) * S256x1024.size a ≤ S81920x1024.size a := fun i a => by
    match a with
    | ⟨0, _⟩ =>
      obtain ⟨j, hj⟩ : ∃ j, cc0_transform_0 k0_off1_inb numel1_S1 (tables (F := F) e x n) i (⟨0, by decide⟩ : Fin _) = (x j).toNat := ⟨_, rfl⟩
      have := (h j).2.1
      show (cc0_transform_0 k0_off1_inb numel1_S1 (tables (F := F) e x n) i (⟨0, by decide⟩ : Fin _) + 1) * 256 ≤ 81920
      omega
    | ⟨1, _⟩ => exact (by decide : (0 + 1) * 1024 ≤ 1024)
  have hm : ∀ i : grid0.Coords, ∀ a : Fin 3, (cc0_transform_1 k0_off1_inb numel1_S1 (tables (F := F) e x n) i a + 1) * S1x1024x1024.size a ≤ S32x1024x1024.size a := fun i a => by
    match a with
    | ⟨0, _⟩ =>
      obtain ⟨j, hj⟩ : ∃ j, cc0_transform_1 k0_off1_inb numel1_S1 (tables (F := F) e x n) i (⟨0, by decide⟩ : Fin _) = (e j).toNat := ⟨_, rfl⟩
      have := (h j).1
      show (cc0_transform_1 k0_off1_inb numel1_S1 (tables (F := F) e x n) i (⟨0, by decide⟩ : Fin _) + 1) * 1 ≤ 32
      omega
    | ⟨1, _⟩ => exact (by decide : (0 + 1) * 1024 ≤ 1024)
    | ⟨2, _⟩ => exact (by decide : (0 + 1) * 1024 ≤ 1024)
  have hv : ∀ i : grid0.Coords, ∀ a : Fin 3, (cc0_transform_3 k0_off1_inb numel1_S1 (tables (F := F) e x n) i a + 1) * S1x1x1024.size a ≤ S32x1x1024.size a := fun i a => by
    match a with
    | ⟨0, _⟩ =>
      obtain ⟨j, hj⟩ : ∃ j, cc0_transform_3 k0_off1_inb numel1_S1 (tables (F := F) e x n) i (⟨0, by decide⟩ : Fin _) = (e j).toNat := ⟨_, rfl⟩
      have := (h j).1
      show (cc0_transform_3 k0_off1_inb numel1_S1 (tables (F := F) e x n) i (⟨0, by decide⟩ : Fin _) + 1) * 1 ≤ 32
      omega
    | ⟨1, _⟩ => exact (by decide : (0 + 1) * 1 ≤ 1)
    | ⟨2, _⟩ => exact (by decide : (0 + 1) * 1024 ≤ 1024)
  exact ⟨fun i => ⟨hx i, .inl rfl⟩, fun i => ⟨hm i, .inr (Affine.block_words_dvd (s := S32x1024x1024) (p := EltTy.packing .bf16) (by decide) (by decide))⟩,
    fun i => ⟨hm i, .inr (Affine.block_words_dvd (s := S32x1024x1024) (p := EltTy.packing .bf16) (by decide) (by decide))⟩,
    fun i => ⟨hv i, .inl rfl⟩, fun i => ⟨hv i, .inl rfl⟩,
    fun i => ⟨hm i, .inr (Affine.block_words_dvd (s := S32x1024x1024) (p := EltTy.packing .bf16) (by decide) (by decide))⟩, fun i => ⟨hv i, .inl rfl⟩⟩

variable (m : (ℓ : Loc nD τ sig) → Buf (Elt F) ℓ)

/-- The tables in memory on the one device. -/
abbrev e_ : IVec S320 32 := m (((0 : Dev nD).tc : Thread nD τ).loc main_arg0)
abbrev x_ : IVec S320 32 := m (((0 : Dev nD).tc : Thread nD τ).loc main_arg1)
abbrev n_ : IVec S1 32 := m (((0 : Dev nD).tc : Thread nD τ).loc main_arg2)

theorem one_dev (c : Dev nD) : c = 0 := by
  match c with
  | ⟨0, _⟩ => rfl

/-- The precondition on the arrays of a memory, floats in any format. -/
abbrev RoutedMem : Prop := ∀ c : Dev nD,
  Cert.Pre_routed.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

theorem routed_mem (h : RoutedMem m) : Routed (e_ m) (x_ m) (n_ m) := routed_of _ _ _ _ _ _ _ (h 0)

/-- Memory's tables, admissible. -/
def adm (h : RoutedMem m) : (pcfg0 (F := F)).Adm := ⟨tables (e_ m) (x_ m) (n_ m), ok_of (routed_mem m h)⟩

theorem holds (h : RoutedMem m) : Holds (adm m h) m := fun c j => by
  obtain rfl := one_dev c
  match j with
  | ⟨0, _⟩ => rfl
  | ⟨1, _⟩ => rfl
  | ⟨2, _⟩ => rfl

attribute [local instance] Cert.ExpertsIdeal.Gen.facts

/-- A memory holds the arguments of `m`. -/
abbrev Kept (μ : (ℓ : Loc nD τ sig) → Buf (Elt F) ℓ) : Prop := ∀ c : Dev nD,
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)

/-- Every run ends with the arguments kept and no signal outstanding, floats in any format. -/
theorem quiesces (g : Dev nD → PrngReg) (h : RoutedMem m) :
    θ_run (defs (F := F)) (onTc (τ := τ) (main (F := F))) ⟨m, fun _ => 0, g⟩ (fun r => Kept m r.2.mem ∧ r.2.sem = fun _ => 0) :=
  (θ_run _ _ _).mono (fun r hr => ⟨fun c => kept (adm m h) m g (holds m h) hr.1 c, hr.2⟩) (run (adm m h) m g (holds m h))

/-- The frame claim. -/
theorem quiescent : quiescent_ExpertsIdeal := fun m g h => quiesces m g h

end Cert.ExpertsIdeal.Tables

end
-- ==== Proof.Experts.Pre.lean ====
/-
  The expert program with its floats as stored words is the same program as the one at the extended reals, written with its
  float format open: its runs are therefore those already read.
-/
module

public import proofs.«01_k».proof.Proof.ExpertsIdeal.Pre
public import proofs.«01_k».proof.Proof.Gen.Experts.Launch

@[expose] public section

set_option maxRecDepth 16384
set_option maxHeartbeats 1000000

noncomputable section

namespace Cert.Experts.Tables

open Idealize.ShloMosaic Idealize.SL.Sem

attribute [local instance] Cert.Experts.Gen.facts Cert.ExpertsIdeal.Gen.facts Cert.Pre_routed.Gen.facts

variable {F : FTy → Type} [FloatOps F]

theorem body_eq : Cert.Experts.defs₀ (F := F) = Cert.ExpertsIdeal.defs₀ (F := F) := by
  unfold Cert.Experts.defs₀ Cert.ExpertsIdeal.defs₀
  refine congrArg Defs.onTc ?_
  funext l a
  match l, a with
  | 0, (t, s) => rfl

theorem defs_eq : Cert.Experts.defs (F := F) = Cert.ExpertsIdeal.defs (F := F) :=
  congrArg (Pipeline.defs (Cert.Experts.pcfgs (F := F))) body_eq

theorem main_eq : Cert.Experts.main (F := F) = Cert.ExpertsIdeal.main (F := F) := rfl

/-- The frame claim. -/
theorem quiescent : quiescent_Experts := fun m g h => by
  rw [defs_eq, main_eq]
  exact Cert.ExpertsIdeal.Tables.quiesces (F := Bits) m g h

end Cert.Experts.Tables

end
-- ==== Proof.Expert.lean ====
/-
  One expert on one row, over the extended reals: two products and their biases, the clipped gated activation, a third
  product and its bias. And the reference's take of an expert's arrays, read at an index.
-/
module

public import proofs.«01_k».proof.Proof.Head
public import Idealize.ShloMosaic.Lib.IdealHost

@[expose] public section

noncomputable section

namespace Cert.Expert

open Cert.Row Idealize.ShloMosaic Idealize.ShloMosaic.ValueIdx

/-- The clip's bounds, the sigmoid's scale and the one added to the linear half, as the programs print them. -/
def seven : EReal := FloatOps.ofBits (F := Ideal) .f32 0x40E00000#32
def negSeven : EReal := FloatOps.ofBits (F := Ideal) .f32 0xC0E00000#32
def alpha : EReal := FloatOps.ofBits (F := Ideal) .f32 0x3FD9DB23#32
def one : EReal := FloatOps.ofBits (F := Ideal) .f32 0x3F800000#32

/-- The printed one is one. -/
theorem one_eq : one = 1 := Ideal.ofBits_one_f32

/-- The gated activation of a gate `g` and a linear half `l`. -/
def act (g l : EReal) : EReal :=
  min g seven * Ideal.logistic (alpha * min g seven) * (min seven (max negSeven l) + one)

/-- The activations of one row. -/
def hidden (x : Fin 1024 → EReal) (wa wb : Fin 1024 → Fin 1024 → EReal) (ba bb : Fin 1024 → EReal) (f : Fin 1024) : EReal :=
  act (dot x (fun k => wa k f) + ba f) (dot x (fun k => wb k f) + bb f)

/-- One expert's output on one row. -/
def out (x : Fin 1024 → EReal) (wa wb : Fin 1024 → Fin 1024 → EReal) (ba bb : Fin 1024 → EReal) (wc : Fin 1024 → Fin 1024 → EReal)
    (bc : Fin 1024 → EReal) (c : Fin 1024) : EReal :=
  dot (hidden x wa wb ba bb) (fun k => wc k c) + bc c

/-- The expert a word names, clipped to the experts there are. -/
def pick (w : BitVec 32) : Fin 32 := ⟨min w.toInt.toNat 31, by omega⟩

theorem pick_val {w : BitVec 32} (h : w.toNat < 32) : (pick w).val = w.toNat := by
  show min w.toInt.toNat 31 = w.toNat
  rw [BitVec.toInt_eq_toNat_cond]
  split <;> omega

/-- The expert's arrays. -/
abbrev Mats : Shape := ⟨3, ![32, 1024, 1024]⟩
abbrev Vecs : Shape := ⟨3, ![32, 1, 1024]⟩

/-- One row of the result: the row's expert where the row's block is in use, zero elsewhere. -/
def row (used : Prop) [Decidable used] (e : Fin 32) (x : Fin 1024 → EReal) (wa wb : Mats.Idx → EReal) (ba bb : Vecs.Idx → EReal)
    (wc : Mats.Idx → EReal) (bc : Vecs.Idx → EReal) (c : Fin 1024) : EReal :=
  if used then out x (fun k f => wa (ix3 e k f)) (fun k f => wb (ix3 e k f)) (fun f => ba (ix3 e 0 f)) (fun f => bb (ix3 e 0 f))
    (fun k f => wc (ix3 e k f)) (fun f => bc (ix3 e 0 f)) c else 0

section Take
variable {α : Type} {R C n : ℕ}

/-- The take of whole matrices by a vector of positions, read at an index: the position clipped to the 32 there are. -/
theorem take_apply (d : GatherDims ⟨3, ![32, R, C]⟩ ⟨2, ![n, 1]⟩ ⟨3, ![n, R, C]⟩) (ho : d.offsetDims = [1, 2]) (hc : d.collapsedSliceDims = [0])
    (hb : d.operandBatchingDims = []) (hsb : d.startIndicesBatchingDims = []) (hm : d.startIndexMap = [0]) (hv : d.indexVectorDim = 1)
    (hs : d.sliceSizes = ![1, R, C]) (x : (⟨3, ![32, R, C]⟩ : Shape).Idx → α) (idx : IVec ⟨2, ![n, 1]⟩ 32) (j : Fin n) (a : Fin R) (b : Fin C) :
    Host.gather d x idx (ix3 j a b) = x (ix3 (pick (idx (ix2 j 0))) a b) := by
  obtain ⟨od, cd, ob, sb, sm, iv, ss, wf⟩ := d
  simp only at ho hc hb hsb hm hv hs
  subst ho hc hb hsb hm hv hs
  unfold Host.gather
  congr 1
  funext k
  refine Fin.ext ?_
  show GatherDims.start _ (ix3 j a b) idx k + GatherDims.batchCoord _ (ix3 j a b) k + GatherDims.offCoord _ (ix3 j a b) k = _
  rw [GatherDims.batchCoord_eq_zero _ _ _ (fun h => by simp at h), Nat.add_zero]
  match k with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 3) ∈ [(0 : Fin 3)] from List.mem_singleton.mpr rfl)).trans ?_
    show min (idx _).toInt.toNat 31 = min (idx _).toInt.toNat 31
    congr 4
    funext c
    refine Fin.ext ?_
    match c with
    | ⟨0, _⟩ => rfl
    | ⟨1, _⟩ => rfl
  | ⟨1, _⟩ =>
    unfold GatherDims.start
    refine (congrArg (· + _) (dif_neg (show (1 : Fin 3) ∉ [(0 : Fin 3)] by decide))).trans ((Nat.zero_add _).trans ?_)
    rfl
  | ⟨2, _⟩ =>
    unfold GatherDims.start
    refine (congrArg (· + _) (dif_neg (show (2 : Fin 3) ∉ [(0 : Fin 3)] by decide))).trans ((Nat.zero_add _).trans ?_)
    rfl

end Take

end Cert.Expert

end
-- ==== Proof.ExpertsIdeal.Value.lean ====
/-
  The expert kernel's result array as one function of its arguments, at the extended reals: a block in use holds the rows'
  experts, any other block zeros, and the blocks cover the array.
-/
module

public import proofs.«01_k».proof.Proof.ExpertsIdeal.Pre
public import proofs.«01_k».proof.Proof.Expert
public import Idealize.ShloMosaic.Lib.ValueLayout

@[expose] public section

set_option maxRecDepth 16384
set_option Elab.async false

noncomputable section

namespace Cert.ExpertsIdeal.Tables

open Cert.ExpertsIdeal Cert.ExpertsIdeal.Gen
open Idealize.ShloMosaic Idealize.ShloMosaic.TcCoe Idealize.ShloMosaic.ValueIdx
open Idealize.ShloMosaic.Pipeline (Dat)

/-! ### A block -/

section Block
variable (x0 : Vec Ideal S256x1024 .f32) (x1 x2 : Vec Ideal S1x1024x1024 .bf16) (x3 x4 : Vec Ideal S1x1x1024 .f32)
  (x5 : Vec Ideal S1x1024x1024 .bf16) (x6 : Vec Ideal S1x1x1024 .f32)

theorem bias_apply (b : Vec Ideal S1x1x1024 .f32) (r : Fin 256) (f : Fin 1024) :
    broadcastTo S256x1024 (shapeCast S1x1024 b shapeCasts_S1x1x1024_S1x1024) broadcasts_S1x1024_S256x1024 (ix2 r f) = b (ix3 (0 : Fin 1) (0 : Fin 1) f) := by
  rw [broadcastTo_1b_ab_apply, shapeCast_1ab_ab_apply]

theorem product_apply (y : FVec Ideal S256x1024 .bf16) (w : Vec Ideal S1x1024x1024 .bf16) (r : Fin 256) (f : Fin 1024) :
    matmul dot_S256x1024_S1024x1024_S256x1024_1_0_0_1_n_n none y (shapeCast S1024x1024 w shapeCasts_S1x1024x1024_S1024x1024 : FVec Ideal S1024x1024 .bf16)
        (constant S256x1024 .f32 0x00000000#32) (ix2 r f)
      = Row.dot (fun k : Fin 1024 => y (ix2 r k)) (fun k : Fin 1024 => w (ix3 (0 : Fin 1) k f)) := by
  refine (Row.mixed_apply _ rfl y _ r f).trans ?_
  unfold Row.dot
  refine Finset.sum_congr rfl fun k _ => ?_
  rw [shapeCast_1ab_ab_apply]

/-- The value a block in use stores, read at an index. -/
theorem stored_apply (r : Fin 256) (c : Fin 1024) : k0_pay1 (k0_pay3 x0 x1 x3 x2 x4 x5) x6 (ix2 r c)
    = Expert.out (fun k => x0 (ix2 r k)) (fun k f => x1 (ix3 (0 : Fin 1) k f)) (fun k f => x2 (ix3 (0 : Fin 1) k f)) (fun f => x3 (ix3 (0 : Fin 1) (0 : Fin 1) f))
        (fun f => x4 (ix3 (0 : Fin 1) (0 : Fin 1) f)) (fun k f => x5 (ix3 (0 : Fin 1) k f)) (fun f => x6 (ix3 (0 : Fin 1) (0 : Fin 1) f)) c := by
  unfold k0_pay1 k0_pay3 Expert.out
  rw [addf_apply, bias_apply]
  refine congrArg (· + _) ((product_apply _ x5 r c).trans ?_)
  congr 1
  funext f
  unfold Expert.hidden Expert.act
  have eg := product_apply (truncf .bf16 x0 bitsLt_bf16_f32) x1 r f
  have el := product_apply (truncf .bf16 x0 bitsLt_bf16_f32) x2 r f
  have bg := bias_apply x3 r f
  have bl := bias_apply x4 r f
  simp only [truncf_apply] at eg el ⊢
  rw [← bg, ← bl]
  rw [show Row.dot (fun k : Fin 1024 => x0 (ix2 r k)) (fun k => x1 (ix3 (0 : Fin 1) k f)) = _ from eg.symm,
    show Row.dot (fun k : Fin 1024 => x0 (ix2 r k)) (fun k => x2 (ix3 (0 : Fin 1) k f)) = _ from el.symm]
  rfl

end Block

/-- A point's block is in use when its number is below the third table's. -/
theorem cond_iff (i : grid0.Coords) (w : BitVec 32) : k0_cond1 i w = 1#1 ↔ (((i 0).val : ℕ) : Int) < w.toInt := by
  have key : ∀ p : Bool, (Scalar.cmpi .ne (Scalar.extui (BitVec.ofBool p) : BitVec 32) 0#32 = 1#1) ↔ p = true := by decide
  have hi : (i 0).val < 320 := (i 0).isLt
  show (Scalar.cmpi .ne (Scalar.extui (BitVec.ofBool ((BitVec.ofNat 32 (i 0).val).slt w)) : BitVec 32) 0#32 = 1#1) ↔ _
  rw [key]
  simp only [BitVec.slt, decide_eq_true_eq]
  rw [WordCmp.toInt_ofNat_of_lt (show (i 0).val < 2 ^ (32 - 1) by omega)]

/-! ### The array -/

/-- The block a row of the array lies in. -/
def blockOf (i : Fin 81920) : Fin 320 := ⟨i.val / 256, by omega⟩

/-- The result as a function of the arguments: every row its block's expert, or zero. -/
def result (e : IVec S320 32) (n : IVec S1 32) (xb : S81920x1024.Idx → EReal) (wa wb : Expert.Mats.Idx → EReal) (ba bb : Expert.Vecs.Idx → EReal)
    (wc : Expert.Mats.Idx → EReal) (bc : Expert.Vecs.Idx → EReal) (i : S81920x1024.Idx) : EReal :=
  Expert.row ((((blockOf (i 0)).val : ℕ) : Int) < (inUse n).toInt) (Expert.pick (e (ix1 (blockOf (i 0))))) (fun k => xb (ix2 (i 0) k)) wa wb ba bb wc bc (i 1)

section Array
variable (a : (pcfg0 (F := Ideal)).Adm) (m : (ℓ : Loc nD τ sig) → Buf (Elt Ideal) ℓ) (ρ : Dev nD → PrngReg) (c : Dev nD)

/-- The block a point works on. -/
def num (t : Fin (cfg a).N) : Fin 320 := ⟨t.val, t.isLt⟩

theorem coord_eq : ∀ t : Fin grid0.N, ((grid0.coords t) 0).val = t.val ∧ k0_off1 (grid0.coords t) 0 = t.val :=
  (by decide +kernel : ∀ t : Fin grid0.N, ((grid0.coords t) 0).val = t.val ∧ k0_off1 (grid0.coords t) 0 = t.val)

theorem index_out : ∀ t : Fin (cfg a).N, ((cfg a).win (7 : Fin 8)).index t (0 : Fin 2) = t.val ∧ ((cfg a).win (7 : Fin 8)).index t (1 : Fin 2) = 0 := fun t =>
  (by decide +kernel : ∀ t : Fin grid0.N, cc0_transform_7 (grid0.coords t) 0 = t.val ∧ cc0_transform_7 (grid0.coords t) 1 = 0) t

/-- The place of a table a point's index maps read. -/
theorem slot_eq (t : Fin grid0.N) (h) : (Rect.unit (s := S320) (k0_off1 (grid0.coords t)) S1.size (k0_off1_inb (grid0.coords t))).emb (Shape.Idx.first h) = ix1 (⟨t.val, t.isLt⟩ : Fin 320) := by
  funext k
  apply Fin.ext
  match k with
  | ⟨0, _⟩ => exact (Nat.add_zero _).trans (coord_eq t).2

theorem index_rows (t : Fin (cfg a).N) : ((cfg a).win (0 : Fin 8)).index t (0 : Fin 2) = (a.1 1 (ix1 (num a t))).toNat :=
  congrArg (fun j => (a.1 1 j).toNat) (slot_eq t _)

theorem index_expert1 (t : Fin (cfg a).N) : ((cfg a).win (1 : Fin 8)).index t (0 : Fin 3) = (a.1 0 (ix1 (num a t))).toNat :=
  congrArg (fun j => (a.1 0 j).toNat) (slot_eq t _)

/-- A point's block of rows, read at an index. -/
theorem rows_apply (hr : Routed (a.1 0) (a.1 1) (a.1 2)) (t : Fin (cfg a).N) (r : Fin 256) (k : Fin 1024) (h : ((a.1 1 (ix1 (num a t)))).toNat = t.val) (row : Fin 81920)
    (hrow : row.val = t.val * 256 + r.val) :
    (blk a m ρ c (0 : Fin 8) t : Vec Ideal S256x1024 .f32) (ix2 r k) = m ((c : Thread nD τ).loc main_arg3) (ix2 row k) := by
  have e := index_rows a t
  unfold blk
  rw [View.read_apply]
  show m (c.tc.loc main_arg3) _ = m (c.tc.loc main_arg3) _
  congr 1
  funext b
  apply Fin.ext
  match b with
  | ⟨0, _⟩ => show ((cfg a).win (0 : Fin 8)).index t (0 : Fin 2) * 256 + 1 * r.val = row.val; rw [e, h, hrow]; omega
  | ⟨1, _⟩ => show 0 * 1024 + 1 * k.val = k.val; omega

/-- The expert a point's block is given. -/
abbrev exp (t : Fin (cfg a).N) : Fin 32 := Expert.pick (a.1 0 (ix1 (num a t)))

/-! A point's blocks of its expert's arrays, read at an index. -/

theorem gateMat_apply (hr : Routed (a.1 0) (a.1 1) (a.1 2)) (t : Fin (cfg a).N) (k f : Fin 1024) :
    (blk a m ρ c (1 : Fin 8) t : Vec Ideal S1x1024x1024 .bf16) (ix3 (0 : Fin 1) k f) = m ((c : Thread nD τ).loc main_arg4) (ix3 (exp a t) k f) := by
  have e : ((cfg a).win (1 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg4) _ = m (c.tc.loc main_arg4) _
  congr 1
  funext b
  apply Fin.ext
  match b with
  | ⟨0, _⟩ => show ((cfg a).win (1 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem linMat_apply (hr : Routed (a.1 0) (a.1 1) (a.1 2)) (t : Fin (cfg a).N) (k f : Fin 1024) :
    (blk a m ρ c (2 : Fin 8) t : Vec Ideal S1x1024x1024 .bf16) (ix3 (0 : Fin 1) k f) = m ((c : Thread nD τ).loc main_arg5) (ix3 (exp a t) k f) := by
  have e : ((cfg a).win (2 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg5) _ = m (c.tc.loc main_arg5) _
  congr 1
  funext b
  apply Fin.ext
  match b with
  | ⟨0, _⟩ => show ((cfg a).win (2 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem gateBias_apply (hr : Routed (a.1 0) (a.1 1) (a.1 2)) (t : Fin (cfg a).N) (f : Fin 1024) :
    (blk a m ρ c (3 : Fin 8) t : Vec Ideal S1x1x1024 .f32) (ix3 (0 : Fin 1) (0 : Fin 1) f) = m ((c : Thread nD τ).loc main_arg6) (ix3 (exp a t) (0 : Fin 1) f) := by
  have e : ((cfg a).win (3 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg6) _ = m (c.tc.loc main_arg6) _
  congr 1
  funext b
  apply Fin.ext
  match b with
  | ⟨0, _⟩ => show ((cfg a).win (3 : Fin 8)).index t (0 : Fin 3) * 1 + 1 * 0 = (exp a t).val; rw [e, p]; omega
  | ⟨1, _⟩ => rfl
  | ⟨2, _⟩ => show 0 * 1024 + 1 * f.val = f.val; omega

theorem linBias_apply (hr : Routed (a.1 0) (a.1 1) (a.1 2)) (t : Fin (cfg a).N) (f : Fin 1024) :
    (blk a m ρ c (4 : Fin 8) t : Vec Ideal S1x1x1024 .f32) (ix3 (0 : Fin 1) (0 : Fin 1) f) = m ((c : Thread nD τ).loc main_arg7) (ix3 (exp a t) (0 : Fin 1) f) := by
  have e : ((cfg a).win (4 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg7) _ = m (c.tc.loc main_arg7) _
  congr 1
  funext b
  apply Fin.ext
  match b with
  | ⟨0, _⟩ => show ((cfg a).win (4 : Fin 8)).index t (0 : Fin 3) * 1 + 1 * 0 = (exp a t).val; rw [e, p]; omega
  | ⟨1, _⟩ => rfl
  | ⟨2, _⟩ => show 0 * 1024 + 1 * f.val = f.val; omega

theorem downMat_apply (hr : Routed (a.1 0) (a.1 1) (a.1 2)) (t : Fin (cfg a).N) (k f : Fin 1024) :
    (blk a m ρ c (5 : Fin 8) t : Vec Ideal S1x1024x1024 .bf16) (ix3 (0 : Fin 1) k f) = m ((c : Thread nD τ).loc main_arg8) (ix3 (exp a t) k f) := by
  have e : ((cfg a).win (5 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg8) _ = m (c.tc.loc main_arg8) _
  congr 1
  funext b
  apply Fin.ext
  match b with
  | ⟨0, _⟩ => show ((cfg a).win (5 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem downBias_apply (hr : Routed (a.1 0) (a.1 1) (a.1 2)) (t : Fin (cfg a).N) (f : Fin 1024) :
    (blk a m ρ c (6 : Fin 8) t : Vec Ideal S1x1x1024 .f32) (ix3 (0 : Fin 1) (0 : Fin 1) f) = m ((c : Thread nD τ).loc main_arg9) (ix3 (exp a t) (0 : Fin 1) f) := by
  have e : ((cfg a).win (6 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg9) _ = m (c.tc.loc main_arg9) _
  congr 1
  funext b
  apply Fin.ext
  match b with
  | ⟨0, _⟩ => show ((cfg a).win (6 : Fin 8)).index t (0 : Fin 3) * 1 + 1 * 0 = (exp a t).val; rw [e, p]; omega
  | ⟨1, _⟩ => rfl
  | ⟨2, _⟩ => show 0 * 1024 + 1 * f.val = f.val; omega

/-- The array the launch's memory determines. -/
def array : S81920x1024.Idx → EReal :=
  result (a.1 0) (a.1 2) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- What a point leaves is the array's block of rows. -/
theorem made_apply (hr : Routed (a.1 0) (a.1 1) (a.1 2)) (t : Fin (cfg a).N) (r : Fin 256) (col : Fin 1024) (row : Fin 81920) (hrow : row.val = t.val * 256 + r.val) :
    made a m ρ c t (ix2 r col) = array a m c (ix2 row col) := by
  have hb : blockOf row = num a t := Fin.ext (by show row.val / 256 = t.val; omega)
  unfold array result
  rw [show (ix2 row col : S81920x1024.Idx) 0 = row from rfl, show (ix2 row col : S81920x1024.Idx) 1 = col from rfl, hb]
  unfold made left Expert.row
  have hc : (((at_ a t) 0).val) = t.val := (coord_eq t).1
  by_cases h : k0_cond1 (at_ a t) (inUse (a.1 2)) = 1#1
  · have h' : ((t.val : ℕ) : Int) < (inUse (a.1 2)).toInt := by
      have := (cond_iff _ _).1 h
      rwa [hc] at this
    have hx : (a.1 1 (ix1 (num a t))).toNat = t.val := (hr (ix1 (num a t))).2.2 h'
    rw [if_pos h, if_pos (show (((num a t).val : ℕ) : Int) < (inUse (a.1 2)).toInt from h')]
    refine (stored_apply _ _ _ _ _ _ _ r col).trans ?_
    congr 1
    · exact funext fun k => rows_apply a m ρ c hr t r k hx row hrow
    · exact funext fun k => funext fun f => gateMat_apply a m ρ c hr t k f
    · exact funext fun k => funext fun f => linMat_apply a m ρ c hr t k f
    · exact funext fun f => gateBias_apply a m ρ c hr t f
    · exact funext fun f => linBias_apply a m ρ c hr t f
    · exact funext fun k => funext fun f => downMat_apply a m ρ c hr t k f
    · exact funext fun f => downBias_apply a m ρ c hr t f
  · have h' : ¬ (((num a t).val : ℕ) : Int) < (inUse (a.1 2)).toInt := fun q => h ((cond_iff _ _).2 (by rw [hc]; exact q))
    rw [if_neg h, if_neg h']
    exact Ideal.ofBits_zero_f32

/-- What a point writes back is its block of the array. -/
theorem flushed_eq (hr : Routed (a.1 0) (a.1 1) (a.1 2)) (t : Fin (cfg a).N) :
    (dats a m ρ 0 c).flushed (7 : Fin 8) t = (((cfg a).win (7 : Fin 8)).blk t).view.read (Elt Ideal) (array a m c) := by
  obtain ⟨e0, e1⟩ := index_out a t
  have ht : t.val < 320 := t.isLt
  funext j
  rw [View.read_apply]
  have hj : (j 0).val < 256 := (j 0).isLt
  have hj1 : (j 1).val < 1024 := (j 1).isLt
  have e : (j : S256x1024.Idx) = ix2 (j 0) (j 1) := eq_ix2 j
  refine (congrArg (made a m ρ c t) e).trans ((made_apply a m ρ c hr t (j 0) (j 1) ⟨t.val * 256 + (j 0).val, by omega⟩ rfl).trans ?_)
  show array a m c _ = array a m c _
  congr 1
  funext b
  apply Fin.ext
  match b with
  | ⟨0, _⟩ => show t.val * 256 + (j 0).val = ((cfg a).win (7 : Fin 8)).index t (0 : Fin 2) * 256 + 1 * (j 0).val; rw [e0]; omega
  | ⟨1, _⟩ => show (j 1).val = ((cfg a).win (7 : Fin 8)).index t (1 : Fin 2) * 1024 + 1 * (j 1).val; rw [e1]; omega

/-- Every point writes its block back: the next point's is another. -/
theorem flush_out (t : Fin (cfg a).N) : ((cfg a).win (7 : Fin 8)).flush t = true := by
  unfold Pipeline.Window.flush
  have : t.val < 320 := t.isLt
  by_cases h : t.val + 1 < 320
  · have : decide (∃ h, ((cfg a).win (7 : Fin 8)).index ⟨t.val + 1, h⟩ ≠ ((cfg a).win (7 : Fin 8)).index t) = true :=
      decide_eq_true ⟨h, fun q => by
        have q0 := (index_out a ⟨t.val + 1, h⟩).1.symm.trans ((congrFun q (0 : Fin 2)).trans (index_out a t).1)
        have : t.val + 1 = t.val := q0
        omega⟩
    rw [this]; simp
  · have : t.val + 1 = 320 := by omega
    have : decide (t.val + 1 = (cfg a).N) = true := decide_eq_true this
    rw [this]; simp

/-- Every index of the array lies in the block of a point. -/
theorem cover (i : S81920x1024.Idx) : ∃ t : Fin (cfg a).N, ((cfg a).win (7 : Fin 8)).flush t = true ∧ i ∈ (((cfg a).win (7 : Fin 8)).blk t).view.set := by
  have h0 : (i 0 : Nat) < 81920 := (i 0).isLt
  have h1 : (i 1 : Nat) < 1024 := (i 1).isLt
  have hlt : (i 0 : Nat) / 256 < 320 := by omega
  obtain ⟨t, ht⟩ : ∃ t : Fin (cfg a).N, t.val = (i 0 : Nat) / 256 := ⟨⟨_, hlt⟩, rfl⟩
  obtain ⟨e0, e1⟩ := index_out a t
  refine ⟨t, flush_out a t, ?_⟩
  show i ∈ ((View.whole main_v0).slice (((cfg a).win (7 : Fin 8)).rect t)).set
  rw [View.set_slice_whole, Rect.mem_set_unit]
  intro b
  match b with
  | ⟨0, _⟩ =>
    show ((cfg a).win (7 : Fin 8)).index t (0 : Fin 2) * 256 ≤ (i 0 : Nat) ∧ (i 0 : Nat) < ((cfg a).win (7 : Fin 8)).index t (0 : Fin 2) * 256 + 256
    rw [e0]; omega
  | ⟨1, _⟩ =>
    show ((cfg a).win (7 : Fin 8)).index t (1 : Fin 2) * 1024 ≤ (i 1 : Nat) ∧ (i 1 : Nat) < ((cfg a).win (7 : Fin 8)).index t (1 : Fin 2) * 1024 + 1024
    rw [e1]; omega

/-- The array the run leaves. -/
theorem final (hr : Routed (a.1 0) (a.1 1) (a.1 2)) : (dats a m ρ 0 c).arrAt (7 : Fin 8) (cfg a).N = array a m c :=
  (dats a m ρ 0 c).arrAt_eq_of_cover (7 : Fin 8) (array a m c) (fun t _ => flushed_eq a m ρ c hr t) (cover a)

end Array

end Cert.ExpertsIdeal.Tables

end
-- ==== Proof.ExpertsIdeal.Ref.lean ====
/-
  The reference experts read at an index: every block takes its expert's arrays, and a row of it is that expert's output on
  the row, or zero when the block is not in use.
-/
module

public import proofs.«01_k».proof.Proof.ExpertsIdeal.Value
public import proofs.«01_k».proof.Proof.Gen.ExpertsRefIdeal.Run
public import proofs.«01_k».proof.Proof.Gen.ExpertsRefIdeal.Read

@[expose] public section

set_option maxRecDepth 16384

noncomputable section

namespace Cert.ExpertsRefIdeal.Array

open Cert.ExpertsRefIdeal Cert.ExpertsRefIdeal.Gen Cert.ExpertsRefIdeal.Read Idealize.ShloMosaic Idealize.ShloMosaic.TcCoe Idealize.ShloMosaic.ValueIdx

variable (e : (⟨S320, .i32⟩ : BufTy).Contents (Elt Ideal)) (n : (⟨S1, .i32⟩ : BufTy).Contents (Elt Ideal))
  (xb : (⟨S81920x1024, .f32⟩ : BufTy).Contents (Elt Ideal)) (wa wb : (⟨S32x1024x1024, .bf16⟩ : BufTy).Contents (Elt Ideal))
  (ba bb : (⟨S32x1x1024, .f32⟩ : BufTy).Contents (Elt Ideal)) (wc : (⟨S32x1024x1024, .bf16⟩ : BufTy).Contents (Elt Ideal))
  (bc : (⟨S32x1x1024, .f32⟩ : BufTy).Contents (Elt Ideal))

/-- The expert of a block. -/
abbrev ex (j : Fin 320) : Fin 32 := Expert.pick (e (ix1 j))

/-- The row of the array a row of a block is. -/
def rowOf (j : Fin 320) (r : Fin 256) : Fin 81920 := ⟨j.val * 256 + r.val, by omega⟩

/-! ### The taken arrays -/

theorem v2_eq (j : Fin 320) (a b : Fin 1024) : val_main_v2 (F := Ideal) e wa (ix3 j a b) = wa (ix3 (ex e j) a b) := by
  rw [val_main_v2_apply]
  unfold val_main_v1
  refine (Expert.take_apply _ rfl rfl rfl rfl rfl rfl rfl _ _ j a b).trans ?_
  rw [val_main_call0_v0_apply]
  exact congrArg (fun w => wa (ix3 (Expert.pick (e w)) a b)) (funext fun k => by match k with | ⟨0, _⟩ => rfl)

theorem v4_eq (j : Fin 320) (a b : Fin 1024) : val_main_v4 (F := Ideal) e wb (ix3 j a b) = wb (ix3 (ex e j) a b) := by
  rw [val_main_v4_apply]
  unfold val_main_v3
  refine (Expert.take_apply _ rfl rfl rfl rfl rfl rfl rfl _ _ j a b).trans ?_
  rw [val_main_call1_v0_apply]
  exact congrArg (fun w => wb (ix3 (Expert.pick (e w)) a b)) (funext fun k => by match k with | ⟨0, _⟩ => rfl)

theorem v6_eq (j : Fin 320) (a b : Fin 1024) : val_main_v6 (F := Ideal) e wc (ix3 j a b) = wc (ix3 (ex e j) a b) := by
  rw [val_main_v6_apply]
  unfold val_main_v5
  refine (Expert.take_apply _ rfl rfl rfl rfl rfl rfl rfl _ _ j a b).trans ?_
  rw [val_main_call2_v0_apply]
  exact congrArg (fun w => wc (ix3 (Expert.pick (e w)) a b)) (funext fun k => by match k with | ⟨0, _⟩ => rfl)

theorem v9_eq (j : Fin 320) (r : Fin 256) (f : Fin 1024) : val_main_v9 (F := Ideal) e ba (ix3 j r f) = ba (ix3 (ex e j) (0 : Fin 1) f) := by
  rw [val_main_v9_apply, show idx_main_v9 (ix3 j r f) = ix3 j (0 : Fin 1) f from funext fun k => by match k with | ⟨0, _⟩ => rfl | ⟨1, _⟩ => rfl | ⟨2, _⟩ => rfl]
  unfold val_main_v8
  refine (Expert.take_apply _ rfl rfl rfl rfl rfl rfl rfl _ _ j (0 : Fin 1) f).trans ?_
  rw [val_main_call3_v0_apply]
  exact congrArg (fun w => ba (ix3 (Expert.pick (e w)) (0 : Fin 1) f)) (funext fun k => by match k with | ⟨0, _⟩ => rfl)

theorem v15_eq (j : Fin 320) (r : Fin 256) (f : Fin 1024) : val_main_v15 (F := Ideal) e bb (ix3 j r f) = bb (ix3 (ex e j) (0 : Fin 1) f) := by
  rw [val_main_v15_apply, show idx_main_v15 (ix3 j r f) = ix3 j (0 : Fin 1) f from funext fun k => by match k with | ⟨0, _⟩ => rfl | ⟨1, _⟩ => rfl | ⟨2, _⟩ => rfl]
  unfold val_main_v14
  refine (Expert.take_apply _ rfl rfl rfl rfl rfl rfl rfl _ _ j (0 : Fin 1) f).trans ?_
  rw [val_main_call4_v0_apply]
  exact congrArg (fun w => bb (ix3 (Expert.pick (e w)) (0 : Fin 1) f)) (funext fun k => by match k with | ⟨0, _⟩ => rfl)

theorem v32_eq (j : Fin 320) (r : Fin 256) (f : Fin 1024) : val_main_v32 (F := Ideal) e bc (ix3 j r f) = bc (ix3 (ex e j) (0 : Fin 1) f) := by
  rw [val_main_v32_apply, show idx_main_v32 (ix3 j r f) = ix3 j (0 : Fin 1) f from funext fun k => by match k with | ⟨0, _⟩ => rfl | ⟨1, _⟩ => rfl | ⟨2, _⟩ => rfl]
  unfold val_main_v31
  refine (Expert.take_apply _ rfl rfl rfl rfl rfl rfl rfl _ _ j (0 : Fin 1) f).trans ?_
  rw [val_main_call6_v0_apply]
  exact congrArg (fun w => bc (ix3 (Expert.pick (e w)) (0 : Fin 1) f)) (funext fun k => by match k with | ⟨0, _⟩ => rfl)

/-! ### The products -/

theorem v0_eq (j : Fin 320) (r : Fin 256) (k : Fin 1024) : val_main_v0 (F := Ideal) xb (ix3 j r k) = xb (ix2 (rowOf j r) k) := by
  rw [val_main_v0_apply]
  congr 1
  funext a
  apply Fin.ext
  match a with
  | ⟨0, _⟩ => show ((j.val * 256 + r.val) * 1024 + k.val) / 1024 = j.val * 256 + r.val; omega
  | ⟨1, _⟩ => show ((j.val * 256 + r.val) * 1024 + k.val) % 1024 = k.val; omega

/-- The gate before its clip. -/
theorem v10_eq (j : Fin 320) (r : Fin 256) (f : Fin 1024) : val_main_v10 (F := Ideal) e xb wa ba (ix3 j r f)
    = Row.dot (fun k => xb (ix2 (rowOf j r) k)) (fun k => wa (ix3 (ex e j) k f)) + ba (ix3 (ex e j) (0 : Fin 1) f) := by
  rw [val_main_v10_apply, v9_eq, val_main_v7_apply]
  refine congrArg (· + ba (ix3 (ex e j) (0 : Fin 1) f)) ?_
  unfold Row.dot
  refine Finset.sum_congr rfl fun k _ => ?_
  refine Eq.trans ?_ (congrArg₂ (fun x y : EReal => x * y) (v0_eq xb j r k) (v2_eq e wa j k f))
  congr 2 <;> funext a <;> match a with
  | ⟨0, _⟩ => rfl
  | ⟨1, _⟩ => rfl
  | ⟨2, _⟩ => rfl

/-- The linear half before its clip. -/
theorem v16_eq (j : Fin 320) (r : Fin 256) (f : Fin 1024) : val_main_v16 (F := Ideal) e xb wb bb (ix3 j r f)
    = Row.dot (fun k => xb (ix2 (rowOf j r) k)) (fun k => wb (ix3 (ex e j) k f)) + bb (ix3 (ex e j) (0 : Fin 1) f) := by
  rw [val_main_v16_apply, v15_eq, val_main_v13_apply]
  refine congrArg (· + bb (ix3 (ex e j) (0 : Fin 1) f)) ?_
  unfold Row.dot
  refine Finset.sum_congr rfl fun k _ => ?_
  refine Eq.trans ?_ (congrArg₂ (fun x y : EReal => x * y) (v0_eq xb j r k) (v4_eq e wb j k f))
  congr 2 <;> funext a <;> match a with
  | ⟨0, _⟩ => rfl
  | ⟨1, _⟩ => rfl
  | ⟨2, _⟩ => rfl

/-- The activations: the reference's quotient is the logistic function. -/
theorem v29_eq (j : Fin 320) (r : Fin 256) (f : Fin 1024) : val_main_v29 (F := Ideal) e xb wa wb ba bb (ix3 j r f)
    = Expert.hidden (fun k => xb (ix2 (rowOf j r) k)) (fun k g => wa (ix3 (ex e j) k g)) (fun k g => wb (ix3 (ex e j) k g))
        (fun g => ba (ix3 (ex e j) (0 : Fin 1) g)) (fun g => bb (ix3 (ex e j) (0 : Fin 1) g)) f := by
  unfold Expert.hidden Expert.act Ideal.logistic
  rw [← v10_eq, ← v16_eq]
  have h1 : (1 : EReal) = Expert.one := Expert.one_eq.symm
  rw [h1]
  rfl

/-- A block's rows before the selection. -/
theorem v33_eq (j : Fin 320) (r : Fin 256) (c : Fin 1024) : val_main_v33 (F := Ideal) e xb wa wb ba bb wc bc (ix3 j r c)
    = Expert.out (fun k => xb (ix2 (rowOf j r) k)) (fun k g => wa (ix3 (ex e j) k g)) (fun k g => wb (ix3 (ex e j) k g))
        (fun g => ba (ix3 (ex e j) (0 : Fin 1) g)) (fun g => bb (ix3 (ex e j) (0 : Fin 1) g)) (fun k g => wc (ix3 (ex e j) k g))
        (fun g => bc (ix3 (ex e j) (0 : Fin 1) g)) c := by
  rw [val_main_v33_apply, v32_eq, val_main_v30_apply]
  unfold Expert.out
  refine congrArg (· + bc (ix3 (ex e j) (0 : Fin 1) c)) ?_
  unfold Row.dot
  refine Finset.sum_congr rfl fun k _ => ?_
  refine Eq.trans ?_ (congrArg₂ (fun x y : EReal => x * y) (v29_eq e xb wa wb ba bb j r k) (v6_eq e wc j k c))
  congr 2 <;> funext a <;> match a with
  | ⟨0, _⟩ => rfl
  | ⟨1, _⟩ => rfl
  | ⟨2, _⟩ => rfl

/-! ### The selection -/

theorem used_eq (j : Fin 320) (r : Fin 256) (c : Fin 1024) :
    val_main_call7_v1 (F := Ideal) n (ix3 j r c) = BitVec.ofBool (decide (((j.val : ℕ) : Int) < (ExpertsIdeal.Tables.inUse n).toInt)) := by
  have hj : j.val < 320 := j.isLt
  rw [val_main_call7_v1_apply, val_main_v37_apply, val_main_v36_apply, val_main_v34_apply, val_main_v35_apply, WordCmp.cmpi_slt_eq]
  have h1 : (BitVec.ofNat 32 j.val).toInt = j.val := WordCmp.toInt_ofNat_of_lt (by omega)
  have h2 : n (idx_main_v35 (idx_main_v37 (idx_main_call7_v1 (ix3 j r c)))) = ExpertsIdeal.Tables.inUse n := congrArg n (by
    funext a; exact Fin.ext (by have := a.isLt; match a with | ⟨0, _⟩ => rfl))
  rw [h2, ← h1]

theorem v38_eq (j : Fin 320) (r : Fin 256) (c : Fin 1024) : val_main_v38 (F := Ideal) e n xb wa wb ba bb wc bc (ix3 j r c)
    = Expert.row (((j.val : ℕ) : Int) < (ExpertsIdeal.Tables.inUse n).toInt) (ex e j) (fun k => xb (ix2 (rowOf j r) k)) wa wb ba bb wc bc c := by
  rw [val_main_v38_apply, used_eq, v33_eq]
  unfold Expert.row
  by_cases h : ((j.val : ℕ) : Int) < (ExpertsIdeal.Tables.inUse n).toInt
  · rw [if_pos h, decide_eq_true h]
    rfl
  · rw [if_neg h, decide_eq_false h, val_main_call7_v2_apply, val_main_call7_v0_apply, val_main_cst_6_apply]
    exact Ideal.ofBits_zero_f32

/-- The reference's result is the kernel's. -/
theorem eq_result : val_main_v39 (F := Ideal) e n xb wa wb ba bb wc bc = ExpertsIdeal.Tables.result e n xb wa wb ba bb wc bc := by
  funext i
  have h0 : (i 0).val < 81920 := (i 0).isLt
  have h1 : (i 1).val < 1024 := (i 1).isLt
  have hi : idx_main_v39 i = ix3 (ExpertsIdeal.Tables.blockOf (i 0)) (⟨(i 0).val % 256, by omega⟩ : Fin 256) (i 1) := by
    funext a
    apply Fin.ext
    match a with
    | ⟨0, _⟩ => show ((i 0).val * 1024 + (i 1).val) / 262144 = (i 0).val / 256; omega
    | ⟨1, _⟩ => show ((i 0).val * 1024 + (i 1).val) / 1024 % 256 = (i 0).val % 256; omega
    | ⟨2, _⟩ => show ((i 0).val * 1024 + (i 1).val) % 1024 = (i 1).val; omega
  have hrow : rowOf (ExpertsIdeal.Tables.blockOf (i 0)) (⟨(i 0).val % 256, by omega⟩ : Fin 256) = i 0 :=
    Fin.ext (by show (i 0).val / 256 * 256 + (i 0).val % 256 = (i 0).val; omega)
  rw [val_main_v39_apply, hi]
  refine (v38_eq e n xb wa wb ba bb wc bc _ _ _).trans ?_
  rw [hrow]
  rfl

end Cert.ExpertsRefIdeal.Array

end
-- ==== Proof.ExpertsIdeal.Claims.lean ====
/-
  The claims about the experts: the reference runs, leaves its arguments alone and ends with every counter at zero; on
  routed tables the kernel and the reference leave the same array.
-/
module

public import proofs.«01_k».proof.Defs
public import proofs.«01_k».proof.Proof.ExpertsIdeal.Ref
public import proofs.«01_k».proof.Proof.Experts.Pre
public import Idealize.ShloMosaic.Lib.Quiescent

@[expose] public section

set_option maxRecDepth 16384

noncomputable section

namespace Cert.ExpertsIdeal.Tables

open Idealize.ShloMosaic Idealize.SL.Sem

attribute [local instance] Cert.ExpertsIdeal.Gen.facts Cert.ExpertsRefIdeal.Gen.facts Cert.Pre_routed.Gen.facts

/-- The reference's run: the arguments kept, every counter zero. -/
theorem reference_run (m : (ℓ : Loc Cert.ExpertsRefIdeal.nD Cert.ExpertsRefIdeal.τ Cert.ExpertsRefIdeal.sig) → Buf (Elt Ideal) ℓ) (g : Dev Cert.ExpertsRefIdeal.nD → PrngReg) :
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7)
      ∧ r.2.mem ((c.tc : Thread Cert.ExpertsRefIdeal.nD Cert.ExpertsRefIdeal.τ).loc Cert.ExpertsRefIdeal.main_arg8) = m ((c.tc : Thread Cert.ExpertsRefIdeal.nD Cert.ExpertsRefIdeal.τ).loc Cert.ExpertsRefIdeal.main_arg8)
      ∧ r.2.mem ((c.tc : Thread Cert.ExpertsRefIdeal.nD Cert.ExpertsRefIdeal.τ).loc Cert.ExpertsRefIdeal.main_arg9) = m ((c.tc : Thread Cert.ExpertsRefIdeal.nD Cert.ExpertsRefIdeal.τ).loc Cert.ExpertsRefIdeal.main_arg9))
      ∧ r.2.sem = fun _ => 0) :=
  (θ_run _ _ _).mono (fun r h => ⟨fun c => (h c).2, sem_eq_zero_of_no_sems (by decide) r.2⟩) (Cert.ExpertsRefIdeal.Value.run m g)

theorem quiescent_reference : Cert.quiescent_ExpertsRefIdeal := fun m g _ => reference_run m g

theorem quiescent_reference_routed : Cert.quiescent_ExpertsRefIdeal_pre_routed := fun m g _ => reference_run m g

theorem preserves : Cert.preserves_Experts_ExpertsIdeal := trivial

theorem algebraic : Cert.algebraic_ExpertsIdeal_ExpertsRefIdeal := by
  intro m g m' g' hpre hargs
  refine ⟨fun c => array (adm m hpre) m c, ?_, ?_⟩
  · exact (θ_run _ _ _).mono (fun r h c => ⟨((h.1 c).1 (7 : Fin 8)).trans (final (adm m hpre) m g c (routed_mem m hpre)),
      kept (adm m hpre) m g (holds m hpre) h.1 c⟩) (run (adm m hpre) m g (holds m hpre))
  · refine (θ_run _ _ _).mono (fun r h c => ⟨(h c).1.trans ?_, (h c).2⟩) (Cert.ExpertsRefIdeal.Value.run m' g')
    obtain ⟨a0, a1, a2, a3, a4, a5, a6, a7, a8, a9⟩ := hargs c
    obtain rfl := one_dev c
    rw [a0, a2, a3, a4, a5, a6, a7, a8, a9]
    exact (Cert.ExpertsRefIdeal.Read.val_main_v39_eq _ _ _ _ _ _ _ _ _).trans (Cert.ExpertsRefIdeal.Array.eq_result _ _ _ _ _ _ _ _ _)

end Cert.ExpertsIdeal.Tables

end
-- ==== Proof.ExpertsLastIdeal.Body.lean ====
/-
  One grid point of the expert kernel (`ExpertsLastIdeal`, floats in any format), for arbitrary contents of the three tables: the body runs,
  gives the staged blocks and the tables back as they were, and leaves in the output's buffer the expert's block if the
  point is in use, zeros if it is not.
-/
module

public import proofs.«01_k».proof.Proof.Gen.ExpertsLastIdeal.Skeleton
public import proofs.«01_k».proof.Proof.Gen.ExpertsLastIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpertsLastIdeal.Tables

open Cert.ExpertsLastIdeal Cert.ExpertsLastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The three tables, as the kernel is handed them. -/
abbrev tab0 : Memref sig .tc .smem S288 .i32 := Memref.whole main_arg0
abbrev tab1 : Memref sig .tc .smem S288 .i32 := Memref.whole main_arg1
abbrev tab2 : Memref sig .tc .smem S1 .i32 := Memref.whole main_arg2

/-- The number of blocks in use, read from the third table. -/
abbrev inUse (T : IVec S1 32) : BitVec 32 := T (Shape.Idx.first (by decide))

/-- The word the body loads is that number. -/
theorem word_eq (T : S1.Idx → Elt F .i32) :
    View.readAt (Elt F) tab2.view (Rect.unit (s := S1) ![0] S1.size inb_S1_S1_0).toLoadRect T (Shape.Idx.first (numel1_S1.symm ▸ Nat.one_pos)) = inUse T := by
  show T _ = T _
  congr 1
  funext a
  apply Fin.ext
  have h : ∀ x : Fin 1, x.val = 0 := fun x => by omega
  match a with
  | ⟨0, _⟩ => exact (h _).trans (h _).symm

/-- One of the body's two conditions holds and the other does not. -/
theorem cond_or (i : grid0.Coords) (w : BitVec 32) : k0_cond2 i w = 1#1 ↔ ¬ k0_cond1 i w = 1#1 := by
  have key : ∀ p : Bool, (Scalar.cmpi .ne (Scalar.extui (BitVec.ofBool p) : BitVec 32) 0#32 = 1#1) ↔ p = true := by decide
  show (Scalar.cmpi .ne (Scalar.extui (BitVec.ofBool (w.sle (BitVec.ofNat 32 (i 0).val))) : BitVec 32) 0#32 = 1#1)
    ↔ ¬ (Scalar.cmpi .ne (Scalar.extui (BitVec.ofBool ((BitVec.ofNat 32 (i 0).val).slt w)) : BitVec 32) 0#32 = 1#1)
  rw [key, key]
  simp only [BitVec.sle, BitVec.slt, decide_eq_true_eq]
  omega

/-- What a point leaves in the output's buffer. -/
def left (i : grid0.Coords) (w : BitVec 32) (x0 : Vec F S256x1024 .f32) (x1 x2 : Vec F S1x1024x1024 .bf16) (x3 x4 : Vec F S1x1x1024 .f32)
    (x5 : Vec F S1x1024x1024 .bf16) (x6 : Vec F S1x1x1024 .f32) : Vec F S256x1024 .f32 :=
  if k0_cond1 i w = 1#1 then k0_pay1 (k0_pay3 x0 x1 x3 x2 x4 x5) x6 else k0_pay2 (F := F)

/-- A block written whole reads back. -/
theorem read_store (v : View sig .tc .vmem S256x1024 .f32) (f : v.ty.Contents (Elt F)) (inb) (x : S256x1024.Idx → Elt F .f32) :
    v.read (Elt F) (v.writes (Elt F) f [⟨Rect.unit (s := S256x1024) ![0, 0] S256x1024.size inb, x⟩]) = x := by
  funext y
  have h := View.read_writes_cons_emb v f (Rect.unit (s := S256x1024) ![0, 0] S256x1024.size inb) x [] y
  have e : (Rect.unit (s := S256x1024) ![0, 0] S256x1024.size inb).emb y = y := funext fun a => Fin.ext (by
    match a with
    | ⟨0, _⟩ => show 0 + 1 * (y 0).val = (y 0).val; omega
    | ⟨1, _⟩ => show 0 + 1 * (y 1).val = (y 1).val; omega)
  rwa [e] at h

set_option maxHeartbeats 8000000 in
/-- The body at a point in use. -/
theorem body_used (c : Dev nD) (i : grid0.Coords)
    (arg4 : Memref sig .tc .vmem S256x1024 .f32) (harg4 : arg4.IsWhole) (arg5 : Memref sig .tc .vmem S1x1024x1024 .bf16) (harg5 : arg5.IsWhole)
    (arg6 : Memref sig .tc .vmem S1x1024x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024x1024 .bf16) (harg9 : arg9.IsWhole)
    (arg10 : Memref sig .tc .vmem S1x1x1024 .f32) (harg10 : arg10.IsWhole) (arg11 : Memref sig .tc .vmem S256x1024 .f32) (harg11 : arg11.IsWhole)
    (T0 T1 : S288.Idx → Elt F .i32) (T2 : S1.Idx → Elt F .i32)
    (x0 : Vec F S256x1024 .f32) (x1 x2 : Vec F S1x1024x1024 .bf16) (x3 x4 : Vec F S1x1x1024 .f32)
    (x5 : Vec F S1x1024x1024 .bf16) (x6 : Vec F S1x1x1024 .f32)
    (h1 : k0_cond1 i (View.readAt (Elt F) tab2.view (Rect.unit (s := S1) ![0] S1.size inb_S1_S1_0).toLoadRect T2 (Shape.Idx.first (numel1_S1.symm ▸ Nat.one_pos))) = 1#1) (h2 : ¬(k0_cond2 i (View.readAt (Elt F) tab2.view (Rect.unit (s := S1) ![0] S1.size inb_S1_S1_0).toLoadRect T2 (Shape.Idx.first (numel1_S1.symm ▸ Nat.one_pos))) = 1#1)) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
        ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
        ∗ (arg10.view.loc (c : Thread nD τ) ↦[arg10.view.set]{fullShare} arg10.view.rep x6)
        ∗ (tab0.view.loc (c : Thread nD τ) ↦{fullShare.right} T0)
        ∗ (tab1.view.loc (c : Thread nD τ) ↦{fullShare.right} T1)
        ∗ (tab2.view.loc (c : Thread nD τ) ↦{fullShare.right} T2)
        ∗ (∃ d, owns (c : Thread nD τ) arg11 fullShare d)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
            ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
            ∗ (arg10.view.loc (c : Thread nD τ) ↦[arg10.view.set]{fullShare} arg10.view.rep x6)
            ∗ (tab0.view.loc (c : Thread nD τ) ↦{fullShare.right} T0)
            ∗ (tab1.view.loc (c : Thread nD τ) ↦{fullShare.right} T1)
            ∗ (tab2.view.loc (c : Thread nD τ) ↦{fullShare.right} T2)
            ∗ owns (c : Thread nD τ) arg11 fullShare (k0_pay1 (k0_pay3 x0 x1 x3 x2 x4 x5) x6)) -∗ K ⟨⟩))
      ⊢ wp frame (wpE (defs₀ (F := F)) Variants.none c none) Set.univ (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11) K := by
  unfold owns
  rw [cc0_experts_eq_skeleton]; unfold cc0_experts_skel
  iintro ⟨H0, H1, H2, H3, H4, H5, H6, HT0, HT1, HT2, ⟨%d7, %f7, -, HO7⟩, Hk⟩
  have hT0 : tab0.IsWhole := Memref.isWhole_whole _
  have hT1 : tab1.IsWhole := Memref.isWhole_whole _
  have hT2 : tab2.IsWhole := Memref.isWhole_whole _
  sl_exec! (disch := first | (guard_target = k0_cond1 _ _ = _; exact h1) | (guard_target = ¬(k0_cond2 _ _ = _); exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iexists _; isplitr; swap
  · iexact HO7
  · ipureintro
    refine (read_store arg11.view _ _ _).trans ?_
    show k0_pay1 (k0_pay3 (View.readAt (Elt F) arg4.view (Rect.unit (s := S256x1024) ![0, 0] S256x1024.size inb_S256x1024_S256x1024_0_0).toLoadRect (arg4.view.rep x0))
      (View.readAt (Elt F) arg5.view (Rect.unit (s := S1x1024x1024) ![0, 0, 0] S1x1024x1024.size inb_S1x1024x1024_S1x1024x1024_0_0_0).toLoadRect (arg5.view.rep x1))
      (View.readAt (Elt F) arg7.view (Rect.unit (s := S1x1x1024) ![0, 0, 0] S1x1x1024.size inb_S1x1x1024_S1x1x1024_0_0_0).toLoadRect (arg7.view.rep x3))
      (View.readAt (Elt F) arg6.view (Rect.unit (s := S1x1024x1024) ![0, 0, 0] S1x1024x1024.size inb_S1x1024x1024_S1x1024x1024_0_0_0).toLoadRect (arg6.view.rep x2))
      (View.readAt (Elt F) arg8.view (Rect.unit (s := S1x1x1024) ![0, 0, 0] S1x1x1024.size inb_S1x1x1024_S1x1x1024_0_0_0).toLoadRect (arg8.view.rep x4))
      (View.readAt (Elt F) arg9.view (Rect.unit (s := S1x1024x1024) ![0, 0, 0] S1x1024x1024.size inb_S1x1024x1024_S1x1024x1024_0_0_0).toLoadRect (arg9.view.rep x5)))
      (View.readAt (Elt F) arg10.view (Rect.unit (s := S1x1x1024) ![0, 0, 0] S1x1x1024.size inb_S1x1x1024_S1x1x1024_0_0_0).toLoadRect (arg10.view.rep x6)) = _
    rw [View.readAt_rep_full, View.readAt_rep_full, View.readAt_rep_full, View.readAt_rep_full, View.readAt_rep_full, View.readAt_rep_full, View.readAt_rep_full]

set_option maxHeartbeats 8000000 in
/-- The body at a point not in use. -/
theorem body_idle (c : Dev nD) (i : grid0.Coords)
    (arg4 : Memref sig .tc .vmem S256x1024 .f32) (harg4 : arg4.IsWhole) (arg5 : Memref sig .tc .vmem S1x1024x1024 .bf16) (harg5 : arg5.IsWhole)
    (arg6 : Memref sig .tc .vmem S1x1024x1024 .bf16) (harg6 : arg6.IsWhole) (arg7 : Memref sig .tc .vmem S1x1x1024 .f32) (harg7 : arg7.IsWhole)
    (arg8 : Memref sig .tc .vmem S1x1x1024 .f32) (harg8 : arg8.IsWhole) (arg9 : Memref sig .tc .vmem S1x1024x1024 .bf16) (harg9 : arg9.IsWhole)
    (arg10 : Memref sig .tc .vmem S1x1x1024 .f32) (harg10 : arg10.IsWhole) (arg11 : Memref sig .tc .vmem S256x1024 .f32) (harg11 : arg11.IsWhole)
    (T0 T1 : S288.Idx → Elt F .i32) (T2 : S1.Idx → Elt F .i32)
    (x0 : Vec F S256x1024 .f32) (x1 x2 : Vec F S1x1024x1024 .bf16) (x3 x4 : Vec F S1x1x1024 .f32)
    (x5 : Vec F S1x1024x1024 .bf16) (x6 : Vec F S1x1x1024 .f32)
    (h1 : ¬(k0_cond1 i (View.readAt (Elt F) tab2.view (Rect.unit (s := S1) ![0] S1.size inb_S1_S1_0).toLoadRect T2 (Shape.Idx.first (numel1_S1.symm ▸ Nat.one_pos))) = 1#1)) (h2 : k0_cond2 i (View.readAt (Elt F) tab2.view (Rect.unit (s := S1) ![0] S1.size inb_S1_S1_0).toLoadRect T2 (Shape.Idx.first (numel1_S1.symm ▸ Nat.one_pos))) = 1#1) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
        ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
        ∗ (arg10.view.loc (c : Thread nD τ) ↦[arg10.view.set]{fullShare} arg10.view.rep x6)
        ∗ (tab0.view.loc (c : Thread nD τ) ↦{fullShare.right} T0)
        ∗ (tab1.view.loc (c : Thread nD τ) ↦{fullShare.right} T1)
        ∗ (tab2.view.loc (c : Thread nD τ) ↦{fullShare.right} T2)
        ∗ (∃ d, owns (c : Thread nD τ) arg11 fullShare d)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2)
            ∗ (arg7.view.loc (c : Thread nD τ) ↦[arg7.view.set]{fullShare} arg7.view.rep x3) ∗ (arg8.view.loc (c : Thread nD τ) ↦[arg8.view.set]{fullShare} arg8.view.rep x4) ∗ (arg9.view.loc (c : Thread nD τ) ↦[arg9.view.set]{fullShare} arg9.view.rep x5)
            ∗ (arg10.view.loc (c : Thread nD τ) ↦[arg10.view.set]{fullShare} arg10.view.rep x6)
            ∗ (tab0.view.loc (c : Thread nD τ) ↦{fullShare.right} T0)
            ∗ (tab1.view.loc (c : Thread nD τ) ↦{fullShare.right} T1)
            ∗ (tab2.view.loc (c : Thread nD τ) ↦{fullShare.right} T2)
            ∗ owns (c : Thread nD τ) arg11 fullShare (k0_pay2 (F := F))) -∗ K ⟨⟩))
      ⊢ wp frame (wpE (defs₀ (F := F)) Variants.none c none) Set.univ (cc0_experts i tab0 (Memref.isWhole_whole _) tab1 (Memref.isWhole_whole _) tab2 (Memref.isWhole_whole _) arg4 harg4 arg5 harg5 arg6 harg6 arg7 harg7 arg8 harg8 arg9 harg9 arg10 harg10 arg11 harg11) K := by
  unfold owns
  rw [cc0_experts_eq_skeleton]; unfold cc0_experts_skel
  iintro ⟨H0, H1, H2, H3, H4, H5, H6, HT0, HT1, HT2, ⟨%d7, %f7, -, HO7⟩, Hk⟩
  have hT0 : tab0.IsWhole := Memref.isWhole_whole _
  have hT1 : tab1.IsWhole := Memref.isWhole_whole _
  have hT2 : tab2.IsWhole := Memref.isWhole_whole _
  sl_exec! (disch := first | (guard_target = ¬(k0_cond1 _ _ = _); exact h1) | (guard_target = k0_cond2 _ _ = _; exact h2))
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HT0]; · iexact HT0
  isplitl [HT1]; · iexact HT1
  isplitl [HT2]; · iexact HT2
  iexists _; isplitr; swap
  · iexact HO7
  · ipureintro
    exact read_store arg11.view _ _ _

end Cert.ExpertsLastIdeal.Tables

end
-- ==== Proof.ExpertsLastIdeal.Launch.lean ====
/-
  The expert kernel (`ExpertsLastIdeal`, floats in any format) from any memory whose tables hold admissible contents `a`: the run of the
  whole grid, with every array's final contents.
-/
module

public import proofs.«01_k».proof.Proof.ExpertsLastIdeal.Body

@[expose] public section

set_option maxRecDepth 16384
set_option Elab.async false

noncomputable section

namespace Cert.ExpertsLastIdeal.Tables

open Cert.ExpertsLastIdeal Cert.ExpertsLastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the pipeline's staging cells, embedded whole. -/
abbrev emb : Emb (UR sig nD τ) 𝕄 := emb₁

variable (a : (pcfg0 (F := F)).Adm)

/-- The pipeline at the tables' contents `a`. -/
abbrev cfg : Pipeline.Cfg sig Λ₀ := cfg0 (F := F) a
abbrev cfgs : Fin 1 → Pipeline.Cfg sig Λ₀ := Pipeline.pin (pcfgs (F := F)) fun _ => a

/-- A point's coordinates. -/
abbrev at_ (t : Fin (cfg a).N) : (cfg a).grid.Coords := (cfg a).grid.coords t

variable (m : (ℓ : Loc nD τ sig) → Buf (Elt F) ℓ) (ρ : Dev nD → PrngReg)

/-- The output's window is written at every point: one of the two conditions holds. -/
theorem idle_out (t : Fin (cfg a).N) : (cfg a).idle (7 : Fin 8) (at_ a t) = false := by
  show (!(k0_cond1 (at_ a t) _ == 1#1) && !(k0_cond2 (at_ a t) _ == 1#1)) = false
  by_cases h : k0_cond1 (at_ a t) (a.1.atD 2 ![0]) = 1#1
  · simp [h]
  · simp [(cond_or (at_ a t) _).mpr h]

/-- Each window's current staging buffer at a point, and its wholeness. -/
abbrev st0 (t : Fin (cfg a).N) : Memref sig .tc .vmem S256x1024 .f32 := spec0_0.stage ((cfg a).slots t (0 : Fin 8))
abbrev hst0 (t : Fin (cfg a).N) : (st0 a t).IsWhole := hstage0_0 (((cfg a).slots t (0 : Fin 8)).cast nbuf0_0)
abbrev st1 (t : Fin (cfg a).N) : Memref sig .tc .vmem S1x1024x1024 .bf16 := spec0_1.stage ((cfg a).slots t (1 : Fin 8))
abbrev hst1 (t : Fin (cfg a).N) : (st1 a t).IsWhole := hstage0_1 (((cfg a).slots t (1 : Fin 8)).cast nbuf0_1)
abbrev st2 (t : Fin (cfg a).N) : Memref sig .tc .vmem S1x1024x1024 .bf16 := spec0_2.stage ((cfg a).slots t (2 : Fin 8))
abbrev hst2 (t : Fin (cfg a).N) : (st2 a t).IsWhole := hstage0_2 (((cfg a).slots t (2 : Fin 8)).cast nbuf0_2)
abbrev st3 (t : Fin (cfg a).N) : Memref sig .tc .vmem S1x1x1024 .f32 := spec0_3.stage ((cfg a).slots t (3 : Fin 8))
abbrev hst3 (t : Fin (cfg a).N) : (st3 a t).IsWhole := hstage0_3 (((cfg a).slots t (3 : Fin 8)).cast nbuf0_3)
abbrev st4 (t : Fin (cfg a).N) : Memref sig .tc .vmem S1x1x1024 .f32 := spec0_4.stage ((cfg a).slots t (4 : Fin 8))
abbrev hst4 (t : Fin (cfg a).N) : (st4 a t).IsWhole := hstage0_4 (((cfg a).slots t (4 : Fin 8)).cast nbuf0_4)
abbrev st5 (t : Fin (cfg a).N) : Memref sig .tc .vmem S1x1024x1024 .bf16 := spec0_5.stage ((cfg a).slots t (5 : Fin 8))
abbrev hst5 (t : Fin (cfg a).N) : (st5 a t).IsWhole := hstage0_5 (((cfg a).slots t (5 : Fin 8)).cast nbuf0_5)
abbrev st6 (t : Fin (cfg a).N) : Memref sig .tc .vmem S1x1x1024 .f32 := spec0_6.stage ((cfg a).slots t (6 : Fin 8))
abbrev hst6 (t : Fin (cfg a).N) : (st6 a t).IsWhole := hstage0_6 (((cfg a).slots t (6 : Fin 8)).cast nbuf0_6)
abbrev st7 (t : Fin (cfg a).N) : Memref sig .tc .vmem S256x1024 .f32 := spec0_7.stage ((cfg a).slots t (7 : Fin 8))
abbrev hst7 (t : Fin (cfg a).N) : (st7 a t).IsWhole := hstage0_7 (((cfg a).slots t (7 : Fin 8)).cast nbuf0_7)

/-- A window's block at a point, read off its array at the launch. -/
def blk (c : Dev nD) (w : Fin (cfg a).W) (t : Fin (cfg a).N) : (((cfg a).win w).xblock (at_ a t)).Idx → Elt F ((cfg a).win w).elt :=
  (((cfg a).win w).blk t).view.read (Elt F) ((s₀ m ρ).mem (((cfg a).win w).arr.view.loc (c : Thread nD τ)))

/-- What a point leaves in the output's buffer, from its blocks. -/
def made (c : Dev nD) (t : Fin (cfg a).N) : Vec F S256x1024 .f32 :=
  left (at_ a t) (inUse (a.1 2)) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t)

/-- The body's halves of the tables. -/
def held (c : Dev nD) : sProp 𝕄 :=
  iprop((tab0.view.loc (c : Thread nD τ) ↦{fullShare.right} a.1 0) ∗ (tab1.view.loc (c : Thread nD τ) ↦{fullShare.right} a.1 1) ∗ (tab2.view.loc (c : Thread nD τ) ↦{fullShare.right} a.1 2))

/-- The pipeline's proof data on core `c`. -/
def dats (_ : Fin 1) (c : Dev nD) : Dat τ (Elt F) Unit ℕ (UR sig nD τ) ℕ (cfg a) c where
  A w := (s₀ m ρ).mem (((cfg a).win w).arr.view.loc (c : Thread nD τ))
  after w t := match w with
    | ⟨0, _⟩ => blk a m ρ c (0 : Fin 8) t
    | ⟨1, _⟩ => blk a m ρ c (1 : Fin 8) t
    | ⟨2, _⟩ => blk a m ρ c (2 : Fin 8) t
    | ⟨3, _⟩ => blk a m ρ c (3 : Fin 8) t
    | ⟨4, _⟩ => blk a m ρ c (4 : Fin 8) t
    | ⟨5, _⟩ => blk a m ρ c (5 : Fin 8) t
    | ⟨6, _⟩ => blk a m ρ c (6 : Fin 8) t
    | ⟨7, _⟩ => made a m ρ c t
  Φ _ := held a c
  q _ := fullShare
  owed _ := 0

theorem after0 (c : Dev nD) (t : Fin (cfg a).N) : (dats a m ρ 0 c).after (0 : Fin 8) t = blk a m ρ c (0 : Fin 8) t := rfl
theorem after1 (c : Dev nD) (t : Fin (cfg a).N) : (dats a m ρ 0 c).after (1 : Fin 8) t = blk a m ρ c (1 : Fin 8) t := rfl
theorem after2 (c : Dev nD) (t : Fin (cfg a).N) : (dats a m ρ 0 c).after (2 : Fin 8) t = blk a m ρ c (2 : Fin 8) t := rfl
theorem after3 (c : Dev nD) (t : Fin (cfg a).N) : (dats a m ρ 0 c).after (3 : Fin 8) t = blk a m ρ c (3 : Fin 8) t := rfl
theorem after4 (c : Dev nD) (t : Fin (cfg a).N) : (dats a m ρ 0 c).after (4 : Fin 8) t = blk a m ρ c (4 : Fin 8) t := rfl
theorem after5 (c : Dev nD) (t : Fin (cfg a).N) : (dats a m ρ 0 c).after (5 : Fin 8) t = blk a m ρ c (5 : Fin 8) t := rfl
theorem after6 (c : Dev nD) (t : Fin (cfg a).N) : (dats a m ρ 0 c).after (6 : Fin 8) t = blk a m ρ c (6 : Fin 8) t := rfl
theorem after7 (c : Dev nD) (t : Fin (cfg a).N) : (dats a m ρ 0 c).after (7 : Fin 8) t = made a m ρ c t := rfl

/-! An input's buffer holds its block when the body runs, fetched at that point or not. -/

theorem before0 (c : Dev nD) (t : Fin (cfg a).N) (d) : (dats a m ρ 0 c).before (0 : Fin 8) t d = blk a m ρ c (0 : Fin 8) t :=
  ((dats a m ρ 0 c).before_in_eq_fetched (0 : Fin 8) rfl (fun _ => rfl) (fun _ _ _ => rfl) (fun t => by rw [after0]; unfold Dat.blockOf blk; rfl) t d).trans
    (by unfold Dat.fetched Dat.blockOf blk; rfl)
theorem before1 (c : Dev nD) (t : Fin (cfg a).N) (d) : (dats a m ρ 0 c).before (1 : Fin 8) t d = blk a m ρ c (1 : Fin 8) t :=
  ((dats a m ρ 0 c).before_in_eq_fetched (1 : Fin 8) rfl (fun _ => rfl) (fun _ _ _ => rfl) (fun t => by rw [after1]; unfold Dat.blockOf blk; rfl) t d).trans
    (by unfold Dat.fetched Dat.blockOf blk; rfl)
theorem before2 (c : Dev nD) (t : Fin (cfg a).N) (d) : (dats a m ρ 0 c).before (2 : Fin 8) t d = blk a m ρ c (2 : Fin 8) t :=
  ((dats a m ρ 0 c).before_in_eq_fetched (2 : Fin 8) rfl (fun _ => rfl) (fun _ _ _ => rfl) (fun t => by rw [after2]; unfold Dat.blockOf blk; rfl) t d).trans
    (by unfold Dat.fetched Dat.blockOf blk; rfl)
theorem before3 (c : Dev nD) (t : Fin (cfg a).N) (d) : (dats a m ρ 0 c).before (3 : Fin 8) t d = blk a m ρ c (3 : Fin 8) t :=
  ((dats a m ρ 0 c).before_in_eq_fetched (3 : Fin 8) rfl (fun _ => rfl) (fun _ _ _ => rfl) (fun t => by rw [after3]; unfold Dat.blockOf blk; rfl) t d).trans
    (by unfold Dat.fetched Dat.blockOf blk; rfl)
theorem before4 (c : Dev nD) (t : Fin (cfg a).N) (d) : (dats a m ρ 0 c).before (4 : Fin 8) t d = blk a m ρ c (4 : Fin 8) t :=
  ((dats a m ρ 0 c).before_in_eq_fetched (4 : Fin 8) rfl (fun _ => rfl) (fun _ _ _ => rfl) (fun t => by rw [after4]; unfold Dat.blockOf blk; rfl) t d).trans
    (by unfold Dat.fetched Dat.blockOf blk; rfl)
theorem before5 (c : Dev nD) (t : Fin (cfg a).N) (d) : (dats a m ρ 0 c).before (5 : Fin 8) t d = blk a m ρ c (5 : Fin 8) t :=
  ((dats a m ρ 0 c).before_in_eq_fetched (5 : Fin 8) rfl (fun _ => rfl) (fun _ _ _ => rfl) (fun t => by rw [after5]; unfold Dat.blockOf blk; rfl) t d).trans
    (by unfold Dat.fetched Dat.blockOf blk; rfl)
theorem before6 (c : Dev nD) (t : Fin (cfg a).N) (d) : (dats a m ρ 0 c).before (6 : Fin 8) t d = blk a m ρ c (6 : Fin 8) t :=
  ((dats a m ρ 0 c).before_in_eq_fetched (6 : Fin 8) rfl (fun _ => rfl) (fun _ _ _ => rfl) (fun t => by rw [after6]; unfold Dat.blockOf blk; rfl) t d).trans
    (by unfold Dat.fetched Dat.blockOf blk; rfl)

/-- The body at a point, as the pipeline calls it. -/
abbrev bodyAt (t : Fin (cfg a).N) : Prog (TpuEff nD τ sig (Elt F) Λ₀ .tc) PUnit :=
  cc0_experts (at_ a t) (Memref.whole main_arg0) (Memref.isWhole_whole _) (Memref.whole main_arg1) (Memref.isWhole_whole _) (Memref.whole main_arg2) (Memref.isWhole_whole _) (st0 a t) (hst0 a t) (st1 a t) (hst1 a t) (st2 a t) (hst2 a t) (st3 a t) (hst3 a t) (st4 a t) (hst4 a t) (st5 a t) (hst5 a t) (st6 a t) (hst6 a t) (st7 a t) (hst7 a t)

set_option maxHeartbeats 4000000 in
/-- The body's obligation at a point, by whether the point is in use. -/
theorem sound (c : Dev nD) (t : Fin (cfg a).N) :
    iprop((dats a m ρ 0 c).Φ t.castSucc ∗ (dats a m ρ 0 c).owesAt () t.castSucc
        ∗ (∃ d, owns (c : Thread nD τ) (st0 a t) fullShare ((dats a m ρ 0 c).before (0 : Fin 8) t d))
        ∗ (∃ d, owns (c : Thread nD τ) (st1 a t) fullShare ((dats a m ρ 0 c).before (1 : Fin 8) t d))
        ∗ (∃ d, owns (c : Thread nD τ) (st2 a t) fullShare ((dats a m ρ 0 c).before (2 : Fin 8) t d))
        ∗ (∃ d, owns (c : Thread nD τ) (st3 a t) fullShare ((dats a m ρ 0 c).before (3 : Fin 8) t d))
        ∗ (∃ d, owns (c : Thread nD τ) (st4 a t) fullShare ((dats a m ρ 0 c).before (4 : Fin 8) t d))
        ∗ (∃ d, owns (c : Thread nD τ) (st5 a t) fullShare ((dats a m ρ 0 c).before (5 : Fin 8) t d))
        ∗ (∃ d, owns (c : Thread nD τ) (st6 a t) fullShare ((dats a m ρ 0 c).before (6 : Fin 8) t d))
        ∗ (∃ d, owns (c : Thread nD τ) (st7 a t) fullShare ((dats a m ρ 0 c).before (7 : Fin 8) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  rewrite [idle_out a t]
  simp only [before0, before1, before2, before3, before4, before5, before6, after0, after1, after2, after3, after4, after5, after6, after7]
  rewrite [show (dats a m ρ 0 c).Φ t.succ = held a c from rfl, show (dats a m ρ 0 c).Φ t.castSucc = held a c from rfl,
    show (dats a m ρ 0 c).owesAt () t.succ = (dats a m ρ 0 c).owesAt () t.castSucc from rfl]
  unfold held made left
  by_cases hc : k0_cond1 (at_ a t) (inUse (a.1 2)) = 1#1
  · simp only [if_pos hc]
    have h1 := hc
    have h2 : (¬ k0_cond2 (at_ a t) (inUse (a.1 2)) = 1#1) := fun h => (cond_or _ _).mp h hc
    have hw := word_eq (a.1 2)
    iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_used c (at_ a t) (st0 a t) (hst0 a t) (st1 a t) (hst1 a t) (st2 a t) (hst2 a t) (st3 a t) (hst3 a t) (st4 a t) (hst4 a t) (st5 a t) (hst5 a t) (st6 a t) (hst6 a t) (st7 a t) (hst7 a t) (a.1 0) (a.1 1) (a.1 2) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t) ((congrArg (k0_cond1 (at_ a t)) hw).trans h1) (fun h => h2 ((congrArg (k0_cond2 (at_ a t)) hw).symm.trans h)) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, H7⟩
    isplitl [HT0 HT1 HT2]
    · isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7
  · simp only [if_neg hc]
    have h1 := hc
    have h2 : k0_cond2 (at_ a t) (inUse (a.1 2)) = 1#1 := (cond_or _ _).mpr hc
    have hw := word_eq (a.1 2)
    iintro ⟨⟨HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_idle c (at_ a t) (st0 a t) (hst0 a t) (st1 a t) (hst1 a t) (st2 a t) (hst2 a t) (st3 a t) (hst3 a t) (st4 a t) (hst4 a t) (st5 a t) (hst5 a t) (st6 a t) (hst6 a t) (st7 a t) (hst7 a t) (a.1 0) (a.1 1) (a.1 2) (blk a m ρ c (0 : Fin 8) t) (blk a m ρ c (1 : Fin 8) t) (blk a m ρ c (2 : Fin 8) t) (blk a m ρ c (3 : Fin 8) t) (blk a m ρ c (4 : Fin 8) t) (blk a m ρ c (5 : Fin 8) t) (blk a m ρ c (6 : Fin 8) t) (fun h => h1 ((congrArg (k0_cond1 (at_ a t)) hw).symm.trans h)) ((congrArg (k0_cond2 (at_ a t)) hw).trans h2) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [HT2]; · iexact HT2
    isplitl [H7]; · iexists _; iexact H7
    iintro ⟨H0, H1, H2, H3, H4, H5, H6, HT0, HT1, HT2, H7⟩
    isplitl [HT0 HT1 HT2]
    · isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    iexact H7

/-- The library's body obligation, at every point. -/
theorem obligation (c : Dev nD) : BodyObligation (dats a m ρ 0 c) (defs₀ (F := F)) Variants.none () Set.univ := fun t => by
  rw [bigSep_W0]
  exact sound a m ρ c t

/-- The element the staging cells' rounds start from. -/
def start : UR sig nD τ :=
  initOf (Pipeline.cells (cfgs a) ((launch0 (F := F)).cellOf_inj fun _ => a))
    (Pipeline.launchToks (cfgs a) ((launch0 (F := F)).cellOf_inj fun _ => a))

theorem share_full (c : Dev nD) (w : Fin (cfg a).W) : (dats a m ρ 0 c).share w = fullShare := by unfold Dat.share; split <;> rfl

/-- The three tables, as the launch hands them over. -/
theorem tables_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem enter (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = held a c from rfl]
  unfold held
  iintro ⟨-, ⟨HT0, HT1, HT2⟩, -⟩
  isplitl [HT0]; · iexact HT0
  isplitl [HT1]; · iexact HT1
  iexact HT2

theorem leave (c : Dev nD) : (dats a m ρ 0 c).Φ (Fin.last (cfg a).N) ⊢ iprop(BI.emp ∗ Pipeline.scopedRest spec0 c) := by
  rw [scopedRest0_eq, show (dats a m ρ 0 c).Φ (Fin.last (cfg a).N) = held a c from rfl]
  unfold held
  iintro ⟨-, -, -⟩
  isplitr; · iempintro
  iempintro

/-- The final memory: each array at what the pipeline computes, each table as it was. -/
def Done : PUnit × MemSt nD τ sig (Elt F) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

/-- The launch memory's tables hold `a`. -/
def Holds : Prop := ∀ (c : Dev nD) (j : Fin 3), m ((c : Thread nD τ).loc (pre0.ref j)) = a.1 j

set_option backward.isDefEq.respectTransparency.types false in
set_option maxHeartbeats 4000000 in
/-- From a memory whose tables hold `a`, every execution ends with the arrays as computed and every counter at zero. -/
theorem run (hp : Holds a m) : θ_run (defs (F := F)) (onTc (τ := τ) (main (F := F))) (s₀ m ρ) (fun r => Done a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre emb defs₀ Variants.none m ρ main
    (hbody := fun c => (obligation a m ρ c).loose) (hne := (launch0 (F := F)).block_pos)
    (harr := (launch0 (F := F)).arr_whole) (hstage := (launch0 (F := F)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs a) (dats a m ρ) 0 (launch0 (F := F)).win.arr_inj c (launch0 (F := F)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a final memory says of the argument arrays: they are as they were. -/
theorem kept (hp : Holds a m) {r : PUnit × MemSt nD τ sig (Elt F)} (h : Done a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨((h c).2 0).trans (hp c 0).symm, ((h c).2 1).trans (hp c 1).symm, ((h c).2 2).trans (hp c 2).symm,
    ((h c).1 (0 : Fin 8)).trans ((dats a m ρ 0 c).arrAt_in (0 : Fin 8) rfl _),
    ((h c).1 (1 : Fin 8)).trans ((dats a m ρ 0 c).arrAt_in (1 : Fin 8) rfl _),
    ((h c).1 (2 : Fin 8)).trans ((dats a m ρ 0 c).arrAt_in (2 : Fin 8) rfl _),
    ((h c).1 (3 : Fin 8)).trans ((dats a m ρ 0 c).arrAt_in (3 : Fin 8) rfl _),
    ((h c).1 (4 : Fin 8)).trans ((dats a m ρ 0 c).arrAt_in (4 : Fin 8) rfl _),
    ((h c).1 (5 : Fin 8)).trans ((dats a m ρ 0 c).arrAt_in (5 : Fin 8) rfl _),
    ((h c).1 (6 : Fin 8)).trans ((dats a m ρ 0 c).arrAt_in (6 : Fin 8) rfl _)⟩

end Cert.ExpertsLastIdeal.Tables

end
-- ==== Proof.ExpertsLastIdeal.Pre.lean ====
/-
  The precondition `routed`, read: every block's expert is one of the 32 and every block's rows are rows of the buffer
  (so the tables are admissible, `adm`), and a block in use reads its own rows. With it, `ExpertsLastIdeal` runs and keeps its arguments.
-/
module

public import proofs.«01_k».proof.Proof.ExpertsLastIdeal.Launch
public import proofs.«01_k».proof.Proof.Gen.Pre_routed_last
public import proofs.«01_k».proof.Defs
public import Idealize.ShloMosaic.Lib.WordCmp

@[expose] public section

set_option maxRecDepth 16384
set_option Elab.async false

noncomputable section

namespace Cert.ExpertsLastIdeal.Tables

open Cert.ExpertsLastIdeal Cert.ExpertsLastIdeal.Gen
open Idealize.ShloMosaic Idealize.ShloMosaic.WordCmp
open Idealize.SL.Sem

variable {F : FTy → Type} [FloatOps F]

attribute [local instance] Cert.Pre_routed_last.Gen.facts

/-- What `routed` says of the tables: the experts `e`, the row blocks `x` and the number `n` of blocks in use. -/
def Routed (e x : IVec S288 32) (n : IVec S1 32) : Prop :=
  ∀ j : S288.Idx, (e j).toNat < 32 ∧ (x j).toNat < 288 ∧ ((((j 0).val : ℕ) : Int) < (inUse n).toInt → (x j).toNat = (j 0).val)

/-- A word between `0` and a small bound, as signed numbers, is below the bound as a natural number. -/
theorem below {x : BitVec 32} {k : ℕ} (hk : k < 2 ^ 31) (h0 : (0#32).toInt ≤ x.toInt) (h1 : x.toInt < (BitVec.ofNat 32 k).toInt) : x.toNat < k := by
  have hx : x.toNat < 2 ^ 31 := (toInt_nonneg_iff_lt_half x).1 (by simpa using h0)
  rw [toInt_eq_toNat_of_lt_half hx, toInt_ofNat_of_lt hk] at h1
  omega

theorem routed_of {e x : IVec S288 32} {n : IVec S1 32} (x3) (x4) (x5) (x6) (x7) (x8) (x9)
    (h : Cert.Pre_routed_last.fn (F := F) e x n x3 x4 x5 x6 x7 x8 x9 = fun _ => 1#1) : Routed e x n := by
  intro j
  have hj : IntOp.andi (IntOp.andi (IntOp.andi (IntOp.andi (IntOp.cmpi .sge (e j) 0#32) (IntOp.cmpi .slt (e j) (BitVec.ofNat 32 32)))
      (IntOp.cmpi .sge (x j) 0#32)) (IntOp.cmpi .slt (x j) (BitVec.ofNat 32 288)))
      (IntOp.ori (IntOp.cmpi .eq (x j) (BitVec.ofNat 32 (j 0).val)) (IntOp.cmpi .sge (BitVec.ofNat 32 (j 0).val) (inUse n))) = 1#1 := by
    have hn : (broadcastInDim S288 ![0] Cert.Pre_routed_last.Facts.bcast_S1_S288_0 n : IVec S288 32) j = inUse n := congrArg n (by
      funext a; exact Fin.ext (by have := a.isLt; match a with | ⟨0, _⟩ => rfl))
    rw [← hn]
    exact congrFun h j
  have lj : (j 0).val < 288 := (j 0).isLt
  rw [cmpi_sge_eq, cmpi_slt_eq, cmpi_sge_eq, cmpi_slt_eq, cmpi_eq_eq, cmpi_sge_eq, ori_ofBool, andi_ofBool, andi_ofBool, andi_ofBool, andi_ofBool,
    ofBool_eq_one_iff] at hj
  simp only [Bool.and_eq_true, Bool.or_eq_true, decide_eq_true_eq] at hj
  obtain ⟨⟨⟨⟨h1, h2⟩, h3⟩, h4⟩, h5⟩ := hj
  refine ⟨below (by decide) h1 h2, below (by decide) h3 h4, fun hn => ?_⟩
  rcases h5 with h5 | h5
  · rw [h5]; exact toNat_ofNat_of_lt (by omega)
  · rw [toInt_ofNat_of_lt (show (j 0).val < 2 ^ (32 - 1) by omega)] at h5
    omega

/-- The three tables, held together. -/
def tables (e x : IVec S288 32) (n : IVec S1 32) : pre0.Contents (Elt F) := fun
  | ⟨0, _⟩ => e
  | ⟨1, _⟩ => x
  | ⟨2, _⟩ => n
  | ⟨_ + 3, h⟩ => absurd h (by simp)

theorem ok_of {e x : IVec S288 32} {n : IVec S1 32} (h : Routed e x n) : ok0 (F := F) (tables e x n) := by
  have hx : ∀ i : grid0.Coords, ∀ a : Fin 2, (cc0_transform_0 k0_off1_inb numel1_S1 (tables (F := F) e x n) i a + 1) * S256x1024.size a ≤ S73728x1024.size a := fun i a => by
    match a with
    | ⟨0, _⟩ =>
      obtain ⟨j, hj⟩ : ∃ j, cc0_transform_0 k0_off1_inb numel1_S1 (tables (F := F) e x n) i (⟨0, by decide⟩ : Fin _) = (x j).toNat := ⟨_, rfl⟩
      have := (h j).2.1
      show (cc0_transform_0 k0_off1_inb numel1_S1 (tables (F := F) e x n) i (⟨0, by decide⟩ : Fin _) + 1) * 256 ≤ 73728
      omega
    | ⟨1, _⟩ => exact (by decide : (0 + 1) * 1024 ≤ 1024)
  have hm : ∀ i : grid0.Coords, ∀ a : Fin 3, (cc0_transform_1 k0_off1_inb numel1_S1 (tables (F := F) e x n) i a + 1) * S1x1024x1024.size a ≤ S32x1024x1024.size a := fun i a => by
    match a with
    | ⟨0, _⟩ =>
      obtain ⟨j, hj⟩ : ∃ j, cc0_transform_1 k0_off1_inb numel1_S1 (tables (F := F) e x n) i (⟨0, by decide⟩ : Fin _) = (e j).toNat := ⟨_, rfl⟩
      have := (h j).1
      show (cc0_transform_1 k0_off1_inb numel1_S1 (tables (F := F) e x n) i (⟨0, by decide⟩ : Fin _) + 1) * 1 ≤ 32
      omega
    | ⟨1, _⟩ => exact (by decide : (0 + 1) * 1024 ≤ 1024)
    | ⟨2, _⟩ => exact (by decide : (0 + 1) * 1024 ≤ 1024)
  have hv : ∀ i : grid0.Coords, ∀ a : Fin 3, (cc0_transform_3 k0_off1_inb numel1_S1 (tables (F := F) e x n) i a + 1) * S1x1x1024.size a ≤ S32x1x1024.size a := fun i a => by
    match a with
    | ⟨0, _⟩ =>
      obtain ⟨j, hj⟩ : ∃ j, cc0_transform_3 k0_off1_inb numel1_S1 (tables (F := F) e x n) i (⟨0, by decide⟩ : Fin _) = (e j).toNat := ⟨_, rfl⟩
      have := (h j).1
      show (cc0_transform_3 k0_off1_inb numel1_S1 (tables (F := F) e x n) i (⟨0, by decide⟩ : Fin _) + 1) * 1 ≤ 32
      omega
    | ⟨1, _⟩ => exact (by decide : (0 + 1) * 1 ≤ 1)
    | ⟨2, _⟩ => exact (by decide : (0 + 1) * 1024 ≤ 1024)
  exact ⟨fun i => ⟨hx i, .inl rfl⟩, fun i => ⟨hm i, .inr (Affine.block_words_dvd (s := S32x1024x1024) (p := EltTy.packing .bf16) (by decide) (by decide))⟩,
    fun i => ⟨hm i, .inr (Affine.block_words_dvd (s := S32x1024x1024) (p := EltTy.packing .bf16) (by decide) (by decide))⟩,
    fun i => ⟨hv i, .inl rfl⟩, fun i => ⟨hv i, .inl rfl⟩,
    fun i => ⟨hm i, .inr (Affine.block_words_dvd (s := S32x1024x1024) (p := EltTy.packing .bf16) (by decide) (by decide))⟩, fun i => ⟨hv i, .inl rfl⟩⟩

variable (m : (ℓ : Loc nD τ sig) → Buf (Elt F) ℓ)

/-- The tables in memory on the one device. -/
abbrev e_ : IVec S288 32 := m (((0 : Dev nD).tc : Thread nD τ).loc main_arg0)
abbrev x_ : IVec S288 32 := m (((0 : Dev nD).tc : Thread nD τ).loc main_arg1)
abbrev n_ : IVec S1 32 := m (((0 : Dev nD).tc : Thread nD τ).loc main_arg2)

theorem one_dev (c : Dev nD) : c = 0 := by
  match c with
  | ⟨0, _⟩ => rfl

/-- The precondition on the arrays of a memory, floats in any format. -/
abbrev RoutedMem : Prop := ∀ c : Dev nD,
  Cert.Pre_routed_last.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) = fun _ => 1#1

theorem routed_mem (h : RoutedMem m) : Routed (e_ m) (x_ m) (n_ m) := routed_of _ _ _ _ _ _ _ (h 0)

/-- Memory's tables, admissible. -/
def adm (h : RoutedMem m) : (pcfg0 (F := F)).Adm := ⟨tables (e_ m) (x_ m) (n_ m), ok_of (routed_mem m h)⟩

theorem holds (h : RoutedMem m) : Holds (adm m h) m := fun c j => by
  obtain rfl := one_dev c
  match j with
  | ⟨0, _⟩ => rfl
  | ⟨1, _⟩ => rfl
  | ⟨2, _⟩ => rfl

attribute [local instance] Cert.ExpertsLastIdeal.Gen.facts

/-- A memory holds the arguments of `m`. -/
abbrev Kept (μ : (ℓ : Loc nD τ sig) → Buf (Elt F) ℓ) : Prop := ∀ c : Dev nD,
  μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)
    ∧ μ ((c.tc : Thread nD τ).loc main_arg3) = m ((c.tc : Thread nD τ).loc main_arg3)
    ∧ μ ((c.tc : Thread nD τ).loc main_arg4) = m ((c.tc : Thread nD τ).loc main_arg4)
    ∧ μ ((c.tc : Thread nD τ).loc main_arg5) = m ((c.tc : Thread nD τ).loc main_arg5)
    ∧ μ ((c.tc : Thread nD τ).loc main_arg6) = m ((c.tc : Thread nD τ).loc main_arg6)
    ∧ μ ((c.tc : Thread nD τ).loc main_arg7) = m ((c.tc : Thread nD τ).loc main_arg7)
    ∧ μ ((c.tc : Thread nD τ).loc main_arg8) = m ((c.tc : Thread nD τ).loc main_arg8)
    ∧ μ ((c.tc : Thread nD τ).loc main_arg9) = m ((c.tc : Thread nD τ).loc main_arg9)

/-- Every run ends with the arguments kept and no signal outstanding, floats in any format. -/
theorem quiesces (g : Dev nD → PrngReg) (h : RoutedMem m) :
    θ_run (defs (F := F)) (onTc (τ := τ) (main (F := F))) ⟨m, fun _ => 0, g⟩ (fun r => Kept m r.2.mem ∧ r.2.sem = fun _ => 0) :=
  (θ_run _ _ _).mono (fun r hr => ⟨fun c => kept (adm m h) m g (holds m h) hr.1 c, hr.2⟩) (run (adm m h) m g (holds m h))

/-- The frame claim. -/
theorem quiescent : quiescent_ExpertsLastIdeal := fun m g h => quiesces m g h

end Cert.ExpertsLastIdeal.Tables

end
-- ==== Proof.ExpertsLast.Pre.lean ====
/-
  The last layer's expert program with its floats as stored words is the same program as the one at the extended reals, written with its
  float format open: its runs are therefore those already read.
-/
module

public import proofs.«01_k».proof.Proof.ExpertsLastIdeal.Pre
public import proofs.«01_k».proof.Proof.Gen.ExpertsLast.Launch

@[expose] public section

set_option maxRecDepth 16384
set_option maxHeartbeats 1000000

noncomputable section

namespace Cert.ExpertsLast.Tables

open Idealize.ShloMosaic Idealize.SL.Sem

attribute [local instance] Cert.ExpertsLast.Gen.facts Cert.ExpertsLastIdeal.Gen.facts Cert.Pre_routed_last.Gen.facts

variable {F : FTy → Type} [FloatOps F]

theorem body_eq : Cert.ExpertsLast.defs₀ (F := F) = Cert.ExpertsLastIdeal.defs₀ (F := F) := by
  unfold Cert.ExpertsLast.defs₀ Cert.ExpertsLastIdeal.defs₀
  refine congrArg Defs.onTc ?_
  funext l a
  match l, a with
  | 0, (t, s) => rfl

theorem defs_eq : Cert.ExpertsLast.defs (F := F) = Cert.ExpertsLastIdeal.defs (F := F) :=
  congrArg (Pipeline.defs (Cert.ExpertsLast.pcfgs (F := F))) body_eq

theorem main_eq : Cert.ExpertsLast.main (F := F) = Cert.ExpertsLastIdeal.main (F := F) := rfl

/-- The frame claim. -/
theorem quiescent : quiescent_ExpertsLast := fun m g h => by
  rw [defs_eq, main_eq]
  exact Cert.ExpertsLastIdeal.Tables.quiesces (F := Bits) m g h

end Cert.ExpertsLast.Tables

end
-- ==== Proof.ExpertsLastIdeal.Value.lean ====
/-
  The expert kernel's result array as one function of its arguments, at the extended reals: a block in use holds the rows'
  experts, any other block zeros, and the blocks cover the array.
-/
module

public import proofs.«01_k».proof.Proof.ExpertsLastIdeal.Pre
public import proofs.«01_k».proof.Proof.Expert
public import Idealize.ShloMosaic.Lib.ValueLayout

@[expose] public section

set_option maxRecDepth 16384
set_option Elab.async false

noncomputable section

namespace Cert.ExpertsLastIdeal.Tables

open Cert.ExpertsLastIdeal Cert.ExpertsLastIdeal.Gen
open Idealize.ShloMosaic Idealize.ShloMosaic.TcCoe Idealize.ShloMosaic.ValueIdx
open Idealize.ShloMosaic.Pipeline (Dat)

/-! ### A block -/

section Block
variable (x0 : Vec Ideal S256x1024 .f32) (x1 x2 : Vec Ideal S1x1024x1024 .bf16) (x3 x4 : Vec Ideal S1x1x1024 .f32)
  (x5 : Vec Ideal S1x1024x1024 .bf16) (x6 : Vec Ideal S1x1x1024 .f32)

theorem bias_apply (b : Vec Ideal S1x1x1024 .f32) (r : Fin 256) (f : Fin 1024) :
    broadcastTo S256x1024 (shapeCast S1x1024 b shapeCasts_S1x1x1024_S1x1024) broadcasts_S1x1024_S256x1024 (ix2 r f) = b (ix3 (0 : Fin 1) (0 : Fin 1) f) := by
  rw [broadcastTo_1b_ab_apply, shapeCast_1ab_ab_apply]

theorem product_apply (y : FVec Ideal S256x1024 .bf16) (w : Vec Ideal S1x1024x1024 .bf16) (r : Fin 256) (f : Fin 1024) :
    matmul dot_S256x1024_S1024x1024_S256x1024_1_0_0_1_n_n none y (shapeCast S1024x1024 w shapeCasts_S1x1024x1024_S1024x1024 : FVec Ideal S1024x1024 .bf16)
        (constant S256x1024 .f32 0x00000000#32) (ix2 r f)
      = Row.dot (fun k : Fin 1024 => y (ix2 r k)) (fun k : Fin 1024 => w (ix3 (0 : Fin 1) k f)) := by
  refine (Row.mixed_apply _ rfl y _ r f).trans ?_
  unfold Row.dot
  refine Finset.sum_congr rfl fun k _ => ?_
  rw [shapeCast_1ab_ab_apply]

/-- The value a block in use stores, read at an index. -/
theorem stored_apply (r : Fin 256) (c : Fin 1024) : k0_pay1 (k0_pay3 x0 x1 x3 x2 x4 x5) x6 (ix2 r c)
    = Expert.out (fun k => x0 (ix2 r k)) (fun k f => x1 (ix3 (0 : Fin 1) k f)) (fun k f => x2 (ix3 (0 : Fin 1) k f)) (fun f => x3 (ix3 (0 : Fin 1) (0 : Fin 1) f))
        (fun f => x4 (ix3 (0 : Fin 1) (0 : Fin 1) f)) (fun k f => x5 (ix3 (0 : Fin 1) k f)) (fun f => x6 (ix3 (0 : Fin 1) (0 : Fin 1) f)) c := by
  unfold k0_pay1 k0_pay3 Expert.out
  rw [addf_apply, bias_apply]
  refine congrArg (· + _) ((product_apply _ x5 r c).trans ?_)
  congr 1
  funext f
  unfold Expert.hidden Expert.act
  have eg := product_apply (truncf .bf16 x0 bitsLt_bf16_f32) x1 r f
  have el := product_apply (truncf .bf16 x0 bitsLt_bf16_f32) x2 r f
  have bg := bias_apply x3 r f
  have bl := bias_apply x4 r f
  simp only [truncf_apply] at eg el ⊢
  rw [← bg, ← bl]
  rw [show Row.dot (fun k : Fin 1024 => x0 (ix2 r k)) (fun k => x1 (ix3 (0 : Fin 1) k f)) = _ from eg.symm,
    show Row.dot (fun k : Fin 1024 => x0 (ix2 r k)) (fun k => x2 (ix3 (0 : Fin 1) k f)) = _ from el.symm]
  rfl

end Block

/-- A point's block is in use when its number is below the third table's. -/
theorem cond_iff (i : grid0.Coords) (w : BitVec 32) : k0_cond1 i w = 1#1 ↔ (((i 0).val : ℕ) : Int) < w.toInt := by
  have key : ∀ p : Bool, (Scalar.cmpi .ne (Scalar.extui (BitVec.ofBool p) : BitVec 32) 0#32 = 1#1) ↔ p = true := by decide
  have hi : (i 0).val < 288 := (i 0).isLt
  show (Scalar.cmpi .ne (Scalar.extui (BitVec.ofBool ((BitVec.ofNat 32 (i 0).val).slt w)) : BitVec 32) 0#32 = 1#1) ↔ _
  rw [key]
  simp only [BitVec.slt, decide_eq_true_eq]
  rw [WordCmp.toInt_ofNat_of_lt (show (i 0).val < 2 ^ (32 - 1) by omega)]

/-! ### The array -/

/-- The block a row of the array lies in. -/
def blockOf (i : Fin 73728) : Fin 288 := ⟨i.val / 256, by omega⟩

/-- The result as a function of the arguments: every row its block's expert, or zero. -/
def result (e : IVec S288 32) (n : IVec S1 32) (xb : S73728x1024.Idx → EReal) (wa wb : Expert.Mats.Idx → EReal) (ba bb : Expert.Vecs.Idx → EReal)
    (wc : Expert.Mats.Idx → EReal) (bc : Expert.Vecs.Idx → EReal) (i : S73728x1024.Idx) : EReal :=
  Expert.row ((((blockOf (i 0)).val : ℕ) : Int) < (inUse n).toInt) (Expert.pick (e (ix1 (blockOf (i 0))))) (fun k => xb (ix2 (i 0) k)) wa wb ba bb wc bc (i 1)

section Array
variable (a : (pcfg0 (F := Ideal)).Adm) (m : (ℓ : Loc nD τ sig) → Buf (Elt Ideal) ℓ) (ρ : Dev nD → PrngReg) (c : Dev nD)

/-- The block a point works on. -/
def num (t : Fin (cfg a).N) : Fin 288 := ⟨t.val, t.isLt⟩

theorem coord_eq : ∀ t : Fin grid0.N, ((grid0.coords t) 0).val = t.val ∧ k0_off1 (grid0.coords t) 0 = t.val :=
  (by decide +kernel : ∀ t : Fin grid0.N, ((grid0.coords t) 0).val = t.val ∧ k0_off1 (grid0.coords t) 0 = t.val)

theorem index_out : ∀ t : Fin (cfg a).N, ((cfg a).win (7 : Fin 8)).index t (0 : Fin 2) = t.val ∧ ((cfg a).win (7 : Fin 8)).index t (1 : Fin 2) = 0 := fun t =>
  (by decide +kernel : ∀ t : Fin grid0.N, cc0_transform_7 (grid0.coords t) 0 = t.val ∧ cc0_transform_7 (grid0.coords t) 1 = 0) t

/-- The place of a table a point's index maps read. -/
theorem slot_eq (t : Fin grid0.N) (h) : (Rect.unit (s := S288) (k0_off1 (grid0.coords t)) S1.size (k0_off1_inb (grid0.coords t))).emb (Shape.Idx.first h) = ix1 (⟨t.val, t.isLt⟩ : Fin 288) := by
  funext k
  apply Fin.ext
  match k with
  | ⟨0, _⟩ => exact (Nat.add_zero _).trans (coord_eq t).2

theorem index_rows (t : Fin (cfg a).N) : ((cfg a).win (0 : Fin 8)).index t (0 : Fin 2) = (a.1 1 (ix1 (num a t))).toNat :=
  congrArg (fun j => (a.1 1 j).toNat) (slot_eq t _)

theorem index_expert1 (t : Fin (cfg a).N) : ((cfg a).win (1 : Fin 8)).index t (0 : Fin 3) = (a.1 0 (ix1 (num a t))).toNat :=
  congrArg (fun j => (a.1 0 j).toNat) (slot_eq t _)

/-- A point's block of rows, read at an index. -/
theorem rows_apply (hr : Routed (a.1 0) (a.1 1) (a.1 2)) (t : Fin (cfg a).N) (r : Fin 256) (k : Fin 1024) (h : ((a.1 1 (ix1 (num a t)))).toNat = t.val) (row : Fin 73728)
    (hrow : row.val = t.val * 256 + r.val) :
    (blk a m ρ c (0 : Fin 8) t : Vec Ideal S256x1024 .f32) (ix2 r k) = m ((c : Thread nD τ).loc main_arg3) (ix2 row k) := by
  have e := index_rows a t
  unfold blk
  rw [View.read_apply]
  show m (c.tc.loc main_arg3) _ = m (c.tc.loc main_arg3) _
  congr 1
  funext b
  apply Fin.ext
  match b with
  | ⟨0, _⟩ => show ((cfg a).win (0 : Fin 8)).index t (0 : Fin 2) * 256 + 1 * r.val = row.val; rw [e, h, hrow]; omega
  | ⟨1, _⟩ => show 0 * 1024 + 1 * k.val = k.val; omega

/-- The expert a point's block is given. -/
abbrev exp (t : Fin (cfg a).N) : Fin 32 := Expert.pick (a.1 0 (ix1 (num a t)))

/-! A point's blocks of its expert's arrays, read at an index. -/

theorem gateMat_apply (hr : Routed (a.1 0) (a.1 1) (a.1 2)) (t : Fin (cfg a).N) (k f : Fin 1024) :
    (blk a m ρ c (1 : Fin 8) t : Vec Ideal S1x1024x1024 .bf16) (ix3 (0 : Fin 1) k f) = m ((c : Thread nD τ).loc main_arg4) (ix3 (exp a t) k f) := by
  have e : ((cfg a).win (1 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg4) _ = m (c.tc.loc main_arg4) _
  congr 1
  funext b
  apply Fin.ext
  match b with
  | ⟨0, _⟩ => show ((cfg a).win (1 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem linMat_apply (hr : Routed (a.1 0) (a.1 1) (a.1 2)) (t : Fin (cfg a).N) (k f : Fin 1024) :
    (blk a m ρ c (2 : Fin 8) t : Vec Ideal S1x1024x1024 .bf16) (ix3 (0 : Fin 1) k f) = m ((c : Thread nD τ).loc main_arg5) (ix3 (exp a t) k f) := by
  have e : ((cfg a).win (2 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg5) _ = m (c.tc.loc main_arg5) _
  congr 1
  funext b
  apply Fin.ext
  match b with
  | ⟨0, _⟩ => show ((cfg a).win (2 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem gateBias_apply (hr : Routed (a.1 0) (a.1 1) (a.1 2)) (t : Fin (cfg a).N) (f : Fin 1024) :
    (blk a m ρ c (3 : Fin 8) t : Vec Ideal S1x1x1024 .f32) (ix3 (0 : Fin 1) (0 : Fin 1) f) = m ((c : Thread nD τ).loc main_arg6) (ix3 (exp a t) (0 : Fin 1) f) := by
  have e : ((cfg a).win (3 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg6) _ = m (c.tc.loc main_arg6) _
  congr 1
  funext b
  apply Fin.ext
  match b with
  | ⟨0, _⟩ => show ((cfg a).win (3 : Fin 8)).index t (0 : Fin 3) * 1 + 1 * 0 = (exp a t).val; rw [e, p]; omega
  | ⟨1, _⟩ => rfl
  | ⟨2, _⟩ => show 0 * 1024 + 1 * f.val = f.val; omega

theorem linBias_apply (hr : Routed (a.1 0) (a.1 1) (a.1 2)) (t : Fin (cfg a).N) (f : Fin 1024) :
    (blk a m ρ c (4 : Fin 8) t : Vec Ideal S1x1x1024 .f32) (ix3 (0 : Fin 1) (0 : Fin 1) f) = m ((c : Thread nD τ).loc main_arg7) (ix3 (exp a t) (0 : Fin 1) f) := by
  have e : ((cfg a).win (4 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg7) _ = m (c.tc.loc main_arg7) _
  congr 1
  funext b
  apply Fin.ext
  match b with
  | ⟨0, _⟩ => show ((cfg a).win (4 : Fin 8)).index t (0 : Fin 3) * 1 + 1 * 0 = (exp a t).val; rw [e, p]; omega
  | ⟨1, _⟩ => rfl
  | ⟨2, _⟩ => show 0 * 1024 + 1 * f.val = f.val; omega

theorem downMat_apply (hr : Routed (a.1 0) (a.1 1) (a.1 2)) (t : Fin (cfg a).N) (k f : Fin 1024) :
    (blk a m ρ c (5 : Fin 8) t : Vec Ideal S1x1024x1024 .bf16) (ix3 (0 : Fin 1) k f) = m ((c : Thread nD τ).loc main_arg8) (ix3 (exp a t) k f) := by
  have e : ((cfg a).win (5 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg8) _ = m (c.tc.loc main_arg8) _
  congr 1
  funext b
  apply Fin.ext
  match b with
  | ⟨0, _⟩ => show ((cfg a).win (5 : Fin 8)).index t (0 : Fin 3) * 1 + 1 * 0 = (exp a t).val; rw [e, p]; omega
  | ⟨1, _⟩ => show 0 * 1024 + 1 * k.val = k.val; omega
  | ⟨2, _⟩ => show 0 * 1024 + 1 * f.val = f.val; omega

theorem downBias_apply (hr : Routed (a.1 0) (a.1 1) (a.1 2)) (t : Fin (cfg a).N) (f : Fin 1024) :
    (blk a m ρ c (6 : Fin 8) t : Vec Ideal S1x1x1024 .f32) (ix3 (0 : Fin 1) (0 : Fin 1) f) = m ((c : Thread nD τ).loc main_arg9) (ix3 (exp a t) (0 : Fin 1) f) := by
  have e : ((cfg a).win (6 : Fin 8)).index t (0 : Fin 3) = (a.1 0 (ix1 (num a t))).toNat := index_expert1 a t
  have p : (exp a t).val = (a.1 0 (ix1 (num a t))).toNat := Expert.pick_val (hr _).1
  unfold blk
  rw [View.read_apply]
  show m (c.tc.loc main_arg9) _ = m (c.tc.loc main_arg9) _
  congr 1
  funext b
  apply Fin.ext
  match b with
  | ⟨0, _⟩ => show ((cfg a).win (6 : Fin 8)).index t (0 : Fin 3) * 1 + 1 * 0 = (exp a t).val; rw [e, p]; omega
  | ⟨1, _⟩ => rfl
  | ⟨2, _⟩ => show 0 * 1024 + 1 * f.val = f.val; omega

/-- The array the launch's memory determines. -/
def array : S73728x1024.Idx → EReal :=
  result (a.1 0) (a.1 2) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- What a point leaves is the array's block of rows. -/
theorem made_apply (hr : Routed (a.1 0) (a.1 1) (a.1 2)) (t : Fin (cfg a).N) (r : Fin 256) (col : Fin 1024) (row : Fin 73728) (hrow : row.val = t.val * 256 + r.val) :
    made a m ρ c t (ix2 r col) = array a m c (ix2 row col) := by
  have hb : blockOf row = num a t := Fin.ext (by show row.val / 256 = t.val; omega)
  unfold array result
  rw [show (ix2 row col : S73728x1024.Idx) 0 = row from rfl, show (ix2 row col : S73728x1024.Idx) 1 = col from rfl, hb]
  unfold made left Expert.row
  have hc : (((at_ a t) 0).val) = t.val := (coord_eq t).1
  by_cases h : k0_cond1 (at_ a t) (inUse (a.1 2)) = 1#1
  · have h' : ((t.val : ℕ) : Int) < (inUse (a.1 2)).toInt := by
      have := (cond_iff _ _).1 h
      rwa [hc] at this
    have hx : (a.1 1 (ix1 (num a t))).toNat = t.val := (hr (ix1 (num a t))).2.2 h'
    rw [if_pos h, if_pos (show (((num a t).val : ℕ) : Int) < (inUse (a.1 2)).toInt from h')]
    refine (stored_apply _ _ _ _ _ _ _ r col).trans ?_
    congr 1
    · exact funext fun k => rows_apply a m ρ c hr t r k hx row hrow
    · exact funext fun k => funext fun f => gateMat_apply a m ρ c hr t k f
    · exact funext fun k => funext fun f => linMat_apply a m ρ c hr t k f
    · exact funext fun f => gateBias_apply a m ρ c hr t f
    · exact funext fun f => linBias_apply a m ρ c hr t f
    · exact funext fun k => funext fun f => downMat_apply a m ρ c hr t k f
    · exact funext fun f => downBias_apply a m ρ c hr t f
  · have h' : ¬ (((num a t).val : ℕ) : Int) < (inUse (a.1 2)).toInt := fun q => h ((cond_iff _ _).2 (by rw [hc]; exact q))
    rw [if_neg h, if_neg h']
    exact Ideal.ofBits_zero_f32

/-- What a point writes back is its block of the array. -/
theorem flushed_eq (hr : Routed (a.1 0) (a.1 1) (a.1 2)) (t : Fin (cfg a).N) :
    (dats a m ρ 0 c).flushed (7 : Fin 8) t = (((cfg a).win (7 : Fin 8)).blk t).view.read (Elt Ideal) (array a m c) := by
  obtain ⟨e0, e1⟩ := index_out a t
  have ht : t.val < 288 := t.isLt
  funext j
  rw [View.read_apply]
  have hj : (j 0).val < 256 := (j 0).isLt
  have hj1 : (j 1).val < 1024 := (j 1).isLt
  have e : (j : S256x1024.Idx) = ix2 (j 0) (j 1) := eq_ix2 j
  refine (congrArg (made a m ρ c t) e).trans ((made_apply a m ρ c hr t (j 0) (j 1) ⟨t.val * 256 + (j 0).val, by omega⟩ rfl).trans ?_)
  show array a m c _ = array a m c _
  congr 1
  funext b
  apply Fin.ext
  match b with
  | ⟨0, _⟩ => show t.val * 256 + (j 0).val = ((cfg a).win (7 : Fin 8)).index t (0 : Fin 2) * 256 + 1 * (j 0).val; rw [e0]; omega
  | ⟨1, _⟩ => show (j 1).val = ((cfg a).win (7 : Fin 8)).index t (1 : Fin 2) * 1024 + 1 * (j 1).val; rw [e1]; omega

/-- Every point writes its block back: the next point's is another. -/
theorem flush_out (t : Fin (cfg a).N) : ((cfg a).win (7 : Fin 8)).flush t = true := by
  unfold Pipeline.Window.flush
  have : t.val < 288 := t.isLt
  by_cases h : t.val + 1 < 288
  · have : decide (∃ h, ((cfg a).win (7 : Fin 8)).index ⟨t.val + 1, h⟩ ≠ ((cfg a).win (7 : Fin 8)).index t) = true :=
      decide_eq_true ⟨h, fun q => by
        have q0 := (index_out a ⟨t.val + 1, h⟩).1.symm.trans ((congrFun q (0 : Fin 2)).trans (index_out a t).1)
        have : t.val + 1 = t.val := q0
        omega⟩
    rw [this]; simp
  · have : t.val + 1 = 288 := by omega
    have : decide (t.val + 1 = (cfg a).N) = true := decide_eq_true this
    rw [this]; simp

/-- Every index of the array lies in the block of a point. -/
theorem cover (i : S73728x1024.Idx) : ∃ t : Fin (cfg a).N, ((cfg a).win (7 : Fin 8)).flush t = true ∧ i ∈ (((cfg a).win (7 : Fin 8)).blk t).view.set := by
  have h0 : (i 0 : Nat) < 73728 := (i 0).isLt
  have h1 : (i 1 : Nat) < 1024 := (i 1).isLt
  have hlt : (i 0 : Nat) / 256 < 288 := by omega
  obtain ⟨t, ht⟩ : ∃ t : Fin (cfg a).N, t.val = (i 0 : Nat) / 256 := ⟨⟨_, hlt⟩, rfl⟩
  obtain ⟨e0, e1⟩ := index_out a t
  refine ⟨t, flush_out a t, ?_⟩
  show i ∈ ((View.whole main_v0).slice (((cfg a).win (7 : Fin 8)).rect t)).set
  rw [View.set_slice_whole, Rect.mem_set_unit]
  intro b
  match b with
  | ⟨0, _⟩ =>
    show ((cfg a).win (7 : Fin 8)).index t (0 : Fin 2) * 256 ≤ (i 0 : Nat) ∧ (i 0 : Nat) < ((cfg a).win (7 : Fin 8)).index t (0 : Fin 2) * 256 + 256
    rw [e0]; omega
  | ⟨1, _⟩ =>
    show ((cfg a).win (7 : Fin 8)).index t (1 : Fin 2) * 1024 ≤ (i 1 : Nat) ∧ (i 1 : Nat) < ((cfg a).win (7 : Fin 8)).index t (1 : Fin 2) * 1024 + 1024
    rw [e1]; omega

/-- The array the run leaves. -/
theorem final (hr : Routed (a.1 0) (a.1 1) (a.1 2)) : (dats a m ρ 0 c).arrAt (7 : Fin 8) (cfg a).N = array a m c :=
  (dats a m ρ 0 c).arrAt_eq_of_cover (7 : Fin 8) (array a m c) (fun t _ => flushed_eq a m ρ c hr t) (cover a)

end Array

end Cert.ExpertsLastIdeal.Tables

end
-- ==== Proof.ExpertsLastIdeal.Ref.lean ====
/-
  The reference experts read at an index: every block takes its expert's arrays, and a row of it is that expert's output on
  the row, or zero when the block is not in use.
-/
module

public import proofs.«01_k».proof.Proof.ExpertsLastIdeal.Value
public import proofs.«01_k».proof.Proof.Gen.ExpertsLastRefIdeal.Run
public import proofs.«01_k».proof.Proof.Gen.ExpertsLastRefIdeal.Read

@[expose] public section

set_option maxRecDepth 16384

noncomputable section

namespace Cert.ExpertsLastRefIdeal.Array

open Cert.ExpertsLastRefIdeal Cert.ExpertsLastRefIdeal.Gen Cert.ExpertsLastRefIdeal.Read Idealize.ShloMosaic Idealize.ShloMosaic.TcCoe Idealize.ShloMosaic.ValueIdx

variable (e : (⟨S288, .i32⟩ : BufTy).Contents (Elt Ideal)) (n : (⟨S1, .i32⟩ : BufTy).Contents (Elt Ideal))
  (xb : (⟨S73728x1024, .f32⟩ : BufTy).Contents (Elt Ideal)) (wa wb : (⟨S32x1024x1024, .bf16⟩ : BufTy).Contents (Elt Ideal))
  (ba bb : (⟨S32x1x1024, .f32⟩ : BufTy).Contents (Elt Ideal)) (wc : (⟨S32x1024x1024, .bf16⟩ : BufTy).Contents (Elt Ideal))
  (bc : (⟨S32x1x1024, .f32⟩ : BufTy).Contents (Elt Ideal))

/-- The expert of a block. -/
abbrev ex (j : Fin 288) : Fin 32 := Expert.pick (e (ix1 j))

/-- The row of the array a row of a block is. -/
def rowOf (j : Fin 288) (r : Fin 256) : Fin 73728 := ⟨j.val * 256 + r.val, by omega⟩

/-! ### The taken arrays -/

theorem v2_eq (j : Fin 288) (a b : Fin 1024) : val_main_v2 (F := Ideal) e wa (ix3 j a b) = wa (ix3 (ex e j) a b) := by
  rw [val_main_v2_apply]
  unfold val_main_v1
  refine (Expert.take_apply _ rfl rfl rfl rfl rfl rfl rfl _ _ j a b).trans ?_
  rw [val_main_call0_v0_apply]
  exact congrArg (fun w => wa (ix3 (Expert.pick (e w)) a b)) (funext fun k => by match k with | ⟨0, _⟩ => rfl)

theorem v4_eq (j : Fin 288) (a b : Fin 1024) : val_main_v4 (F := Ideal) e wb (ix3 j a b) = wb (ix3 (ex e j) a b) := by
  rw [val_main_v4_apply]
  unfold val_main_v3
  refine (Expert.take_apply _ rfl rfl rfl rfl rfl rfl rfl _ _ j a b).trans ?_
  rw [val_main_call1_v0_apply]
  exact congrArg (fun w => wb (ix3 (Expert.pick (e w)) a b)) (funext fun k => by match k with | ⟨0, _⟩ => rfl)

theorem v6_eq (j : Fin 288) (a b : Fin 1024) : val_main_v6 (F := Ideal) e wc (ix3 j a b) = wc (ix3 (ex e j) a b) := by
  rw [val_main_v6_apply]
  unfold val_main_v5
  refine (Expert.take_apply _ rfl rfl rfl rfl rfl rfl rfl _ _ j a b).trans ?_
  rw [val_main_call2_v0_apply]
  exact congrArg (fun w => wc (ix3 (Expert.pick (e w)) a b)) (funext fun k => by match k with | ⟨0, _⟩ => rfl)

theorem v9_eq (j : Fin 288) (r : Fin 256) (f : Fin 1024) : val_main_v9 (F := Ideal) e ba (ix3 j r f) = ba (ix3 (ex e j) (0 : Fin 1) f) := by
  rw [val_main_v9_apply, show idx_main_v9 (ix3 j r f) = ix3 j (0 : Fin 1) f from funext fun k => by match k with | ⟨0, _⟩ => rfl | ⟨1, _⟩ => rfl | ⟨2, _⟩ => rfl]
  unfold val_main_v8
  refine (Expert.take_apply _ rfl rfl rfl rfl rfl rfl rfl _ _ j (0 : Fin 1) f).trans ?_
  rw [val_main_call3_v0_apply]
  exact congrArg (fun w => ba (ix3 (Expert.pick (e w)) (0 : Fin 1) f)) (funext fun k => by match k with | ⟨0, _⟩ => rfl)

theorem v15_eq (j : Fin 288) (r : Fin 256) (f : Fin 1024) : val_main_v15 (F := Ideal) e bb (ix3 j r f) = bb (ix3 (ex e j) (0 : Fin 1) f) := by
  rw [val_main_v15_apply, show idx_main_v15 (ix3 j r f) = ix3 j (0 : Fin 1) f from funext fun k => by match k with | ⟨0, _⟩ => rfl | ⟨1, _⟩ => rfl | ⟨2, _⟩ => rfl]
  unfold val_main_v14
  refine (Expert.take_apply _ rfl rfl rfl rfl rfl rfl rfl _ _ j (0 : Fin 1) f).trans ?_
  rw [val_main_call4_v0_apply]
  exact congrArg (fun w => bb (ix3 (Expert.pick (e w)) (0 : Fin 1) f)) (funext fun k => by match k with | ⟨0, _⟩ => rfl)

theorem v32_eq (j : Fin 288) (r : Fin 256) (f : Fin 1024) : val_main_v32 (F := Ideal) e bc (ix3 j r f) = bc (ix3 (ex e j) (0 : Fin 1) f) := by
  rw [val_main_v32_apply, show idx_main_v32 (ix3 j r f) = ix3 j (0 : Fin 1) f from funext fun k => by match k with | ⟨0, _⟩ => rfl | ⟨1, _⟩ => rfl | ⟨2, _⟩ => rfl]
  unfold val_main_v31
  refine (Expert.take_apply _ rfl rfl rfl rfl rfl rfl rfl _ _ j (0 : Fin 1) f).trans ?_
  rw [val_main_call6_v0_apply]
  exact congrArg (fun w => bc (ix3 (Expert.pick (e w)) (0 : Fin 1) f)) (funext fun k => by match k with | ⟨0, _⟩ => rfl)

/-! ### The products -/

theorem v0_eq (j : Fin 288) (r : Fin 256) (k : Fin 1024) : val_main_v0 (F := Ideal) xb (ix3 j r k) = xb (ix2 (rowOf j r) k) := by
  rw [val_main_v0_apply]
  congr 1
  funext a
  apply Fin.ext
  match a with
  | ⟨0, _⟩ => show ((j.val * 256 + r.val) * 1024 + k.val) / 1024 = j.val * 256 + r.val; omega
  | ⟨1, _⟩ => show ((j.val * 256 + r.val) * 1024 + k.val) % 1024 = k.val; omega

/-- The gate before its clip. -/
theorem v10_eq (j : Fin 288) (r : Fin 256) (f : Fin 1024) : val_main_v10 (F := Ideal) e xb wa ba (ix3 j r f)
    = Row.dot (fun k => xb (ix2 (rowOf j r) k)) (fun k => wa (ix3 (ex e j) k f)) + ba (ix3 (ex e j) (0 : Fin 1) f) := by
  rw [val_main_v10_apply, v9_eq, val_main_v7_apply]
  refine congrArg (· + ba (ix3 (ex e j) (0 : Fin 1) f)) ?_
  unfold Row.dot
  refine Finset.sum_congr rfl fun k _ => ?_
  refine Eq.trans ?_ (congrArg₂ (fun x y : EReal => x * y) (v0_eq xb j r k) (v2_eq e wa j k f))
  congr 2 <;> funext a <;> match a with
  | ⟨0, _⟩ => rfl
  | ⟨1, _⟩ => rfl
  | ⟨2, _⟩ => rfl

/-- The linear half before its clip. -/
theorem v16_eq (j : Fin 288) (r : Fin 256) (f : Fin 1024) : val_main_v16 (F := Ideal) e xb wb bb (ix3 j r f)
    = Row.dot (fun k => xb (ix2 (rowOf j r) k)) (fun k => wb (ix3 (ex e j) k f)) + bb (ix3 (ex e j) (0 : Fin 1) f) := by
  rw [val_main_v16_apply, v15_eq, val_main_v13_apply]
  refine congrArg (· + bb (ix3 (ex e j) (0 : Fin 1) f)) ?_
  unfold Row.dot
  refine Finset.sum_congr rfl fun k _ => ?_
  refine Eq.trans ?_ (congrArg₂ (fun x y : EReal => x * y) (v0_eq xb j r k) (v4_eq e wb j k f))
  congr 2 <;> funext a <;> match a with
  | ⟨0, _⟩ => rfl
  | ⟨1, _⟩ => rfl
  | ⟨2, _⟩ => rfl

/-- The activations: the reference's quotient is the logistic function. -/
theorem v29_eq (j : Fin 288) (r : Fin 256) (f : Fin 1024) : val_main_v29 (F := Ideal) e xb wa wb ba bb (ix3 j r f)
    = Expert.hidden (fun k => xb (ix2 (rowOf j r) k)) (fun k g => wa (ix3 (ex e j) k g)) (fun k g => wb (ix3 (ex e j) k g))
        (fun g => ba (ix3 (ex e j) (0 : Fin 1) g)) (fun g => bb (ix3 (ex e j) (0 : Fin 1) g)) f := by
  unfold Expert.hidden Expert.act Ideal.logistic
  rw [← v10_eq, ← v16_eq]
  have h1 : (1 : EReal) = Expert.one := Expert.one_eq.symm
  rw [h1]
  rfl

/-- A block's rows before the selection. -/
theorem v33_eq (j : Fin 288) (r : Fin 256) (c : Fin 1024) : val_main_v33 (F := Ideal) e xb wa wb ba bb wc bc (ix3 j r c)
    = Expert.out (fun k => xb (ix2 (rowOf j r) k)) (fun k g => wa (ix3 (ex e j) k g)) (fun k g => wb (ix3 (ex e j) k g))
        (fun g => ba (ix3 (ex e j) (0 : Fin 1) g)) (fun g => bb (ix3 (ex e j) (0 : Fin 1) g)) (fun k g => wc (ix3 (ex e j) k g))
        (fun g => bc (ix3 (ex e j) (0 : Fin 1) g)) c := by
  rw [val_main_v33_apply, v32_eq, val_main_v30_apply]
  unfold Expert.out
  refine congrArg (· + bc (ix3 (ex e j) (0 : Fin 1) c)) ?_
  unfold Row.dot
  refine Finset.sum_congr rfl fun k _ => ?_
  refine Eq.trans ?_ (congrArg₂ (fun x y : EReal => x * y) (v29_eq e xb wa wb ba bb j r k) (v6_eq e wc j k c))
  congr 2 <;> funext a <;> match a with
  | ⟨0, _⟩ => rfl
  | ⟨1, _⟩ => rfl
  | ⟨2, _⟩ => rfl

/-! ### The selection -/

theorem used_eq (j : Fin 288) (r : Fin 256) (c : Fin 1024) :
    val_main_call7_v1 (F := Ideal) n (ix3 j r c) = BitVec.ofBool (decide (((j.val : ℕ) : Int) < (ExpertsLastIdeal.Tables.inUse n).toInt)) := by
  have hj : j.val < 288 := j.isLt
  rw [val_main_call7_v1_apply, val_main_v37_apply, val_main_v36_apply, val_main_v34_apply, val_main_v35_apply, WordCmp.cmpi_slt_eq]
  have h1 : (BitVec.ofNat 32 j.val).toInt = j.val := WordCmp.toInt_ofNat_of_lt (by omega)
  have h2 : n (idx_main_v35 (idx_main_v37 (idx_main_call7_v1 (ix3 j r c)))) = ExpertsLastIdeal.Tables.inUse n := congrArg n (by
    funext a; exact Fin.ext (by have := a.isLt; match a with | ⟨0, _⟩ => rfl))
  rw [h2, ← h1]

theorem v38_eq (j : Fin 288) (r : Fin 256) (c : Fin 1024) : val_main_v38 (F := Ideal) e n xb wa wb ba bb wc bc (ix3 j r c)
    = Expert.row (((j.val : ℕ) : Int) < (ExpertsLastIdeal.Tables.inUse n).toInt) (ex e j) (fun k => xb (ix2 (rowOf j r) k)) wa wb ba bb wc bc c := by
  rw [val_main_v38_apply, used_eq, v33_eq]
  unfold Expert.row
  by_cases h : ((j.val : ℕ) : Int) < (ExpertsLastIdeal.Tables.inUse n).toInt
  · rw [if_pos h, decide_eq_true h]
    rfl
  · rw [if_neg h, decide_eq_false h, val_main_call7_v2_apply, val_main_call7_v0_apply, val_main_cst_6_apply]
    exact Ideal.ofBits_zero_f32

/-- The reference's result is the kernel's. -/
theorem eq_result : val_main_v39 (F := Ideal) e n xb wa wb ba bb wc bc = ExpertsLastIdeal.Tables.result e n xb wa wb ba bb wc bc := by
  funext i
  have h0 : (i 0).val < 73728 := (i 0).isLt
  have h1 : (i 1).val < 1024 := (i 1).isLt
  have hi : idx_main_v39 i = ix3 (ExpertsLastIdeal.Tables.blockOf (i 0)) (⟨(i 0).val % 256, by omega⟩ : Fin 256) (i 1) := by
    funext a
    apply Fin.ext
    match a with
    | ⟨0, _⟩ => show ((i 0).val * 1024 + (i 1).val) / 262144 = (i 0).val / 256; omega
    | ⟨1, _⟩ => show ((i 0).val * 1024 + (i 1).val) / 1024 % 256 = (i 0).val % 256; omega
    | ⟨2, _⟩ => show ((i 0).val * 1024 + (i 1).val) % 1024 = (i 1).val; omega
  have hrow : rowOf (ExpertsLastIdeal.Tables.blockOf (i 0)) (⟨(i 0).val % 256, by omega⟩ : Fin 256) = i 0 :=
    Fin.ext (by show (i 0).val / 256 * 256 + (i 0).val % 256 = (i 0).val; omega)
  rw [val_main_v39_apply, hi]
  refine (v38_eq e n xb wa wb ba bb wc bc _ _ _).trans ?_
  rw [hrow]
  rfl

end Cert.ExpertsLastRefIdeal.Array

end
-- ==== Proof.ExpertsLastIdeal.Claims.lean ====
/-
  The claims about the experts: the reference runs, leaves its arguments alone and ends with every counter at zero; on
  routed tables the kernel and the reference leave the same array.
-/
module

public import proofs.«01_k».proof.Defs
public import proofs.«01_k».proof.Proof.ExpertsLastIdeal.Ref
public import proofs.«01_k».proof.Proof.ExpertsLast.Pre
public import Idealize.ShloMosaic.Lib.Quiescent

@[expose] public section

set_option maxRecDepth 16384

noncomputable section

namespace Cert.ExpertsLastIdeal.Tables

open Idealize.ShloMosaic Idealize.SL.Sem

attribute [local instance] Cert.ExpertsLastIdeal.Gen.facts Cert.ExpertsLastRefIdeal.Gen.facts Cert.Pre_routed_last.Gen.facts

/-- The reference's run: the arguments kept, every counter zero. -/
theorem reference_run (m : (ℓ : Loc Cert.ExpertsLastRefIdeal.nD Cert.ExpertsLastRefIdeal.τ Cert.ExpertsLastRefIdeal.sig) → Buf (Elt Ideal) ℓ) (g : Dev Cert.ExpertsLastRefIdeal.nD → PrngReg) :
    θ_run (Cert.ExpertsLastRefIdeal.defs (F := Ideal)) (onTc (τ := Cert.ExpertsLastRefIdeal.τ) (Cert.ExpertsLastRefIdeal.main (F := Ideal))) ⟨m, fun _ => 0, g⟩ (fun r => (∀ c : Dev Cert.ExpertsLastRefIdeal.nD,
      r.2.mem ((c.tc : Thread Cert.ExpertsLastRefIdeal.nD Cert.ExpertsLastRefIdeal.τ).loc Cert.ExpertsLastRefIdeal.main_arg0) = m ((c.tc : Thread Cert.ExpertsLastRefIdeal.nD Cert.ExpertsLastRefIdeal.τ).loc Cert.ExpertsLastRefIdeal.main_arg0)
      ∧ r.2.mem ((c.tc : Thread Cert.ExpertsLastRefIdeal.nD Cert.ExpertsLastRefIdeal.τ).loc Cert.ExpertsLastRefIdeal.main_arg1) = m ((c.tc : Thread Cert.ExpertsLastRefIdeal.nD Cert.ExpertsLastRefIdeal.τ).loc Cert.ExpertsLastRefIdeal.main_arg1)
      ∧ r.2.mem ((c.tc : Thread Cert.ExpertsLastRefIdeal.nD Cert.ExpertsLastRefIdeal.τ).loc Cert.ExpertsLastRefIdeal.main_arg2) = m ((c.tc : Thread Cert.ExpertsLastRefIdeal.nD Cert.ExpertsLastRefIdeal.τ).loc Cert.ExpertsLastRefIdeal.main_arg2)
      ∧ r.2.mem ((c.tc : Thread Cert.ExpertsLastRefIdeal.nD Cert.ExpertsLastRefIdeal.τ).loc Cert.ExpertsLastRefIdeal.main_arg3) = m ((c.tc : Thread Cert.ExpertsLastRefIdeal.nD Cert.ExpertsLastRefIdeal.τ).loc Cert.ExpertsLastRefIdeal.main_arg3)
      ∧ r.2.mem ((c.tc : Thread Cert.ExpertsLastRefIdeal.nD Cert.ExpertsLastRefIdeal.τ).loc Cert.ExpertsLastRefIdeal.main_arg4) = m ((c.tc : Thread Cert.ExpertsLastRefIdeal.nD Cert.ExpertsLastRefIdeal.τ).loc Cert.ExpertsLastRefIdeal.main_arg4)
      ∧ r.2.mem ((c.tc : Thread Cert.ExpertsLastRefIdeal.nD Cert.ExpertsLastRefIdeal.τ).loc Cert.ExpertsLastRefIdeal.main_arg5) = m ((c.tc : Thread Cert.ExpertsLastRefIdeal.nD Cert.ExpertsLastRefIdeal.τ).loc Cert.ExpertsLastRefIdeal.main_arg5)
      ∧ r.2.mem ((c.tc : Thread Cert.ExpertsLastRefIdeal.nD Cert.ExpertsLastRefIdeal.τ).loc Cert.ExpertsLastRefIdeal.main_arg6) = m ((c.tc : Thread Cert.ExpertsLastRefIdeal.nD Cert.ExpertsLastRefIdeal.τ).loc Cert.ExpertsLastRefIdeal.main_arg6)
      ∧ r.2.mem ((c.tc : Thread Cert.ExpertsLastRefIdeal.nD Cert.ExpertsLastRefIdeal.τ).loc Cert.ExpertsLastRefIdeal.main_arg7) = m ((c.tc : Thread Cert.ExpertsLastRefIdeal.nD Cert.ExpertsLastRefIdeal.τ).loc Cert.ExpertsLastRefIdeal.main_arg7)
      ∧ r.2.mem ((c.tc : Thread Cert.ExpertsLastRefIdeal.nD Cert.ExpertsLastRefIdeal.τ).loc Cert.ExpertsLastRefIdeal.main_arg8) = m ((c.tc : Thread Cert.ExpertsLastRefIdeal.nD Cert.ExpertsLastRefIdeal.τ).loc Cert.ExpertsLastRefIdeal.main_arg8)
      ∧ r.2.mem ((c.tc : Thread Cert.ExpertsLastRefIdeal.nD Cert.ExpertsLastRefIdeal.τ).loc Cert.ExpertsLastRefIdeal.main_arg9) = m ((c.tc : Thread Cert.ExpertsLastRefIdeal.nD Cert.ExpertsLastRefIdeal.τ).loc Cert.ExpertsLastRefIdeal.main_arg9))
      ∧ r.2.sem = fun _ => 0) :=
  (θ_run _ _ _).mono (fun r h => ⟨fun c => (h c).2, sem_eq_zero_of_no_sems (by decide) r.2⟩) (Cert.ExpertsLastRefIdeal.Value.run m g)

theorem quiescent_reference : Cert.quiescent_ExpertsLastRefIdeal := fun m g _ => reference_run m g

theorem quiescent_reference_routed_last : Cert.quiescent_ExpertsLastRefIdeal_pre_routed_last := fun m g _ => reference_run m g

theorem preserves : Cert.preserves_ExpertsLast_ExpertsLastIdeal := trivial

theorem algebraic : Cert.algebraic_ExpertsLastIdeal_ExpertsLastRefIdeal := by
  intro m g m' g' hpre hargs
  refine ⟨fun c => array (adm m hpre) m c, ?_, ?_⟩
  · exact (θ_run _ _ _).mono (fun r h c => ⟨((h.1 c).1 (7 : Fin 8)).trans (final (adm m hpre) m g c (routed_mem m hpre)),
      kept (adm m hpre) m g (holds m hpre) h.1 c⟩) (run (adm m hpre) m g (holds m hpre))
  · refine (θ_run _ _ _).mono (fun r h c => ⟨(h c).1.trans ?_, (h c).2⟩) (Cert.ExpertsLastRefIdeal.Value.run m' g')
    obtain ⟨a0, a1, a2, a3, a4, a5, a6, a7, a8, a9⟩ := hargs c
    obtain rfl := one_dev c
    rw [a0, a2, a3, a4, a5, a6, a7, a8, a9]
    exact (Cert.ExpertsLastRefIdeal.Read.val_main_v39_eq _ _ _ _ _ _ _ _ _).trans (Cert.ExpertsLastRefIdeal.Array.eq_result _ _ _ _ _ _ _ _ _)

end Cert.ExpertsLastIdeal.Tables

end
-- ==== Proof.Near.Row.lean ====
/-
  One row of windowed attention with a sink: the keys of a window, some of them masked, and the keys of the context are
  weighted apart and divided by one total, to which the sink adds a weight without a value. The reference scores every
  key, −∞ where it is masked, and appends the sink's score as one more column. On real scores, and a sink that is
  not +∞, the two agree.
-/
module

public import proofs.«01_k».proof.Proof.Softmax

@[expose] public section

noncomputable section

namespace Cert.Row

open Idealize.ShloMosaic

/-- The greatest of the window's scores, the context's scores and the sink. -/
def nearTop {n k : ℕ} (s : Fin n → EReal) (t : Fin k → EReal) (z : EReal) : EReal := max (max (top s) (top t)) z

/-- A row of the kernel: window scores `s`, context scores `t`, sink `z`, window values `v`, context values `w`. -/
def near {n k : ℕ} (s : Fin n → EReal) (t : Fin k → EReal) (z : EReal) (v : Fin n → EReal) (w : Fin k → EReal) : EReal :=
  Ideal.div (∑ j, Ideal.exp (s j - nearTop s t z) * v j + ∑ c, Ideal.exp (t c - nearTop s t z) * w c)
    (∑ j, Ideal.exp (s j - nearTop s t z) + ∑ c, Ideal.exp (t c - nearTop s t z) + Ideal.exp (z - nearTop s t z))

/-- A row of the kernel over the context alone. -/
def sunk {k : ℕ} (t : Fin k → EReal) (z : EReal) (w : Fin k → EReal) : EReal :=
  Ideal.div (∑ c, Ideal.exp (t c - max (top t) z) * w c) (∑ c, Ideal.exp (t c - max (top t) z) + Ideal.exp (z - max (top t) z))

/-- A row of the reference: scores of every key, −∞ where masked. -/
def dense {N : ℕ} (S : Fin N → EReal) (z : EReal) (V : Fin N → EReal) : EReal :=
  ∑ x, V x * Ideal.div (Ideal.exp (S x - max (top S) z)) (∑ x, Ideal.exp (S x - max (top S) z) + Ideal.exp (z - max (top S) z))

theorem top_le {n : ℕ} (s : Fin n → EReal) (b : EReal) (h : ∀ j, s j ≤ b) : top s ≤ b :=
  (Finset.fold_max_le b).mpr ⟨bot_le, fun j _ => h j⟩

/-- The greatest of a row with one more score. -/
theorem top_succ {n : ℕ} (s : Fin (n + 1) → EReal) : top s = max (top fun j : Fin n => s j.castSucc) (s (Fin.last n)) := by
  refine le_antisymm (top_le _ _ fun j => ?_) (max_le (top_le _ _ fun j => top_ge s _) (top_ge s _))
  refine Fin.lastCases (le_max_right _ _) (fun i => ?_) j
  exact (top_ge (fun j : Fin n => s j.castSucc) i).trans (le_max_left _ _)

theorem exp_bot_sub {M : EReal} : Ideal.exp ((⊥ : EReal) - M) = 0 := by
  rw [EReal.bot_sub]
  rfl

/-- The weight of a score that is a real number or −∞ is a nonnegative real number, that of a real number positive. -/
theorem exp_real {s M : EReal} (hs : s ≠ ⊤) (hM : Finite M) : ∃ r : ℝ, 0 ≤ r ∧ (s ≠ ⊥ → 0 < r) ∧ Ideal.exp (s - M) = (r : EReal) := by
  by_cases h : s = ⊥
  · exact ⟨0, le_rfl, fun h' => absurd h h', by rw [h, exp_bot_sub]; rfl⟩
  · obtain ⟨a, rfl⟩ := Finite.exists_coe ⟨hs, h⟩
    obtain ⟨b, rfl⟩ := hM.exists_coe
    exact ⟨Real.exp (a - b), (Real.exp_pos _).le, fun _ => Real.exp_pos _, by rw [← EReal.coe_sub]; rfl⟩

/-- Dividing the sum or every weight is the same. -/
theorem dense_eq {N : ℕ} (S : Fin N → EReal) (z : EReal) (V : Fin N → EReal) (hS : ∀ x, S x ≠ ⊤) (h0 : ∃ x, S x ≠ ⊥) (hz : z ≠ ⊤) :
    dense S z V = Ideal.div (∑ x, Ideal.exp (S x - max (top S) z) * V x)
      (∑ x, Ideal.exp (S x - max (top S) z) + Ideal.exp (z - max (top S) z)) := by
  obtain ⟨x₀, h0⟩ := h0
  have hM : Finite (max (top S) z) := by
    refine ⟨ne_of_lt (max_lt ?_ (lt_top_iff_ne_top.mpr hz)), ne_of_gt ((bot_lt_iff_ne_bot.mpr h0).trans_le ((top_ge S x₀).trans (le_max_left _ _)))⟩
    exact (Finset.fold_max_lt ⊤).mpr ⟨bot_lt_top, fun k _ => lt_top_iff_ne_top.mpr (hS k)⟩
  unfold dense
  generalize max (top S) z = M at hM ⊢
  choose f hf0 hf1 hf using fun x => exp_real (hS x) hM
  obtain ⟨a, ha0, _, ha⟩ := exp_real hz hM
  have hL : ∑ x, Ideal.exp (S x - M) + Ideal.exp (z - M) = ((∑ x, f x + a : ℝ) : EReal) := by
    rw [EReal.coe_add, ← coe_sum, ha]
    exact congrArg (· + _) (Finset.sum_congr rfl fun x _ => hf x)
  have hp : 0 < ∑ x, f x + a :=
    add_pos_of_pos_of_nonneg (Finset.sum_pos' (fun x _ => hf0 x) ⟨x₀, Finset.mem_univ _, hf1 x₀ h0⟩) ha0
  rw [hL, div_coe _ hp, sum_mul_coe _ _ (inv_nonneg.mpr hp.le)]
  refine Finset.sum_congr rfl fun x _ => ?_
  rw [div_coe _ hp, mul_comm _ (V x), mul_assoc]

section
variable {N n k : ℕ} (e : Fin n → Fin N) (f : Fin k → Fin N) (Q : Fin n → Prop)

/-- A sum over all keys is the sum over the window's unmasked keys and over the context's. -/
theorem sum_split (he : Function.Injective e) (hf : Function.Injective f) (hQ : ∀ j, Q j → ∀ c, e j ≠ f c)
    (g : Fin N → EReal) (a : Fin n → EReal) (ha : ∀ j, Q j → a j = g (e j)) (ha0 : ∀ j, ¬Q j → a j = 0)
    (hg : ∀ x, g x ≠ 0 → (∃ c, f c = x) ∨ ∃ j, Q j ∧ e j = x) : ∑ x, g x = ∑ j, a j + ∑ c, g (f c) := by
  classical
  have h1 : ∑ j, a j = ∑ x ∈ (Finset.univ.filter Q).image e, g x := by
    rw [Finset.sum_image (fun _ _ _ _ h => he h), Finset.sum_filter]
    exact Finset.sum_congr rfl fun j _ => by split_ifs with h; exacts [ha j h, ha0 j h]
  have h2 : ∑ c, g (f c) = ∑ x ∈ Finset.univ.image f, g x := (Finset.sum_image (fun _ _ _ _ h => hf h)).symm
  rw [h1, h2, ← Finset.sum_union]
  · refine (Finset.sum_subset (Finset.subset_univ _) fun x _ hx => ?_).symm
    by_contra h
    refine hx (Finset.mem_union.mpr ?_)
    rcases hg x h with ⟨c, hc⟩ | ⟨j, hj, hx⟩
    · exact Or.inr (Finset.mem_image.mpr ⟨c, Finset.mem_univ _, hc⟩)
    · exact Or.inl (Finset.mem_image.mpr ⟨j, Finset.mem_filter.mpr ⟨Finset.mem_univ _, hj⟩, hx⟩)
  · rw [Finset.disjoint_left]
    rintro x hx hx'
    obtain ⟨j, hj, rfl⟩ := Finset.mem_image.mp hx
    obtain ⟨c, _, hc⟩ := Finset.mem_image.mp hx'
    exact hQ j (Finset.mem_filter.mp hj).2 c hc.symm

/-- The kernel's row is the reference's: `e` places the window among the keys, `f` the context, `Q` unmasks. -/
theorem near_eq_dense (he : Function.Injective e) (hf : Function.Injective f) (hQ : ∀ j, Q j → ∀ c, e j ≠ f c)
    (S V : Fin N → EReal) (z : EReal) (s : Fin n → EReal) (hs : ∀ j, Q j → s j = S (e j)) (hs0 : ∀ j, ¬Q j → s j = ⊥)
    (hS : ∀ x, S x ≠ ⊤) (h0 : ∃ x, S x ≠ ⊥) (hz : z ≠ ⊤) (hcov : ∀ x, S x ≠ ⊥ → (∃ c, f c = x) ∨ ∃ j, Q j ∧ e j = x) :
    near s (fun c => S (f c)) z (fun j => V (e j)) (fun c => V (f c)) = dense S z V := by
  have ht : top S = max (top s) (top fun c => S (f c)) := by
    refine le_antisymm (top_le _ _ fun x => ?_) (max_le (top_le _ _ fun j => ?_) (top_le _ _ fun c => top_ge S (f c)))
    · by_cases hx : S x = ⊥
      · rw [hx]; exact bot_le
      · rcases hcov x hx with ⟨c, rfl⟩ | ⟨j, hj, rfl⟩
        · exact (top_ge (fun c => S (f c)) c).trans (le_max_right _ _)
        · rw [← hs j hj]; exact (top_ge s j).trans (le_max_left _ _)
    · by_cases hj : Q j
      · rw [hs j hj]; exact top_ge S _
      · rw [hs0 j hj]; exact bot_le
  rw [dense_eq S z V hS h0 hz, ht]
  unfold near
  show Ideal.div _ _ = Ideal.div _ _
  have hb : ∀ (x : Fin N) (M : EReal), Ideal.exp (S x - M) ≠ 0 → (∃ c, f c = x) ∨ ∃ j, Q j ∧ e j = x := fun x M h =>
    hcov x fun hx => h (by rw [hx]; exact exp_bot_sub)
  congr 1
  · refine (sum_split e f Q he hf hQ (fun x => Ideal.exp (S x - _) * V x) _ (fun j hj => ?_) (fun j hj => ?_) (fun x hx => ?_)).symm
    · show Ideal.exp (s j - _) * _ = _; rw [hs j hj]
    · show Ideal.exp (s j - _) * _ = _; rw [hs0 j hj, exp_bot_sub, zero_mul]
    · exact hb x _ (left_ne_zero_of_mul hx)
  · refine congrArg (· + _) (sum_split e f Q he hf hQ (fun x => Ideal.exp (S x - _)) _ (fun j hj => ?_) (fun j hj => ?_) (fun x hx => hb x _ hx)).symm
    · show Ideal.exp (s j - _) = _; rw [hs j hj]
    · show Ideal.exp (s j - _) = _; rw [hs0 j hj, exp_bot_sub]

end

theorem near_empty {k : ℕ} (s : Fin 0 → EReal) (t : Fin k → EReal) (z : EReal) (v : Fin 0 → EReal) (w : Fin k → EReal) :
    near s t z v w = sunk t z w := by
  have h : nearTop s t z = max (top t) z := by
    show max (max (top s) (top t)) z = _
    rw [show top s = ⊥ from Finset.fold_empty, max_eq_right bot_le]
  unfold near sunk
  rw [h, Fin.sum_univ_zero, Fin.sum_univ_zero, zero_add, zero_add]

/-- A row over the context alone is the reference's, the other keys masked. -/
theorem sunk_eq_dense {N k : ℕ} (f : Fin k → Fin N) (hf : Function.Injective f) (S V : Fin N → EReal) (z : EReal)
    (hS : ∀ x, S x ≠ ⊤) (h0 : ∃ x, S x ≠ ⊥) (hz : z ≠ ⊤) (hcov : ∀ x, S x ≠ ⊥ → ∃ c, f c = x) :
    sunk (fun c => S (f c)) z (fun c => V (f c)) = dense S z V := by
  rw [← near_empty Fin.elim0 _ _ (fun j => V (Fin.elim0 j))]
  exact near_eq_dense (n := 0) (fun j => Fin.elim0 j) f (fun _ => False) (fun j => j.elim0) hf (fun j => j.elim0) S V z _
    (fun j => j.elim0) (fun j => j.elim0) hS h0 hz fun x hx => Or.inl (hcov x hx)

/-- The reference's row with the sink's score as its last column. -/
theorem row_eq_dense {n : ℕ} (R : Fin (n + 1) → EReal) (S : Fin n → EReal) (z : EReal) (V : Fin n → EReal)
    (hS : ∀ x, R x.castSucc = S x) (hz : R (Fin.last n) = z) :
    ∑ x, V x * Ideal.div (Ideal.exp (R x.castSucc - top R)) (∑ y, Ideal.exp (R y - top R)) = dense S z V := by
  have ht : top R = max (top S) z := by rw [top_succ, hz]; exact congrArg (fun s => max (top s) z) (funext hS)
  unfold dense
  rw [Fin.sum_univ_castSucc (fun y => Ideal.exp (R y - top R)), ht, hz]
  simp only [hS]

end Cert.Row

end
-- ==== Proof.Near.Head.lean ====
/-
  One head of the windowed attention kernel read at an index: the printed chain of scores, mask, row maxima, exponentials,
  row sums, sink and division is `Row.near` of that row's scores and that column's values, and over the context alone
  `Row.sunk`. Its store of 128 columns is read at an index of the output block.
-/
module

public import proofs.«01_k».proof.Proof.Mla.Block
public import proofs.«01_k».proof.Proof.Near.Row
public import Idealize.ShloMosaic.Lib.WholeRead

@[expose] public section

noncomputable section

namespace Cert.Row

open Idealize.ShloMosaic Idealize.ShloMosaic.ValueIdx Idealize.ShloMosaic.Pipeline

section
variable {M N K D : ℕ}

/-- A value per row, as a column. -/
theorem column_apply {α : Type} (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) :=
  shapeCast_apply x h (ix2 r (0 : Fin 1)) (ix1 r) (by
    rw [Shape.rowMajor_val_one, Shape.rowMajor_val_two]
    show r.val = r.val * 1 + 0
    omega)

/-- A column laid along the rows. -/
theorem laid_apply {α : Type} (hM : M ≠ 1) (x : (⟨2, ![M, 1]⟩ : Shape).Idx → α)
    (hb : (⟨2, ![M, 1]⟩ : Shape).Broadcasts ⟨2, ![M, N]⟩) (r : Fin M) (c : Fin N) :
    broadcastTo ⟨2, ![M, N]⟩ x hb (ix2 r c) = x (ix2 r (0 : Fin 1)) :=
  broadcastTo_apply x hb (ix2 r c) (ix2 r (0 : Fin 1)) (fun a => by
    match a with
    | ⟨0, _⟩ => show r.val = if M = 1 then 0 else r.val; rw [if_neg hM]
    | ⟨1, _⟩ => rfl)

variable (d₃ : DotDims ⟨2, ![M, N]⟩ ⟨2, ![N, D]⟩ ⟨2, ![M, D]⟩) (d₄ : DotDims ⟨2, ![M, K]⟩ ⟨2, ![K, D]⟩ ⟨2, ![M, D]⟩)
  (hr₁ : (⟨2, ![M, N]⟩ : Shape).Reduces [1] ⟨1, ![M]⟩) (hr₂ : (⟨2, ![M, K]⟩ : Shape).Reduces [1] ⟨1, ![M]⟩)
  (hs : (⟨1, ![M]⟩ : Shape).ShapeCasts ⟨2, ![M, 1]⟩) (hb₁ : (⟨2, ![M, 1]⟩ : Shape).Broadcasts ⟨2, ![M, N]⟩)
  (hb₂ : (⟨2, ![M, 1]⟩ : Shape).Broadcasts ⟨2, ![M, K]⟩) (hb₃ : (⟨2, ![M, 1]⟩ : Shape).Broadcasts ⟨2, ![M, D]⟩)
  (hφ : FKind.Formats .f32) (hm : (0xFF800000#32 : BitVec 32) = FKind.maximumf.neutral .f32 hφ)
  (ha : (0x00000000#32 : BitVec 32) = FKind.add.neutral .f32 hφ) (ht : FTy.bits .bf16 < FTy.bits .f32)
  (s : FVec Ideal ⟨2, ![M, N]⟩ .f32) (t : FVec Ideal ⟨2, ![M, K]⟩ .f32) (z : EReal)
  (v : FVec Ideal ⟨2, ![N, D]⟩ .bf16) (w : FVec Ideal ⟨2, ![K, D]⟩ .bf16)

/-- The greatest of a row's scores, as a column. -/
def maxCol (hr : (⟨2, ![M, N]⟩ : Shape).Reduces [1] ⟨1, ![M]⟩) (s : FVec Ideal ⟨2, ![M, N]⟩ .f32) : FVec Ideal ⟨2, ![M, 1]⟩ .f32 :=
  shapeCast ⟨2, ![M, 1]⟩ (multiReduction .maximumf [1] ⟨1, ![M]⟩ s 0xFF800000#32 hr hφ hm) hs

/-- The sum of a row, as a column. -/
def sumCol (hr : (⟨2, ![M, N]⟩ : Shape).Reduces [1] ⟨1, ![M]⟩) (s : FVec Ideal ⟨2, ![M, N]⟩ .f32) : FVec Ideal ⟨2, ![M, 1]⟩ .f32 :=
  shapeCast ⟨2, ![M, 1]⟩ (multiReduction .add [1] ⟨1, ![M]⟩ s 0x00000000#32 hr hφ ha) hs

/-- The exponentials of the scores below a column. -/
def expBelow (hb : (⟨2, ![M, 1]⟩ : Shape).Broadcasts ⟨2, ![M, N]⟩) (s : FVec Ideal ⟨2, ![M, N]⟩ .f32) (c : FVec Ideal ⟨2, ![M, 1]⟩ .f32) :
    FVec Ideal ⟨2, ![M, N]⟩ .f32 := exp (subf s (broadcastTo ⟨2, ![M, N]⟩ c hb))

/-- The column of maxima of a head with a window. -/
def nearCol : FVec Ideal ⟨2, ![M, 1]⟩ .f32 :=
  maximumf (maximumf (maxCol hs hφ hm hr₁ s) (maxCol hs hφ hm hr₂ t)) (broadcast ⟨2, ![M, 1]⟩ z)

/-- A head with a window. -/
def nearHead : FVec Ideal ⟨2, ![M, D]⟩ .f32 :=
  divf (addf (matmul d₃ none (truncf .bf16 (expBelow hb₁ s (nearCol hr₁ hr₂ hs hφ hm s t z)) ht) v (constant ⟨2, ![M, D]⟩ .f32 0x00000000#32))
      (matmul d₄ none (truncf .bf16 (expBelow hb₂ t (nearCol hr₁ hr₂ hs hφ hm s t z)) ht) w (constant ⟨2, ![M, D]⟩ .f32 0x00000000#32)))
    (broadcastTo ⟨2, ![M, D]⟩ (addf (addf (sumCol hs hφ ha hr₁ (expBelow hb₁ s (nearCol hr₁ hr₂ hs hφ hm s t z)))
        (sumCol hs hφ ha hr₂ (expBelow hb₂ t (nearCol hr₁ hr₂ hs hφ hm s t z))))
      (exp (subf (broadcast ⟨2, ![M, 1]⟩ z) (nearCol hr₁ hr₂ hs hφ hm s t z)))) hb₃)

/-- The column of maxima of a head over the context. -/
def sunkCol : FVec Ideal ⟨2, ![M, 1]⟩ .f32 := maximumf (maxCol hs hφ hm hr₂ t) (broadcast ⟨2, ![M, 1]⟩ z)

/-- A head over the context alone. -/
def sunkHead : FVec Ideal ⟨2, ![M, D]⟩ .f32 :=
  divf (matmul d₄ none (truncf .bf16 (expBelow hb₂ t (sunkCol hr₂ hs hφ hm t z)) ht) w (constant ⟨2, ![M, D]⟩ .f32 0x00000000#32))
    (broadcastTo ⟨2, ![M, D]⟩ (addf (sumCol hs hφ ha hr₂ (expBelow hb₂ t (sunkCol hr₂ hs hφ hm t z)))
      (exp (subf (broadcast ⟨2, ![M, 1]⟩ z) (sunkCol hr₂ hs hφ hm t z)))) hb₃)

theorem maxCol_apply (r : Fin M) : maxCol hs hφ hm hr₁ s (ix2 r (0 : Fin 1)) = top (fun j => s (ix2 r j)) :=
  (column_apply _ hs r).trans (rowMax_apply hr₁ hφ hm s r)

theorem sumCol_apply (r : Fin M) : sumCol hs hφ ha hr₁ s (ix2 r (0 : Fin 1)) = ∑ j, s (ix2 r j) :=
  (column_apply _ hs r).trans (rowSum_apply hr₁ hφ ha s r)

theorem expBelow_apply (hM : M ≠ 1) (c : FVec Ideal ⟨2, ![M, 1]⟩ .f32) (r : Fin M) (j : Fin N) :
    expBelow hb₁ s c (ix2 r j) = Ideal.exp (s (ix2 r j) - c (ix2 r (0 : Fin 1))) := by
  show Ideal.exp (_ - _) = _
  rw [laid_apply hM]

theorem nearCol_apply (r : Fin M) :
    nearCol hr₁ hr₂ hs hφ hm s t z (ix2 r (0 : Fin 1)) = nearTop (fun j => s (ix2 r j)) (fun j => t (ix2 r j)) z := by
  show max (max _ _) z = _
  rw [maxCol_apply, maxCol_apply]
  rfl

theorem sunkCol_apply (r : Fin M) : sunkCol hr₂ hs hφ hm t z (ix2 r (0 : Fin 1)) = max (top (fun j => t (ix2 r j))) z := by
  show max _ z = _
  rw [maxCol_apply]

theorem nearHead_apply (hM : M ≠ 1) (hd₃ : d₃ = DotDims.plain M N D) (hd₄ : d₄ = DotDims.plain M K D) (r : Fin M) (c : Fin D) :
    nearHead d₃ d₄ hr₁ hr₂ hs hb₁ hb₂ hb₃ hφ hm ha ht s t z v w (ix2 r c)
      = near (fun j => s (ix2 r j)) (fun j => t (ix2 r j)) z (fun j => v (ix2 j c)) (fun j => w (ix2 j c)) := by
  unfold nearHead near
  rw [divf_apply, addf_apply, laid_apply hM, addf_apply, addf_apply, mixed_apply d₃ hd₃, mixed_apply d₄ hd₄, sumCol_apply, sumCol_apply]
  simp only [truncf_apply, expBelow_apply _ _ hM, nearCol_apply]
  show Ideal.div _ (_ + Ideal.exp (z - _)) = _
  rw [nearCol_apply]

theorem sunkHead_apply (hM : M ≠ 1) (hd₄ : d₄ = DotDims.plain M K D) (r : Fin M) (c : Fin D) :
    sunkHead d₄ hr₂ hs hb₂ hb₃ hφ hm ha ht t z w (ix2 r c) = sunk (fun j => t (ix2 r j)) z (fun j => w (ix2 j c)) := by
  unfold sunkHead sunk
  rw [divf_apply, laid_apply hM, addf_apply, mixed_apply d₄ hd₄, sumCol_apply]
  simp only [truncf_apply, expBelow_apply _ _ hM, sunkCol_apply]
  show Ideal.div _ (_ + Ideal.exp (z - _)) = _
  rw [sunkCol_apply]

end

/-- A load of a whole staging buffer through a rectangle. -/
theorem ld_whole {sig : RefSig} {sp : Space} {s : Shape} {e : EltTy} {a : Memref sig .tc sp s e} (h : a.IsWhole) (X : s.Idx → Elt Ideal e) (r : Rect s) :
    View.readAt (Elt Ideal) a.view r.toLoadRect (h.unread X) = View.ld (Val := Elt Ideal) (e' := e) X r :=
  funext fun x => h.readAt_unread X _ x

/-- `n` rows of head `h` of a block, from row `st` on, loaded and laid out as a matrix. -/
theorem load_at {H T n d : ℕ} (X : (⟨4, ![1, H, T, d]⟩ : Shape).Idx → Elt Ideal .bf16) (off : Fin 4 → ℕ) (h : Fin H) (st : ℕ)
    (h0 : off 0 = 0) (h1 : off 1 = h.val) (h2 : off 2 = st) (h3 : off 3 = 0) (hT : st + n ≤ T) (inb) (hc) (r : Fin n) (x : Fin d) :
    shapeCast ⟨2, ![n, d]⟩
        (View.ld (Val := Elt Ideal) (e' := .bf16) X (Rect.unit (s := ⟨4, ![1, H, T, d]⟩) off (⟨4, ![1, 1, n, d]⟩ : Shape).size inb) :
          (⟨4, ![1, 1, n, d]⟩ : Shape).Idx → Elt Ideal .bf16) hc (ix2 r x)
      = X (ix4 (0 : Fin 1) h ⟨st + r.val, by omega⟩ x) := by
  rw [shapeCast_apply _ hc (ix2 r x) (ix4 (0 : Fin 1) (0 : Fin 1) r x) (by
    rw [Shape.rowMajor_val_two, Shape.rowMajor_val_four]
    show ((0 * 1 + 0) * n + r.val) * d + x.val = r.val * d + x.val
    simp)]
  refine View.ld_unit_apply_of X _ _ inb (ix4 (0 : Fin 1) (0 : Fin 1) r x) _ fun a => ?_
  match a with
  | ⟨0, _⟩ => show 0 = off 0 + 0; omega
  | ⟨1, _⟩ => show h.val = off 1 + 0; omega
  | ⟨2, _⟩ => show st + r.val = off 2 + r.val; omega
  | ⟨3, _⟩ => show x.val = off 3 + x.val; omega

/-- A head's rows as a block of the output. -/
theorem flat_apply {a b : ℕ} (x : FVec Ideal ⟨2, ![a, b]⟩ .f32) (ht : FTy.bits .bf16 < FTy.bits .f32)
    (ho : (⟨2, ![a, b]⟩ : Shape).ShapeCasts ⟨3, ![1, a, b]⟩) (r : Fin a) (c : Fin b) :
    shapeCast ⟨3, ![1, a, b]⟩ (truncf .bf16 x ht) ho (ix3 (0 : Fin 1) r c) = x (ix2 r c) :=
  shapeCast_apply (truncf .bf16 x ht) ho (ix3 (0 : Fin 1) r c) (ix2 r c) (by
    rw [Shape.rowMajor_val_two, Shape.rowMajor_val_three]
    show r.val * b + c.val = (0 * a + r.val) * b + c.val
    simp)

/-- The pair of heads a column of the output belongs to: its keys' and values' group. -/
def groupOf (c : Fin 512) : Fin 2 := ⟨c.val / 256, by omega⟩

/-- The output block of a point with a window: the window of 512 keys starts at row `st`, `m` unmasks its scores. -/
def nearBlock (st : ℕ) (hst : st + 512 ≤ 2304) (m : (⟨2, ![256, 512]⟩ : Shape).Idx → BitVec 1) (z : (⟨1, ![4]⟩ : Shape).Idx → EReal)
    (q : (⟨4, ![1, 4, 256, 128]⟩ : Shape).Idx → EReal) (k v : (⟨4, ![1, 2, 2304, 128]⟩ : Shape).Idx → EReal) (r : Fin 256) (c : Fin 512) : EReal :=
  near (fun j : Fin 512 => Scalar.select (m (ix2 r j)) (dot (fun x : Fin 128 => q (ix4 (0 : Fin 1) (headOf c) r x))
      (fun x : Fin 128 => k (ix4 (0 : Fin 1) (groupOf c) ⟨st + j.val, by omega⟩ x))) ⊥)
    (fun j : Fin 256 => dot (fun x : Fin 128 => q (ix4 (0 : Fin 1) (headOf c) r x)) (fun x : Fin 128 => k (ix4 (0 : Fin 1) (groupOf c) ⟨0 + j.val, by omega⟩ x)))
    (z (ix1 (headOf c))) (fun j : Fin 512 => v (ix4 (0 : Fin 1) (groupOf c) ⟨st + j.val, by omega⟩ (colOf c)))
    (fun j : Fin 256 => v (ix4 (0 : Fin 1) (groupOf c) ⟨0 + j.val, by omega⟩ (colOf c)))

/-- The output block of a point over the context alone. -/
def sunkBlock (z : (⟨1, ![4]⟩ : Shape).Idx → EReal)
    (q : (⟨4, ![1, 4, 256, 128]⟩ : Shape).Idx → EReal) (k v : (⟨4, ![1, 2, 2304, 128]⟩ : Shape).Idx → EReal) (r : Fin 256) (c : Fin 512) : EReal :=
  sunk (fun j : Fin 256 => dot (fun x : Fin 128 => q (ix4 (0 : Fin 1) (headOf c) r x)) (fun x : Fin 128 => k (ix4 (0 : Fin 1) (groupOf c) ⟨0 + j.val, by omega⟩ x)))
    (z (ix1 (headOf c))) (fun j : Fin 256 => v (ix4 (0 : Fin 1) (groupOf c) ⟨0 + j.val, by omega⟩ (colOf c)))

section
variable (d₁ : DotDims ⟨2, ![256, 128]⟩ ⟨2, ![512, 128]⟩ ⟨2, ![256, 512]⟩) (d₂ : DotDims ⟨2, ![256, 128]⟩ ⟨2, ![256, 128]⟩ ⟨2, ![256, 256]⟩)
  (d₃ : DotDims ⟨2, ![256, 512]⟩ ⟨2, ![512, 128]⟩ ⟨2, ![256, 128]⟩) (d₄ : DotDims ⟨2, ![256, 256]⟩ ⟨2, ![256, 128]⟩ ⟨2, ![256, 128]⟩)
  (hr₁ : (⟨2, ![256, 512]⟩ : Shape).Reduces [1] ⟨1, ![256]⟩) (hr₂ : (⟨2, ![256, 256]⟩ : Shape).Reduces [1] ⟨1, ![256]⟩)
  (hs : (⟨1, ![256]⟩ : Shape).ShapeCasts ⟨2, ![256, 1]⟩) (hb₁ : (⟨2, ![256, 1]⟩ : Shape).Broadcasts ⟨2, ![256, 512]⟩)
  (hb₂ : (⟨2, ![256, 1]⟩ : Shape).Broadcasts ⟨2, ![256, 256]⟩) (hb₃ : (⟨2, ![256, 1]⟩ : Shape).Broadcasts ⟨2, ![256, 128]⟩)
  (hφ : FKind.Formats .f32) (hm : (0xFF800000#32 : BitVec 32) = FKind.maximumf.neutral .f32 hφ)
  (ha : (0x00000000#32 : BitVec 32) = FKind.add.neutral .f32 hφ) (ht : FTy.bits .bf16 < FTy.bits .f32)
  (hq : (⟨4, ![1, 1, 256, 128]⟩ : Shape).ShapeCasts ⟨2, ![256, 128]⟩) (hk : (⟨4, ![1, 1, 512, 128]⟩ : Shape).ShapeCasts ⟨2, ![512, 128]⟩)
  (ho : (⟨2, ![256, 128]⟩ : Shape).ShapeCasts ⟨3, ![1, 256, 128]⟩)
  (m : IVec ⟨2, ![256, 512]⟩ 1) (ninf : EReal) (z : (⟨1, ![4]⟩ : Shape).Idx → Elt Ideal .f32)
  (q : (⟨4, ![1, 4, 256, 128]⟩ : Shape).Idx → Elt Ideal .bf16) (k v : (⟨4, ![1, 2, 2304, 128]⟩ : Shape).Idx → Elt Ideal .bf16)

/-- Rows of a block, loaded and laid out as a matrix. -/
abbrev rows {H T n : ℕ} (X : (⟨4, ![1, H, T, 128]⟩ : Shape).Idx → Elt Ideal .bf16) (off : Fin 4 → ℕ) (inb : ∀ a, off a + (⟨4, ![1, 1, n, 128]⟩ : Shape).size a ≤ (⟨4, ![1, H, T, 128]⟩ : Shape).size a)
    (hc : (⟨4, ![1, 1, n, 128]⟩ : Shape).ShapeCasts ⟨2, ![n, 128]⟩) : FVec Ideal ⟨2, ![n, 128]⟩ .bf16 :=
  shapeCast ⟨2, ![n, 128]⟩ (View.ld (Val := Elt Ideal) (e' := .bf16) X (Rect.unit (s := ⟨4, ![1, H, T, 128]⟩) off (⟨4, ![1, 1, n, 128]⟩ : Shape).size inb) :
    (⟨4, ![1, 1, n, 128]⟩ : Shape).Idx → Elt Ideal .bf16) hc

/-- The store of a head with a window. -/
def nearStore (zz : EReal) (qm kc vc : FVec Ideal ⟨2, ![256, 128]⟩ .bf16) (kl vl : FVec Ideal ⟨2, ![512, 128]⟩ .bf16) : FVec Ideal ⟨3, ![1, 256, 128]⟩ .bf16 :=
  shapeCast ⟨3, ![1, 256, 128]⟩ (truncf .bf16 (nearHead d₃ d₄ hr₁ hr₂ hs hb₁ hb₂ hb₃ hφ hm ha ht
    (select m (matmul d₁ none qm kl (constant ⟨2, ![256, 512]⟩ .f32 0x00000000#32)) (broadcast ⟨2, ![256, 512]⟩ ninf))
    (matmul d₂ none qm kc (constant ⟨2, ![256, 256]⟩ .f32 0x00000000#32)) zz vl vc) ht) ho

/-- The store of a head over the context alone. -/
def sunkStore (zz : EReal) (qm kc vc : FVec Ideal ⟨2, ![256, 128]⟩ .bf16) : FVec Ideal ⟨3, ![1, 256, 128]⟩ .bf16 :=
  shapeCast ⟨3, ![1, 256, 128]⟩ (truncf .bf16 (sunkHead d₄ hr₂ hs hb₂ hb₃ hφ hm ha ht
    (matmul d₂ none qm kc (constant ⟨2, ![256, 256]⟩ .f32 0x00000000#32)) zz vc) ht) ho

variable (hd₁ : d₁ = DotDims.transposedRhs 256 128 512) (hd₂ : d₂ = DotDims.transposedRhs 256 128 256)
  (hd₃ : d₃ = DotDims.plain 256 512 128) (hd₄ : d₄ = DotDims.plain 256 256 128)

include hd₂ hd₄ in
theorem sunkStore_apply (h : Fin 4) (zz : EReal) (hz : zz = z (ix1 h)) (oq oc : Fin 4 → ℕ) (iq ic iv)
    (hoq : oq = ![0, h.val, 0, 0]) (hoc : oc = ![0, h.val / 2, 0, 0]) (r : Fin 256) (x : Fin 128) (y : Fin 512) (hy : y.val = h.val * 128 + x.val) :
    sunkStore d₂ d₄ hr₂ hs hb₂ hb₃ hφ hm ha ht ho zz (rows q oq iq hq) (rows k oc ic hq) (rows v oc iv hq) (ix3 (0 : Fin 1) r x)
      = sunkBlock z q k v r y := by
  have eh : headOf y = h := Fin.ext (by show y.val / 128 = h.val; omega)
  have eg : groupOf y = ⟨h.val / 2, by omega⟩ := Fin.ext (by show y.val / 256 = h.val / 2; omega)
  have ec : colOf y = x := Fin.ext (by show y.val % 128 = x.val; omega)
  subst hoq hoc
  unfold sunkStore sunkBlock
  rw [flat_apply]
  refine (sunkHead_apply d₄ hr₂ hs hb₂ hb₃ hφ hm ha ht _ _ _ (by omega) hd₄ r x).trans ?_
  rw [eh, eg, ec, hz]
  congr 1
  · funext j
    rw [scores_apply d₂ hd₂]
    congr 1
    · exact funext fun xx => (load_at q _ h 0 rfl rfl rfl rfl le_rfl iq hq r xx).trans (congrArg (fun r => q (ix4 (0 : Fin 1) h r xx)) (Fin.ext (zero_add _)))
    · exact funext fun xx => load_at k _ ⟨h.val / 2, by omega⟩ 0 rfl rfl rfl rfl (by omega) ic hq j xx
  · exact funext fun j => load_at v _ ⟨h.val / 2, by omega⟩ 0 rfl rfl rfl rfl (by omega) iv hq j x

include hd₁ hd₂ hd₃ hd₄ in
theorem nearStore_apply (hninf : ninf = ⊥) (st : ℕ) (hst : st + 512 ≤ 2304) (h : Fin 4) (zz : EReal) (hz : zz = z (ix1 h)) (oq oc ok : Fin 4 → ℕ) (iq ic iv ik il)
    (hoq : oq = ![0, h.val, 0, 0]) (hoc : oc = ![0, h.val / 2, 0, 0]) (hok : ok = ![0, h.val / 2, st, 0])
    (r : Fin 256) (x : Fin 128) (y : Fin 512) (hy : y.val = h.val * 128 + x.val) :
    nearStore d₁ d₂ d₃ d₄ hr₁ hr₂ hs hb₁ hb₂ hb₃ hφ hm ha ht ho m ninf zz (rows q oq iq hq) (rows k oc ic hq) (rows v oc iv hq)
      (rows k ok ik hk) (rows v ok il hk) (ix3 (0 : Fin 1) r x) = nearBlock st hst m z q k v r y := by
  have eh : headOf y = h := Fin.ext (by show y.val / 128 = h.val; omega)
  have eg : groupOf y = ⟨h.val / 2, by omega⟩ := Fin.ext (by show y.val / 256 = h.val / 2; omega)
  have ec : colOf y = x := Fin.ext (by show y.val % 128 = x.val; omega)
  subst hoq hoc hok
  have eq : ∀ xx, rows q _ iq hq (ix2 r xx) = q (ix4 (0 : Fin 1) h r xx) := fun xx =>
    (load_at q _ h 0 rfl rfl rfl rfl le_rfl iq hq r xx).trans (congrArg (fun r => q (ix4 (0 : Fin 1) h r xx)) (Fin.ext (zero_add _)))
  unfold nearStore nearBlock
  rw [flat_apply]
  refine (nearHead_apply d₃ d₄ hr₁ hr₂ hs hb₁ hb₂ hb₃ hφ hm ha ht _ _ _ _ _ (by omega) hd₃ hd₄ r x).trans ?_
  rw [eh, eg, ec, hz]
  congr 1
  · funext j
    rw [select_apply, scores_apply d₁ hd₁, broadcast_apply, hninf]
    congr 2
    · exact funext eq
    · exact funext fun xx => load_at k _ ⟨h.val / 2, by omega⟩ st rfl rfl rfl rfl (by omega) ik hk j xx
  · funext j
    rw [scores_apply d₂ hd₂]
    congr 1
    · exact funext eq
    · exact funext fun xx => load_at k _ ⟨h.val / 2, by omega⟩ 0 rfl rfl rfl rfl (by omega) ic hq j xx
  · exact funext fun j => load_at v _ ⟨h.val / 2, by omega⟩ st rfl rfl rfl rfl (by omega) il hk j x
  · exact funext fun j => load_at v _ ⟨h.val / 2, by omega⟩ 0 rfl rfl rfl rfl (by omega) iv hq j x

end

end Cert.Row

end
-- ==== Proof.Swa.Block.lean ====
/-
  The windowed attention kernel's output block read at an index: a point's four stores, one per head and 128 columns
  each, are one function of the staged blocks and of the rows its window takes.
-/
module

public import proofs.«01_k».proof.Proof.Near.Head
public import proofs.«01_k».proof.Proof.Gen.SwaIdeal.Value

@[expose] public section

set_option maxRecDepth 16384

noncomputable section

namespace Cert.SwaIdeal.Block

open Cert.SwaIdeal Cert.SwaIdeal.Gen Cert.Row Idealize.ShloMosaic Idealize.ShloMosaic.ValueIdx

/-- The first row of a point's window. -/
def start (i : grid0.Coords) : ℕ := k0_off1 i 2

/-- The same as a word. -/
def startWord (i : grid0.Coords) : BitVec 32 :=
  Scalar.minsi 1792#32 (Scalar.maxsi 0#32 (Scalar.subi (Scalar.muli (Scalar.addi (BitVec.ofNat 32 (i 1).val) 1#32) 256#32) 128#32))

theorem start_le : ∀ i : grid0.Coords, start i + 512 ≤ 2304 := fun i => k0_off1_inb i 2

theorem inbQ (h : Fin 4) : ∀ a, (![0, h.val, 0, 0] : Fin 4 → ℕ) a + S1x1x256x128.size a ≤ S1x4x256x128.size a := by
  revert h; decide +kernel

theorem inbC (h : Fin 4) : ∀ a, (![0, h.val / 2, 0, 0] : Fin 4 → ℕ) a + S1x1x256x128.size a ≤ S1x2x2304x128.size a := by
  revert h; decide +kernel

theorem inbW (h : Fin 4) (st : ℕ) (hst : st + 512 ≤ 2304) :
    ∀ a, (![0, h.val / 2, st, 0] : Fin 4 → ℕ) a + S1x1x512x128.size a ≤ S1x2x2304x128.size a := fun a => by
  match a with
  | ⟨0, _⟩ => exact le_refl 1
  | ⟨1, _⟩ => show h.val / 2 + 1 ≤ 2; omega
  | ⟨2, _⟩ => exact hst
  | ⟨3, _⟩ => exact le_refl 128

theorem inbO (h : Fin 4) : ∀ a, (![0, 0, h.val * 128] : Fin 3 → ℕ) a + S1x256x128.size a ≤ S1x256x512.size a := by
  revert h; decide +kernel

theorem inbZ (h : Fin 4) : ∀ a, (![h.val] : Fin 1 → ℕ) a + S1.size a ≤ S4.size a := by
  revert h; decide +kernel

/-- The columns of a head. -/
def cols (h : Fin 4) : Rect S1x256x512 := Rect.unit (s := S1x256x512) ![0, 0, h.val * 128] S1x256x128.size (inbO h)

section
variable (z : Vec Ideal S4 .f32) (q : Vec Ideal S1x4x256x128 .bf16) (k v : Vec Ideal S1x2x2304x128 .bf16)
  (c : Dev nD) (i : grid0.Coords) (arg2 : Memref sig .tc .smem S4 .f32) (harg2 : arg2.IsWhole) (arg3 : Memref sig .tc .vmem S1x4x256x128 .bf16) (harg3 : arg3.IsWhole)
  (arg4 : Memref sig .tc .vmem S1x2x2304x128 .bf16) (harg4 : arg4.IsWhole) (arg5 : Memref sig .tc .vmem S1x2x2304x128 .bf16) (harg5 : arg5.IsWhole)
  (arg6 : Memref sig .tc .vmem S1x256x512 .bf16) (harg6 : arg6.IsWhole)

/-- A head's store. -/
def store (h : Fin 4) (st : ℕ) (hst : st + 512 ≤ 2304) : FVec Ideal S1x256x128 .bf16 :=
  nearStore dot_S256x128_S512x128_S256x512_1_1_0_0_n_n dot_S256x128_S256x128_S256x256_1_1_0_0_n_n
    dot_S256x512_S512x128_S256x128_1_0_0_1_n_n dot_S256x256_S256x128_S256x128_1_0_0_1_n_n reduces_S256x512_S256 reduces_S256x256_S256
    shapeCasts_S256_S256x1 broadcasts_S256x1_S256x512 broadcasts_S256x1_S256x256 broadcasts_S256x1_S256x128 (.inl rfl) rfl rfl bitsLt_bf16_f32
    shapeCasts_S256x128_S1x256x128 (k0_pay2 i) (Named.named (F := Ideal) κ "neg_inf" (φ := .f32) 0xF149F2CA#32)
    (View.readAt (Elt Ideal) arg2.view (Rect.unit (s := S4) ![h.val] S1.size (inbZ h)).toLoadRect (harg2.unread z) (Shape.Idx.first (s := S1) (by decide)))
    (shapeCast S256x128 (View.readAt (Elt Ideal) arg3.view (Rect.unit (s := S1x4x256x128) ![0, h.val, 0, 0] S1x1x256x128.size (inbQ h)).toLoadRect (harg3.unread q)) shapeCasts_S1x1x256x128_S256x128)
    (shapeCast S256x128 (View.readAt (Elt Ideal) arg4.view (Rect.unit (s := S1x2x2304x128) ![0, h.val / 2, 0, 0] S1x1x256x128.size (inbC h)).toLoadRect (harg4.unread k)) shapeCasts_S1x1x256x128_S256x128)
    (shapeCast S256x128 (View.readAt (Elt Ideal) arg5.view (Rect.unit (s := S1x2x2304x128) ![0, h.val / 2, 0, 0] S1x1x256x128.size (inbC h)).toLoadRect (harg5.unread v)) shapeCasts_S1x1x256x128_S256x128)
    (shapeCast S512x128 (View.readAt (Elt Ideal) arg4.view (Rect.unit (s := S1x2x2304x128) ![0, h.val / 2, st, 0] S1x1x512x128.size (inbW h st hst)).toLoadRect (harg4.unread k)) shapeCasts_S1x1x512x128_S512x128)
    (shapeCast S512x128 (View.readAt (Elt Ideal) arg5.view (Rect.unit (s := S1x2x2304x128) ![0, h.val / 2, st, 0] S1x1x512x128.size (inbW h st hst)).toLoadRect (harg5.unread v)) shapeCasts_S1x1x512x128_S512x128)

/-- A point's four stores. -/
theorem pieces : (kernelRun0_A c i arg2 harg2 arg3 harg3 arg4 harg4 arg5 harg5 arg6 harg6 z q k v).1
    = [⟨cols 3, store z q k v i arg2 harg2 arg3 harg3 arg4 harg4 arg5 harg5 3 (start i) (start_le i)⟩,
      ⟨cols 2, store z q k v i arg2 harg2 arg3 harg3 arg4 harg4 arg5 harg5 2 (start i) (start_le i)⟩,
      ⟨cols 1, store z q k v i arg2 harg2 arg3 harg3 arg4 harg4 arg5 harg5 1 (start i) (start_le i)⟩,
      ⟨cols 0, store z q k v i arg2 harg2 arg3 harg3 arg4 harg4 arg5 harg5 0 (start i) (start_le i)⟩] := by
  unfold kernelRun0_A
  rfl

/-- A head's store, read at an index. -/
theorem store_eq (h : Fin 4) (x : S1x256x128.Idx) :
    store z q k v i arg2 harg2 arg3 harg3 arg4 harg4 arg5 harg5 h (start i) (start_le i) x
      = nearBlock (start i) (start_le i) (k0_pay2 i) z q k v ((cols h).emb x 1) ((cols h).emb x 2) := by
  obtain ⟨r, d, rfl⟩ : ∃ (r : Fin 256) (d : Fin 128), x = ix3 (0 : Fin 1) r d := ⟨x 1, x 2, funext fun a => by
    match a with
    | ⟨0, _⟩ => exact Subsingleton.elim (α := Fin 1) _ _
    | ⟨1, _⟩ => rfl
    | ⟨2, _⟩ => rfl⟩
  have e1 : (cols h).emb (ix3 (0 : Fin 1) r d) 1 = r := Fin.ext (by show 0 + 1 * r.val = r.val; omega)
  unfold store
  rw [ld_whole, ld_whole, ld_whole, ld_whole, ld_whole, ld_whole, e1]
  refine nearStore_apply _ _ _ _ _ _ _ _ _ _ _ _ _ _ _ _ _ _ _ z q k v rfl rfl rfl rfl rfl (start i) (start_le i) h _ ?_ _ _ _ _ _ _ _ _ rfl rfl rfl r d _ ?_
  · refine View.ld_unit_apply_of z _ _ (inbZ h) _ _ fun a => ?_
    match a with
    | ⟨0, _⟩ => rfl
  · show h.val * 128 + 1 * d.val = h.val * 128 + d.val
    omega

/-- The block a grid point leaves, read at an index. -/
theorem out_apply (y : S1x256x512.Idx) : out0_A_4 c i arg2 harg2 arg3 harg3 arg4 harg4 arg5 harg5 arg6 harg6 z q k v y
    = nearBlock (start i) (start_le i) (k0_pay2 i) z q k v (y 1) (y 2) := by
  have hcov := cover0_A_4 c i arg2 harg2 arg3 harg3 arg4 harg4 arg5 harg5 arg6 harg6 z q k v
  unfold out0_A_4
  rw [View.read_writes_eq_canon _ _ _ hcov]
  refine View.canon_apply_of_pieces (Val := Elt Ideal) (e := .bf16) (fun y : S1x256x512.Idx => nearBlock (start i) (start_le i) (k0_pay2 i) z q k v (y 1) (y 2)) _ ?_ y (hcov y)
  rw [pieces]
  intro p hp
  rcases List.mem_cons.mp hp with rfl | hp
  · exact store_eq z q k v i arg2 harg2 arg3 harg3 arg4 harg4 arg5 harg5 3
  rcases List.mem_cons.mp hp with rfl | hp
  · exact store_eq z q k v i arg2 harg2 arg3 harg3 arg4 harg4 arg5 harg5 2
  rcases List.mem_cons.mp hp with rfl | hp
  · exact store_eq z q k v i arg2 harg2 arg3 harg3 arg4 harg4 arg5 harg5 1
  rcases List.mem_cons.mp hp with rfl | hp
  · exact store_eq z q k v i arg2 harg2 arg3 harg3 arg4 harg4 arg5 harg5 0
  · exact absurd hp List.not_mem_nil

end

end Cert.SwaIdeal.Block

end
-- ==== Proof.Near.Cell.lean ====
/-
  Windowed attention at one batch, query row and output column: the kernel's window of 512 keys with its mask and the
  reference's mask over every key give the same value on real queries, keys and sinks.
-/
module

public import proofs.«01_k».proof.Proof.Near.Head
public import Idealize.ShloMosaic.Lib.WordCmp

@[expose] public section

noncomputable section

namespace Cert.Row

open Idealize.ShloMosaic Idealize.ShloMosaic.ValueIdx Idealize.ShloMosaic.WordCmp

/-- Two positions at most 128 apart. -/
abbrev Near (a b : ℕ) : Prop := a ≤ b + 128 ∧ b ≤ a + 128

/-- The distance test on words. -/
theorem near_word (x y : BitVec 32) (hx : x.toNat < 65536) (hy : y.toNat < 65536) :
    IntOp.cmpi .sle (IntOp.absi (IntOp.subi x y)) 128#32 = BitVec.ofBool (decide (Near x.toNat y.toNat)) := by
  have h : (y.toNat ≤ x.toNat ∧ (IntOp.absi (x - y)).toNat = x.toNat - y.toNat)
      ∨ (¬y.toNat ≤ x.toNat ∧ (IntOp.absi (x - y)).toNat = y.toNat - x.toNat) := by
    have hs : (x - y).toNat = (2 ^ 32 - y.toNat + x.toNat) % 2 ^ 32 := BitVec.toNat_sub x y
    unfold IntOp.absi
    rw [BitVec.msb_eq_decide]
    by_cases hle : y.toNat ≤ x.toNat
    · refine Or.inl ⟨hle, ?_⟩
      rw [if_neg (by rw [decide_eq_true_eq]; omega)]
      omega
    · refine Or.inr ⟨hle, ?_⟩
      rw [if_pos (by rw [decide_eq_true_eq]; omega), BitVec.toNat_neg]
      omega
  show IntOp.cmpi .sle (IntOp.absi (x - y)) 128#32 = _
  rw [cmpi_sle_of_lt (by omega) (by decide)]
  congr 1
  have e : (128#32 : BitVec 32).toNat = 128 := rfl
  rw [decide_eq_decide, e]
  unfold Near
  omega

theorem toNat_addi (x : BitVec 32) {a r : ℕ} (hx : x.toNat = a) (h : a + r < 65536) : (IntOp.addi x (BitVec.ofNat 32 r)).toNat = a + r := by
  show (x + BitVec.ofNat 32 r).toNat = _
  rw [BitVec.toNat_add, BitVec.toNat_ofNat, hx]
  omega

/-- The kernel's mask at a row and a window column. -/
theorem mask_word (x y : BitVec 32) {a b r j : ℕ} (hx : x.toNat = a) (hy : y.toNat = b) (ha : a + r < 65536) (hb : b + j < 65536) :
    IntOp.andi (IntOp.cmpi .sle (IntOp.absi (IntOp.subi (IntOp.addi x (BitVec.ofNat 32 r)) (IntOp.addi y (BitVec.ofNat 32 j)))) 128#32)
        (IntOp.cmpi .sge (IntOp.addi y (BitVec.ofNat 32 j)) 256#32)
      = BitVec.ofBool (decide (Near (a + r) (b + j) ∧ 256 ≤ b + j)) := by
  have e1 := toNat_addi x hx ha
  have e2 := toNat_addi y hy hb
  rw [near_word _ _ (by omega) (by omega), cmpi_sge_of_lt (by omega) (by decide), andi_ofBool, e1, e2]
  exact congrArg BitVec.ofBool (Bool.decide_and _ _).symm

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

/-- The reference's distance test at a key and a query `o` rows on. -/
theorem distance_word {x t : ℕ} (o : ℕ) (hx : x < 2304) (ht : t + o < 2304) :
    IntOp.cmpi .sle (IntOp.absi (IntOp.subi (BitVec.ofNat 32 x) (IntOp.addi (BitVec.ofNat 32 t) (BitVec.ofNat 32 o)))) 128#32
      = BitVec.ofBool (decide (Near (o + t) x)) := by
  have e : (BitVec.ofNat 32 x).toNat = x := by rw [BitVec.toNat_ofNat]; omega
  have e' := toNat_addi (BitVec.ofNat 32 t) (a := t) (r := o) (by rw [BitVec.toNat_ofNat]; omega) (by omega)
  rw [near_word _ _ (by omega) (by omega), e, e']
  refine congrArg BitVec.ofBool (decide_eq_decide.mpr ?_)
  unfold Near
  omega

/-- The reference's mask over the late rows. -/
theorem reference_word {x t : ℕ} (hx : x < 2304) (ht : t + 256 < 2304) :
    IntOp.ori (IntOp.cmpi .slt (BitVec.ofNat 32 x) 256#32)
        (IntOp.cmpi .sle (IntOp.absi (IntOp.subi (BitVec.ofNat 32 x) (IntOp.addi (BitVec.ofNat 32 t) (BitVec.ofNat 32 256)))) 128#32)
      = BitVec.ofBool (decide (x < 256 ∨ (256 ≤ 256 + t ∧ Near (256 + t) x))) := by
  rw [distance_word 256 hx ht, cmpi_slt_ofNat (by omega) (by decide), ori_ofBool, ← Bool.decide_or]
  exact congrArg BitVec.ofBool (decide_eq_decide.mpr (or_congr Iff.rfl (by omega)))

/-- The reference's mask over every row. -/
theorem reference_word_all {x t : ℕ} (hx : x < 2304) (ht : t < 2304) :
    IntOp.ori (IntOp.cmpi .slt (BitVec.ofNat 32 x) 256#32)
        (IntOp.andi (IntOp.cmpi .sge (BitVec.ofNat 32 t) 256#32)
          (IntOp.cmpi .sle (IntOp.absi (IntOp.subi (BitVec.ofNat 32 x) (BitVec.ofNat 32 t))) 128#32))
      = BitVec.ofBool (decide (x < 256 ∨ (256 ≤ t ∧ Near t x))) := by
  have h := distance_word 0 hx (by omega : t + 0 < 2304)
  rw [show IntOp.addi (BitVec.ofNat 32 t) (BitVec.ofNat 32 0) = BitVec.ofNat 32 t from BitVec.add_zero _, Nat.zero_add] at h
  rw [h, cmpi_slt_ofNat (by omega) (by decide), cmpi_sge_ofNat (by omega) (by decide), andi_ofBool, ori_ofBool, ← Bool.decide_and, ← Bool.decide_or]

/-- The query head of a column, within its pair. -/
abbrev halfOf (c : Fin 512) : Fin 2 := ⟨c.val / 128 % 2, by omega⟩

/-- The first key of the window of a query row. -/
def startOf (t : Fin 2304) : ℕ := min 1792 (t.val / 256 * 256 - 128)

theorem startOf_le (t : Fin 2304) : startOf t + 512 ≤ 2304 := by unfold startOf; omega

section
variable (z : (⟨1, ![4]⟩ : Shape).Idx → EReal) (q : (⟨4, ![8, 4, 2304, 128]⟩ : Shape).Idx → EReal) (k v : (⟨4, ![8, 2, 2304, 128]⟩ : Shape).Idx → EReal)
  (b : Fin 8) (t : Fin 2304) (c : Fin 512)

/-- The score of a query row against a key. -/
def keyScore (x : Fin 2304) : EReal := dot (fun d : Fin 128 => q (ix4 b (headOf c) t d)) (fun d : Fin 128 => k (ix4 b (groupOf c) x d))

/-- The value of a key at the output column. -/
def keyValue (x : Fin 2304) : EReal := v (ix4 b (groupOf c) x (colOf c))

/-- A key of the window. -/
def inWindow (j : Fin 512) : Fin 2304 := ⟨startOf t + j.val, by have := startOf_le t; omega⟩

/-- A key of the context. -/
def inContext (j : Fin 256) : Fin 2304 := ⟨0 + j.val, by omega⟩

/-- The kernel's value: a row before the 256th attends the context, any other row its window too. -/
def nearCell : EReal :=
  if t.val < 256 then sunk (fun j => keyScore q k b t c (inContext j)) (z (ix1 (headOf c))) (fun j => keyValue v b c (inContext j))
  else near (fun j => if Near t.val (inWindow t j).val ∧ 256 ≤ (inWindow t j).val then keyScore q k b t c (inWindow t j) else ⊥)
    (fun j => keyScore q k b t c (inContext j)) (z (ix1 (headOf c))) (fun j => keyValue v b c (inWindow t j)) (fun j => keyValue v b c (inContext j))

/-- The reference's value. -/
def denseCell : EReal :=
  dense (fun x => if x.val < 256 ∨ (256 ≤ t.val ∧ Near t.val x.val) then keyScore q k b t c x else ⊥) (z (ix1 (headOf c))) (keyValue v b c)

theorem nearCell_eq (hz : ∀ i, z i ≠ ⊤) (hq : ∀ i, Finite (q i)) (hk : ∀ i, Finite (k i)) : nearCell z q k v b t c = denseCell z q k v b t c := by
  have hfin : ∀ x, Finite (keyScore q k b t c x) := fun x => dot_finite _ _ (fun _ => hq _) (fun _ => hk _)
  have hS : ∀ x : Fin 2304, (if x.val < 256 ∨ (256 ≤ t.val ∧ Near t.val x.val) then keyScore q k b t c x else ⊥) ≠ ⊤ := fun x => by
    split_ifs
    exacts [(hfin x).1, bot_ne_top]
  have h0 : ∃ x : Fin 2304, (if x.val < 256 ∨ (256 ≤ t.val ∧ Near t.val x.val) then keyScore q k b t c x else ⊥) ≠ ⊥ :=
    ⟨0, by rw [if_pos (Or.inl (by decide))]; exact (hfin 0).2⟩
  have hc : ∀ j : Fin 256, (if (inContext j).val < 256 ∨ (256 ≤ t.val ∧ Near t.val (inContext j).val) then keyScore q k b t c (inContext j) else ⊥)
      = keyScore q k b t c (inContext j) := fun j => if_pos (Or.inl (by show 0 + j.val < 256; omega))
  have hinj : Function.Injective inContext := fun a a' h => Fin.ext (by have h := congrArg Fin.val h; change 0 + a.val = 0 + a'.val at h; omega)
  unfold nearCell denseCell
  by_cases ht : t.val < 256
  · rw [if_pos ht]
    refine Eq.trans ?_ (sunk_eq_dense inContext hinj _ (keyValue v b c) _ hS h0 (hz _) fun x hx => ?_)
    · exact congrArg (fun s => sunk s _ _) (funext fun j => (hc j).symm)
    · have h : x.val < 256 := by
        by_contra h
        exact hx (if_neg (by omega))
      exact ⟨⟨x.val, h⟩, Fin.ext (zero_add _)⟩
  · rw [if_neg ht]
    refine Eq.trans ?_ (near_eq_dense (inWindow t) inContext (fun j => Near t.val (inWindow t j).val ∧ 256 ≤ (inWindow t j).val) (fun a a' h => ?_) hinj
      (fun j hj a h => ?_) _ (keyValue v b c) _
      (fun j => if Near t.val (inWindow t j).val ∧ 256 ≤ (inWindow t j).val then keyScore q k b t c (inWindow t j) else ⊥) (fun j hj => ?_) (fun j hj => if_neg hj) hS h0 (hz _) fun x hx => ?_)
    · exact congrArg (fun s => near _ s _ _ _) (funext fun j => (hc j).symm)
    · have h := congrArg Fin.val h
      change startOf t + a.val = startOf t + a'.val at h
      exact Fin.ext (by omega)
    · have h := congrArg Fin.val h
      have hj := hj.2
      change (inWindow t j).val = 0 + a.val at h
      omega
    · rw [if_pos hj]
      exact (if_pos (Or.inr ⟨by omega, hj.1⟩)).symm
    · by_cases h : x.val < 256
      · exact Or.inl ⟨⟨x.val, h⟩, Fin.ext (zero_add _)⟩
      · have hn : Near t.val x.val := by
          by_contra hn
          exact hx (if_neg (by rintro (h' | h'); exacts [h h', hn h'.2]))
        have h1 : startOf t ≤ x.val := by unfold startOf; omega
        have h2 : x.val < startOf t + 512 := by unfold startOf; omega
        have e : inWindow t ⟨x.val - startOf t, by omega⟩ = x := Fin.ext (by show startOf t + (x.val - startOf t) = x.val; omega)
        exact Or.inr ⟨_, by rw [e]; exact ⟨hn, by omega⟩, e⟩

section
variable (Z : (⟨1, ![4]⟩ : Shape).Idx → EReal) (Q : (⟨4, ![1, 4, 256, 128]⟩ : Shape).Idx → EReal) (K V : (⟨4, ![1, 2, 2304, 128]⟩ : Shape).Idx → EReal) (r : Fin 256)
  (hZ : Z = z) (hQ : ∀ h x, Q (ix4 (0 : Fin 1) h r x) = q (ix4 b h t x))
  (hK : ∀ g j x, K (ix4 (0 : Fin 1) g j x) = k (ix4 b g j x)) (hV : ∀ g j x, V (ix4 (0 : Fin 1) g j x) = v (ix4 b g j x))

include hZ hQ hK hV

/-- A point's block over the context, from the arrays. -/
theorem sunkBlock_eq (ht : t.val < 256) : sunkBlock Z Q K V r c = nearCell z q k v b t c := by
  unfold sunkBlock nearCell keyScore keyValue
  rw [if_pos ht, hZ]
  simp only [hQ, hK, hV]
  rfl

/-- A point's block with a window, from the arrays. -/
theorem nearBlock_eq (ht : ¬t.val < 256) (st : ℕ) (hst) (m : (⟨2, ![256, 512]⟩ : Shape).Idx → BitVec 1) (hs : st = startOf t)
    (hm : ∀ j, m (ix2 r j) = BitVec.ofBool (decide (Near t.val (st + j.val) ∧ 256 ≤ st + j.val))) :
    nearBlock st hst m Z Q K V r c = nearCell z q k v b t c := by
  subst hs
  unfold nearBlock nearCell keyScore keyValue
  rw [if_neg ht, hZ]
  simp only [hQ, hK, hV, hm, select_ofBool]
  rfl

end

end

end Cert.Row

end
-- ==== Proof.Swa.Array.lean ====
/-
  The windowed attention kernel's result array, as one function of the sinks, queries, keys and values: each grid point's
  block is the attention of its 256 rows, and the blocks cover the array.
-/
module

public import proofs.«01_k».proof.Proof.Swa.Block
public import proofs.«01_k».proof.Proof.Near.Cell

@[expose] public section

noncomputable section

namespace Cert.SwaIdeal.Array

open Cert.SwaIdeal Cert.SwaIdeal.Gen Cert.Row Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The blocks of a point, as the array indices they are read from. -/
theorem index0 : ∀ t : Fin cfg0.N, win0_0.index t 0 = 0 := (by decide +kernel : ∀ t : Fin grid0.N, win0_0.index t 0 = 0)

theorem index1 : ∀ t : Fin cfg0.N, win0_1.index t 0 = t.val / 8 ∧ win0_1.index t 1 = 0 ∧ win0_1.index t 2 = t.val % 8 + 1 ∧ win0_1.index t 3 = 0 :=
  (by decide +kernel : ∀ t : Fin grid0.N, win0_1.index t 0 = t.val / 8 ∧ win0_1.index t 1 = 0 ∧ win0_1.index t 2 = t.val % 8 + 1 ∧ win0_1.index t 3 = 0)

theorem index2 : ∀ t : Fin cfg0.N, win0_2.index t 0 = t.val / 8 ∧ win0_2.index t 1 = 0 ∧ win0_2.index t 2 = 0 ∧ win0_2.index t 3 = 0 :=
  (by decide +kernel : ∀ t : Fin grid0.N, win0_2.index t 0 = t.val / 8 ∧ win0_2.index t 1 = 0 ∧ win0_2.index t 2 = 0 ∧ win0_2.index t 3 = 0)

theorem index3 : ∀ t : Fin cfg0.N, win0_3.index t 0 = t.val / 8 ∧ win0_3.index t 1 = 0 ∧ win0_3.index t 2 = 0 ∧ win0_3.index t 3 = 0 :=
  (by decide +kernel : ∀ t : Fin grid0.N, win0_3.index t 0 = t.val / 8 ∧ win0_3.index t 1 = 0 ∧ win0_3.index t 2 = 0 ∧ win0_3.index t 3 = 0)

theorem index4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

theorem coord : ∀ t : Fin cfg0.N, (grid0.coords t 1).val = t.val % 8 :=
  (by decide +kernel : ∀ t : Fin grid0.N, (grid0.coords t 1).val = t.val % 8)

/-- The batch a point works on. -/
def batch (t : Fin cfg0.N) : Fin 8 := ⟨t.val / 8, by have : t.val < 64 := t.isLt; omega⟩

/-- The query row of the array behind a row of a point's block. -/
def row (t : Fin cfg0.N) (r : Fin 256) : Fin 2304 := ⟨(t.val % 8 + 1) * 256 + r.val, by omega⟩

/-- A point's window starts where its rows' does. -/
theorem start_eq (t : Fin cfg0.N) (r : Fin 256) : Block.start (grid0.coords t) = startOf (row t r) := by
  have h : ∀ t : Fin cfg0.N, Block.start (grid0.coords t) = min 1792 ((t.val % 8 + 1) * 256 - 128) :=
    (by decide +kernel : ∀ t : Fin grid0.N, Block.start (grid0.coords t) = min 1792 ((t.val % 8 + 1) * 256 - 128))
  rw [h]
  show _ = min 1792 (((t.val % 8 + 1) * 256 + r.val) / 256 * 256 - 128)
  omega

/-- A point's mask, read at a row and a window column. -/
theorem mask_eq (t : Fin cfg0.N) (r : Fin 256) (j : Fin 512) : k0_pay2 (grid0.coords t) (ix2 r j)
    = BitVec.ofBool (decide (Near (row t r).val (Block.start (grid0.coords t) + j.val) ∧ 256 ≤ Block.start (grid0.coords t) + j.val)) := by
  have h := Block.start_le (grid0.coords t)
  have e0 : iota .tc S256x512 32 [0] iota_S256x512_d0_w32 (ix2 r j) = BitVec.ofNat 32 r.val := iota_single_apply .tc S256x512 32 0 _ _
  have e1 : iota .tc S256x512 32 [1] iota_S256x512_d1_w32 (ix2 r j) = BitVec.ofNat 32 j.val := iota_single_apply .tc S256x512 32 1 _ _
  have e := mask_word (Scalar.muli (Scalar.addi (BitVec.ofNat 32 (grid0.coords t 1).val) 1#32) 256#32) (Block.startWord (grid0.coords t))
    (a := (t.val % 8 + 1) * 256) (b := Block.start (grid0.coords t)) (r := r.val) (j := j.val) ?_ rfl ?_ ?_
  · rw [← e0, ← e1] at e
    exact e
  · rw [coord t]
    have h : ∀ n < 8, (Scalar.muli (Scalar.addi (BitVec.ofNat 32 n) 1#32) 256#32).toNat = (n + 1) * 256 := by decide
    exact h _ (by omega)
  · omega
  · omega

theorem sinks (t : Fin cfg0.N) : (iblk m c 0 t : Vec Ideal S4 .f32) = m ((c : Thread nD τ).loc main_arg0) := by
  funext i
  unfold iblk
  rw [View.read_apply]
  show V m c main_arg0 _ = m (c.tc.loc main_arg0) _
  unfold V
  congr 1
  funext a
  apply Fin.ext
  match a with
  | ⟨0, _⟩ => show win0_0.index t 0 * 4 + 1 * (i 0).val = (i 0).val; rw [index0 t]; omega

/-- A point's block of queries, read at an index. -/
theorem queries (t : Fin cfg0.N) (h : Fin 4) (r : Fin 256) (x : Fin 128) :
    (iblk m c 1 t : Vec Ideal S1x4x256x128 .bf16) (ix4 (0 : Fin 1) h r x) = m ((c : Thread nD τ).loc main_arg1) (ix4 (batch t) h (row t r) x) := by
  obtain ⟨e0, e1, e2, e3⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8; rw [e0]; omega
  | ⟨1, _⟩ => show win0_1.index t 1 * 4 + 1 * h.val = h.val; rw [e1]; omega
  | ⟨2, _⟩ => show win0_1.index t 2 * 256 + 1 * r.val = (t.val % 8 + 1) * 256 + r.val; rw [e2]; omega
  | ⟨3, _⟩ => show win0_1.index t 3 * 128 + 1 * x.val = x.val; rw [e3]; omega

/-- A point's block of keys, read at an index. -/
theorem keys (t : Fin cfg0.N) (g : Fin 2) (k : Fin 2304) (x : Fin 128) :
    (iblk m c 2 t : Vec Ideal S1x2x2304x128 .bf16) (ix4 (0 : Fin 1) g k x) = m ((c : Thread nD τ).loc main_arg2) (ix4 (batch t) g k x) := by
  obtain ⟨e0, e1, e2, e3⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 8; rw [e0]; omega
  | ⟨1, _⟩ => show win0_2.index t 1 * 2 + 1 * g.val = g.val; rw [e1]; omega
  | ⟨2, _⟩ => show win0_2.index t 2 * 2304 + 1 * k.val = k.val; rw [e2]; omega
  | ⟨3, _⟩ => show win0_2.index t 3 * 128 + 1 * x.val = x.val; rw [e3]; omega

/-- A point's block of values, read at an index. -/
theorem values (t : Fin cfg0.N) (g : Fin 2) (k : Fin 2304) (x : Fin 128) :
    (iblk m c 3 t : Vec Ideal S1x2x2304x128 .bf16) (ix4 (0 : Fin 1) g k x) = m ((c : Thread nD τ).loc main_arg3) (ix4 (batch t) g k x) := by
  obtain ⟨e0, e1, e2, e3⟩ := index3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 8; rw [e0]; omega
  | ⟨1, _⟩ => show win0_3.index t 1 * 2 + 1 * g.val = g.val; rw [e1]; omega
  | ⟨2, _⟩ => show win0_3.index t 2 * 2304 + 1 * k.val = k.val; rw [e2]; omega
  | ⟨3, _⟩ => show win0_3.index t 3 * 128 + 1 * x.val = x.val; rw [e3]; omega

/-- The value at a batch, query row and output column, from the launched memory. -/
def cell (b : Fin 8) (t : Fin 2304) (col : Fin 512) : EReal :=
  nearCell (m ((c : Thread nD τ).loc main_arg0)) (m ((c : Thread nD τ).loc main_arg1)) (m ((c : Thread nD τ).loc main_arg2)) (m ((c : Thread nD τ).loc main_arg3)) b t col

/-- The result array's function of the launched memory. -/
def result : S8x2048x512.Idx → EReal := fun i => cell m c (i 0) ⟨256 + (i 1).val, by have : (i 1).val < 2048 := (i 1).isLt; omega⟩ (i 2)

/-- A point's block of the result, from the arrays. -/
theorem block_eq (t : Fin cfg0.N) (r : Fin 256) (col : Fin 512) :
    nearBlock (Block.start (grid0.coords t)) (Block.start_le _) (k0_pay2 (grid0.coords t)) (iblk m c 0 t : Vec Ideal S4 .f32) (iblk m c 1 t : Vec Ideal S1x4x256x128 .bf16)
        (iblk m c 2 t : Vec Ideal S1x2x2304x128 .bf16) (iblk m c 3 t : Vec Ideal S1x2x2304x128 .bf16) r col = cell m c (batch t) (row t r) col :=
  nearBlock_eq _ _ _ _ (batch t) (row t r) col _ _ _ _ r (sinks m c t) (fun h x => queries m c t h r x) (keys m c t) (values m c t)
    (by show ¬(t.val % 8 + 1) * 256 + r.val < 256; omega) _ _ _ (start_eq t r) (mask_eq t r)

/-- What a point writes back is its block of the result. -/
theorem flushed_eq (t : Fin cfg0.N) : (dats m 0 c).flushed 4 t = ((cfg0.win 4).blk t).view.read (Elt Ideal) (result m c) := by
  obtain ⟨e0, e1, e2⟩ := index4 t
  rw [Value.flushed4_A]
  funext j
  rw [View.read_apply]
  refine (Block.out_apply _ _ _ _ _ _ _ _ _ _ _ _ _ _ _ _ j).trans ((block_eq m c t _ _).trans ?_)
  show _ = result m c (((cfg0.win 4).blk t).view.emb j)
  unfold result
  have h0 : (j 0).val < 1 := (j 0).isLt
  congr 1
  · apply Fin.ext
    show t.val / 8 = win0_4.index t 0 * 1 + 1 * (j 0).val
    rw [e0]; omega
  · apply Fin.ext
    show (t.val % 8 + 1) * 256 + (j 1).val = 256 + (win0_4.index t 1 * 256 + 1 * (j 1).val)
    rw [e1]; omega
  · apply Fin.ext
    show (j 2).val = win0_4.index t 2 * 512 + 1 * (j 2).val
    rw [e2]; omega

/-- Every index of the result lies in the block of a point. -/
theorem cover (i : S8x2048x512.Idx) : ∃ t : Fin cfg0.N, (cfg0.win 4).flush t = true ∧ i ∈ ((cfg0.win 4).blk t).view.set := by
  have h0 : (i 0 : Nat) < 8 := (i 0).isLt
  have h1 : (i 1 : Nat) < 2048 := (i 1).isLt
  have h2 : (i 2 : Nat) < 512 := (i 2).isLt
  have hlt : (i 0 : Nat) * 8 + (i 1 : Nat) / 256 < 64 := by omega
  obtain ⟨t, ht⟩ : ∃ t : Fin cfg0.N, t.val = (i 0 : Nat) * 8 + (i 1 : Nat) / 256 := ⟨⟨_, hlt⟩, rfl⟩
  obtain ⟨e0, e1, e2⟩ := index4 t
  refine ⟨t, flush0_4 _, ?_⟩
  show i ∈ ((View.whole main_v0).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [e0]; omega
  | ⟨1, _⟩ =>
    show win0_4.index t 1 * 256 ≤ (i 1 : Nat) ∧ (i 1 : Nat) < win0_4.index t 1 * 256 + 256
    rw [e1]; omega
  | ⟨2, _⟩ =>
    show win0_4.index t 2 * 512 ≤ (i 2 : Nat) ∧ (i 2 : Nat) < win0_4.index t 2 * 512 + 512
    rw [e2]; omega

/-- The array the run leaves. -/
theorem final : (dats m 0 c).arrAt 4 cfg0.N = result m c :=
  (dats m 0 c).arrAt_eq_of_cover 4 (result m c) (fun t _ => flushed_eq m c t) cover

end Cert.SwaIdeal.Array

end
-- ==== Proof.Swa.Ref.lean ====
/-
  The reference windowed attention read at an index: every key scored, the keys outside the window and the context masked,
  the sink's score appended as one more column, and the values summed under the divided weights.
-/
module

public import proofs.«01_k».proof.Proof.Swa.Array
public import proofs.«01_k».proof.Proof.Gen.SwaRefIdeal.Run
public import proofs.«01_k».proof.Proof.Gen.SwaRefIdeal.Read

@[expose] public section

set_option maxRecDepth 16384

noncomputable section

namespace Cert.SwaRefIdeal.Array

open Cert.SwaRefIdeal Cert.SwaRefIdeal.Gen Cert.SwaRefIdeal.Read Cert.Row Idealize.ShloMosaic Idealize.ShloMosaic.TcCoe
open Idealize.ShloMosaic.ValueIdx Idealize.ShloMosaic.WordCmp

variable (z : (⟨S4, .f32⟩ : BufTy).Contents (Elt Ideal)) (q : (⟨S8x4x2304x128, .bf16⟩ : BufTy).Contents (Elt Ideal))
  (k v : (⟨S8x2x2304x128, .bf16⟩ : BufTy).Contents (Elt Ideal)) (b : Fin 8) (t : Fin 2048) (c : Fin 512)

/-- The query row behind a row of the result. -/
def late (t : Fin 2048) : Fin 2304 := ⟨256 + t.val, by omega⟩

theorem v4_eq (x : Fin 2304) : val_main_v4 (F := Ideal) q k (ix5 b (groupOf c) (halfOf c) t x) = keyScore q k b (late t) c x := by
  rw [val_main_v4_apply]
  unfold keyScore dot
  refine Finset.sum_congr rfl fun d _ => ?_
  rw [val_main_v2_apply, val_main_v1_apply, val_main_v0_apply, val_main_v3_apply]
  congr 1
  · refine congrArg q (funext fun a => Fin.ext ?_)
    match a with
    | ⟨0, _⟩ => show ((((b.val * 2 + c.val / 256) * 2 + c.val / 128 % 2) * 2048 + t.val) * 128 + d.val) / 1048576 = b.val; omega
    | ⟨1, _⟩ => show ((((b.val * 2 + c.val / 256) * 2 + c.val / 128 % 2) * 2048 + t.val) * 128 + d.val) / 262144 % 4 = c.val / 128; omega
    | ⟨2, _⟩ => show 256 + ((((b.val * 2 + c.val / 256) * 2 + c.val / 128 % 2) * 2048 + t.val) * 128 + d.val) / 128 % 2048 = 256 + t.val; omega
    | ⟨3, _⟩ => show ((((b.val * 2 + c.val / 256) * 2 + c.val / 128 % 2) * 2048 + t.val) * 128 + d.val) % 128 = d.val; omega
  · exact congrArg k (funext fun a => by match a with | ⟨0, _⟩ => rfl | ⟨1, _⟩ => rfl | ⟨2, _⟩ => rfl | ⟨3, _⟩ => rfl)

/-- The mask: the context and the keys near the query's position. -/
theorem v20_eq (x : Fin 2304) : val_main_v20 (F := Ideal) (ix2 t x)
    = BitVec.ofBool (decide (x.val < 256 ∨ (256 ≤ (late t).val ∧ Near (late t).val x.val))) := by
  rw [val_main_v20_apply, val_main_v19_apply, val_main_v12_apply, val_main_v10_apply, val_main_v11_apply, val_main_v18_apply,
    val_main_v17_apply, val_main_v16_apply, val_main_v15_apply, val_main_v13_apply, val_main_v14_apply, val_main_v8_apply,
    val_main_v6_apply, val_main_v7_apply, val_main_v10_apply, val_main_v9_apply, val_main_v5_apply]
  exact reference_word x.isLt (by omega : t.val + 256 < 2304)

/-- The masked scores of a row. -/
def masked (x : Fin 2304) : EReal :=
  if x.val < 256 ∨ (256 ≤ (late t).val ∧ Near (late t).val x.val) then keyScore q k b (late t) c x else ⊥

theorem v22_eq (x : Fin 2304) : val_main_v22 (F := Ideal) q k (ix5 b (groupOf c) (halfOf c) t x) = masked q k b t c x := by
  have e : idx_main_v21 (idx_main_call0_v1 (ix5 b (groupOf c) (halfOf c) t x)) = ix2 t x := funext fun a => by match a with | ⟨0, _⟩ => rfl | ⟨1, _⟩ => rfl
  rw [val_main_v22_apply, val_main_call0_v1_apply, val_main_v21_apply, e, v20_eq, v4_eq, Row.select_ofBool, val_main_call0_v2_apply,
    val_main_call0_v0_apply, val_main_cst_apply]
  unfold masked
  rw [← ofBits_bot]

/-- A row's scores with the sink's appended. -/
def scores : Fin 2305 → EReal := fun y => val_main_v26 (F := Ideal) z q k (ix5 b (groupOf c) (halfOf c) t y)

theorem scores_key (x : Fin 2304) : scores z q k b t c x.castSucc = masked q k b t c x := by
  refine Eq.trans ?_ (v22_eq q k b t c x)
  exact concatenate_pair_apply_left 4 _ _ concatenates_S8x2x2x2048x2304_S8x2x2x2048x1_S8x2x2x2048x2305_d4 _ rfl (ix5 b (groupOf c) (halfOf c) t x)
    fun a => by match a with | ⟨0, _⟩ => rfl | ⟨1, _⟩ => rfl | ⟨2, _⟩ => rfl | ⟨3, _⟩ => rfl | ⟨4, _⟩ => rfl

theorem scores_sink : scores z q k b t c (Fin.last 2304) = z (ix1 (headOf c)) := by
  refine Eq.trans (concatenate_pair_apply_right 4 _ _ concatenates_S8x2x2x2048x2304_S8x2x2x2048x1_S8x2x2x2048x2305_d4 _ rfl rfl
    (ix5 b (groupOf c) (halfOf c) t (0 : Fin 1)) (fun a h => ?_) rfl) ?_
  · match a with
    | ⟨0, _⟩ => rfl
    | ⟨1, _⟩ => rfl
    | ⟨2, _⟩ => rfl
    | ⟨3, _⟩ => rfl
    | ⟨4, _⟩ => exact absurd rfl h
  · rw [val_main_v25_apply, val_main_v24_apply, val_main_v23_apply]
    refine congrArg z (funext fun a => Fin.ext ?_)
    match a with
    | ⟨0, _⟩ => show c.val / 256 * 2 + c.val / 128 % 2 = c.val / 128; omega

theorem v29_eq : val_main_v29 (F := Ideal) z q k (ix4 b (groupOf c) (halfOf c) t) = top (scores z q k b t c) := by
  have hr : S8x2x2x2048x2305.Reduces [4] S8x2x2x2048 := by decide
  have e : val_main_v27 (F := Ideal) z q k (ix4 b (groupOf c) (halfOf c) t) = top (scores z q k b t c) := by
    unfold val_main_v27
    refine (Host.reduce_eq_fold_single (α := EReal) max _ _ reducesTo_S8x2x2x2048x2305_S8x2x2x2048_d4 hr h_S_ _).trans ?_
    have e0 : (val_main_cst_2 (F := Ideal)) (Shape.Idx.first h_S_) = (⊥ : EReal) := (val_main_cst_2_apply _).trans ofBits_bot
    have e1 : (val_main_v26 (F := Ideal) z q k ∘ hr.lift (ix4 b (groupOf c) (halfOf c) t)) = scores z q k b t c := funext fun y =>
      congrArg (val_main_v26 (F := Ideal) z q k) (funext fun a => Fin.ext (by
        match a with | ⟨0, _⟩ => rfl | ⟨1, _⟩ => rfl | ⟨2, _⟩ => rfl | ⟨3, _⟩ => rfl | ⟨4, _⟩ => rfl))
    rw [e0, e1]
    rfl
  rw [val_main_v29_apply, e, val_main_v28_apply, val_main_cst_3_apply]
  refine (congrArg (max · _) ofBits_bot).trans (max_eq_right bot_le)

theorem v33_eq (y : Fin 2305) : val_main_v33 (F := Ideal) z q k (ix5 b (groupOf c) (halfOf c) t y)
    = Ideal.exp (scores z q k b t c y - top (scores z q k b t c)) := by
  have e : idx_main_v30 (idx_main_v31 (ix5 b (groupOf c) (halfOf c) t y)) = ix4 b (groupOf c) (halfOf c) t := funext fun a => by
    match a with | ⟨0, _⟩ => rfl | ⟨1, _⟩ => rfl | ⟨2, _⟩ => rfl | ⟨3, _⟩ => rfl
  rw [val_main_v33_apply, val_main_v32_apply, val_main_v31_apply, val_main_v30_apply, e, v29_eq]
  rfl

theorem v38_eq (x : Fin 2304) : val_main_v38 (F := Ideal) z q k (ix5 b (groupOf c) (halfOf c) t x)
    = Ideal.div (Ideal.exp (scores z q k b t c x.castSucc - top (scores z q k b t c))) (∑ y, Ideal.exp (scores z q k b t c y - top (scores z q k b t c))) := by
  have e : idx_main_v38 (ix5 b (groupOf c) (halfOf c) t x) = ix5 b (groupOf c) (halfOf c) t x.castSucc := funext fun a => by
    match a with | ⟨0, _⟩ => rfl | ⟨1, _⟩ => rfl | ⟨2, _⟩ => rfl | ⟨3, _⟩ => rfl | ⟨4, _⟩ => rfl
  have e' : idx_main_v35 (idx_main_v36 (ix5 b (groupOf c) (halfOf c) t x.castSucc)) = ix4 b (groupOf c) (halfOf c) t := funext fun a => by
    match a with | ⟨0, _⟩ => rfl | ⟨1, _⟩ => rfl | ⟨2, _⟩ => rfl | ⟨3, _⟩ => rfl
  have e0 : (FloatOps.ofBits (F := Ideal) .f32 0x00000000#32 : EReal) = 0 := Idealize.ShloMosaic.Ideal.ofBits_zero_f32
  rw [val_main_v38_apply, e, val_main_v37_apply, v33_eq, val_main_v36_apply, val_main_v35_apply, e', val_main_v34_apply, val_main_cst_4_apply]
  refine congrArg (Ideal.div _) ((congrArg (· + _) e0).trans ((zero_add _).trans (Finset.sum_congr rfl fun y _ => ?_)))
  refine Eq.trans (congrArg (val_main_v33 (F := Ideal) z q k) (funext fun a => ?_)) (v33_eq z q k b t c y)
  match a with | ⟨0, _⟩ => rfl | ⟨1, _⟩ => rfl | ⟨2, _⟩ => rfl | ⟨3, _⟩ => rfl | ⟨4, _⟩ => rfl

/-- The reference's result at an index. -/
theorem v43_eq : val_main_v43 (F := Ideal) z q k v (ix3 b t c) = denseCell z q k v b (late t) c := by
  have e : idx_main_v41 (idx_main_v42 (ix3 b t c)) = ix5 b (groupOf c) (colOf c) (halfOf c) t := funext fun a => Fin.ext (by
    match a with
    | ⟨0, _⟩ => show ((b.val * 2048 + t.val) * 512 + c.val) / 1048576 = b.val; omega
    | ⟨1, _⟩ => show ((b.val * 2048 + t.val) * 512 + c.val) / 256 % 2 = c.val / 256; omega
    | ⟨2, _⟩ => show ((b.val * 2048 + t.val) * 512 + c.val) % 128 = c.val % 128; omega
    | ⟨3, _⟩ => show ((b.val * 2048 + t.val) * 512 + c.val) / 128 % 2 = c.val / 128 % 2; omega
    | ⟨4, _⟩ => show ((b.val * 2048 + t.val) * 512 + c.val) / 512 % 2048 = t.val; omega)
  rw [val_main_v43_apply]
  show val_main_v42 (F := Ideal) z q k v (ix3 b t c) = _
  rw [val_main_v42_apply, val_main_v41_apply, e, val_main_v40_apply]
  refine Eq.trans (Finset.sum_congr rfl fun x _ => ?_) (row_eq_dense (scores z q k b t c) (masked q k b t c) (z (ix1 (headOf c))) (keyValue v b c) (scores_key z q k b t c) (scores_sink z q k b t c))
  refine congrArg₂ (· * ·) ?_ ?_
  · rw [val_main_v39_apply]
    exact congrArg v (funext fun a => by match a with | ⟨0, _⟩ => rfl | ⟨1, _⟩ => rfl | ⟨2, _⟩ => rfl | ⟨3, _⟩ => rfl)
  · refine Eq.trans (congrArg (val_main_v38 (F := Ideal) z q k) (funext fun a => ?_)) (v38_eq z q k b t c x)
    match a with | ⟨0, _⟩ => rfl | ⟨1, _⟩ => rfl | ⟨2, _⟩ => rfl | ⟨3, _⟩ => rfl | ⟨4, _⟩ => rfl

/-- On real sinks, queries and keys the reference's result is the kernel's. -/
theorem eq_near (hz : ∀ i, z i ≠ ⊤) (hq : ∀ i, Finite (q i)) (hk : ∀ i, Finite (k i)) :
    val_main_v43 (F := Ideal) z q k v = fun i => nearCell z q k v (i 0) (late (i 1)) (i 2) := by
  funext i
  obtain ⟨b, t, c, rfl⟩ : ∃ (b : Fin 8) (t : Fin 2048) (c : Fin 512), i = ix3 b t c := ⟨i 0, i 1, i 2, funext fun a => by
    match a with | ⟨0, _⟩ => rfl | ⟨1, _⟩ => rfl | ⟨2, _⟩ => rfl⟩
  exact (v43_eq z q k v b t c).trans (nearCell_eq z q k v b (late t) c hz hq hk).symm

end Cert.SwaRefIdeal.Array

end
-- ==== Proof.Near.Pre.lean ====
/-
  The precondition on the sinks read at the extended reals: no sink is +∞.
-/
module

public import proofs.«01_k».proof.Proof.Mla.Pre
public import proofs.«01_k».proof.Proof.Head

@[expose] public section

noncomputable section

namespace Cert.Row

open Idealize.ShloMosaic Idealize.ShloMosaic.ValueIdx Idealize.ShloMosaic.WordCmp

theorem f32_top : FloatOps.ofBits (F := Ideal) .f32 0x7F800000#32 = (⊤ : EReal) := by
  show Ideal.ofBits .f32 0x7F800000#32 = ⊤
  simp [Ideal.ofBits, Ideal.ieee]

/-- An f32 array below +∞ everywhere. -/
theorem ne_top_of_below {s : Shape} (hb) (x : FVec Ideal s .f32)
    (h : cmpf .olt x (broadcastInDim s ![] hb (constant (F := Ideal) ⟨0, ![]⟩ .f32 0x7F800000#32)) = fun _ => 1#1) (i : s.Idx) :
    x i ≠ ⊤ := by
  have e : FloatOps.cmpf (F := Ideal) .olt (x i) (FloatOps.ofBits (F := Ideal) .f32 0x7F800000#32) = 1#1 := congrFun h i
  rw [f32_top] at e
  have e' : BitVec.ofBool (decide (x i < (⊤ : EReal))) = 1#1 := e
  rw [ofBool_eq_one_iff, decide_eq_true_eq] at e'
  exact e'.ne

end Cert.Row

end
-- ==== Proof.Swa.Claims.lean ====
/-
  The claims about the windowed attention of the rows after the first 256: both programs run, leave their arguments alone
  and end with every counter at zero; on real queries and keys and sinks below +∞ they leave the same result.
-/
module

public import proofs.«01_k».proof.Defs
public import proofs.«01_k».proof.Proof.Swa.Ref
public import proofs.«01_k».proof.Proof.Near.Pre
public import proofs.«01_k».proof.Proof.Gen.Pre_finite_near
public import proofs.«01_k».proof.Proof.Gen.Swa.Frame
public import Idealize.ShloMosaic.Lib.Quiescent

@[expose] public section

noncomputable section

namespace Cert.Proof.Swa

open Idealize.ShloMosaic Idealize.SL.Sem

attribute [local instance] Cert.Swa.Gen.facts Cert.SwaIdeal.Gen.facts Cert.SwaRefIdeal.Gen.facts Cert.Pre_finite_near.Gen.facts

theorem quiescent_kernel : Cert.quiescent_Swa := fun m g _ => Cert.Swa.Gen.frame m g

theorem quiescent_ideal : Cert.quiescent_SwaIdeal := fun m g _ => Cert.SwaIdeal.Gen.frame m g

theorem quiescent_ideal_finite : Cert.quiescent_SwaIdeal_pre_finite_near := fun m g _ => Cert.SwaIdeal.Gen.frame m g

/-- The reference runs, keeps its arguments and ends with every counter at zero. -/
theorem quiescent_reference : Cert.quiescent_SwaRefIdeal := fun m g _ =>
  (θ_run _ _ _).mono (fun r h => ⟨fun c => (h c).2, sem_eq_zero_of_no_sems (by decide) r.2⟩) (Cert.SwaRefIdeal.Value.run m g)

theorem quiescent_reference_finite : Cert.quiescent_SwaRefIdeal_pre_finite_near := fun m g _ => quiescent_reference m g trivial

theorem preserves : Cert.preserves_Swa_SwaIdeal :=
  IdealRules.named_const.statement Cert.SwaIdeal.κ "neg_inf" .f32 0xF149F2CA#32 ⊥ rfl

theorem algebraic : Cert.algebraic_SwaIdeal_SwaRefIdeal_pre_finite_near := by
  intro m g m' g' hpre hargs
  refine ⟨fun c => Cert.SwaIdeal.Array.result m c, ?_, ?_⟩
  · exact (θ_run _ _ _).mono (fun r h c => ⟨(h c).1.trans (Cert.SwaIdeal.Array.final m c), (h c).2⟩) (Cert.SwaIdeal.Value.run_blocks m g)
  · refine (θ_run _ _ _).mono (fun r h c => ⟨(h c).1.trans ?_, (h c).2⟩) (Cert.SwaRefIdeal.Value.run m' g')
    obtain ⟨a0, a1, a2, a3⟩ := hargs c
    refine (Cert.SwaRefIdeal.Read.val_main_v43_eq _ _).trans ?_
    rw [a0, a1, a2, a3]
    exact Cert.SwaRefIdeal.Array.eq_near _ _ _ _ (Cert.Row.ne_top_of_below _ _ (hpre c).1) (Cert.Row.finite_of_between _ _ (hpre c).2.1)
      (Cert.Row.finite_of_between _ _ (hpre c).2.2)

end Cert.Proof.Swa

end
-- ==== Proof.SwaFirst.Block.lean ====
/-
  The windowed attention kernel's output block read at an index: a point's four stores, one per head and 128 columns
  each, are one function of the staged blocks. A point of the first rows attends the context, any other its window too.
-/
module

public import proofs.«01_k».proof.Proof.Swa.Block
public import proofs.«01_k».proof.Proof.Gen.SwaFirstIdeal.Value

@[expose] public section

set_option maxRecDepth 16384

noncomputable section

namespace Cert.SwaFirstIdeal.Block

open Cert.SwaIdeal.Block (inbQ inbC inbW inbO inbZ)
open Cert.SwaFirstIdeal Cert.SwaFirstIdeal.Gen Cert.Row Idealize.ShloMosaic Idealize.ShloMosaic.ValueIdx

/-- The first row of a point's window. -/
def start (i : grid0.Coords) : ℕ := k0_off1 i 2

/-- The same as a word. -/
def startWord (i : grid0.Coords) : BitVec 32 :=
  Scalar.minsi 1792#32 (Scalar.maxsi 0#32 (Scalar.subi (Scalar.muli (Scalar.addi (BitVec.ofNat 32 (i 1).val) 0#32) 256#32) 128#32))

/-- A point's mask. -/
def mask (i : grid0.Coords) : IVec S256x512 1 := k0_pay13 (Scalar.addi (BitVec.ofNat 32 (i 1).val) 0#32)

theorem start_le (i : grid0.Coords) (hc : cond0_1 i) : start i + 512 ≤ 2304 := k0_off1_inb i hc 2

/-- The columns of a head. -/
def cols (h : Fin 4) : Rect S1x256x512 := Rect.unit (s := S1x256x512) ![0, 0, h.val * 128] S1x256x128.size (inbO h)

section
variable (z : Vec Ideal S4 .f32) (q : Vec Ideal S1x4x256x128 .bf16) (k v : Vec Ideal S1x2x2304x128 .bf16)
  (c : Dev nD) (i : grid0.Coords) (arg2 : Memref sig .tc .smem S4 .f32) (harg2 : arg2.IsWhole) (arg3 : Memref sig .tc .vmem S1x4x256x128 .bf16) (harg3 : arg3.IsWhole)
  (arg4 : Memref sig .tc .vmem S1x2x2304x128 .bf16) (harg4 : arg4.IsWhole) (arg5 : Memref sig .tc .vmem S1x2x2304x128 .bf16) (harg5 : arg5.IsWhole)
  (arg6 : Memref sig .tc .vmem S1x256x512 .bf16) (harg6 : arg6.IsWhole)

/-- A head's store at a point over the context alone. -/
def storeA (h : Fin 4) : FVec Ideal S1x256x128 .bf16 :=
  sunkStore dot_S256x128_S256x128_S256x256_1_1_0_0_n_n dot_S256x256_S256x128_S256x128_1_0_0_1_n_n reduces_S256x256_S256
    shapeCasts_S256_S256x1 broadcasts_S256x1_S256x256 broadcasts_S256x1_S256x128 (.inl rfl) rfl rfl bitsLt_bf16_f32
    shapeCasts_S256x128_S1x256x128
    (View.readAt (Elt Ideal) arg2.view (Rect.unit (s := S4) ![h.val] S1.size (inbZ h)).toLoadRect (harg2.unread z) (Shape.Idx.first (s := S1) (by decide)))
    (shapeCast S256x128 (View.readAt (Elt Ideal) arg3.view (Rect.unit (s := S1x4x256x128) ![0, h.val, 0, 0] S1x1x256x128.size (inbQ h)).toLoadRect (harg3.unread q)) shapeCasts_S1x1x256x128_S256x128)
    (shapeCast S256x128 (View.readAt (Elt Ideal) arg4.view (Rect.unit (s := S1x2x2304x128) ![0, h.val / 2, 0, 0] S1x1x256x128.size (inbC h)).toLoadRect (harg4.unread k)) shapeCasts_S1x1x256x128_S256x128)
    (shapeCast S256x128 (View.readAt (Elt Ideal) arg5.view (Rect.unit (s := S1x2x2304x128) ![0, h.val / 2, 0, 0] S1x1x256x128.size (inbC h)).toLoadRect (harg5.unread v)) shapeCasts_S1x1x256x128_S256x128)

/-- A head's store at a point with a window. -/
def storeB (h : Fin 4) (st : ℕ) (hst : st + 512 ≤ 2304) : FVec Ideal S1x256x128 .bf16 :=
  nearStore dot_S256x128_S512x128_S256x512_1_1_0_0_n_n dot_S256x128_S256x128_S256x256_1_1_0_0_n_n
    dot_S256x512_S512x128_S256x128_1_0_0_1_n_n dot_S256x256_S256x128_S256x128_1_0_0_1_n_n reduces_S256x512_S256 reduces_S256x256_S256
    shapeCasts_S256_S256x1 broadcasts_S256x1_S256x512 broadcasts_S256x1_S256x256 broadcasts_S256x1_S256x128 (.inl rfl) rfl rfl bitsLt_bf16_f32
    shapeCasts_S256x128_S1x256x128 (mask i) (Named.named (F := Ideal) κ "neg_inf" (φ := .f32) 0xF149F2CA#32)
    (View.readAt (Elt Ideal) arg2.view (Rect.unit (s := S4) ![h.val] S1.size (inbZ h)).toLoadRect (harg2.unread z) (Shape.Idx.first (s := S1) (by decide)))
    (shapeCast S256x128 (View.readAt (Elt Ideal) arg3.view (Rect.unit (s := S1x4x256x128) ![0, h.val, 0, 0] S1x1x256x128.size (inbQ h)).toLoadRect (harg3.unread q)) shapeCasts_S1x1x256x128_S256x128)
    (shapeCast S256x128 (View.readAt (Elt Ideal) arg4.view (Rect.unit (s := S1x2x2304x128) ![0, h.val / 2, 0, 0] S1x1x256x128.size (inbC h)).toLoadRect (harg4.unread k)) shapeCasts_S1x1x256x128_S256x128)
    (shapeCast S256x128 (View.readAt (Elt Ideal) arg5.view (Rect.unit (s := S1x2x2304x128) ![0, h.val / 2, 0, 0] S1x1x256x128.size (inbC h)).toLoadRect (harg5.unread v)) shapeCasts_S1x1x256x128_S256x128)
    (shapeCast S512x128 (View.readAt (Elt Ideal) arg4.view (Rect.unit (s := S1x2x2304x128) ![0, h.val / 2, st, 0] S1x1x512x128.size (inbW h st hst)).toLoadRect (harg4.unread k)) shapeCasts_S1x1x512x128_S512x128)
    (shapeCast S512x128 (View.readAt (Elt Ideal) arg5.view (Rect.unit (s := S1x2x2304x128) ![0, h.val / 2, st, 0] S1x1x512x128.size (inbW h st hst)).toLoadRect (harg5.unread v)) shapeCasts_S1x1x512x128_S512x128)

/-- The four stores of a point over the context. -/
theorem piecesA (hc0 : cond0_0 i) (hc1 : ¬cond0_1 i) : (kernelRun0_A c i arg2 harg2 arg3 harg3 arg4 harg4 arg5 harg5 arg6 harg6 hc0 hc1 z q k v).1
    = [⟨cols 3, storeA z q k v arg2 harg2 arg3 harg3 arg4 harg4 arg5 harg5 3⟩,
      ⟨cols 2, storeA z q k v arg2 harg2 arg3 harg3 arg4 harg4 arg5 harg5 2⟩,
      ⟨cols 1, storeA z q k v arg2 harg2 arg3 harg3 arg4 harg4 arg5 harg5 1⟩,
      ⟨cols 0, storeA z q k v arg2 harg2 arg3 harg3 arg4 harg4 arg5 harg5 0⟩] := by
  unfold kernelRun0_A
  rfl

/-- A head's store over the context, read at an index. -/
theorem storeA_eq (h : Fin 4) (x : S1x256x128.Idx) :
    storeA z q k v arg2 harg2 arg3 harg3 arg4 harg4 arg5 harg5 h x
      = sunkBlock z q k v ((cols h).emb x 1) ((cols h).emb x 2) := by
  obtain ⟨r, d, rfl⟩ : ∃ (r : Fin 256) (d : Fin 128), x = ix3 (0 : Fin 1) r d := ⟨x 1, x 2, funext fun a => by
    match a with
    | ⟨0, _⟩ => exact Subsingleton.elim (α := Fin 1) _ _
    | ⟨1, _⟩ => rfl
    | ⟨2, _⟩ => rfl⟩
  have e1 : (cols h).emb (ix3 (0 : Fin 1) r d) 1 = r := Fin.ext (by show 0 + 1 * r.val = r.val; omega)
  unfold storeA
  rw [ld_whole, ld_whole, ld_whole, ld_whole, e1]
  refine sunkStore_apply _ _ _ _ _ _ _ _ _ _ _ _ z q k v rfl rfl h _ ?_ _ _ _ _ _ rfl rfl r d _ ?_
  · refine View.ld_unit_apply_of z _ _ (inbZ h) _ _ fun a => ?_
    match a with
    | ⟨0, _⟩ => rfl
  · show h.val * 128 + 1 * d.val = h.val * 128 + d.val
    omega

/-- The block of a point over the context, read at an index. -/
theorem outA_apply (hc0 : cond0_0 i) (hc1 : ¬cond0_1 i) (y : S1x256x512.Idx) : out0_A_4 c i arg2 harg2 arg3 harg3 arg4 harg4 arg5 harg5 arg6 harg6 hc0 hc1 z q k v y
    = sunkBlock z q k v (y 1) (y 2) := by
  have hcov := cover0_A_4 c i arg2 harg2 arg3 harg3 arg4 harg4 arg5 harg5 arg6 harg6 hc0 hc1 z q k v
  unfold out0_A_4
  rw [View.read_writes_eq_canon _ _ _ hcov]
  refine View.canon_apply_of_pieces (Val := Elt Ideal) (e := .bf16) (fun y : S1x256x512.Idx => sunkBlock z q k v (y 1) (y 2)) _ ?_ y (hcov y)
  rw [piecesA]
  intro p hp
  rcases List.mem_cons.mp hp with rfl | hp
  · exact storeA_eq z q k v arg2 harg2 arg3 harg3 arg4 harg4 arg5 harg5 3
  rcases List.mem_cons.mp hp with rfl | hp
  · exact storeA_eq z q k v arg2 harg2 arg3 harg3 arg4 harg4 arg5 harg5 2
  rcases List.mem_cons.mp hp with rfl | hp
  · exact storeA_eq z q k v arg2 harg2 arg3 harg3 arg4 harg4 arg5 harg5 1
  rcases List.mem_cons.mp hp with rfl | hp
  · exact storeA_eq z q k v arg2 harg2 arg3 harg3 arg4 harg4 arg5 harg5 0
  · exact absurd hp List.not_mem_nil

/-- The four stores of a point with a window. -/
theorem piecesB (hc0 : ¬cond0_0 i) (hc1 : cond0_1 i) : (kernelRun0_B c i arg2 harg2 arg3 harg3 arg4 harg4 arg5 harg5 arg6 harg6 hc0 hc1 z q k v).1
    = [⟨cols 3, storeB z q k v i arg2 harg2 arg3 harg3 arg4 harg4 arg5 harg5 3 (start i) (start_le i hc1)⟩,
      ⟨cols 2, storeB z q k v i arg2 harg2 arg3 harg3 arg4 harg4 arg5 harg5 2 (start i) (start_le i hc1)⟩,
      ⟨cols 1, storeB z q k v i arg2 harg2 arg3 harg3 arg4 harg4 arg5 harg5 1 (start i) (start_le i hc1)⟩,
      ⟨cols 0, storeB z q k v i arg2 harg2 arg3 harg3 arg4 harg4 arg5 harg5 0 (start i) (start_le i hc1)⟩] := by
  unfold kernelRun0_B
  rfl

/-- A head's store with a window, read at an index. -/
theorem storeB_eq (hc1 : cond0_1 i) (h : Fin 4) (x : S1x256x128.Idx) :
    storeB z q k v i arg2 harg2 arg3 harg3 arg4 harg4 arg5 harg5 h (start i) (start_le i hc1) x
      = nearBlock (start i) (start_le i hc1) (mask i) z q k v ((cols h).emb x 1) ((cols h).emb x 2) := by
  obtain ⟨r, d, rfl⟩ : ∃ (r : Fin 256) (d : Fin 128), x = ix3 (0 : Fin 1) r d := ⟨x 1, x 2, funext fun a => by
    match a with
    | ⟨0, _⟩ => exact Subsingleton.elim (α := Fin 1) _ _
    | ⟨1, _⟩ => rfl
    | ⟨2, _⟩ => rfl⟩
  have e1 : (cols h).emb (ix3 (0 : Fin 1) r d) 1 = r := Fin.ext (by show 0 + 1 * r.val = r.val; omega)
  unfold storeB
  rw [ld_whole, ld_whole, ld_whole, ld_whole, ld_whole, ld_whole, e1]
  refine nearStore_apply _ _ _ _ _ _ _ _ _ _ _ _ _ _ _ _ _ _ _ z q k v rfl rfl rfl rfl rfl (start i) (start_le i hc1) h _ ?_ _ _ _ _ _ _ _ _ rfl rfl rfl r d _ ?_
  · refine View.ld_unit_apply_of z _ _ (inbZ h) _ _ fun a => ?_
    match a with
    | ⟨0, _⟩ => rfl
  · show h.val * 128 + 1 * d.val = h.val * 128 + d.val
    omega

/-- The block of a point with a window, read at an index. -/
theorem outB_apply (hc0 : ¬cond0_0 i) (hc1 : cond0_1 i) (y : S1x256x512.Idx) : out0_B_4 c i arg2 harg2 arg3 harg3 arg4 harg4 arg5 harg5 arg6 harg6 hc0 hc1 z q k v y
    = nearBlock (start i) (start_le i hc1) (mask i) z q k v (y 1) (y 2) := by
  have hcov := cover0_B_4 c i arg2 harg2 arg3 harg3 arg4 harg4 arg5 harg5 arg6 harg6 hc0 hc1 z q k v
  unfold out0_B_4
  rw [View.read_writes_eq_canon _ _ _ hcov]
  refine View.canon_apply_of_pieces (Val := Elt Ideal) (e := .bf16) (fun y : S1x256x512.Idx => nearBlock (start i) (start_le i hc1) (mask i) z q k v (y 1) (y 2)) _ ?_ y (hcov y)
  rw [piecesB]
  intro p hp
  rcases List.mem_cons.mp hp with rfl | hp
  · exact storeB_eq z q k v i arg2 harg2 arg3 harg3 arg4 harg4 arg5 harg5 hc1 3
  rcases List.mem_cons.mp hp with rfl | hp
  · exact storeB_eq z q k v i arg2 harg2 arg3 harg3 arg4 harg4 arg5 harg5 hc1 2
  rcases List.mem_cons.mp hp with rfl | hp
  · exact storeB_eq z q k v i arg2 harg2 arg3 harg3 arg4 harg4 arg5 harg5 hc1 1
  rcases List.mem_cons.mp hp with rfl | hp
  · exact storeB_eq z q k v i arg2 harg2 arg3 harg3 arg4 harg4 arg5 harg5 hc1 0
  · exact absurd hp List.not_mem_nil

end

end Cert.SwaFirstIdeal.Block

end
-- ==== Proof.SwaFirst.Array.lean ====
/-
  The windowed attention kernel's result array, as one function of the sinks, queries, keys and values: each grid point's
  block is the attention of its 256 rows, and the blocks cover the array.
-/
module

public import proofs.«01_k».proof.Proof.SwaFirst.Block
public import proofs.«01_k».proof.Proof.Near.Cell

@[expose] public section

noncomputable section

namespace Cert.SwaFirstIdeal.Array

open Cert.SwaFirstIdeal Cert.SwaFirstIdeal.Gen Cert.Row Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The blocks of a point, as the array indices they are read from. -/
theorem index0 : ∀ t : Fin cfg0.N, win0_0.index t 0 = 0 := (by decide +kernel : ∀ t : Fin grid0.N, win0_0.index t 0 = 0)

theorem index1 : ∀ t : Fin cfg0.N, win0_1.index t 0 = t.val / 9 ∧ win0_1.index t 1 = 0 ∧ win0_1.index t 2 = t.val % 9 ∧ win0_1.index t 3 = 0 :=
  (by decide +kernel : ∀ t : Fin grid0.N, win0_1.index t 0 = t.val / 9 ∧ win0_1.index t 1 = 0 ∧ win0_1.index t 2 = t.val % 9 ∧ win0_1.index t 3 = 0)

theorem index2 : ∀ t : Fin cfg0.N, win0_2.index t 0 = t.val / 9 ∧ win0_2.index t 1 = 0 ∧ win0_2.index t 2 = 0 ∧ win0_2.index t 3 = 0 :=
  (by decide +kernel : ∀ t : Fin grid0.N, win0_2.index t 0 = t.val / 9 ∧ win0_2.index t 1 = 0 ∧ win0_2.index t 2 = 0 ∧ win0_2.index t 3 = 0)

theorem index3 : ∀ t : Fin cfg0.N, win0_3.index t 0 = t.val / 9 ∧ win0_3.index t 1 = 0 ∧ win0_3.index t 2 = 0 ∧ win0_3.index t 3 = 0 :=
  (by decide +kernel : ∀ t : Fin grid0.N, win0_3.index t 0 = t.val / 9 ∧ win0_3.index t 1 = 0 ∧ win0_3.index t 2 = 0 ∧ win0_3.index t 3 = 0)

theorem index4 : ∀ t : Fin cfg0.N, win0_4.index t 0 = t.val / 9 ∧ win0_4.index t 1 = t.val % 9 ∧ win0_4.index t 2 = 0 :=
  (by decide +kernel : ∀ t : Fin grid0.N, win0_4.index t 0 = t.val / 9 ∧ win0_4.index t 1 = t.val % 9 ∧ win0_4.index t 2 = 0)

theorem coord : ∀ t : Fin cfg0.N, (grid0.coords t 1).val = t.val % 9 :=
  (by decide +kernel : ∀ t : Fin grid0.N, (grid0.coords t 1).val = t.val % 9)

/-- The batch a point works on. -/
def batch (t : Fin cfg0.N) : Fin 8 := ⟨t.val / 9, by have : t.val < 72 := t.isLt; omega⟩

/-- The query row of the array behind a row of a point's block. -/
def row (t : Fin cfg0.N) (r : Fin 256) : Fin 2304 := ⟨t.val % 9 * 256 + r.val, by omega⟩

/-- A point's window starts where its rows' does. -/
theorem start_eq (t : Fin cfg0.N) (r : Fin 256) : Block.start (grid0.coords t) = startOf (row t r) := by
  have h : ∀ t : Fin cfg0.N, Block.start (grid0.coords t) = min 1792 (t.val % 9 * 256 - 128) :=
    (by decide +kernel : ∀ t : Fin grid0.N, Block.start (grid0.coords t) = min 1792 (t.val % 9 * 256 - 128))
  rw [h]
  show _ = min 1792 ((t.val % 9 * 256 + r.val) / 256 * 256 - 128)
  omega

/-- A point's mask, read at a row and a window column. -/
theorem mask_eq (t : Fin cfg0.N) (hc : cond0_1 (grid0.coords t)) (r : Fin 256) (j : Fin 512) : Block.mask (grid0.coords t) (ix2 r j)
    = BitVec.ofBool (decide (Near (row t r).val (Block.start (grid0.coords t) + j.val) ∧ 256 ≤ Block.start (grid0.coords t) + j.val)) := by
  have h := Block.start_le (grid0.coords t) hc
  have e0 : iota .tc S256x512 32 [0] iota_S256x512_d0_w32 (ix2 r j) = BitVec.ofNat 32 r.val := iota_single_apply .tc S256x512 32 0 _ _
  have e1 : iota .tc S256x512 32 [1] iota_S256x512_d1_w32 (ix2 r j) = BitVec.ofNat 32 j.val := iota_single_apply .tc S256x512 32 1 _ _
  have e := mask_word (Scalar.muli (Scalar.addi (BitVec.ofNat 32 (grid0.coords t 1).val) 0#32) 256#32) (Block.startWord (grid0.coords t))
    (a := t.val % 9 * 256) (b := Block.start (grid0.coords t)) (r := r.val) (j := j.val) ?_ rfl ?_ ?_
  · rw [← e0, ← e1] at e
    exact e
  · rw [coord t]
    have h : ∀ n < 9, (Scalar.muli (Scalar.addi (BitVec.ofNat 32 n) 0#32) 256#32).toNat = n * 256 := by decide
    exact h _ (by omega)
  · omega
  · omega

theorem sinks (t : Fin cfg0.N) : (iblk m c 0 t : Vec Ideal S4 .f32) = m ((c : Thread nD τ).loc main_arg0) := by
  funext i
  unfold iblk
  rw [View.read_apply]
  show V m c main_arg0 _ = m (c.tc.loc main_arg0) _
  unfold V
  congr 1
  funext a
  apply Fin.ext
  match a with
  | ⟨0, _⟩ => show win0_0.index t 0 * 4 + 1 * (i 0).val = (i 0).val; rw [index0 t]; omega

/-- A point's block of queries, read at an index. -/
theorem queries (t : Fin cfg0.N) (h : Fin 4) (r : Fin 256) (x : Fin 128) :
    (iblk m c 1 t : Vec Ideal S1x4x256x128 .bf16) (ix4 (0 : Fin 1) h r x) = m ((c : Thread nD τ).loc main_arg1) (ix4 (batch t) h (row t r) x) := by
  obtain ⟨e0, e1, e2, e3⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 9; rw [e0]; omega
  | ⟨1, _⟩ => show win0_1.index t 1 * 4 + 1 * h.val = h.val; rw [e1]; omega
  | ⟨2, _⟩ => show win0_1.index t 2 * 256 + 1 * r.val = t.val % 9 * 256 + r.val; rw [e2]; omega
  | ⟨3, _⟩ => show win0_1.index t 3 * 128 + 1 * x.val = x.val; rw [e3]; omega

/-- A point's block of keys, read at an index. -/
theorem keys (t : Fin cfg0.N) (g : Fin 2) (k : Fin 2304) (x : Fin 128) :
    (iblk m c 2 t : Vec Ideal S1x2x2304x128 .bf16) (ix4 (0 : Fin 1) g k x) = m ((c : Thread nD τ).loc main_arg2) (ix4 (batch t) g k x) := by
  obtain ⟨e0, e1, e2, e3⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 9; rw [e0]; omega
  | ⟨1, _⟩ => show win0_2.index t 1 * 2 + 1 * g.val = g.val; rw [e1]; omega
  | ⟨2, _⟩ => show win0_2.index t 2 * 2304 + 1 * k.val = k.val; rw [e2]; omega
  | ⟨3, _⟩ => show win0_2.index t 3 * 128 + 1 * x.val = x.val; rw [e3]; omega

/-- A point's block of values, read at an index. -/
theorem values (t : Fin cfg0.N) (g : Fin 2) (k : Fin 2304) (x : Fin 128) :
    (iblk m c 3 t : Vec Ideal S1x2x2304x128 .bf16) (ix4 (0 : Fin 1) g k x) = m ((c : Thread nD τ).loc main_arg3) (ix4 (batch t) g k x) := by
  obtain ⟨e0, e1, e2, e3⟩ := index3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 9; rw [e0]; omega
  | ⟨1, _⟩ => show win0_3.index t 1 * 2 + 1 * g.val = g.val; rw [e1]; omega
  | ⟨2, _⟩ => show win0_3.index t 2 * 2304 + 1 * k.val = k.val; rw [e2]; omega
  | ⟨3, _⟩ => show win0_3.index t 3 * 128 + 1 * x.val = x.val; rw [e3]; omega

/-- The value at a batch, query row and output column, from the launched memory. -/
def cell (b : Fin 8) (t : Fin 2304) (col : Fin 512) : EReal :=
  nearCell (m ((c : Thread nD τ).loc main_arg0)) (m ((c : Thread nD τ).loc main_arg1)) (m ((c : Thread nD τ).loc main_arg2)) (m ((c : Thread nD τ).loc main_arg3)) b t col

/-- The result array's function of the launched memory. -/
def result : S8x2304x512.Idx → EReal := fun i => cell m c (i 0) (i 1) (i 2)

/-- Where a point's block lies in the result. -/
theorem result_emb (t : Fin cfg0.N) (j : S1x256x512.Idx) : result m c (((cfg0.win 4).blk t).view.emb j) = cell m c (batch t) (row t (j 1)) (j 2) := by
  obtain ⟨e0, e1, e2⟩ := index4 t
  have h0 : (j 0).val < 1 := (j 0).isLt
  refine congr (congr (congrArg (cell m c) (Fin.ext ?_)) (Fin.ext ?_)) (Fin.ext ?_)
  · show win0_4.index t 0 * 1 + 1 * (j 0).val = t.val / 9
    rw [e0]; omega
  · show win0_4.index t 1 * 256 + 1 * (j 1).val = t.val % 9 * 256 + (j 1).val
    rw [e1]; omega
  · show win0_4.index t 2 * 512 + 1 * (j 2).val = (j 2).val
    rw [e2]; omega

/-- What a point writes back is its block of the result. -/
theorem flushed_eq (t : Fin cfg0.N) : (dats m 0 c).flushed 4 t = ((cfg0.win 4).blk t).view.read (Elt Ideal) (result m c) := by
  by_cases h0 : t.val % 9 = 0
  · rw [Value.flushed4_A m c t h0 (by omega)]
    funext j
    rw [View.read_apply]
    refine (Block.outA_apply _ _ _ _ _ _ _ _ _ _ _ _ _ _ _ _ _ _ j).trans (Eq.trans ?_ (result_emb m c t j).symm)
    refine sunkBlock_eq _ _ _ _ (batch t) (row t (j 1)) (j 2) _ _ _ _ (j 1) (sinks m c t) (fun h x => queries m c t h _ x) (keys m c t) (values m c t) ?_
    have : (j 1).val < 256 := (j 1).isLt
    show t.val % 9 * 256 + (j 1).val < 256
    omega
  · rw [Value.flushed4_B m c t h0 (by omega)]
    funext j
    rw [View.read_apply]
    refine (Block.outB_apply _ _ _ _ _ _ _ _ _ _ _ _ _ _ _ _ _ _ j).trans (Eq.trans ?_ (result_emb m c t j).symm)
    refine nearBlock_eq _ _ _ _ (batch t) (row t (j 1)) (j 2) _ _ _ _ (j 1) (sinks m c t) (fun h x => queries m c t h _ x) (keys m c t) (values m c t) ?_ _ _ _
      (start_eq t _) (mask_eq t ((hcond0_1 t).mpr (by omega)) _)
    show ¬t.val % 9 * 256 + (j 1).val < 256
    omega

/-- Every index of the result lies in the block of a point. -/
theorem cover (i : S8x2304x512.Idx) : ∃ t : Fin cfg0.N, (cfg0.win 4).flush t = true ∧ i ∈ ((cfg0.win 4).blk t).view.set := by
  have h0 : (i 0 : Nat) < 8 := (i 0).isLt
  have h1 : (i 1 : Nat) < 2304 := (i 1).isLt
  have h2 : (i 2 : Nat) < 512 := (i 2).isLt
  have hlt : (i 0 : Nat) * 9 + (i 1 : Nat) / 256 < 72 := by omega
  obtain ⟨t, ht⟩ : ∃ t : Fin cfg0.N, t.val = (i 0 : Nat) * 9 + (i 1 : Nat) / 256 := ⟨⟨_, hlt⟩, rfl⟩
  obtain ⟨e0, e1, e2⟩ := index4 t
  refine ⟨t, flush0_4 _, ?_⟩
  show i ∈ ((View.whole main_v0).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [e0]; omega
  | ⟨1, _⟩ =>
    show win0_4.index t 1 * 256 ≤ (i 1 : Nat) ∧ (i 1 : Nat) < win0_4.index t 1 * 256 + 256
    rw [e1]; omega
  | ⟨2, _⟩ =>
    show win0_4.index t 2 * 512 ≤ (i 2 : Nat) ∧ (i 2 : Nat) < win0_4.index t 2 * 512 + 512
    rw [e2]; omega

/-- The array the run leaves. -/
theorem final : (dats m 0 c).arrAt 4 cfg0.N = result m c :=
  (dats m 0 c).arrAt_eq_of_cover 4 (result m c) (fun t _ => flushed_eq m c t) cover

end Cert.SwaFirstIdeal.Array

end
-- ==== Proof.SwaFirst.Ref.lean ====
/-
  The reference windowed attention read at an index: every key scored, the keys outside the window and the context masked,
  the sink's score appended as one more column, and the values summed under the divided weights.
-/
module

public import proofs.«01_k».proof.Proof.SwaFirst.Array
public import proofs.«01_k».proof.Proof.Gen.SwaFirstRefIdeal.Run
public import proofs.«01_k».proof.Proof.Gen.SwaFirstRefIdeal.Read

@[expose] public section

set_option maxRecDepth 16384

noncomputable section

namespace Cert.SwaFirstRefIdeal.Array

open Cert.SwaFirstRefIdeal Cert.SwaFirstRefIdeal.Gen Cert.SwaFirstRefIdeal.Read Cert.Row Idealize.ShloMosaic Idealize.ShloMosaic.TcCoe
open Idealize.ShloMosaic.ValueIdx Idealize.ShloMosaic.WordCmp

variable (z : (⟨S4, .f32⟩ : BufTy).Contents (Elt Ideal)) (q : (⟨S8x4x2304x128, .bf16⟩ : BufTy).Contents (Elt Ideal))
  (k v : (⟨S8x2x2304x128, .bf16⟩ : BufTy).Contents (Elt Ideal)) (b : Fin 8) (t : Fin 2304) (c : Fin 512)

theorem v3_eq (x : Fin 2304) : val_main_v3 (F := Ideal) q k (ix5 b (groupOf c) (halfOf c) t x) = keyScore q k b t c x := by
  rw [val_main_v3_apply]
  unfold keyScore dot
  refine Finset.sum_congr rfl fun d _ => ?_
  rw [val_main_v1_apply, val_main_v0_apply, val_main_v2_apply]
  congr 1
  · refine congrArg q (funext fun a => Fin.ext ?_)
    match a with
    | ⟨0, _⟩ => show ((((b.val * 2 + c.val / 256) * 2 + c.val / 128 % 2) * 2304 + t.val) * 128 + d.val) / 1179648 = b.val; omega
    | ⟨1, _⟩ => show ((((b.val * 2 + c.val / 256) * 2 + c.val / 128 % 2) * 2304 + t.val) * 128 + d.val) / 294912 % 4 = c.val / 128; omega
    | ⟨2, _⟩ => show ((((b.val * 2 + c.val / 256) * 2 + c.val / 128 % 2) * 2304 + t.val) * 128 + d.val) / 128 % 2304 = t.val; omega
    | ⟨3, _⟩ => show ((((b.val * 2 + c.val / 256) * 2 + c.val / 128 % 2) * 2304 + t.val) * 128 + d.val) % 128 = d.val; omega
  · exact congrArg k (funext fun a => by match a with | ⟨0, _⟩ => rfl | ⟨1, _⟩ => rfl | ⟨2, _⟩ => rfl | ⟨3, _⟩ => rfl)

/-- The mask: the context and, from the 256th query on, the keys near the query's position. -/
theorem v21_eq (x : Fin 2304) : val_main_v21 (F := Ideal) (ix2 t x)
    = BitVec.ofBool (decide (x.val < 256 ∨ (256 ≤ t.val ∧ Near t.val x.val))) := by
  rw [val_main_v21_apply, val_main_v20_apply, val_main_v9_apply, val_main_v7_apply, val_main_v8_apply, val_main_v19_apply,
    val_main_v18_apply, val_main_v11_apply, val_main_v10_apply, val_main_v17_apply, val_main_v16_apply, val_main_v15_apply,
    val_main_v14_apply, val_main_v12_apply, val_main_v13_apply, val_main_v5_apply, val_main_v7_apply, val_main_v6_apply, val_main_v4_apply]
  exact reference_word_all x.isLt t.isLt

/-- The masked scores of a row. -/
def masked (x : Fin 2304) : EReal :=
  if x.val < 256 ∨ (256 ≤ t.val ∧ Near t.val x.val) then keyScore q k b t c x else ⊥

theorem v23_eq (x : Fin 2304) : val_main_v23 (F := Ideal) q k (ix5 b (groupOf c) (halfOf c) t x) = masked q k b t c x := by
  have e : idx_main_v22 (idx_main_call0_v1 (ix5 b (groupOf c) (halfOf c) t x)) = ix2 t x := funext fun a => by match a with | ⟨0, _⟩ => rfl | ⟨1, _⟩ => rfl
  rw [val_main_v23_apply, val_main_call0_v1_apply, val_main_v22_apply, e, v21_eq, v3_eq, Row.select_ofBool, val_main_call0_v2_apply,
    val_main_call0_v0_apply, val_main_cst_apply]
  unfold masked
  rw [← ofBits_bot]

/-- A row's scores with the sink's appended. -/
def scores : Fin 2305 → EReal := fun y => val_main_v27 (F := Ideal) z q k (ix5 b (groupOf c) (halfOf c) t y)

theorem scores_key (x : Fin 2304) : scores z q k b t c x.castSucc = masked q k b t c x := by
  refine Eq.trans ?_ (v23_eq q k b t c x)
  exact concatenate_pair_apply_left 4 _ _ concatenates_S8x2x2x2304x2304_S8x2x2x2304x1_S8x2x2x2304x2305_d4 _ rfl (ix5 b (groupOf c) (halfOf c) t x)
    fun a => by match a with | ⟨0, _⟩ => rfl | ⟨1, _⟩ => rfl | ⟨2, _⟩ => rfl | ⟨3, _⟩ => rfl | ⟨4, _⟩ => rfl

theorem scores_sink : scores z q k b t c (Fin.last 2304) = z (ix1 (headOf c)) := by
  refine Eq.trans (concatenate_pair_apply_right 4 _ _ concatenates_S8x2x2x2304x2304_S8x2x2x2304x1_S8x2x2x2304x2305_d4 _ rfl rfl
    (ix5 b (groupOf c) (halfOf c) t (0 : Fin 1)) (fun a h => ?_) rfl) ?_
  · match a with
    | ⟨0, _⟩ => rfl
    | ⟨1, _⟩ => rfl
    | ⟨2, _⟩ => rfl
    | ⟨3, _⟩ => rfl
    | ⟨4, _⟩ => exact absurd rfl h
  · rw [val_main_v26_apply, val_main_v25_apply, val_main_v24_apply]
    refine congrArg z (funext fun a => Fin.ext ?_)
    match a with
    | ⟨0, _⟩ => show c.val / 256 * 2 + c.val / 128 % 2 = c.val / 128; omega

theorem v30_eq : val_main_v30 (F := Ideal) z q k (ix4 b (groupOf c) (halfOf c) t) = top (scores z q k b t c) := by
  have hr : S8x2x2x2304x2305.Reduces [4] S8x2x2x2304 := by decide
  have e : val_main_v28 (F := Ideal) z q k (ix4 b (groupOf c) (halfOf c) t) = top (scores z q k b t c) := by
    unfold val_main_v28
    refine (Host.reduce_eq_fold_single (α := EReal) max _ _ reducesTo_S8x2x2x2304x2305_S8x2x2x2304_d4 hr h_S_ _).trans ?_
    have e0 : (val_main_cst_2 (F := Ideal)) (Shape.Idx.first h_S_) = (⊥ : EReal) := (val_main_cst_2_apply _).trans ofBits_bot
    have e1 : (val_main_v27 (F := Ideal) z q k ∘ hr.lift (ix4 b (groupOf c) (halfOf c) t)) = scores z q k b t c := funext fun y =>
      congrArg (val_main_v27 (F := Ideal) z q k) (funext fun a => Fin.ext (by
        match a with | ⟨0, _⟩ => rfl | ⟨1, _⟩ => rfl | ⟨2, _⟩ => rfl | ⟨3, _⟩ => rfl | ⟨4, _⟩ => rfl))
    rw [e0, e1]
    rfl
  rw [val_main_v30_apply, e, val_main_v29_apply, val_main_cst_3_apply]
  refine (congrArg (max · _) ofBits_bot).trans (max_eq_right bot_le)

theorem v34_eq (y : Fin 2305) : val_main_v34 (F := Ideal) z q k (ix5 b (groupOf c) (halfOf c) t y)
    = Ideal.exp (scores z q k b t c y - top (scores z q k b t c)) := by
  have e : idx_main_v31 (idx_main_v32 (ix5 b (groupOf c) (halfOf c) t y)) = ix4 b (groupOf c) (halfOf c) t := funext fun a => by
    match a with | ⟨0, _⟩ => rfl | ⟨1, _⟩ => rfl | ⟨2, _⟩ => rfl | ⟨3, _⟩ => rfl
  rw [val_main_v34_apply, val_main_v33_apply, val_main_v32_apply, val_main_v31_apply, e, v30_eq]
  rfl

theorem v39_eq (x : Fin 2304) : val_main_v39 (F := Ideal) z q k (ix5 b (groupOf c) (halfOf c) t x)
    = Ideal.div (Ideal.exp (scores z q k b t c x.castSucc - top (scores z q k b t c))) (∑ y, Ideal.exp (scores z q k b t c y - top (scores z q k b t c))) := by
  have e : idx_main_v39 (ix5 b (groupOf c) (halfOf c) t x) = ix5 b (groupOf c) (halfOf c) t x.castSucc := funext fun a => by
    match a with | ⟨0, _⟩ => rfl | ⟨1, _⟩ => rfl | ⟨2, _⟩ => rfl | ⟨3, _⟩ => rfl | ⟨4, _⟩ => rfl
  have e' : idx_main_v36 (idx_main_v37 (ix5 b (groupOf c) (halfOf c) t x.castSucc)) = ix4 b (groupOf c) (halfOf c) t := funext fun a => by
    match a with | ⟨0, _⟩ => rfl | ⟨1, _⟩ => rfl | ⟨2, _⟩ => rfl | ⟨3, _⟩ => rfl
  have e0 : (FloatOps.ofBits (F := Ideal) .f32 0x00000000#32 : EReal) = 0 := Idealize.ShloMosaic.Ideal.ofBits_zero_f32
  rw [val_main_v39_apply, e, val_main_v38_apply, v34_eq, val_main_v37_apply, val_main_v36_apply, e', val_main_v35_apply, val_main_cst_4_apply]
  refine congrArg (Ideal.div _) ((congrArg (· + _) e0).trans ((zero_add _).trans (Finset.sum_congr rfl fun y _ => ?_)))
  refine Eq.trans (congrArg (val_main_v34 (F := Ideal) z q k) (funext fun a => ?_)) (v34_eq z q k b t c y)
  match a with | ⟨0, _⟩ => rfl | ⟨1, _⟩ => rfl | ⟨2, _⟩ => rfl | ⟨3, _⟩ => rfl | ⟨4, _⟩ => rfl

/-- The reference's result at an index. -/
theorem v44_eq : val_main_v44 (F := Ideal) z q k v (ix3 b t c) = denseCell z q k v b t c := by
  have e : idx_main_v42 (idx_main_v43 (ix3 b t c)) = ix5 b (groupOf c) (colOf c) (halfOf c) t := funext fun a => Fin.ext (by
    match a with
    | ⟨0, _⟩ => show ((b.val * 2304 + t.val) * 512 + c.val) / 1179648 = b.val; omega
    | ⟨1, _⟩ => show ((b.val * 2304 + t.val) * 512 + c.val) / 256 % 2 = c.val / 256; omega
    | ⟨2, _⟩ => show ((b.val * 2304 + t.val) * 512 + c.val) % 128 = c.val % 128; omega
    | ⟨3, _⟩ => show ((b.val * 2304 + t.val) * 512 + c.val) / 128 % 2 = c.val / 128 % 2; omega
    | ⟨4, _⟩ => show ((b.val * 2304 + t.val) * 512 + c.val) / 512 % 2304 = t.val; omega)
  rw [val_main_v44_apply]
  show val_main_v43 (F := Ideal) z q k v (ix3 b t c) = _
  rw [val_main_v43_apply, val_main_v42_apply, e, val_main_v41_apply]
  refine Eq.trans (Finset.sum_congr rfl fun x _ => ?_) (row_eq_dense (scores z q k b t c) (masked q k b t c) (z (ix1 (headOf c))) (keyValue v b c) (scores_key z q k b t c) (scores_sink z q k b t c))
  refine congrArg₂ (· * ·) ?_ ?_
  · rw [val_main_v40_apply]
    exact congrArg v (funext fun a => by match a with | ⟨0, _⟩ => rfl | ⟨1, _⟩ => rfl | ⟨2, _⟩ => rfl | ⟨3, _⟩ => rfl)
  · refine Eq.trans (congrArg (val_main_v39 (F := Ideal) z q k) (funext fun a => ?_)) (v39_eq z q k b t c x)
    match a with | ⟨0, _⟩ => rfl | ⟨1, _⟩ => rfl | ⟨2, _⟩ => rfl | ⟨3, _⟩ => rfl | ⟨4, _⟩ => rfl

/-- On real sinks, queries and keys the reference's result is the kernel's. -/
theorem eq_near (hz : ∀ i, z i ≠ ⊤) (hq : ∀ i, Finite (q i)) (hk : ∀ i, Finite (k i)) :
    val_main_v44 (F := Ideal) z q k v = fun i => nearCell z q k v (i 0) (i 1) (i 2) := by
  funext i
  obtain ⟨b, t, c, rfl⟩ : ∃ (b : Fin 8) (t : Fin 2304) (c : Fin 512), i = ix3 b t c := ⟨i 0, i 1, i 2, funext fun a => by
    match a with | ⟨0, _⟩ => rfl | ⟨1, _⟩ => rfl | ⟨2, _⟩ => rfl⟩
  exact (v44_eq z q k v b t c).trans (nearCell_eq z q k v b t c hz hq hk).symm

end Cert.SwaFirstRefIdeal.Array

end
-- ==== Proof.SwaFirst.Claims.lean ====
/-
  The claims about the windowed attention of every row: both programs run, leave their arguments alone
  and end with every counter at zero; on real queries and keys and sinks below +∞ they leave the same result.
-/
module

public import proofs.«01_k».proof.Defs
public import proofs.«01_k».proof.Proof.SwaFirst.Ref
public import proofs.«01_k».proof.Proof.Near.Pre
public import proofs.«01_k».proof.Proof.Gen.Pre_finite_near_first
public import proofs.«01_k».proof.Proof.Gen.SwaFirst.Frame
public import Idealize.ShloMosaic.Lib.Quiescent

@[expose] public section

noncomputable section

namespace Cert.Proof.SwaFirst

open Idealize.ShloMosaic Idealize.SL.Sem

attribute [local instance] Cert.SwaFirst.Gen.facts Cert.SwaFirstIdeal.Gen.facts Cert.SwaFirstRefIdeal.Gen.facts Cert.Pre_finite_near_first.Gen.facts

theorem quiescent_kernel : Cert.quiescent_SwaFirst := fun m g _ => Cert.SwaFirst.Gen.frame m g

theorem quiescent_ideal : Cert.quiescent_SwaFirstIdeal := fun m g _ => Cert.SwaFirstIdeal.Gen.frame m g

theorem quiescent_ideal_finite : Cert.quiescent_SwaFirstIdeal_pre_finite_near_first := fun m g _ => Cert.SwaFirstIdeal.Gen.frame m g

/-- The reference runs, keeps its arguments and ends with every counter at zero. -/
theorem quiescent_reference : Cert.quiescent_SwaFirstRefIdeal := fun m g _ =>
  (θ_run _ _ _).mono (fun r h => ⟨fun c => (h c).2, sem_eq_zero_of_no_sems (by decide) r.2⟩) (Cert.SwaFirstRefIdeal.Value.run m g)

theorem quiescent_reference_finite : Cert.quiescent_SwaFirstRefIdeal_pre_finite_near_first := fun m g _ => quiescent_reference m g trivial

theorem preserves : Cert.preserves_SwaFirst_SwaFirstIdeal :=
  IdealRules.named_const.statement Cert.SwaFirstIdeal.κ "neg_inf" .f32 0xF149F2CA#32 ⊥ rfl

theorem algebraic : Cert.algebraic_SwaFirstIdeal_SwaFirstRefIdeal_pre_finite_near_first := by
  intro m g m' g' hpre hargs
  refine ⟨fun c => Cert.SwaFirstIdeal.Array.result m c, ?_, ?_⟩
  · exact (θ_run _ _ _).mono (fun r h c => ⟨(h c).1.trans (Cert.SwaFirstIdeal.Array.final m c), (h c).2⟩) (Cert.SwaFirstIdeal.Value.run_blocks m g)
  · refine (θ_run _ _ _).mono (fun r h c => ⟨(h c).1.trans ?_, (h c).2⟩) (Cert.SwaFirstRefIdeal.Value.run m' g')
    obtain ⟨a0, a1, a2, a3⟩ := hargs c
    refine (Cert.SwaFirstRefIdeal.Read.val_main_v44_eq _ _).trans ?_
    rw [a0, a1, a2, a3]
    exact Cert.SwaFirstRefIdeal.Array.eq_near _ _ _ _ (Cert.Row.ne_top_of_below _ _ (hpre c).1) (Cert.Row.finite_of_between _ _ (hpre c).2.1)
      (Cert.Row.finite_of_between _ _ (hpre c).2.2)

end Cert.Proof.SwaFirst

end
-- ==== Proof.Ada.Block.lean ====
/-
  The modulation kernel's output block read at an index: three products of the rounded factors and their remainders, the
  remainders zero at the extended reals wherever the factors are real, and the bias.
-/
module

public import proofs.«01_k».proof.Proof.Head
public import proofs.«01_k».proof.Proof.Gen.AdaIdeal.Value
public import Idealize.ShloMosaic.Lib.ValueLayout
public import Idealize.ShloMosaic.Lib.Pipeline.ValueKit.Basic

@[expose] public section

set_option maxRecDepth 16384

noncomputable section

namespace Cert.Row

open Idealize.ShloMosaic

/-- A number times its logistic. -/
def silu (x : EReal) : EReal := x * Ideal.logistic x

/-- Below +∞ it is real: at −∞ it is zero. -/
theorem silu_finite {x : EReal} (h : x ≠ ⊤) : Finite (silu x) := by
  unfold silu Ideal.logistic
  induction x with
  | top => exact absurd rfl h
  | bot =>
    have e : Ideal.div 1 (1 + Ideal.exp (-(⊥ : EReal))) = 0 := by
      rw [EReal.neg_bot]
      show Ideal.div 1 (1 + ⊤) = 0
      rw [EReal.add_top_of_ne_bot (by decide)]
      simp [Ideal.div]
    rw [e, mul_zero]
    exact finite_coe 0
  | coe r =>
    have hp : (0 : ℝ) < 1 + Real.exp (-r) := by positivity
    have e : Ideal.div 1 (1 + Ideal.exp (-(r : EReal))) = ((1 / (1 + Real.exp (-r)) : ℝ) : EReal) := by
      rw [← EReal.coe_neg]
      show Ideal.div ((1 : ℝ) : EReal) (((1 : ℝ) : EReal) + ((Real.exp (-r) : ℝ) : EReal)) = _
      rw [← EReal.coe_add]
      exact (Ideal.div_coe hp.ne' _).trans (one_mul _)
    rw [e]
    exact (finite_coe _).mul (finite_coe _)

theorem Finite.sub_self {x : EReal} (h : Finite x) : x - x = 0 := EReal.sub_self h.1 h.2

/-- The three products are one: a real number's remainder is zero. -/
theorem split_sum {n : ℕ} (a w : Fin n → EReal) (ha : ∀ k, Finite (a k)) (hw : ∀ k, Finite (w k)) :
    ∑ k, a k * w k + ∑ k, a k * (w k - w k) + ∑ k, (a k - a k) * w k = ∑ k, w k * a k := by
  have e1 : ∀ k, a k * (w k - w k) = 0 := fun k => by rw [(hw k).sub_self, mul_zero]
  have e2 : ∀ k, (a k - a k) * w k = 0 := fun k => by rw [(ha k).sub_self, zero_mul]
  simp only [e1, e2, Finset.sum_const_zero, add_zero]
  exact Finset.sum_congr rfl fun k _ => mul_comm _ _

end Cert.Row

namespace Cert.AdaIdeal.Block

open Cert.AdaIdeal Cert.AdaIdeal.Gen Cert.Row Idealize.ShloMosaic Idealize.ShloMosaic.ValueIdx

variable (s : Vec Ideal S16x1024 .f32) (w : Vec Ideal S1x1024x1536 .f32) (b : Vec Ideal S1x1x1536 .f32)

/-- The block's value at a row and column. -/
def cell (i : Fin 16) (n : Fin 1536) : EReal := ∑ k : Fin 1024, w (ix3 (0 : Fin 1) k n) * silu (s (ix2 i k)) + b (ix3 (0 : Fin 1) (0 : Fin 1) n)

theorem pay_apply (hs : ∀ j, s j ≠ ⊤) (hw : ∀ j, Finite (w j)) (i : Fin 16) (n : Fin 1536) :
    k0_pay1 s w b (ix3 (0 : Fin 1) i n) = cell s w b i n := by
  have e : ∀ k : Fin 1024, shapeCast S1024x1536 w shapeCasts_S1x1024x1536_S1024x1536 (ix2 k n) = w (ix3 (0 : Fin 1) k n) := fun k =>
    shapeCast_1ab_ab_apply w _ k n
  unfold k0_pay1 cell
  refine (shapeCast_ab_1ab_apply _ _ (0 : Fin 1) i n).trans ?_
  refine congrArg₂ (fun x y : EReal => x + y) ?_ ((broadcastTo_1b_ab_apply _ _ i n).trans (shapeCast_1ab_ab_apply b _ (0 : Fin 1) n))
  refine Eq.trans ?_ (split_sum (fun k : Fin 1024 => silu (s (ix2 i k))) (fun k => w (ix3 (0 : Fin 1) k n)) (fun k => silu_finite (hs _)) fun k => hw _)
  refine congrArg₂ (fun x y : EReal => x + y) (congrArg₂ (fun x y : EReal => x + y) ?_ ?_) ?_
  · refine (mixed_apply _ rfl _ _ i n).trans (Finset.sum_congr rfl fun k _ => ?_)
    rw [← e k]; rfl
  · refine (mixed_apply _ rfl _ _ i n).trans (Finset.sum_congr rfl fun k _ => ?_)
    rw [← e k]; rfl
  · refine (mixed_apply _ rfl _ _ i n).trans (Finset.sum_congr rfl fun k _ => ?_)
    rw [← e k]; rfl

theorem out_eq : out0_3 s w b = k0_pay1 s w b := by
  unfold out0_3
  rw [View.ld_unit_lit (S := S16x1024) _ s (by decide), View.ld_unit_lit (S := S1x1024x1536) _ w (by decide),
    View.ld_unit_lit (S := S1x1x1536) _ b (by decide)]
  exact View.canon_cons_unit_lit (S := S1x16x1536) _ _ _ (by decide)

end Cert.AdaIdeal.Block

end
-- ==== Proof.Ada.Array.lean ====
/-
  The modulation kernel's result array as one function of its arguments, where the rows are below +∞ and the weights real:
  each point's block holds a quarter of a layer's columns, and the blocks cover the array.
-/
module

public import proofs.«01_k».proof.Proof.Ada.Block

@[expose] public section

noncomputable section

namespace Cert.AdaIdeal.Array

open Cert.AdaIdeal Cert.AdaIdeal.Gen Cert.Row Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The blocks of a point, as the array indices they are read from. -/
theorem index0 : ∀ t : Fin cfg0.N, win0_0.index t 0 = 0 ∧ win0_0.index t 1 = 0 :=
  (by decide +kernel : ∀ t : Fin grid0.N, win0_0.index t 0 = 0 ∧ win0_0.index t 1 = 0)

theorem index1 : ∀ t : Fin cfg0.N, win0_1.index t 0 = t.val / 4 ∧ win0_1.index t 1 = 0 ∧ win0_1.index t 2 = t.val % 4 :=
  (by decide +kernel : ∀ t : Fin grid0.N, win0_1.index t 0 = t.val / 4 ∧ win0_1.index t 1 = 0 ∧ win0_1.index t 2 = t.val % 4)

theorem index2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)

theorem index3 : ∀ t : Fin cfg0.N, win0_3.index t 0 = t.val / 4 ∧ win0_3.index t 1 = 0 ∧ win0_3.index t 2 = t.val % 4 :=
  (by decide +kernel : ∀ t : Fin grid0.N, win0_3.index t 0 = t.val / 4 ∧ win0_3.index t 1 = 0 ∧ win0_3.index t 2 = t.val % 4)

/-- The layer a point works on. -/
def layer (t : Fin cfg0.N) : Fin 2 := ⟨t.val / 4, by have : t.val < 8 := t.isLt; omega⟩

/-- The array's column behind a column of a point's block. -/
def col (t : Fin cfg0.N) (n : Fin 1536) : Fin 6144 := ⟨t.val % 4 * 1536 + n.val, by omega⟩

theorem rows (t : Fin cfg0.N) (i : Fin 16) (k : Fin 1024) :
    (iblk m c 0 t : Vec Ideal S16x1024 .f32) (ix2 i k) = m ((c : Thread nD τ).loc main_arg0) (ix2 i k) := by
  obtain ⟨e0, e1⟩ := index0 t
  unfold iblk
  rw [View.read_apply]
  show V m c main_arg0 _ = m (c.tc.loc main_arg0) _
  rw [V_main_arg0]
  congr 1
  funext a
  apply Fin.ext
  match a with
  | ⟨0, _⟩ => show win0_0.index t 0 * 16 + 1 * i.val = i.val; rw [e0]; omega
  | ⟨1, _⟩ => show win0_0.index t 1 * 1024 + 1 * k.val = k.val; rw [e1]; omega

theorem weights (t : Fin cfg0.N) (k : Fin 1024) (n : Fin 1536) :
    (iblk m c 1 t : Vec Ideal S1x1024x1536 .f32) (ix3 (0 : Fin 1) k n) = m ((c : Thread nD τ).loc main_arg1) (ix3 (layer t) k (col t n)) := by
  obtain ⟨e0, e1, e2⟩ := index1 t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = t.val / 4; rw [e0]; omega
  | ⟨1, _⟩ => show win0_1.index t 1 * 1024 + 1 * k.val = k.val; rw [e1]; omega
  | ⟨2, _⟩ => show win0_1.index t 2 * 1536 + 1 * n.val = t.val % 4 * 1536 + n.val; rw [e2]; omega

/-- The bias the region finds is the argument's, with an axis of one added. -/
theorem bias_apply (l : Fin 2) (n : Fin 6144) : V m c main_v0 (ix3 l (0 : Fin 1) n) = m ((c : Thread nD τ).loc main_arg2) (ix2 l n) := by
  have e : V m c main_v0 = shapeCast S2x1x6144 (m ((c : Thread nD τ).loc main_arg2)) shapeCasts_S2x6144_S2x1x6144 := by
    dsimp only [V, hostOps0]
    simp only [StableHlo.after_cons, StableHlo.after_nil]
    rw [StableHlo.reshape_result]
    rfl
  rw [e]
  refine shapeCast_apply _ shapeCasts_S2x6144_S2x1x6144 _ (ix2 l n) ?_
  rw [Shape.rowMajor_val_three, Shape.rowMajor_val_two]
  show l.val * 6144 + n.val = (l.val * 1 + 0) * 6144 + n.val
  omega

theorem biases (t : Fin cfg0.N) (n : Fin 1536) :
    (iblk m c 2 t : Vec Ideal S1x1x1536 .f32) (ix3 (0 : Fin 1) (0 : Fin 1) n) = m ((c : Thread nD τ).loc main_arg2) (ix2 (layer t) (col t n)) := by
  obtain ⟨e0, e1, e2⟩ := index2 t
  refine Eq.trans ?_ (bias_apply m c (layer t) (col t n))
  unfold iblk
  rw [View.read_apply]
  show V m c main_v0 _ = V m c main_v0 _
  congr 1
  funext a
  apply Fin.ext
  match a with
  | ⟨0, _⟩ => show win0_2.index t 0 * 1 + 1 * 0 = t.val / 4; rw [e0]; omega
  | ⟨1, _⟩ => show win0_2.index t 1 * 1 + 1 * 0 = 0; rw [e1]
  | ⟨2, _⟩ => show win0_2.index t 2 * 1536 + 1 * n.val = t.val % 4 * 1536 + n.val; rw [e2]; omega

/-- The modulation of a layer, row and column. -/
def modulation (s : S16x1024.Idx → EReal) (w : S2x1024x6144.Idx → EReal) (b : S2x6144.Idx → EReal) : S2x16x6144.Idx → EReal := fun i =>
  ∑ k : Fin 1024, w (ix3 (i 0) k (i 2)) * silu (s (ix2 (i 1) k)) + b (ix2 (i 0) (i 2))

/-- The result array's function of the launched memory. -/
def result : S2x16x6144.Idx → EReal :=
  modulation (m ((c : Thread nD τ).loc main_arg0)) (m ((c : Thread nD τ).loc main_arg1)) (m ((c : Thread nD τ).loc main_arg2))

variable (hs : ∀ i : S16x1024.Idx, (m ((c : Thread nD τ).loc main_arg0) : FVec Ideal S16x1024 .f32) i ≠ (⊤ : EReal))
  (hw : ∀ i : S2x1024x6144.Idx, Finite (m ((c : Thread nD τ).loc main_arg1) i))
include hs hw

/-- What a point writes back is its block of the result. -/
theorem flushed_eq (t : Fin cfg0.N) : (dats m 0 c).flushed 3 t = ((cfg0.win 3).blk t).view.read (Elt Ideal) (result m c) := by
  obtain ⟨e0, e1, e2⟩ := index3 t
  rw [Value.flushed3]
  funext j
  rw [View.read_apply]
  obtain ⟨u, i, n, rfl⟩ : ∃ (u : Fin 1) (i : Fin 16) (n : Fin 1536), j = ix3 u i n := ⟨_, _, _, eq_ix3 j⟩
  obtain rfl : u = 0 := Subsingleton.elim _ _
  refine (congrFun (Block.out_eq _ _ _) _).trans ((Block.pay_apply _ _ _ ?_ ?_ i n).trans ?_)
  · intro j
    obtain ⟨i, k, rfl⟩ : ∃ (i : Fin 16) (k : Fin 1024), j = ix2 i k := ⟨_, _, eq_ix2 j⟩
    exact fun h => hs (ix2 i k) ((rows m c t i k).symm.trans h)
  · intro j
    obtain ⟨u, k, n, rfl⟩ : ∃ (u : Fin 1) (k : Fin 1024) (n : Fin 1536), j = ix3 u k n := ⟨_, _, _, eq_ix3 j⟩
    obtain rfl : u = 0 := Subsingleton.elim _ _
    rw [weights]
    exact hw _
  · have ej : ((cfg0.win 3).blk t).view.emb (ix3 (0 : Fin 1) i n) = ix3 (layer t) i (col t n) := by
      funext a
      apply Fin.ext
      match a with
      | ⟨0, _⟩ => show win0_3.index t 0 * 1 + 1 * 0 = t.val / 4; rw [e0]; omega
      | ⟨1, _⟩ => show win0_3.index t 1 * 16 + 1 * i.val = i.val; rw [e1]; omega
      | ⟨2, _⟩ => show win0_3.index t 2 * 1536 + 1 * n.val = t.val % 4 * 1536 + n.val; rw [e2]; omega
    refine Eq.trans ?_ (congrArg (result m c) ej).symm
    unfold Block.cell
    rw [biases]
    refine congrArg (fun x : EReal => x + _) (Finset.sum_congr rfl fun k _ => ?_)
    rw [weights, rows]

omit hs hw in
/-- Every index of the result lies in the block of a point. -/
theorem cover (i : S2x16x6144.Idx) : ∃ t : Fin cfg0.N, (cfg0.win 3).flush t = true ∧ i ∈ ((cfg0.win 3).blk t).view.set := by
  have h0 : (i 0 : Nat) < 2 := (i 0).isLt
  have h1 : (i 1 : Nat) < 16 := (i 1).isLt
  have h2 : (i 2 : Nat) < 6144 := (i 2).isLt
  have hlt : (i 0 : Nat) * 4 + (i 2 : Nat) / 1536 < 8 := by omega
  obtain ⟨t, ht⟩ : ∃ t : Fin cfg0.N, t.val = (i 0 : Nat) * 4 + (i 2 : Nat) / 1536 := ⟨⟨_, hlt⟩, rfl⟩
  obtain ⟨e0, e1, e2⟩ := index3 t
  refine ⟨t, flush0_3 _, ?_⟩
  show i ∈ ((View.whole main_v1).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [e0]; omega
  | ⟨1, _⟩ =>
    show win0_3.index t 1 * 16 ≤ (i 1 : Nat) ∧ (i 1 : Nat) < win0_3.index t 1 * 16 + 16
    rw [e1]; omega
  | ⟨2, _⟩ =>
    show win0_3.index t 2 * 1536 ≤ (i 2 : Nat) ∧ (i 2 : Nat) < win0_3.index t 2 * 1536 + 1536
    rw [e2]; omega

/-- The array the run leaves. -/
theorem final : (dats m 0 c).arrAt 3 cfg0.N = result m c :=
  (dats m 0 c).arrAt_eq_of_cover 3 (result m c) (fun t _ => flushed_eq m c hs hw t) cover

end Cert.AdaIdeal.Array

end
-- ==== Proof.Ada.Claims.lean ====
/-
  The claims about the modulation call: both programs run, leave their arguments alone and end with every counter at
  zero; on rows below +∞ and real weights they leave the same result.
-/
module

public import proofs.«01_k».proof.Defs
public import proofs.«01_k».proof.Proof.Ada.Array
public import proofs.«01_k».proof.Proof.Near.Pre
public import proofs.«01_k».proof.Proof.Prep.Spec
public import proofs.«01_k».proof.Proof.Gen.AdaRefIdeal.Read
public import proofs.«01_k».proof.Proof.Gen.Pre_finite_ada
public import proofs.«01_k».proof.Proof.Gen.Ada.Frame
public import Idealize.ShloMosaic.Lib.Quiescent

@[expose] public section

noncomputable section

namespace Cert.AdaRefIdeal.Read

open Cert.Row Idealize.ShloMosaic Idealize.ShloMosaic.ValueIdx

variable (s : (⟨S16x1024, .f32⟩ : BufTy).Contents (Elt Ideal)) (w : (⟨S2x1024x6144, .f32⟩ : BufTy).Contents (Elt Ideal))
  (b : (⟨S2x6144, .f32⟩ : BufTy).Contents (Elt Ideal))

theorem silu_eq (i : S16x1024.Idx) : val_main_v0 (F := Ideal) s i = silu (s i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply]
  have e1 : (FloatOps.ofBits (F := Ideal) .f32 0x3F800000#32 : EReal) = 1 := Cert.PrepRow.ofBits_one
  rw [e1]
  rfl

/-- The reference's result is the modulation. -/
theorem eq_modulation : val_main_v5 (F := Ideal) s w b = Cert.AdaIdeal.Array.modulation s w b := by
  funext i
  rw [val_main_v5_apply, val_main_v2_apply, val_main_v1_apply, val_main_v4_apply, val_main_v3_apply]
  refine congrArg₂ (fun x y : EReal => x + y) (Finset.sum_congr rfl fun k _ => ?_) (congrArg b (eq_ix2 _))
  rw [silu_eq]
  exact congrArg₂ (fun x y : EReal => x * silu y) (congrArg w (eq_ix3 _)) (congrArg s (eq_ix2 _))

end Cert.AdaRefIdeal.Read

namespace Cert.Proof.Ada

open Idealize.ShloMosaic Idealize.SL.Sem

attribute [local instance] Cert.Ada.Gen.facts Cert.AdaIdeal.Gen.facts Cert.AdaRefIdeal.Gen.facts Cert.Pre_finite_ada.Gen.facts

theorem quiescent_kernel : Cert.quiescent_Ada := fun m g _ => Cert.Ada.Gen.frame m g

theorem quiescent_ideal : Cert.quiescent_AdaIdeal := fun m g _ => Cert.AdaIdeal.Gen.frame m g

theorem quiescent_ideal_finite : Cert.quiescent_AdaIdeal_pre_finite_ada := fun m g _ => Cert.AdaIdeal.Gen.frame m g

/-- The reference runs, keeps its arguments and ends with every counter at zero. -/
theorem quiescent_reference : Cert.quiescent_AdaRefIdeal := fun m g _ =>
  (θ_run _ _ _).mono (fun r h => ⟨fun c => (h c).2, sem_eq_zero_of_no_sems (by decide) r.2⟩) (Cert.AdaRefIdeal.Value.run m g)

theorem quiescent_reference_finite : Cert.quiescent_AdaRefIdeal_pre_finite_ada := fun m g _ => quiescent_reference m g trivial

theorem preserves : Cert.preserves_Ada_AdaIdeal := trivial

theorem algebraic : Cert.algebraic_AdaIdeal_AdaRefIdeal_pre_finite_ada := by
  intro m g m' g' hpre hargs
  refine ⟨fun c => Cert.AdaIdeal.Array.result m c, ?_, ?_⟩
  · refine (θ_run _ _ _).mono (fun r h c => ⟨(h c).1.trans ?_, (h c).2⟩) (Cert.AdaIdeal.Value.run_blocks m g)
    have ha := Cert.Row.ne_top_of_below _ _ (hpre c).2
    refine Cert.AdaIdeal.Array.final m c (Cert.Row.ne_top_of_below _ _ (hpre c).1) fun i => ⟨fun e => ha i ?_, fun e => ha i ?_⟩
    · show max _ _ = ⊤
      rw [e]; simp
    · show max _ _ = ⊤
      rw [e]; simp
  · refine (θ_run _ _ _).mono (fun r h c => ⟨(h c).1.trans ?_, (h c).2⟩) (Cert.AdaRefIdeal.Value.run m' g')
    obtain ⟨a0, a1, a2⟩ := hargs c
    refine (Cert.AdaRefIdeal.Read.val_main_v5_eq _ _ _).trans ?_
    rw [a0, a1, a2]
    exact Cert.AdaRefIdeal.Read.eq_modulation _ _ _

end Cert.Proof.Ada

end
-- ==== Proof.Out.Block.lean ====
/-
  The output projection's two blocks read at an index: the row of inputs plus the gate times the three projections, and that row
  normed, scaled and shifted.
-/
module

public import proofs.«01_k».proof.Proof.Prep.Rows
public import proofs.«01_k».proof.Proof.Gen.OutIdeal.Value
public import Idealize.ShloMosaic.Lib.WholeRead
public import Idealize.ShloMosaic.Lib.ValueLayout
public import Idealize.ShloMosaic.Lib.Pipeline.ValueKit.Basic

@[expose] public section

set_option maxRecDepth 16384

noncomputable section

namespace Cert.OutRow

open Cert.PrepRow Idealize.ShloMosaic Idealize.ShloMosaic.ValueIdx

/-- A row of inputs plus a gate times the sum of three projections. -/
def xnAt (a : Fin 512 → EReal) (b : Fin 256 → EReal) (c : Fin 512 → EReal) (w1 : Fin 512 → Fin 1024 → EReal) (w2 : Fin 256 → Fin 1024 → EReal)
    (w3 : Fin 512 → Fin 1024 → EReal) (g x : Fin 1024 → EReal) (j : Fin 1024) : EReal :=
  x j + g j * (project a w1 j + project b w2 j + project c w3 j)

/-- The arrays a call over `R` rows reads. -/
structure Args (R : ℕ) where
  om : (⟨3, ![8, R, 512]⟩ : Shape).Idx → EReal
  oc : (⟨3, ![8, R, 256]⟩ : Shape).Idx → EReal
  os : (⟨3, ![8, R, 512]⟩ : Shape).Idx → EReal
  x : (⟨3, ![8, 2304, 1024]⟩ : Shape).Idx → EReal
  md : (⟨4, ![8, 2, 6, 1024]⟩ : Shape).Idx → EReal
  w1 : (⟨2, ![512, 1024]⟩ : Shape).Idx → EReal
  w2 : (⟨2, ![256, 1024]⟩ : Shape).Idx → EReal
  w3 : (⟨2, ![512, 1024]⟩ : Shape).Idx → EReal
  n2 : (⟨2, ![1, 1024]⟩ : Shape).Idx → EReal

variable {R : ℕ} (A : Args R) (s : Fin R → Fin 2) (f : Fin R → Fin 2304) (b : Fin 8) (r : Fin R)

/-- The first result's row, where `s` says which modulation a row has and `f` which row of the inputs it continues. -/
def xnOf : Fin 1024 → EReal :=
  xnAt (fun k => A.om (ix3 b r k)) (fun k => A.oc (ix3 b r k)) (fun k => A.os (ix3 b r k)) (fun k j => A.w1 (ix2 k j)) (fun k j => A.w2 (ix2 k j))
    (fun k j => A.w3 (ix2 k j)) (fun j => A.md (ix4 b (s r) (2 : Fin 6) j)) (fun j => A.x (ix3 b (f r) j))

/-- The second result's row. -/
def hfOf : Fin 1024 → EReal :=
  modulated (xnOf A s f b r) (fun j => A.n2 (ix2 (0 : Fin 1) j)) (fun j => A.md (ix4 b (s r) (4 : Fin 6) j)) (fun j => A.md (ix4 b (s r) (3 : Fin 6) j))

end Cert.OutRow

namespace Cert.OutIdeal.Block

open Cert.PrepIdeal.Read (under_apply normed_apply sumSq_apply oneRow_apply)
open Cert.PrepIdeal.Block (rows_apply mods_apply)
open Cert.OutIdeal Cert.OutIdeal.Gen Cert.PrepRow Cert.OutRow Idealize.ShloMosaic Idealize.ShloMosaic.TcCoe Idealize.ShloMosaic.ValueIdx
open Idealize.ShloMosaic.Pipeline (Dat)

section
variable (om : Vec Ideal S1x256x512 .bf16) (w1 : Vec Ideal S512x1024 .bf16) (oc : Vec Ideal S1x256x256 .bf16) (w2 : Vec Ideal S256x1024 .bf16)
  (os : Vec Ideal S1x256x512 .bf16) (w3 : Vec Ideal S512x1024 .bf16) (md : Vec Ideal S1x1x6x1024 .f32) (x : Vec Ideal S1x256x1024 .f32) (n2 : Vec Ideal S1x1024 .f32)

/-- A row of the first block. -/
def xnRow (r : Fin 256) : Fin 1024 → EReal :=
  xnAt (fun k => om (ix3 (0 : Fin 1) r k)) (fun k => oc (ix3 (0 : Fin 1) r k)) (fun k => os (ix3 (0 : Fin 1) r k)) (fun k j => w1 (ix2 k j))
    (fun k j => w2 (ix2 k j)) (fun k j => w3 (ix2 k j)) (fun j => md (ix4 (0 : Fin 1) (0 : Fin 1) (2 : Fin 6) j)) (fun j => x (ix3 (0 : Fin 1) r j))

/-- A row of the second. -/
def hfRow (r : Fin 256) : Fin 1024 → EReal :=
  modulated (xnRow om w1 oc w2 os w3 md x r) (fun j => n2 (ix2 (0 : Fin 1) j)) (fun j => md (ix4 (0 : Fin 1) (0 : Fin 1) (4 : Fin 6) j))
    (fun j => md (ix4 (0 : Fin 1) (0 : Fin 1) (3 : Fin 6) j))

theorem pay7_apply (r : Fin 256) (j : Fin 1024) : k0_pay7 (F := Ideal) om w1 oc w2 os w3 md x (ix2 r j) = xnRow om w1 oc w2 os w3 md x r j := by
  unfold k0_pay7 xnRow xnAt
  dsimp only
  rw [addf_apply, mulf_apply, addf_apply, addf_apply, under_apply (by decide), oneRow_apply 2 _ _ (by decide)]
  refine congrArg₂ (fun a b : EReal => a + b) (rows_apply x r j) (congrArg₂ (fun a b : EReal => a * b) (mods_apply md 2 j) ?_)
  refine congrArg₂ (fun a b : EReal => a + b) (congrArg₂ (fun a b : EReal => a + b) ?_ ?_) ?_
  · refine (Cert.Row.mixed_apply (φ₁ := .bf16) (φ₂ := .bf16) dot_S256x512_S512x1024_S256x1024_1_0_0_1_n_n rfl _ _ r j).trans ?_
    exact Finset.sum_congr rfl fun k _ => congrArg (fun a : EReal => a * w1 (ix2 k j)) (shapeCast_1ab_ab_apply om _ r k)
  · refine (Cert.Row.mixed_apply (φ₁ := .bf16) (φ₂ := .bf16) dot_S256x256_S256x1024_S256x1024_1_0_0_1_n_n rfl _ _ r j).trans ?_
    exact Finset.sum_congr rfl fun k _ => congrArg (fun a : EReal => a * w2 (ix2 k j)) (shapeCast_1ab_ab_apply oc _ r k)
  · refine (Cert.Row.mixed_apply (φ₁ := .bf16) (φ₂ := .bf16) dot_S256x512_S512x1024_S256x1024_1_0_0_1_n_n rfl _ _ r j).trans ?_
    exact Finset.sum_congr rfl fun k _ => congrArg (fun a : EReal => a * w3 (ix2 k j)) (shapeCast_1ab_ab_apply os _ r k)

theorem pay8_apply (r : Fin 256) (j : Fin 1024) :
    k0_pay8 (k0_pay7 (F := Ideal) om w1 oc w2 os w3 md x) (ix3 (0 : Fin 1) r j) = xnRow om w1 oc w2 os w3 md x r j :=
  (shapeCast_ab_1ab_apply _ _ (0 : Fin 1) r j).trans (pay7_apply om w1 oc w2 os w3 md x r j)

theorem pay10_apply (r : Fin 256) (j : Fin 1024) :
    k0_pay10 (k0_pay5 (F := Ideal) md) (k0_pay6 (F := Ideal) md) (k0_pay7 (F := Ideal) om w1 oc w2 os w3 md x) n2 (ix3 (0 : Fin 1) r j)
      = hfRow om w1 oc w2 os w3 md x n2 r j := by
  unfold k0_pay10
  rw [shapeCast_ab_1ab_apply]
  have h : (fun k => k0_pay7 (F := Ideal) om w1 oc w2 os w3 md x (ix2 r k)) = xnRow om w1 oc w2 os w3 md x r :=
    funext fun k => pay7_apply om w1 oc w2 os w3 md x r k
  unfold hfRow
  rw [← h]
  generalize k0_pay7 (F := Ideal) om w1 oc w2 os w3 md x = v
  unfold k0_pay9 modulated
  dsimp only
  rw [addf_apply, mulf_apply, under_apply (by decide), under_apply (by decide)]
  refine congrArg₂ (· + ·) (congrArg₂ (· * ·) ?_ ?_) ?_
  · exact normed_apply (by decide) (by decide) 0x44800000#32 _ _ _ (fun r => sumSq_apply _ _ _ _ r) _ _ _ r j
  · unfold k0_pay6
    rw [addf_apply, oneRow_apply 4 _ _ (by decide)]
    refine congrArg₂ (fun a b : EReal => a + b) ofBits_one (mods_apply md 4 j)
  · unfold k0_pay5
    rw [oneRow_apply 3 _ _ (by decide)]
    exact mods_apply md 3 j

/-- The loads of whole blocks. -/
theorem pay7_ld :
    k0_pay7 (F := Ideal) (View.ld (Val := Elt Ideal) (e' := .bf16) om (Rect.unit (s := S1x256x512) ![0, 0, 0] S1x256x512.size inb_S1x256x512_S1x256x512_0_0_0))
      (View.ld (Val := Elt Ideal) (e' := .bf16) w1 (Rect.unit (s := S512x1024) ![0, 0] S512x1024.size inb_S512x1024_S512x1024_0_0))
      (View.ld (Val := Elt Ideal) (e' := .bf16) oc (Rect.unit (s := S1x256x256) ![0, 0, 0] S1x256x256.size inb_S1x256x256_S1x256x256_0_0_0))
      (View.ld (Val := Elt Ideal) (e' := .bf16) w2 (Rect.unit (s := S256x1024) ![0, 0] S256x1024.size inb_S256x1024_S256x1024_0_0))
      (View.ld (Val := Elt Ideal) (e' := .bf16) os (Rect.unit (s := S1x256x512) ![0, 0, 0] S1x256x512.size inb_S1x256x512_S1x256x512_0_0_0))
      (View.ld (Val := Elt Ideal) (e' := .bf16) w3 (Rect.unit (s := S512x1024) ![0, 0] S512x1024.size inb_S512x1024_S512x1024_0_0))
      (View.ld (Val := Elt Ideal) (e' := .f32) md (Rect.unit (s := S1x1x6x1024) ![0, 0, 0, 0] S1x1x6x1024.size inb_S1x1x6x1024_S1x1x6x1024_0_0_0_0))
      (View.ld (Val := Elt Ideal) (e' := .f32) x (Rect.unit (s := S1x256x1024) ![0, 0, 0] S1x256x1024.size inb_S1x256x1024_S1x256x1024_0_0_0))
      = k0_pay7 (F := Ideal) om w1 oc w2 os w3 md x := by
  rw [View.ld_unit_lit (S := S1x256x512) _ om (by decide), View.ld_unit_lit (S := S512x1024) _ w1 (by decide), View.ld_unit_lit (S := S1x256x256) _ oc (by decide),
    View.ld_unit_lit (S := S256x1024) _ w2 (by decide), View.ld_unit_lit (S := S1x256x512) _ os (by decide), View.ld_unit_lit (S := S512x1024) _ w3 (by decide),
    View.ld_unit_lit (S := S1x1x6x1024) _ md (by decide), View.ld_unit_lit (S := S1x256x1024) _ x (by decide)]

theorem md_ld : View.ld (Val := Elt Ideal) (e' := .f32) md (Rect.unit (s := S1x1x6x1024) ![0, 0, 0, 0] S1x1x6x1024.size inb_S1x1x6x1024_S1x1x6x1024_0_0_0_0) = md :=
  View.ld_unit_lit (S := S1x1x6x1024) _ md (by decide)

theorem n2_ld : View.ld (Val := Elt Ideal) (e' := .f32) n2 (Rect.unit (s := S1x1024) ![0, 0] S1x1024.size inb_S1x1024_S1x1024_0_0) = n2 :=
  View.ld_unit_lit (S := S1x1024) _ n2 (by decide)

end

/-- A load of a whole staging buffer through a rectangle. -/
theorem ld_of_whole {sp : Space} {s : Shape} {e : EltTy} {a : Memref sig .tc sp s e} (h : a.IsWhole) (X : s.Idx → Elt Ideal e) (r : Rect s) :
    View.readAt (Elt Ideal) a.view r.toLoadRect (h.unread X) = View.ld (Val := Elt Ideal) (e' := e) X r :=
  funext fun x => h.readAt_unread X _ x

variable (m : (ℓ : Loc nD τ sig) → Buf (Elt Ideal) ℓ) (c : Dev nD) (t : Fin cfg0.N)

/-- What a point writes back of the first result. -/
theorem flushed13 : (dats m 0 c).flushed 13 t = k0_pay8 (k0_pay7 (F := Ideal) (iblk m c 0 t) (iblk m c 5 t) (iblk m c 1 t) (iblk m c 6 t) (iblk m c 2 t) (iblk m c 7 t) (iblk m c 4 t) (iblk m c 3 t)) := by
  by_cases h0 : t.val % 64 = 0
  · rw [Value.flushed13_A m c t h0]
    unfold out0_A_13
    rw [View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    refine (View.canon_cons_unit_lit (S := S1x256x1024) _ _ _ (by decide)).trans (congrArg k0_pay8 ?_)
    simp only [kernelRun0_A.sl.r_2, ld_of_whole]
    exact pay7_ld _ _ _ _ _ _ _ _
  · rw [Value.flushed13_B m c t h0]
    unfold out0_B_13
    rw [View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    refine (View.canon_cons_unit_lit (S := S1x256x1024) _ _ _ (by decide)).trans (congrArg k0_pay8 ?_)
    simp only [kernelRun0_B.sl.r_2, ld_of_whole]
    exact pay7_ld _ _ _ _ _ _ _ _

/-- What a point writes back of the second. -/
theorem flushed14 : (dats m 0 c).flushed 14 t = k0_pay10 (k0_pay5 (F := Ideal) (iblk m c 4 t)) (k0_pay6 (F := Ideal) (iblk m c 4 t))
    (k0_pay7 (F := Ideal) (iblk m c 0 t) (iblk m c 5 t) (iblk m c 1 t) (iblk m c 6 t) (iblk m c 2 t) (iblk m c 7 t) (iblk m c 4 t) (iblk m c 3 t)) (iblk m c 8 t) := by
  by_cases h0 : t.val % 64 = 0
  · rw [Value.flushed14_A m c t h0]
    unfold out0_A_14
    rw [View.read_writes_eq_canon _ _ _ (cover0_A_14 _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    refine (View.canon_cons_unit_lit (S := S1x256x1024) _ _ _ (by decide)).trans ?_
    simp only [kernelRun0_A.sl.r, kernelRun0_A.sl.r_1, kernelRun0_A.sl.r_2, ld_of_whole]
    exact congr (congr (congr (congrArg (fun a => k0_pay10 (k0_pay5 a)) (md_ld _)) (congrArg k0_pay6 (md_ld _))) (pay7_ld _ _ _ _ _ _ _ _)) (n2_ld _)
  · rw [Value.flushed14_B m c t h0]
    unfold out0_B_14
    rw [View.read_writes_eq_canon _ _ _ (cover0_B_14 _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    refine (View.canon_cons_unit_lit (S := S1x256x1024) _ _ _ (by decide)).trans ?_
    simp only [kernelRun0_B.sl.r, kernelRun0_B.sl.r_1, kernelRun0_B.sl.r_2, ld_of_whole]
    exact congr (congr (congr (congrArg (fun a => k0_pay10 (k0_pay5 a)) (md_ld _)) (congrArg k0_pay6 (md_ld _))) (pay7_ld _ _ _ _ _ _ _ _)) (n2_ld _)

/-- … read at a row and a column. -/
theorem flushed13_apply (r : Fin 256) (j : Fin 1024) : (dats m 0 c).flushed 13 t (ix3 (0 : Fin 1) r j)
    = xnRow (iblk m c 0 t) (iblk m c 5 t) (iblk m c 1 t) (iblk m c 6 t) (iblk m c 2 t) (iblk m c 7 t) (iblk m c 4 t) (iblk m c 3 t) r j :=
  (congrFun (flushed13 m c t) _).trans (pay8_apply _ _ _ _ _ _ _ _ r j)

theorem flushed14_apply (r : Fin 256) (j : Fin 1024) : (dats m 0 c).flushed 14 t (ix3 (0 : Fin 1) r j)
    = hfRow (iblk m c 0 t) (iblk m c 5 t) (iblk m c 1 t) (iblk m c 6 t) (iblk m c 2 t) (iblk m c 7 t) (iblk m c 4 t) (iblk m c 3 t) (iblk m c 8 t) r j :=
  (congrFun (flushed14 m c t) _).trans (pay10_apply _ _ _ _ _ _ _ _ _ r j)

end Cert.OutIdeal.Block

end
-- ==== Proof.Out.Array.lean ====
/-
  The output projection's two result arrays on the last layer as functions of its arguments: each point's blocks hold 256 rows of a batch,
  and the blocks cover the arrays.
-/
module

public import proofs.«01_k».proof.Proof.Out.Block

@[expose] public section

noncomputable section

namespace Cert.OutIdeal.Array

open Cert.OutIdeal Cert.OutIdeal.Gen Cert.OutRow Idealize.ShloMosaic Idealize.ShloMosaic.TcCoe Idealize.ShloMosaic.ValueIdx
open Idealize.ShloMosaic.Pipeline (Dat)
open Cert.OutIdeal.Block (xnRow hfRow)

variable (m : (ℓ : Loc nD τ sig) → Buf (Elt Ideal) ℓ) (c : Dev nD) (t : Fin cfg0.N)

/-- The arrays the call reads. -/
def args : Args 2048 where
  om := m ((c : Thread nD τ).loc main_arg0)
  oc := m ((c : Thread nD τ).loc main_arg1)
  os := m ((c : Thread nD τ).loc main_arg2)
  x := m ((c : Thread nD τ).loc main_arg3)
  md := m ((c : Thread nD τ).loc main_arg4)
  w1 := m ((c : Thread nD τ).loc main_arg5)
  w2 := m ((c : Thread nD τ).loc main_arg6)
  w3 := m ((c : Thread nD τ).loc main_arg7)
  n2 := m ((c : Thread nD τ).loc main_arg8)

/-- The batch a point works on. -/
def batch : Fin 8 := ⟨t.val / 8, by have : t.val < 64 := t.isLt; omega⟩

/-- The array's row behind a row of a point's block. -/
def row (i : Fin 256) : Fin 2048 := ⟨t.val % 8 * 256 + i.val, by omega⟩

/-- The modulation of a row. -/
def sel (_ : Fin 2048) : Fin 2 := 1

/-- The row of the inputs a row continues. -/
def src (r : Fin 2048) : Fin 2304 := ⟨256 + r.val, by omega⟩

/-- The blocks of a point, as the array indices they are read from. -/
theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem index1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

theorem index2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)

theorem index3 : ∀ t : Fin cfg0.N, win0_3.index t 0 = t.val / 8 ∧ win0_3.index t 1 = t.val % 8 + 1 ∧ win0_3.index t 2 = 0 :=
  (by decide +kernel : ∀ t : Fin grid0.N, win0_3.index t 0 = t.val / 8 ∧ win0_3.index t 1 = t.val % 8 + 1 ∧ win0_3.index t 2 = 0)

theorem index4 : ∀ t : Fin cfg0.N, win0_4.index t 0 = t.val / 8 ∧ win0_4.index t 1 = 1 ∧ win0_4.index t 2 = 0 ∧ win0_4.index t 3 = 0 :=
  (by decide +kernel : ∀ t : Fin grid0.N, win0_4.index t 0 = t.val / 8 ∧ win0_4.index t 1 = 1 ∧ win0_4.index t 2 = 0 ∧ win0_4.index t 3 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index13 : ∀ t : Fin cfg0.N, win0_13.index t 0 = t.val / 8 ∧ win0_13.index t 1 = t.val % 8 ∧ win0_13.index t 2 = 0 :=
  (by decide +kernel : ∀ t : Fin grid0.N, win0_13.index t 0 = t.val / 8 ∧ win0_13.index t 1 = t.val % 8 ∧ win0_13.index t 2 = 0)

theorem index14 : ∀ t : Fin cfg0.N, win0_14.index t 0 = t.val / 8 ∧ win0_14.index t 1 = t.val % 8 ∧ win0_14.index t 2 = 0 :=
  (by decide +kernel : ∀ t : Fin grid0.N, win0_14.index t 0 = t.val / 8 ∧ win0_14.index t 1 = t.val % 8 ∧ win0_14.index t 2 = 0)

theorem om_read (i : Fin 256) (k : Fin 512) : (iblk m c 0 t : Vec Ideal S1x256x512 .bf16) (ix3 (0 : Fin 1) i k) = (args m c).om (ix3 (batch t) (row t i) k) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 8; rw [e0]; omega
  | ⟨1, _⟩ => show win0_0.index t 1 * 256 + 1 * i.val = t.val % 8 * 256 + i.val; rw [e1]; omega
  | ⟨2, _⟩ => show win0_0.index t 2 * 512 + 1 * k.val = k.val; rw [e2]; omega

theorem oc_read (i : Fin 256) (k : Fin 256) : (iblk m c 1 t : Vec Ideal S1x256x256 .bf16) (ix3 (0 : Fin 1) i k) = (args m c).oc (ix3 (batch t) (row t i) k) := by
  obtain ⟨e0, e1, e2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 8; rw [e0]; omega
  | ⟨1, _⟩ => show win0_1.index t 1 * 256 + 1 * i.val = t.val % 8 * 256 + i.val; rw [e1]; omega
  | ⟨2, _⟩ => show win0_1.index t 2 * 256 + 1 * k.val = k.val; rw [e2]; omega

theorem os_read (i : Fin 256) (k : Fin 512) : (iblk m c 2 t : Vec Ideal S1x256x512 .bf16) (ix3 (0 : Fin 1) i k) = (args m c).os (ix3 (batch t) (row t i) k) := by
  obtain ⟨e0, e1, e2⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 8; rw [e0]; omega
  | ⟨1, _⟩ => show win0_2.index t 1 * 256 + 1 * i.val = t.val % 8 * 256 + i.val; rw [e1]; omega
  | ⟨2, _⟩ => show win0_2.index t 2 * 512 + 1 * k.val = k.val; rw [e2]; omega

theorem x_read (i : Fin 256) (k : Fin 1024) : (iblk m c 3 t : Vec Ideal S1x256x1024 .f32) (ix3 (0 : Fin 1) i k) = (args m c).x (ix3 (batch t) (src (row t i)) k) := by
  obtain ⟨e0, e1, e2⟩ := index3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 8; rw [e0]; omega
  | ⟨1, _⟩ => show win0_3.index t 1 * 256 + 1 * i.val = 256 + (t.val % 8 * 256 + i.val); rw [e1]; omega
  | ⟨2, _⟩ => show win0_3.index t 2 * 1024 + 1 * k.val = k.val; rw [e2]; omega

theorem md_read (i : Fin 256) (u : Fin 6) (k : Fin 1024) : (iblk m c 4 t : Vec Ideal S1x1x6x1024 .f32) (ix4 (0 : Fin 1) (0 : Fin 1) u k) = (args m c).md (ix4 (batch t) (sel (row t i)) u k) := by
  obtain ⟨e0, e1, e2, e3⟩ := index4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val / 8; rw [e0]; omega
  | ⟨1, _⟩ => show win0_4.index t 1 * 1 + 1 * 0 = 1; rw [e1]
  | ⟨2, _⟩ => show win0_4.index t 2 * 6 + 1 * u.val = u.val; rw [e2]; omega
  | ⟨3, _⟩ => show win0_4.index t 3 * 1024 + 1 * k.val = k.val; rw [e3]; omega

theorem w1_read (i : Fin 512) (k : Fin 1024) : (iblk m c 5 t : Vec Ideal S512x1024 .bf16) (ix2 i k) = (args m c).w1 (ix2 i k) := by
  obtain ⟨e0, e1⟩ := index5 t
  unfold iblk
  rw [View.read_apply]
  show V m c main_arg5 _ = m (c.tc.loc main_arg5) _
  unfold V
  congr 1
  funext a
  apply Fin.ext
  match a with
  | ⟨0, _⟩ => show win0_5.index t 0 * 512 + 1 * i.val = i.val; rw [e0]; omega
  | ⟨1, _⟩ => show win0_5.index t 1 * 1024 + 1 * k.val = k.val; rw [e1]; omega

theorem w2_read (i : Fin 256) (k : Fin 1024) : (iblk m c 6 t : Vec Ideal S256x1024 .bf16) (ix2 i k) = (args m c).w2 (ix2 i k) := by
  obtain ⟨e0, e1⟩ := index6 t
  unfold iblk
  rw [View.read_apply]
  show V m c main_arg6 _ = m (c.tc.loc main_arg6) _
  unfold V
  congr 1
  funext a
  apply Fin.ext
  match a with
  | ⟨0, _⟩ => show win0_6.index t 0 * 256 + 1 * i.val = i.val; rw [e0]; omega
  | ⟨1, _⟩ => show win0_6.index t 1 * 1024 + 1 * k.val = k.val; rw [e1]; omega

theorem w3_read (i : Fin 512) (k : Fin 1024) : (iblk m c 7 t : Vec Ideal S512x1024 .bf16) (ix2 i k) = (args m c).w3 (ix2 i k) := by
  obtain ⟨e0, e1⟩ := index7 t
  unfold iblk
  rw [View.read_apply]
  show V m c main_arg7 _ = m (c.tc.loc main_arg7) _
  unfold V
  congr 1
  funext a
  apply Fin.ext
  match a with
  | ⟨0, _⟩ => show win0_7.index t 0 * 512 + 1 * i.val = i.val; rw [e0]; omega
  | ⟨1, _⟩ => show win0_7.index t 1 * 1024 + 1 * k.val = k.val; rw [e1]; omega

theorem n2_read (k : Fin 1024) : (iblk m c 8 t : Vec Ideal S1x1024 .f32) (ix2 (0 : Fin 1) k) = (args m c).n2 (ix2 (0 : Fin 1) k) := by
  obtain ⟨e0, e1⟩ := index8 t
  unfold iblk
  rw [View.read_apply]
  show V m c main_arg8 _ = m (c.tc.loc main_arg8) _
  unfold V
  congr 1
  funext a
  apply Fin.ext
  match a with
  | ⟨0, _⟩ => show win0_8.index t 0 * 1 + 1 * 0 = 0; rw [e0]
  | ⟨1, _⟩ => show win0_8.index t 1 * 1024 + 1 * k.val = k.val; rw [e1]; omega

/-- A row of a point's first block is a row of the first result. -/
theorem xn_row (i : Fin 256) : xnRow (iblk m c 0 t) (iblk m c 5 t) (iblk m c 1 t) (iblk m c 6 t) (iblk m c 2 t) (iblk m c 7 t) (iblk m c 4 t) (iblk m c 3 t) i = xnOf (args m c) sel src (batch t) (row t i) := by
  unfold xnRow xnOf
  simp only [om_read, oc_read, os_read, x_read, md_read m c t i, w1_read, w2_read, w3_read]

/-- A row of its second block is a row of the second. -/
theorem hf_row (i : Fin 256) : hfRow (iblk m c 0 t) (iblk m c 5 t) (iblk m c 1 t) (iblk m c 6 t) (iblk m c 2 t) (iblk m c 7 t) (iblk m c 4 t) (iblk m c 3 t) (iblk m c 8 t) i = hfOf (args m c) sel src (batch t) (row t i) := by
  unfold hfRow hfOf
  rw [xn_row]
  simp only [md_read m c t i, n2_read]

/-- The result arrays' functions of the launched memory. -/
def xn : S8x2048x1024.Idx → EReal := fun i => xnOf (args m c) sel src (i 0) (i 1) (i 2)

def hf : S8x2048x1024.Idx → EReal := fun i => hfOf (args m c) sel src (i 0) (i 1) (i 2)

/-- What a point writes back is its block of the result. -/
theorem xn_flushed : (dats m 0 c).flushed 13 t = ((cfg0.win 13).blk t).view.read (Elt Ideal) (xn m c) := by
  obtain ⟨e0, e1, e2⟩ := index13 t
  funext j
  rw [View.read_apply]
  obtain ⟨u, i, n, rfl⟩ : ∃ (u : Fin 1) (i : Fin 256) (n : Fin 1024), j = ix3 u i n := ⟨_, _, _, eq_ix3 j⟩
  obtain rfl : u = 0 := Subsingleton.elim _ _
  refine (Block.flushed13_apply m c t i n).trans ((congrFun (xn_row m c t i) n).trans ?_)
  have ej : ((cfg0.win 13).blk t).view.emb (ix3 (0 : Fin 1) i n) = ix3 (batch t) (row t i) n := by
    funext a
    apply Fin.ext
    match a with
    | ⟨0, _⟩ => show win0_13.index t 0 * 1 + 1 * 0 = t.val / 8; rw [e0]; omega
    | ⟨1, _⟩ => show win0_13.index t 1 * 256 + 1 * i.val = t.val % 8 * 256 + i.val; rw [e1]; omega
    | ⟨2, _⟩ => show win0_13.index t 2 * 1024 + 1 * n.val = n.val; rw [e2]; omega
  exact (congrArg (xn m c) ej).symm

/-- Every index of the result lies in the block of a point. -/
theorem xn_cover (i : S8x2048x1024.Idx) : ∃ t : Fin cfg0.N, (cfg0.win 13).flush t = true ∧ i ∈ ((cfg0.win 13).blk t).view.set := by
  have h0 : (i 0 : Nat) < 8 := (i 0).isLt
  have h1 : (i 1 : Nat) < 2048 := (i 1).isLt
  have h2 : (i 2 : Nat) < 1024 := (i 2).isLt
  have hlt : (i 0 : Nat) * 8 + (i 1 : Nat) / 256 < 64 := by omega
  obtain ⟨t, ht⟩ : ∃ t : Fin cfg0.N, t.val = (i 0 : Nat) * 8 + (i 1 : Nat) / 256 := ⟨⟨_, hlt⟩, rfl⟩
  obtain ⟨e0, e1, e2⟩ := index13 t
  refine ⟨t, flush0_13 _, ?_⟩
  show i ∈ ((View.whole main_v0_0).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [e0]; omega
  | ⟨1, _⟩ =>
    show win0_13.index t 1 * 256 ≤ (i 1 : Nat) ∧ (i 1 : Nat) < win0_13.index t 1 * 256 + 256
    rw [e1]; omega
  | ⟨2, _⟩ =>
    show win0_13.index t 2 * 1024 ≤ (i 2 : Nat) ∧ (i 2 : Nat) < win0_13.index t 2 * 1024 + 1024
    rw [e2]; omega

/-- The array the run leaves. -/
theorem xn_final : (dats m 0 c).arrAt 13 cfg0.N = xn m c :=
  (dats m 0 c).arrAt_eq_of_cover 13 (xn m c) (fun t _ => xn_flushed m c t) (xn_cover)

/-- What a point writes back is its block of the result. -/
theorem hf_flushed : (dats m 0 c).flushed 14 t = ((cfg0.win 14).blk t).view.read (Elt Ideal) (hf m c) := by
  obtain ⟨e0, e1, e2⟩ := index14 t
  funext j
  rw [View.read_apply]
  obtain ⟨u, i, n, rfl⟩ : ∃ (u : Fin 1) (i : Fin 256) (n : Fin 1024), j = ix3 u i n := ⟨_, _, _, eq_ix3 j⟩
  obtain rfl : u = 0 := Subsingleton.elim _ _
  refine (Block.flushed14_apply m c t i n).trans ((congrFun (hf_row m c t i) n).trans ?_)
  have ej : ((cfg0.win 14).blk t).view.emb (ix3 (0 : Fin 1) i n) = ix3 (batch t) (row t i) n := by
    funext a
    apply Fin.ext
    match a with
    | ⟨0, _⟩ => show win0_14.index t 0 * 1 + 1 * 0 = t.val / 8; rw [e0]; omega
    | ⟨1, _⟩ => show win0_14.index t 1 * 256 + 1 * i.val = t.val % 8 * 256 + i.val; rw [e1]; omega
    | ⟨2, _⟩ => show win0_14.index t 2 * 1024 + 1 * n.val = n.val; rw [e2]; omega
  exact (congrArg (hf m c) ej).symm

/-- Every index of the result lies in the block of a point. -/
theorem hf_cover (i : S8x2048x1024.Idx) : ∃ t : Fin cfg0.N, (cfg0.win 14).flush t = true ∧ i ∈ ((cfg0.win 14).blk t).view.set := by
  have h0 : (i 0 : Nat) < 8 := (i 0).isLt
  have h1 : (i 1 : Nat) < 2048 := (i 1).isLt
  have h2 : (i 2 : Nat) < 1024 := (i 2).isLt
  have hlt : (i 0 : Nat) * 8 + (i 1 : Nat) / 256 < 64 := by omega
  obtain ⟨t, ht⟩ : ∃ t : Fin cfg0.N, t.val = (i 0 : Nat) * 8 + (i 1 : Nat) / 256 := ⟨⟨_, hlt⟩, rfl⟩
  obtain ⟨e0, e1, e2⟩ := index14 t
  refine ⟨t, flush0_14 _, ?_⟩
  show i ∈ ((View.whole main_v0_1).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [e0]; omega
  | ⟨1, _⟩ =>
    show win0_14.index t 1 * 256 ≤ (i 1 : Nat) ∧ (i 1 : Nat) < win0_14.index t 1 * 256 + 256
    rw [e1]; omega
  | ⟨2, _⟩ =>
    show win0_14.index t 2 * 1024 ≤ (i 2 : Nat) ∧ (i 2 : Nat) < win0_14.index t 2 * 1024 + 1024
    rw [e2]; omega

/-- The array the run leaves. -/
theorem hf_final : (dats m 0 c).arrAt 14 cfg0.N = hf m c :=
  (dats m 0 c).arrAt_eq_of_cover 14 (hf m c) (fun t _ => hf_flushed m c t) (hf_cover)

end Cert.OutIdeal.Array

end
-- ==== Proof.Out.Join.lean ====
/-
  Three arrays concatenated, and the same of three weights, multiplied: the sum of the three products.
-/
module

public import proofs.«01_k».proof.Proof.Out.Block

@[expose] public section

noncomputable section

namespace Cert.OutRow

open Cert.PrepRow Idealize.ShloMosaic Idealize.ShloMosaic.ValueIdx

/-- A sum over 1280 lanes, in three. -/
theorem sum_three (f : Fin 1280 → EReal) : ∑ k : Fin 1280, f k
    = (∑ k : Fin 512, f ⟨k.val, by omega⟩ + ∑ k : Fin 256, f ⟨512 + k.val, by omega⟩) + ∑ k : Fin 512, f ⟨768 + k.val, by omega⟩ :=
  (Fin.sum_univ_add (a := 768) (b := 512) f).trans
    (congrArg (fun x : EReal => x + ∑ k : Fin 512, f ⟨768 + k.val, by omega⟩)
      (Fin.sum_univ_add (a := 512) (b := 256) fun k : Fin 768 => f ⟨k.val, by omega⟩))

variable {R : ℕ} (om : (⟨3, ![8, R, 512]⟩ : Shape).Idx → EReal) (oc : (⟨3, ![8, R, 256]⟩ : Shape).Idx → EReal) (os : (⟨3, ![8, R, 512]⟩ : Shape).Idx → EReal)
  (hc : Shape.Concatenates [⟨3, ![8, R, 512]⟩, ⟨3, ![8, R, 256]⟩, ⟨3, ![8, R, 512]⟩] ⟨3, ![8, R, 1280]⟩ 2)
  (w1 : (⟨2, ![512, 1024]⟩ : Shape).Idx → EReal) (w2 : (⟨2, ![256, 1024]⟩ : Shape).Idx → EReal) (w3 : (⟨2, ![512, 1024]⟩ : Shape).Idx → EReal)
  (hw : Shape.Concatenates [⟨2, ![512, 1024]⟩, ⟨2, ![256, 1024]⟩, ⟨2, ![512, 1024]⟩] ⟨2, ![1280, 1024]⟩ 0)
  (b : Fin 8) (r : Fin R) (j : Fin 1024)

/-- The three arrays, one after the other. -/
abbrev lanes : (⟨3, ![8, R, 1280]⟩ : Shape).Idx → EReal := concatenate ⟨3, ![8, R, 1280]⟩ 2 [⟨_, om⟩, ⟨_, oc⟩, ⟨_, os⟩] hc

/-- The three weights, one under the other. -/
abbrev stack : (⟨2, ![1280, 1024]⟩ : Shape).Idx → EReal := concatenate ⟨2, ![1280, 1024]⟩ 0 [⟨_, w1⟩, ⟨_, w2⟩, ⟨_, w3⟩] hw

theorem lanes_first (k : Fin 512) : lanes om oc os hc (ix3 b r ⟨k.val, by omega⟩) = om (ix3 b r k) :=
  concatenate_apply_piece (t := ⟨3, ![8, R, 1280]⟩) 2 [⟨_, om⟩, ⟨_, oc⟩, ⟨_, os⟩] hc _ 0 (show 0 < 3 by decide) _ om rfl rfl 0 rfl _ (fun a ha => match a, ha with
    | ⟨0, _⟩, _ => rfl
    | ⟨1, _⟩, _ => rfl
    | ⟨2, _⟩, ha => absurd rfl ha) (Nat.zero_add _)

theorem lanes_second (k : Fin 256) : lanes om oc os hc (ix3 b r ⟨512 + k.val, by omega⟩) = oc (ix3 b r k) :=
  concatenate_apply_piece (t := ⟨3, ![8, R, 1280]⟩) 2 [⟨_, om⟩, ⟨_, oc⟩, ⟨_, os⟩] hc _ 1 (show 1 < 3 by decide) _ oc rfl rfl 512 rfl _ (fun a ha => match a, ha with
    | ⟨0, _⟩, _ => rfl
    | ⟨1, _⟩, _ => rfl
    | ⟨2, _⟩, ha => absurd rfl ha) rfl

theorem lanes_third (k : Fin 512) : lanes om oc os hc (ix3 b r ⟨768 + k.val, by omega⟩) = os (ix3 b r k) :=
  concatenate_apply_piece (t := ⟨3, ![8, R, 1280]⟩) 2 [⟨_, om⟩, ⟨_, oc⟩, ⟨_, os⟩] hc _ 2 (show 2 < 3 by decide) _ os rfl rfl 768 rfl _ (fun a ha => match a, ha with
    | ⟨0, _⟩, _ => rfl
    | ⟨1, _⟩, _ => rfl
    | ⟨2, _⟩, ha => absurd rfl ha) rfl

theorem stack_first (k : Fin 512) : stack w1 w2 w3 hw (ix2 ⟨k.val, by omega⟩ j) = w1 (ix2 k j) :=
  concatenate_apply_piece (t := ⟨2, ![1280, 1024]⟩) 0 [⟨_, w1⟩, ⟨_, w2⟩, ⟨_, w3⟩] hw _ 0 (show 0 < 3 by decide) _ w1 rfl rfl 0 rfl _ (fun a ha => match a, ha with
    | ⟨0, _⟩, ha => absurd rfl ha
    | ⟨1, _⟩, _ => rfl) (Nat.zero_add _)

theorem stack_second (k : Fin 256) : stack w1 w2 w3 hw (ix2 ⟨512 + k.val, by omega⟩ j) = w2 (ix2 k j) :=
  concatenate_apply_piece (t := ⟨2, ![1280, 1024]⟩) 0 [⟨_, w1⟩, ⟨_, w2⟩, ⟨_, w3⟩] hw _ 1 (show 1 < 3 by decide) _ w2 rfl rfl 512 rfl _ (fun a ha => match a, ha with
    | ⟨0, _⟩, ha => absurd rfl ha
    | ⟨1, _⟩, _ => rfl) rfl

theorem stack_third (k : Fin 512) : stack w1 w2 w3 hw (ix2 ⟨768 + k.val, by omega⟩ j) = w3 (ix2 k j) :=
  concatenate_apply_piece (t := ⟨2, ![1280, 1024]⟩) 0 [⟨_, w1⟩, ⟨_, w2⟩, ⟨_, w3⟩] hw _ 2 (show 2 < 3 by decide) _ w3 rfl rfl 768 rfl _ (fun a ha => match a, ha with
    | ⟨0, _⟩, ha => absurd rfl ha
    | ⟨1, _⟩, _ => rfl) rfl

/-- One product of the joined arrays is the sum of the three. -/
theorem joined_sum : ∑ k : Fin 1280, lanes om oc os hc (ix3 b r k) * stack w1 w2 w3 hw (ix2 k j)
    = project (fun k => om (ix3 b r k)) (fun k j => w1 (ix2 k j)) j + project (fun k => oc (ix3 b r k)) (fun k j => w2 (ix2 k j)) j
      + project (fun k => os (ix3 b r k)) (fun k j => w3 (ix2 k j)) j := by
  rw [sum_three]
  unfold project
  simp only [lanes_first, lanes_second, lanes_third, stack_first, stack_second, stack_third]

end Cert.OutRow

end
-- ==== Proof.Out.Ref.lean ====
/-
  The reference of the output projection on the last layer, read at an index.
-/
module

public import proofs.«01_k».proof.Proof.Out.Array
public import proofs.«01_k».proof.Proof.Out.Join
public import proofs.«01_k».proof.Proof.Gen.OutRefIdeal.Run
public import proofs.«01_k».proof.Proof.Gen.OutRefIdeal.Read

@[expose] public section

set_option maxRecDepth 16384

noncomputable section

namespace Cert.OutRefIdeal.Array

open Cert.OutRefIdeal Cert.OutRefIdeal.Gen Cert.OutRefIdeal.Read Cert.PrepRow Cert.OutRow Idealize.ShloMosaic Idealize.ShloMosaic.TcCoe Idealize.ShloMosaic.ValueIdx
open Cert.OutIdeal.Array (sel src)

variable (x0 : (⟨S8x2048x512, .bf16⟩ : BufTy).Contents (Elt Ideal)) (x1 : (⟨S8x2048x256, .bf16⟩ : BufTy).Contents (Elt Ideal))
  (x2 : (⟨S8x2048x512, .bf16⟩ : BufTy).Contents (Elt Ideal)) (x3 : (⟨S8x2304x1024, .f32⟩ : BufTy).Contents (Elt Ideal))
  (x4 : (⟨S8x2x6x1024, .f32⟩ : BufTy).Contents (Elt Ideal)) (x5 : (⟨S512x1024, .bf16⟩ : BufTy).Contents (Elt Ideal))
  (x6 : (⟨S256x1024, .bf16⟩ : BufTy).Contents (Elt Ideal)) (x7 : (⟨S512x1024, .bf16⟩ : BufTy).Contents (Elt Ideal))
  (x8 : (⟨S1x1024, .f32⟩ : BufTy).Contents (Elt Ideal)) (b : Fin 8) (r : Fin 2048) (j : Fin 1024)

/-- The arrays the reference reads. -/
abbrev args : Args 2048 := ⟨x0, x1, x2, x3, x4, x5, x6, x7, x8⟩

theorem gate_eq : val_main_v12 (F := Ideal) x4 (ix3 b r j) = x4 (ix4 b (sel r) (2 : Fin 6) j) := by
  have e : idx_main_v0 (idx_main_v1 (idx_main_v12 (ix3 b r j))) = ix4 b (sel r) (2 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  rw [val_main_v12_apply, val_main_v1_apply, val_main_v0_apply, e]

theorem shift_eq : val_main_v32 (F := Ideal) x4 (ix3 b r j) = x4 (ix4 b (sel r) (3 : Fin 6) j) := by
  have e : idx_main_v2 (idx_main_v3 (idx_main_v32 (ix3 b r j))) = ix4 b (sel r) (3 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  rw [val_main_v32_apply, val_main_v3_apply, val_main_v2_apply, e]

theorem scale_eq : val_main_v30 (F := Ideal) x4 (ix3 b r j) = (1 + x4 (ix4 b (sel r) (4 : Fin 6) j) : EReal) := by
  have e : idx_main_v4 (idx_main_v5 (idx_main_v30 (ix3 b r j))) = ix4 b (sel r) (4 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  have e1 : (FloatOps.ofBits (F := Ideal) .f32 0x3F800000#32 : EReal) = 1 := ofBits_one
  rw [val_main_v30_apply, val_main_v29_apply, val_main_v28_apply, val_main_cst_2_apply, val_main_v5_apply, val_main_v4_apply, e, e1]
  rfl

/-- The projection of the joined arrays. -/
theorem mix_eq : val_main_v11 (F := Ideal) x0 x1 x2 x5 x6 x7 (ix3 b r j)
    = project (fun k => x0 (ix3 b r k)) (fun k j => x5 (ix2 k j)) j + project (fun k => x1 (ix3 b r k)) (fun k j => x6 (ix2 k j)) j
      + project (fun k => x2 (ix3 b r k)) (fun k j => x7 (ix2 k j)) j := by
  rw [val_main_v11_apply]
  refine Eq.trans (Finset.sum_congr rfl fun k _ => ?_)
    (joined_sum x0 x1 x2 concatenates_S8x2048x512_S8x2048x256_S8x2048x512_S8x2048x1280_d2 x5 x6 x7 concatenates_S512x1024_S256x1024_S512x1024_S1280x1024_d0 b r j)
  have e : lidx_main_v11 (ix3 b r j) k = ix3 b r k := funext fun a => by
    match a with
    | ⟨0, _⟩ => rfl
    | ⟨1, _⟩ => rfl
    | ⟨2, _⟩ => rfl

  have e' : ridx_main_v11 (ix3 b r j) k = ix2 k j := funext fun a => by
    match a with
    | ⟨0, _⟩ => rfl
    | ⟨1, _⟩ => rfl

  rw [e, e', val_main_v8_apply, val_main_v10_apply]
  rfl

/-- The first result at an index. -/
theorem xn_eq : val_main_v14 (F := Ideal) x0 x1 x2 x3 x4 x5 x6 x7 (ix3 b r j) = xnOf (args x0 x1 x2 x3 x4 x5 x6 x7 x8) sel src b r j := by
  have e : idx_main_v6 (ix3 b r j) = ix3 b (src r) j := funext fun a => by
    match a with
    | ⟨0, _⟩ => rfl
    | ⟨1, _⟩ => rfl
    | ⟨2, _⟩ => rfl

  rw [val_main_v14_apply, val_main_v6_apply, e, val_main_v13_apply, gate_eq, mix_eq]
  rfl

theorem row_sum : val_main_v16 (F := Ideal) x0 x1 x2 x3 x4 x5 x6 x7 (ix2 b r) = sumSq (xnOf (args x0 x1 x2 x3 x4 x5 x6 x7 x8) sel src b r) := by
  rw [val_main_v16_apply, val_main_cst_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v16 (ix2 b r) k = ix3 b r k := funext fun a => by
    match a with
    | ⟨0, _⟩ => rfl
    | ⟨1, _⟩ => rfl
    | ⟨2, _⟩ => rfl

  rw [e, val_main_v15_apply, xn_eq _ _ _ _ _ _ _ _ x8]
  rfl

theorem row_root : val_main_v22 (F := Ideal) x0 x1 x2 x3 x4 x5 x6 x7 (ix3 b r (0 : Fin 1)) = root (sumSq (xnOf (args x0 x1 x2 x3 x4 x5 x6 x7 x8) sel src b r)) (Ideal.ofBits .f32 0x44800000#32) := by
  have e : idx_main_v17 (ix3 b r (0 : Fin 1)) = ix2 b r := funext fun a => by
    match a with
    | ⟨0, _⟩ => rfl
    | ⟨1, _⟩ => rfl

  rw [val_main_v22_apply, val_main_v21_apply, val_main_v19_apply, val_main_v17_apply, e, row_sum _ _ _ _ _ _ _ _ x8, val_main_v18_apply,
    val_main_cst_0_apply, val_main_v20_apply, val_main_cst_1_apply]
  rfl

theorem row_normed : val_main_v27 (F := Ideal) x0 x1 x2 x3 x4 x5 x6 x7 x8 (ix3 b r j)
    = normed (Ideal.ofBits .f32 0x44800000#32) (xnOf (args x0 x1 x2 x3 x4 x5 x6 x7 x8) sel src b r) (fun k => x8 (ix2 (0 : Fin 1) k)) j := by
  have e : idx_main_v23 (ix3 b r j) = ix3 b r (0 : Fin 1) := funext fun a => by
    match a with
    | ⟨0, _⟩ => rfl
    | ⟨1, _⟩ => rfl
    | ⟨2, _⟩ => rfl

  have e' : idx_main_v25 (idx_main_v26 (ix3 b r j)) = ix2 (0 : Fin 1) j := funext fun a => by
    match a with
    | ⟨0, _⟩ => rfl
    | ⟨1, _⟩ => rfl

  rw [val_main_v27_apply, val_main_v24_apply, xn_eq _ _ _ _ _ _ _ _ x8, val_main_v23_apply, e, row_root _ _ _ _ _ _ _ _ x8, val_main_v26_apply, val_main_v25_apply, e']
  rfl

/-- The second result at an index. -/
theorem hf_eq : val_main_v33 (F := Ideal) x0 x1 x2 x3 x4 x5 x6 x7 x8 (ix3 b r j) = hfOf (args x0 x1 x2 x3 x4 x5 x6 x7 x8) sel src b r j := by
  rw [val_main_v33_apply, val_main_v31_apply, row_normed, scale_eq, shift_eq]
  rfl

/-- The first result as a whole. -/
theorem xn_all : val_main_v14 (F := Ideal) x0 x1 x2 x3 x4 x5 x6 x7 = fun i => xnOf (args x0 x1 x2 x3 x4 x5 x6 x7 x8) sel src (i 0) (i 1) (i 2) := by
  funext i
  obtain ⟨b, r, j, rfl⟩ : ∃ (b : Fin 8) (r : Fin 2048) (j : Fin 1024), i = ix3 b r j := ⟨_, _, _, eq_ix3 i⟩
  exact xn_eq x0 x1 x2 x3 x4 x5 x6 x7 x8 b r j

/-- The second. -/
theorem hf_all : val_main_v33 (F := Ideal) x0 x1 x2 x3 x4 x5 x6 x7 x8 = fun i => hfOf (args x0 x1 x2 x3 x4 x5 x6 x7 x8) sel src (i 0) (i 1) (i 2) := by
  funext i
  obtain ⟨b, r, j, rfl⟩ : ∃ (b : Fin 8) (r : Fin 2048) (j : Fin 1024), i = ix3 b r j := ⟨_, _, _, eq_ix3 i⟩
  exact hf_eq x0 x1 x2 x3 x4 x5 x6 x7 x8 b r j

end Cert.OutRefIdeal.Array

end
-- ==== Proof.Out.Claims.lean ====
/-
  The claims about the output projection on the last layer: both programs run, leave their arguments alone and end
  with every counter at zero; on any arguments they leave the same two results.
-/
module

public import proofs.«01_k».proof.Defs
public import proofs.«01_k».proof.Proof.Out.Ref
public import proofs.«01_k».proof.Proof.Gen.Out.Frame
public import Idealize.ShloMosaic.Lib.Quiescent

@[expose] public section

noncomputable section

namespace Cert.Proof.Out

open Idealize.ShloMosaic Idealize.SL.Sem

attribute [local instance] Cert.Out.Gen.facts Cert.OutIdeal.Gen.facts Cert.OutRefIdeal.Gen.facts

theorem quiescent_kernel : Cert.quiescent_Out := fun m g _ => Cert.Out.Gen.frame m g

theorem quiescent_ideal : Cert.quiescent_OutIdeal := fun m g _ => Cert.OutIdeal.Gen.frame m g

/-- The reference runs, keeps its arguments and ends with every counter at zero. -/
theorem quiescent_reference : Cert.quiescent_OutRefIdeal := fun m g _ =>
  (θ_run _ _ _).mono (fun r h => ⟨fun c => (h c).2.2, sem_eq_zero_of_no_sems (by decide) r.2⟩) (Cert.OutRefIdeal.Value.run m g)

theorem preserves : Cert.preserves_Out_OutIdeal := trivial

theorem algebraic : Cert.algebraic_OutIdeal_OutRefIdeal := by
  intro m g m' g' _ hargs
  refine ⟨fun c => Cert.OutIdeal.Array.xn m c, fun c => Cert.OutIdeal.Array.hf m c, ?_, ?_⟩
  · refine (θ_run _ _ _).mono (fun r h c => ?_) (Cert.OutIdeal.Value.run_blocks m g)
    obtain ⟨h13, h14, _, _, _, _, rest⟩ := h c
    exact ⟨h13.trans (Cert.OutIdeal.Array.xn_final m c), h14.trans (Cert.OutIdeal.Array.hf_final m c), rest⟩
  · refine (θ_run _ _ _).mono (fun r h c => ?_) (Cert.OutRefIdeal.Value.run m' g')
    obtain ⟨a0, a1, a2, a3, a4, a5, a6, a7, a8, _⟩ := hargs c
    obtain ⟨h1, h2, rest⟩ := h c
    refine ⟨h1.trans ?_, h2.trans ?_, rest⟩
    · refine (Cert.OutRefIdeal.Read.val_main_v14_eq _ _ _ _ _ _ _ _).trans ?_
      rw [a0, a1, a2, a3, a4, a5, a6, a7]
      exact Cert.OutRefIdeal.Array.xn_all _ _ _ _ _ _ _ _ _
    · refine (Cert.OutRefIdeal.Read.val_main_v33_eq m' c).trans ?_
      rw [a0, a1, a2, a3, a4, a5, a6, a7, a8]
      exact Cert.OutRefIdeal.Array.hf_all _ _ _ _ _ _ _ _ _

end Cert.Proof.Out

end
-- ==== Proof.OutFirst.Block.lean ====
/-
  The output projection's two blocks on the first layer, read at an index: the same functions of a point's blocks as on the last.
-/
module

public import proofs.«01_k».proof.Proof.Out.Block
public import proofs.«01_k».proof.Proof.Gen.OutFirstIdeal.Value

@[expose] public section

set_option maxRecDepth 16384

noncomputable section

namespace Cert.OutFirstIdeal.Block

open Cert.OutIdeal.Block (xnRow hfRow pay7_ld md_ld n2_ld pay8_apply pay10_apply)
open Cert.OutFirstIdeal Cert.OutFirstIdeal.Gen Cert.OutRow Idealize.ShloMosaic Idealize.ShloMosaic.TcCoe Idealize.ShloMosaic.ValueIdx
open Idealize.ShloMosaic.Pipeline (Dat)

/-- A load of a whole staging buffer through a rectangle. -/
theorem ld_of_whole {sp : Space} {s : Shape} {e : EltTy} {a : Memref sig .tc sp s e} (h : a.IsWhole) (X : s.Idx → Elt Ideal e) (r : Rect s) :
    View.readAt (Elt Ideal) a.view r.toLoadRect (h.unread X) = View.ld (Val := Elt Ideal) (e' := e) X r :=
  funext fun x => h.readAt_unread X _ x

variable (m : (ℓ : Loc nD τ sig) → Buf (Elt Ideal) ℓ) (c : Dev nD) (t : Fin cfg0.N)

/-- What a point writes back of the first result. -/
theorem flushed13 : (dats m 0 c).flushed 13 t = k0_pay8 (k0_pay7 (F := Ideal) (iblk m c 0 t) (iblk m c 5 t) (iblk m c 1 t) (iblk m c 6 t) (iblk m c 2 t) (iblk m c 7 t) (iblk m c 4 t) (iblk m c 3 t)) := by
  by_cases h0 : t.val % 72 = 0
  · rw [Value.flushed13_A m c t h0]
    unfold out0_A_13
    rw [View.read_writes_eq_canon _ _ _ (cover0_A_13 _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    refine (View.canon_cons_unit_lit (S := S1x256x1024) _ _ _ (by decide)).trans (congrArg k0_pay8 ?_)
    simp only [kernelRun0_A.sl.r_2, ld_of_whole]
    exact pay7_ld _ _ _ _ _ _ _ _
  · rw [Value.flushed13_B m c t h0]
    unfold out0_B_13
    rw [View.read_writes_eq_canon _ _ _ (cover0_B_13 _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    refine (View.canon_cons_unit_lit (S := S1x256x1024) _ _ _ (by decide)).trans (congrArg k0_pay8 ?_)
    simp only [kernelRun0_B.sl.r_2, ld_of_whole]
    exact pay7_ld _ _ _ _ _ _ _ _

/-- What a point writes back of the second. -/
theorem flushed14 : (dats m 0 c).flushed 14 t = k0_pay10 (k0_pay5 (F := Ideal) (iblk m c 4 t)) (k0_pay6 (F := Ideal) (iblk m c 4 t))
    (k0_pay7 (F := Ideal) (iblk m c 0 t) (iblk m c 5 t) (iblk m c 1 t) (iblk m c 6 t) (iblk m c 2 t) (iblk m c 7 t) (iblk m c 4 t) (iblk m c 3 t)) (iblk m c 8 t) := by
  by_cases h0 : t.val % 72 = 0
  · rw [Value.flushed14_A m c t h0]
    unfold out0_A_14
    rw [View.read_writes_eq_canon _ _ _ (cover0_A_14 _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
    dsimp only
    refine (View.canon_cons_unit_lit (S := S1x256x1024) _ _ _ (by decide)).trans ?_
    simp only [kernelRun0_A.sl.r, kernelRun0_A.sl.r_1, kernelRun0_A.sl.r_2, ld_of_whole]
    exact congr (congr (congr (congrArg (fun a => k0_pay10 (k0_pay5 a)) (md_ld _)) (congrArg k0_pay6 (md_ld _))) (pay7_ld _ _ _ _ _ _ _ _)) (n2_ld _)
  · rw [Value.flushed14_B m c t h0]
    unfold out0_B_14
    rw [View.read_writes_eq_canon _ _ _ (cover0_B_14 _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
    dsimp only
    refine (View.canon_cons_unit_lit (S := S1x256x1024) _ _ _ (by decide)).trans ?_
    simp only [kernelRun0_B.sl.r, kernelRun0_B.sl.r_1, kernelRun0_B.sl.r_2, ld_of_whole]
    exact congr (congr (congr (congrArg (fun a => k0_pay10 (k0_pay5 a)) (md_ld _)) (congrArg k0_pay6 (md_ld _))) (pay7_ld _ _ _ _ _ _ _ _)) (n2_ld _)

/-- … read at a row and a column. -/
theorem flushed13_apply (r : Fin 256) (j : Fin 1024) : (dats m 0 c).flushed 13 t (ix3 (0 : Fin 1) r j)
    = xnRow (iblk m c 0 t) (iblk m c 5 t) (iblk m c 1 t) (iblk m c 6 t) (iblk m c 2 t) (iblk m c 7 t) (iblk m c 4 t) (iblk m c 3 t) r j :=
  (congrFun (flushed13 m c t) _).trans (pay8_apply _ _ _ _ _ _ _ _ r j)

theorem flushed14_apply (r : Fin 256) (j : Fin 1024) : (dats m 0 c).flushed 14 t (ix3 (0 : Fin 1) r j)
    = hfRow (iblk m c 0 t) (iblk m c 5 t) (iblk m c 1 t) (iblk m c 6 t) (iblk m c 2 t) (iblk m c 7 t) (iblk m c 4 t) (iblk m c 3 t) (iblk m c 8 t) r j :=
  (congrFun (flushed14 m c t) _).trans (pay10_apply _ _ _ _ _ _ _ _ _ r j)

end Cert.OutFirstIdeal.Block

end
-- ==== Proof.OutFirst.Array.lean ====
/-
  The output projection's two result arrays on the first layer as functions of its arguments: each point's blocks hold 256 rows of a batch,
  and the blocks cover the arrays.
-/
module

public import proofs.«01_k».proof.Proof.OutFirst.Block

@[expose] public section

noncomputable section

namespace Cert.OutFirstIdeal.Array

open Cert.OutFirstIdeal Cert.OutFirstIdeal.Gen Cert.OutRow Idealize.ShloMosaic Idealize.ShloMosaic.TcCoe Idealize.ShloMosaic.ValueIdx
open Idealize.ShloMosaic.Pipeline (Dat)
open Cert.OutIdeal.Block (xnRow hfRow)

variable (m : (ℓ : Loc nD τ sig) → Buf (Elt Ideal) ℓ) (c : Dev nD) (t : Fin cfg0.N)

/-- The arrays the call reads. -/
def args : Args 2304 where
  om := m ((c : Thread nD τ).loc main_arg0)
  oc := m ((c : Thread nD τ).loc main_arg1)
  os := m ((c : Thread nD τ).loc main_arg2)
  x := m ((c : Thread nD τ).loc main_arg3)
  md := m ((c : Thread nD τ).loc main_arg4)
  w1 := m ((c : Thread nD τ).loc main_arg5)
  w2 := m ((c : Thread nD τ).loc main_arg6)
  w3 := m ((c : Thread nD τ).loc main_arg7)
  n2 := m ((c : Thread nD τ).loc main_arg8)

/-- The batch a point works on. -/
def batch : Fin 8 := ⟨t.val / 9, by have : t.val < 72 := t.isLt; omega⟩

/-- The array's row behind a row of a point's block. -/
def row (i : Fin 256) : Fin 2304 := ⟨t.val % 9 * 256 + i.val, by omega⟩

/-- The modulation of a row: the first 256 have their own. -/
def sel (r : Fin 2304) : Fin 2 := if r.val < 256 then 0 else 1

/-- The row of the inputs a row continues. -/
def src (r : Fin 2304) : Fin 2304 := r

theorem sel_row (i : Fin 256) : ((sel (row t i)).val : ℕ) = min (t.val % 9) 1 := by
  unfold sel row
  dsimp only
  split <;> simp only [Fin.val_zero, Fin.val_one] <;> omega

/-- The blocks of a point, as the array indices they are read from. -/
theorem index0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)

theorem index1 : ∀ t : Fin cfg0.N, win0_1.index t 0 = t.val / 9 ∧ win0_1.index t 1 = t.val % 9 ∧ win0_1.index t 2 = 0 :=
  (by decide +kernel : ∀ t : Fin grid0.N, win0_1.index t 0 = t.val / 9 ∧ win0_1.index t 1 = t.val % 9 ∧ win0_1.index t 2 = 0)

theorem index2 : ∀ t : Fin cfg0.N, win0_2.index t 0 = t.val / 9 ∧ win0_2.index t 1 = t.val % 9 ∧ win0_2.index t 2 = 0 :=
  (by decide +kernel : ∀ t : Fin grid0.N, win0_2.index t 0 = t.val / 9 ∧ win0_2.index t 1 = t.val % 9 ∧ win0_2.index t 2 = 0)

theorem index3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)

theorem index4 : ∀ t : Fin cfg0.N, win0_4.index t 0 = t.val / 9 ∧ win0_4.index t 1 = min (t.val % 9) 1 ∧ win0_4.index t 2 = 0 ∧ win0_4.index t 3 = 0 :=
  (by decide +kernel : ∀ t : Fin grid0.N, win0_4.index t 0 = t.val / 9 ∧ win0_4.index t 1 = min (t.val % 9) 1 ∧ win0_4.index t 2 = 0 ∧ win0_4.index t 3 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = 0 ∧ win0_6.index t 1 = 0 :=
  (by decide +kernel : ∀ t : Fin grid0.N, win0_6.index t 0 = 0 ∧ win0_6.index t 1 = 0)

theorem index7 : ∀ t : Fin cfg0.N, win0_7.index t 0 = 0 ∧ win0_7.index t 1 = 0 :=
  (by decide +kernel : ∀ t : Fin grid0.N, win0_7.index t 0 = 0 ∧ win0_7.index t 1 = 0)

theorem index8 : ∀ t : Fin cfg0.N, win0_8.index t 0 = 0 ∧ win0_8.index t 1 = 0 :=
  (by decide +kernel : ∀ t : Fin grid0.N, win0_8.index t 0 = 0 ∧ win0_8.index t 1 = 0)

theorem index13 : ∀ t : Fin cfg0.N, win0_13.index t 0 = t.val / 9 ∧ win0_13.index t 1 = t.val % 9 ∧ win0_13.index t 2 = 0 :=
  (by decide +kernel : ∀ t : Fin grid0.N, win0_13.index t 0 = t.val / 9 ∧ win0_13.index t 1 = t.val % 9 ∧ win0_13.index t 2 = 0)

theorem index14 : ∀ t : Fin cfg0.N, win0_14.index t 0 = t.val / 9 ∧ win0_14.index t 1 = t.val % 9 ∧ win0_14.index t 2 = 0 :=
  (by decide +kernel : ∀ t : Fin grid0.N, win0_14.index t 0 = t.val / 9 ∧ win0_14.index t 1 = t.val % 9 ∧ win0_14.index t 2 = 0)

theorem om_read (i : Fin 256) (k : Fin 512) : (iblk m c 0 t : Vec Ideal S1x256x512 .bf16) (ix3 (0 : Fin 1) i k) = (args m c).om (ix3 (batch t) (row t i) k) := by
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 9; rw [e0]; omega
  | ⟨1, _⟩ => show win0_0.index t 1 * 256 + 1 * i.val = t.val % 9 * 256 + i.val; rw [e1]; omega
  | ⟨2, _⟩ => show win0_0.index t 2 * 512 + 1 * k.val = k.val; rw [e2]; omega

theorem oc_read (i : Fin 256) (k : Fin 256) : (iblk m c 1 t : Vec Ideal S1x256x256 .bf16) (ix3 (0 : Fin 1) i k) = (args m c).oc (ix3 (batch t) (row t i) k) := by
  obtain ⟨e0, e1, e2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 9; rw [e0]; omega
  | ⟨1, _⟩ => show win0_1.index t 1 * 256 + 1 * i.val = t.val % 9 * 256 + i.val; rw [e1]; omega
  | ⟨2, _⟩ => show win0_1.index t 2 * 256 + 1 * k.val = k.val; rw [e2]; omega

theorem os_read (i : Fin 256) (k : Fin 512) : (iblk m c 2 t : Vec Ideal S1x256x512 .bf16) (ix3 (0 : Fin 1) i k) = (args m c).os (ix3 (batch t) (row t i) k) := by
  obtain ⟨e0, e1, e2⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 9; rw [e0]; omega
  | ⟨1, _⟩ => show win0_2.index t 1 * 256 + 1 * i.val = t.val % 9 * 256 + i.val; rw [e1]; omega
  | ⟨2, _⟩ => show win0_2.index t 2 * 512 + 1 * k.val = k.val; rw [e2]; omega

theorem x_read (i : Fin 256) (k : Fin 1024) : (iblk m c 3 t : Vec Ideal S1x256x1024 .f32) (ix3 (0 : Fin 1) i k) = (args m c).x (ix3 (batch t) (src (row t i)) k) := by
  obtain ⟨e0, e1, e2⟩ := index3 t
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 9; rw [e0]; omega
  | ⟨1, _⟩ => show win0_3.index t 1 * 256 + 1 * i.val = t.val % 9 * 256 + i.val; rw [e1]; omega
  | ⟨2, _⟩ => show win0_3.index t 2 * 1024 + 1 * k.val = k.val; rw [e2]; omega

theorem md_read (i : Fin 256) (u : Fin 6) (k : Fin 1024) : (iblk m c 4 t : Vec Ideal S1x1x6x1024 .f32) (ix4 (0 : Fin 1) (0 : Fin 1) u k) = (args m c).md (ix4 (batch t) (sel (row t i)) u k) := by
  obtain ⟨e0, e1, e2, e3⟩ := index4 t
  unfold iblk
  rw [View.read_apply]
  show V m c main_arg4 _ = m (c.tc.loc main_arg4) _
  unfold V
  congr 1
  funext a
  apply Fin.ext
  match a with
  | ⟨0, _⟩ => show win0_4.index t 0 * 1 + 1 * 0 = t.val / 9; rw [e0]; omega
  | ⟨1, _⟩ => show win0_4.index t 1 * 1 + 1 * 0 = (sel (row t i)).val; rw [e1, sel_row]; omega
  | ⟨2, _⟩ => show win0_4.index t 2 * 6 + 1 * u.val = u.val; rw [e2]; omega
  | ⟨3, _⟩ => show win0_4.index t 3 * 1024 + 1 * k.val = k.val; rw [e3]; omega

theorem w1_read (i : Fin 512) (k : Fin 1024) : (iblk m c 5 t : Vec Ideal S512x1024 .bf16) (ix2 i k) = (args m c).w1 (ix2 i k) := by
  obtain ⟨e0, e1⟩ := index5 t
  unfold iblk
  rw [View.read_apply]
  show V m c main_arg5 _ = m (c.tc.loc main_arg5) _
  unfold V
  congr 1
  funext a
  apply Fin.ext
  match a with
  | ⟨0, _⟩ => show win0_5.index t 0 * 512 + 1 * i.val = i.val; rw [e0]; omega
  | ⟨1, _⟩ => show win0_5.index t 1 * 1024 + 1 * k.val = k.val; rw [e1]; omega

theorem w2_read (i : Fin 256) (k : Fin 1024) : (iblk m c 6 t : Vec Ideal S256x1024 .bf16) (ix2 i k) = (args m c).w2 (ix2 i k) := by
  obtain ⟨e0, e1⟩ := index6 t
  unfold iblk
  rw [View.read_apply]
  show V m c main_arg6 _ = m (c.tc.loc main_arg6) _
  unfold V
  congr 1
  funext a
  apply Fin.ext
  match a with
  | ⟨0, _⟩ => show win0_6.index t 0 * 256 + 1 * i.val = i.val; rw [e0]; omega
  | ⟨1, _⟩ => show win0_6.index t 1 * 1024 + 1 * k.val = k.val; rw [e1]; omega

theorem w3_read (i : Fin 512) (k : Fin 1024) : (iblk m c 7 t : Vec Ideal S512x1024 .bf16) (ix2 i k) = (args m c).w3 (ix2 i k) := by
  obtain ⟨e0, e1⟩ := index7 t
  unfold iblk
  rw [View.read_apply]
  show V m c main_arg7 _ = m (c.tc.loc main_arg7) _
  unfold V
  congr 1
  funext a
  apply Fin.ext
  match a with
  | ⟨0, _⟩ => show win0_7.index t 0 * 512 + 1 * i.val = i.val; rw [e0]; omega
  | ⟨1, _⟩ => show win0_7.index t 1 * 1024 + 1 * k.val = k.val; rw [e1]; omega

theorem n2_read (k : Fin 1024) : (iblk m c 8 t : Vec Ideal S1x1024 .f32) (ix2 (0 : Fin 1) k) = (args m c).n2 (ix2 (0 : Fin 1) k) := by
  obtain ⟨e0, e1⟩ := index8 t
  unfold iblk
  rw [View.read_apply]
  show V m c main_arg8 _ = m (c.tc.loc main_arg8) _
  unfold V
  congr 1
  funext a
  apply Fin.ext
  match a with
  | ⟨0, _⟩ => show win0_8.index t 0 * 1 + 1 * 0 = 0; rw [e0]
  | ⟨1, _⟩ => show win0_8.index t 1 * 1024 + 1 * k.val = k.val; rw [e1]; omega

/-- A row of a point's first block is a row of the first result. -/
theorem xn_row (i : Fin 256) : xnRow (iblk m c 0 t) (iblk m c 5 t) (iblk m c 1 t) (iblk m c 6 t) (iblk m c 2 t) (iblk m c 7 t) (iblk m c 4 t) (iblk m c 3 t) i = xnOf (args m c) sel src (batch t) (row t i) := by
  unfold xnRow xnOf
  simp only [om_read, oc_read, os_read, x_read, md_read m c t i, w1_read, w2_read, w3_read]

/-- A row of its second block is a row of the second. -/
theorem hf_row (i : Fin 256) : hfRow (iblk m c 0 t) (iblk m c 5 t) (iblk m c 1 t) (iblk m c 6 t) (iblk m c 2 t) (iblk m c 7 t) (iblk m c 4 t) (iblk m c 3 t) (iblk m c 8 t) i = hfOf (args m c) sel src (batch t) (row t i) := by
  unfold hfRow hfOf
  rw [xn_row]
  simp only [md_read m c t i, n2_read]

/-- The result arrays' functions of the launched memory. -/
def xn : S8x2304x1024.Idx → EReal := fun i => xnOf (args m c) sel src (i 0) (i 1) (i 2)

def hf : S8x2304x1024.Idx → EReal := fun i => hfOf (args m c) sel src (i 0) (i 1) (i 2)

/-- What a point writes back is its block of the result. -/
theorem xn_flushed : (dats m 0 c).flushed 13 t = ((cfg0.win 13).blk t).view.read (Elt Ideal) (xn m c) := by
  obtain ⟨e0, e1, e2⟩ := index13 t
  funext j
  rw [View.read_apply]
  obtain ⟨u, i, n, rfl⟩ : ∃ (u : Fin 1) (i : Fin 256) (n : Fin 1024), j = ix3 u i n := ⟨_, _, _, eq_ix3 j⟩
  obtain rfl : u = 0 := Subsingleton.elim _ _
  refine (Block.flushed13_apply m c t i n).trans ((congrFun (xn_row m c t i) n).trans ?_)
  have ej : ((cfg0.win 13).blk t).view.emb (ix3 (0 : Fin 1) i n) = ix3 (batch t) (row t i) n := by
    funext a
    apply Fin.ext
    match a with
    | ⟨0, _⟩ => show win0_13.index t 0 * 1 + 1 * 0 = t.val / 9; rw [e0]; omega
    | ⟨1, _⟩ => show win0_13.index t 1 * 256 + 1 * i.val = t.val % 9 * 256 + i.val; rw [e1]; omega
    | ⟨2, _⟩ => show win0_13.index t 2 * 1024 + 1 * n.val = n.val; rw [e2]; omega
  exact (congrArg (xn m c) ej).symm

/-- Every index of the result lies in the block of a point. -/
theorem xn_cover (i : S8x2304x1024.Idx) : ∃ t : Fin cfg0.N, (cfg0.win 13).flush t = true ∧ i ∈ ((cfg0.win 13).blk t).view.set := by
  have h0 : (i 0 : Nat) < 8 := (i 0).isLt
  have h1 : (i 1 : Nat) < 2304 := (i 1).isLt
  have h2 : (i 2 : Nat) < 1024 := (i 2).isLt
  have hlt : (i 0 : Nat) * 9 + (i 1 : Nat) / 256 < 72 := by omega
  obtain ⟨t, ht⟩ : ∃ t : Fin cfg0.N, t.val = (i 0 : Nat) * 9 + (i 1 : Nat) / 256 := ⟨⟨_, hlt⟩, rfl⟩
  obtain ⟨e0, e1, e2⟩ := index13 t
  refine ⟨t, flush0_13 _, ?_⟩
  show i ∈ ((View.whole main_v0_0).slice (win0_13.rect t)).set
  rw [View.set_slice_whole, Rect.mem_set_unit]
  intro a
  match a with
  | ⟨0, _⟩ =>
    show win0_13.index t 0 * 1 ≤ (i 0 : Nat) ∧ (i 0 : Nat) < win0_13.index t 0 * 1 + 1
    rw [e0]; omega
  | ⟨1, _⟩ =>
    show win0_13.index t 1 * 256 ≤ (i 1 : Nat) ∧ (i 1 : Nat) < win0_13.index t 1 * 256 + 256
    rw [e1]; omega
  | ⟨2, _⟩ =>
    show win0_13.index t 2 * 1024 ≤ (i 2 : Nat) ∧ (i 2 : Nat) < win0_13.index t 2 * 1024 + 1024
    rw [e2]; omega

/-- The array the run leaves. -/
theorem xn_final : (dats m 0 c).arrAt 13 cfg0.N = xn m c :=
  (dats m 0 c).arrAt_eq_of_cover 13 (xn m c) (fun t _ => xn_flushed m c t) (xn_cover)

/-- What a point writes back is its block of the result. -/
theorem hf_flushed : (dats m 0 c).flushed 14 t = ((cfg0.win 14).blk t).view.read (Elt Ideal) (hf m c) := by
  obtain ⟨e0, e1, e2⟩ := index14 t
  funext j
  rw [View.read_apply]
  obtain ⟨u, i, n, rfl⟩ : ∃ (u : Fin 1) (i : Fin 256) (n : Fin 1024), j = ix3 u i n := ⟨_, _, _, eq_ix3 j⟩
  obtain rfl : u = 0 := Subsingleton.elim _ _
  refine (Block.flushed14_apply m c t i n).trans ((congrFun (hf_row m c t i) n).trans ?_)
  have ej : ((cfg0.win 14).blk t).view.emb (ix3 (0 : Fin 1) i n) = ix3 (batch t) (row t i) n := by
    funext a
    apply Fin.ext
    match a with
    | ⟨0, _⟩ => show win0_14.index t 0 * 1 + 1 * 0 = t.val / 9; rw [e0]; omega
    | ⟨1, _⟩ => show win0_14.index t 1 * 256 + 1 * i.val = t.val % 9 * 256 + i.val; rw [e1]; omega
    | ⟨2, _⟩ => show win0_14.index t 2 * 1024 + 1 * n.val = n.val; rw [e2]; omega
  exact (congrArg (hf m c) ej).symm

/-- Every index of the result lies in the block of a point. -/
theorem hf_cover (i : S8x2304x1024.Idx) : ∃ t : Fin cfg0.N, (cfg0.win 14).flush t = true ∧ i ∈ ((cfg0.win 14).blk t).view.set := by
  have h0 : (i 0 : Nat) < 8 := (i 0).isLt
  have h1 : (i 1 : Nat) < 2304 := (i 1).isLt
  have h2 : (i 2 : Nat) < 1024 := (i 2).isLt
  have hlt : (i 0 : Nat) * 9 + (i 1 : Nat) / 256 < 72 := by omega
  obtain ⟨t, ht⟩ : ∃ t : Fin cfg0.N, t.val = (i 0 : Nat) * 9 + (i 1 : Nat) / 256 := ⟨⟨_, hlt⟩, rfl⟩
  obtain ⟨e0, e1, e2⟩ := index14 t
  refine ⟨t, flush0_14 _, ?_⟩
  show i ∈ ((View.whole main_v0_1).slice (win0_14.rect t)).set
  rw [View.set_slice_whole, Rect.mem_set_unit]
  intro a
  match a with
  | ⟨0, _⟩ =>
    show win0_14.index t 0 * 1 ≤ (i 0 : Nat) ∧ (i 0 : Nat) < win0_14.index t 0 * 1 + 1
    rw [e0]; omega
  | ⟨1, _⟩ =>
    show win0_14.index t 1 * 256 ≤ (i 1 : Nat) ∧ (i 1 : Nat) < win0_14.index t 1 * 256 + 256
    rw [e1]; omega
  | ⟨2, _⟩ =>
    show win0_14.index t 2 * 1024 ≤ (i 2 : Nat) ∧ (i 2 : Nat) < win0_14.index t 2 * 1024 + 1024
    rw [e2]; omega

/-- The array the run leaves. -/
theorem hf_final : (dats m 0 c).arrAt 14 cfg0.N = hf m c :=
  (dats m 0 c).arrAt_eq_of_cover 14 (hf m c) (fun t _ => hf_flushed m c t) (hf_cover)

end Cert.OutFirstIdeal.Array

end
-- ==== Proof.OutFirst.Ref.lean ====
/-
  The reference of the output projection on the first layer, read at an index.
-/
module

public import proofs.«01_k».proof.Proof.OutFirst.Array
public import proofs.«01_k».proof.Proof.Prep.RefRows
public import proofs.«01_k».proof.Proof.Out.Join
public import proofs.«01_k».proof.Proof.Gen.OutFirstRefIdeal.Run
public import proofs.«01_k».proof.Proof.Gen.OutFirstRefIdeal.Read

@[expose] public section

set_option maxRecDepth 16384

noncomputable section

namespace Cert.OutFirstRefIdeal.Array

open Cert.OutFirstRefIdeal Cert.OutFirstRefIdeal.Gen Cert.OutFirstRefIdeal.Read Cert.PrepRow Cert.OutRow Idealize.ShloMosaic Idealize.ShloMosaic.TcCoe Idealize.ShloMosaic.ValueIdx
open Cert.OutFirstIdeal.Array (sel src)

variable (x0 : (⟨S8x2304x512, .bf16⟩ : BufTy).Contents (Elt Ideal)) (x1 : (⟨S8x2304x256, .bf16⟩ : BufTy).Contents (Elt Ideal))
  (x2 : (⟨S8x2304x512, .bf16⟩ : BufTy).Contents (Elt Ideal)) (x3 : (⟨S8x2304x1024, .f32⟩ : BufTy).Contents (Elt Ideal))
  (x4 : (⟨S8x2x6x1024, .f32⟩ : BufTy).Contents (Elt Ideal)) (x5 : (⟨S512x1024, .bf16⟩ : BufTy).Contents (Elt Ideal))
  (x6 : (⟨S256x1024, .bf16⟩ : BufTy).Contents (Elt Ideal)) (x7 : (⟨S512x1024, .bf16⟩ : BufTy).Contents (Elt Ideal))
  (x8 : (⟨S1x1024, .f32⟩ : BufTy).Contents (Elt Ideal)) (b : Fin 8) (r : Fin 2304) (j : Fin 1024)

/-- The arrays the reference reads. -/
abbrev args : Args 2304 := ⟨x0, x1, x2, x3, x4, x5, x6, x7, x8⟩

theorem mask_eq : val_main_v3 (F := Ideal) (ix3 (0 : Fin 1) r (0 : Fin 1)) = if r.val < 256 then 1#1 else 0#1 := by
  rw [val_main_v3_apply, val_main_v2_apply, val_main_v0_apply, val_main_v1_apply, val_main_c_apply]
  exact Cert.PrepRefIdeal.Array.early r

theorem gate_eq : val_main_v8 (F := Ideal) x4 (ix3 b r j) = x4 (ix4 b (sel r) (2 : Fin 6) j) := by
  have e0 : idx_main_call0_v0 (ix3 b r j) = ix3 (0 : Fin 1) r (0 : Fin 1) := funext fun a => by
    match a with
    | ⟨0, _⟩ => rfl
    | ⟨1, _⟩ => rfl
    | ⟨2, _⟩ => rfl

  have e1 : idx_main_v4 (idx_main_v5 (idx_main_call0_v1 (ix3 b r j))) = ix4 b (0 : Fin 2) (2 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  have e2 : idx_main_v6 (idx_main_v7 (idx_main_call0_v2 (ix3 b r j))) = ix4 b (1 : Fin 2) (2 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  rw [val_main_v8_apply, val_main_call0_v0_apply, e0, mask_eq, val_main_call0_v1_apply, val_main_v5_apply, val_main_v4_apply, e1,
    val_main_call0_v2_apply, val_main_v7_apply, val_main_v6_apply, e2]
  unfold sel
  by_cases h : r.val < 256
  · rw [if_pos h, if_pos h]; rfl
  · rw [if_neg h, if_neg h]; rfl

theorem shift_eq : val_main_v13 (F := Ideal) x4 (ix3 b r j) = x4 (ix4 b (sel r) (3 : Fin 6) j) := by
  have e0 : idx_main_call1_v0 (ix3 b r j) = ix3 (0 : Fin 1) r (0 : Fin 1) := funext fun a => by
    match a with
    | ⟨0, _⟩ => rfl
    | ⟨1, _⟩ => rfl
    | ⟨2, _⟩ => rfl

  have e1 : idx_main_v9 (idx_main_v10 (idx_main_call1_v1 (ix3 b r j))) = ix4 b (0 : Fin 2) (3 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  have e2 : idx_main_v11 (idx_main_v12 (idx_main_call1_v2 (ix3 b r j))) = ix4 b (1 : Fin 2) (3 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  rw [val_main_v13_apply, val_main_call1_v0_apply, e0, mask_eq, val_main_call1_v1_apply, val_main_v10_apply, val_main_v9_apply, e1,
    val_main_call1_v2_apply, val_main_v12_apply, val_main_v11_apply, e2]
  unfold sel
  by_cases h : r.val < 256
  · rw [if_pos h, if_pos h]; rfl
  · rw [if_neg h, if_neg h]; rfl

theorem scale_eq : val_main_v18 (F := Ideal) x4 (ix3 b r j) = x4 (ix4 b (sel r) (4 : Fin 6) j) := by
  have e0 : idx_main_call2_v0 (ix3 b r j) = ix3 (0 : Fin 1) r (0 : Fin 1) := funext fun a => by
    match a with
    | ⟨0, _⟩ => rfl
    | ⟨1, _⟩ => rfl
    | ⟨2, _⟩ => rfl

  have e1 : idx_main_v14 (idx_main_v15 (idx_main_call2_v1 (ix3 b r j))) = ix4 b (0 : Fin 2) (4 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  have e2 : idx_main_v16 (idx_main_v17 (idx_main_call2_v2 (ix3 b r j))) = ix4 b (1 : Fin 2) (4 : Fin 6) j := funext fun a => by
    match a with
    | ⟨0, _⟩ => exact Fin.ext (by show ((b.val * 1 + 0) * 1024 + j.val) / 1024 = b.val; omega)
    | ⟨1, _⟩ => rfl
    | ⟨2, _⟩ => rfl
    | ⟨3, _⟩ => exact Fin.ext (by show ((b.val * 1 + 0) * 1024 + j.val) % 1024 = j.val; omega)

  rw [val_main_v18_apply, val_main_call2_v0_apply, e0, mask_eq, val_main_call2_v1_apply, val_main_v15_apply, val_main_v14_apply, e1,
    val_main_call2_v2_apply, val_main_v17_apply, val_main_v16_apply, e2]
  unfold sel
  by_cases h : r.val < 256
  · rw [if_pos h, if_pos h]; rfl
  · rw [if_neg h, if_neg h]; rfl

/-- The projection of the joined arrays. -/
theorem mix_eq : val_main_v23 (F := Ideal) x0 x1 x2 x5 x6 x7 (ix3 b r j)
    = project (fun k => x0 (ix3 b r k)) (fun k j => x5 (ix2 k j)) j + project (fun k => x1 (ix3 b r k)) (fun k j => x6 (ix2 k j)) j
      + project (fun k => x2 (ix3 b r k)) (fun k j => x7 (ix2 k j)) j := by
  rw [val_main_v23_apply]
  refine Eq.trans (Finset.sum_congr rfl fun k _ => ?_)
    (joined_sum x0 x1 x2 concatenates_S8x2304x512_S8x2304x256_S8x2304x512_S8x2304x1280_d2 x5 x6 x7 concatenates_S512x1024_S256x1024_S512x1024_S1280x1024_d0 b r j)
  have e : lidx_main_v23 (ix3 b r j) k = ix3 b r k := funext fun a => by
    match a with
    | ⟨0, _⟩ => rfl
    | ⟨1, _⟩ => rfl
    | ⟨2, _⟩ => rfl

  have e' : ridx_main_v23 (ix3 b r j) k = ix2 k j := funext fun a => by
    match a with
    | ⟨0, _⟩ => rfl
    | ⟨1, _⟩ => rfl

  rw [e, e', val_main_v20_apply, val_main_v22_apply]
  rfl

/-- The first result at an index. -/
theorem xn_eq : val_main_v25 (F := Ideal) x0 x1 x2 x3 x4 x5 x6 x7 (ix3 b r j) = xnOf (args x0 x1 x2 x3 x4 x5 x6 x7 x8) sel src b r j := by
  rw [val_main_v25_apply, val_main_v24_apply, gate_eq, mix_eq]
  rfl

theorem row_sum : val_main_v27 (F := Ideal) x0 x1 x2 x3 x4 x5 x6 x7 (ix2 b r) = sumSq (xnOf (args x0 x1 x2 x3 x4 x5 x6 x7 x8) sel src b r) := by
  rw [val_main_v27_apply, val_main_cst_apply]
  have e0 : (FloatOps.ofBits (F := Ideal) .f32 0x00000000#32 : EReal) = 0 := Idealize.ShloMosaic.Ideal.ofBits_zero_f32
  refine (congrArg (· + _) e0).trans ((zero_add _).trans ?_)
  unfold sumSq
  refine Finset.sum_congr rfl fun k _ => ?_
  have e : idx_main_v27 (ix2 b r) k = ix3 b r k := funext fun a => by
    match a with
    | ⟨0, _⟩ => rfl
    | ⟨1, _⟩ => rfl
    | ⟨2, _⟩ => rfl

  rw [e, val_main_v26_apply, xn_eq _ _ _ _ _ _ _ _ x8]
  rfl

theorem row_root : val_main_v33 (F := Ideal) x0 x1 x2 x3 x4 x5 x6 x7 (ix3 b r (0 : Fin 1)) = root (sumSq (xnOf (args x0 x1 x2 x3 x4 x5 x6 x7 x8) sel src b r)) (Ideal.ofBits .f32 0x44800000#32) := by
  have e : idx_main_v28 (ix3 b r (0 : Fin 1)) = ix2 b r := funext fun a => by
    match a with
    | ⟨0, _⟩ => rfl
    | ⟨1, _⟩ => rfl

  rw [val_main_v33_apply, val_main_v32_apply, val_main_v30_apply, val_main_v28_apply, e, row_sum _ _ _ _ _ _ _ _ x8, val_main_v29_apply,
    val_main_cst_0_apply, val_main_v31_apply, val_main_cst_1_apply]
  rfl

theorem row_normed : val_main_v38 (F := Ideal) x0 x1 x2 x3 x4 x5 x6 x7 x8 (ix3 b r j)
    = normed (Ideal.ofBits .f32 0x44800000#32) (xnOf (args x0 x1 x2 x3 x4 x5 x6 x7 x8) sel src b r) (fun k => x8 (ix2 (0 : Fin 1) k)) j := by
  have e : idx_main_v34 (ix3 b r j) = ix3 b r (0 : Fin 1) := funext fun a => by
    match a with
    | ⟨0, _⟩ => rfl
    | ⟨1, _⟩ => rfl
    | ⟨2, _⟩ => rfl

  have e' : idx_main_v36 (idx_main_v37 (ix3 b r j)) = ix2 (0 : Fin 1) j := funext fun a => by
    match a with
    | ⟨0, _⟩ => rfl
    | ⟨1, _⟩ => rfl

  rw [val_main_v38_apply, val_main_v35_apply, xn_eq _ _ _ _ _ _ _ _ x8, val_main_v34_apply, e, row_root _ _ _ _ _ _ _ _ x8, val_main_v37_apply, val_main_v36_apply, e']
  rfl

/-- The second result at an index. -/
theorem hf_eq : val_main_v42 (F := Ideal) x0 x1 x2 x3 x4 x5 x6 x7 x8 (ix3 b r j) = hfOf (args x0 x1 x2 x3 x4 x5 x6 x7 x8) sel src b r j := by
  have e1 : (FloatOps.ofBits (F := Ideal) .f32 0x3F800000#32 : EReal) = 1 := ofBits_one
  rw [val_main_v42_apply, val_main_v41_apply, row_normed, val_main_v40_apply, val_main_v39_apply, val_main_cst_2_apply, scale_eq, shift_eq, e1]
  rfl

/-- The first result as a whole. -/
theorem xn_all : val_main_v25 (F := Ideal) x0 x1 x2 x3 x4 x5 x6 x7 = fun i => xnOf (args x0 x1 x2 x3 x4 x5 x6 x7 x8) sel src (i 0) (i 1) (i 2) := by
  funext i
  obtain ⟨b, r, j, rfl⟩ : ∃ (b : Fin 8) (r : Fin 2304) (j : Fin 1024), i = ix3 b r j := ⟨_, _, _, eq_ix3 i⟩
  exact xn_eq x0 x1 x2 x3 x4 x5 x6 x7 x8 b r j

/-- The second. -/
theorem hf_all : val_main_v42 (F := Ideal) x0 x1 x2 x3 x4 x5 x6 x7 x8 = fun i => hfOf (args x0 x1 x2 x3 x4 x5 x6 x7 x8) sel src (i 0) (i 1) (i 2) := by
  funext i
  obtain ⟨b, r, j, rfl⟩ : ∃ (b : Fin 8) (r : Fin 2304) (j : Fin 1024), i = ix3 b r j := ⟨_, _, _, eq_ix3 i⟩
  exact hf_eq x0 x1 x2 x3 x4 x5 x6 x7 x8 b r j

end Cert.OutFirstRefIdeal.Array

end
-- ==== Proof.OutFirst.Claims.lean ====
/-
  The claims about the output projection on the first layer: both programs run, leave their arguments alone and end
  with every counter at zero; on any arguments they leave the same two results.
-/
module

public import proofs.«01_k».proof.Defs
public import proofs.«01_k».proof.Proof.OutFirst.Ref
public import proofs.«01_k».proof.Proof.Gen.OutFirst.Frame
public import Idealize.ShloMosaic.Lib.Quiescent

@[expose] public section

noncomputable section

namespace Cert.Proof.OutFirst

open Idealize.ShloMosaic Idealize.SL.Sem

attribute [local instance] Cert.OutFirst.Gen.facts Cert.OutFirstIdeal.Gen.facts Cert.OutFirstRefIdeal.Gen.facts

theorem quiescent_kernel : Cert.quiescent_OutFirst := fun m g _ => Cert.OutFirst.Gen.frame m g

theorem quiescent_ideal : Cert.quiescent_OutFirstIdeal := fun m g _ => Cert.OutFirstIdeal.Gen.frame m g

/-- The reference runs, keeps its arguments and ends with every counter at zero. -/
theorem quiescent_reference : Cert.quiescent_OutFirstRefIdeal := fun m g _ =>
  (θ_run _ _ _).mono (fun r h => ⟨fun c => (h c).2.2, sem_eq_zero_of_no_sems (by decide) r.2⟩) (Cert.OutFirstRefIdeal.Value.run m g)

theorem preserves : Cert.preserves_OutFirst_OutFirstIdeal := trivial

theorem algebraic : Cert.algebraic_OutFirstIdeal_OutFirstRefIdeal := by
  intro m g m' g' _ hargs
  refine ⟨fun c => Cert.OutFirstIdeal.Array.xn m c, fun c => Cert.OutFirstIdeal.Array.hf m c, ?_, ?_⟩
  · refine (θ_run _ _ _).mono (fun r h c => ?_) (Cert.OutFirstIdeal.Value.run_blocks m g)
    obtain ⟨h13, h14, _, _, _, _, rest⟩ := h c
    exact ⟨h13.trans (Cert.OutFirstIdeal.Array.xn_final m c), h14.trans (Cert.OutFirstIdeal.Array.hf_final m c), rest⟩
  · refine (θ_run _ _ _).mono (fun r h c => ?_) (Cert.OutFirstRefIdeal.Value.run m' g')
    obtain ⟨a0, a1, a2, a3, a4, a5, a6, a7, a8, _⟩ := hargs c
    obtain ⟨h1, h2, rest⟩ := h c
    refine ⟨h1.trans ?_, h2.trans ?_, rest⟩
    · refine (Cert.OutFirstRefIdeal.Read.val_main_v25_eq _ _ _ _ _ _ _ _).trans ?_
      rw [a0, a1, a2, a3, a4, a5, a6, a7]
      exact Cert.OutFirstRefIdeal.Array.xn_all _ _ _ _ _ _ _ _ _
    · refine (Cert.OutFirstRefIdeal.Read.val_main_v42_eq m' c).trans ?_
      rw [a0, a1, a2, a3, a4, a5, a6, a7, a8]
      exact Cert.OutFirstRefIdeal.Array.hf_all _ _ _ _ _ _ _ _ _

end Cert.Proof.OutFirst

end
-- ==== Proof.lean ====
/-
  Every claim of the certificate, each proved in the module its name says.
-/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaIdeal.Value
public import proofs.«01_k».proof.Proof.Gen.MlaRefIdeal
public import proofs.«01_k».proof.Proof.Gen.MlaRefIdeal.Run
public import proofs.«01_k».proof.Proof.Gen.MlaRefIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.ExpertsLast
public import proofs.«01_k».proof.Proof.Gen.ExpertsLast.Skeleton
public import proofs.«01_k».proof.Proof.Gen.ExpertsLast.Launch
public import proofs.«01_k».proof.Proof.Gen.ExpertsLastIdeal
public import proofs.«01_k».proof.Proof.Gen.ExpertsLastIdeal.Skeleton
public import proofs.«01_k».proof.Proof.Gen.ExpertsLastIdeal.Launch
public import proofs.«01_k».proof.Proof.Gen.ExpertsLastRefIdeal
public import proofs.«01_k».proof.Proof.Gen.ExpertsLastRefIdeal.Run
public import proofs.«01_k».proof.Proof.Gen.ExpertsLastRefIdeal.Read
public import proofs.«01_k».proof.Proof.Gen.MlaFirst
public import proofs.«01_k».proof.Proof.Gen.MlaFirst.Skeleton
public import proofs.«01_k».proof.Proof.Gen.MlaFirst.Launch
public import proofs.«01_k».proof.Proof.Gen.MlaFirst.Points
public import proofs.«01_k».proof.Proof.Gen.MlaFirst.Frame
public import proofs.«01_k».proof.Proof.Gen.MlaFirstIdeal
public import proofs.«01_k».proof.Proof.Gen.MlaFirstIdeal.Skeleton
public import proofs.«01_k».proof.Proof.Gen.MlaFirstIdeal.Launch
public import proofs.«01_k».proof.Proof.Gen.MlaFirstIdeal.Points
public import proofs.«01_k».proof.Proof.Gen.MlaFirstIdeal.Frame
public import proofs.«01_k».proof.Proof.Gen.MlaFirstIdeal.Value
public import proofs.«01_k».proof.Proof.Gen.MlaFirstRefIdeal
public import proofs.«01_k».proof.Proof.Gen.MlaFirstRefIdeal.Run
public import proofs.«01_k».proof.Proof.Gen.MlaFirstRefIdeal.Read
public import proofs.«01_k».proof.Proof.Gen.Pre_finite_first
public import proofs.«01_k».proof.Proof.Gen.Pre_finite
public import proofs.«01_k».proof.Proof.Gen.Pre_routed
public import proofs.«01_k».proof.Proof.Gen.Pre_routed_last
public import proofs.«01_k».proof.Proof.Mla.Claims
public import proofs.«01_k».proof.Proof.MlaFirst.Claims
public import proofs.«01_k».proof.Proof.Prep.Claims
public import proofs.«01_k».proof.Proof.Experts.Pre
public import proofs.«01_k».proof.Proof.ExpertsIdeal.Claims
public import proofs.«01_k».proof.Proof.ExpertsLast.Pre
public import proofs.«01_k».proof.Proof.ExpertsLastIdeal.Claims
public import Idealize.ShloMosaic.Adequacy
public import Idealize.ShloMosaic.Init
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaIdeal.Value
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.SwaFirst
public import proofs.«01_k».proof.Proof.Gen.SwaFirst.Skeleton
public import proofs.«01_k».proof.Proof.Gen.SwaFirst.Launch
public import proofs.«01_k».proof.Proof.Gen.SwaFirst.Points
public import proofs.«01_k».proof.Proof.Gen.SwaFirst.Frame
public import proofs.«01_k».proof.Proof.Gen.SwaFirstIdeal
public import proofs.«01_k».proof.Proof.Gen.SwaFirstIdeal.Skeleton
public import proofs.«01_k».proof.Proof.Gen.SwaFirstIdeal.Launch
public import proofs.«01_k».proof.Proof.Gen.SwaFirstIdeal.Points
public import proofs.«01_k».proof.Proof.Gen.SwaFirstIdeal.Frame
public import proofs.«01_k».proof.Proof.Gen.SwaFirstIdeal.Value
public import proofs.«01_k».proof.Proof.Gen.SwaFirstRefIdeal
public import proofs.«01_k».proof.Proof.Gen.SwaFirstRefIdeal.Run
public import proofs.«01_k».proof.Proof.Gen.SwaFirstRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.OutFirst
public import proofs.«01_k».proof.Proof.Gen.OutFirst.Skeleton
public import proofs.«01_k».proof.Proof.Gen.OutFirst.Launch
public import proofs.«01_k».proof.Proof.Gen.OutFirst.Points
public import proofs.«01_k».proof.Proof.Gen.OutFirst.Frame
public import proofs.«01_k».proof.Proof.Gen.OutFirstIdeal
public import proofs.«01_k».proof.Proof.Gen.OutFirstIdeal.Skeleton
public import proofs.«01_k».proof.Proof.Gen.OutFirstIdeal.Launch
public import proofs.«01_k».proof.Proof.Gen.OutFirstIdeal.Points
public import proofs.«01_k».proof.Proof.Gen.OutFirstIdeal.Frame
public import proofs.«01_k».proof.Proof.Gen.OutFirstIdeal.Value
public import proofs.«01_k».proof.Proof.Gen.OutFirstRefIdeal
public import proofs.«01_k».proof.Proof.Gen.OutFirstRefIdeal.Run
public import proofs.«01_k».proof.Proof.Gen.OutFirstRefIdeal.Read
public import proofs.«01_k».proof.Proof.Gen.Pre_finite_ada
public import proofs.«01_k».proof.Proof.Gen.Pre_finite_near
public import proofs.«01_k».proof.Proof.Gen.Pre_finite_near_first
public import proofs.«01_k».proof.Proof.Swa.Claims
public import proofs.«01_k».proof.Proof.SwaFirst.Claims
public import proofs.«01_k».proof.Proof.Ada.Claims
public import proofs.«01_k».proof.Proof.Out.Claims
public import proofs.«01_k».proof.Proof.OutFirst.Claims

@[expose] public section

noncomputable section

namespace Cert.Proof

open Idealize.ShloMosaic Idealize.SL.Sem

/-- Every claim of the certificate. -/
theorem claim : Cert.Claim := ⟨Cert.Mla.Gen.facts, Cert.MlaIdeal.Gen.facts, Cert.MlaRefIdeal.Gen.facts,
  Cert.Experts.Gen.facts, Cert.ExpertsIdeal.Gen.facts, Cert.ExpertsRefIdeal.Gen.facts,
  Cert.ExpertsLast.Gen.facts, Cert.ExpertsLastIdeal.Gen.facts, Cert.ExpertsLastRefIdeal.Gen.facts,
  Cert.MlaFirst.Gen.facts, Cert.MlaFirstIdeal.Gen.facts, Cert.MlaFirstRefIdeal.Gen.facts,
  Cert.Prep.Gen.facts, Cert.PrepIdeal.Gen.facts, Cert.PrepRefIdeal.Gen.facts,
  Cert.Swa.Gen.facts, Cert.SwaIdeal.Gen.facts, Cert.SwaRefIdeal.Gen.facts,
  Cert.SwaFirst.Gen.facts, Cert.SwaFirstIdeal.Gen.facts, Cert.SwaFirstRefIdeal.Gen.facts,
  Cert.Ada.Gen.facts, Cert.AdaIdeal.Gen.facts, Cert.AdaRefIdeal.Gen.facts,
  Cert.Out.Gen.facts, Cert.OutIdeal.Gen.facts, Cert.OutRefIdeal.Gen.facts,
  Cert.OutFirst.Gen.facts, Cert.OutFirstIdeal.Gen.facts, Cert.OutFirstRefIdeal.Gen.facts,
  Cert.Pre_finite.Gen.facts, Cert.Pre_routed.Gen.facts, Cert.Pre_routed_last.Gen.facts, Cert.Pre_finite_first.Gen.facts,
  Cert.Pre_finite_near.Gen.facts, Cert.Pre_finite_near_first.Gen.facts, Cert.Pre_finite_ada.Gen.facts,
  Mla.quiescent_kernel, Mla.quiescent_ideal, Mla.quiescent_ideal_finite, Mla.quiescent_reference, Mla.quiescent_reference_finite,
  Cert.Experts.Tables.quiescent, Cert.ExpertsIdeal.Tables.quiescent, Cert.ExpertsIdeal.Tables.quiescent_reference, Cert.ExpertsIdeal.Tables.quiescent_reference_routed,
  Cert.ExpertsLast.Tables.quiescent, Cert.ExpertsLastIdeal.Tables.quiescent, Cert.ExpertsLastIdeal.Tables.quiescent_reference, Cert.ExpertsLastIdeal.Tables.quiescent_reference_routed_last,
  MlaFirst.quiescent_kernel, MlaFirst.quiescent_ideal, MlaFirst.quiescent_ideal_finite, MlaFirst.quiescent_reference, MlaFirst.quiescent_reference_finite,
  Prep.quiescent_kernel, Prep.quiescent_ideal, Prep.quiescent_reference,
  Swa.quiescent_kernel, Swa.quiescent_ideal, Swa.quiescent_ideal_finite, Swa.quiescent_reference, Swa.quiescent_reference_finite,
  SwaFirst.quiescent_kernel, SwaFirst.quiescent_ideal, SwaFirst.quiescent_ideal_finite, SwaFirst.quiescent_reference, SwaFirst.quiescent_reference_finite,
  Ada.quiescent_kernel, Ada.quiescent_ideal, Ada.quiescent_ideal_finite, Ada.quiescent_reference, Ada.quiescent_reference_finite,
  Out.quiescent_kernel, Out.quiescent_ideal, Out.quiescent_reference,
  OutFirst.quiescent_kernel, OutFirst.quiescent_ideal, OutFirst.quiescent_reference,
  Mla.preserves, Mla.algebraic, Cert.ExpertsIdeal.Tables.preserves, Cert.ExpertsIdeal.Tables.algebraic,
  Cert.ExpertsLastIdeal.Tables.preserves, Cert.ExpertsLastIdeal.Tables.algebraic,
  MlaFirst.preserves, MlaFirst.algebraic,
  Prep.preserves, Prep.algebraic,
  Swa.preserves, Swa.algebraic, SwaFirst.preserves, SwaFirst.algebraic,
  Ada.preserves, Ada.algebraic,
  Out.preserves, Out.algebraic, OutFirst.preserves, OutFirst.algebraic⟩

end Cert.Proof

end
